-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_act_finite [hPre_act_finite : Cert.Pre_act_finite.Facts] (m : (ℓ : Loc Cert.KernelIdeal.nD Cert.KernelIdeal.τ Cert.KernelIdeal.sig) → Buf (Elt Ideal) ℓ) : Prop :=
  ∀ c : Dev Cert.KernelIdeal.nD,
    (Cert.Pre_act_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_act_finite [hPre_act_finite : Cert.Pre_act_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_act_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Kernel11Ideal_att1_finite [hPre_att1_finite : Cert.Pre_att1_finite.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_att1_finite.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_att1_finite [hPre_att1_finite : Cert.Pre_att1_finite.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_att1_finite.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))) = (fun _ => 1#1)

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_afw_finite [hPre_afw_finite : Cert.Pre_afw_finite.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_afw_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_afw_finite [hPre_afw_finite : Cert.Pre_afw_finite.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_afw_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_ln_finite [hPre_ln_finite : Cert.Pre_ln_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_ln_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_ln_finite [hPre_ln_finite : Cert.Pre_ln_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_ln_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_lnhead_finite [hPre_lnhead_finite : Cert.Pre_lnhead_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_lnhead_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_lnhead_finite [hPre_lnhead_finite : Cert.Pre_lnhead_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_lnhead_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_act_finite [hKernelIdeal : Cert.KernelIdeal.Facts] [hPre_act_finite : Cert.Pre_act_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_act_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_act_finite [hReferenceIdeal : Cert.ReferenceIdeal.Facts] [hPre_act_finite : Cert.Pre_act_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_act_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Kernel11Ideal_pre_att1_finite [hKernel11Ideal : Cert.Kernel11Ideal.Facts] [hPre_att1_finite : Cert.Pre_att1_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal_att1_finite m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Reference11Ideal_pre_att1_finite [hReference11Ideal : Cert.Reference11Ideal.Facts] [hPre_att1_finite : Cert.Pre_att1_finite.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_att1_finite m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Kernel12Ideal_pre_afw_finite [hKernel12Ideal : Cert.Kernel12Ideal.Facts] [hPre_afw_finite : Cert.Pre_afw_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_afw_finite m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Reference12Ideal_pre_afw_finite [hReference12Ideal : Cert.Reference12Ideal.Facts] [hPre_afw_finite : Cert.Pre_afw_finite.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_afw_finite m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_ln_finite [hKernel4Ideal : Cert.Kernel4Ideal.Facts] [hPre_ln_finite : Cert.Pre_ln_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_ln_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_ln_finite [hReference4Ideal : Cert.Reference4Ideal.Facts] [hPre_ln_finite : Cert.Pre_ln_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_ln_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_lnhead_finite [hKernel5Ideal : Cert.Kernel5Ideal.Facts] [hPre_lnhead_finite : Cert.Pre_lnhead_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_lnhead_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_lnhead_finite [hReference5Ideal : Cert.Reference5Ideal.Facts] [hPre_lnhead_finite : Cert.Pre_lnhead_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_lnhead_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3)
      ∧ r.2.mem ((c.tc : Thread Cert.Kernel22.nD Cert.Kernel22.τ).loc Cert.Kernel22.main_arg4) = m ((c.tc : Thread Cert.Kernel22.nD Cert.Kernel22.τ).loc Cert.Kernel22.main_arg4)
      ∧ r.2.mem ((c.tc : Thread Cert.Kernel22.nD Cert.Kernel22.τ).loc Cert.Kernel22.main_arg5) = m ((c.tc : Thread Cert.Kernel22.nD Cert.Kernel22.τ).loc Cert.Kernel22.main_arg5))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
      ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
      ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3)
      ∧ r.2.mem ((c.tc : Thread Cert.Reference22Ideal.nD Cert.Reference22Ideal.τ).loc Cert.Reference22Ideal.main_arg4) = m ((c.tc : Thread Cert.Reference22Ideal.nD Cert.Reference22Ideal.τ).loc Cert.Reference22Ideal.main_arg4)
      ∧ r.2.mem ((c.tc : Thread Cert.Reference22Ideal.nD Cert.Reference22Ideal.τ).loc Cert.Reference22Ideal.main_arg5) = m ((c.tc : Thread Cert.Reference22Ideal.nD Cert.Reference22Ideal.τ).loc Cert.Reference22Ideal.main_arg5))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def preserves_Kernel_KernelIdeal : Prop :=
  True

def algebraic_KernelIdeal_ReferenceIdeal_pre_act_finite [hKernelIdeal : Cert.KernelIdeal.Facts] [hReferenceIdeal : Cert.ReferenceIdeal.Facts] [hPre_act_finite : Cert.Pre_act_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_act_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel11_Kernel11Ideal : Prop :=
  IdealRules.named_const.Statement Cert.Kernel11Ideal.κ "mask" .f32 0xF149F2CA#32 ⊥

def algebraic_Kernel11Ideal_Reference11Ideal_pre_att1_finite [hKernel11Ideal : Cert.Kernel11Ideal.Facts] [hReference11Ideal : Cert.Reference11Ideal.Facts] [hPre_att1_finite : Cert.Pre_att1_finite.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal_att1_finite m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v76_0)) (v1 : (c : Dev Cert.Kernel11Ideal.nD) → Buf (Elt Ideal) ((c.tc : Thread Cert.Kernel11Ideal.nD Cert.Kernel11Ideal.τ).loc Cert.Kernel11Ideal.main_v76_1)) (v2 : (c : Dev Cert.Kernel11Ideal.nD) → Buf (Elt Ideal) ((c.tc : Thread Cert.Kernel11Ideal.nD Cert.Kernel11Ideal.τ).loc Cert.Kernel11Ideal.main_v76_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v76_0) = v0 c
          ∧ r.2.mem ((c.tc : Thread Cert.Kernel11Ideal.nD Cert.Kernel11Ideal.τ).loc Cert.Kernel11Ideal.main_v76_1) = v1 c
          ∧ r.2.mem ((c.tc : Thread Cert.Kernel11Ideal.nD Cert.Kernel11Ideal.τ).loc Cert.Kernel11Ideal.main_v76_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v209) = v0 c
          ∧ r.2.mem ((c.tc : Thread Cert.Reference11Ideal.nD Cert.Reference11Ideal.τ).loc Cert.Reference11Ideal.main_v210) = v1 c
          ∧ r.2.mem ((c.tc : Thread Cert.Reference11Ideal.nD Cert.Reference11Ideal.τ).loc Cert.Reference11Ideal.main_v211) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  IdealRules.named_const.Statement Cert.Kernel12Ideal.κ "mask" .f32 0xF149F2CA#32 ⊥

def algebraic_Kernel12Ideal_Reference12Ideal_pre_afw_finite [hKernel12Ideal : Cert.Kernel12Ideal.Facts] [hReference12Ideal : Cert.Reference12Ideal.Facts] [hPre_afw_finite : Cert.Pre_afw_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_afw_finite m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v37_0)) (v1 : (c : Dev Cert.Kernel12Ideal.nD) → Buf (Elt Ideal) ((c.tc : Thread Cert.Kernel12Ideal.nD Cert.Kernel12Ideal.τ).loc Cert.Kernel12Ideal.main_v37_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v37_0) = v0 c
          ∧ r.2.mem ((c.tc : Thread Cert.Kernel12Ideal.nD Cert.Kernel12Ideal.τ).loc Cert.Kernel12Ideal.main_v37_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v160) = v0 c
          ∧ r.2.mem ((c.tc : Thread Cert.Reference12Ideal.nD Cert.Reference12Ideal.τ).loc Cert.Reference12Ideal.main_v163) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v16) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)) (v3 : (c : Dev Cert.Kernel3Ideal.nD) → Buf (Elt Ideal) ((c.tc : Thread Cert.Kernel3Ideal.nD Cert.Kernel3Ideal.τ).loc Cert.Kernel3Ideal.main_v7_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_v7_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v42) = v0 c
          ∧ r.2.mem ((c.tc : Thread Cert.Reference3Ideal.nD Cert.Reference3Ideal.τ).loc Cert.Reference3Ideal.main_v43) = v1 c
          ∧ r.2.mem ((c.tc : Thread Cert.Reference3Ideal.nD Cert.Reference3Ideal.τ).loc Cert.Reference3Ideal.main_v44) = v2 c
          ∧ r.2.mem ((c.tc : Thread Cert.Reference3Ideal.nD Cert.Reference3Ideal.τ).loc Cert.Reference3Ideal.main_v45) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_ln_finite [hKernel4Ideal : Cert.Kernel4Ideal.Facts] [hReference4Ideal : Cert.Reference4Ideal.Facts] [hPre_ln_finite : Cert.Pre_ln_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_ln_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v8_0)) (v1 : (c : Dev Cert.Kernel4Ideal.nD) → Buf (Elt Ideal) ((c.tc : Thread Cert.Kernel4Ideal.nD Cert.Kernel4Ideal.τ).loc Cert.Kernel4Ideal.main_v8_1)) (v2 : (c : Dev Cert.Kernel4Ideal.nD) → Buf (Elt Ideal) ((c.tc : Thread Cert.Kernel4Ideal.nD Cert.Kernel4Ideal.τ).loc Cert.Kernel4Ideal.main_v8_2)) (v3 : (c : Dev Cert.Kernel4Ideal.nD) → Buf (Elt Ideal) ((c.tc : Thread Cert.Kernel4Ideal.nD Cert.Kernel4Ideal.τ).loc Cert.Kernel4Ideal.main_v8_3)) (v4 : (c : Dev Cert.Kernel4Ideal.nD) → Buf (Elt Ideal) ((c.tc : Thread Cert.Kernel4Ideal.nD Cert.Kernel4Ideal.τ).loc Cert.Kernel4Ideal.main_v8_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8_0) = v0 c
          ∧ r.2.mem ((c.tc : Thread Cert.Kernel4Ideal.nD Cert.Kernel4Ideal.τ).loc Cert.Kernel4Ideal.main_v8_1) = v1 c
          ∧ r.2.mem ((c.tc : Thread Cert.Kernel4Ideal.nD Cert.Kernel4Ideal.τ).loc Cert.Kernel4Ideal.main_v8_2) = v2 c
          ∧ r.2.mem ((c.tc : Thread Cert.Kernel4Ideal.nD Cert.Kernel4Ideal.τ).loc Cert.Kernel4Ideal.main_v8_3) = v3 c
          ∧ r.2.mem ((c.tc : Thread Cert.Kernel4Ideal.nD Cert.Kernel4Ideal.τ).loc Cert.Kernel4Ideal.main_v8_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v63) = v0 c
          ∧ r.2.mem ((c.tc : Thread Cert.Reference4Ideal.nD Cert.Reference4Ideal.τ).loc Cert.Reference4Ideal.main_v76) = v1 c
          ∧ r.2.mem ((c.tc : Thread Cert.Reference4Ideal.nD Cert.Reference4Ideal.τ).loc Cert.Reference4Ideal.main_v37) = v2 c
          ∧ r.2.mem ((c.tc : Thread Cert.Reference4Ideal.nD Cert.Reference4Ideal.τ).loc Cert.Reference4Ideal.main_v34) = v3 c
          ∧ r.2.mem ((c.tc : Thread Cert.Reference4Ideal.nD Cert.Reference4Ideal.τ).loc Cert.Reference4Ideal.main_v73) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_lnhead_finite [hKernel5Ideal : Cert.Kernel5Ideal.Facts] [hReference5Ideal : Cert.Reference5Ideal.Facts] [hPre_lnhead_finite : Cert.Pre_lnhead_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_lnhead_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v28_0)) (v1 : (c : Dev Cert.Kernel5Ideal.nD) → Buf (Elt Ideal) ((c.tc : Thread Cert.Kernel5Ideal.nD Cert.Kernel5Ideal.τ).loc Cert.Kernel5Ideal.main_v28_1)) (v2 : (c : Dev Cert.Kernel5Ideal.nD) → Buf (Elt Ideal) ((c.tc : Thread Cert.Kernel5Ideal.nD Cert.Kernel5Ideal.τ).loc Cert.Kernel5Ideal.main_v28_2)) (v3 : (c : Dev Cert.Kernel5Ideal.nD) → Buf (Elt Ideal) ((c.tc : Thread Cert.Kernel5Ideal.nD Cert.Kernel5Ideal.τ).loc Cert.Kernel5Ideal.main_v28_3)) (v4 : (c : Dev Cert.Kernel5Ideal.nD) → Buf (Elt Ideal) ((c.tc : Thread Cert.Kernel5Ideal.nD Cert.Kernel5Ideal.τ).loc Cert.Kernel5Ideal.main_v28_4)) (v5 : (c : Dev Cert.Kernel5Ideal.nD) → Buf (Elt Ideal) ((c.tc : Thread Cert.Kernel5Ideal.nD Cert.Kernel5Ideal.τ).loc Cert.Kernel5Ideal.main_v28_5)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v28_0) = v0 c
          ∧ r.2.mem ((c.tc : Thread Cert.Kernel5Ideal.nD Cert.Kernel5Ideal.τ).loc Cert.Kernel5Ideal.main_v28_1) = v1 c
          ∧ r.2.mem ((c.tc : Thread Cert.Kernel5Ideal.nD Cert.Kernel5Ideal.τ).loc Cert.Kernel5Ideal.main_v28_2) = v2 c
          ∧ r.2.mem ((c.tc : Thread Cert.Kernel5Ideal.nD Cert.Kernel5Ideal.τ).loc Cert.Kernel5Ideal.main_v28_3) = v3 c
          ∧ r.2.mem ((c.tc : Thread Cert.Kernel5Ideal.nD Cert.Kernel5Ideal.τ).loc Cert.Kernel5Ideal.main_v28_4) = v4 c
          ∧ r.2.mem ((c.tc : Thread Cert.Kernel5Ideal.nD Cert.Kernel5Ideal.τ).loc Cert.Kernel5Ideal.main_v28_5) = v5 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v79) = v0 c
          ∧ r.2.mem ((c.tc : Thread Cert.Reference5Ideal.nD Cert.Reference5Ideal.τ).loc Cert.Reference5Ideal.main_v96) = v1 c
          ∧ r.2.mem ((c.tc : Thread Cert.Reference5Ideal.nD Cert.Reference5Ideal.τ).loc Cert.Reference5Ideal.main_v53) = v2 c
          ∧ r.2.mem ((c.tc : Thread Cert.Reference5Ideal.nD Cert.Reference5Ideal.τ).loc Cert.Reference5Ideal.main_v50) = v3 c
          ∧ r.2.mem ((c.tc : Thread Cert.Reference5Ideal.nD Cert.Reference5Ideal.τ).loc Cert.Reference5Ideal.main_v93) = v4 c
          ∧ r.2.mem ((c.tc : Thread Cert.Reference5Ideal.nD Cert.Reference5Ideal.τ).loc Cert.Reference5Ideal.main_v97) = v5 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v3_0)) (v1 : (c : Dev Cert.Kernel14Ideal.nD) → Buf (Elt Ideal) ((c.tc : Thread Cert.Kernel14Ideal.nD Cert.Kernel14Ideal.τ).loc Cert.Kernel14Ideal.main_v3_1)) (v2 : (c : Dev Cert.Kernel14Ideal.nD) → Buf (Elt Ideal) ((c.tc : Thread Cert.Kernel14Ideal.nD Cert.Kernel14Ideal.τ).loc Cert.Kernel14Ideal.main_v3_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3_0) = v0 c
          ∧ r.2.mem ((c.tc : Thread Cert.Kernel14Ideal.nD Cert.Kernel14Ideal.τ).loc Cert.Kernel14Ideal.main_v3_1) = v1 c
          ∧ r.2.mem ((c.tc : Thread Cert.Kernel14Ideal.nD Cert.Kernel14Ideal.τ).loc Cert.Kernel14Ideal.main_v3_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_v10) = v1 c
          ∧ r.2.mem ((c.tc : Thread Cert.Reference14Ideal.nD Cert.Reference14Ideal.τ).loc Cert.Reference14Ideal.main_v13) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)) →
    ∃ (v0 : (c : Dev Cert.Kernel15Ideal.nD) → Buf (Elt Ideal) ((c.tc : Thread Cert.Kernel15Ideal.nD Cert.Kernel15Ideal.τ).loc Cert.Kernel15Ideal.main_v9)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v9) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v19) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)) (v2 : (c : Dev Cert.Kernel16Ideal.nD) → Buf (Elt Ideal) ((c.tc : Thread Cert.Kernel16Ideal.nD Cert.Kernel16Ideal.τ).loc Cert.Kernel16Ideal.main_v1_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_v1_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v9) = v0 c
          ∧ r.2.mem ((c.tc : Thread Cert.Reference16Ideal.nD Cert.Reference16Ideal.τ).loc Cert.Reference16Ideal.main_v8) = v1 c
          ∧ r.2.mem ((c.tc : Thread Cert.Reference16Ideal.nD Cert.Reference16Ideal.τ).loc Cert.Reference16Ideal.main_v31) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)) →
    ∃ (v0 : (c : Dev Cert.Kernel17Ideal.nD) → Buf (Elt Ideal) ((c.tc : Thread Cert.Kernel17Ideal.nD Cert.Kernel17Ideal.τ).loc Cert.Kernel17Ideal.main_v12_0)) (v1 : (c : Dev Cert.Kernel17Ideal.nD) → Buf (Elt Ideal) ((c.tc : Thread Cert.Kernel17Ideal.nD Cert.Kernel17Ideal.τ).loc Cert.Kernel17Ideal.main_v12_1)) (v2 : (c : Dev Cert.Kernel17Ideal.nD) → Buf (Elt Ideal) ((c.tc : Thread Cert.Kernel17Ideal.nD Cert.Kernel17Ideal.τ).loc Cert.Kernel17Ideal.main_v12_2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v12_0) = v0 c
          ∧ r.2.mem ((c.tc : Thread Cert.Kernel17Ideal.nD Cert.Kernel17Ideal.τ).loc Cert.Kernel17Ideal.main_v12_1) = v1 c
          ∧ r.2.mem ((c.tc : Thread Cert.Kernel17Ideal.nD Cert.Kernel17Ideal.τ).loc Cert.Kernel17Ideal.main_v12_2) = v2 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v29) = v0 c
          ∧ r.2.mem ((c.tc : Thread Cert.Reference17Ideal.nD Cert.Reference17Ideal.τ).loc Cert.Reference17Ideal.main_v30) = v1 c
          ∧ r.2.mem ((c.tc : Thread Cert.Reference17Ideal.nD Cert.Reference17Ideal.τ).loc Cert.Reference17Ideal.main_v31) = v2 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v1_0)) (v1 : (c : Dev Cert.Kernel19Ideal.nD) → Buf (Elt Ideal) ((c.tc : Thread Cert.Kernel19Ideal.nD Cert.Kernel19Ideal.τ).loc Cert.Kernel19Ideal.main_v1_1)) (v2 : (c : Dev Cert.Kernel19Ideal.nD) → Buf (Elt Ideal) ((c.tc : Thread Cert.Kernel19Ideal.nD Cert.Kernel19Ideal.τ).loc Cert.Kernel19Ideal.main_v1_2)) (v3 : (c : Dev Cert.Kernel19Ideal.nD) → Buf (Elt Ideal) ((c.tc : Thread Cert.Kernel19Ideal.nD Cert.Kernel19Ideal.τ).loc Cert.Kernel19Ideal.main_v1_3)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1_0) = v0 c
          ∧ r.2.mem ((c.tc : Thread Cert.Kernel19Ideal.nD Cert.Kernel19Ideal.τ).loc Cert.Kernel19Ideal.main_v1_1) = v1 c
          ∧ r.2.mem ((c.tc : Thread Cert.Kernel19Ideal.nD Cert.Kernel19Ideal.τ).loc Cert.Kernel19Ideal.main_v1_2) = v2 c
          ∧ r.2.mem ((c.tc : Thread Cert.Kernel19Ideal.nD Cert.Kernel19Ideal.τ).loc Cert.Kernel19Ideal.main_v1_3) = v3 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_arg0) = v0 c
          ∧ r.2.mem ((c.tc : Thread Cert.Reference19Ideal.nD Cert.Reference19Ideal.τ).loc Cert.Reference19Ideal.main_v23) = v1 c
          ∧ r.2.mem ((c.tc : Thread Cert.Reference19Ideal.nD Cert.Reference19Ideal.τ).loc Cert.Reference19Ideal.main_v4) = v2 c
          ∧ r.2.mem ((c.tc : Thread Cert.Reference19Ideal.nD Cert.Reference19Ideal.τ).loc Cert.Reference19Ideal.main_v10) = v3 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v3) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v17) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)
      ∧ m' ((c.tc : Thread Cert.Reference22Ideal.nD Cert.Reference22Ideal.τ).loc Cert.Reference22Ideal.main_arg4) = m ((c.tc : Thread Cert.Kernel22Ideal.nD Cert.Kernel22Ideal.τ).loc Cert.Kernel22Ideal.main_arg4)
      ∧ m' ((c.tc : Thread Cert.Reference22Ideal.nD Cert.Reference22Ideal.τ).loc Cert.Reference22Ideal.main_arg5) = m ((c.tc : Thread Cert.Kernel22Ideal.nD Cert.Kernel22Ideal.τ).loc Cert.Kernel22Ideal.main_arg5)) →
    ∃ (v0 : (c : Dev Cert.Kernel22Ideal.nD) → Buf (Elt Ideal) ((c.tc : Thread Cert.Kernel22Ideal.nD Cert.Kernel22Ideal.τ).loc Cert.Kernel22Ideal.main_v9_0)) (v1 : (c : Dev Cert.Kernel22Ideal.nD) → Buf (Elt Ideal) ((c.tc : Thread Cert.Kernel22Ideal.nD Cert.Kernel22Ideal.τ).loc Cert.Kernel22Ideal.main_v9_1)) (v2 : (c : Dev Cert.Kernel22Ideal.nD) → Buf (Elt Ideal) ((c.tc : Thread Cert.Kernel22Ideal.nD Cert.Kernel22Ideal.τ).loc Cert.Kernel22Ideal.main_v9_2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v9_0) = v0 c
          ∧ r.2.mem ((c.tc : Thread Cert.Kernel22Ideal.nD Cert.Kernel22Ideal.τ).loc Cert.Kernel22Ideal.main_v9_1) = v1 c
          ∧ r.2.mem ((c.tc : Thread Cert.Kernel22Ideal.nD Cert.Kernel22Ideal.τ).loc Cert.Kernel22Ideal.main_v9_2) = v2 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3)
          ∧ r.2.mem ((c.tc : Thread Cert.Kernel22Ideal.nD Cert.Kernel22Ideal.τ).loc Cert.Kernel22Ideal.main_arg4) = m ((c.tc : Thread Cert.Kernel22Ideal.nD Cert.Kernel22Ideal.τ).loc Cert.Kernel22Ideal.main_arg4)
          ∧ r.2.mem ((c.tc : Thread Cert.Kernel22Ideal.nD Cert.Kernel22Ideal.τ).loc Cert.Kernel22Ideal.main_arg5) = m ((c.tc : Thread Cert.Kernel22Ideal.nD Cert.Kernel22Ideal.τ).loc Cert.Kernel22Ideal.main_arg5))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v25) = v0 c
          ∧ r.2.mem ((c.tc : Thread Cert.Reference22Ideal.nD Cert.Reference22Ideal.τ).loc Cert.Reference22Ideal.main_v22) = v1 c
          ∧ r.2.mem ((c.tc : Thread Cert.Reference22Ideal.nD Cert.Reference22Ideal.τ).loc Cert.Reference22Ideal.main_v19) = v2 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3)
          ∧ r.2.mem ((c.tc : Thread Cert.Reference22Ideal.nD Cert.Reference22Ideal.τ).loc Cert.Reference22Ideal.main_arg4) = m' ((c.tc : Thread Cert.Reference22Ideal.nD Cert.Reference22Ideal.τ).loc Cert.Reference22Ideal.main_arg4)
          ∧ r.2.mem ((c.tc : Thread Cert.Reference22Ideal.nD Cert.Reference22Ideal.τ).loc Cert.Reference22Ideal.main_arg5) = m' ((c.tc : Thread Cert.Reference22Ideal.nD Cert.Reference22Ideal.τ).loc Cert.Reference22Ideal.main_arg5))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v18_0)) (v1 : (c : Dev Cert.Kernel25Ideal.nD) → Buf (Elt Ideal) ((c.tc : Thread Cert.Kernel25Ideal.nD Cert.Kernel25Ideal.τ).loc Cert.Kernel25Ideal.main_v18_1)) (v2 : (c : Dev Cert.Kernel25Ideal.nD) → Buf (Elt Ideal) ((c.tc : Thread Cert.Kernel25Ideal.nD Cert.Kernel25Ideal.τ).loc Cert.Kernel25Ideal.main_v18_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v18_0) = v0 c
          ∧ r.2.mem ((c.tc : Thread Cert.Kernel25Ideal.nD Cert.Kernel25Ideal.τ).loc Cert.Kernel25Ideal.main_v18_1) = v1 c
          ∧ r.2.mem ((c.tc : Thread Cert.Kernel25Ideal.nD Cert.Kernel25Ideal.τ).loc Cert.Kernel25Ideal.main_v18_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v20) = v0 c
          ∧ r.2.mem ((c.tc : Thread Cert.Reference25Ideal.nD Cert.Reference25Ideal.τ).loc Cert.Reference25Ideal.main_v17) = v1 c
          ∧ r.2.mem ((c.tc : Thread Cert.Reference25Ideal.nD Cert.Reference25Ideal.τ).loc Cert.Reference25Ideal.main_v14) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v15)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v15) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v4) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)) →
    ∃ (v0 : (c : Dev Cert.Kernel27Ideal.nD) → Buf (Elt Ideal) ((c.tc : Thread Cert.Kernel27Ideal.nD Cert.Kernel27Ideal.τ).loc Cert.Kernel27Ideal.main_v15)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v15) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v11) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v3) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v6) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v6) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v8) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)) →
    ∃ (v0 : (c : Dev Cert.Kernel31Ideal.nD) → Buf (Elt Ideal) ((c.tc : Thread Cert.Kernel31Ideal.nD Cert.Kernel31Ideal.τ).loc Cert.Kernel31Ideal.main_v1_0)) (v1 : (c : Dev Cert.Kernel31Ideal.nD) → Buf (Elt Ideal) ((c.tc : Thread Cert.Kernel31Ideal.nD Cert.Kernel31Ideal.τ).loc Cert.Kernel31Ideal.main_v1_1)) (v2 : (c : Dev Cert.Kernel31Ideal.nD) → Buf (Elt Ideal) ((c.tc : Thread Cert.Kernel31Ideal.nD Cert.Kernel31Ideal.τ).loc Cert.Kernel31Ideal.main_v1_2)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = v0 c
          ∧ r.2.mem ((c.tc : Thread Cert.Kernel31Ideal.nD Cert.Kernel31Ideal.τ).loc Cert.Kernel31Ideal.main_v1_1) = v1 c
          ∧ r.2.mem ((c.tc : Thread Cert.Kernel31Ideal.nD Cert.Kernel31Ideal.τ).loc Cert.Kernel31Ideal.main_v1_2) = v2 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v7) = v0 c
          ∧ r.2.mem ((c.tc : Thread Cert.Reference31Ideal.nD Cert.Reference31Ideal.τ).loc Cert.Reference31Ideal.main_v6) = v1 c
          ∧ r.2.mem ((c.tc : Thread Cert.Reference31Ideal.nD Cert.Reference31Ideal.τ).loc Cert.Reference31Ideal.main_v29) = v2 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v6)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v6) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v16) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def Claim : Prop :=
  ∃ (hKernel : Cert.Kernel.Facts) (hKernelIdeal : Cert.KernelIdeal.Facts) (hReferenceIdeal : Cert.ReferenceIdeal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel9 : Cert.Kernel9.Facts) (hKernel9Ideal : Cert.Kernel9Ideal.Facts) (hReference9Ideal : Cert.Reference9Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_act_finite : Cert.Pre_act_finite.Facts) (hPre_att1_finite : Cert.Pre_att1_finite.Facts) (hPre_afw_finite : Cert.Pre_afw_finite.Facts) (hPre_ln_finite : Cert.Pre_ln_finite.Facts) (hPre_lnhead_finite : Cert.Pre_lnhead_finite.Facts),
    quiescent_Kernel (hKernel := hKernel)
    ∧ quiescent_KernelIdeal (hKernelIdeal := hKernelIdeal)
    ∧ quiescent_KernelIdeal_pre_act_finite (hKernelIdeal := hKernelIdeal) (hPre_act_finite := hPre_act_finite)
    ∧ quiescent_ReferenceIdeal (hReferenceIdeal := hReferenceIdeal)
    ∧ quiescent_ReferenceIdeal_pre_act_finite (hReferenceIdeal := hReferenceIdeal) (hPre_act_finite := hPre_act_finite)
    ∧ quiescent_Kernel11 (hKernel11 := hKernel11)
    ∧ quiescent_Kernel11Ideal (hKernel11Ideal := hKernel11Ideal)
    ∧ quiescent_Kernel11Ideal_pre_att1_finite (hKernel11Ideal := hKernel11Ideal) (hPre_att1_finite := hPre_att1_finite)
    ∧ quiescent_Reference11Ideal (hReference11Ideal := hReference11Ideal)
    ∧ quiescent_Reference11Ideal_pre_att1_finite (hReference11Ideal := hReference11Ideal) (hPre_att1_finite := hPre_att1_finite)
    ∧ quiescent_Kernel12 (hKernel12 := hKernel12)
    ∧ quiescent_Kernel12Ideal (hKernel12Ideal := hKernel12Ideal)
    ∧ quiescent_Kernel12Ideal_pre_afw_finite (hKernel12Ideal := hKernel12Ideal) (hPre_afw_finite := hPre_afw_finite)
    ∧ quiescent_Reference12Ideal (hReference12Ideal := hReference12Ideal)
    ∧ quiescent_Reference12Ideal_pre_afw_finite (hReference12Ideal := hReference12Ideal) (hPre_afw_finite := hPre_afw_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_ln_finite (hKernel4Ideal := hKernel4Ideal) (hPre_ln_finite := hPre_ln_finite)
    ∧ quiescent_Reference4Ideal (hReference4Ideal := hReference4Ideal)
    ∧ quiescent_Reference4Ideal_pre_ln_finite (hReference4Ideal := hReference4Ideal) (hPre_ln_finite := hPre_ln_finite)
    ∧ quiescent_Kernel5 (hKernel5 := hKernel5)
    ∧ quiescent_Kernel5Ideal (hKernel5Ideal := hKernel5Ideal)
    ∧ quiescent_Kernel5Ideal_pre_lnhead_finite (hKernel5Ideal := hKernel5Ideal) (hPre_lnhead_finite := hPre_lnhead_finite)
    ∧ quiescent_Reference5Ideal (hReference5Ideal := hReference5Ideal)
    ∧ quiescent_Reference5Ideal_pre_lnhead_finite (hReference5Ideal := hReference5Ideal) (hPre_lnhead_finite := hPre_lnhead_finite)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal_pre_act_finite (hKernelIdeal := hKernelIdeal) (hReferenceIdeal := hReferenceIdeal) (hPre_act_finite := hPre_act_finite)
    ∧ preserves_Kernel11_Kernel11Ideal
    ∧ algebraic_Kernel11Ideal_Reference11Ideal_pre_att1_finite (hKernel11Ideal := hKernel11Ideal) (hReference11Ideal := hReference11Ideal) (hPre_att1_finite := hPre_att1_finite)
    ∧ preserves_Kernel12_Kernel12Ideal
    ∧ algebraic_Kernel12Ideal_Reference12Ideal_pre_afw_finite (hKernel12Ideal := hKernel12Ideal) (hReference12Ideal := hReference12Ideal) (hPre_afw_finite := hPre_afw_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_ln_finite (hKernel4Ideal := hKernel4Ideal) (hReference4Ideal := hReference4Ideal) (hPre_ln_finite := hPre_ln_finite)
    ∧ preserves_Kernel5_Kernel5Ideal
    ∧ algebraic_Kernel5Ideal_Reference5Ideal_pre_lnhead_finite (hKernel5Ideal := hKernel5Ideal) (hReference5Ideal := hReference5Ideal) (hPre_lnhead_finite := hPre_lnhead_finite)
    ∧ preserves_Kernel9_Kernel9Ideal
    ∧ algebraic_Kernel9Ideal_Reference9Ideal (hKernel9Ideal := hKernel9Ideal) (hReference9Ideal := hReference9Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_act_finite.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩

class Facts : Prop where
  bitsLt_bf16_f32 : FTy.bits .bf16 < FTy.bits .f32
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S5632x2048 : S_.BroadcastsInDim S5632x2048 (![] : Fin 0 → Fin S5632x2048.rank)
  reducesTo_S5632x2048_S_d0_1 : S5632x2048.ReducesTo [0, 1] S_
  bcast_S_S4096x2048 : S_.BroadcastsInDim S4096x2048 (![] : Fin 0 → Fin S4096x2048.rank)
  reducesTo_S4096x2048_S_d0_1 : S4096x2048.ReducesTo [0, 1] S_

variable [Facts]

def fn_part1 {F : FTy → Type} [FloatOps F] (main_v15 : IVec S_ 1) (main_v17 : FVec F S4096x2048 .f32) : IVec S_ 1 :=
  let main_cst_4 : FVec F S_ .f32 := constant S_ .f32 0x7F800000#32
  let main_v18 : FVec F S4096x2048 .f32 := broadcastInDim S4096x2048 ![] bcast_S_S4096x2048 main_cst_4
  let main_v19 : IVec S4096x2048 1 := cmpf .olt main_v17 main_v18
  let main_c_5 : IVec S_ 1 := constantI S_ 1 1#1
  let main_v20 : IVec S_ 1 := (fun x v => Host.reduce IntOp.andi x v reducesTo_S4096x2048_S_d0_1 h_S_) main_v19 main_c_5
  let main_v21 : IVec S_ 1 := andi main_v15 main_v20
  main_v21

def fn {F : FTy → Type} [FloatOps F] (main_arg0 : FVec F S4096x5632 .bf16) (main_arg1 : FVec F S4096x5632 .bf16) (main_arg2 : FVec F S5632x2048 .f32) (main_arg3 : FVec F S4096x2048 .bf16) : IVec S_ 1 :=
  let main_v0 : FVec F S4096x5632 .f32 := (extf .f32 · bitsLt_bf16_f32) main_arg0
  let main_v1 : FVec F S4096x5632 .f32 := Host.absf main_v0
  let main_cst : FVec F S_ .f32 := constant S_ .f32 0x7F800000#32
  let main_v2 : FVec F S4096x5632 .f32 := broadcastInDim S4096x5632 ![] bcast_S_S4096x5632 main_cst
  let main_v3 : IVec S4096x5632 1 := cmpf .olt main_v1 main_v2
  let main_c : IVec S_ 1 := constantI S_ 1 1#1
  let main_v4 : IVec S_ 1 := (fun x v => Host.reduce IntOp.andi x v reducesTo_S4096x5632_S_d0_1 h_S_) main_v3 main_c
  let main_v5 : FVec F S4096x5632 .f32 := (extf .f32 · bitsLt_bf16_f32) main_arg1
  let main_v6 : FVec F S4096x5632 .f32 := Host.absf main_v5
  let main_cst_0 : FVec F S_ .f32 := constant S_ .f32 0x7F800000#32
  let main_v7 : FVec F S4096x5632 .f32 := broadcastInDim S4096x5632 ![] bcast_S_S4096x5632 main_cst_0
  let main_v8 : IVec S4096x5632 1 := cmpf .olt main_v6 main_v7
  let main_c_1 : IVec S_ 1 := constantI S_ 1 1#1
  let main_v9 : IVec S_ 1 := (fun x v => Host.reduce IntOp.andi x v reducesTo_S4096x5632_S_d0_1 h_S_) main_v8 main_c_1
  let main_v10 : IVec S_ 1 := andi main_v4 main_v9
  let main_v11 : FVec F S5632x2048 .f32 := Host.absf main_arg2
  let main_cst_2 : FVec F S_ .f32 := constant S_ .f32 0x7F800000#32
  let main_v12 : FVec F S5632x2048 .f32 := broadcastInDim S5632x2048 ![] bcast_S_S5632x2048 main_cst_2
  let main_v13 : IVec S5632x2048 1 := cmpf .olt main_v11 main_v12
  let main_c_3 : IVec S_ 1 := constantI S_ 1 1#1
  let main_v14 : IVec S_ 1 := (fun x v => Host.reduce IntOp.andi x v reducesTo_S5632x2048_S_d0_1 h_S_) main_v13 main_c_3
  let main_v15 : IVec S_ 1 := andi main_v10 main_v14
  let main_v16 : FVec F S4096x2048 .f32 := (extf .f32 · bitsLt_bf16_f32) main_arg3
  let main_v17 : FVec F S4096x2048 .f32 := Host.absf main_v16
  fn_part1 (F := F) main_v15 main_v17
-- ==== Pre_afw_finite.lean ====
abbrev S4096x10256 : Shape := ⟨2, ![4096, 10256]⟩
abbrev S16x320 : Shape := ⟨2, ![16, 320]⟩
abbrev S_ : Shape := ⟨0, ![]⟩

class Facts : Prop where
  bcast_S_S4096x10256 : S_.BroadcastsInDim S4096x10256 (![] : Fin 0 → Fin S4096x10256.rank)
  reducesTo_S4096x10256_S_d0_1 : S4096x10256.ReducesTo [0, 1] S_
  h_S_ : 0 < S_.numel
  bcast_S_S16x320 : S_.BroadcastsInDim S16x320 (![] : Fin 0 → Fin S16x320.rank)
  reducesTo_S16x320_S_d0_1 : S16x320.ReducesTo [0, 1] S_

variable [Facts]

def fn {F : FTy → Type} [FloatOps F] (main_arg0 : FVec F S4096x10256 .f32) (main_arg1 : FVec F S16x320 .f32) : IVec S_ 1 :=
  let main_v0 : FVec F S4096x10256 .f32 := Host.absf main_arg0
  let main_cst : FVec F S_ .f32 := constant S_ .f32 0x7F800000#32
  let main_v1 : FVec F S4096x10256 .f32 := broadcastInDim S4096x10256 ![] bcast_S_S4096x10256 main_cst
  let main_v2 : IVec S4096x10256 1 := cmpf .olt main_v0 main_v1
  let main_c : IVec S_ 1 := constantI S_ 1 1#1
  let main_v3 : IVec S_ 1 := (fun x v => Host.reduce IntOp.andi x v reducesTo_S4096x10256_S_d0_1 h_S_) main_v2 main_c
  let main_v4 : FVec F S16x320 .f32 := Host.absf main_arg1
  let main_cst_0 : FVec F S_ .f32 := constant S_ .f32 0x7F800000#32
  let main_v5 : FVec F S16x320 .f32 := broadcastInDim S16x320 ![] bcast_S_S16x320 main_cst_0
  let main_v6 : IVec S16x320 1 := cmpf .olt main_v4 main_v5
  let main_c_1 : IVec S_ 1 := constantI S_ 1 1#1
  let main_v7 : IVec S_ 1 := (fun x v => Host.reduce IntOp.andi x v reducesTo_S16x320_S_d0_1 h_S_) main_v6 main_c_1
  let main_v8 : IVec S_ 1 := andi main_v3 main_v7
  main_v8
-- ==== Pre_att1_finite.lean ====
abbrev S4096x10256 : Shape := ⟨2, ![4096, 10256]⟩
abbrev S16x320 : Shape := ⟨2, ![16, 320]⟩
abbrev S4096x1024 : Shape := ⟨2, ![4096, 1024]⟩
abbrev S_ : Shape := ⟨0, ![]⟩

class Facts : Prop where
  bcast_S_S4096x10256 : S_.BroadcastsInDim S4096x10256 (![] : Fin 0 → Fin S4096x10256.rank)
  reducesTo_S4096x10256_S_d0_1 : S4096x10256.ReducesTo [0, 1] S_
  h_S_ : 0 < S_.numel
  bcast_S_S16x320 : S_.BroadcastsInDim S16x320 (![] : Fin 0 → Fin S16x320.rank)
  reducesTo_S16x320_S_d0_1 : S16x320.ReducesTo [0, 1] S_
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x10256 .f32) (main_arg1 : FVec F S16x320 .f32) (main_arg2 : FVec F S4096x1024 .bf16) : IVec S_ 1 :=
  let main_v0 : FVec F S4096x10256 .f32 := Host.absf main_arg0
  let main_cst : FVec F S_ .f32 := constant S_ .f32 0x7F800000#32
  let main_v1 : FVec F S4096x10256 .f32 := broadcastInDim S4096x10256 ![] bcast_S_S4096x10256 main_cst
  let main_v2 : IVec S4096x10256 1 := cmpf .olt main_v0 main_v1
  let main_c : IVec S_ 1 := constantI S_ 1 1#1
  let main_v3 : IVec S_ 1 := (fun x v => Host.reduce IntOp.andi x v reducesTo_S4096x10256_S_d0_1 h_S_) main_v2 main_c
  let main_v4 : FVec F S16x320 .f32 := Host.absf main_arg1
  let main_cst_0 : FVec F S_ .f32 := constant S_ .f32 0x7F800000#32
  let main_v5 : FVec F S16x320 .f32 := broadcastInDim S16x320 ![] bcast_S_S16x320 main_cst_0
  let main_v6 : IVec S16x320 1 := cmpf .olt main_v4 main_v5
  let main_c_1 : IVec S_ 1 := constantI S_ 1 1#1
  let main_v7 : IVec S_ 1 := (fun x v => Host.reduce IntOp.andi x v reducesTo_S16x320_S_d0_1 h_S_) main_v6 main_c_1
  let main_v8 : IVec S_ 1 := andi main_v3 main_v7
  let main_v9 : FVec F S4096x1024 .f32 := (extf .f32 · bitsLt_bf16_f32) main_arg2
  let main_v10 : FVec F S4096x1024 .f32 := Host.absf main_v9
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  let main_c_3 : IVec S_ 1 := constantI S_ 1 1#1
  let main_v13 : IVec S_ 1 := (fun x v => Host.reduce IntOp.andi x v reducesTo_S4096x1024_S_d0_1 h_S_) main_v12 main_c_3
  let main_v14 : IVec S_ 1 := andi main_v8 main_v13
  main_v14
-- ==== Pre_ln_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg5 : FVec F S4096x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S4096x2048 .f32 := Host.absf main_arg5
  let main_cst_6 : FVec F S_ .f32 := constant S_ .f32 0x7F800000#32
  let main_v20 : FVec F S4096x2048 .f32 := broadcastInDim S4096x2048 ![] bcast_S_S4096x2048 main_cst_6
  let main_v21 : IVec S4096x2048 1 := cmpf .olt main_v19 main_v20
  let main_c_7 : IVec S_ 1 := constantI S_ 1 1#1
  let main_v22 : IVec S_ 1 := (fun x v => Host.reduce IntOp.andi x v reducesTo_S4096x2048_S_d0_1 h_S_) main_v21 main_c_7
  let main_v23 : IVec S_ 1 := andi main_v18 main_v22
  main_v23

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S1x2048 .f32) (main_arg5 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg5 main_v13 main_v16
-- ==== Pre_lnhead_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg4 : FVec F S1x2048 .f32) (main_arg5 : FVec F S4096x2048 .f32) (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  let main_v19 : FVec F S1x2048 .f32 := Host.absf main_arg4
  let main_cst_6 : FVec F S_ .f32 := constant S_ .f32 0x7F800000#32
  let main_v20 : FVec F S1x2048 .f32 := broadcastInDim S1x2048 ![] bcast_S_S1x2048 main_cst_6
  let main_v21 : IVec S1x2048 1 := cmpf .olt main_v19 main_v20
  let main_c_7 : IVec S_ 1 := constantI S_ 1 1#1
  let main_v22 : IVec S_ 1 := (fun x v => Host.reduce IntOp.andi x v reducesTo_S1x2048_S_d0_1 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  main_v28

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S1x2048 .f32) (main_arg5 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S1x2048 .f32 := Host.absf main_arg2
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_c_3 : IVec S_ 1 := constantI S_ 1 1#1
  let main_v12 : IVec S_ 1 := (fun x v => Host.reduce IntOp.andi x v reducesTo_S1x2048_S_d0_1 h_S_) main_v11 main_c_3
  let main_v13 : IVec S_ 1 := andi main_v8 main_v12
  let main_v14 : FVec F S1x2048 .f32 := Host.absf main_arg3
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_arg4 main_arg5 main_v13 main_v16
-- ==== Kernel.lean ====
abbrev S4096x5632 : Shape := ⟨2, ![4096, 5632]⟩
abbrev S5632x2048 : Shape := ⟨2, ![5632, 2048]⟩
abbrev S4096x2048 : Shape := ⟨2, ![4096, 2048]⟩
abbrev S2x4096x5632 : Shape := ⟨3, ![2, 4096, 5632]⟩
abbrev S512x2048 : Shape := ⟨2, ![512, 2048]⟩
abbrev S1408x2048 : Shape := ⟨2, ![1408, 2048]⟩
abbrev S512x1408 : Shape := ⟨2, ![512, 1408]⟩
abbrev S2x512x1408 : Shape := ⟨3, ![2, 512, 1408]⟩
abbrev S1x512x1408 : Shape := ⟨3, ![1, 512, 1408]⟩

abbrev nBuf : Space → Nat
  | .hbm => 6
  | .vmem => 10
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .f32⟩
  | .hbm, ⟨3, _⟩ => ⟨S4096x2048, .bf16⟩
  | .hbm, ⟨4, _⟩ => ⟨S5632x2048, .bf16⟩
  | .hbm, ⟨5, _⟩ => ⟨S2x4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S2x512x1408, .bf16⟩
  | .local _ .vmem, ⟨9, _⟩ => ⟨S2x512x1408, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2x512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩
abbrev S1x4096x5632 : Shape := ⟨3, ![1, 4096, 5632]⟩
abbrev S2x4096x5632 : Shape := ⟨3, ![2, 4096, 5632]⟩

abbrev nBuf : Space → Nat
  | .hbm => 33
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S5632x2048, .f32⟩
  | .hbm, ⟨3, _⟩ => ⟨S4096x2048, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x2048, .f32⟩
  | .hbm, ⟨21, _⟩ => ⟨S4096x2048, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S1x4096x5632, .f32⟩
  | .hbm, ⟨30, _⟩ => ⟨S1x4096x5632, .f32⟩
  | .hbm, ⟨31, _⟩ => ⟨S2x4096x5632, .f32⟩
  | .hbm, ⟨32, _⟩ => ⟨S2x4096x5632, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel11.lean ====
abbrev S4096x10256 : Shape := ⟨2, ![4096, 10256]⟩
abbrev S16x320 : Shape := ⟨2, ![16, 320]⟩
abbrev S4096x1024 : Shape := ⟨2, ![4096, 1024]⟩
abbrev S4096x6144 : Shape := ⟨2, ![4096, 6144]⟩
abbrev S4096x4096 : Shape := ⟨2, ![4096, 4096]⟩
abbrev S4096x16 : Shape := ⟨2, ![4096, 16]⟩
abbrev S_ : Shape := ⟨0, ![]⟩
abbrev S4096x112 : Shape := ⟨2, ![4096, 112]⟩
abbrev S4096x10368 : Shape := ⟨2, ![4096, 10368]⟩
abbrev S16x1 : Shape := ⟨2, ![16, 1]⟩
abbrev S16x256 : Shape := ⟨2, ![16, 256]⟩
abbrev S16x192 : Shape := ⟨2, ![16, 192]⟩
abbrev S16x1024 : Shape := ⟨2, ![16, 1024]⟩
abbrev S1x16x1x1024 : Shape := ⟨4, ![1, 16, 1, 1024]⟩
abbrev S1x16x256x1024 : Shape := ⟨4, ![1, 16, 256, 1024]⟩
abbrev S16x262144 : Shape := ⟨2, ![16, 262144]⟩
abbrev S16x261888 : Shape := ⟨2, ![16, 261888]⟩
abbrev S16x256x1023 : Shape := ⟨3, ![16, 256, 1023]⟩
abbrev S16x256x768 : Shape := ⟨3, ![16, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S16x256x16x64 : Shape := ⟨4, ![16, 256, 16, 64]⟩
abbrev S1x256x16x64 : Shape := ⟨4, ![1, 256, 16, 64]⟩
abbrev S14x256x16x64 : Shape := ⟨4, ![14, 256, 16, 64]⟩
abbrev S15x256x16x64 : Shape := ⟨4, ![15, 256, 16, 64]⟩
abbrev S16x16x256x256 : Shape := ⟨4, ![16, 16, 256, 256]⟩
abbrev S16x16x256x768 : Shape := ⟨4, ![16, 16, 256, 768]⟩
abbrev S1x16x256x768 : Shape := ⟨4, ![1, 16, 256, 768]⟩
abbrev S16x16x256 : Shape := ⟨3, ![16, 16, 256]⟩
abbrev S16x16x256x1 : Shape := ⟨4, ![16, 16, 256, 1]⟩
abbrev S16x4096x1 : Shape := ⟨3, ![16, 4096, 1]⟩
abbrev S256x128 : Shape := ⟨2, ![256, 128]⟩
abbrev S2x256x768 : Shape := ⟨3, ![2, 256, 768]⟩
abbrev S2x256x1 : Shape := ⟨3, ![2, 256, 1]⟩
abbrev S4096x128 : Shape := ⟨2, ![4096, 128]⟩
abbrev S1x128 : Shape := ⟨2, ![1, 128]⟩
abbrev S256x256 : Shape := ⟨2, ![256, 256]⟩
abbrev S1x256x1 : Shape := ⟨3, ![1, 256, 1]⟩

abbrev nBuf : Space → Nat
  | .hbm => 99
  | .vmem => 30
  | .smem => 0
  | _ => 0

abbrev bufTy : (tb : Table) → Fin (tcTables nBuf tb) → BufTy
  | .hbm, ⟨0, _⟩ => ⟨S4096x10256, .f32⟩
  | .hbm, ⟨1, _⟩ => ⟨S16x320, .f32⟩
  | .hbm, ⟨2, _⟩ => ⟨S4096x1024, .bf16⟩
  | .hbm, ⟨3, _⟩ => ⟨S4096x6144, .f32⟩
  | .hbm, ⟨4, _⟩ => ⟨S4096x4096, .f32⟩
  | .hbm, ⟨5, _⟩ => ⟨S4096x16, .f32⟩
  | .hbm, ⟨6, _⟩ => ⟨S_, .f32⟩
  | .hbm, ⟨7, _⟩ => ⟨S4096x112, .f32⟩
  | .hbm, ⟨8, _⟩ => ⟨S4096x10368, .f32⟩
  | .hbm, ⟨9, _⟩ => ⟨S4096x10368, .bf16⟩
  | .hbm, ⟨10, _⟩ => ⟨S16x1, .f32⟩
  | .hbm, ⟨11, _⟩ => ⟨S16x1, .f32⟩
  | .hbm, ⟨12, _⟩ => ⟨S16x256, .f32⟩
  | .hbm, ⟨13, _⟩ => ⟨S16x192, .f32⟩
  | .hbm, ⟨14, _⟩ => ⟨S16x256, .f32⟩
  | .hbm, ⟨15, _⟩ => ⟨S16x1024, .f32⟩
  | .hbm, ⟨16, _⟩ => ⟨S1x16x1x1024, .f32⟩
  | .hbm, ⟨17, _⟩ => ⟨S1x16x256x1024, .f32⟩
  | .hbm, ⟨18, _⟩ => ⟨S16x262144, .f32⟩
  | .hbm, ⟨19, _⟩ => ⟨S16x261888, .f32⟩
  | .hbm, ⟨20, _⟩ => ⟨S16x256x1023, .f32⟩
  | .hbm, ⟨21, _⟩ => ⟨S16x256x768, .f32⟩
  | .hbm, ⟨22, _⟩ => ⟨S256, .i32⟩
  | .hbm, ⟨23, _⟩ => ⟨S_, .i32⟩
  | .hbm, ⟨24, _⟩ => ⟨S256, .i32⟩
  | .hbm, ⟨25, _⟩ => ⟨S256, .i32⟩
  | .hbm, ⟨26, _⟩ => ⟨S256x1, .i32⟩
  | .hbm, ⟨27, _⟩ => ⟨S768, .i32⟩
  | .hbm, ⟨28, _⟩ => ⟨S_, .i32⟩
  | .hbm, ⟨29, _⟩ => ⟨S768, .i32⟩
  | .hbm, ⟨30, _⟩ => ⟨S768, .i32⟩
  | .hbm, ⟨31, _⟩ => ⟨S1x768, .i32⟩
  | .hbm, ⟨32, _⟩ => ⟨S256x768, .i32⟩
  | .hbm, ⟨33, _⟩ => ⟨S256x768, .i32⟩
  | .hbm, ⟨34, _⟩ => ⟨S256x768, .i1⟩
  | .hbm, ⟨35, _⟩ => ⟨S_, .i32⟩
  | .hbm, ⟨36, _⟩ => ⟨S256x1, .i32⟩
  | .hbm, ⟨37, _⟩ => ⟨S256x1, .i32⟩
  | .hbm, ⟨38, _⟩ => ⟨S256x768, .i32⟩
  | .hbm, ⟨39, _⟩ => ⟨S256x768, .i32⟩
  | .hbm, ⟨40, _⟩ => ⟨S256x768, .i1⟩
  | .hbm, ⟨41, _⟩ => ⟨S256x768, .i1⟩
  | .hbm, ⟨42, _⟩ => ⟨S1x256x768, .i1⟩
  | .hbm, ⟨43, _⟩ => ⟨S_, .f32⟩
  | .hbm, ⟨44, _⟩ => ⟨S_, .f32⟩
  | .hbm, ⟨45, _⟩ => ⟨S16x256x768, .i1⟩
  | .hbm, ⟨46, _⟩ => ⟨S16x256x768, .f32⟩
  | .hbm, ⟨47, _⟩ => ⟨S16x256x768, .f32⟩
  | .hbm, ⟨48, _⟩ => ⟨S4096x1024, .bf16⟩
  | .hbm, ⟨49, _⟩ => ⟨S16x256x16x64, .bf16⟩
  | .hbm, ⟨50, _⟩ => ⟨S4096x1024, .bf16⟩
  | .hbm, ⟨51, _⟩ => ⟨S16x256x16x64, .bf16⟩
  | .hbm, ⟨52, _⟩ => ⟨S1x256x16x64, .bf16⟩
  | .hbm, ⟨53, _⟩ => ⟨S14x256x16x64, .bf16⟩
  | .hbm, ⟨54, _⟩ => ⟨S16x256x16x64, .bf16⟩
  | .hbm, ⟨55, _⟩ => ⟨S1x256x16x64, .bf16⟩
  | .hbm, ⟨56, _⟩ => ⟨S15x256x16x64, .bf16⟩
  | .hbm, ⟨57, _⟩ => ⟨S16x256x16x64, .bf16⟩
  | .hbm, ⟨58, _⟩ => ⟨S1x256x16x64, .bf16⟩
  | .hbm, ⟨59, _⟩ => ⟨S16x16x256x256, .f32⟩
  | .hbm, ⟨60, _⟩ => ⟨S16x16x256x256, .f32⟩
  | .hbm, ⟨61, _⟩ => ⟨S16x16x256x256, .f32⟩
  | .hbm, ⟨62, _⟩ => ⟨S16x16x256x768, .f32⟩
  | .hbm, ⟨63, _⟩ => ⟨S_, .f32⟩
  | .hbm, ⟨64, _⟩ => ⟨S16x16x256x768, .f32⟩
  | .hbm, ⟨65, _⟩ => ⟨S16x16x256x768, .f32⟩
  | .hbm, ⟨66, _⟩ => ⟨S1x16x256x768, .f32⟩
  | .hbm, ⟨67, _⟩ => ⟨S16x16x256x768, .f32⟩
  | .hbm, ⟨68, _⟩ => ⟨S16x16x256x768, .f32⟩
  | .hbm, ⟨69, _⟩ => ⟨S16x16x256x768, .i32⟩
  | .hbm, ⟨70, _⟩ => ⟨S16x16x256x768, .i32⟩
  | .hbm, ⟨71, _⟩ => ⟨S_, .i32⟩
  | .hbm, ⟨72, _⟩ => ⟨S16x16x256x768, .i32⟩
  | .hbm, ⟨73, _⟩ => ⟨S16x16x256x768, .i32⟩
  | .hbm, ⟨74, _⟩ => ⟨S_, .i32⟩
  | .hbm, ⟨75, _⟩ => ⟨S16x16x256x768, .i32⟩
  | .hbm, ⟨76, _⟩ => ⟨S16x16x256x768, .i32⟩
  | .hbm, ⟨77, _⟩ => ⟨S16x16x256x768, .i1⟩
  | .hbm, ⟨78, _⟩ => ⟨S_, .f32⟩
  | .hbm, ⟨79, _⟩ => ⟨S_, .f32⟩
  | .hbm, ⟨80, _⟩ => ⟨S16x16x256x768, .f32⟩
  | .hbm, ⟨81, _⟩ => ⟨S16x16x256x768, .f32⟩
  | .hbm, ⟨82, _⟩ => ⟨S_, .f32⟩
  | .hbm, ⟨83, _⟩ => ⟨S16x16x256, .f32⟩
  | .hbm, ⟨84, _⟩ => ⟨S16x16x256x1, .f32⟩
  | .hbm, ⟨85, _⟩ => ⟨S16x16x256x768, .f32⟩
  | .hbm, ⟨86, _⟩ => ⟨S16x16x256x768, .f32⟩
  | .hbm, ⟨87, _⟩ => ⟨S16x16x256x768, .f32⟩
  | .hbm, ⟨88, _⟩ => ⟨S_, .f32⟩
  | .hbm, ⟨89, _⟩ => ⟨S16x16x256, .f32⟩
  | .hbm, ⟨90, _⟩ => ⟨S16x16x256x1, .f32⟩
  | .hbm, ⟨91, _⟩ => ⟨S16x16x256x1, .f32⟩
  | .hbm, ⟨92, _⟩ => ⟨S16x16x256x1, .f32⟩
  | .hbm, ⟨93, _⟩ => ⟨S16x16x256x1, .f32⟩
  | .hbm, ⟨94, _⟩ => ⟨S16x4096x1, .f32⟩
  | .hbm, ⟨95, _⟩ => ⟨S4096x1024, .bf16⟩
  | .hbm, ⟨96, _⟩ => ⟨S4096x1024, .bf16⟩
  | .hbm, ⟨97, _⟩ => ⟨S4096x1024, .bf16⟩
  | .hbm, ⟨98, _⟩ => ⟨S16x256x768, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S2x256x768, .f32⟩
  | .local _ .vmem, ⟨15, _⟩ => ⟨S2x256x768, .f32⟩
  | .local _ .vmem, ⟨16, _⟩ => ⟨S2x256x1, .f32⟩
  | .local _ .vmem, ⟨17, _⟩ => ⟨S2x256x1, .f32⟩
  | .local _ .vmem, ⟨18, _⟩ => ⟨S256x128, .bf16⟩
  | .local _ .vmem, ⟨19, _⟩ => ⟨S256x128, .bf16⟩
  | .local _ .vmem, ⟨20, _⟩ => ⟨S256x128, .bf16⟩
  | .local _ .vmem, ⟨21, _⟩ => ⟨S256x128, .bf16⟩
  | .local _ .vmem, ⟨22, _⟩ => ⟨S4096x128, .bf16⟩
  | .local _ .vmem, ⟨23, _⟩ => ⟨S4096x128, .bf16⟩
  | .local _ .vmem, ⟨24, _⟩ => ⟨S4096x128, .bf16⟩
  | .local _ .vmem, ⟨25, _⟩ => ⟨S4096x128, .bf16⟩
  | .local _ .vmem, ⟨26, _⟩ => ⟨S2x256x768, .f32⟩
  | .local _ .vmem, ⟨27, _⟩ => ⟨S2x256x768, .f32⟩
  | .local _ .vmem, ⟨28, _⟩ => ⟨S4096x128, .f32⟩
  | .local _ .vmem, ⟨29, _⟩ => ⟨S4096x128, .f32⟩
  | _, _ => ⟨S4096x10256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_c : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c_0 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_1 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_2 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_cst_3 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_c_4 : Ref sig .tc := ⟨.hbm, 71, rfl⟩
abbrev main_v59 : Ref sig .tc := ⟨.hbm, 72, rfl⟩
abbrev main_v60 : Ref sig .tc := ⟨.hbm, 73, rfl⟩
abbrev main_c_5 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_cst_6 : Ref sig .tc := ⟨.hbm, 78, rfl⟩
abbrev main_call1_v0 : Ref sig .tc := ⟨.hbm, 79, rfl⟩
abbrev main_call1_v1 : Ref sig .tc := ⟨.hbm, 80, rfl⟩
abbrev main_v64 : Ref sig .tc := ⟨.hbm, 81, rfl⟩
abbrev main_cst_7 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_8 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76_0 : Ref sig .tc := ⟨.hbm, 95, rfl⟩
abbrev main_v76_1 : Ref sig .tc := ⟨.hbm, 96, rfl⟩
abbrev main_v76_2 : Ref sig .tc := ⟨.hbm, 97, rfl⟩
abbrev main_v76_3 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c2_i32_101 : BitVec 32 := 2#32
  let v210 : BitVec 32 := Scalar.subi arg1 c2_i32_101
  let c0_i32_102 : BitVec 32 := 0#32
  let v211 : BitVec 32 := Scalar.addi v210 c0_i32_102
  let c0_i32_103 : BitVec 32 := 0#32
  let v212 : BitVec 32 := Scalar.maxsi v211 c0_i32_103
  let c256_i32_104 : BitVec 32 := 256#32
  let v213 : BitVec 32 := Scalar.muli v212 c256_i32_104
  v213
def k0_off1 (i : grid0.Coords) (c0_i32_102 : BitVec 32) : Fin 2 → Nat :=
  let arg1 : BitVec 32 := BitVec.ofNat 32 (i 1).val
  let c2_i32_101 : BitVec 32 := 2#32
  let v210 : BitVec 32 := Scalar.subi arg1 c2_i32_101
  let v211 : BitVec 32 := Scalar.addi v210 c0_i32_102
  let c0_i32_103 : BitVec 32 := 0#32
  let v212 : BitVec 32 := Scalar.maxsi v211 c0_i32_103
  let c256_i32_104 : BitVec 32 := 256#32
  let v213 : BitVec 32 := Scalar.muli v212 c256_i32_104
  let v214 : BitVec 32 := v213
  let v215 : Index := Scalar.indexCast v214
  let c0_105 : Index := 0#32
  ![v215.toNat, 0]
def k0_mult2 (i : grid0.Coords) : BitVec 32 :=
  let arg1 : BitVec 32 := BitVec.ofNat 32 (i 1).val
  let c2_i32_109 : BitVec 32 := 2#32
  let v235 : BitVec 32 := Scalar.subi arg1 c2_i32_109
  let c1_i32 : BitVec 32 := 1#32
  let v236 : BitVec 32 := Scalar.addi v235 c1_i32
  let c0_i32_110 : BitVec 32 := 0#32
  let v237 : BitVec 32 := Scalar.maxsi v236 c0_i32_110
  let c256_i32_111 : BitVec 32 := 256#32
  let v238 : BitVec 32 := Scalar.muli v237 c256_i32_111
  v238
def k0_mult3 (i : grid0.Coords) : BitVec 32 :=
  let arg1 : BitVec 32 := BitVec.ofNat 32 (i 1).val
  let c2_i32_116 : BitVec 32 := 2#32
  let v260 : BitVec 32 := Scalar.subi arg1 c2_i32_116
  let c2_i32_117 : BitVec 32 := 2#32
  let v261 : BitVec 32 := Scalar.addi v260 c2_i32_117
  let c0_i32_118 : BitVec 32 := 0#32
  let v262 : BitVec 32 := Scalar.maxsi v261 c0_i32_118
  let c256_i32_119 : BitVec 32 := 256#32
  let v263 : BitVec 32 := Scalar.muli v262 c256_i32_119
  v263
def k0_cond2 (i : grid0.Coords) : BitVec 1 :=
  let arg1 : BitVec 32 := BitVec.ofNat 32 (i 1).val
  let c15_i32 : BitVec 32 := 15#32
  let v285 : BitVec 1 := Scalar.cmpi .eq arg1 c15_i32
  let v286 : BitVec 32 := Scalar.extui v285
  let c0_i32_124 : BitVec 32 := 0#32
  let v287 : BitVec 1 := Scalar.cmpi .ne v286 c0_i32_124
  v287

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c8_i32 : BitVec 32 := 8#32
  let v3 : BitVec 32 := Scalar.addi c8_i32 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c8_i32 : BitVec 32 := 8#32
  let v3 : BitVec 32 := Scalar.addi c8_i32 arg0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c16_i32 : BitVec 32 := 16#32
  let v3 : BitVec 32 := Scalar.addi c16_i32 arg0
  let c0_i32_1 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c16_i32 : BitVec 32 := 16#32
  let v3 : BitVec 32 := Scalar.addi c16_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c16_i32 : BitVec 32 := 16#32
  let v3 : BitVec 32 := Scalar.addi c16_i32 arg0
  let c0_i32_1 : BitVec 32 := 0#32
  ![v2.toNat, v3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x256x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4096x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S4096x128 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S2x256x768 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Kernel11Ideal.lean ====
variable {F : FTy → Type} [FloatOps F] [Named F]
def κ : String → Option EReal := fun
  | "mask" => some ⊥
  | _ => none
-- ==== Reference11Ideal.lean ====
abbrev S4096x10256 : Shape := ⟨2, ![4096, 10256]⟩
abbrev S16x320 : Shape := ⟨2, ![16, 320]⟩
abbrev S4096x1024 : Shape := ⟨2, ![4096, 1024]⟩
abbrev S4096x512 : Shape := ⟨2, ![4096, 512]⟩
abbrev S4096x16 : Shape := ⟨2, ![4096, 16]⟩
abbrev S4096x2048 : Shape := ⟨2, ![4096, 2048]⟩
abbrev S1x4096x16x64 : Shape := ⟨4, ![1, 4096, 16, 64]⟩
abbrev S_ : Shape := ⟨0, ![]⟩
abbrev S1x512x16x64 : Shape := ⟨4, ![1, 512, 16, 64]⟩
abbrev S1x4608x16x64 : Shape := ⟨4, ![1, 4608, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S1x64x64x16x64 : Shape := ⟨5, ![1, 64, 64, 16, 64]⟩
abbrev S64x1x64x16x64 : Shape := ⟨5, ![64, 1, 64, 16, 64]⟩
abbrev S1x72x64x16x64 : Shape := ⟨5, ![1, 72, 64, 16, 64]⟩
abbrev S1x64x576x16x64 : Shape := ⟨5, ![1, 64, 576, 16, 64]⟩
abbrev S1x64x16x64x576 : Shape := ⟨5, ![1, 64, 16, 64, 576]⟩
abbrev S1x1x16x64x576 : Shape := ⟨5, ![1, 1, 16, 64, 576]⟩
abbrev S1x64x1x1x576 : Shape := ⟨5, ![1, 64, 1, 1, 576]⟩
abbrev S1x64x16x64 : Shape := ⟨4, ![1, 64, 16, 64]⟩
abbrev S1x64x16x64x1 : Shape := ⟨5, ![1, 64, 16, 64, 1]⟩
abbrev S1x64x16x64x64 : Shape := ⟨5, ![1, 64, 16, 64, 64]⟩
abbrev S1x4096x1024 : Shape := ⟨3, ![1, 4096, 1024]⟩
abbrev S64x16x64 : Shape := ⟨3, ![64, 16, 64]⟩
abbrev S1x16x64x576 : Shape := ⟨4, ![1, 16, 64, 576]⟩
abbrev S1x64x16x576x64 : Shape := ⟨5, ![1, 64, 16, 576, 64]⟩

abbrev nBuf : Space → Nat
  | .hbm => 275
  | .vmem => 0
  | .smem => 0
  | _ => 0

abbrev hbmTy0_0 (i : Nat) : BufTy := match i % 128 with
  | 0 => ⟨S4096x10256, .f32⟩
  | 1 => ⟨S16x320, .f32⟩
  | 2 => ⟨S4096x1024, .bf16⟩
  | 3 => ⟨S4096x1024, .f32⟩
  | 4 => ⟨S4096x1024, .f32⟩
  | 5 => ⟨S4096x1024, .f32⟩
  | 6 => ⟨S4096x512, .f32⟩
  | 7 => ⟨S4096x512, .f32⟩
  | 8 => ⟨S4096x1024, .f32⟩
  | 9 => ⟨S4096x1024, .f32⟩
  | 10 => ⟨S4096x16, .f32⟩
  | 11 => ⟨S4096x2048, .f32⟩
  | 12 => ⟨S4096x2048, .f32⟩
  | 13 => ⟨S1x4096x16x64, .f32⟩
  | 14 => ⟨S1x4096x16x64, .f32⟩
  | 15 => ⟨S1x4096x16x64, .f32⟩
  | 16 => ⟨S_, .f32⟩
  | 17 => ⟨S1x512x16x64, .f32⟩
  | 18 => ⟨S1x4608x16x64, .f32⟩
  | 19 => ⟨S_, .f32⟩
  | 20 => ⟨S1x512x16x64, .f32⟩
  | 21 => ⟨S1x4608x16x64, .f32⟩
  | 22 => ⟨S_, .f32⟩
  | 23 => ⟨S1x512x16x64, .f32⟩
  | 24 => ⟨S64, .i32⟩
  | 25 => ⟨S64x1, .i32⟩
  | 26 => ⟨S576, .i32⟩
  | 27 => ⟨S1x576, .i32⟩
  | 28 => ⟨S_, .i32⟩
  | 29 => ⟨S1x576, .i32⟩
  | 30 => ⟨S1x576, .i32⟩
  | 31 => ⟨S64x576, .i32⟩
  | 32 => ⟨S64x576, .i32⟩
  | 33 => ⟨S64x576, .i32⟩
  | 34 => ⟨S_, .i32⟩
  | 35 => ⟨S_, .i32⟩
  | 36 => ⟨S_, .i32⟩
  | 37 => ⟨S64x576, .i32⟩
  | 38 => ⟨S64x576, .i32⟩
  | 39 => ⟨S_, .i32⟩
  | 40 => ⟨S64x576, .i32⟩
  | 41 => ⟨S64x576, .i32⟩
  | 42 => ⟨S_, .i32⟩
  | 43 => ⟨S64x576, .i32⟩
  | 44 => ⟨S64x576, .i32⟩
  | 45 => ⟨S_, .i32⟩
  | 46 => ⟨S64x576, .i32⟩
  | 47 => ⟨S64x576, .i1⟩
  | 48 => ⟨S_, .i32⟩
  | 49 => ⟨S64x576, .i32⟩
  | 50 => ⟨S64x576, .i32⟩
  | 51 => ⟨S64x576, .i32⟩
  | 52 => ⟨S64x576x1, .i32⟩
  | 53 => ⟨S16x64x576, .f32⟩
  | 54 => ⟨S1x64x64x16x64, .f32⟩
  | 55 => ⟨S64x1x64x16x64, .f32⟩
  | 56 => ⟨S64, .i32⟩
  | 57 => ⟨S64x1, .i32⟩
  | 58 => ⟨S_, .i32⟩
  | 59 => ⟨S64x1, .i32⟩
  | 60 => ⟨S64x1, .i32⟩
  | 61 => ⟨S1x72x64x16x64, .f32⟩
  | 62 => ⟨S1x64x64x16x64, .f32⟩
  | 63 => ⟨S1x64x64x16x64, .f32⟩
  | 64 => ⟨S1x64x64x16x64, .f32⟩
  | 65 => ⟨S1x64x64x16x64, .f32⟩
  | 66 => ⟨S1x64x64x16x64, .f32⟩
  | 67 => ⟨S1x64x64x16x64, .f32⟩
  | 68 => ⟨S1x64x64x16x64, .f32⟩
  | 69 => ⟨S1x64x64x16x64, .f32⟩
  | 70 => ⟨S1x64x64x16x64, .f32⟩
  | 71 => ⟨S1x64x576x16x64, .f32⟩
  | 72 => ⟨S1x64x16x64x576, .f32⟩
  | 73 => ⟨S_, .f32⟩
  | 74 => ⟨S1x64x16x64x576, .f32⟩
  | 75 => ⟨S1x64x16x64x576, .f32⟩
  | 76 => ⟨S1x1x16x64x576, .f32⟩
  | 77 => ⟨S1x64x16x64x576, .f32⟩
  | 78 => ⟨S1x64x16x64x576, .f32⟩
  | 79 => ⟨S_, .i32⟩
  | 80 => ⟨S64x1, .i32⟩
  | 81 => ⟨S64x1, .i32⟩
  | 82 => ⟨S576, .i32⟩
  | 83 => ⟨S1x576, .i32⟩
  | 84 => ⟨S64x576, .i32⟩
  | 85 => ⟨S64x576, .i32⟩
  | 86 => ⟨S64x576, .i32⟩
  | 87 => ⟨S_, .i32⟩
  | 88 => ⟨S64x576, .i32⟩
  | 89 => ⟨S64x576, .i1⟩
  | 90 => ⟨S1x64x1x1x576, .i1⟩
  | 91 => ⟨S_, .f32⟩
  | 92 => ⟨S_, .f32⟩
  | 93 => ⟨S1x64x16x64x576, .i1⟩
  | 94 => ⟨S1x64x16x64x576, .f32⟩
  | 95 => ⟨S1x64x16x64x576, .f32⟩
  | 96 => ⟨S_, .f32⟩
  | 97 => ⟨S1x64x16x64x576, .f32⟩
  | 98 => ⟨S_, .f32⟩
  | 99 => ⟨S1x64x16x64, .f32⟩
  | 100 => ⟨S1x64x16x64x1, .f32⟩
  | 101 => ⟨S1x64x16x64x576, .f32⟩
  | 102 => ⟨S1x64x16x64x576, .i1⟩
  | 103 => ⟨S1x64x16x64x576, .f32⟩
  | 104 => ⟨S_, .f32⟩
  | 105 => ⟨S1x64x16x64, .f32⟩
  | 106 => ⟨S_, .f32⟩
  | 107 => ⟨S1x64x16x64, .f32⟩
  | 108 => ⟨S1x64x16x64, .f32⟩
  | 109 => ⟨S_, .f32⟩
  | 110 => ⟨S1x64x16x64, .f32⟩
  | 111 => ⟨S1x64x16x64, .i1⟩
  | 112 => ⟨S_, .f32⟩
  | 113 => ⟨S1x64x16x64, .f32⟩
  | 114 => ⟨S1x64x16x64, .i1⟩
  | 115 => ⟨S_, .f32⟩
  | 116 => ⟨S1x64x16x64, .f32⟩
  | 117 => ⟨S_, .f32⟩
  | 118 => ⟨S1x64x16x64, .f32⟩
  | 119 => ⟨S_, .f32⟩
  | 120 => ⟨S1x64x16x64, .f32⟩
  | 121 => ⟨S1x64x16x64, .f32⟩
  | 122 => ⟨S1x64x16x64, .f32⟩
  | 123 => ⟨S1x64x16x64x1, .f32⟩
  | 124 => ⟨S1x64x16x64x576, .f32⟩
  | 125 => ⟨S1x64x16x64x576, .f32⟩
  | 126 => ⟨S1x64x16x64x576, .f32⟩
  | 127 => ⟨S_, .f32⟩
  | _ => ⟨S4096x10256, .f32⟩

abbrev hbmTy0_1 (i : Nat) : BufTy := match i % 128 with
  | 0 => ⟨S1x64x16x64, .f32⟩
  | 1 => ⟨S1x64x16x64x1, .f32⟩
  | 2 => ⟨S1x64x16x64x576, .f32⟩
  | 3 => ⟨S1x64x16x64x576, .f32⟩
  | 4 => ⟨S1x64x16x64x1, .f32⟩
  | 5 => ⟨S_, .f32⟩
  | 6 => ⟨S1x64x16x64x1, .f32⟩
  | 7 => ⟨S1x64x16x64x1, .f32⟩
  | 8 => ⟨S1x72x64x16x64, .f32⟩
  | 9 => ⟨S1x64x64x16x64, .f32⟩
  | 10 => ⟨S1x64x64x16x64, .f32⟩
  | 11 => ⟨S1x64x64x16x64, .f32⟩
  | 12 => ⟨S1x64x64x16x64, .f32⟩
  | 13 => ⟨S1x64x64x16x64, .f32⟩
  | 14 => ⟨S1x64x64x16x64, .f32⟩
  | 15 => ⟨S1x64x64x16x64, .f32⟩
  | 16 => ⟨S1x64x64x16x64, .f32⟩
  | 17 => ⟨S1x64x64x16x64, .f32⟩
  | 18 => ⟨S1x64x576x16x64, .f32⟩
  | 19 => ⟨S1x64x16x64x64, .f32⟩
  | 20 => ⟨S1x64x64x16x64, .f32⟩
  | 21 => ⟨S1x4096x1024, .f32⟩
  | 22 => ⟨S4096x1024, .f32⟩
  | 23 => ⟨S4096x1024, .f32⟩
  | 24 => ⟨S1x4096x1024, .f32⟩
  | 25 => ⟨S1x64x64x16x64, .f32⟩
  | 26 => ⟨S1x64x16x64x64, .f32⟩
  | 27 => ⟨S1x64x16x64x576, .f32⟩
  | 28 => ⟨S1x64x16x64x576, .f32⟩
  | 29 => ⟨S1x64x576x16x64, .f32⟩
  | 30 => ⟨S1x64x64x16x64, .f32⟩
  | 31 => ⟨S1x64x64x16x64, .f32⟩
  | 32 => ⟨S1x64x64x16x64, .f32⟩
  | 33 => ⟨S1x64x64x16x64, .f32⟩
  | 34 => ⟨S1x64x64x16x64, .f32⟩
  | 35 => ⟨S1x64x64x16x64, .f32⟩
  | 36 => ⟨S1x64x64x16x64, .f32⟩
  | 37 => ⟨S1x64x64x16x64, .f32⟩
  | 38 => ⟨S1x64x64x16x64, .f32⟩
  | 39 => ⟨S_, .f32⟩
  | 40 => ⟨S1x72x64x16x64, .f32⟩
  | 41 => ⟨S_, .f32⟩
  | 42 => ⟨S1x72x64x16x64, .f32⟩
  | 43 => ⟨S1x72x64x16x64, .f32⟩
  | 44 => ⟨S_, .f32⟩
  | 45 => ⟨S1x72x64x16x64, .f32⟩
  | 46 => ⟨S1x72x64x16x64, .f32⟩
  | 47 => ⟨S_, .f32⟩
  | 48 => ⟨S1x72x64x16x64, .f32⟩
  | 49 => ⟨S1x72x64x16x64, .f32⟩
  | 50 => ⟨S_, .f32⟩
  | 51 => ⟨S1x72x64x16x64, .f32⟩
  | 52 => ⟨S1x72x64x16x64, .f32⟩
  | 53 => ⟨S_, .f32⟩
  | 54 => ⟨S1x72x64x16x64, .f32⟩
  | 55 => ⟨S1x72x64x16x64, .f32⟩
  | 56 => ⟨S_, .f32⟩
  | 57 => ⟨S1x72x64x16x64, .f32⟩
  | 58 => ⟨S1x72x64x16x64, .f32⟩
  | 59 => ⟨S_, .f32⟩
  | 60 => ⟨S1x72x64x16x64, .f32⟩
  | 61 => ⟨S1x72x64x16x64, .f32⟩
  | 62 => ⟨S_, .f32⟩
  | 63 => ⟨S1x72x64x16x64, .f32⟩
  | 64 => ⟨S1x72x64x16x64, .f32⟩
  | 65 => ⟨S1x4608x16x64, .f32⟩
  | 66 => ⟨S1x64x16x64x576, .f32⟩
  | 67 => ⟨S1x64x16x64x576, .f32⟩
  | 68 => ⟨S1x64x16x64x576, .f32⟩
  | 69 => ⟨S_, .f32⟩
  | 70 => ⟨S1x64x16x64, .f32⟩
  | 71 => ⟨S1x64x16x64x1, .f32⟩
  | 72 => ⟨S1x64x16x64x1, .f32⟩
  | 73 => ⟨S1x64x16x64x576, .f32⟩
  | 74 => ⟨S1x64x16x64x576, .f32⟩
  | 75 => ⟨S_, .f32⟩
  | 76 => ⟨S64x16x64, .f32⟩
  | 77 => ⟨S1x64x16x64, .f32⟩
  | 78 => ⟨S1x64x16x64x576, .f32⟩
  | 79 => ⟨S1x64x16x64x576, .f32⟩
  | 80 => ⟨S1x64x16x64x576, .f32⟩
  | 81 => ⟨S_, .f32⟩
  | 82 => ⟨S1x64x16x64x576, .f32⟩
  | 83 => ⟨S1x64x16x64x576, .f32⟩
  | 84 => ⟨S_, .f32⟩
  | 85 => ⟨S1x16x64x576, .f32⟩
  | 86 => ⟨S1x1x16x64x576, .f32⟩
  | 87 => ⟨S_, .f32⟩
  | 88 => ⟨S16x64x576, .f32⟩
  | 89 => ⟨S_, .f32⟩
  | 90 => ⟨S1x64x16x64x576, .f32⟩
  | 91 => ⟨S1x64x16x64x576, .f32⟩
  | 92 => ⟨S1x64x16x576x64, .f32⟩
  | 93 => ⟨S1x64x576x16x64, .f32⟩
  | 94 => ⟨S1x64x16x64x64, .f32⟩
  | 95 => ⟨S64x1x64x16x64, .f32⟩
  | 96 => ⟨S1x64x64x16x64, .f32⟩
  | 97 => ⟨S1x64x64x16x64, .f32⟩
  | 98 => ⟨S1x64x64x16x64, .f32⟩
  | 99 => ⟨S1x64x64x16x64, .f32⟩
  | 100 => ⟨S1x64x64x16x64, .f32⟩
  | 101 => ⟨S1x64x64x16x64, .f32⟩
  | 102 => ⟨S1x64x64x16x64, .f32⟩
  | 103 => ⟨S1x64x64x16x64, .f32⟩
  | 104 => ⟨S1x64x64x16x64, .f32⟩
  | 105 => ⟨S_, .f32⟩
  | 106 => ⟨S1x72x64x16x64, .f32⟩
  | 107 => ⟨S_, .f32⟩
  | 108 => ⟨S1x72x64x16x64, .f32⟩
  | 109 => ⟨S1x72x64x16x64, .f32⟩
  | 110 => ⟨S_, .f32⟩
  | 111 => ⟨S1x72x64x16x64, .f32⟩
  | 112 => ⟨S1x72x64x16x64, .f32⟩
  | 113 => ⟨S_, .f32⟩
  | 114 => ⟨S1x72x64x16x64, .f32⟩
  | 115 => ⟨S1x72x64x16x64, .f32⟩
  | 116 => ⟨S_, .f32⟩
  | 117 => ⟨S1x72x64x16x64, .f32⟩
  | 118 => ⟨S1x72x64x16x64, .f32⟩
  | 119 => ⟨S_, .f32⟩
  | 120 => ⟨S1x72x64x16x64, .f32⟩
  | 121 => ⟨S1x72x64x16x64, .f32⟩
  | 122 => ⟨S_, .f32⟩
  | 123 => ⟨S1x72x64x16x64, .f32⟩
  | 124 => ⟨S1x72x64x16x64, .f32⟩
  | 125 => ⟨S_, .f32⟩
  | 126 => ⟨S1x72x64x16x64, .f32⟩
  | 127 => ⟨S1x72x64x16x64, .f32⟩
  | _ => ⟨S4096x10256, .f32⟩

abbrev hbmTy0_2 (i : Nat) : BufTy := match i % 128 with
  | 0 => ⟨S_, .f32⟩
  | 1 => ⟨S1x72x64x16x64, .f32⟩
  | 2 => ⟨S1x72x64x16x64, .f32⟩
  | 3 => ⟨S1x4608x16x64, .f32⟩
  | 4 => ⟨S1x64x64x16x64, .f32⟩
  | 5 => ⟨S1x4096x16x64, .f32⟩
  | 6 => ⟨S_, .f32⟩
  | 7 => ⟨S16x320, .f32⟩
  | 8 => ⟨S16x320, .f32⟩
  | 9 => ⟨S1x512x16x64, .f32⟩
  | 10 => ⟨S1x4096x16x64, .f32⟩
  | 11 => ⟨S1x512x16x64, .f32⟩
  | 12 => ⟨S1x4096x16x64, .f32⟩
  | 13 => ⟨S4096x1024, .f32⟩
  | 14 => ⟨S4096x1024, .f32⟩
  | 15 => ⟨S4096x1024, .f32⟩
  | 16 => ⟨S4096x1024, .bf16⟩
  | 17 => ⟨S4096x1024, .bf16⟩
  | 18 => ⟨S4096x1024, .bf16⟩
  | _ => ⟨S4096x10256, .f32⟩

abbrev hbmTy (i : Nat) : BufTy := match i / 128 with
  | 0 => hbmTy0_0 i
  | 1 => hbmTy0_1 i
  | 2 => hbmTy0_2 i
  | _ => ⟨S4096x10256, .f32⟩

abbrev bufTy : (tb : Table) → Fin (tcTables nBuf tb) → BufTy
  | .hbm, ⟨i, _⟩ => hbmTy i
  | _, _ => ⟨S4096x10256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_c_2 : Ref sig .tc := ⟨.hbm, 34, rfl⟩
abbrev main_c_3 : Ref sig .tc := ⟨.hbm, 35, rfl⟩
abbrev main_call0_v0 : Ref sig .tc := ⟨.hbm, 36, rfl⟩
abbrev main_call0_v1 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_v27 : Ref sig .tc := ⟨.hbm, 41, rfl⟩
abbrev main_c_4 : Ref sig .tc := ⟨.hbm, 42, rfl⟩
abbrev main_v28 : Ref sig .tc := ⟨.hbm, 43, rfl⟩
abbrev main_v29 : Ref sig .tc := ⟨.hbm, 44, rfl⟩
abbrev main_c_5 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_c_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_8 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_c_9 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_c_10 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_11 : Ref sig .tc := ⟨.hbm, 91, rfl⟩
abbrev main_call1_v0 : Ref sig .tc := ⟨.hbm, 92, rfl⟩
abbrev main_v70_1 : Ref sig .tc := ⟨.hbm, 93, rfl⟩
abbrev main_call1_v2 : Ref sig .tc := ⟨.hbm, 94, rfl⟩
abbrev main_v70_0 : Ref sig .tc := ⟨.hbm, 95, rfl⟩
abbrev main_call1_cst : Ref sig .tc := ⟨.hbm, 96, rfl⟩
abbrev main_v70_2 : Ref sig .tc := ⟨.hbm, 97, rfl⟩
abbrev main_cst_12 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_13 : Ref sig .tc := ⟨.hbm, 104, rfl⟩
abbrev main_v76 : Ref sig .tc := ⟨.hbm, 105, rfl⟩
abbrev main_cst_14 : Ref sig .tc := ⟨.hbm, 106, rfl⟩
abbrev main_v77 : Ref sig .tc := ⟨.hbm, 107, rfl⟩
abbrev main_v78 : Ref sig .tc := ⟨.hbm, 108, rfl⟩
abbrev main_cst_15 : Ref sig .tc := ⟨.hbm, 109, rfl⟩
abbrev main_v79 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_cst_18 : Ref sig .tc := ⟨.hbm, 117, rfl⟩
abbrev main_v84 : Ref sig .tc := ⟨.hbm, 118, rfl⟩
abbrev main_cst_19 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_cst_20 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_cst_22 : Ref sig .tc := ⟨.hbm, 167, rfl⟩
abbrev main_v130 : Ref sig .tc := ⟨.hbm, 168, rfl⟩
abbrev main_cst_23 : Ref sig .tc := ⟨.hbm, 169, rfl⟩
abbrev main_v131 : Ref sig .tc := ⟨.hbm, 170, rfl⟩
abbrev main_v132 : Ref sig .tc := ⟨.hbm, 171, rfl⟩
abbrev main_cst_24 : Ref sig .tc := ⟨.hbm, 172, rfl⟩
abbrev main_v133 : Ref sig .tc := ⟨.hbm, 173, rfl⟩
abbrev main_v134 : Ref sig .tc := ⟨.hbm, 174, rfl⟩
abbrev main_cst_25 : Ref sig .tc := ⟨.hbm, 175, rfl⟩
abbrev main_v135 : Ref sig .tc := ⟨.hbm, 176, rfl⟩
abbrev main_v136 : Ref sig .tc := ⟨.hbm, 177, rfl⟩
abbrev main_cst_26 : Ref sig .tc := ⟨.hbm, 178, rfl⟩
abbrev main_v137 : Ref sig .tc := ⟨.hbm, 179, rfl⟩
abbrev main_v138 : Ref sig .tc := ⟨.hbm, 180, rfl⟩
abbrev main_cst_27 : Ref sig .tc := ⟨.hbm, 181, rfl⟩
abbrev main_v139 : Ref sig .tc := ⟨.hbm, 182, rfl⟩
abbrev main_v140 : Ref sig .tc := ⟨.hbm, 183, rfl⟩
abbrev main_cst_28 : Ref sig .tc := ⟨.hbm, 184, rfl⟩
abbrev main_v141 : Ref sig .tc := ⟨.hbm, 185, rfl⟩
abbrev main_v142 : Ref sig .tc := ⟨.hbm, 186, rfl⟩
abbrev main_cst_29 : Ref sig .tc := ⟨.hbm, 187, rfl⟩
abbrev main_v143 : Ref sig .tc := ⟨.hbm, 188, rfl⟩
abbrev main_v144 : Ref sig .tc := ⟨.hbm, 189, rfl⟩
abbrev main_cst_30 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_v149 : Ref sig .tc := ⟨.hbm, 195, rfl⟩
abbrev main_v150 : Ref sig .tc := ⟨.hbm, 196, rfl⟩
abbrev main_cst_31 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_cst_32 : Ref sig .tc := ⟨.hbm, 203, rfl⟩
abbrev main_v156 : Ref sig .tc := ⟨.hbm, 204, rfl⟩
abbrev main_v157 : Ref sig .tc := ⟨.hbm, 205, rfl⟩
abbrev main_v158 : Ref sig .tc := ⟨.hbm, 206, rfl⟩
abbrev main_v159 : Ref sig .tc := ⟨.hbm, 207, rfl⟩
abbrev main_v160 : Ref sig .tc := ⟨.hbm, 208, rfl⟩
abbrev main_call2_cst : Ref sig .tc := ⟨.hbm, 209, rfl⟩
abbrev main_call2_v0 : Ref sig .tc := ⟨.hbm, 210, rfl⟩
abbrev main_v161 : Ref sig .tc := ⟨.hbm, 211, rfl⟩
abbrev main_cst_33 : Ref sig .tc := ⟨.hbm, 212, rfl⟩
abbrev main_v162 : Ref sig .tc := ⟨.hbm, 213, rfl⟩
abbrev main_v163 : Ref sig .tc := ⟨.hbm, 214, rfl⟩
abbrev main_cst_34 : Ref sig .tc := ⟨.hbm, 215, rfl⟩
abbrev main_v164 : Ref sig .tc := ⟨.hbm, 216, rfl⟩
abbrev main_cst_35 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_cst_36 : Ref sig .tc := ⟨.hbm, 233, rfl⟩
abbrev main_v180 : Ref sig .tc := ⟨.hbm, 234, rfl⟩
abbrev main_cst_37 : Ref sig .tc := ⟨.hbm, 235, rfl⟩
abbrev main_v181 : Ref sig .tc := ⟨.hbm, 236, rfl⟩
abbrev main_v182 : Ref sig .tc := ⟨.hbm, 237, rfl⟩
abbrev main_cst_38 : Ref sig .tc := ⟨.hbm, 238, rfl⟩
abbrev main_v183 : Ref sig .tc := ⟨.hbm, 239, rfl⟩
abbrev main_v184 : Ref sig .tc := ⟨.hbm, 240, rfl⟩
abbrev main_cst_39 : Ref sig .tc := ⟨.hbm, 241, rfl⟩
abbrev main_v185 : Ref sig .tc := ⟨.hbm, 242, rfl⟩
abbrev main_v186 : Ref sig .tc := ⟨.hbm, 243, rfl⟩
abbrev main_cst_40 : Ref sig .tc := ⟨.hbm, 244, rfl⟩
abbrev main_v187 : Ref sig .tc := ⟨.hbm, 245, rfl⟩
abbrev main_v188 : Ref sig .tc := ⟨.hbm, 246, rfl⟩
abbrev main_cst_41 : Ref sig .tc := ⟨.hbm, 247, rfl⟩
abbrev main_v189 : Ref sig .tc := ⟨.hbm, 248, rfl⟩
abbrev main_v190 : Ref sig .tc := ⟨.hbm, 249, rfl⟩
abbrev main_cst_42 : Ref sig .tc := ⟨.hbm, 250, rfl⟩
abbrev main_v191 : Ref sig .tc := ⟨.hbm, 251, rfl⟩
abbrev main_v192 : Ref sig .tc := ⟨.hbm, 252, rfl⟩
abbrev main_cst_43 : Ref sig .tc := ⟨.hbm, 253, rfl⟩
abbrev main_v193 : Ref sig .tc := ⟨.hbm, 254, rfl⟩
abbrev main_v194 : Ref sig .tc := ⟨.hbm, 255, rfl⟩
abbrev main_cst_44 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_cst_45 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_v207 : Ref sig .tc := ⟨.hbm, 270, rfl⟩
abbrev main_v208 : Ref sig .tc := ⟨.hbm, 271, rfl⟩
abbrev main_v209 : Ref sig .tc := ⟨.hbm, 272, rfl⟩
abbrev main_v210 : Ref sig .tc := ⟨.hbm, 273, rfl⟩
abbrev main_v211 : Ref sig .tc := ⟨.hbm, 274, rfl⟩

abbrev nD : Nat := 1
abbrev τ : Topo := Topo.v7x

variable {F : FTy → Type} [FloatOps F]
-- ==== Kernel12.lean ====
abbrev S4096x10256 : Shape := ⟨2, ![4096, 10256]⟩
abbrev S16x320 : Shape := ⟨2, ![16, 320]⟩
abbrev S4096x6144 : Shape := ⟨2, ![4096, 6144]⟩
abbrev S4096x4096 : Shape := ⟨2, ![4096, 4096]⟩
abbrev S4096x16 : Shape := ⟨2, ![4096, 16]⟩
abbrev S_ : Shape := ⟨0, ![]⟩
abbrev S4096x112 : Shape := ⟨2, ![4096, 112]⟩
abbrev S4096x10368 : Shape := ⟨2, ![4096, 10368]⟩
abbrev S16x1 : Shape := ⟨2, ![16, 1]⟩
abbrev S16x256 : Shape := ⟨2, ![16, 256]⟩
abbrev S16x192 : Shape := ⟨2, ![16, 192]⟩
abbrev S16x1024 : Shape := ⟨2, ![16, 1024]⟩
abbrev S1x16x1x1024 : Shape := ⟨4, ![1, 16, 1, 1024]⟩
abbrev S1x16x256x1024 : Shape := ⟨4, ![1, 16, 256, 1024]⟩
abbrev S16x262144 : Shape := ⟨2, ![16, 262144]⟩
abbrev S16x261888 : Shape := ⟨2, ![16, 261888]⟩
abbrev S16x256x1023 : Shape := ⟨3, ![16, 256, 1023]⟩
abbrev S16x256x768 : Shape := ⟨3, ![16, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S4096x1024 : Shape := ⟨2, ![4096, 1024]⟩
abbrev S16x4096x1 : Shape := ⟨3, ![16, 4096, 1]⟩
abbrev S256x128 : Shape := ⟨2, ![256, 128]⟩
abbrev S2x256x768 : Shape := ⟨3, ![2, 256, 768]⟩
abbrev S2x256x1 : Shape := ⟨3, ![2, 256, 1]⟩
abbrev S1x128 : Shape := ⟨2, ![1, 128]⟩
abbrev S256x256 : Shape := ⟨2, ![256, 256]⟩
abbrev S1x256x1 : Shape := ⟨3, ![1, 256, 1]⟩

abbrev nBuf : Space → Nat
  | .hbm => 49
  | .vmem => 20
  | .smem => 0
  | _ => 0

abbrev bufTy : (tb : Table) → Fin (tcTables nBuf tb) → BufTy
  | .hbm, ⟨0, _⟩ => ⟨S4096x10256, .f32⟩
  | .hbm, ⟨1, _⟩ => ⟨S16x320, .f32⟩
  | .hbm, ⟨2, _⟩ => ⟨S4096x6144, .f32⟩
  | .hbm, ⟨3, _⟩ => ⟨S4096x4096, .f32⟩
  | .hbm, ⟨4, _⟩ => ⟨S4096x16, .f32⟩
  | .hbm, ⟨5, _⟩ => ⟨S_, .f32⟩
  | .hbm, ⟨6, _⟩ => ⟨S4096x112, .f32⟩
  | .hbm, ⟨7, _⟩ => ⟨S4096x10368, .f32⟩
  | .hbm, ⟨8, _⟩ => ⟨S4096x10368, .bf16⟩
  | .hbm, ⟨9, _⟩ => ⟨S16x1, .f32⟩
  | .hbm, ⟨10, _⟩ => ⟨S16x1, .f32⟩
  | .hbm, ⟨11, _⟩ => ⟨S16x256, .f32⟩
  | .hbm, ⟨12, _⟩ => ⟨S16x192, .f32⟩
  | .hbm, ⟨13, _⟩ => ⟨S16x256, .f32⟩
  | .hbm, ⟨14, _⟩ => ⟨S16x1024, .f32⟩
  | .hbm, ⟨15, _⟩ => ⟨S1x16x1x1024, .f32⟩
  | .hbm, ⟨16, _⟩ => ⟨S1x16x256x1024, .f32⟩
  | .hbm, ⟨17, _⟩ => ⟨S16x262144, .f32⟩
  | .hbm, ⟨18, _⟩ => ⟨S16x261888, .f32⟩
  | .hbm, ⟨19, _⟩ => ⟨S16x256x1023, .f32⟩
  | .hbm, ⟨20, _⟩ => ⟨S16x256x768, .f32⟩
  | .hbm, ⟨21, _⟩ => ⟨S256, .i32⟩
  | .hbm, ⟨22, _⟩ => ⟨S_, .i32⟩
  | .hbm, ⟨23, _⟩ => ⟨S256, .i32⟩
  | .hbm, ⟨24, _⟩ => ⟨S256, .i32⟩
  | .hbm, ⟨25, _⟩ => ⟨S256x1, .i32⟩
  | .hbm, ⟨26, _⟩ => ⟨S768, .i32⟩
  | .hbm, ⟨27, _⟩ => ⟨S_, .i32⟩
  | .hbm, ⟨28, _⟩ => ⟨S768, .i32⟩
  | .hbm, ⟨29, _⟩ => ⟨S768, .i32⟩
  | .hbm, ⟨30, _⟩ => ⟨S1x768, .i32⟩
  | .hbm, ⟨31, _⟩ => ⟨S256x768, .i32⟩
  | .hbm, ⟨32, _⟩ => ⟨S256x768, .i32⟩
  | .hbm, ⟨33, _⟩ => ⟨S256x768, .i1⟩
  | .hbm, ⟨34, _⟩ => ⟨S_, .i32⟩
  | .hbm, ⟨35, _⟩ => ⟨S256x1, .i32⟩
  | .hbm, ⟨36, _⟩ => ⟨S256x1, .i32⟩
  | .hbm, ⟨37, _⟩ => ⟨S256x768, .i32⟩
  | .hbm, ⟨38, _⟩ => ⟨S256x768, .i32⟩
  | .hbm, ⟨39, _⟩ => ⟨S256x768, .i1⟩
  | .hbm, ⟨40, _⟩ => ⟨S256x768, .i1⟩
  | .hbm, ⟨41, _⟩ => ⟨S1x256x768, .i1⟩
  | .hbm, ⟨42, _⟩ => ⟨S_, .f32⟩
  | .hbm, ⟨43, _⟩ => ⟨S_, .f32⟩
  | .hbm, ⟨44, _⟩ => ⟨S16x256x768, .i1⟩
  | .hbm, ⟨45, _⟩ => ⟨S16x256x768, .f32⟩
  | .hbm, ⟨46, _⟩ => ⟨S16x256x768, .f32⟩
  | .hbm, ⟨47, _⟩ => ⟨S4096x1024, .bf16⟩
  | .hbm, ⟨48, _⟩ => ⟨S16x4096x1, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S2x256x768, .f32⟩
  | .local _ .vmem, ⟨15, _⟩ => ⟨S2x256x768, .f32⟩
  | .local _ .vmem, ⟨16, _⟩ => ⟨S256x128, .bf16⟩
  | .local _ .vmem, ⟨17, _⟩ => ⟨S256x128, .bf16⟩
  | .local _ .vmem, ⟨18, _⟩ => ⟨S2x256x1, .f32⟩
  | .local _ .vmem, ⟨19, _⟩ => ⟨S2x256x1, .f32⟩
  | _, _ => ⟨S4096x10256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_c : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c_0 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_c_1 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_2 : Ref sig .tc := ⟨.hbm, 42, rfl⟩
abbrev main_call0_v0 : Ref sig .tc := ⟨.hbm, 43, rfl⟩
abbrev main_call0_v1 : Ref sig .tc := ⟨.hbm, 44, rfl⟩
abbrev main_call0_v2 : Ref sig .tc := ⟨.hbm, 45, rfl⟩
abbrev main_v36 : Ref sig .tc := ⟨.hbm, 46, rfl⟩
abbrev main_v37_0 : Ref sig .tc := ⟨.hbm, 47, rfl⟩
abbrev main_v37_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c8_i32 : BitVec 32 := 8#32
  let v3 : BitVec 32 := Scalar.addi c8_i32 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c8_i32 : BitVec 32 := 8#32
  let v3 : BitVec 32 := Scalar.addi c8_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c8_i32 : BitVec 32 := 8#32
  let v3 : BitVec 32 := Scalar.addi c8_i32 arg0
  let c0_i32_1 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.addi v0 c0_i32
  let c0_i32_0 : BitVec 32 := 0#32
  let v2 : BitVec 32 := Scalar.maxsi v1 c0_i32_0
  let c16_i32 : BitVec 32 := 16#32
  let v3 : BitVec 32 := Scalar.addi c16_i32 arg0
  let c0_i32_1 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c1_i32 : BitVec 32 := 1#32
  let v1 : BitVec 32 := Scalar.addi v0 c1_i32
  let c0_i32 : BitVec 32 := 0#32
  let v2 : BitVec 32 := Scalar.maxsi v1 c0_i32
  let c16_i32 : BitVec 32 := 16#32
  let v3 : BitVec 32 := Scalar.addi c16_i32 arg0
  let c0_i32_0 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c2_i32_0 : BitVec 32 := 2#32
  let v1 : BitVec 32 := Scalar.addi v0 c2_i32_0
  let c0_i32 : BitVec 32 := 0#32
  let v2 : BitVec 32 := Scalar.maxsi v1 c0_i32
  let c16_i32 : BitVec 32 := 16#32
  let v3 : BitVec 32 := Scalar.addi c16_i32 arg0
  let c0_i32_1 : BitVec 32 := 0#32
  ![v2.toNat, v3.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x256x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel12Ideal.lean ====
variable {F : FTy → Type} [FloatOps F] [Named F]
def κ : String → Option EReal := fun
  | "mask" => some ⊥
  | _ => none
-- ==== Reference12Ideal.lean ====
abbrev S4096x10256 : Shape := ⟨2, ![4096, 10256]⟩
abbrev S16x320 : Shape := ⟨2, ![16, 320]⟩
abbrev S4096x1024 : Shape := ⟨2, ![4096, 1024]⟩
abbrev S4096x512 : Shape := ⟨2, ![4096, 512]⟩
abbrev S4096x16 : Shape := ⟨2, ![4096, 16]⟩
abbrev S4096x2048 : Shape := ⟨2, ![4096, 2048]⟩
abbrev S1x4096x16x64 : Shape := ⟨4, ![1, 4096, 16, 64]⟩
abbrev S_ : Shape := ⟨0, ![]⟩
abbrev S1x512x16x64 : Shape := ⟨4, ![1, 512, 16, 64]⟩
abbrev S1x4608x16x64 : Shape := ⟨4, ![1, 4608, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S1x64x64x16x64 : Shape := ⟨5, ![1, 64, 64, 16, 64]⟩
abbrev S64x1x64x16x64 : Shape := ⟨5, ![64, 1, 64, 16, 64]⟩
abbrev S1x72x64x16x64 : Shape := ⟨5, ![1, 72, 64, 16, 64]⟩
abbrev S1x64x576x16x64 : Shape := ⟨5, ![1, 64, 576, 16, 64]⟩
abbrev S1x64x16x64x576 : Shape := ⟨5, ![1, 64, 16, 64, 576]⟩
abbrev S1x1x16x64x576 : Shape := ⟨5, ![1, 1, 16, 64, 576]⟩
abbrev S1x64x1x1x576 : Shape := ⟨5, ![1, 64, 1, 1, 576]⟩
abbrev S1x64x16x64 : Shape := ⟨4, ![1, 64, 16, 64]⟩
abbrev S1x64x16x64x1 : Shape := ⟨5, ![1, 64, 16, 64, 1]⟩
abbrev S1x64x16x64x64 : Shape := ⟨5, ![1, 64, 16, 64, 64]⟩
abbrev S1x4096x1024 : Shape := ⟨3, ![1, 4096, 1024]⟩
abbrev S64x16x64x1 : Shape := ⟨4, ![64, 16, 64, 1]⟩
abbrev S16x64x64x1 : Shape := ⟨4, ![16, 64, 64, 1]⟩
abbrev S16x4096x1 : Shape := ⟨3, ![16, 4096, 1]⟩

abbrev nBuf : Space → Nat
  | .hbm => 211
  | .vmem => 0
  | .smem => 0
  | _ => 0

abbrev hbmTy0_0 (i : Nat) : BufTy := match i % 128 with
  | 0 => ⟨S4096x10256, .f32⟩
  | 1 => ⟨S16x320, .f32⟩
  | 2 => ⟨S4096x1024, .f32⟩
  | 3 => ⟨S4096x1024, .f32⟩
  | 4 => ⟨S4096x1024, .f32⟩
  | 5 => ⟨S4096x512, .f32⟩
  | 6 => ⟨S4096x512, .f32⟩
  | 7 => ⟨S4096x1024, .f32⟩
  | 8 => ⟨S4096x1024, .f32⟩
  | 9 => ⟨S4096x16, .f32⟩
  | 10 => ⟨S4096x2048, .f32⟩
  | 11 => ⟨S4096x2048, .f32⟩
  | 12 => ⟨S1x4096x16x64, .f32⟩
  | 13 => ⟨S1x4096x16x64, .f32⟩
  | 14 => ⟨S1x4096x16x64, .f32⟩
  | 15 => ⟨S_, .f32⟩
  | 16 => ⟨S1x512x16x64, .f32⟩
  | 17 => ⟨S1x4608x16x64, .f32⟩
  | 18 => ⟨S1x4608x16x64, .f32⟩
  | 19 => ⟨S64, .i32⟩
  | 20 => ⟨S64x1, .i32⟩
  | 21 => ⟨S576, .i32⟩
  | 22 => ⟨S1x576, .i32⟩
  | 23 => ⟨S_, .i32⟩
  | 24 => ⟨S1x576, .i32⟩
  | 25 => ⟨S1x576, .i32⟩
  | 26 => ⟨S64x576, .i32⟩
  | 27 => ⟨S64x576, .i32⟩
  | 28 => ⟨S64x576, .i32⟩
  | 29 => ⟨S_, .i32⟩
  | 30 => ⟨S_, .i32⟩
  | 31 => ⟨S_, .i32⟩
  | 32 => ⟨S64x576, .i32⟩
  | 33 => ⟨S64x576, .i32⟩
  | 34 => ⟨S_, .i32⟩
  | 35 => ⟨S64x576, .i32⟩
  | 36 => ⟨S64x576, .i32⟩
  | 37 => ⟨S_, .i32⟩
  | 38 => ⟨S64x576, .i32⟩
  | 39 => ⟨S64x576, .i32⟩
  | 40 => ⟨S_, .i32⟩
  | 41 => ⟨S64x576, .i32⟩
  | 42 => ⟨S64x576, .i1⟩
  | 43 => ⟨S_, .i32⟩
  | 44 => ⟨S64x576, .i32⟩
  | 45 => ⟨S64x576, .i32⟩
  | 46 => ⟨S64x576, .i32⟩
  | 47 => ⟨S64x576x1, .i32⟩
  | 48 => ⟨S16x64x576, .f32⟩
  | 49 => ⟨S1x64x64x16x64, .f32⟩
  | 50 => ⟨S64x1x64x16x64, .f32⟩
  | 51 => ⟨S64, .i32⟩
  | 52 => ⟨S64x1, .i32⟩
  | 53 => ⟨S_, .i32⟩
  | 54 => ⟨S64x1, .i32⟩
  | 55 => ⟨S64x1, .i32⟩
  | 56 => ⟨S1x72x64x16x64, .f32⟩
  | 57 => ⟨S1x64x64x16x64, .f32⟩
  | 58 => ⟨S1x64x64x16x64, .f32⟩
  | 59 => ⟨S1x64x64x16x64, .f32⟩
  | 60 => ⟨S1x64x64x16x64, .f32⟩
  | 61 => ⟨S1x64x64x16x64, .f32⟩
  | 62 => ⟨S1x64x64x16x64, .f32⟩
  | 63 => ⟨S1x64x64x16x64, .f32⟩
  | 64 => ⟨S1x64x64x16x64, .f32⟩
  | 65 => ⟨S1x64x64x16x64, .f32⟩
  | 66 => ⟨S1x64x576x16x64, .f32⟩
  | 67 => ⟨S1x64x16x64x576, .f32⟩
  | 68 => ⟨S_, .f32⟩
  | 69 => ⟨S1x64x16x64x576, .f32⟩
  | 70 => ⟨S1x64x16x64x576, .f32⟩
  | 71 => ⟨S1x1x16x64x576, .f32⟩
  | 72 => ⟨S1x64x16x64x576, .f32⟩
  | 73 => ⟨S1x64x16x64x576, .f32⟩
  | 74 => ⟨S_, .i32⟩
  | 75 => ⟨S64x1, .i32⟩
  | 76 => ⟨S64x1, .i32⟩
  | 77 => ⟨S576, .i32⟩
  | 78 => ⟨S1x576, .i32⟩
  | 79 => ⟨S64x576, .i32⟩
  | 80 => ⟨S64x576, .i32⟩
  | 81 => ⟨S64x576, .i32⟩
  | 82 => ⟨S_, .i32⟩
  | 83 => ⟨S64x576, .i32⟩
  | 84 => ⟨S64x576, .i1⟩
  | 85 => ⟨S1x64x1x1x576, .i1⟩
  | 86 => ⟨S_, .f32⟩
  | 87 => ⟨S_, .f32⟩
  | 88 => ⟨S1x64x16x64x576, .i1⟩
  | 89 => ⟨S1x64x16x64x576, .f32⟩
  | 90 => ⟨S1x64x16x64x576, .f32⟩
  | 91 => ⟨S_, .f32⟩
  | 92 => ⟨S1x64x16x64, .f32⟩
  | 93 => ⟨S1x64x16x64x1, .f32⟩
  | 94 => ⟨S1x64x16x64x576, .f32⟩
  | 95 => ⟨S1x64x16x64x576, .f32⟩
  | 96 => ⟨S1x64x16x64x576, .f32⟩
  | 97 => ⟨S_, .f32⟩
  | 98 => ⟨S1x64x16x64, .f32⟩
  | 99 => ⟨S1x64x16x64x1, .f32⟩
  | 100 => ⟨S1x64x16x64x1, .f32⟩
  | 101 => ⟨S1x64x16x64x1, .f32⟩
  | 102 => ⟨S_, .f32⟩
  | 103 => ⟨S1x512x16x64, .f32⟩
  | 104 => ⟨S1x4608x16x64, .f32⟩
  | 105 => ⟨S1x4608x16x64, .f32⟩
  | 106 => ⟨S64, .i32⟩
  | 107 => ⟨S64x1, .i32⟩
  | 108 => ⟨S576, .i32⟩
  | 109 => ⟨S1x576, .i32⟩
  | 110 => ⟨S_, .i32⟩
  | 111 => ⟨S1x576, .i32⟩
  | 112 => ⟨S1x576, .i32⟩
  | 113 => ⟨S64x576, .i32⟩
  | 114 => ⟨S64x576, .i32⟩
  | 115 => ⟨S64x576, .i32⟩
  | 116 => ⟨S_, .i32⟩
  | 117 => ⟨S_, .i32⟩
  | 118 => ⟨S_, .i32⟩
  | 119 => ⟨S64x576, .i32⟩
  | 120 => ⟨S64x576, .i32⟩
  | 121 => ⟨S_, .i32⟩
  | 122 => ⟨S64x576, .i32⟩
  | 123 => ⟨S64x576, .i32⟩
  | 124 => ⟨S_, .i32⟩
  | 125 => ⟨S64x576, .i32⟩
  | 126 => ⟨S64x576, .i32⟩
  | 127 => ⟨S_, .i32⟩
  | _ => ⟨S4096x10256, .f32⟩

abbrev hbmTy0_1 (i : Nat) : BufTy := match i % 128 with
  | 0 => ⟨S64x576, .i32⟩
  | 1 => ⟨S64x576, .i1⟩
  | 2 => ⟨S_, .i32⟩
  | 3 => ⟨S64x576, .i32⟩
  | 4 => ⟨S64x576, .i32⟩
  | 5 => ⟨S64x576, .i32⟩
  | 6 => ⟨S64x576x1, .i32⟩
  | 7 => ⟨S16x64x576, .f32⟩
  | 8 => ⟨S1x64x64x16x64, .f32⟩
  | 9 => ⟨S64x1x64x16x64, .f32⟩
  | 10 => ⟨S64, .i32⟩
  | 11 => ⟨S64x1, .i32⟩
  | 12 => ⟨S_, .i32⟩
  | 13 => ⟨S64x1, .i32⟩
  | 14 => ⟨S64x1, .i32⟩
  | 15 => ⟨S1x72x64x16x64, .f32⟩
  | 16 => ⟨S1x64x64x16x64, .f32⟩
  | 17 => ⟨S1x64x64x16x64, .f32⟩
  | 18 => ⟨S1x64x64x16x64, .f32⟩
  | 19 => ⟨S1x64x64x16x64, .f32⟩
  | 20 => ⟨S1x64x64x16x64, .f32⟩
  | 21 => ⟨S1x64x64x16x64, .f32⟩
  | 22 => ⟨S1x64x64x16x64, .f32⟩
  | 23 => ⟨S1x64x64x16x64, .f32⟩
  | 24 => ⟨S1x64x64x16x64, .f32⟩
  | 25 => ⟨S1x64x576x16x64, .f32⟩
  | 26 => ⟨S1x64x16x64x576, .f32⟩
  | 27 => ⟨S_, .f32⟩
  | 28 => ⟨S1x64x16x64x576, .f32⟩
  | 29 => ⟨S1x64x16x64x576, .f32⟩
  | 30 => ⟨S1x1x16x64x576, .f32⟩
  | 31 => ⟨S1x64x16x64x576, .f32⟩
  | 32 => ⟨S1x64x16x64x576, .f32⟩
  | 33 => ⟨S_, .i32⟩
  | 34 => ⟨S64x1, .i32⟩
  | 35 => ⟨S64x1, .i32⟩
  | 36 => ⟨S576, .i32⟩
  | 37 => ⟨S1x576, .i32⟩
  | 38 => ⟨S64x576, .i32⟩
  | 39 => ⟨S64x576, .i32⟩
  | 40 => ⟨S64x576, .i32⟩
  | 41 => ⟨S_, .i32⟩
  | 42 => ⟨S64x576, .i32⟩
  | 43 => ⟨S64x576, .i1⟩
  | 44 => ⟨S1x64x1x1x576, .i1⟩
  | 45 => ⟨S_, .f32⟩
  | 46 => ⟨S_, .f32⟩
  | 47 => ⟨S1x64x16x64x576, .i1⟩
  | 48 => ⟨S1x64x16x64x576, .f32⟩
  | 49 => ⟨S1x64x16x64x576, .f32⟩
  | 50 => ⟨S_, .f32⟩
  | 51 => ⟨S1x64x16x64, .f32⟩
  | 52 => ⟨S_, .f32⟩
  | 53 => ⟨S1x64x16x64, .f32⟩
  | 54 => ⟨S1x64x16x64, .f32⟩
  | 55 => ⟨S1x64x16x64x1, .f32⟩
  | 56 => ⟨S1x64x16x64x576, .f32⟩
  | 57 => ⟨S1x64x16x64x576, .f32⟩
  | 58 => ⟨S1x64x16x64x576, .f32⟩
  | 59 => ⟨S_, .f32⟩
  | 60 => ⟨S1x64x16x64, .f32⟩
  | 61 => ⟨S1x64x16x64x1, .f32⟩
  | 62 => ⟨S1x64x16x64x576, .f32⟩
  | 63 => ⟨S1x64x16x64x576, .f32⟩
  | 64 => ⟨S1x72x64x16x64, .f32⟩
  | 65 => ⟨S1x64x64x16x64, .f32⟩
  | 66 => ⟨S1x64x64x16x64, .f32⟩
  | 67 => ⟨S1x64x64x16x64, .f32⟩
  | 68 => ⟨S1x64x64x16x64, .f32⟩
  | 69 => ⟨S1x64x64x16x64, .f32⟩
  | 70 => ⟨S1x64x64x16x64, .f32⟩
  | 71 => ⟨S1x64x64x16x64, .f32⟩
  | 72 => ⟨S1x64x64x16x64, .f32⟩
  | 73 => ⟨S1x64x64x16x64, .f32⟩
  | 74 => ⟨S1x64x576x16x64, .f32⟩
  | 75 => ⟨S1x64x16x64x64, .f32⟩
  | 76 => ⟨S1x64x64x16x64, .f32⟩
  | 77 => ⟨S1x4096x1024, .f32⟩
  | 78 => ⟨S4096x1024, .f32⟩
  | 79 => ⟨S4096x1024, .bf16⟩
  | 80 => ⟨S64x16x64x1, .f32⟩
  | 81 => ⟨S16x64x64x1, .f32⟩
  | 82 => ⟨S16x4096x1, .f32⟩
  | _ => ⟨S4096x10256, .f32⟩

abbrev hbmTy (i : Nat) : BufTy := match i / 128 with
  | 0 => hbmTy0_0 i
  | 1 => hbmTy0_1 i
  | _ => ⟨S4096x10256, .f32⟩

abbrev bufTy : (tb : Table) → Fin (tcTables nBuf tb) → BufTy
  | .hbm, ⟨i, _⟩ => hbmTy i
  | _, _ => ⟨S4096x10256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_c : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_c_0 : Ref sig .tc := ⟨.hbm, 29, rfl⟩
abbrev main_c_1 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_v25 : Ref sig .tc := ⟨.hbm, 36, rfl⟩
abbrev main_c_2 : Ref sig .tc := ⟨.hbm, 37, rfl⟩
abbrev main_v26 : Ref sig .tc := ⟨.hbm, 38, rfl⟩
abbrev main_v27 : Ref sig .tc := ⟨.hbm, 39, rfl⟩
abbrev main_c_3 : Ref sig .tc := ⟨.hbm, 40, rfl⟩
abbrev main_v28 : Ref sig .tc := ⟨.hbm, 41, rfl⟩
abbrev main_v29 : Ref sig .tc := ⟨.hbm, 42, rfl⟩
abbrev main_c_4 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c_5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_cst_6 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_c_7 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_c_8 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_9 : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_v68 : Ref sig .tc := ⟨.hbm, 90, rfl⟩
abbrev main_cst_10 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_cst_11 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_cst_12 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_c_13 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_c_14 : Ref sig .tc := ⟨.hbm, 116, rfl⟩
abbrev main_c_15 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_call2_v3 : Ref sig .tc := ⟨.hbm, 121, rfl⟩
abbrev main_call2_v4 : Ref sig .tc := ⟨.hbm, 122, rfl⟩
abbrev main_v90 : Ref sig .tc := ⟨.hbm, 123, rfl⟩
abbrev main_c_16 : Ref sig .tc := ⟨.hbm, 124, rfl⟩
abbrev main_v91 : Ref sig .tc := ⟨.hbm, 125, rfl⟩
abbrev main_v92 : Ref sig .tc := ⟨.hbm, 126, rfl⟩
abbrev main_c_17 : Ref sig .tc := ⟨.hbm, 127, rfl⟩
abbrev main_v93 : Ref sig .tc := ⟨.hbm, 128, rfl⟩
abbrev main_v94 : Ref sig .tc := ⟨.hbm, 129, rfl⟩
abbrev main_c_18 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_19 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_cst_20 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_v122 : Ref sig .tc := ⟨.hbm, 160, rfl⟩
abbrev main_c_21 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_c_22 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_cst_23 : Ref sig .tc := ⟨.hbm, 173, rfl⟩
abbrev main_call3_v0 : Ref sig .tc := ⟨.hbm, 174, rfl⟩
abbrev main_call3_v1 : Ref sig .tc := ⟨.hbm, 175, rfl⟩
abbrev main_call3_v2 : Ref sig .tc := ⟨.hbm, 176, rfl⟩
abbrev main_v133 : Ref sig .tc := ⟨.hbm, 177, rfl⟩
abbrev main_cst_24 : Ref sig .tc := ⟨.hbm, 178, rfl⟩
abbrev main_v134 : Ref sig .tc := ⟨.hbm, 179, rfl⟩
abbrev main_cst_25 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_26 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_v152 : Ref sig .tc := ⟨.hbm, 199, rfl⟩
abbrev main_v153 : Ref sig .tc := ⟨.hbm, 200, rfl⟩
abbrev main_v154 : Ref sig .tc := ⟨.hbm, 201, rfl⟩
abbrev main_v155 : Ref sig .tc := ⟨.hbm, 202, rfl⟩
abbrev main_v156 : Ref sig .tc := ⟨.hbm, 203, rfl⟩
abbrev main_v157 : Ref sig .tc := ⟨.hbm, 204, rfl⟩
abbrev main_v158 : Ref sig .tc := ⟨.hbm, 205, rfl⟩
abbrev main_v159 : Ref sig .tc := ⟨.hbm, 206, rfl⟩
abbrev main_v160 : Ref sig .tc := ⟨.hbm, 207, rfl⟩
abbrev main_v161 : Ref sig .tc := ⟨.hbm, 208, rfl⟩
abbrev main_v162 : Ref sig .tc := ⟨.hbm, 209, rfl⟩
abbrev main_v163 : Ref sig .tc := ⟨.hbm, 210, rfl⟩

abbrev nD : Nat := 1
abbrev τ : Topo := Topo.v7x

variable {F : FTy → Type} [FloatOps F]
-- ==== Kernel2.lean ====
abbrev S4096x10256 : Shape := ⟨2, ![4096, 10256]⟩
abbrev S16x512 : Shape := ⟨2, ![16, 512]⟩
abbrev S4096x512 : Shape := ⟨2, ![4096, 512]⟩
abbrev S4096x6144 : Shape := ⟨2, ![4096, 6144]⟩
abbrev S4096x4096 : Shape := ⟨2, ![4096, 4096]⟩
abbrev S4096x16 : Shape := ⟨2, ![4096, 16]⟩
abbrev S_ : Shape := ⟨0, ![]⟩
abbrev S4096x112 : Shape := ⟨2, ![4096, 112]⟩
abbrev S4096x10368 : Shape := ⟨2, ![4096, 10368]⟩
abbrev S128x512 : Shape := ⟨2, ![128, 512]⟩
abbrev S1 : Shape := ⟨1, ![1]⟩
abbrev S4096x128 : Shape := ⟨2, ![4096, 128]⟩
abbrev S1x512 : Shape := ⟨2, ![1, 512]⟩
abbrev S512x128 : Shape := ⟨2, ![512, 128]⟩
abbrev S512x512 : Shape := ⟨2, ![512, 512]⟩
abbrev S512 : Shape := ⟨1, ![512]⟩

abbrev nBuf : Space → Nat
  | .hbm => 19
  | .vmem => 9
  | .smem => 0
  | _ => 0

abbrev bufTy : (tb : Table) → Fin (tcTables nBuf tb) → BufTy
  | .hbm, ⟨0, _⟩ => ⟨S4096x10256, .f32⟩
  | .hbm, ⟨1, _⟩ => ⟨S16x512, .f32⟩
  | .hbm, ⟨2, _⟩ => ⟨S4096x512, .f32⟩
  | .hbm, ⟨3, _⟩ => ⟨S4096x6144, .f32⟩
  | .hbm, ⟨4, _⟩ => ⟨S4096x4096, .f32⟩
  | .hbm, ⟨5, _⟩ => ⟨S4096x16, .f32⟩
  | .hbm, ⟨6, _⟩ => ⟨S_, .f32⟩
  | .hbm, ⟨7, _⟩ => ⟨S4096x112, .f32⟩
  | .hbm, ⟨8, _⟩ => ⟨S4096x10368, .f32⟩
  | .hbm, ⟨9, _⟩ => ⟨S4096x10368, .bf16⟩
  | .hbm, ⟨10, _⟩ => ⟨S_, .bf16⟩
  | .hbm, ⟨11, _⟩ => ⟨S128x512, .bf16⟩
  | .hbm, ⟨12, _⟩ => ⟨S16x512, .bf16⟩
  | .hbm, ⟨13, _⟩ => ⟨S_, .i32⟩
  | .hbm, ⟨14, _⟩ => ⟨S1, .i32⟩
  | .hbm, ⟨15, _⟩ => ⟨S128x512, .bf16⟩
  | .hbm, ⟨16, _⟩ => ⟨S4096x128, .bf16⟩
  | .hbm, ⟨17, _⟩ => ⟨S128x512, .f32⟩
  | .hbm, ⟨18, _⟩ => ⟨S1x512, .f32⟩
  | .local _ .vmem, ⟨0, _⟩ => ⟨S512x128, .bf16⟩
  | .local _ .vmem, ⟨1, _⟩ => ⟨S512x128, .bf16⟩
  | .local _ .vmem, ⟨2, _⟩ => ⟨S512x512, .f32⟩
  | .local _ .vmem, ⟨3, _⟩ => ⟨S512x512, .f32⟩
  | .local _ .vmem, ⟨4, _⟩ => ⟨S128x512, .bf16⟩
  | .local _ .vmem, ⟨5, _⟩ => ⟨S512x128, .bf16⟩
  | .local _ .vmem, ⟨6, _⟩ => ⟨S512x128, .bf16⟩
  | .local _ .vmem, ⟨7, _⟩ => ⟨S128x512, .f32⟩
  | .local _ .vmem, ⟨8, _⟩ => ⟨S1x512, .f32⟩
  | _, _ => ⟨S4096x10256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_v10_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c80_i32 : BitVec 32 := 80#32
  let c0_i32 : BitVec 32 := 0#32
  ![arg0.toNat, c80_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference2Ideal.lean ====
abbrev S4096x10256 : Shape := ⟨2, ![4096, 10256]⟩
abbrev S16x512 : Shape := ⟨2, ![16, 512]⟩
abbrev S4096x512 : Shape := ⟨2, ![4096, 512]⟩
abbrev S4096x1024 : Shape := ⟨2, ![4096, 1024]⟩
abbrev S4096x16 : Shape := ⟨2, ![4096, 16]⟩
abbrev S4096x2048 : Shape := ⟨2, ![4096, 2048]⟩
abbrev S_ : Shape := ⟨0, ![]⟩
abbrev S1x512 : Shape := ⟨2, ![1, 512]⟩
abbrev S512 : Shape := ⟨1, ![512]⟩
abbrev S512x16 : Shape := ⟨2, ![512, 16]⟩
abbrev S4096x128 : Shape := ⟨2, ![4096, 128]⟩
abbrev S128x512 : Shape := ⟨2, ![128, 512]⟩

abbrev nBuf : Space → Nat
  | .hbm => 32
  | .vmem => 0
  | .smem => 0
  | _ => 0

abbrev bufTy : (tb : Table) → Fin (tcTables nBuf tb) → BufTy
  | .hbm, ⟨0, _⟩ => ⟨S4096x10256, .f32⟩
  | .hbm, ⟨1, _⟩ => ⟨S16x512, .f32⟩
  | .hbm, ⟨2, _⟩ => ⟨S4096x512, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x512, .f32⟩
  | .hbm, ⟨7, _⟩ => ⟨S4096x512, .f32⟩
  | .hbm, ⟨8, _⟩ => ⟨S4096x1024, .f32⟩
  | .hbm, ⟨9, _⟩ => ⟨S4096x1024, .f32⟩
  | .hbm, ⟨10, _⟩ => ⟨S4096x16, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S1x512, .f32⟩
  | .hbm, ⟨15, _⟩ => ⟨S4096x512, .f32⟩
  | .hbm, ⟨16, _⟩ => ⟨S4096x512, .f32⟩
  | .hbm, ⟨17, _⟩ => ⟨S4096x512, .f32⟩
  | .hbm, ⟨18, _⟩ => ⟨S4096x512, .f32⟩
  | .hbm, ⟨19, _⟩ => ⟨S_, .f32⟩
  | .hbm, ⟨20, _⟩ => ⟨S512, .f32⟩
  | .hbm, ⟨21, _⟩ => ⟨S1x512, .f32⟩
  | .hbm, ⟨22, _⟩ => ⟨S512x16, .f32⟩
  | .hbm, ⟨23, _⟩ => ⟨S16x512, .f32⟩
  | .hbm, ⟨24, _⟩ => ⟨S4096x16, .f32⟩
  | .hbm, ⟨25, _⟩ => ⟨S_, .i32⟩
  | .hbm, ⟨26, _⟩ => ⟨S_, .f32⟩
  | .hbm, ⟨27, _⟩ => ⟨S4096x128, .f32⟩
  | .hbm, ⟨28, _⟩ => ⟨S4096x128, .bf16⟩
  | .hbm, ⟨29, _⟩ => ⟨S_, .i32⟩
  | .hbm, ⟨30, _⟩ => ⟨S_, .f32⟩
  | .hbm, ⟨31, _⟩ => ⟨S128x512, .f32⟩
  | _, _ => ⟨S4096x10256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_c : Ref sig .tc := ⟨.hbm, 25, rfl⟩
abbrev main_call0_v0 : Ref sig .tc := ⟨.hbm, 26, rfl⟩
abbrev main_v20 : Ref sig .tc := ⟨.hbm, 27, rfl⟩
abbrev main_v21 : Ref sig .tc := ⟨.hbm, 28, rfl⟩
abbrev main_c_1 : Ref sig .tc := ⟨.hbm, 29, rfl⟩
abbrev main_call1_v0 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Kernel3.lean ====
abbrev S4096x10256 : Shape := ⟨2, ![4096, 10256]⟩
abbrev S4096x2048 : Shape := ⟨2, ![4096, 2048]⟩
abbrev S2048x2048 : Shape := ⟨2, ![2048, 2048]⟩
abbrev S4096x6144 : Shape := ⟨2, ![4096, 6144]⟩
abbrev S4096x4096 : Shape := ⟨2, ![4096, 4096]⟩
abbrev S4096x16 : Shape := ⟨2, ![4096, 16]⟩
abbrev S_ : Shape := ⟨0, ![]⟩
abbrev S4096x112 : Shape := ⟨2, ![4096, 112]⟩
abbrev S4096x10368 : Shape := ⟨2, ![4096, 10368]⟩
abbrev S512x2048 : Shape := ⟨2, ![512, 2048]⟩
abbrev S512x512 : Shape := ⟨2, ![512, 512]⟩

abbrev nBuf : Space → Nat
  | .hbm => 17
  | .vmem => 20
  | .smem => 0
  | _ => 0

abbrev bufTy : (tb : Table) → Fin (tcTables nBuf tb) → BufTy
  | .hbm, ⟨0, _⟩ => ⟨S4096x10256, .f32⟩
  | .hbm, ⟨1, _⟩ => ⟨S4096x2048, .bf16⟩
  | .hbm, ⟨2, _⟩ => ⟨S4096x2048, .bf16⟩
  | .hbm, ⟨3, _⟩ => ⟨S2048x2048, .f32⟩
  | .hbm, ⟨4, _⟩ => ⟨S4096x2048, .bf16⟩
  | .hbm, ⟨5, _⟩ => ⟨S4096x6144, .f32⟩
  | .hbm, ⟨6, _⟩ => ⟨S4096x4096, .f32⟩
  | .hbm, ⟨7, _⟩ => ⟨S4096x16, .f32⟩
  | .hbm, ⟨8, _⟩ => ⟨S_, .f32⟩
  | .hbm, ⟨9, _⟩ => ⟨S4096x112, .f32⟩
  | .hbm, ⟨10, _⟩ => ⟨S4096x10368, .f32⟩
  | .hbm, ⟨11, _⟩ => ⟨S4096x10368, .bf16⟩
  | .hbm, ⟨12, _⟩ => ⟨S2048x2048, .bf16⟩
  | .hbm, ⟨13, _⟩ => ⟨S4096x2048, .bf16⟩
  | .hbm, ⟨14, _⟩ => ⟨S4096x2048, .bf16⟩
  | .hbm, ⟨15, _⟩ => ⟨S4096x2048, .bf16⟩
  | .hbm, ⟨16, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | .local _ .vmem, ⟨18, _⟩ => ⟨S512x512, .bf16⟩
  | .local _ .vmem, ⟨19, _⟩ => ⟨S512x512, .bf16⟩
  | _, _ => ⟨S4096x10256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference3Ideal.lean ====
abbrev S4096x10256 : Shape := ⟨2, ![4096, 10256]⟩
abbrev S4096x2048 : Shape := ⟨2, ![4096, 2048]⟩
abbrev S2048x2048 : Shape := ⟨2, ![2048, 2048]⟩
abbrev S4096x1024 : Shape := ⟨2, ![4096, 1024]⟩
abbrev S4096x512 : Shape := ⟨2, ![4096, 512]⟩
abbrev S4096x16 : Shape := ⟨2, ![4096, 16]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S4096x10256, .f32⟩
  | .hbm, ⟨1, _⟩ => ⟨S4096x2048, .bf16⟩
  | .hbm, ⟨2, _⟩ => ⟨S4096x2048, .bf16⟩
  | .hbm, ⟨3, _⟩ => ⟨S2048x2048, .f32⟩
  | .hbm, ⟨4, _⟩ => ⟨S4096x2048, .bf16⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x512, .f32⟩
  | .hbm, ⟨9, _⟩ => ⟨S4096x512, .f32⟩
  | .hbm, ⟨10, _⟩ => ⟨S4096x1024, .f32⟩
  | .hbm, ⟨11, _⟩ => ⟨S4096x1024, .f32⟩
  | .hbm, ⟨12, _⟩ => ⟨S4096x16, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x2048, .f32⟩
  | .hbm, ⟨37, _⟩ => ⟨S4096x2048, .f32⟩
  | .hbm, ⟨38, _⟩ => ⟨S_, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .bf16⟩
  | .hbm, ⟨54, _⟩ => ⟨S4096x2048, .bf16⟩
  | .hbm, ⟨55, _⟩ => ⟨S4096x2048, .bf16⟩
  | .hbm, ⟨56, _⟩ => ⟨S4096x2048, .bf16⟩
  | _, _ => ⟨S4096x10256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== Kernel4.lean ====
abbrev S4096x2048 : Shape := ⟨2, ![4096, 2048]⟩
abbrev S1x2048 : Shape := ⟨2, ![1, 2048]⟩
abbrev S_ : Shape := ⟨0, ![]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 21
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x2048, .bf16⟩
  | .hbm, ⟨16, _⟩ => ⟨S4096x2048, .f32⟩
  | .hbm, ⟨17, _⟩ => ⟨S4096x2048, .bf16⟩
  | .hbm, ⟨18, _⟩ => ⟨S1x2048, .f32⟩
  | .hbm, ⟨19, _⟩ => ⟨S1x2048, .f32⟩
  | .hbm, ⟨20, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .bf16⟩
  | .local _ .vmem, ⟨5, _⟩ => ⟨S256x2048, .bf16⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 103
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S4096x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S4096x2048, .f32⟩
  | .hbm, ⟨61, _⟩ => ⟨S4096x2048, .f32⟩
  | .hbm, ⟨62, _⟩ => ⟨S4096x1, .f32⟩
  | .hbm, ⟨63, _⟩ => ⟨S4096x2048, .f32⟩
  | .hbm, ⟨64, _⟩ => ⟨S_, .f32⟩
  | .hbm, ⟨65, _⟩ => ⟨S4096, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S4096, .f32⟩
  | .hbm, ⟨77, _⟩ => ⟨S4096x1, .f32⟩
  | .hbm, ⟨78, _⟩ => ⟨S4096x2048, .f32⟩
  | .hbm, ⟨79, _⟩ => ⟨S4096x1, .f32⟩
  | .hbm, ⟨80, _⟩ => ⟨S_, .f32⟩
  | .hbm, ⟨81, _⟩ => ⟨S4096x1, .f32⟩
  | .hbm, ⟨82, _⟩ => ⟨S4096x1, .f32⟩
  | .hbm, ⟨83, _⟩ => ⟨S_, .f32⟩
  | .hbm, ⟨84, _⟩ => ⟨S4096, .f32⟩
  | .hbm, ⟨85, _⟩ => ⟨S4096x2048, .f32⟩
  | .hbm, ⟨86, _⟩ => ⟨S4096x2048, .f32⟩
  | .hbm, ⟨87, _⟩ => ⟨S_, .f32⟩
  | .hbm, ⟨88, _⟩ => ⟨S4096x2048, .f32⟩
  | .hbm, ⟨89, _⟩ => ⟨S4096x2048, .f32⟩
  | .hbm, ⟨90, _⟩ => ⟨S4096x2048, .f32⟩
  | .hbm, ⟨91, _⟩ => ⟨S4096x2048, .f32⟩
  | .hbm, ⟨92, _⟩ => ⟨S4096x2048, .f32⟩
  | .hbm, ⟨93, _⟩ => ⟨S4096x2048, .f32⟩
  | .hbm, ⟨94, _⟩ => ⟨S4096x2048, .f32⟩
  | .hbm, ⟨95, _⟩ => ⟨S4096x2048, .f32⟩
  | .hbm, ⟨96, _⟩ => ⟨S_, .f32⟩
  | .hbm, ⟨97, _⟩ => ⟨S2048, .f32⟩
  | .hbm, ⟨98, _⟩ => ⟨S1x2048, .f32⟩
  | .hbm, ⟨99, _⟩ => ⟨S_, .f32⟩
  | .hbm, ⟨100, _⟩ => ⟨S4096x2048, .f32⟩
  | .hbm, ⟨101, _⟩ => ⟨S4096x2048, .f32⟩
  | .hbm, ⟨102, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_cst_12 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_14 : Ref sig .tc := ⟨.hbm, 80, rfl⟩
abbrev main_v59 : Ref sig .tc := ⟨.hbm, 81, rfl⟩
abbrev main_v60 : Ref sig .tc := ⟨.hbm, 82, rfl⟩
abbrev main_cst_15 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_cst_17 : Ref sig .tc := ⟨.hbm, 96, rfl⟩
abbrev main_v72 : Ref sig .tc := ⟨.hbm, 97, rfl⟩
abbrev main_v73 : Ref sig .tc := ⟨.hbm, 98, rfl⟩
abbrev main_cst_18 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== Kernel5.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S256x2048 : Shape := ⟨2, ![256, 2048]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S2048 : Shape := ⟨1, ![2048]⟩

abbrev nBuf : Space → Nat
  | .hbm => 47
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S4096x2048, .f32⟩
  | .hbm, ⟨6, _⟩ => ⟨S_, .f32⟩
  | .hbm, ⟨7, _⟩ => ⟨S4096x2048, .f32⟩
  | .hbm, ⟨8, _⟩ => ⟨S4096x2048, .f32⟩
  | .hbm, ⟨9, _⟩ => ⟨S_, .f32⟩
  | .hbm, ⟨10, _⟩ => ⟨S1x2048, .f32⟩
  | .hbm, ⟨11, _⟩ => ⟨S1x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .bf16⟩
  | .hbm, ⟨41, _⟩ => ⟨S4096x2048, .f32⟩
  | .hbm, ⟨42, _⟩ => ⟨S4096x2048, .bf16⟩
  | .hbm, ⟨43, _⟩ => ⟨S1x2048, .f32⟩
  | .hbm, ⟨44, _⟩ => ⟨S1x2048, .f32⟩
  | .hbm, ⟨45, _⟩ => ⟨S1x2048, .f32⟩
  | .hbm, ⟨46, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .bf16⟩
  | .local _ .vmem, ⟨7, _⟩ => ⟨S256x2048, .bf16⟩
  | .local _ .vmem, ⟨8, _⟩ => ⟨S1x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | .local _ .vmem, ⟨14, _⟩ => ⟨S1x2048, .f32⟩
  | .local _ .vmem, ⟨15, _⟩ => ⟨S1x2048, .f32⟩
  | .local _ .vmem, ⟨16, _⟩ => ⟨S1x2048, .f32⟩
  | .local _ .vmem, ⟨17, _⟩ => ⟨S1x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28_0 : Ref sig .tc := ⟨.hbm, 41, rfl⟩
abbrev main_v28_1 : Ref sig .tc := ⟨.hbm, 42, rfl⟩
abbrev main_v28_2 : Ref sig .tc := ⟨.hbm, 43, rfl⟩
abbrev main_v28_3 : Ref sig .tc := ⟨.hbm, 44, rfl⟩
abbrev main_v28_4 : Ref sig .tc := ⟨.hbm, 45, rfl⟩
abbrev main_v28_5 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 135
  | .vmem => 0
  | .smem => 0
  | _ => 0

abbrev hbmTy0_0 (i : Nat) : BufTy := match i % 128 with
  | 0 => ⟨S4096x2048, .f32⟩
  | 1 => ⟨S4096x2048, .f32⟩
  | 2 => ⟨S1x2048, .f32⟩
  | 3 => ⟨S1x2048, .f32⟩
  | 4 => ⟨S1x2048, .f32⟩
  | 5 => ⟨S4096x2048, .f32⟩
  | 6 => ⟨S_, .f32⟩
  | 7 => ⟨S4096x2048, .f32⟩
  | 8 => ⟨S4096x2048, .f32⟩
  | 9 => ⟨S_, .f32⟩
  | 10 => ⟨S1x2048, .f32⟩
  | 11 => ⟨S1x2048, .f32⟩
  | 12 => ⟨S4096x2048, .f32⟩
  | 13 => ⟨S4096x2048, .f32⟩
  | 14 => ⟨S4096x2048, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S4096x2048, .f32⟩
  | 22 => ⟨S4096x2048, .f32⟩
  | 23 => ⟨S4096x2048, .f32⟩
  | 24 => ⟨S_, .f32⟩
  | 25 => ⟨S4096x2048, .f32⟩
  | 26 => ⟨S4096x2048, .f32⟩
  | 27 => ⟨S_, .f32⟩
  | 28 => ⟨S4096, .f32⟩
  | 29 => ⟨S4096x1, .f32⟩
  | 30 => ⟨S_, .f32⟩
  | 31 => ⟨S4096x1, .f32⟩
  | 32 => ⟨S4096x1, .f32⟩
  | 33 => ⟨S4096x2048, .f32⟩
  | 34 => ⟨S4096x2048, .f32⟩
  | 35 => ⟨S_, .f32⟩
  | 36 => ⟨S4096x1, .f32⟩
  | 37 => ⟨S4096x1, .f32⟩
  | 38 => ⟨S4096x1, .f32⟩
  | 39 => ⟨S4096x1, .f32⟩
  | 40 => ⟨S_, .f32⟩
  | 41 => ⟨S4096x1, .f32⟩
  | 42 => ⟨S4096x1, .f32⟩
  | 43 => ⟨S4096x2048, .f32⟩
  | 44 => ⟨S4096x2048, .f32⟩
  | 45 => ⟨S4096x2048, .f32⟩
  | 46 => ⟨S4096x2048, .f32⟩
  | 47 => ⟨S4096x2048, .f32⟩
  | 48 => ⟨S4096x2048, .f32⟩
  | 49 => ⟨S4096x2048, .f32⟩
  | 50 => ⟨S4096x2048, .f32⟩
  | 51 => ⟨S_, .f32⟩
  | 52 => ⟨S4096x2048, .f32⟩
  | 53 => ⟨S4096x2048, .f32⟩
  | 54 => ⟨S_, .f32⟩
  | 55 => ⟨S4096, .f32⟩
  | 56 => ⟨S_, .f32⟩
  | 57 => ⟨S4096, .f32⟩
  | 58 => ⟨S4096, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S4096, .f32⟩
  | 67 => ⟨S_, .f32⟩
  | 68 => ⟨S4096, .f32⟩
  | 69 => ⟨S4096, .f32⟩
  | 70 => ⟨S4096x2048, .f32⟩
  | 71 => ⟨S4096x2048, .f32⟩
  | 72 => ⟨S_, .f32⟩
  | 73 => ⟨S2048, .f32⟩
  | 74 => ⟨S1x2048, .f32⟩
  | 75 => ⟨S4096x2048, .f32⟩
  | 76 => ⟨S_, .f32⟩
  | 77 => ⟨S2048, .f32⟩
  | 78 => ⟨S1x2048, .f32⟩
  | 79 => ⟨S4096x2048, .f32⟩
  | 80 => ⟨S4096x2048, .f32⟩
  | 81 => ⟨S4096x2048, .f32⟩
  | 82 => ⟨S_, .f32⟩
  | 83 => ⟨S4096, .f32⟩
  | 84 => ⟨S4096x1, .f32⟩
  | 85 => ⟨S4096x2048, .f32⟩
  | 86 => ⟨S4096x2048, .f32⟩
  | 87 => ⟨S4096x1, .f32⟩
  | 88 => ⟨S4096x2048, .f32⟩
  | 89 => ⟨S_, .f32⟩
  | 90 => ⟨S4096, .f32⟩
  | 91 => ⟨S4096x1, .f32⟩
  | 92 => ⟨S_, .f32⟩
  | 93 => ⟨S4096x1, .f32⟩
  | 94 => ⟨S4096x1, .f32⟩
  | 95 => ⟨S_, .f32⟩
  | 96 => ⟨S4096, .f32⟩
  | 97 => ⟨S4096x2048, .f32⟩
  | 98 => ⟨S4096x2048, .f32⟩
  | 99 => ⟨S4096x2048, .f32⟩
  | 100 => ⟨S_, .f32⟩
  | 101 => ⟨S4096, .f32⟩
  | 102 => ⟨S4096x1, .f32⟩
  | 103 => ⟨S4096x2048, .f32⟩
  | 104 => ⟨S4096x1, .f32⟩
  | 105 => ⟨S_, .f32⟩
  | 106 => ⟨S4096x1, .f32⟩
  | 107 => ⟨S4096x1, .f32⟩
  | 108 => ⟨S_, .f32⟩
  | 109 => ⟨S4096, .f32⟩
  | 110 => ⟨S4096x2048, .f32⟩
  | 111 => ⟨S4096x2048, .f32⟩
  | 112 => ⟨S_, .f32⟩
  | 113 => ⟨S4096x2048, .f32⟩
  | 114 => ⟨S4096x2048, .f32⟩
  | 115 => ⟨S_, .f32⟩
  | 116 => ⟨S1x2048, .f32⟩
  | 117 => ⟨S1x2048, .f32⟩
  | 118 => ⟨S4096x2048, .f32⟩
  | 119 => ⟨S4096x2048, .f32⟩
  | 120 => ⟨S4096x2048, .f32⟩
  | 121 => ⟨S4096x2048, .f32⟩
  | 122 => ⟨S4096x2048, .f32⟩
  | 123 => ⟨S4096x2048, .f32⟩
  | 124 => ⟨S_, .f32⟩
  | 125 => ⟨S2048, .f32⟩
  | 126 => ⟨S1x2048, .f32⟩
  | 127 => ⟨S_, .f32⟩
  | _ => ⟨S4096x2048, .f32⟩

abbrev hbmTy0_1 (i : Nat) : BufTy := match i % 128 with
  | 0 => ⟨S1x2048, .f32⟩
  | 1 => ⟨S1x2048, .f32⟩
  | 2 => ⟨S_, .f32⟩
  | 3 => ⟨S4096x2048, .f32⟩
  | 4 => ⟨S4096x2048, .f32⟩
  | 5 => ⟨S4096x2048, .bf16⟩
  | 6 => ⟨S1x128, .f32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_7 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_cst_12 : Ref sig .tc := ⟨.hbm, 61, rfl⟩
abbrev main_v42 : Ref sig .tc := ⟨.hbm, 62, rfl⟩
abbrev main_cst_13 : Ref sig .tc := ⟨.hbm, 63, rfl⟩
abbrev main_cst_14 : Ref sig .tc := ⟨.hbm, 64, rfl⟩
abbrev main_v43 : Ref sig .tc := ⟨.hbm, 65, rfl⟩
abbrev main_v44 : Ref sig .tc := ⟨.hbm, 66, rfl⟩
abbrev main_cst_15 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_16 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_17 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_18 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_19 : Ref sig .tc := ⟨.hbm, 89, rfl⟩
abbrev main_v63 : Ref sig .tc := ⟨.hbm, 90, rfl⟩
abbrev main_v64 : Ref sig .tc := ⟨.hbm, 91, rfl⟩
abbrev main_cst_20 : Ref sig .tc := ⟨.hbm, 92, rfl⟩
abbrev main_v65 : Ref sig .tc := ⟨.hbm, 93, rfl⟩
abbrev main_v66 : Ref sig .tc := ⟨.hbm, 94, rfl⟩
abbrev main_cst_21 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_22 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_23 : Ref sig .tc := ⟨.hbm, 105, rfl⟩
abbrev main_v75 : Ref sig .tc := ⟨.hbm, 106, rfl⟩
abbrev main_v76 : Ref sig .tc := ⟨.hbm, 107, rfl⟩
abbrev main_cst_24 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_25 : Ref sig .tc := ⟨.hbm, 112, rfl⟩
abbrev main_v80 : Ref sig .tc := ⟨.hbm, 113, rfl⟩
abbrev main_v81 : Ref sig .tc := ⟨.hbm, 114, rfl⟩
abbrev main_cst_26 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_cst_27 : Ref sig .tc := ⟨.hbm, 124, rfl⟩
abbrev main_v90 : Ref sig .tc := ⟨.hbm, 125, rfl⟩
abbrev main_v91 : Ref sig .tc := ⟨.hbm, 126, rfl⟩
abbrev main_cst_28 : Ref sig .tc := ⟨.hbm, 127, rfl⟩
abbrev main_v92 : Ref sig .tc := ⟨.hbm, 128, rfl⟩
abbrev main_v93 : Ref sig .tc := ⟨.hbm, 129, rfl⟩
abbrev main_cst_29 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩

abbrev nD : Nat := 1
abbrev τ : Topo := Topo.v7x

variable {F : FTy → Type} [FloatOps F]
-- ==== Kernel9.lean ====
abbrev S8x2048 : Shape := ⟨2, ![8, 2048]⟩
abbrev S8x2304 : Shape := ⟨2, ![8, 2304]⟩
abbrev S2048x2304 : Shape := ⟨2, ![2048, 2304]⟩
abbrev S8x768 : Shape := ⟨2, ![8, 768]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x2048, .f32⟩
  | .hbm, ⟨1, _⟩ => ⟨S8x2304, .f32⟩
  | .hbm, ⟨2, _⟩ => ⟨S2048x2304, .f32⟩
  | .local _ .vmem, ⟨0, _⟩ => ⟨S8x2048, .f32⟩
  | .local _ .vmem, ⟨1, _⟩ => ⟨S8x768, .f32⟩
  | .local _ .vmem, ⟨2, _⟩ => ⟨S8x768, .f32⟩
  | .local _ .vmem, ⟨3, _⟩ => ⟨S2048x768, .f32⟩
  | .local _ .vmem, ⟨4, _⟩ => ⟨S2048x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8x2048 : Shape := ⟨2, ![8, 2048]⟩
abbrev S8x2304 : Shape := ⟨2, ![8, 2304]⟩
abbrev S_ : Shape := ⟨0, ![]⟩
abbrev S2048x2304 : Shape := ⟨2, ![2048, 2304]⟩
abbrev S2304x2048 : Shape := ⟨2, ![2304, 2048]⟩

abbrev nBuf : Space → Nat
  | .hbm => 16
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x2304, .f32⟩
  | .hbm, ⟨2, _⟩ => ⟨S_, .f32⟩
  | .hbm, ⟨3, _⟩ => ⟨S2048x2304, .f32⟩
  | .hbm, ⟨4, _⟩ => ⟨S8x2048, .f32⟩
  | .hbm, ⟨5, _⟩ => ⟨S8x2048, .f32⟩
  | .hbm, ⟨6, _⟩ => ⟨S_, .f32⟩
  | .hbm, ⟨7, _⟩ => ⟨S8x2048, .f32⟩
  | .hbm, ⟨8, _⟩ => ⟨S8x2048, .f32⟩
  | .hbm, ⟨9, _⟩ => ⟨S_, .f32⟩
  | .hbm, ⟨10, _⟩ => ⟨S8x2048, .f32⟩
  | .hbm, ⟨11, _⟩ => ⟨S8x2048, .f32⟩
  | .hbm, ⟨12, _⟩ => ⟨S8x2048, .f32⟩
  | .hbm, ⟨13, _⟩ => ⟨S8x2304, .f32⟩
  | .hbm, ⟨14, _⟩ => ⟨S2304x2048, .f32⟩
  | .hbm, ⟨15, _⟩ => ⟨S2048x2304, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel13.lean ====
abbrev S8x2048 : Shape := ⟨2, ![8, 2048]⟩
abbrev S2048x2304 : Shape := ⟨2, ![2048, 2304]⟩
abbrev S1x2304 : Shape := ⟨2, ![1, 2304]⟩
abbrev S8x2304 : Shape := ⟨2, ![8, 2304]⟩
abbrev S2048x768 : Shape := ⟨2, ![2048, 768]⟩
abbrev S1x768 : Shape := ⟨2, ![1, 768]⟩
abbrev S8x768 : Shape := ⟨2, ![8, 768]⟩

abbrev nBuf : Space → Nat
  | .hbm => 4
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S2048x2304, .f32⟩
  | .hbm, ⟨2, _⟩ => ⟨S1x2304, .f32⟩
  | .hbm, ⟨3, _⟩ => ⟨S8x2304, .f32⟩
  | .local _ .vmem, ⟨0, _⟩ => ⟨S8x2048, .f32⟩
  | .local _ .vmem, ⟨1, _⟩ => ⟨S2048x768, .f32⟩
  | .local _ .vmem, ⟨2, _⟩ => ⟨S2048x768, .f32⟩
  | .local _ .vmem, ⟨3, _⟩ => ⟨S1x768, .f32⟩
  | .local _ .vmem, ⟨4, _⟩ => ⟨S1x768, .f32⟩
  | .local _ .vmem, ⟨5, _⟩ => ⟨S8x768, .f32⟩
  | .local _ .vmem, ⟨6, _⟩ => ⟨S8x768, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S8x2048 : Shape := ⟨2, ![8, 2048]⟩
abbrev S2048x2304 : Shape := ⟨2, ![2048, 2304]⟩
abbrev S1x2304 : Shape := ⟨2, ![1, 2304]⟩
abbrev S_ : Shape := ⟨0, ![]⟩
abbrev S8x2304 : Shape := ⟨2, ![8, 2304]⟩

abbrev nBuf : Space → Nat
  | .hbm => 15
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S2048x2304, .f32⟩
  | .hbm, ⟨2, _⟩ => ⟨S1x2304, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S8x2304, .f32⟩
  | .hbm, ⟨13, _⟩ => ⟨S8x2304, .f32⟩
  | .hbm, ⟨14, _⟩ => ⟨S8x2304, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩

abbrev nD : Nat := 1
abbrev τ : Topo := Topo.v7x

variable {F : FTy → Type} [FloatOps F]
-- ==== Kernel14.lean ====
abbrev S4096x2048 : Shape := ⟨2, ![4096, 2048]⟩
abbrev S1x2048 : Shape := ⟨2, ![1, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 10
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S2048x11264, .f32⟩
  | .hbm, ⟨4, _⟩ => ⟨S2048x11264, .bf16⟩
  | .hbm, ⟨5, _⟩ => ⟨S2048x8x1408, .bf16⟩
  | .hbm, ⟨6, _⟩ => ⟨S8x2048x1408, .bf16⟩
  | .hbm, ⟨7, _⟩ => ⟨S4096x5632, .bf16⟩
  | .hbm, ⟨8, _⟩ => ⟨S4096x5632, .bf16⟩
  | .hbm, ⟨9, _⟩ => ⟨S4096x5632, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2048x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x2048x1408 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference14Ideal.lean ====
abbrev S4096x2048 : Shape := ⟨2, ![4096, 2048]⟩
abbrev S1x2048 : Shape := ⟨2, ![1, 2048]⟩
abbrev S2048x11264 : Shape := ⟨2, ![2048, 11264]⟩
abbrev S_ : Shape := ⟨0, ![]⟩
abbrev S4096x11264 : Shape := ⟨2, ![4096, 11264]⟩
abbrev S4096x5632 : Shape := ⟨2, ![4096, 5632]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S2048x11264, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x11264, .f32⟩
  | .hbm, ⟨12, _⟩ => ⟨S4096x5632, .f32⟩
  | .hbm, ⟨13, _⟩ => ⟨S4096x5632, .f32⟩
  | .hbm, ⟨14, _⟩ => ⟨S4096x5632, .bf16⟩
  | .hbm, ⟨15, _⟩ => ⟨S4096x5632, .bf16⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x5632, .f32⟩
  | .hbm, ⟨20, _⟩ => ⟨S4096x5632, .f32⟩
  | .hbm, ⟨21, _⟩ => ⟨S_, .f32⟩
  | .hbm, ⟨22, _⟩ => ⟨S4096x5632, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩

abbrev nD : Nat := 1
abbrev τ : Topo := Topo.v7x

variable {F : FTy → Type} [FloatOps F]
-- ==== Kernel15.lean ====
abbrev S4096x2048 : Shape := ⟨2, ![4096, 2048]⟩
abbrev S1x2048 : Shape := ⟨2, ![1, 2048]⟩
abbrev S2048x10256 : Shape := ⟨2, ![2048, 10256]⟩
abbrev S10256x2048 : Shape := ⟨2, ![10256, 2048]⟩
abbrev S8x1282x2048 : Shape := ⟨3, ![8, 1282, 2048]⟩
abbrev S6144x2048 : Shape := ⟨2, ![6144, 2048]⟩
abbrev S16x2048 : Shape := ⟨2, ![16, 2048]⟩
abbrev S_ : Shape := ⟨0, ![]⟩
abbrev S112x2048 : Shape := ⟨2, ![112, 2048]⟩
abbrev S10368x2048 : Shape := ⟨2, ![10368, 2048]⟩
abbrev S4096x10368 : Shape := ⟨2, ![4096, 10368]⟩
abbrev S512x2048 : Shape := ⟨2, ![512, 2048]⟩
abbrev S1152x2048 : Shape := ⟨2, ![1152, 2048]⟩
abbrev S512x1152 : Shape := ⟨2, ![512, 1152]⟩

abbrev nBuf : Space → Nat
  | .hbm => 15
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S2048x10256, .f32⟩
  | .hbm, ⟨4, _⟩ => ⟨S2048x10256, .bf16⟩
  | .hbm, ⟨5, _⟩ => ⟨S10256x2048, .bf16⟩
  | .hbm, ⟨6, _⟩ => ⟨S8x1282x2048, .bf16⟩
  | .hbm, ⟨7, _⟩ => ⟨S10256x2048, .bf16⟩
  | .hbm, ⟨8, _⟩ => ⟨S6144x2048, .bf16⟩
  | .hbm, ⟨9, _⟩ => ⟨S4096x2048, .bf16⟩
  | .hbm, ⟨10, _⟩ => ⟨S16x2048, .bf16⟩
  | .hbm, ⟨11, _⟩ => ⟨S_, .bf16⟩
  | .hbm, ⟨12, _⟩ => ⟨S112x2048, .bf16⟩
  | .hbm, ⟨13, _⟩ => ⟨S10368x2048, .bf16⟩
  | .hbm, ⟨14, _⟩ => ⟨S4096x10368, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1152x2048, .bf16⟩
  | .local _ .vmem, ⟨5, _⟩ => ⟨S1152x2048, .bf16⟩
  | .local _ .vmem, ⟨6, _⟩ => ⟨S512x1152, .bf16⟩
  | .local _ .vmem, ⟨7, _⟩ => ⟨S512x1152, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![9, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1152x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference15Ideal.lean ====
abbrev S4096x2048 : Shape := ⟨2, ![4096, 2048]⟩
abbrev S1x2048 : Shape := ⟨2, ![1, 2048]⟩
abbrev S2048x10256 : Shape := ⟨2, ![2048, 10256]⟩
abbrev S_ : Shape := ⟨0, ![]⟩
abbrev S4096x10256 : Shape := ⟨2, ![4096, 10256]⟩
abbrev S4096x1024 : Shape := ⟨2, ![4096, 1024]⟩
abbrev S4096x512 : Shape := ⟨2, ![4096, 512]⟩
abbrev S4096x16 : Shape := ⟨2, ![4096, 16]⟩
abbrev S4096x112 : Shape := ⟨2, ![4096, 112]⟩
abbrev S4096x10368 : Shape := ⟨2, ![4096, 10368]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S2048x10256, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x10256, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x512, .f32⟩
  | .hbm, ⟨16, _⟩ => ⟨S4096x512, .f32⟩
  | .hbm, ⟨17, _⟩ => ⟨S4096x1024, .f32⟩
  | .hbm, ⟨18, _⟩ => ⟨S4096x1024, .f32⟩
  | .hbm, ⟨19, _⟩ => ⟨S4096x16, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x112, .f32⟩
  | .hbm, ⟨24, _⟩ => ⟨S4096x10368, .f32⟩
  | .hbm, ⟨25, _⟩ => ⟨S4096x10368, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Kernel16.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S256x5632 : Shape := ⟨2, ![256, 5632]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S5632x2048, .bf16⟩
  | .hbm, ⟨7, _⟩ => ⟨S4096x2048, .bf16⟩
  | .hbm, ⟨8, _⟩ => ⟨S4096x2048, .f32⟩
  | .hbm, ⟨9, _⟩ => ⟨S4096x2048, .f32⟩
  | .local _ .vmem, ⟨0, _⟩ => ⟨S256x5632, .bf16⟩
  | .local _ .vmem, ⟨1, _⟩ => ⟨S256x5632, .bf16⟩
  | .local _ .vmem, ⟨2, _⟩ => ⟨S5632x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x5632, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S4096x2048, .f32⟩
  | .hbm, ⟨15, _⟩ => ⟨S4096x2048, .f32⟩
  | .hbm, ⟨16, _⟩ => ⟨S4096x2048, .f32⟩
  | .hbm, ⟨17, _⟩ => ⟨S4096x2048, .bf16⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x2048, .f32⟩
  | .hbm, ⟨34, _⟩ => ⟨S4096x2048, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel17.lean ====
abbrev S4096x1024 : Shape := ⟨2, ![4096, 1024]⟩
abbrev S1024x2048 : Shape := ⟨2, ![1024, 2048]⟩
abbrev S4096x10256 : Shape := ⟨2, ![4096, 10256]⟩
abbrev S4096x6144 : Shape := ⟨2, ![4096, 6144]⟩
abbrev S4096x4096 : Shape := ⟨2, ![4096, 4096]⟩
abbrev S4096x16 : Shape := ⟨2, ![4096, 16]⟩
abbrev S_ : Shape := ⟨0, ![]⟩
abbrev S4096x112 : Shape := ⟨2, ![4096, 112]⟩
abbrev S4096x10368 : Shape := ⟨2, ![4096, 10368]⟩
abbrev S1024x8x256 : Shape := ⟨3, ![1024, 8, 256]⟩
abbrev S8x1024x256 : Shape := ⟨3, ![8, 1024, 256]⟩
abbrev S4096x2048 : Shape := ⟨2, ![4096, 2048]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 21
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x2048, .f32⟩
  | .hbm, ⟨3, _⟩ => ⟨S1024x2048, .f32⟩
  | .hbm, ⟨4, _⟩ => ⟨S4096x10256, .f32⟩
  | .hbm, ⟨5, _⟩ => ⟨S4096x6144, .f32⟩
  | .hbm, ⟨6, _⟩ => ⟨S4096x4096, .f32⟩
  | .hbm, ⟨7, _⟩ => ⟨S4096x16, .f32⟩
  | .hbm, ⟨8, _⟩ => ⟨S_, .f32⟩
  | .hbm, ⟨9, _⟩ => ⟨S4096x112, .f32⟩
  | .hbm, ⟨10, _⟩ => ⟨S4096x10368, .f32⟩
  | .hbm, ⟨11, _⟩ => ⟨S4096x10368, .bf16⟩
  | .hbm, ⟨12, _⟩ => ⟨S1024x2048, .bf16⟩
  | .hbm, ⟨13, _⟩ => ⟨S1024x8x256, .bf16⟩
  | .hbm, ⟨14, _⟩ => ⟨S8x1024x256, .bf16⟩
  | .hbm, ⟨15, _⟩ => ⟨S1024x2048, .bf16⟩
  | .hbm, ⟨16, _⟩ => ⟨S1024x8x256, .bf16⟩
  | .hbm, ⟨17, _⟩ => ⟨S8x1024x256, .bf16⟩
  | .hbm, ⟨18, _⟩ => ⟨S4096x2048, .bf16⟩
  | .hbm, ⟨19, _⟩ => ⟨S4096x2048, .bf16⟩
  | .hbm, ⟨20, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x256, .bf16⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S1024x256, .bf16⟩
  | .local _ .vmem, ⟨14, _⟩ => ⟨S1024x256, .bf16⟩
  | .local _ .vmem, ⟨15, _⟩ => ⟨S1024x256, .bf16⟩
  | .local _ .vmem, ⟨16, _⟩ => ⟨S1024x256, .bf16⟩
  | .local _ .vmem, ⟨17, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev main_v12_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference17Ideal.lean ====
abbrev S4096x1024 : Shape := ⟨2, ![4096, 1024]⟩
abbrev S1024x2048 : Shape := ⟨2, ![1024, 2048]⟩
abbrev S4096x10256 : Shape := ⟨2, ![4096, 10256]⟩
abbrev S4096x512 : Shape := ⟨2, ![4096, 512]⟩
abbrev S4096x16 : Shape := ⟨2, ![4096, 16]⟩
abbrev S4096x2048 : Shape := ⟨2, ![4096, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x2048, .f32⟩
  | .hbm, ⟨3, _⟩ => ⟨S1024x2048, .f32⟩
  | .hbm, ⟨4, _⟩ => ⟨S4096x10256, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x512, .f32⟩
  | .hbm, ⟨9, _⟩ => ⟨S4096x512, .f32⟩
  | .hbm, ⟨10, _⟩ => ⟨S4096x1024, .f32⟩
  | .hbm, ⟨11, _⟩ => ⟨S4096x1024, .f32⟩
  | .hbm, ⟨12, _⟩ => ⟨S4096x16, .f32⟩
  | .hbm, ⟨13, _⟩ => ⟨S4096x2048, .f32⟩
  | .hbm, ⟨14, _⟩ => ⟨S4096x2048, .f32⟩
  | .hbm, ⟨15, _⟩ => ⟨S4096x1024, .f32⟩
  | .hbm, ⟨16, _⟩ => ⟨S4096x2048, .f32⟩
  | .hbm, ⟨17, _⟩ => ⟨S4096x1024, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .bf16⟩
  | .hbm, ⟨39, _⟩ => ⟨S4096x2048, .bf16⟩
  | .hbm, ⟨40, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_cst_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_1 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel18.lean ====
abbrev S1024x2048 : Shape := ⟨2, ![1024, 2048]⟩
abbrev S4096x2048 : Shape := ⟨2, ![4096, 2048]⟩
abbrev S1024x8x256 : Shape := ⟨3, ![1024, 8, 256]⟩
abbrev S8x1024x256 : Shape := ⟨3, ![8, 1024, 256]⟩
abbrev S4096x1024 : Shape := ⟨2, ![4096, 1024]⟩
abbrev S512x2048 : Shape := ⟨2, ![512, 2048]⟩
abbrev S512x1024 : Shape := ⟨2, ![512, 1024]⟩
abbrev S512x256 : Shape := ⟨2, ![512, 256]⟩
abbrev S1x1024x256 : Shape := ⟨3, ![1, 1024, 256]⟩
abbrev S1024x256 : Shape := ⟨2, ![1024, 256]⟩

abbrev nBuf : Space → Nat
  | .hbm => 6
  | .vmem => 5
  | .smem => 0
  | _ => 0

abbrev bufTy : (tb : Table) → Fin (tcTables nBuf tb) → BufTy
  | .hbm, ⟨0, _⟩ => ⟨S1024x2048, .f32⟩
  | .hbm, ⟨1, _⟩ => ⟨S4096x2048, .bf16⟩
  | .hbm, ⟨2, _⟩ => ⟨S1024x2048, .bf16⟩
  | .hbm, ⟨3, _⟩ => ⟨S1024x8x256, .bf16⟩
  | .hbm, ⟨4, _⟩ => ⟨S8x1024x256, .bf16⟩
  | .hbm, ⟨5, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S8x1024x256, .bf16⟩
  | .local _ .vmem, ⟨3, _⟩ => ⟨S512x1024, .bf16⟩
  | .local _ .vmem, ⟨4, _⟩ => ⟨S512x1024, .bf16⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S1024x2048 : Shape := ⟨2, ![1024, 2048]⟩
abbrev S4096x2048 : Shape := ⟨2, ![4096, 2048]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S4096x2048, .bf16⟩
  | .hbm, ⟨2, _⟩ => ⟨S_, .f32⟩
  | .hbm, ⟨3, _⟩ => ⟨S4096x1024, .f32⟩
  | .hbm, ⟨4, _⟩ => ⟨S4096x2048, .f32⟩
  | .hbm, ⟨5, _⟩ => ⟨S4096x2048, .f32⟩
  | .hbm, ⟨6, _⟩ => ⟨S4096x1024, .f32⟩
  | .hbm, ⟨7, _⟩ => ⟨S4096x1024, .bf16⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S2048x2304 : Shape := ⟨2, ![2048, 2304]⟩
abbrev S1x2048x2304 : Shape := ⟨3, ![1, 2048, 2304]⟩
abbrev S1x256x2304 : Shape := ⟨3, ![1, 256, 2304]⟩
abbrev S256x2304 : Shape := ⟨2, ![256, 2304]⟩

abbrev nBuf : Space → Nat
  | .hbm => 9
  | .vmem => 16
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S1x2048x2304, .f32⟩
  | .hbm, ⟨5, _⟩ => ⟨S2048x2304, .f32⟩
  | .hbm, ⟨6, _⟩ => ⟨S2048x2304, .f32⟩
  | .hbm, ⟨7, _⟩ => ⟨S2048x2304, .f32⟩
  | .hbm, ⟨8, _⟩ => ⟨S2048x2304, .f32⟩
  | .local _ .vmem, ⟨0, _⟩ => ⟨S1x256x2304, .f32⟩
  | .local _ .vmem, ⟨1, _⟩ => ⟨S1x256x2304, .f32⟩
  | .local _ .vmem, ⟨2, _⟩ => ⟨S256x2304, .f32⟩
  | .local _ .vmem, ⟨3, _⟩ => ⟨S256x2304, .f32⟩
  | .local _ .vmem, ⟨4, _⟩ => ⟨S256x2304, .f32⟩
  | .local _ .vmem, ⟨5, _⟩ => ⟨S256x2304, .f32⟩
  | .local _ .vmem, ⟨6, _⟩ => ⟨S256x2304, .f32⟩
  | .local _ .vmem, ⟨7, _⟩ => ⟨S256x2304, .f32⟩
  | .local _ .vmem, ⟨8, _⟩ => ⟨S256x2304, .f32⟩
  | .local _ .vmem, ⟨9, _⟩ => ⟨S256x2304, .f32⟩
  | .local _ .vmem, ⟨10, _⟩ => ⟨S256x2304, .f32⟩
  | .local _ .vmem, ⟨11, _⟩ => ⟨S256x2304, .f32⟩
  | .local _ .vmem, ⟨12, _⟩ => ⟨S256x2304, .f32⟩
  | .local _ .vmem, ⟨13, _⟩ => ⟨S256x2304, .f32⟩
  | .local _ .vmem, ⟨14, _⟩ => ⟨S256x2304, .f32⟩
  | .local _ .vmem, ⟨15, _⟩ => ⟨S256x2304, .f32⟩
  | _, _ => ⟨S2048x2304, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x2304 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2304 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2304 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2304 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2304 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2304 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2304 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference19Ideal.lean ====
abbrev S2048x2304 : Shape := ⟨2, ![2048, 2304]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2304, .f32⟩
  | .hbm, ⟨1, _⟩ => ⟨S2048x2304, .f32⟩
  | .hbm, ⟨2, _⟩ => ⟨S2048x2304, .f32⟩
  | .hbm, ⟨3, _⟩ => ⟨S2048x2304, .f32⟩
  | .hbm, ⟨4, _⟩ => ⟨S_, .f32⟩
  | .hbm, ⟨5, _⟩ => ⟨S2048x2304, .f32⟩
  | .hbm, ⟨6, _⟩ => ⟨S2048x2304, .f32⟩
  | .hbm, ⟨7, _⟩ => ⟨S_, .f32⟩
  | .hbm, ⟨8, _⟩ => ⟨S2048x2304, .f32⟩
  | .hbm, ⟨9, _⟩ => ⟨S2048x2304, .f32⟩
  | .hbm, ⟨10, _⟩ => ⟨S2048x2304, .f32⟩
  | .hbm, ⟨11, _⟩ => ⟨S_, .f32⟩
  | .hbm, ⟨12, _⟩ => ⟨S2048x2304, .f32⟩
  | .hbm, ⟨13, _⟩ => ⟨S2048x2304, .f32⟩
  | .hbm, ⟨14, _⟩ => ⟨S2048x2304, .f32⟩
  | .hbm, ⟨15, _⟩ => ⟨S_, .f32⟩
  | .hbm, ⟨16, _⟩ => ⟨S2048x2304, .f32⟩
  | .hbm, ⟨17, _⟩ => ⟨S2048x2304, .f32⟩
  | .hbm, ⟨18, _⟩ => ⟨S2048x2304, .f32⟩
  | .hbm, ⟨19, _⟩ => ⟨S_, .f32⟩
  | .hbm, ⟨20, _⟩ => ⟨S2048x2304, .f32⟩
  | .hbm, ⟨21, _⟩ => ⟨S2048x2304, .f32⟩
  | .hbm, ⟨22, _⟩ => ⟨S_, .f32⟩
  | .hbm, ⟨23, _⟩ => ⟨S2048x2304, .f32⟩
  | .hbm, ⟨24, _⟩ => ⟨S2048x2304, .f32⟩
  | .hbm, ⟨25, _⟩ => ⟨S2048x2304, .f32⟩
  | .hbm, ⟨26, _⟩ => ⟨S_, .f32⟩
  | .hbm, ⟨27, _⟩ => ⟨S2048x2304, .f32⟩
  | .hbm, ⟨28, _⟩ => ⟨S2048x2304, .f32⟩
  | .hbm, ⟨29, _⟩ => ⟨S2048x2304, .f32⟩
  | .hbm, ⟨30, _⟩ => ⟨S_, .f32⟩
  | .hbm, ⟨31, _⟩ => ⟨S2048x2304, .f32⟩
  | .hbm, ⟨32, _⟩ => ⟨S2048x2304, .f32⟩
  | .hbm, ⟨33, _⟩ => ⟨S2048x2304, .f32⟩
  | .hbm, ⟨34, _⟩ => ⟨S_, .f32⟩
  | .hbm, ⟨35, _⟩ => ⟨S2048x2304, .f32⟩
  | .hbm, ⟨36, _⟩ => ⟨S2048x2304, .f32⟩
  | _, _ => ⟨S2048x2304, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S4096x2048 : Shape := ⟨2, ![4096, 2048]⟩
abbrev S1x2048 : Shape := ⟨2, ![1, 2048]⟩
abbrev S4096x5632 : Shape := ⟨2, ![4096, 5632]⟩
abbrev S1x4096x5632 : Shape := ⟨3, ![1, 4096, 5632]⟩
abbrev S2x4096x5632 : Shape := ⟨3, ![2, 4096, 5632]⟩
abbrev S8x2048x1408 : Shape := ⟨3, ![8, 2048, 1408]⟩
abbrev S1024x2048 : Shape := ⟨2, ![1024, 2048]⟩
abbrev S1x1024x1408 : Shape := ⟨3, ![1, 1024, 1408]⟩
abbrev S1x2048x1408 : Shape := ⟨3, ![1, 2048, 1408]⟩
abbrev S2048x1408 : Shape := ⟨2, ![2048, 1408]⟩
abbrev S1024x1408 : Shape := ⟨2, ![1024, 1408]⟩

abbrev nBuf : Space → Nat
  | .hbm => 9
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x5632, .bf16⟩
  | .hbm, ⟨4, _⟩ => ⟨S4096x5632, .bf16⟩
  | .hbm, ⟨5, _⟩ => ⟨S1x4096x5632, .bf16⟩
  | .hbm, ⟨6, _⟩ => ⟨S1x4096x5632, .bf16⟩
  | .hbm, ⟨7, _⟩ => ⟨S2x4096x5632, .bf16⟩
  | .hbm, ⟨8, _⟩ => ⟨S8x2048x1408, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x2048, .f32⟩
  | .local _ .vmem, ⟨4, _⟩ => ⟨S1x1024x1408, .bf16⟩
  | .local _ .vmem, ⟨5, _⟩ => ⟨S1x1024x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S2048x1408, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_14 : BitVec 32 := 0#32
  let v23 : BitVec 1 := Scalar.cmpi .ne v22 c0_i32_14
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference20Ideal.lean ====
abbrev S4096x2048 : Shape := ⟨2, ![4096, 2048]⟩
abbrev S1x2048 : Shape := ⟨2, ![1, 2048]⟩
abbrev S4096x5632 : Shape := ⟨2, ![4096, 5632]⟩
abbrev S_ : Shape := ⟨0, ![]⟩
abbrev S2048x11264 : Shape := ⟨2, ![2048, 11264]⟩
abbrev S4096x11264 : Shape := ⟨2, ![4096, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x5632, .bf16⟩
  | .hbm, ⟨4, _⟩ => ⟨S4096x5632, .bf16⟩
  | .hbm, ⟨5, _⟩ => ⟨S_, .f32⟩
  | .hbm, ⟨6, _⟩ => ⟨S2048x11264, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x11264, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x11264, .f32⟩
  | .hbm, ⟨20, _⟩ => ⟨S11264x2048, .f32⟩
  | .hbm, ⟨21, _⟩ => ⟨S2048x11264, .f32⟩
  | .hbm, ⟨22, _⟩ => ⟨S2048x11264, .bf16⟩
  | .hbm, ⟨23, _⟩ => ⟨S2048x8x1408, .bf16⟩
  | .hbm, ⟨24, _⟩ => ⟨S8x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel21.lean ====
abbrev S4096x5632 : Shape := ⟨2, ![4096, 5632]⟩
abbrev S4096x2048 : Shape := ⟨2, ![4096, 2048]⟩
abbrev S5632x2048 : Shape := ⟨2, ![5632, 2048]⟩
abbrev S1024x1408 : Shape := ⟨2, ![1024, 1408]⟩
abbrev S1024x2048 : Shape := ⟨2, ![1024, 2048]⟩
abbrev S1408x2048 : Shape := ⟨2, ![1408, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x2048, .bf16⟩
  | .local _ .vmem, ⟨3, _⟩ => ⟨S1024x2048, .bf16⟩
  | .local _ .vmem, ⟨4, _⟩ => ⟨S1408x2048, .bf16⟩
  | .local _ .vmem, ⟨5, _⟩ => ⟨S1408x2048, .bf16⟩
  | .local _ .vmem, ⟨6, _⟩ => ⟨S1408x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference21Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel22.lean ====
abbrev S4096x2048 : Shape := ⟨2, ![4096, 2048]⟩
abbrev S1x2048 : Shape := ⟨2, ![1, 2048]⟩
abbrev S2048x11264 : Shape := ⟨2, ![2048, 11264]⟩
abbrev S4096x5632 : Shape := ⟨2, ![4096, 5632]⟩
abbrev S2048x8x1408 : Shape := ⟨3, ![2048, 8, 1408]⟩
abbrev S8x2048x1408 : Shape := ⟨3, ![8, 2048, 1408]⟩
abbrev S2048x5632 : Shape := ⟨2, ![2048, 5632]⟩
abbrev S1x4096x5632 : Shape := ⟨3, ![1, 4096, 5632]⟩
abbrev S2x4096x5632 : Shape := ⟨3, ![2, 4096, 5632]⟩
abbrev S1x256x5632 : Shape := ⟨3, ![1, 256, 5632]⟩
abbrev S4x2048x1408 : Shape := ⟨3, ![4, 2048, 1408]⟩
abbrev S256x2048 : Shape := ⟨2, ![256, 2048]⟩
abbrev S1x256x1408 : Shape := ⟨3, ![1, 256, 1408]⟩
abbrev S256x1408 : Shape := ⟨2, ![256, 1408]⟩
abbrev S1x2048x1408 : Shape := ⟨3, ![1, 2048, 1408]⟩
abbrev S2048x1408 : Shape := ⟨2, ![2048, 1408]⟩
abbrev S2048 : Shape := ⟨1, ![2048]⟩

abbrev nBuf : Space → Nat
  | .hbm => 18
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x11264, .f32⟩
  | .hbm, ⟨3, _⟩ => ⟨S4096x5632, .bf16⟩
  | .hbm, ⟨4, _⟩ => ⟨S4096x5632, .bf16⟩
  | .hbm, ⟨5, _⟩ => ⟨S4096x2048, .f32⟩
  | .hbm, ⟨6, _⟩ => ⟨S2048x11264, .bf16⟩
  | .hbm, ⟨7, _⟩ => ⟨S2048x8x1408, .bf16⟩
  | .hbm, ⟨8, _⟩ => ⟨S8x2048x1408, .bf16⟩
  | .hbm, ⟨9, _⟩ => ⟨S2048x5632, .f32⟩
  | .hbm, ⟨10, _⟩ => ⟨S2048x5632, .bf16⟩
  | .hbm, ⟨11, _⟩ => ⟨S4096x2048, .f32⟩
  | .hbm, ⟨12, _⟩ => ⟨S1x4096x5632, .bf16⟩
  | .hbm, ⟨13, _⟩ => ⟨S1x4096x5632, .bf16⟩
  | .hbm, ⟨14, _⟩ => ⟨S2x4096x5632, .bf16⟩
  | .hbm, ⟨15, _⟩ => ⟨S4096x2048, .f32⟩
  | .hbm, ⟨16, _⟩ => ⟨S1x2048, .f32⟩
  | .hbm, ⟨17, _⟩ => ⟨S1x2048, .f32⟩
  | .local _ .vmem, ⟨0, _⟩ => ⟨S1x256x5632, .bf16⟩
  | .local _ .vmem, ⟨1, _⟩ => ⟨S1x256x5632, .bf16⟩
  | .local _ .vmem, ⟨2, _⟩ => ⟨S4x2048x1408, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference22Ideal.lean ====
abbrev S4096x2048 : Shape := ⟨2, ![4096, 2048]⟩
abbrev S1x2048 : Shape := ⟨2, ![1, 2048]⟩
abbrev S2048x11264 : Shape := ⟨2, ![2048, 11264]⟩
abbrev S4096x5632 : Shape := ⟨2, ![4096, 5632]⟩
abbrev S_ : Shape := ⟨0, ![]⟩
abbrev S4096x11264 : Shape := ⟨2, ![4096, 11264]⟩
abbrev S2048 : Shape := ⟨1, ![2048]⟩

abbrev nBuf : Space → Nat
  | .hbm => 38
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x11264, .f32⟩
  | .hbm, ⟨3, _⟩ => ⟨S4096x5632, .bf16⟩
  | .hbm, ⟨4, _⟩ => ⟨S4096x5632, .bf16⟩
  | .hbm, ⟨5, _⟩ => ⟨S4096x2048, .f32⟩
  | .hbm, ⟨6, _⟩ => ⟨S_, .f32⟩
  | .hbm, ⟨7, _⟩ => ⟨S1x2048, .f32⟩
  | .hbm, ⟨8, _⟩ => ⟨S_, .f32⟩
  | .hbm, ⟨9, _⟩ => ⟨S1x2048, .f32⟩
  | .hbm, ⟨10, _⟩ => ⟨S1x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S4096x11264, .f32⟩
  | .hbm, ⟨16, _⟩ => ⟨S4096x5632, .f32⟩
  | .hbm, ⟨17, _⟩ => ⟨S4096x5632, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x5632, .f32⟩
  | .hbm, ⟨22, _⟩ => ⟨S4096x5632, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S4096x11264, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== Kernel25.lean ====
abbrev S4096x2048 : Shape := ⟨2, ![4096, 2048]⟩
abbrev S1x2048 : Shape := ⟨2, ![1, 2048]⟩
abbrev S2048x10256 : Shape := ⟨2, ![2048, 10256]⟩
abbrev S4096x10256 : Shape := ⟨2, ![4096, 10256]⟩
abbrev S10256x2048 : Shape := ⟨2, ![10256, 2048]⟩
abbrev S8x1282x2048 : Shape := ⟨3, ![8, 1282, 2048]⟩
abbrev S6144x2048 : Shape := ⟨2, ![6144, 2048]⟩
abbrev S16x2048 : Shape := ⟨2, ![16, 2048]⟩
abbrev S_ : Shape := ⟨0, ![]⟩
abbrev S112x2048 : Shape := ⟨2, ![112, 2048]⟩
abbrev S10368x2048 : Shape := ⟨2, ![10368, 2048]⟩
abbrev S4096x6144 : Shape := ⟨2, ![4096, 6144]⟩
abbrev S4096x4096 : Shape := ⟨2, ![4096, 4096]⟩
abbrev S4096x16 : Shape := ⟨2, ![4096, 16]⟩
abbrev S4096x112 : Shape := ⟨2, ![4096, 112]⟩
abbrev S4096x10368 : Shape := ⟨2, ![4096, 10368]⟩
abbrev S4096x6912 : Shape := ⟨2, ![4096, 6912]⟩
abbrev S6912x2048 : Shape := ⟨2, ![6912, 2048]⟩
abbrev S256x3456 : Shape := ⟨2, ![256, 3456]⟩
abbrev S3456x2048 : Shape := ⟨2, ![3456, 2048]⟩
abbrev S256x2048 : Shape := ⟨2, ![256, 2048]⟩
abbrev S2048 : Shape := ⟨1, ![2048]⟩

abbrev nBuf : Space → Nat
  | .hbm => 28
  | .vmem => 14
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x10256, .f32⟩
  | .hbm, ⟨3, _⟩ => ⟨S4096x10256, .f32⟩
  | .hbm, ⟨4, _⟩ => ⟨S4096x2048, .f32⟩
  | .hbm, ⟨5, _⟩ => ⟨S2048x10256, .bf16⟩
  | .hbm, ⟨6, _⟩ => ⟨S10256x2048, .bf16⟩
  | .hbm, ⟨7, _⟩ => ⟨S8x1282x2048, .bf16⟩
  | .hbm, ⟨8, _⟩ => ⟨S10256x2048, .bf16⟩
  | .hbm, ⟨9, _⟩ => ⟨S6144x2048, .bf16⟩
  | .hbm, ⟨10, _⟩ => ⟨S4096x2048, .bf16⟩
  | .hbm, ⟨11, _⟩ => ⟨S16x2048, .bf16⟩
  | .hbm, ⟨12, _⟩ => ⟨S_, .bf16⟩
  | .hbm, ⟨13, _⟩ => ⟨S112x2048, .bf16⟩
  | .hbm, ⟨14, _⟩ => ⟨S10368x2048, .bf16⟩
  | .hbm, ⟨15, _⟩ => ⟨S4096x6144, .f32⟩
  | .hbm, ⟨16, _⟩ => ⟨S4096x4096, .f32⟩
  | .hbm, ⟨17, _⟩ => ⟨S4096x16, .f32⟩
  | .hbm, ⟨18, _⟩ => ⟨S_, .f32⟩
  | .hbm, ⟨19, _⟩ => ⟨S4096x112, .f32⟩
  | .hbm, ⟨20, _⟩ => ⟨S4096x10368, .f32⟩
  | .hbm, ⟨21, _⟩ => ⟨S4096x10368, .bf16⟩
  | .hbm, ⟨22, _⟩ => ⟨S4096x6912, .bf16⟩
  | .hbm, ⟨23, _⟩ => ⟨S6912x2048, .bf16⟩
  | .hbm, ⟨24, _⟩ => ⟨S4096x2048, .f32⟩
  | .hbm, ⟨25, _⟩ => ⟨S4096x2048, .f32⟩
  | .hbm, ⟨26, _⟩ => ⟨S1x2048, .f32⟩
  | .hbm, ⟨27, _⟩ => ⟨S1x2048, .f32⟩
  | .local _ .vmem, ⟨0, _⟩ => ⟨S256x3456, .bf16⟩
  | .local _ .vmem, ⟨1, _⟩ => ⟨S256x3456, .bf16⟩
  | .local _ .vmem, ⟨2, _⟩ => ⟨S3456x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S256x2048, .f32⟩
  | .local _ .vmem, ⟨11, _⟩ => ⟨S256x2048, .f32⟩
  | .local _ .vmem, ⟨12, _⟩ => ⟨S1x2048, .f32⟩
  | .local _ .vmem, ⟨13, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c2_i32 : BitVec 32 := 2#32
  let c0_i32 : BitVec 32 := 0#32
  let c0_i32_0 : BitVec 32 := 0#32
  ![c2_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3456x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference25Ideal.lean ====
abbrev S4096x2048 : Shape := ⟨2, ![4096, 2048]⟩
abbrev S1x2048 : Shape := ⟨2, ![1, 2048]⟩
abbrev S2048x10256 : Shape := ⟨2, ![2048, 10256]⟩
abbrev S4096x10256 : Shape := ⟨2, ![4096, 10256]⟩
abbrev S_ : Shape := ⟨0, ![]⟩
abbrev S2048 : Shape := ⟨1, ![2048]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048x10256, .f32⟩
  | .hbm, ⟨3, _⟩ => ⟨S4096x10256, .f32⟩
  | .hbm, ⟨4, _⟩ => ⟨S4096x2048, .f32⟩
  | .hbm, ⟨5, _⟩ => ⟨S_, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S_, .f32⟩
  | .hbm, ⟨15, _⟩ => ⟨S4096x2048, .f32⟩
  | .hbm, ⟨16, _⟩ => ⟨S4096x2048, .f32⟩
  | .hbm, ⟨17, _⟩ => ⟨S4096x10256, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S2048, .f32⟩
  | .hbm, ⟨24, _⟩ => ⟨S1x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== Kernel26.lean ====
abbrev S2048x10256 : Shape := ⟨2, ![2048, 10256]⟩
abbrev S4096x10256 : Shape := ⟨2, ![4096, 10256]⟩
abbrev S10256x2048 : Shape := ⟨2, ![10256, 2048]⟩
abbrev S8x1282x2048 : Shape := ⟨3, ![8, 1282, 2048]⟩
abbrev S6144x2048 : Shape := ⟨2, ![6144, 2048]⟩
abbrev S4096x2048 : Shape := ⟨2, ![4096, 2048]⟩
abbrev S16x2048 : Shape := ⟨2, ![16, 2048]⟩
abbrev S_ : Shape := ⟨0, ![]⟩
abbrev S112x2048 : Shape := ⟨2, ![112, 2048]⟩
abbrev S10368x2048 : Shape := ⟨2, ![10368, 2048]⟩
abbrev S4096x6144 : Shape := ⟨2, ![4096, 6144]⟩
abbrev S4096x4096 : Shape := ⟨2, ![4096, 4096]⟩
abbrev S4096x16 : Shape := ⟨2, ![4096, 16]⟩
abbrev S4096x112 : Shape := ⟨2, ![4096, 112]⟩
abbrev S4096x10368 : Shape := ⟨2, ![4096, 10368]⟩
abbrev S256x3456 : Shape := ⟨2, ![256, 3456]⟩
abbrev S3456x2048 : Shape := ⟨2, ![3456, 2048]⟩
abbrev S256x2048 : Shape := ⟨2, ![256, 2048]⟩

abbrev nBuf : Space → Nat
  | .hbm => 20
  | .vmem => 5
  | .smem => 0
  | _ => 0

abbrev bufTy : (tb : Table) → Fin (tcTables nBuf tb) → BufTy
  | .hbm, ⟨0, _⟩ => ⟨S2048x10256, .f32⟩
  | .hbm, ⟨1, _⟩ => ⟨S4096x10256, .f32⟩
  | .hbm, ⟨2, _⟩ => ⟨S2048x10256, .bf16⟩
  | .hbm, ⟨3, _⟩ => ⟨S10256x2048, .bf16⟩
  | .hbm, ⟨4, _⟩ => ⟨S8x1282x2048, .bf16⟩
  | .hbm, ⟨5, _⟩ => ⟨S10256x2048, .bf16⟩
  | .hbm, ⟨6, _⟩ => ⟨S6144x2048, .bf16⟩
  | .hbm, ⟨7, _⟩ => ⟨S4096x2048, .bf16⟩
  | .hbm, ⟨8, _⟩ => ⟨S16x2048, .bf16⟩
  | .hbm, ⟨9, _⟩ => ⟨S_, .bf16⟩
  | .hbm, ⟨10, _⟩ => ⟨S112x2048, .bf16⟩
  | .hbm, ⟨11, _⟩ => ⟨S10368x2048, .bf16⟩
  | .hbm, ⟨12, _⟩ => ⟨S4096x6144, .f32⟩
  | .hbm, ⟨13, _⟩ => ⟨S4096x4096, .f32⟩
  | .hbm, ⟨14, _⟩ => ⟨S4096x16, .f32⟩
  | .hbm, ⟨15, _⟩ => ⟨S_, .f32⟩
  | .hbm, ⟨16, _⟩ => ⟨S4096x112, .f32⟩
  | .hbm, ⟨17, _⟩ => ⟨S4096x10368, .f32⟩
  | .hbm, ⟨18, _⟩ => ⟨S4096x10368, .bf16⟩
  | .hbm, ⟨19, _⟩ => ⟨S4096x2048, .f32⟩
  | .local _ .vmem, ⟨0, _⟩ => ⟨S256x3456, .bf16⟩
  | .local _ .vmem, ⟨1, _⟩ => ⟨S256x3456, .bf16⟩
  | .local _ .vmem, ⟨2, _⟩ => ⟨S3456x2048, .bf16⟩
  | .local _ .vmem, ⟨3, _⟩ => ⟨S256x2048, .f32⟩
  | .local _ .vmem, ⟨4, _⟩ => ⟨S256x2048, .f32⟩
  | _, _ => ⟨S2048x10256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3456x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference26Ideal.lean ====
abbrev S2048x10256 : Shape := ⟨2, ![2048, 10256]⟩
abbrev S4096x10256 : Shape := ⟨2, ![4096, 10256]⟩
abbrev S_ : Shape := ⟨0, ![]⟩
abbrev S4096x2048 : Shape := ⟨2, ![4096, 2048]⟩
abbrev S2048x3456 : Shape := ⟨2, ![2048, 3456]⟩
abbrev S4096x3456 : Shape := ⟨2, ![4096, 3456]⟩

abbrev nBuf : Space → Nat
  | .hbm => 8
  | .vmem => 0
  | .smem => 0
  | _ => 0

abbrev bufTy : (tb : Table) → Fin (tcTables nBuf tb) → BufTy
  | .hbm, ⟨0, _⟩ => ⟨S2048x10256, .f32⟩
  | .hbm, ⟨1, _⟩ => ⟨S4096x10256, .f32⟩
  | .hbm, ⟨2, _⟩ => ⟨S_, .f32⟩
  | .hbm, ⟨3, _⟩ => ⟨S4096x2048, .f32⟩
  | .hbm, ⟨4, _⟩ => ⟨S2048x3456, .f32⟩
  | .hbm, ⟨5, _⟩ => ⟨S4096x3456, .f32⟩
  | .hbm, ⟨6, _⟩ => ⟨S4096x3456, .f32⟩
  | .hbm, ⟨7, _⟩ => ⟨S4096x2048, .f32⟩
  | _, _ => ⟨S2048x10256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel27.lean ====
abbrev S2048x10256 : Shape := ⟨2, ![2048, 10256]⟩
abbrev S4096x10256 : Shape := ⟨2, ![4096, 10256]⟩
abbrev S4096x2048 : Shape := ⟨2, ![4096, 2048]⟩
abbrev S10256x2048 : Shape := ⟨2, ![10256, 2048]⟩
abbrev S8x1282x2048 : Shape := ⟨3, ![8, 1282, 2048]⟩
abbrev S6144x2048 : Shape := ⟨2, ![6144, 2048]⟩
abbrev S16x2048 : Shape := ⟨2, ![16, 2048]⟩
abbrev S_ : Shape := ⟨0, ![]⟩
abbrev S112x2048 : Shape := ⟨2, ![112, 2048]⟩
abbrev S10368x2048 : Shape := ⟨2, ![10368, 2048]⟩
abbrev S4096x6144 : Shape := ⟨2, ![4096, 6144]⟩
abbrev S4096x4096 : Shape := ⟨2, ![4096, 4096]⟩
abbrev S4096x16 : Shape := ⟨2, ![4096, 16]⟩
abbrev S4096x112 : Shape := ⟨2, ![4096, 112]⟩
abbrev S4096x10368 : Shape := ⟨2, ![4096, 10368]⟩
abbrev S256x3456 : Shape := ⟨2, ![256, 3456]⟩
abbrev S3456x2048 : Shape := ⟨2, ![3456, 2048]⟩
abbrev S256x2048 : Shape := ⟨2, ![256, 2048]⟩

abbrev nBuf : Space → Nat
  | .hbm => 21
  | .vmem => 7
  | .smem => 0
  | _ => 0

abbrev bufTy : (tb : Table) → Fin (tcTables nBuf tb) → BufTy
  | .hbm, ⟨0, _⟩ => ⟨S2048x10256, .f32⟩
  | .hbm, ⟨1, _⟩ => ⟨S4096x10256, .f32⟩
  | .hbm, ⟨2, _⟩ => ⟨S4096x2048, .f32⟩
  | .hbm, ⟨3, _⟩ => ⟨S2048x10256, .bf16⟩
  | .hbm, ⟨4, _⟩ => ⟨S10256x2048, .bf16⟩
  | .hbm, ⟨5, _⟩ => ⟨S8x1282x2048, .bf16⟩
  | .hbm, ⟨6, _⟩ => ⟨S10256x2048, .bf16⟩
  | .hbm, ⟨7, _⟩ => ⟨S6144x2048, .bf16⟩
  | .hbm, ⟨8, _⟩ => ⟨S4096x2048, .bf16⟩
  | .hbm, ⟨9, _⟩ => ⟨S16x2048, .bf16⟩
  | .hbm, ⟨10, _⟩ => ⟨S_, .bf16⟩
  | .hbm, ⟨11, _⟩ => ⟨S112x2048, .bf16⟩
  | .hbm, ⟨12, _⟩ => ⟨S10368x2048, .bf16⟩
  | .hbm, ⟨13, _⟩ => ⟨S4096x6144, .f32⟩
  | .hbm, ⟨14, _⟩ => ⟨S4096x4096, .f32⟩
  | .hbm, ⟨15, _⟩ => ⟨S4096x16, .f32⟩
  | .hbm, ⟨16, _⟩ => ⟨S_, .f32⟩
  | .hbm, ⟨17, _⟩ => ⟨S4096x112, .f32⟩
  | .hbm, ⟨18, _⟩ => ⟨S4096x10368, .f32⟩
  | .hbm, ⟨19, _⟩ => ⟨S4096x10368, .bf16⟩
  | .hbm, ⟨20, _⟩ => ⟨S4096x2048, .f32⟩
  | .local _ .vmem, ⟨0, _⟩ => ⟨S256x3456, .bf16⟩
  | .local _ .vmem, ⟨1, _⟩ => ⟨S256x3456, .bf16⟩
  | .local _ .vmem, ⟨2, _⟩ => ⟨S3456x2048, .bf16⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | _, _ => ⟨S2048x10256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3456 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3456x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference27Ideal.lean ====
abbrev S2048x10256 : Shape := ⟨2, ![2048, 10256]⟩
abbrev S4096x10256 : Shape := ⟨2, ![4096, 10256]⟩
abbrev S4096x2048 : Shape := ⟨2, ![4096, 2048]⟩
abbrev S_ : Shape := ⟨0, ![]⟩
abbrev S2048x2688 : Shape := ⟨2, ![2048, 2688]⟩
abbrev S4096x2688 : Shape := ⟨2, ![4096, 2688]⟩
abbrev S2048x768 : Shape := ⟨2, ![2048, 768]⟩
abbrev S4096x768 : Shape := ⟨2, ![4096, 768]⟩

abbrev nBuf : Space → Nat
  | .hbm => 17
  | .vmem => 0
  | .smem => 0
  | _ => 0

abbrev bufTy : (tb : Table) → Fin (tcTables nBuf tb) → BufTy
  | .hbm, ⟨0, _⟩ => ⟨S2048x10256, .f32⟩
  | .hbm, ⟨1, _⟩ => ⟨S4096x10256, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x2688, .f32⟩
  | .hbm, ⟨6, _⟩ => ⟨S4096x2688, .f32⟩
  | .hbm, ⟨7, _⟩ => ⟨S4096x2688, .f32⟩
  | .hbm, ⟨8, _⟩ => ⟨S4096x2048, .f32⟩
  | .hbm, ⟨9, _⟩ => ⟨S_, .f32⟩
  | .hbm, ⟨10, _⟩ => ⟨S4096x2048, .f32⟩
  | .hbm, ⟨11, _⟩ => ⟨S2048x768, .f32⟩
  | .hbm, ⟨12, _⟩ => ⟨S4096x768, .f32⟩
  | .hbm, ⟨13, _⟩ => ⟨S4096x768, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S2048x10256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel28.lean ====
abbrev S2048x11264 : Shape := ⟨2, ![2048, 11264]⟩
abbrev S2x4096x5632 : Shape := ⟨3, ![2, 4096, 5632]⟩
abbrev S2048x8x1408 : Shape := ⟨3, ![2048, 8, 1408]⟩
abbrev S8x2048x1408 : Shape := ⟨3, ![8, 2048, 1408]⟩
abbrev S4096x2048 : Shape := ⟨2, ![4096, 2048]⟩
abbrev S1x256x5632 : Shape := ⟨3, ![1, 256, 5632]⟩
abbrev S4x2048x1408 : Shape := ⟨3, ![4, 2048, 1408]⟩
abbrev S256x2048 : Shape := ⟨2, ![256, 2048]⟩
abbrev S1x256x1408 : Shape := ⟨3, ![1, 256, 1408]⟩
abbrev S256x1408 : Shape := ⟨2, ![256, 1408]⟩
abbrev S1x2048x1408 : Shape := ⟨3, ![1, 2048, 1408]⟩
abbrev S2048x1408 : Shape := ⟨2, ![2048, 1408]⟩

abbrev nBuf : Space → Nat
  | .hbm => 6
  | .vmem => 5
  | .smem => 0
  | _ => 0

abbrev bufTy : (tb : Table) → Fin (tcTables nBuf tb) → BufTy
  | .hbm, ⟨0, _⟩ => ⟨S2048x11264, .f32⟩
  | .hbm, ⟨1, _⟩ => ⟨S2x4096x5632, .bf16⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S4096x2048, .f32⟩
  | .local _ .vmem, ⟨0, _⟩ => ⟨S1x256x5632, .bf16⟩
  | .local _ .vmem, ⟨1, _⟩ => ⟨S1x256x5632, .bf16⟩
  | .local _ .vmem, ⟨2, _⟩ => ⟨S4x2048x1408, .bf16⟩
  | .local _ .vmem, ⟨3, _⟩ => ⟨S256x2048, .f32⟩
  | .local _ .vmem, ⟨4, _⟩ => ⟨S256x2048, .f32⟩
  | _, _ => ⟨S2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x2048x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference28Ideal.lean ====
abbrev S2048x11264 : Shape := ⟨2, ![2048, 11264]⟩
abbrev S2x4096x5632 : Shape := ⟨3, ![2, 4096, 5632]⟩
abbrev S_ : Shape := ⟨0, ![]⟩
abbrev S4096x2048 : Shape := ⟨2, ![4096, 2048]⟩
abbrev S2048x5632 : Shape := ⟨2, ![2048, 5632]⟩
abbrev S4096x5632 : Shape := ⟨2, ![4096, 5632]⟩
abbrev S1x4096x5632 : Shape := ⟨3, ![1, 4096, 5632]⟩

abbrev nBuf : Space → Nat
  | .hbm => 10
  | .vmem => 0
  | .smem => 0
  | _ => 0

abbrev bufTy : (tb : Table) → Fin (tcTables nBuf tb) → BufTy
  | .hbm, ⟨0, _⟩ => ⟨S2048x11264, .f32⟩
  | .hbm, ⟨1, _⟩ => ⟨S2x4096x5632, .bf16⟩
  | .hbm, ⟨2, _⟩ => ⟨S_, .f32⟩
  | .hbm, ⟨3, _⟩ => ⟨S4096x2048, .f32⟩
  | .hbm, ⟨4, _⟩ => ⟨S2048x5632, .f32⟩
  | .hbm, ⟨5, _⟩ => ⟨S4096x5632, .f32⟩
  | .hbm, ⟨6, _⟩ => ⟨S1x4096x5632, .bf16⟩
  | .hbm, ⟨7, _⟩ => ⟨S4096x5632, .bf16⟩
  | .hbm, ⟨8, _⟩ => ⟨S4096x5632, .f32⟩
  | .hbm, ⟨9, _⟩ => ⟨S4096x2048, .f32⟩
  | _, _ => ⟨S2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel29.lean ====
abbrev S4096x2048 : Shape := ⟨2, ![4096, 2048]⟩
abbrev S2048x2048 : Shape := ⟨2, ![2048, 2048]⟩
abbrev S1024x512 : Shape := ⟨2, ![1024, 512]⟩
abbrev S1024x2048 : Shape := ⟨2, ![1024, 2048]⟩
abbrev S512x2048 : Shape := ⟨2, ![512, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x512, .bf16⟩
  | .local _ .vmem, ⟨1, _⟩ => ⟨S1024x512, .bf16⟩
  | .local _ .vmem, ⟨2, _⟩ => ⟨S1024x2048, .bf16⟩
  | .local _ .vmem, ⟨3, _⟩ => ⟨S1024x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference29Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel30.lean ====
abbrev S4096x1024 : Shape := ⟨2, ![4096, 1024]⟩
abbrev S4096x2048 : Shape := ⟨2, ![4096, 2048]⟩
abbrev S8x1024x256 : Shape := ⟨3, ![8, 1024, 256]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .bf16⟩
  | .local _ .vmem, ⟨0, _⟩ => ⟨S1024x1024, .bf16⟩
  | .local _ .vmem, ⟨1, _⟩ => ⟨S1024x1024, .bf16⟩
  | .local _ .vmem, ⟨2, _⟩ => ⟨S1024x256, .bf16⟩
  | .local _ .vmem, ⟨3, _⟩ => ⟨S1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference30Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | .hbm, ⟨10, _⟩ => ⟨S1024x8x256, .bf16⟩
  | .hbm, ⟨11, _⟩ => ⟨S8x1024x256, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel31.lean ====
abbrev S4096x2048 : Shape := ⟨2, ![4096, 2048]⟩
abbrev S2048x2048 : Shape := ⟨2, ![2048, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 10
  | .vmem => 14
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S2048x2048, .bf16⟩
  | .hbm, ⟨7, _⟩ => ⟨S4096x2048, .bf16⟩
  | .hbm, ⟨8, _⟩ => ⟨S4096x2048, .f32⟩
  | .hbm, ⟨9, _⟩ => ⟨S4096x2048, .f32⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference31Ideal.lean ====
abbrev S4096x2048 : Shape := ⟨2, ![4096, 2048]⟩
abbrev S2048x2048 : Shape := ⟨2, ![2048, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 42
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x2048, .f32⟩
  | .hbm, ⟨14, _⟩ => ⟨S4096x2048, .bf16⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Kernel32.lean ====
abbrev S4096x2048 : Shape := ⟨2, ![4096, 2048]⟩
abbrev S1x2048 : Shape := ⟨2, ![1, 2048]⟩
abbrev S4096x10256 : Shape := ⟨2, ![4096, 10256]⟩
abbrev S4096x6144 : Shape := ⟨2, ![4096, 6144]⟩
abbrev S4096x4096 : Shape := ⟨2, ![4096, 4096]⟩
abbrev S4096x16 : Shape := ⟨2, ![4096, 16]⟩
abbrev S_ : Shape := ⟨0, ![]⟩
abbrev S4096x112 : Shape := ⟨2, ![4096, 112]⟩
abbrev S4096x10368 : Shape := ⟨2, ![4096, 10368]⟩
abbrev S10368x2048 : Shape := ⟨2, ![10368, 2048]⟩
abbrev S1024x1152 : Shape := ⟨2, ![1024, 1152]⟩
abbrev S1024x2048 : Shape := ⟨2, ![1024, 2048]⟩
abbrev S1152x2048 : Shape := ⟨2, ![1152, 2048]⟩

abbrev nBuf : Space → Nat
  | .hbm => 12
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x10256, .f32⟩
  | .hbm, ⟨4, _⟩ => ⟨S4096x6144, .f32⟩
  | .hbm, ⟨5, _⟩ => ⟨S4096x4096, .f32⟩
  | .hbm, ⟨6, _⟩ => ⟨S4096x16, .f32⟩
  | .hbm, ⟨7, _⟩ => ⟨S_, .f32⟩
  | .hbm, ⟨8, _⟩ => ⟨S4096x112, .f32⟩
  | .hbm, ⟨9, _⟩ => ⟨S4096x10368, .f32⟩
  | .hbm, ⟨10, _⟩ => ⟨S4096x10368, .bf16⟩
  | .hbm, ⟨11, _⟩ => ⟨S10368x2048, .bf16⟩
  | .local _ .vmem, ⟨0, _⟩ => ⟨S1024x1152, .bf16⟩
  | .local _ .vmem, ⟨1, _⟩ => ⟨S1024x1152, .bf16⟩
  | .local _ .vmem, ⟨2, _⟩ => ⟨S1x2048, .f32⟩
  | .local _ .vmem, ⟨3, _⟩ => ⟨S1x2048, .f32⟩
  | .local _ .vmem, ⟨4, _⟩ => ⟨S1024x2048, .f32⟩
  | .local _ .vmem, ⟨5, _⟩ => ⟨S1024x2048, .f32⟩
  | .local _ .vmem, ⟨6, _⟩ => ⟨S1152x2048, .bf16⟩
  | .local _ .vmem, ⟨7, _⟩ => ⟨S1152x2048, .bf16⟩
  | .local _ .vmem, ⟨8, _⟩ => ⟨S1152x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![9, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1152x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference32Ideal.lean ====
abbrev S4096x2048 : Shape := ⟨2, ![4096, 2048]⟩
abbrev S1x2048 : Shape := ⟨2, ![1, 2048]⟩
abbrev S4096x10256 : Shape := ⟨2, ![4096, 10256]⟩
abbrev S_ : Shape := ⟨0, ![]⟩
abbrev S2048x10256 : Shape := ⟨2, ![2048, 10256]⟩
abbrev S10256x2048 : Shape := ⟨2, ![10256, 2048]⟩
abbrev S6144x2048 : Shape := ⟨2, ![6144, 2048]⟩
abbrev S16x2048 : Shape := ⟨2, ![16, 2048]⟩
abbrev S112x2048 : Shape := ⟨2, ![112, 2048]⟩
abbrev S10368x2048 : Shape := ⟨2, ![10368, 2048]⟩

abbrev nBuf : Space → Nat
  | .hbm => 24
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S4096x10256, .f32⟩
  | .hbm, ⟨4, _⟩ => ⟨S_, .f32⟩
  | .hbm, ⟨5, _⟩ => ⟨S2048x10256, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S4096x10256, .f32⟩
  | .hbm, ⟨14, _⟩ => ⟨S10256x2048, .f32⟩
  | .hbm, ⟨15, _⟩ => ⟨S2048x10256, .f32⟩
  | .hbm, ⟨16, _⟩ => ⟨S2048x10256, .bf16⟩
  | .hbm, ⟨17, _⟩ => ⟨S10256x2048, .bf16⟩
  | .hbm, ⟨18, _⟩ => ⟨S6144x2048, .bf16⟩
  | .hbm, ⟨19, _⟩ => ⟨S4096x2048, .bf16⟩
  | .hbm, ⟨20, _⟩ => ⟨S16x2048, .bf16⟩
  | .hbm, ⟨21, _⟩ => ⟨S_, .bf16⟩
  | .hbm, ⟨22, _⟩ => ⟨S112x2048, .bf16⟩
  | .hbm, ⟨23, _⟩ => ⟨S10368x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Common.lean ====
/-
  Facts about the extended reals that every pair of this certificate uses: the constants a program writes as
  words, the two spellings of the logistic function, what a finiteness precondition says of an element, and sums
  of finite terms.
-/
module

public import Idealize.ShloMosaic.Lib.ValueIdx
public import Idealize.ShloMosaic.Lib.Pipeline.Value
public import Idealize.ShloMosaic.Lib.ReduceAll
public import Idealize.ShloMosaic.PureOps.Ideal.Laws

@[expose] public section

noncomputable section

namespace Cert.Common

open Idealize.ShloMosaic

/-- The word of one half. -/
theorem half_f32 : Ideal.ofBits .f32 0x3F000000#32 = ((1 / 2 : ℝ) : EReal) := by
  simp [Ideal.ofBits, Ideal.ieee]; rw [← EReal.coe_mul]; norm_num

/-- The word of one. -/
theorem one_f32 : Ideal.ofBits .f32 0x3F800000#32 = ((1 : ℝ) : EReal) := by
  simp [Ideal.ofBits, Ideal.ieee]; rw [← EReal.coe_mul]; norm_num

/-- The word of plus infinity. -/
theorem inf_f32 : Ideal.ofBits .f32 0x7F800000#32 = ⊤ := by
  simp [Ideal.ofBits, Ideal.ieee]

/-- An element whose absolute value compares below plus infinity is a real number. -/
theorem real_of_abs_lt (x : EReal)
    (h : Ideal.cmp .olt (max x (-x)) (Ideal.ofBits .f32 0x7F800000#32) = 1#1) : ∃ r : ℝ, x = (r : EReal) := by
  rw [inf_f32] at h
  induction x with
  | bot => simp [Ideal.cmp] at h
  | top => simp [Ideal.cmp] at h
  | coe r => exact ⟨r, rfl⟩

/-- The logistic function of a real number, as the reference writes it: `1 / (1 + exp (-x))`. -/
def sig (x : ℝ) : ℝ := (1 + Real.exp (-x))⁻¹

/-- The kernel writes it with the hyperbolic tangent. -/
theorem tanh_sig (x : ℝ) : 1 / 2 * Real.tanh (1 / 2 * x) + 1 / 2 = sig x := by
  unfold sig
  rw [Real.tanh_eq_sinh_div_cosh, Real.sinh_eq, Real.cosh_eq]
  have h1 : Real.exp (-x) = Real.exp (-(1 / 2 * x)) * Real.exp (-(1 / 2 * x)) := by
    rw [← Real.exp_add]; congr 1; ring
  have h2 : Real.exp (1 / 2 * x) * Real.exp (-(1 / 2 * x)) = 1 := by
    rw [← Real.exp_add]; simp
  have p1 := Real.exp_pos (1 / 2 * x)
  have p2 := Real.exp_pos (-(1 / 2 * x))
  rw [h1]
  generalize Real.exp (1 / 2 * x) = a at *
  generalize Real.exp (-(1 / 2 * x)) = b at *
  have : a = b⁻¹ := by field_simp; linarith
  subst this
  field_simp
  ring

/-- A sum of real numbers is the sum of their extended values. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The reference's quotient `1 / (1 + exp (-x))` at a real number. -/
theorem div_sig (x : ℝ) : Ideal.div 1 (1 + Ideal.exp (-(x : EReal))) = (sig x : EReal) := by
  exact Ideal.logistic_coe (r := x)

/-! ## A finiteness precondition -/

/-- If every absolute value of an array compares below plus infinity, the array is an array of real numbers. -/
theorem finite_of_reduce {s u : Shape} {axes : List (Fin s.rank)} (x : FVec Ideal s .f32) (init : IVec u 1)
    (hb : (⟨0, ![]⟩ : Shape).BroadcastsInDim s (![] : Fin 0 → Fin s.rank))
    (h : s.ReducesTo axes ⟨0, ![]⟩) (hu : 0 < u.numel) (j : (⟨0, ![]⟩ : Shape).Idx)
    (e : Host.reduce IntOp.andi
      (cmpf .olt (Host.absf x) (broadcastInDim s ![] hb (constant (F := Ideal) ⟨0, ![]⟩ .f32 0x7F800000#32))) init h hu j = 1#1) :
    ∃ r : s.Idx → ℝ, x = fun i => (r i : EReal) := by
  haveI : Subsingleton (⟨0, ![]⟩ : Shape).Idx := ⟨fun a b => funext fun i => i.elim0⟩
  have key : ∀ i, ∃ r : ℝ, x i = (r : EReal) := fun i => real_of_abs_lt (x i) (Host.reduce_andi_all _ init h hu j e i)
  exact ⟨fun i => (key i).choose, funext fun i => (key i).choose_spec⟩

/-- A conjunction of bits that is one has both of them one. -/
theorem andi_one {s : Shape} (x y : IVec s 1) (i : s.Idx) (h : andi x y i = 1#1) : x i = 1#1 ∧ y i = 1#1 := by
  have h' : x i &&& y i = 1#1 := h
  revert h'
  generalize x i = a
  generalize y i = b
  revert a b
  decide

end Cert.Common

end
-- ==== Proof.Act.lean ====
/-
  The gradient of the gated activation `silu a * b` through the down projection (`ffn_bwd_act`): the kernel's result
  array, block by block, as one function of the arguments; the reference's array at an index; and their equality where
  every argument is finite.
-/
module

public import proofs.«01_k».proof.Defs
public import proofs.«01_k».proof.Proof.Common
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_act_finite
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Act

open Cert.KernelIdeal Cert.KernelIdeal.Gen

variable (m : (ℓ : Loc nD τ sig) → Buf (Elt Ideal) ℓ)

/-- The kernel's logistic function. -/
def sgk (x : EReal) : EReal :=
  Ideal.ofBits .f32 0x3F000000#32 * Ideal.tanh (Ideal.ofBits .f32 0x3F000000#32 * x) + Ideal.ofBits .f32 0x3F000000#32

/-- The product `df · wᵀ` at an index. -/
def ds (w : FVec Ideal S5632x2048 .f32) (df : FVec Ideal S4096x2048 .bf16) (r : Fin 4096) (f : Fin 5632) : EReal :=
  ∑ k : Fin 2048, df (ix2 r k) * w (ix2 f k)

/-- The kernel's result array as one function of the arguments: the gradient of `a` above the gradient of `b`. -/
def G (a b : FVec Ideal S4096x5632 .bf16) (w : FVec Ideal S5632x2048 .f32) (df : FVec Ideal S4096x2048 .bf16) :
    FVec Ideal S2x4096x5632 .bf16 := fun i =>
  if (i 0).val = 0 then
    ds w df (i 1) (i 2) * b (ix2 (i 1) (i 2)) * (sgk (a (ix2 (i 1) (i 2))) * (1 + a (ix2 (i 1) (i 2)) * (1 - sgk (a (ix2 (i 1) (i 2))))))
  else ds w df (i 1) (i 2) * (a (ix2 (i 1) (i 2)) * sgk (a (ix2 (i 1) (i 2))))

/-- Where each window's block of a point lies. -/
theorem idx : ∀ t : Fin cfg0.N, win0_0.index t = ![t.val % 8, 0] ∧ win0_1.index t = ![t.val / 8, 0]
    ∧ win0_2.index t = ![t.val % 8, t.val / 8] ∧ win0_3.index t = ![t.val % 8, t.val / 8]
    ∧ win0_4.index t = ![0, t.val % 8, t.val / 8] :=
  (by decide +kernel : ∀ t : Fin grid0.N, _)

/-- The kernel's result array after the run. -/
theorem final (c : Dev nD) : (dats m 0 c).arrAt 4 cfg0.N
    = G (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  canon_tiles x h
  · pointwise [k0_pay5, k0_pay3, k0_pay2, k0_pay1, G, ds, sgk]
    rw [if_neg (by blk_simp [idx t]; omega)]
    blk_point [iblk, V, idx t]
  · pointwise [k0_pay4, k0_pay3, k0_pay2, k0_pay1, G, ds, sgk]
    rw [if_pos (by blk_simp [idx t]; omega)]
    blk_point [iblk, V, idx t]

end Cert.Act

namespace Cert.Act

open Cert.ReferenceIdeal Cert.ReferenceIdeal.Gen Cert.ReferenceIdeal.Read

/-- Where the arguments are finite the reference's array is the kernel's. -/
theorem ref_eq (a b : FVec Ideal S4096x5632 .bf16) (w : FVec Ideal S5632x2048 .f32) (df : FVec Ideal S4096x2048 .bf16)
    (ha : ∃ r : S4096x5632.Idx → ℝ, a = fun i => (r i : EReal)) (hb : ∃ r : S4096x5632.Idx → ℝ, b = fun i => (r i : EReal))
    (hw : ∃ r : S5632x2048.Idx → ℝ, w = fun i => (r i : EReal)) (hd : ∃ r : S4096x2048.Idx → ℝ, df = fun i => (r i : EReal)) :
    val_main_v13 (F := Ideal) a b w df = G a b w df := by
  obtain ⟨a, rfl⟩ := ha
  obtain ⟨b, rfl⟩ := hb
  obtain ⟨w, rfl⟩ := hw
  obtain ⟨df, rfl⟩ := hd
  funext j
  obtain ⟨u, r, q, rfl⟩ : ∃ (u : Fin 2) (r : Fin 4096) (q : Fin 5632), j = ix3 u r q := ⟨j 0, j 1, j 2, eq_ix3 j⟩
  pointwise [val_main_v13, val_main_v12, val_main_v11, val_main_v10, val_main_v9, val_main_v8, val_main_v7, val_main_v6,
    val_main_v5, val_main_v1, val_main_v0, val_main_v2_0, val_main_v2_1, val_main_v2_2, val_main_call0_v0, val_main_call0_v1,
    val_main_call0_cst, val_main_call0_v2, val_main_call0_v3, val_main_call0_cst_0, val_main_call0_v4, val_main_call0_cst_1,
    val_main_call0_v6, val_main_call0_v7, val_main_call1_v0, val_main_call1_v1, val_main_call1_v2, G, ds, sgk]
  simp only [Common.div_sig]
  simp only [Common.half_f32, Ideal.tanh_coe, ← EReal.coe_mul, ← EReal.coe_add, ← EReal.coe_sub, ← EReal.coe_one,
    ← Common.coe_sum, Common.tanh_sig]
  by_cases h : u.val = 0
  · rw [dif_pos (by omega), if_pos h]
    congr 1
    ring
  · rw [dif_neg (by omega), if_neg h]
    congr 1
    ring

/-- What the precondition says of the arguments. -/
theorem finite_args (a b : FVec Ideal S4096x5632 .bf16) (w : FVec Ideal S5632x2048 .f32) (df : FVec Ideal S4096x2048 .bf16)
    (h : Cert.Pre_act_finite.fn (F := Ideal) a b w df = fun _ => 1#1) :
    (∃ r : S4096x5632.Idx → ℝ, a = fun i => (r i : EReal)) ∧ (∃ r : S4096x5632.Idx → ℝ, b = fun i => (r i : EReal))
    ∧ (∃ r : S5632x2048.Idx → ℝ, w = fun i => (r i : EReal)) ∧ (∃ r : S4096x2048.Idx → ℝ, df = fun i => (r i : EReal)) := by
  have h1 := congrFun h (fun a => a.elim0)
  obtain ⟨h1, hd⟩ := Common.andi_one _ _ _ h1
  obtain ⟨h1, hw⟩ := Common.andi_one _ _ _ h1
  obtain ⟨ha, hb⟩ := Common.andi_one _ _ _ h1
  exact ⟨Common.finite_of_reduce _ _ _ _ _ _ ha, Common.finite_of_reduce _ _ _ _ _ _ hb,
    Common.finite_of_reduce _ _ _ _ _ _ hw, Common.finite_of_reduce _ _ _ _ _ _ hd⟩

end Cert.Act

namespace Cert.Act

/-- The kernel's frames and the reference's. -/
theorem frame_P : Cert.quiescent_Kernel := fun m ρ _ => Cert.Kernel.Gen.frame m ρ
theorem frame_PI : Cert.quiescent_KernelIdeal := fun m ρ _ => Cert.KernelIdeal.Gen.frame m ρ
theorem frame_PI' : Cert.quiescent_KernelIdeal_pre_act_finite := fun m ρ _ => Cert.KernelIdeal.Gen.frame m ρ
theorem frame_RI : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)
theorem frame_RI' : Cert.quiescent_ReferenceIdeal_pre_act_finite := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel and the reference compute one function of finite arguments. -/
theorem algebraic : Cert.algebraic_KernelIdeal_ReferenceIdeal_pre_act_finite := by
  pair_intro
  · run_from Cert.KernelIdeal.Gen.run_main m g
  · run_from Cert.ReferenceIdeal.Value.run m' g'
    obtain ⟨ha, hb, hw, hd⟩ := finite_args _ _ _ _ (hpre c)
    rw [(hagree c).2.2.2]
    exact (Cert.ReferenceIdeal.Read.val_main_v13_eq (F := Ideal) _ _ _ _).symm.trans ((ref_eq _ _ _ _ ha hb hw hd).trans (final m c).symm)

end Cert.Act

end
-- ==== Proof.Attn.Pure.lean ====
module

public import proofs.«01_k».proof.Proof.Gen.Kernel11Ideal.Skeleton
public import proofs.«01_k».proof.Proof.Gen.Kernel11Ideal.Frame
public import Idealize.ShloMosaic.Lib.VecWindow
public import Idealize.ShloMosaic.Lib.Pipeline.ValueKit

@[expose] public section

set_option maxRecDepth 16384

noncomputable section

namespace Cert.Kernel11Ideal.Hand

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The point opens its pair of heads: the accumulators are zeroed. -/
abbrev condFirst (i : grid0.Coords) : Prop := (Scalar.cmpi .ne (Scalar.extui (Scalar.cmpi .eq (BitVec.ofNat 32 (i 1).val) 0#32)) 0#32) = 1#1
/-- The point closes its pair of heads: the accumulators are written out. -/
abbrev condLast (i : grid0.Coords) : Prop := k0_cond2 i = 1#1

/-- The first row of the band's block `r` for query block `i 1`, clamped at the array's top. -/
def rowOff (i : grid0.Coords) (r : Nat) : Nat := 256 * ((i 1).val + r - 2)

theorem off_form (i : grid0.Coords) (r : Fin 3) : k0_off1 i (BitVec.ofNat 32 r.val) = ![rowOff i r.val, 0] := by
  have h : ∀ a : Fin 16, ∀ r : Fin 3, (fun a : Nat =>
      (Scalar.indexCast (Scalar.muli (Scalar.maxsi (Scalar.addi (Scalar.subi (BitVec.ofNat 32 a) 2#32) (BitVec.ofNat 32 r.val)) 0#32) 256#32)).toNat) a.val
        = 256 * (a.val + r.val - 2) := by decide +kernel
  have := h ⟨(i 1).val, (i 1).isLt⟩ r
  unfold k0_off1 rowOff
  exact congrArg (fun x => ![x, 0]) this

instance (i : grid0.Coords) : ClosedOff (k0_off1 i 0#32) := ⟨![rowOff i 0, 0], off_form i 0⟩
instance (i : grid0.Coords) : ClosedOff (k0_off1 i 1#32) := ⟨![rowOff i 1, 0], off_form i 1⟩
instance (i : grid0.Coords) : ClosedOff (k0_off1 i 2#32) := ⟨![rowOff i 2, 0], off_form i 2⟩

theorem rowIn (i : grid0.Coords) (r : Fin 3) : ∀ a, (![rowOff i r.val, 0] : Fin 2 → Nat) a + S256x128.size a ≤ S4096x128.size a := by
  have hi : (i 1).val < 16 := (i 1).isLt
  have hr := r.isLt
  intro a
  fin_cases a
  · show 256 * ((i 1).val + r.val - 2) + 256 ≤ 4096
    omega
  · show 0 + 128 ≤ 128
    omega

/-- The query block's number as the body's word. -/
abbrev pid (i : grid0.Coords) : BitVec 32 := BitVec.ofNat 32 (i 1).val

/-- What the body reads at a point: the query block, the three key and the three value blocks of its band, the pair's
    bias tables, the saved row log-sums and the output's cotangent. -/
structure Blk (F : FTy → Type) where
  q : Vec F S256x128 .bf16
  k0 : Vec F S256x128 .bf16
  k1 : Vec F S256x128 .bf16
  k2 : Vec F S256x128 .bf16
  v0 : Vec F S256x128 .bf16
  v1 : Vec F S256x128 .bf16
  v2 : Vec F S256x128 .bf16
  bias : Vec F S2x256x768 .f32
  lse : Vec F S2x256x1 .f32
  dy : Vec F S256x128 .bf16

/-- The bias table of the pair's first head. -/
def biasA (b : Blk F) : Vec F S1x256x768 .f32 := VecWindow.window b.bias ![0, 0, 0] S1x256x768.size inb_S2x256x768_S1x256x768_0_0_0
/-- The bias table of the pair's second head. -/
def biasB (b : Blk F) : Vec F S1x256x768 .f32 := VecWindow.window b.bias ![1, 0, 0] S1x256x768.size inb_S2x256x768_S1x256x768_1_0_0
/-- The row log-sums of the pair's first head. -/
def lseA (b : Blk F) : Vec F S1x256x1 .f32 := VecWindow.window b.lse ![0, 0, 0] S1x256x1.size inb_S2x256x1_S1x256x1_0_0_0
/-- The row log-sums of the pair's second head. -/
def lseB (b : Blk F) : Vec F S1x256x1 .f32 := VecWindow.window b.lse ![1, 0, 0] S1x256x1.size inb_S2x256x1_S1x256x1_1_0_0
/-- The probabilities of the first head at query block `n`. -/
def probA (n : BitVec 32) (b : Blk F) : FVec F S256x768 .f32 :=
  k0_pay15 n (k0_pay12 (biasA b)) (k0_pay13 b.q b.k0 b.k1 b.k2) k0_pay14 (lseA b)
/-- The cotangent of the first head's probabilities less its mean over the row. -/
def restA (n : BitVec 32) (b : Blk F) : FVec F S256x768 .f32 :=
  k0_pay16 n b.dy k0_pay11 (k0_pay12 (biasA b)) (k0_pay13 b.q b.k0 b.k1 b.k2) k0_pay14 (lseA b) b.v0 b.v1 b.v2
/-- The probabilities of the second head at query block `n`. -/
def probB (n : BitVec 32) (b : Blk F) : FVec F S256x768 .f32 :=
  k0_pay32 n (k0_pay7 b.q) (k0_pay9 b.k1) (k0_pay10 b.k2) k0_pay28 (k0_pay29 (k0_pay8 b.k0)) k0_pay30 k0_pay31 (biasB b) (lseB b)
/-- What the body leaves of the query's gradient. -/
def dqOut (n : BitVec 32) (b : Blk F) : FVec F S256x128 .bf16 :=
  k0_pay49 (k0_pay20 (k0_pay8 b.k0) (k0_pay9 b.k1) (k0_pay10 b.k2) (probA n b) (restA n b))
    (k0_pay40 b.dy (k0_pay8 b.k0) (k0_pay9 b.k1) (k0_pay10 b.k2) k0_pay28 (probB n b) (k0_pay33 b.dy k0_pay28 b.v0) (k0_pay34 b.v1) k0_pay35 (k0_pay36 k0_pay28) b.v2)
/-- The bias gradient's tables after a point, from what they held before it. -/
def stepB (n : BitVec 32) (b : Blk F) (x : Vec F S2x256x768 .f32) : Vec F S2x256x768 .f32 :=
  VecWindow.put (VecWindow.put x ![0, 0, 0] S1x256x768.size (k0_pay27 (probA n b) (restA n b) (VecWindow.window x ![0, 0, 0] S1x256x768.size inb_S2x256x768_S1x256x768_0_0_0)))
    ![1, 0, 0] S1x256x768.size
    (k0_pay47 (k0_pay37 b.dy k0_pay28 (probB n b) (k0_pay33 b.dy k0_pay28 b.v0) (k0_pay34 b.v1) k0_pay35 (k0_pay36 k0_pay28) b.v2)
      (VecWindow.window x ![1, 0, 0] S1x256x768.size inb_S2x256x768_S1x256x768_1_0_0))

/-- The band's block `r` of an accumulator, at query block `i 1`. -/
def rowWin (x : Vec F S4096x128 .f32) (i : grid0.Coords) (r : Fin 3) : Vec F S256x128 .f32 :=
  VecWindow.window x ![rowOff i r.val, 0] S256x128.size (rowIn i r)
/-- An accumulator with its band's block `r` replaced. -/
def rowPut (x : Vec F S4096x128 .f32) (i : grid0.Coords) (r : Fin 3) (w : Vec F S256x128 .f32) : Vec F S4096x128 .f32 :=
  VecWindow.put x ![rowOff i r.val, 0] S256x128.size w

/-- The key gradient's accumulator after the band's first block was added. -/
def stepK0 (i : grid0.Coords) (b : Blk F) (x : Vec F S4096x128 .f32) : Vec F S4096x128 .f32 :=
  rowPut x i 0 (k0_pay50 (k0_pay21 (k0_pay7 b.q) (probA (pid i) b) (restA (pid i) b))
    (k0_pay41 (k0_pay7 b.q) b.dy k0_pay28 (probB (pid i) b) (k0_pay33 b.dy k0_pay28 b.v0) (k0_pay34 b.v1) k0_pay35 (k0_pay36 k0_pay28) b.v2) (rowWin x i 0))
/-- The key gradient's accumulator after the band's second block was added. -/
def stepK1 (i : grid0.Coords) (b : Blk F) (x : Vec F S4096x128 .f32) : Vec F S4096x128 .f32 :=
  rowPut x i 1 (k0_pay52 (k0_pay22 (k0_pay7 b.q) (probA (pid i) b) (restA (pid i) b))
    (k0_pay42 (k0_pay7 b.q) b.dy k0_pay28 (probB (pid i) b) (k0_pay33 b.dy k0_pay28 b.v0) (k0_pay34 b.v1) k0_pay35 (k0_pay36 k0_pay28) b.v2) k0_pay48 (rowWin x i 1))
/-- The key gradient's accumulator after the band's third block was added. -/
def stepK2 (i : grid0.Coords) (b : Blk F) (x : Vec F S4096x128 .f32) : Vec F S4096x128 .f32 :=
  rowPut x i 2 (k0_pay54 (k0_pay23 (k0_pay7 b.q) (probA (pid i) b) (restA (pid i) b))
    (k0_pay43 (k0_pay7 b.q) b.dy k0_pay28 (probB (pid i) b) (k0_pay33 b.dy k0_pay28 b.v0) (k0_pay34 b.v1) k0_pay35 (k0_pay36 k0_pay28) b.v2) k0_pay48 (rowWin x i 2))
/-- The key gradient's accumulator after a point. -/
def stepK (i : grid0.Coords) (b : Blk F) (x : Vec F S4096x128 .f32) : Vec F S4096x128 .f32 := stepK2 i b (stepK1 i b (stepK0 i b x))
/-- The value gradient's accumulator after the band's first block was added. -/
def stepV0 (i : grid0.Coords) (b : Blk F) (x : Vec F S4096x128 .f32) : Vec F S4096x128 .f32 :=
  rowPut x i 0 (k0_pay51 (k0_pay24 b.dy (probA (pid i) b)) (k0_pay44 b.dy (probB (pid i) b)) (rowWin x i 0))
/-- The value gradient's accumulator after the band's second block was added. -/
def stepV1 (i : grid0.Coords) (b : Blk F) (x : Vec F S4096x128 .f32) : Vec F S4096x128 .f32 :=
  rowPut x i 1 (k0_pay53 (k0_pay25 b.dy (probA (pid i) b)) (k0_pay45 b.dy (probB (pid i) b)) k0_pay48 (rowWin x i 1))
/-- The value gradient's accumulator after the band's third block was added. -/
def stepV2 (i : grid0.Coords) (b : Blk F) (x : Vec F S4096x128 .f32) : Vec F S4096x128 .f32 :=
  rowPut x i 2 (k0_pay1 (k0_pay26 b.dy (probA (pid i) b)) (k0_pay46 b.dy (probB (pid i) b)) (rowWin x i 2) (k0_pay55 k0_pay48))
/-- The value gradient's accumulator after a point. -/
def stepV (i : grid0.Coords) (b : Blk F) (x : Vec F S4096x128 .f32) : Vec F S4096x128 .f32 := stepV2 i b (stepV1 i b (stepV0 i b x))

section reads

variable {κ' : Kind} {sp : Space} (v : View sig κ' sp S4096x128 .f32) (f : v.ty.Contents (Elt F)) (i : grid0.Coords)

theorem readAt_row0 (inb) : v.readAt (Elt F) (Rect.unit (s := S4096x128) (k0_off1 i 0#32) ![256, 128] inb).toLoadRect f = rowWin (v.read (Elt F) f) i 0 :=
  View.readAt_unit v f inb (off_form i 0) (rowIn i 0)
theorem readAt_row1 (inb) : v.readAt (Elt F) (Rect.unit (s := S4096x128) (k0_off1 i 1#32) ![256, 128] inb).toLoadRect f = rowWin (v.read (Elt F) f) i 1 :=
  View.readAt_unit v f inb (off_form i 1) (rowIn i 1)
theorem readAt_row2 (inb) : v.readAt (Elt F) (Rect.unit (s := S4096x128) (k0_off1 i 2#32) ![256, 128] inb).toLoadRect f = rowWin (v.read (Elt F) f) i 2 :=
  View.readAt_unit v f inb (off_form i 2) (rowIn i 2)
theorem read_row0 (inb) (w : S256x128.Idx → Elt F .f32) (L : List (View.Piece (Elt F) S4096x128 .f32)) :
    v.read (Elt F) (v.writes (Elt F) f ((⟨Rect.unit (s := S4096x128) (k0_off1 i 0#32) ![256, 128] inb, w⟩ : View.Piece (Elt F) S4096x128 .f32) :: L))
      = rowPut (v.read (Elt F) (v.writes (Elt F) f L)) i 0 w := View.read_writes_cons_put v f inb w L (off_form i 0)
theorem read_row1 (inb) (w : S256x128.Idx → Elt F .f32) (L : List (View.Piece (Elt F) S4096x128 .f32)) :
    v.read (Elt F) (v.writes (Elt F) f ((⟨Rect.unit (s := S4096x128) (k0_off1 i 1#32) ![256, 128] inb, w⟩ : View.Piece (Elt F) S4096x128 .f32) :: L))
      = rowPut (v.read (Elt F) (v.writes (Elt F) f L)) i 1 w := View.read_writes_cons_put v f inb w L (off_form i 1)
theorem read_row2 (inb) (w : S256x128.Idx → Elt F .f32) (L : List (View.Piece (Elt F) S4096x128 .f32)) :
    v.read (Elt F) (v.writes (Elt F) f ((⟨Rect.unit (s := S4096x128) (k0_off1 i 2#32) ![256, 128] inb, w⟩ : View.Piece (Elt F) S4096x128 .f32) :: L))
      = rowPut (v.read (Elt F) (v.writes (Elt F) f L)) i 2 w := View.read_writes_cons_put v f inb w L (off_form i 2)

end reads

section tables

variable {κ' : Kind} {sp : Space} (v : View sig κ' sp S2x256x768 .f32) (f : v.ty.Contents (Elt F))

theorem readAt_put0 (inb) : v.readAt (Elt F) (Rect.unit (s := S2x256x768) ![0, 0, 0] ![1, 256, 768] inb).toLoadRect f = VecWindow.window (s := S2x256x768) (v.read (Elt F) f) ![0, 0, 0] ![1, 256, 768] inb_S2x256x768_S1x256x768_0_0_0 :=
  View.readAt_unit v f inb rfl _
theorem readAt_put1 (inb) : v.readAt (Elt F) (Rect.unit (s := S2x256x768) ![1, 0, 0] ![1, 256, 768] inb).toLoadRect f = VecWindow.window (s := S2x256x768) (v.read (Elt F) f) ![1, 0, 0] ![1, 256, 768] inb_S2x256x768_S1x256x768_1_0_0 :=
  View.readAt_unit v f inb rfl _
theorem read_put0 (inb) (w : S1x256x768.Idx → Elt F .f32) (L : List (View.Piece (Elt F) S2x256x768 .f32)) :
    v.read (Elt F) (v.writes (Elt F) f ((⟨Rect.unit (s := S2x256x768) ![0, 0, 0] ![1, 256, 768] inb, w⟩ : View.Piece (Elt F) S2x256x768 .f32) :: L))
      = VecWindow.put (s := S2x256x768) (v.read (Elt F) (v.writes (Elt F) f L)) ![0, 0, 0] ![1, 256, 768] w := View.read_writes_cons_put v f inb w L rfl
theorem read_put1 (inb) (w : S1x256x768.Idx → Elt F .f32) (L : List (View.Piece (Elt F) S2x256x768 .f32)) :
    v.read (Elt F) (v.writes (Elt F) f ((⟨Rect.unit (s := S2x256x768) ![1, 0, 0] ![1, 256, 768] inb, w⟩ : View.Piece (Elt F) S2x256x768 .f32) :: L))
      = VecWindow.put (s := S2x256x768) (v.read (Elt F) (v.writes (Elt F) f L)) ![1, 0, 0] ![1, 256, 768] w := View.read_writes_cons_put v f inb w L rfl
theorem read_full3 (inb) (w : S2x256x768.Idx → Elt F .f32) (L : List (View.Piece (Elt F) S2x256x768 .f32)) :
    v.read (Elt F) (v.writes (Elt F) f ((⟨Rect.unit (s := S2x256x768) ![0, 0, 0] ![2, 256, 768] inb, w⟩ : View.Piece (Elt F) S2x256x768 .f32) :: L)) = w := View.read_writes_full v f inb w L

/-- The second head's table is not touched by the first head's store. -/
theorem window_put01 (x : S2x256x768.Idx → Elt F .f32) (w : ((a : Fin 3) → Fin ((![1, 256, 768] : Fin 3 → Nat) a)) → Elt F .f32) (inb) :
    VecWindow.window (s := S2x256x768) (VecWindow.put (s := S2x256x768) x ![0, 0, 0] ![1, 256, 768] w) ![1, 0, 0] ![1, 256, 768] inb
      = VecWindow.window (s := S2x256x768) x ![1, 0, 0] ![1, 256, 768] inb :=
  VecWindow.window_put_of_disjoint (s := S2x256x768) x _ _ _ _ inb w 0 (.inr (by show 0 + 1 ≤ 1; omega))

end tables

section sums

variable {κ' : Kind} {sp : Space} (v : View sig κ' sp S2x256x1 .f32) (f : v.ty.Contents (Elt F))

theorem readAt_lse0 (inb) : v.readAt (Elt F) (Rect.unit (s := S2x256x1) ![0, 0, 0] ![1, 256, 1] inb).toLoadRect f = VecWindow.window (v.read (Elt F) f) ![0, 0, 0] S1x256x1.size inb_S2x256x1_S1x256x1_0_0_0 :=
  View.readAt_unit v f inb rfl _
theorem readAt_lse1 (inb) : v.readAt (Elt F) (Rect.unit (s := S2x256x1) ![1, 0, 0] ![1, 256, 1] inb).toLoadRect f = VecWindow.window (v.read (Elt F) f) ![1, 0, 0] S1x256x1.size inb_S2x256x1_S1x256x1_1_0_0 :=
  View.readAt_unit v f inb rfl _

end sums

section whole

variable {κ' : Kind} {sp : Space} {e : EltTy} (v : View sig κ' sp S4096x128 e) (f : v.ty.Contents (Elt F)) (u : View sig κ' sp S256x128 e) (g : u.ty.Contents (Elt F))

theorem read_full2 (inb) (w : S4096x128.Idx → Elt F e) (L : List (View.Piece (Elt F) S4096x128 e)) :
    v.read (Elt F) (v.writes (Elt F) f ((⟨Rect.unit (s := S4096x128) ![0, 0] ![4096, 128] inb, w⟩ : View.Piece (Elt F) S4096x128 e) :: L)) = w := View.read_writes_full v f inb w L
theorem read_fullq (inb) (w : S256x128.Idx → Elt F e) (L : List (View.Piece (Elt F) S256x128 e)) :
    u.read (Elt F) (u.writes (Elt F) g ((⟨Rect.unit (s := S256x128) ![0, 0] ![256, 128] inb, w⟩ : View.Piece (Elt F) S256x128 e) :: L)) = w := View.read_writes_full u g inb w L
theorem readAt_full2 (inb) : v.readAt (Elt F) (Rect.unit (s := S4096x128) ![0, 0] ![4096, 128] inb).toLoadRect f = v.read (Elt F) f := View.readAt_full v f inb
theorem readAt_fullq (inb) : u.readAt (Elt F) (Rect.unit (s := S256x128) ![0, 0] ![256, 128] inb).toLoadRect g = u.read (Elt F) g := View.readAt_full u g inb

end whole

end Cert.Kernel11Ideal.Hand

end
-- ==== Proof.Attn.RunA.lean ====
module

public import proofs.«01_k».proof.Proof.Gen.Kernel11Ideal.Skeleton
public import proofs.«01_k».proof.Proof.Attn.Pure
public import proofs.«01_k».proof.Proof.Gen.Kernel11Ideal.Frame
public import Idealize.ShloMosaic.Lib.VecWindow
public import Idealize.ShloMosaic.Lib.Pipeline.ValueKit

@[expose] public section

set_option maxRecDepth 16384

noncomputable section

namespace Cert.Kernel11Ideal.Hand

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body stores in this case, and its run. -/
noncomputable def runA (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : condFirst i) (hc1 : ¬ condLast i)
    (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S2x256x768 .f32) (x10 : Vec F S2x256x1 .f32) (x11 : Vec F S256x128 .bf16) (x13 : Vec F S4096x128 .bf16) (x14 : Vec F S4096x128 .bf16) :
    Σ' (L12 : List (View.Piece (Elt F) S256x128 .bf16)), Σ' (L15 : List (View.Piece (Elt F) S2x256x768 .f32)), Σ' (L16 : List (View.Piece (Elt F) S4096x128 .f32)), { L17 : List (View.Piece (Elt F) S4096x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg12.view.loc (c : Thread nD τ) ↦[arg12.view.set]{fullShare} arg12.view.writes (Elt F) f L12) ∗ owns (c : Thread nD τ) arg13 fullShare x13 ∗ owns (c : Thread nD τ) arg14 fullShare x14 ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%d15, %f15, -, H15⟩, ⟨%d16, %f16, -, H16⟩, ⟨%d17, %f17, -, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]
    · iexists _; isplitr; · ipureintro; exact harg13.read_unread _
      iexact H13
    isplitl [H14]
    · iexists _; isplitr; · ipureintro; exact harg14.read_unread _
      iexact H14
    isplitl [H15]; · iexists _; iexact H15
    isplitl [H16]; · iexists _; iexact H16
    iexists _; iexact H17

set_option maxHeartbeats 2000000 in
theorem runA_read12 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : condFirst i) (hc1 : ¬ condLast i)
    (b : Blk F) (x13 : Vec F S4096x128 .bf16) (x14 : Vec F S4096x128 .bf16) (f : arg12.view.ty.Contents (Elt F)) :
    arg12.view.read (Elt F) (arg12.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x13 x14).1) = dqOut (pid i) b := by
  frame_open
  simp only [View.readCov, read_row0, read_row1, read_row2, readAt_row0, readAt_row1, readAt_row2, View.read_writes_full, View.readAt_full, View.writes_nil,
    Memref.IsWhole.read_unread, read_put1, read_put0, readAt_put1, readAt_put0, readAt_lse1, readAt_lse0, read_full3, read_full2, read_fullq, readAt_full2, readAt_fullq]
  try rfl

set_option maxHeartbeats 2000000 in
theorem runA_read15 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : condFirst i) (hc1 : ¬ condLast i)
    (b : Blk F) (x13 : Vec F S4096x128 .bf16) (x14 : Vec F S4096x128 .bf16) (f : arg15.view.ty.Contents (Elt F)) :
    arg15.view.read (Elt F) (arg15.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x13 x14).2.1) = stepB (pid i) b k0_pay4 := by
  frame_open
  simp only [View.readCov, read_row0, read_row1, read_row2, readAt_row0, readAt_row1, readAt_row2, View.read_writes_full, View.readAt_full, View.writes_nil,
    Memref.IsWhole.read_unread, read_put1, read_put0, readAt_put1, readAt_put0, readAt_lse1, readAt_lse0, read_full3, read_full2, read_fullq, readAt_full2, readAt_fullq]
  exact congrArg (fun z => VecWindow.put (s := S2x256x768) _ ![1, 0, 0] ![1, 256, 768] (k0_pay47 _ z)) (window_put01 _ _ _)

set_option maxHeartbeats 2000000 in
theorem runA_read16 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : condFirst i) (hc1 : ¬ condLast i)
    (b : Blk F) (x13 : Vec F S4096x128 .bf16) (x14 : Vec F S4096x128 .bf16) (f : arg16.view.ty.Contents (Elt F)) :
    arg16.view.read (Elt F) (arg16.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x13 x14).2.2.1) = stepK i b k0_pay5 := by
  frame_open
  simp only [View.readCov, read_row0, read_row1, read_row2, readAt_row0, readAt_row1, readAt_row2, View.read_writes_full, View.readAt_full, View.writes_nil,
    Memref.IsWhole.read_unread, read_put1, read_put0, readAt_put1, readAt_put0, readAt_lse1, readAt_lse0, read_full3, read_full2, read_fullq, readAt_full2, readAt_fullq]
  try rfl

set_option maxHeartbeats 2000000 in
theorem runA_read17 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : condFirst i) (hc1 : ¬ condLast i)
    (b : Blk F) (x13 : Vec F S4096x128 .bf16) (x14 : Vec F S4096x128 .bf16) (f : arg17.view.ty.Contents (Elt F)) :
    arg17.view.read (Elt F) (arg17.view.writes (Elt F) f (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x13 x14).2.2.2.1) = stepV i b k0_pay6 := by
  frame_open
  simp only [View.readCov, read_row0, read_row1, read_row2, readAt_row0, readAt_row1, readAt_row2, View.read_writes_full, View.readAt_full, View.writes_nil,
    Memref.IsWhole.read_unread, read_put1, read_put0, readAt_put1, readAt_put0, readAt_lse1, readAt_lse0, read_full3, read_full2, read_fullq, readAt_full2, readAt_fullq]
  try rfl

set_option maxHeartbeats 2000000 in
/-- The body at a point that opens a pair of heads: the results' contents as functions of what it reads. -/
theorem soundA (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : condFirst i) (hc1 : ¬ condLast i)
    (b : Blk F) (x13 : Vec F S4096x128 .bf16) (x14 : Vec F S4096x128 .bf16) (E : Set ℕ) (K : PUnit → sProp 𝕄) :
    iprop(owns (c : Thread nD τ) arg2 fullShare b.q ∗ owns (c : Thread nD τ) arg3 fullShare b.k0 ∗ owns (c : Thread nD τ) arg4 fullShare b.k1 ∗ owns (c : Thread nD τ) arg5 fullShare b.k2 ∗ owns (c : Thread nD τ) arg6 fullShare b.v0 ∗ owns (c : Thread nD τ) arg7 fullShare b.v1 ∗ owns (c : Thread nD τ) arg8 fullShare b.v2 ∗ owns (c : Thread nD τ) arg9 fullShare b.bias ∗ owns (c : Thread nD τ) arg10 fullShare b.lse ∗ owns (c : Thread nD τ) arg11 fullShare b.dy ∗ (∃ d, owns (c : Thread nD τ) arg12 fullShare d) ∗ owns (c : Thread nD τ) arg13 fullShare x13 ∗ owns (c : Thread nD τ) arg14 fullShare x14 ∗ (∃ d, owns (c : Thread nD τ) arg15 fullShare d) ∗ (∃ d, owns (c : Thread nD τ) arg16 fullShare d) ∗ (∃ d, owns (c : Thread nD τ) arg17 fullShare d) ∗ (iprop(owns (c : Thread nD τ) arg2 fullShare b.q ∗ owns (c : Thread nD τ) arg3 fullShare b.k0 ∗ owns (c : Thread nD τ) arg4 fullShare b.k1 ∗ owns (c : Thread nD τ) arg5 fullShare b.k2 ∗ owns (c : Thread nD τ) arg6 fullShare b.v0 ∗ owns (c : Thread nD τ) arg7 fullShare b.v1 ∗ owns (c : Thread nD τ) arg8 fullShare b.v2 ∗ owns (c : Thread nD τ) arg9 fullShare b.bias ∗ owns (c : Thread nD τ) arg10 fullShare b.lse ∗ owns (c : Thread nD τ) arg11 fullShare b.dy ∗ owns (c : Thread nD τ) arg12 fullShare (dqOut (pid i) b) ∗ owns (c : Thread nD τ) arg13 fullShare x13 ∗ owns (c : Thread nD τ) arg14 fullShare x14 ∗ owns (c : Thread nD τ) arg15 fullShare (stepB (pid i) b k0_pay4) ∗ owns (c : Thread nD τ) arg16 fullShare (stepK i b k0_pay5) ∗ owns (c : Thread nD τ) arg17 fullShare (stepV i b k0_pay6)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply (runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x13 x14).2.2.2.2 E K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, ⟨%f12, H12⟩, H13, H14, ⟨%f15, H15⟩, ⟨%f16, H16⟩, ⟨%f17, H17⟩⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; · ipureintro; exact runA_read12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b x13 x14 f12
    iexact H12
  isplitl [H13]; · iexact H13
  isplitl [H14]; · iexact H14
  isplitl [H15]
  · unfold owns; iexists _; isplitr; · ipureintro; exact runA_read15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b x13 x14 f15
    iexact H15
  isplitl [H16]
  · unfold owns; iexists _; isplitr; · ipureintro; exact runA_read16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b x13 x14 f16
    iexact H16
  unfold owns; iexists _; isplitr; · ipureintro; exact runA_read17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b x13 x14 f17
  iexact H17

end Cert.Kernel11Ideal.Hand

end
-- ==== Proof.Attn.RunB.lean ====
module

public import proofs.«01_k».proof.Proof.Gen.Kernel11Ideal.Skeleton
public import proofs.«01_k».proof.Proof.Attn.Pure
public import proofs.«01_k».proof.Proof.Gen.Kernel11Ideal.Frame
public import Idealize.ShloMosaic.Lib.VecWindow
public import Idealize.ShloMosaic.Lib.Pipeline.ValueKit

@[expose] public section

set_option maxRecDepth 16384

noncomputable section

namespace Cert.Kernel11Ideal.Hand

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body stores in this case, and its run. -/
noncomputable def runB (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : ¬ condFirst i) (hc1 : ¬ condLast i)
    (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S2x256x768 .f32) (x10 : Vec F S2x256x1 .f32) (x11 : Vec F S256x128 .bf16) (x13 : Vec F S4096x128 .bf16) (x14 : Vec F S4096x128 .bf16) (x15 : Vec F S2x256x768 .f32) (x16 : Vec F S4096x128 .f32) (x17 : Vec F S4096x128 .f32) :
    Σ' (L12 : List (View.Piece (Elt F) S256x128 .bf16)), Σ' (L15 : List (View.Piece (Elt F) S2x256x768 .f32)), Σ' (L16 : List (View.Piece (Elt F) S4096x128 .f32)), { L17 : List (View.Piece (Elt F) S4096x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg12.view.loc (c : Thread nD τ) ↦[arg12.view.set]{fullShare} arg12.view.writes (Elt F) f L12) ∗ owns (c : Thread nD τ) arg13 fullShare x13 ∗ owns (c : Thread nD τ) arg14 fullShare x14 ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg13.eq_unread hf13; obtain rfl := harg14.eq_unread hf14; obtain rfl := harg15.eq_unread hf15; obtain rfl := harg16.eq_unread hf16; obtain rfl := harg17.eq_unread hf17
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]
    · iexists _; isplitr; · ipureintro; exact harg13.read_unread _
      iexact H13
    isplitl [H14]
    · iexists _; isplitr; · ipureintro; exact harg14.read_unread _
      iexact H14
    isplitl [H15]; · iexact H15
    isplitl [H16]; · iexact H16
    iexact H17

set_option maxHeartbeats 2000000 in
theorem runB_read12 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : ¬ condFirst i) (hc1 : ¬ condLast i)
    (b : Blk F) (x13 : Vec F S4096x128 .bf16) (x14 : Vec F S4096x128 .bf16) (x15 : Vec F S2x256x768 .f32) (x16 : Vec F S4096x128 .f32) (x17 : Vec F S4096x128 .f32) (f : arg12.view.ty.Contents (Elt F)) :
    arg12.view.read (Elt F) (arg12.view.writes (Elt F) f (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x13 x14 x15 x16 x17).1) = dqOut (pid i) b := by
  frame_open
  simp only [View.readCov, read_row0, read_row1, read_row2, readAt_row0, readAt_row1, readAt_row2, View.read_writes_full, View.readAt_full, View.writes_nil,
    Memref.IsWhole.read_unread, read_put1, read_put0, readAt_put1, readAt_put0, readAt_lse1, readAt_lse0, read_full3, read_full2, read_fullq, readAt_full2, readAt_fullq]
  try rfl

set_option maxHeartbeats 2000000 in
theorem runB_read15 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : ¬ condFirst i) (hc1 : ¬ condLast i)
    (b : Blk F) (x13 : Vec F S4096x128 .bf16) (x14 : Vec F S4096x128 .bf16) (x15 : Vec F S2x256x768 .f32) (x16 : Vec F S4096x128 .f32) (x17 : Vec F S4096x128 .f32) :
    arg15.view.read (Elt F) (arg15.view.writes (Elt F) (harg15.unread x15) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x13 x14 x15 x16 x17).2.1) = stepB (pid i) b x15 := by
  frame_open
  simp only [View.readCov, read_row0, read_row1, read_row2, readAt_row0, readAt_row1, readAt_row2, View.read_writes_full, View.readAt_full, View.writes_nil,
    Memref.IsWhole.read_unread, read_put1, read_put0, readAt_put1, readAt_put0, readAt_lse1, readAt_lse0, read_full3, read_full2, read_fullq, readAt_full2, readAt_fullq]
  try rfl

set_option maxHeartbeats 2000000 in
theorem runB_read16 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : ¬ condFirst i) (hc1 : ¬ condLast i)
    (b : Blk F) (x13 : Vec F S4096x128 .bf16) (x14 : Vec F S4096x128 .bf16) (x15 : Vec F S2x256x768 .f32) (x16 : Vec F S4096x128 .f32) (x17 : Vec F S4096x128 .f32) :
    arg16.view.read (Elt F) (arg16.view.writes (Elt F) (harg16.unread x16) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x13 x14 x15 x16 x17).2.2.1) = stepK i b x16 := by
  frame_open
  simp only [View.readCov, read_row0, read_row1, read_row2, readAt_row0, readAt_row1, readAt_row2, View.read_writes_full, View.readAt_full, View.writes_nil,
    Memref.IsWhole.read_unread, read_put1, read_put0, readAt_put1, readAt_put0, readAt_lse1, readAt_lse0, read_full3, read_full2, read_fullq, readAt_full2, readAt_fullq]
  try rfl

set_option maxHeartbeats 2000000 in
theorem runB_read17 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : ¬ condFirst i) (hc1 : ¬ condLast i)
    (b : Blk F) (x13 : Vec F S4096x128 .bf16) (x14 : Vec F S4096x128 .bf16) (x15 : Vec F S2x256x768 .f32) (x16 : Vec F S4096x128 .f32) (x17 : Vec F S4096x128 .f32) :
    arg17.view.read (Elt F) (arg17.view.writes (Elt F) (harg17.unread x17) (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x13 x14 x15 x16 x17).2.2.2.1) = stepV i b x17 := by
  frame_open
  simp only [View.readCov, read_row0, read_row1, read_row2, readAt_row0, readAt_row1, readAt_row2, View.read_writes_full, View.readAt_full, View.writes_nil,
    Memref.IsWhole.read_unread, read_put1, read_put0, readAt_put1, readAt_put0, readAt_lse1, readAt_lse0, read_full3, read_full2, read_fullq, readAt_full2, readAt_fullq]
  try rfl

set_option maxHeartbeats 2000000 in
/-- The body at a point within a pair of heads: the results' contents as functions of what it reads and of the accumulators. -/
theorem soundB (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : ¬ condFirst i) (hc1 : ¬ condLast i)
    (b : Blk F) (x13 : Vec F S4096x128 .bf16) (x14 : Vec F S4096x128 .bf16) (x15 : Vec F S2x256x768 .f32) (x16 : Vec F S4096x128 .f32) (x17 : Vec F S4096x128 .f32) (E : Set ℕ) (K : PUnit → sProp 𝕄) :
    iprop(owns (c : Thread nD τ) arg2 fullShare b.q ∗ owns (c : Thread nD τ) arg3 fullShare b.k0 ∗ owns (c : Thread nD τ) arg4 fullShare b.k1 ∗ owns (c : Thread nD τ) arg5 fullShare b.k2 ∗ owns (c : Thread nD τ) arg6 fullShare b.v0 ∗ owns (c : Thread nD τ) arg7 fullShare b.v1 ∗ owns (c : Thread nD τ) arg8 fullShare b.v2 ∗ owns (c : Thread nD τ) arg9 fullShare b.bias ∗ owns (c : Thread nD τ) arg10 fullShare b.lse ∗ owns (c : Thread nD τ) arg11 fullShare b.dy ∗ (∃ d, owns (c : Thread nD τ) arg12 fullShare d) ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (iprop(owns (c : Thread nD τ) arg2 fullShare b.q ∗ owns (c : Thread nD τ) arg3 fullShare b.k0 ∗ owns (c : Thread nD τ) arg4 fullShare b.k1 ∗ owns (c : Thread nD τ) arg5 fullShare b.k2 ∗ owns (c : Thread nD τ) arg6 fullShare b.v0 ∗ owns (c : Thread nD τ) arg7 fullShare b.v1 ∗ owns (c : Thread nD τ) arg8 fullShare b.v2 ∗ owns (c : Thread nD τ) arg9 fullShare b.bias ∗ owns (c : Thread nD τ) arg10 fullShare b.lse ∗ owns (c : Thread nD τ) arg11 fullShare b.dy ∗ owns (c : Thread nD τ) arg12 fullShare (dqOut (pid i) b) ∗ owns (c : Thread nD τ) arg13 fullShare x13 ∗ owns (c : Thread nD τ) arg14 fullShare x14 ∗ owns (c : Thread nD τ) arg15 fullShare (stepB (pid i) b x15) ∗ owns (c : Thread nD τ) arg16 fullShare (stepK i b x16) ∗ owns (c : Thread nD τ) arg17 fullShare (stepV i b x17)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply (runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x13 x14 x15 x16 x17).2.2.2.2 E K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, ⟨%f12, H12⟩, H13, H14, H15, H16, H17⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; · ipureintro; exact runB_read12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b x13 x14 x15 x16 x17 f12
    iexact H12
  isplitl [H13]; · iexact H13
  isplitl [H14]; · iexact H14
  isplitl [H15]
  · unfold owns; iexists _; isplitr; · ipureintro; exact runB_read15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b x13 x14 x15 x16 x17
    iexact H15
  isplitl [H16]
  · unfold owns; iexists _; isplitr; · ipureintro; exact runB_read16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b x13 x14 x15 x16 x17
    iexact H16
  unfold owns; iexists _; isplitr; · ipureintro; exact runB_read17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b x13 x14 x15 x16 x17
  iexact H17

end Cert.Kernel11Ideal.Hand

end
-- ==== Proof.Attn.RunC.lean ====
module

public import proofs.«01_k».proof.Proof.Gen.Kernel11Ideal.Skeleton
public import proofs.«01_k».proof.Proof.Attn.Pure
public import proofs.«01_k».proof.Proof.Gen.Kernel11Ideal.Frame
public import Idealize.ShloMosaic.Lib.VecWindow
public import Idealize.ShloMosaic.Lib.Pipeline.ValueKit

@[expose] public section

set_option maxRecDepth 16384

noncomputable section

namespace Cert.Kernel11Ideal.Hand

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
/-- The pieces the body stores in this case, and its run. -/
noncomputable def runC (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : ¬ condFirst i) (hc1 : condLast i)
    (x2 : Vec F S256x128 .bf16) (x3 : Vec F S256x128 .bf16) (x4 : Vec F S256x128 .bf16) (x5 : Vec F S256x128 .bf16) (x6 : Vec F S256x128 .bf16) (x7 : Vec F S256x128 .bf16) (x8 : Vec F S256x128 .bf16) (x9 : Vec F S2x256x768 .f32) (x10 : Vec F S2x256x1 .f32) (x11 : Vec F S256x128 .bf16) (x15 : Vec F S2x256x768 .f32) (x16 : Vec F S4096x128 .f32) (x17 : Vec F S4096x128 .f32) :
    Σ' (L12 : List (View.Piece (Elt F) S256x128 .bf16)), Σ' (L13 : List (View.Piece (Elt F) S4096x128 .bf16)), Σ' (L14 : List (View.Piece (Elt F) S4096x128 .bf16)), Σ' (L15 : List (View.Piece (Elt F) S2x256x768 .f32)), Σ' (L16 : List (View.Piece (Elt F) S4096x128 .f32)), { L17 : List (View.Piece (Elt F) S4096x128 .f32) //
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ owns (c : Thread nD τ) arg15 fullShare x15 ∗ owns (c : Thread nD τ) arg16 fullShare x16 ∗ owns (c : Thread nD τ) arg17 fullShare x17 ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ f, arg12.view.loc (c : Thread nD τ) ↦[arg12.view.set]{fullShare} arg12.view.writes (Elt F) f L12) ∗ (∃ f, arg13.view.loc (c : Thread nD τ) ↦[arg13.view.set]{fullShare} arg13.view.writes (Elt F) f L13) ∗ (∃ f, arg14.view.loc (c : Thread nD τ) ↦[arg14.view.set]{fullShare} arg14.view.writes (Elt F) f L14) ∗ (arg15.view.loc (c : Thread nD τ) ↦[arg15.view.set]{fullShare} arg15.view.writes (Elt F) (harg15.unread x15) L15) ∗ (arg16.view.loc (c : Thread nD τ) ↦[arg16.view.set]{fullShare} arg16.view.writes (Elt F) (harg16.unread x16) L16) ∗ (arg17.view.loc (c : Thread nD τ) ↦[arg17.view.set]{fullShare} arg17.view.writes (Elt F) (harg17.unread x17) L17)) -∗ K ⟨⟩))
          ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%f15, %hf15, H15⟩, ⟨%f16, %hf16, H16⟩, ⟨%f17, %hf17, H17⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg15.eq_unread hf15; obtain rfl := harg16.eq_unread hf16; obtain rfl := harg17.eq_unread hf17
    sl_exec (disch := first | sl_exact hc0 | sl_exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]; · iexists _; iexact H12
    isplitl [H13]; · iexists _; iexact H13
    isplitl [H14]; · iexists _; iexact H14
    isplitl [H15]; · iexact H15
    isplitl [H16]; · iexact H16
    iexact H17

set_option maxHeartbeats 2000000 in
theorem runC_read12 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : ¬ condFirst i) (hc1 : condLast i)
    (b : Blk F) (x15 : Vec F S2x256x768 .f32) (x16 : Vec F S4096x128 .f32) (x17 : Vec F S4096x128 .f32) (f : arg12.view.ty.Contents (Elt F)) :
    arg12.view.read (Elt F) (arg12.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x15 x16 x17).1) = dqOut (pid i) b := by
  frame_open
  simp only [View.readCov, read_row0, read_row1, read_row2, readAt_row0, readAt_row1, readAt_row2, View.read_writes_full, View.readAt_full, View.writes_nil,
    Memref.IsWhole.read_unread, read_put1, read_put0, readAt_put1, readAt_put0, readAt_lse1, readAt_lse0, read_full3, read_full2, read_fullq, readAt_full2, readAt_fullq]
  try rfl

set_option maxHeartbeats 2000000 in
theorem runC_read13 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : ¬ condFirst i) (hc1 : condLast i)
    (b : Blk F) (x15 : Vec F S2x256x768 .f32) (x16 : Vec F S4096x128 .f32) (x17 : Vec F S4096x128 .f32) (f : arg13.view.ty.Contents (Elt F)) :
    arg13.view.read (Elt F) (arg13.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x15 x16 x17).2.1) = k0_pay2 (stepK i b x16) := by
  frame_open
  simp only [View.readCov, read_row0, read_row1, read_row2, readAt_row0, readAt_row1, readAt_row2, View.read_writes_full, View.readAt_full, View.writes_nil,
    Memref.IsWhole.read_unread, read_put1, read_put0, readAt_put1, readAt_put0, readAt_lse1, readAt_lse0, read_full3, read_full2, read_fullq, readAt_full2, readAt_fullq]
  try rfl

set_option maxHeartbeats 2000000 in
theorem runC_read14 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : ¬ condFirst i) (hc1 : condLast i)
    (b : Blk F) (x15 : Vec F S2x256x768 .f32) (x16 : Vec F S4096x128 .f32) (x17 : Vec F S4096x128 .f32) (f : arg14.view.ty.Contents (Elt F)) :
    arg14.view.read (Elt F) (arg14.view.writes (Elt F) f (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x15 x16 x17).2.2.1) = k0_pay3 (stepV i b x17) := by
  frame_open
  simp only [View.readCov, read_row0, read_row1, read_row2, readAt_row0, readAt_row1, readAt_row2, View.read_writes_full, View.readAt_full, View.writes_nil,
    Memref.IsWhole.read_unread, read_put1, read_put0, readAt_put1, readAt_put0, readAt_lse1, readAt_lse0, read_full3, read_full2, read_fullq, readAt_full2, readAt_fullq]
  try rfl

set_option maxHeartbeats 2000000 in
theorem runC_read15 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : ¬ condFirst i) (hc1 : condLast i)
    (b : Blk F) (x15 : Vec F S2x256x768 .f32) (x16 : Vec F S4096x128 .f32) (x17 : Vec F S4096x128 .f32) :
    arg15.view.read (Elt F) (arg15.view.writes (Elt F) (harg15.unread x15) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x15 x16 x17).2.2.2.1) = stepB (pid i) b x15 := by
  frame_open
  simp only [View.readCov, read_row0, read_row1, read_row2, readAt_row0, readAt_row1, readAt_row2, View.read_writes_full, View.readAt_full, View.writes_nil,
    Memref.IsWhole.read_unread, read_put1, read_put0, readAt_put1, readAt_put0, readAt_lse1, readAt_lse0, read_full3, read_full2, read_fullq, readAt_full2, readAt_fullq]
  try rfl

set_option maxHeartbeats 2000000 in
theorem runC_read16 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : ¬ condFirst i) (hc1 : condLast i)
    (b : Blk F) (x15 : Vec F S2x256x768 .f32) (x16 : Vec F S4096x128 .f32) (x17 : Vec F S4096x128 .f32) :
    arg16.view.read (Elt F) (arg16.view.writes (Elt F) (harg16.unread x16) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x15 x16 x17).2.2.2.2.1) = stepK i b x16 := by
  frame_open
  simp only [View.readCov, read_row0, read_row1, read_row2, readAt_row0, readAt_row1, readAt_row2, View.read_writes_full, View.readAt_full, View.writes_nil,
    Memref.IsWhole.read_unread, read_put1, read_put0, readAt_put1, readAt_put0, readAt_lse1, readAt_lse0, read_full3, read_full2, read_fullq, readAt_full2, readAt_fullq]
  try rfl

set_option maxHeartbeats 2000000 in
theorem runC_read17 (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : ¬ condFirst i) (hc1 : condLast i)
    (b : Blk F) (x15 : Vec F S2x256x768 .f32) (x16 : Vec F S4096x128 .f32) (x17 : Vec F S4096x128 .f32) :
    arg17.view.read (Elt F) (arg17.view.writes (Elt F) (harg17.unread x17) (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x15 x16 x17).2.2.2.2.2.1) = stepV i b x17 := by
  frame_open
  simp only [View.readCov, read_row0, read_row1, read_row2, readAt_row0, readAt_row1, readAt_row2, View.read_writes_full, View.readAt_full, View.writes_nil,
    Memref.IsWhole.read_unread, read_put1, read_put0, readAt_put1, readAt_put0, readAt_lse1, readAt_lse0, read_full3, read_full2, read_fullq, readAt_full2, readAt_fullq]
  try rfl

set_option maxHeartbeats 2000000 in
/-- The body at a point that closes a pair of heads: the results' contents as functions of what it reads and of the accumulators. -/
theorem soundC (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S256x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S256x128 .bf16) (harg8 : arg8.IsWhole) (arg9 : Memref sig .tc .vmem S2x256x768 .f32) (harg9 : arg9.IsWhole) (arg10 : Memref sig .tc .vmem S2x256x1 .f32) (harg10 : arg10.IsWhole) (arg11 : Memref sig .tc .vmem S256x128 .bf16) (harg11 : arg11.IsWhole) (arg12 : Memref sig .tc .vmem S256x128 .bf16) (harg12 : arg12.IsWhole) (arg13 : Memref sig .tc .vmem S4096x128 .bf16) (harg13 : arg13.IsWhole) (arg14 : Memref sig .tc .vmem S4096x128 .bf16) (harg14 : arg14.IsWhole) (arg15 : Memref sig .tc .vmem S2x256x768 .f32) (harg15 : arg15.IsWhole) (arg16 : Memref sig .tc .vmem S4096x128 .f32) (harg16 : arg16.IsWhole) (arg17 : Memref sig .tc .vmem S4096x128 .f32) (harg17 : arg17.IsWhole) (hc0 : ¬ condFirst i) (hc1 : condLast i)
    (b : Blk F) (x15 : Vec F S2x256x768 .f32) (x16 : Vec F S4096x128 .f32) (x17 : Vec F S4096x128 .f32) (E : Set ℕ) (K : PUnit → sProp 𝕄) :
    iprop(owns (c : Thread nD τ) arg2 fullShare b.q ∗ owns (c : Thread nD τ) arg3 fullShare b.k0 ∗ owns (c : Thread nD τ) arg4 fullShare b.k1 ∗ owns (c : Thread nD τ) arg5 fullShare b.k2 ∗ owns (c : Thread nD τ) arg6 fullShare b.v0 ∗ owns (c : Thread nD τ) arg7 fullShare b.v1 ∗ owns (c : Thread nD τ) arg8 fullShare b.v2 ∗ owns (c : Thread nD τ) arg9 fullShare b.bias ∗ owns (c : Thread nD τ) arg10 fullShare b.lse ∗ owns (c : Thread nD τ) arg11 fullShare b.dy ∗ (∃ d, owns (c : Thread nD τ) arg12 fullShare d) ∗ (∃ d, owns (c : Thread nD τ) arg13 fullShare d) ∗ (∃ d, owns (c : Thread nD τ) arg14 fullShare d) ∗ owns (c : Thread nD τ) arg15 fullShare x15 ∗ owns (c : Thread nD τ) arg16 fullShare x16 ∗ owns (c : Thread nD τ) arg17 fullShare x17 ∗ (iprop(owns (c : Thread nD τ) arg2 fullShare b.q ∗ owns (c : Thread nD τ) arg3 fullShare b.k0 ∗ owns (c : Thread nD τ) arg4 fullShare b.k1 ∗ owns (c : Thread nD τ) arg5 fullShare b.k2 ∗ owns (c : Thread nD τ) arg6 fullShare b.v0 ∗ owns (c : Thread nD τ) arg7 fullShare b.v1 ∗ owns (c : Thread nD τ) arg8 fullShare b.v2 ∗ owns (c : Thread nD τ) arg9 fullShare b.bias ∗ owns (c : Thread nD τ) arg10 fullShare b.lse ∗ owns (c : Thread nD τ) arg11 fullShare b.dy ∗ owns (c : Thread nD τ) arg12 fullShare (dqOut (pid i) b) ∗ owns (c : Thread nD τ) arg13 fullShare (k0_pay2 (stepK i b x16)) ∗ owns (c : Thread nD τ) arg14 fullShare (k0_pay3 (stepV i b x17)) ∗ owns (c : Thread nD τ) arg15 fullShare (stepB (pid i) b x15) ∗ owns (c : Thread nD τ) arg16 fullShare (stepK i b x16) ∗ owns (c : Thread nD τ) arg17 fullShare (stepV i b x17)) -∗ K ⟨⟩))
      ⊢ wp frame (wpE (defs₀ (F := F)) Variants.none c none) E (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  iintro ⟨H2, H3, H4, H5, H6, H7, H8, H9, H10, H11, H12, H13, H14, H15, H16, H17, Hk⟩
  iapply (runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b.q b.k0 b.k1 b.k2 b.v0 b.v1 b.v2 b.bias b.lse b.dy x15 x16 x17).2.2.2.2.2.2 E K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iintro ⟨H2, H3, H4, H5, H6, H7, H8, H9, H10, H11, ⟨%f12, H12⟩, ⟨%f13, H13⟩, ⟨%f14, H14⟩, H15, H16, H17⟩
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr; · ipureintro; exact runC_read12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b x15 x16 x17 f12
    iexact H12
  isplitl [H13]
  · unfold owns; iexists _; isplitr; · ipureintro; exact runC_read13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b x15 x16 x17 f13
    iexact H13
  isplitl [H14]
  · unfold owns; iexists _; isplitr; · ipureintro; exact runC_read14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b x15 x16 x17 f14
    iexact H14
  isplitl [H15]
  · unfold owns; iexists _; isplitr; · ipureintro; exact runC_read15 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b x15 x16 x17
    iexact H15
  isplitl [H16]
  · unfold owns; iexists _; isplitr; · ipureintro; exact runC_read16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b x15 x16 x17
    iexact H16
  unfold owns; iexists _; isplitr; · ipureintro; exact runC_read17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 b x15 x16 x17
  iexact H17

end Cert.Kernel11Ideal.Hand

end
-- ==== Proof.Attn.Frame.lean ====
module

public import proofs.«01_k».proof.Proof.Gen.Kernel11Ideal.Skeleton
public import proofs.«01_k».proof.Proof.Attn.Pure
public import proofs.«01_k».proof.Proof.Attn.RunA
public import proofs.«01_k».proof.Proof.Attn.RunB
public import proofs.«01_k».proof.Proof.Attn.RunC
public import proofs.«01_k».proof.Proof.Gen.Kernel11Ideal.Frame
public import Idealize.ShloMosaic.Lib.VecWindow
public import Idealize.ShloMosaic.Lib.Pipeline.ValueKit

@[expose] public section

set_option maxRecDepth 16384

noncomputable section

namespace Cert.Kernel11Ideal.Hand

open Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body reads at point `t`: the windows' blocks there. -/
def blkAt (c : Dev nD) (t : Fin cfg0.N) : Blk F :=
  ⟨iblk m c 0 t, iblk m c 1 t, iblk m c 2 t, iblk m c 3 t, iblk m c 4 t, iblk m c 5 t, iblk m c 6 t, iblk m c 7 t, iblk m c 8 t, iblk m c 9 t⟩

/-- What the body carries from point to point: the bias gradient's tables and the key and value gradients' accumulators. -/
structure St (F : FTy → Type) where
  db : Vec F S2x256x768 .f32
  dk : Vec F S4096x128 .f32
  dv : Vec F S4096x128 .f32

/-- The carried contents as a pair of heads opens. -/
def St.zero : St F := ⟨k0_pay4, k0_pay5, k0_pay6⟩
/-- The carried contents after a point. -/
def St.step (i : grid0.Coords) (b : Blk F) (s : St F) : St F := ⟨stepB (pid i) b s.db, stepK i b s.dk, stepV i b s.dv⟩

/-- The carried contents after point `n`. -/
def stAt (c : Dev nD) : (n : Nat) → n < cfg0.N → St F
  | 0, h => St.step (grid0.coords ⟨0, h⟩) (blkAt m c ⟨0, h⟩) St.zero
  | n + 1, h => St.step (grid0.coords ⟨n + 1, h⟩) (blkAt m c ⟨n + 1, h⟩) (if (n + 1) % 16 = 0 then St.zero else stAt c n (Nat.lt_of_succ_lt h))

/-- At a point that opens a pair of heads the carried contents start from zero. -/
theorem stAt_open (c : Dev nD) (t : Fin cfg0.N) (h : t.val % 16 = 0) :
    stAt m c t.val t.isLt = St.step (grid0.coords t) (blkAt m c t) St.zero := by
  obtain ⟨n, hn⟩ := t
  cases n with
  | zero => rfl
  | succ n => show St.step _ _ (if (n + 1) % 16 = 0 then St.zero else _) = _; rw [if_pos h]

/-- At any other point they go on from the point before. -/
theorem stAt_next (c : Dev nD) (t : Fin cfg0.N) (h : ¬ t.val % 16 = 0) :
    stAt m c t.val t.isLt = St.step (grid0.coords t) (blkAt m c t) (stAt m c (t.val - 1) (Nat.lt_of_le_of_lt (Nat.sub_le _ _) t.isLt)) := by
  obtain ⟨n, hn⟩ := t
  cases n with
  | zero => exact absurd rfl h
  | succ n => show St.step _ _ (if (n + 1) % 16 = 0 then St.zero else _) = _; rw [if_neg h]; rfl

/-- What the scratch buffers hold before point `n`: anything at first, then the accumulators. -/
def PhiS (c : Dev nD) : (n : Nat) → n ≤ cfg0.N → sProp 𝕄
  | 0, _ => Pipeline.ΦA spec0 c
  | n + 1, h => iprop(owns (c : Thread nD τ) (Memref.whole cc0_scratch0) fullShare (stAt m c n h).dk
      ∗ owns (c : Thread nD τ) (Memref.whole cc0_scratch1) fullShare (stAt m c n h).dv ∗ ∃ r, prngReg c r)

/-- The proof data of the pipeline on core `c`: after the body each input's buffer at its block, the results' at what the
    body computes; the scratch buffers at the accumulators. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => dqOut (pid (grid0.coords t)) (blkAt m c t)
    | ⟨11, _⟩ => k0_pay2 (stAt m c t.val t.isLt).dk
    | ⟨12, _⟩ => k0_pay3 (stAt m c t.val t.isLt).dv
    | ⟨13, _⟩ => (stAt m c t.val t.isLt).db
  Φ t := PhiS m c t.val (Nat.le_of_lt_succ t.isLt)
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

theorem after_0 (c : Dev nD) (t : Fin cfg0.N) : (dats m 0 c).after 0 t = (blkAt m c t).q := by dsimp only [dats, blkAt]
theorem after_1 (c : Dev nD) (t : Fin cfg0.N) : (dats m 0 c).after 1 t = (blkAt m c t).k0 := by dsimp only [dats, blkAt]
theorem after_2 (c : Dev nD) (t : Fin cfg0.N) : (dats m 0 c).after 2 t = (blkAt m c t).k1 := by dsimp only [dats, blkAt]
theorem after_3 (c : Dev nD) (t : Fin cfg0.N) : (dats m 0 c).after 3 t = (blkAt m c t).k2 := by dsimp only [dats, blkAt]
theorem after_4 (c : Dev nD) (t : Fin cfg0.N) : (dats m 0 c).after 4 t = (blkAt m c t).v0 := by dsimp only [dats, blkAt]
theorem after_5 (c : Dev nD) (t : Fin cfg0.N) : (dats m 0 c).after 5 t = (blkAt m c t).v1 := by dsimp only [dats, blkAt]
theorem after_6 (c : Dev nD) (t : Fin cfg0.N) : (dats m 0 c).after 6 t = (blkAt m c t).v2 := by dsimp only [dats, blkAt]
theorem after_7 (c : Dev nD) (t : Fin cfg0.N) : (dats m 0 c).after 7 t = (blkAt m c t).bias := by dsimp only [dats, blkAt]
theorem after_8 (c : Dev nD) (t : Fin cfg0.N) : (dats m 0 c).after 8 t = (blkAt m c t).lse := by dsimp only [dats, blkAt]
theorem after_9 (c : Dev nD) (t : Fin cfg0.N) : (dats m 0 c).after 9 t = (blkAt m c t).dy := by dsimp only [dats, blkAt]
theorem after_10 (c : Dev nD) (t : Fin cfg0.N) : (dats m 0 c).after 10 t = dqOut (pid (grid0.coords t)) (blkAt m c t) := by dsimp only [dats, blkAt]
theorem after_11 (c : Dev nD) (t : Fin cfg0.N) : (dats m 0 c).after 11 t = k0_pay2 (stAt m c t.val t.isLt).dk := by dsimp only [dats, blkAt]
theorem after_12 (c : Dev nD) (t : Fin cfg0.N) : (dats m 0 c).after 12 t = k0_pay3 (stAt m c t.val t.isLt).dv := by dsimp only [dats, blkAt]
theorem after_13 (c : Dev nD) (t : Fin cfg0.N) : (dats m 0 c).after 13 t = (stAt m c t.val t.isLt).db := by dsimp only [dats, blkAt]
theorem before_0 (c : Dev nD) (t : Fin cfg0.N) (d) : (dats m 0 c).before 0 t d = (blkAt m c t).q  := by
  refine (before0_0_of m (dats m 0 c) (A_eq m c 0) (fun t => by dsimp only [dats]) t d).trans ?_
  dsimp only [blkAt]
theorem before_1 (c : Dev nD) (t : Fin cfg0.N) (d) : (dats m 0 c).before 1 t d = (blkAt m c t).k0  := by
  refine (before0_1_of m (dats m 0 c) (A_eq m c 1) (fun t => by dsimp only [dats]) t d).trans ?_
  dsimp only [blkAt]
theorem before_2 (c : Dev nD) (t : Fin cfg0.N) (d) : (dats m 0 c).before 2 t d = (blkAt m c t).k1  := by
  refine (before0_2_of m (dats m 0 c) (A_eq m c 2) (fun t => by dsimp only [dats]) t d).trans ?_
  dsimp only [blkAt]
theorem before_3 (c : Dev nD) (t : Fin cfg0.N) (d) : (dats m 0 c).before 3 t d = (blkAt m c t).k2  := by
  refine (before0_3_of m (dats m 0 c) (A_eq m c 3) (fun t => by dsimp only [dats]) t d).trans ?_
  dsimp only [blkAt]
theorem before_4 (c : Dev nD) (t : Fin cfg0.N) (d) : (dats m 0 c).before 4 t d = (blkAt m c t).v0  := by
  refine (before0_4_of m (dats m 0 c) (A_eq m c 4) (fun t => by dsimp only [dats]) t d).trans ?_
  dsimp only [blkAt]
theorem before_5 (c : Dev nD) (t : Fin cfg0.N) (d) : (dats m 0 c).before 5 t d = (blkAt m c t).v1  := by
  refine (before0_5_of m (dats m 0 c) (A_eq m c 5) (fun t => by dsimp only [dats]) t d).trans ?_
  dsimp only [blkAt]
theorem before_6 (c : Dev nD) (t : Fin cfg0.N) (d) : (dats m 0 c).before 6 t d = (blkAt m c t).v2  := by
  refine (before0_6_of m (dats m 0 c) (A_eq m c 6) (fun t => by dsimp only [dats]) t d).trans ?_
  dsimp only [blkAt]
theorem before_7 (c : Dev nD) (t : Fin cfg0.N) (d) : (dats m 0 c).before 7 t d = (blkAt m c t).bias  := by
  refine (before0_7_of m (dats m 0 c) (A_eq m c 7) (fun t => by dsimp only [dats]) t d).trans ?_
  dsimp only [blkAt]
theorem before_8 (c : Dev nD) (t : Fin cfg0.N) (d) : (dats m 0 c).before 8 t d = (blkAt m c t).lse  := by
  refine (before0_8_of m (dats m 0 c) (A_eq m c 8) (fun t => by dsimp only [dats]) t d).trans ?_
  dsimp only [blkAt]
theorem before_9 (c : Dev nD) (t : Fin cfg0.N) (d) : (dats m 0 c).before 9 t d = (blkAt m c t).dy  := by
  refine (before0_9_of m (dats m 0 c) (A_eq m c 9) (fun t => by dsimp only [dats]) t d).trans ?_
  dsimp only [blkAt]

/-- Within a pair of heads the bias gradient's buffer holds what the point before left. -/
theorem before_13 (c : Dev nD) (t : Fin cfg0.N) (h0 : ¬t.val % 16 = 0) (d) :
    (dats m 0 c).before 13 t d = (stAt m c (t.val - 1) (Nat.lt_of_le_of_lt (Nat.sub_le _ _) t.isLt)).db := by
  have hN : t.val < 128 := lt_of_lt_of_eq t.isLt (show cfg0.N = 128 from N_0)
  rw [Dat.before_out_kept _ 13 rfl t (by omega) (Bool.eq_false_iff.mpr fun h => by have := (flush0_13 _).mp h; dsimp only at this; omega)
    (fun _ => rfl) (fun _ _ => rfl)]
  dsimp only [dats]

/-- A point opens a pair of heads iff its number is a multiple of 16. -/
theorem first_iff (t : Fin cfg0.N) : condFirst (grid0.coords t) ↔ t.val % 16 = 0 := by
  have h : ∀ a : Fin 16, ((Scalar.cmpi .ne (Scalar.extui (Scalar.cmpi .eq (BitVec.ofNat 32 a.val) 0#32)) 0#32) = 1#1) ↔ a.val = 0 := by decide +kernel
  have e : (grid0.coords t 1).val = t.val / 1 % 16 := Pipeline.Grid.coords_val t 1 (by decide) rfl
  refine (h ⟨(grid0.coords t 1).val, (grid0.coords t 1).isLt⟩).trans ?_
  show (grid0.coords t 1).val = 0 ↔ _
  rw [e, Nat.div_one]

/-- A point closes a pair of heads iff its number is 15 above a multiple of 16. -/
theorem last_iff (t : Fin cfg0.N) : condLast (grid0.coords t) ↔ t.val % 16 = 15 := by
  have h : ∀ a : Fin 16, ((Scalar.cmpi .ne (Scalar.extui (Scalar.cmpi .eq (BitVec.ofNat 32 a.val) 15#32)) 0#32) = 1#1) ↔ a.val = 15 := by decide +kernel
  have e : (grid0.coords t 1).val = t.val / 1 % 16 := Pipeline.Grid.coords_val t 1 (by decide) rfl
  refine (h ⟨(grid0.coords t 1).val, (grid0.coords t 1).isLt⟩).trans ?_
  show (grid0.coords t 1).val = 15 ↔ _
  rw [e, Nat.div_one]

/-- The key and value gradients' buffers are left alone but at a closing point. -/
theorem idle_11 (t : Fin cfg0.N) (h : ¬ condLast (grid0.coords t)) : cfg0.idle 11 (cfg0.grid.coords t) = true := by
  show (!(k0_cond2 (grid0.coords t) == 1#1)) = true
  rw [Bool.not_eq_true', beq_eq_false_iff_ne]; exact h
theorem idle_12 (t : Fin cfg0.N) (h : ¬ condLast (grid0.coords t)) : cfg0.idle 12 (cfg0.grid.coords t) = true := by
  show (!(k0_cond2 (grid0.coords t) == 1#1)) = true
  rw [Bool.not_eq_true', beq_eq_false_iff_ne]; exact h
theorem live_11 (t : Fin cfg0.N) (h : condLast (grid0.coords t)) : cfg0.idle 11 (cfg0.grid.coords t) = false := by
  show (!(k0_cond2 (grid0.coords t) == 1#1)) = false
  rw [Bool.not_eq_false', beq_iff_eq]; exact h
theorem live_12 (t : Fin cfg0.N) (h : condLast (grid0.coords t)) : cfg0.idle 12 (cfg0.grid.coords t) = false := by
  show (!(k0_cond2 (grid0.coords t) == 1#1)) = false
  rw [Bool.not_eq_false', beq_iff_eq]; exact h

/-- What a point leaves in the key and value gradients' buffers, at a point that closes a pair of heads and at any other. -/
theorem leaves_11_open (c : Dev nD) (t : Fin cfg0.N) (h : ¬ t.val % 16 = 15) :
    (dats m 0 c).leavesExact 11 t = iprop(∃ d, owns (c : Thread nD τ) (st0_11 t) fullShare ((dats m 0 c).before 11 t d)) :=
  Dat.leavesExact_idle _ 11 t (idle_11 t fun hc => h ((last_iff t).mp hc)) (Bool.eq_false_iff.mpr fun hf => h ((flush0_11 t).mp hf))
theorem leaves_12_open (c : Dev nD) (t : Fin cfg0.N) (h : ¬ t.val % 16 = 15) :
    (dats m 0 c).leavesExact 12 t = iprop(∃ d, owns (c : Thread nD τ) (st0_12 t) fullShare ((dats m 0 c).before 12 t d)) :=
  Dat.leavesExact_idle _ 12 t (idle_12 t fun hc => h ((last_iff t).mp hc)) (Bool.eq_false_iff.mpr fun hf => h ((flush0_12 t).mp hf))
theorem leaves_11_close (c : Dev nD) (t : Fin cfg0.N) (h : t.val % 16 = 15) :
    (dats m 0 c).leavesExact 11 t = owns (c : Thread nD τ) (st0_11 t) fullShare (k0_pay2 (stAt m c t.val t.isLt).dk) := by
  rw [← after_11]; unfold Dat.leavesExact; rw [live_11 t ((last_iff t).mpr h)]
theorem leaves_12_close (c : Dev nD) (t : Fin cfg0.N) (h : t.val % 16 = 15) :
    (dats m 0 c).leavesExact 12 t = owns (c : Thread nD τ) (st0_12 t) fullShare (k0_pay3 (stAt m c t.val t.isLt).dv) := by
  rw [← after_12]; unfold Dat.leavesExact; rw [live_12 t ((last_iff t).mpr h)]

/-- Before any point but the first the scratch buffers hold the accumulators the point before left. -/
theorem Phi_at (c : Dev nD) (t : Fin cfg0.N) (h : t.val ≠ 0) : (dats m 0 c).Φ t.castSucc
    = iprop(owns (c : Thread nD τ) (Memref.whole cc0_scratch0) fullShare (stAt m c (t.val - 1) (Nat.lt_of_le_of_lt (Nat.sub_le _ _) t.isLt)).dk
      ∗ owns (c : Thread nD τ) (Memref.whole cc0_scratch1) fullShare (stAt m c (t.val - 1) (Nat.lt_of_le_of_lt (Nat.sub_le _ _) t.isLt)).dv ∗ ∃ r, prngReg c r) := by
  dsimp only [dats]
  show PhiS m c t.val _ = _
  obtain ⟨n, hn⟩ := t
  cases n with
  | zero => exact absurd rfl h
  | succ n => rfl

/-- After a point they hold the accumulators it left. -/
theorem Phi_succ (c : Dev nD) (t : Fin cfg0.N) : (dats m 0 c).Φ t.succ
    = iprop(owns (c : Thread nD τ) (Memref.whole cc0_scratch0) fullShare (stAt m c t.val t.isLt).dk
      ∗ owns (c : Thread nD τ) (Memref.whole cc0_scratch1) fullShare (stAt m c t.val t.isLt).dv ∗ ∃ r, prngReg c r) := by
  dsimp only [dats]
  rfl

/-- Before any point the scratch buffers hold something. -/
theorem Phi_any (c : Dev nD) (n : Nat) (h : n ≤ cfg0.N) : PhiS m c n h
    ⊢ iprop((∃ d, owns (c : Thread nD τ) (Memref.whole cc0_scratch0) fullShare d) ∗ (∃ d, owns (c : Thread nD τ) (Memref.whole cc0_scratch1) fullShare d) ∗ ∃ r, prngReg c r) := by
  cases n with
  | zero =>
    show Pipeline.ΦA spec0 c ⊢ _
    unfold Pipeline.ΦA
    rw [scopedRest0_eq c]
    simp only [owns_whole]
    iintro ⟨⟨⟨%f, H0⟩, ⟨%g, H1⟩⟩, Hr⟩
    isplitl [H0]; · iexists f; iexact H0
    isplitl [H1]; · iexists g; iexact H1
    iexact Hr
  | succ n =>
    show iprop(_ ∗ _ ∗ _) ⊢ _
    iintro ⟨H0, H1, Hr⟩
    isplitl [H0]; · iexists _; iexact H0
    isplitl [H1]; · iexists _; iexact H1
    iexact Hr

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ (dats m 0 c).leavesExact 11 t
    ∗ (dats m 0 c).leavesExact 12 t
    ∗ owns (c : Thread nD τ) (st0_13 t) fullShare ((dats m 0 c).after 13 t))

set_option maxHeartbeats 1600000 in
/-- The body at a point that opens a pair of heads. -/
theorem sound_open (c : Dev nD) (t : Fin cfg0.N) (h0 : t.val % 16 = 0) :
  bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl, Phi_succ m c t,
    after_0, after_1, after_2, after_3, after_4, after_5, after_6, after_7, after_8, after_9, after_10, after_13]
  have hN : t.val < 128 := lt_of_lt_of_eq t.isLt (show cfg0.N = 128 from N_0)
  have h1 : ¬ t.val % 16 = 15 := by omega
  rw [stAt_open m c t h0, leaves_11_open m c t h1, leaves_12_open m c t h1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave H := (show (dats m 0 c).Φ t.castSucc ⊢ _ from Phi_any m c t.val (Nat.le_of_lt t.isLt)) $$ HΦ
  icases H with ⟨Hs0, Hs1, Hr⟩
  iapply (soundA c (grid0.coords t) _ _ _ _ _ _ _ _ _ _ _ _ _ _ _ _ _ _ _ _ _ _ _ _ _ _ _ _ _ _ _ _ ((first_iff t).mpr h0) (fun h => h1 ((last_iff t).mp h)) (blkAt m c t) ((dats m 0 c).before 11 t d11) ((dats m 0 c).before 12 t d12) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexists _; iexact H13
  isplitl [Hs0]; · iexact Hs0
  isplitl [Hs1]; · iexact Hs1
  iintro ⟨H0, H1, H2, H3, H4, H5, H6, H7, H8, H9, H10, H11, H12, H13, Hs0, Hs1⟩
  isplitl [Hs0 Hs1 Hr]
  · isplitl [Hs0]; · iexact Hs0
    isplitl [Hs1]; · iexact Hs1
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iexact H13

set_option maxHeartbeats 1600000 in
/-- The body at a point that closes one. -/
theorem sound_close (c : Dev nD) (t : Fin cfg0.N) (h1 : t.val % 16 = 15) :
  bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl, Phi_succ m c t,
    after_0, after_1, after_2, after_3, after_4, after_5, after_6, after_7, after_8, after_9, after_10, after_13]
  have hN : t.val < 128 := lt_of_lt_of_eq t.isLt (show cfg0.N = 128 from N_0)
  have h0 : ¬ t.val % 16 = 0 := by omega
  rw [Phi_at m c t (by omega)]
  simp only [before_13 m c t h0]
  rw [leaves_11_close m c t h1, leaves_12_close m c t h1, stAt_next m c t h0]
  iintro ⟨⟨Hs0, Hs1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (soundC c (grid0.coords t) _ _ _ _ _ _ _ _ _ _ _ _ _ _ _ _ _ _ _ _ _ _ _ _ _ _ _ _ _ _ _ _ (fun h => h0 ((first_iff t).mp h)) ((last_iff t).mpr h1) (blkAt m c t) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [H13]; · iexact H13
  isplitl [Hs0]; · iexact Hs0
  isplitl [Hs1]; · iexact Hs1
  iintro ⟨H0, H1, H2, H3, H4, H5, H6, H7, H8, H9, H10, H11, H12, H13, Hs0, Hs1⟩
  isplitl [Hs0 Hs1 Hr]
  · isplitl [Hs0]; · iexact Hs0
    isplitl [Hs1]; · iexact Hs1
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

set_option maxHeartbeats 1600000 in
/-- The body at a point between. -/
theorem sound_between (c : Dev nD) (t : Fin cfg0.N) (h0 : ¬ t.val % 16 = 0) (h1 : ¬ t.val % 16 = 15) :
  bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl, Phi_succ m c t,
    after_0, after_1, after_2, after_3, after_4, after_5, after_6, after_7, after_8, after_9, after_10, after_13]
  have hN : t.val < 128 := lt_of_lt_of_eq t.isLt (show cfg0.N = 128 from N_0)
  rw [Phi_at m c t (by omega)]
  simp only [before_13 m c t h0]
  rw [leaves_11_open m c t h1, leaves_12_open m c t h1, stAt_next m c t h0]
  iintro ⟨⟨Hs0, Hs1, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (soundB c (grid0.coords t) _ _ _ _ _ _ _ _ _ _ _ _ _ _ _ _ _ _ _ _ _ _ _ _ _ _ _ _ _ _ _ _ (fun h => h0 ((first_iff t).mp h)) (fun h => h1 ((last_iff t).mp h)) (blkAt m c t) ((dats m 0 c).before 11 t d11) ((dats m 0 c).before 12 t d12) _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexact H11
  isplitl [H12]; · iexact H12
  isplitl [H13]; · iexact H13
  isplitl [Hs0]; · iexact Hs0
  isplitl [Hs1]; · iexact Hs1
  iintro ⟨H0, H1, H2, H3, H4, H5, H6, H7, H8, H9, H10, H11, H12, H13, Hs0, Hs1⟩
  isplitl [Hs0 Hs1 Hr]
  · isplitl [Hs0]; · iexact Hs0
    isplitl [Hs1]; · iexact Hs1
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iexact H13

/-- The body at any point. -/
theorem sound_body (c : Dev nD) (t : Fin cfg0.N) :
  bodyPre m c t ⊢ wp frame (wpE (defs₀ (F := F)) Variants.none c none) Set.univ (bodyAt0 t) (fun _ => bodyPost m c t) := by
  by_cases h0 : t.val % 16 = 0
  · exact sound_open m c t h0
  by_cases h1 : t.val % 16 = 15
  · exact sound_close m c t h1
  exact sound_between m c t h0 h1

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- Every run ends, with the pipeline's arrays at what the proof data say and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun c => .rfl)
    (hout := fun c => by
      refine (show (dats m 0 c).Φ (Fin.last cfg0.N) ⊢ _ from Phi_any m c cfg0.N le_rfl).trans ?_
      unfold Pipeline.ΦA
      rw [scopedRest0_eq c]
      simp only [owns_whole]
      iintro ⟨⟨%f, H0⟩, ⟨%g, H1⟩, Hr⟩
      isplitl [H0 H1]
      · isplitl [H0]; · iexists f; iexact H0
        iexists g; iexact H1
      iexact Hr)

/-- The run without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: every run ends, the argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_quiescent m ρ))

end Cert.Kernel11Ideal.Hand

end
-- ==== Proof.Attn.Frames.lean ====
/-
  The frames of the attention's backward call and of its reference.
-/
module

public import proofs.«01_k».proof.Defs
public import proofs.«01_k».proof.Proof.Attn.Frame
public import proofs.«01_k».proof.Proof.Gen.Kernel11.Skeleton
public import proofs.«01_k».proof.Proof.Gen.Reference11Ideal.Run
public import Idealize.ShloMosaic.Lib.Quiescent
public import Idealize.ShloMosaic.Lib.Claim
public import Idealize.ShloMosaic.Lib.Pipeline.ValueKit

@[expose] public section

set_option maxRecDepth 16384

noncomputable section

open Idealize.ShloMosaic Idealize.ShloMosaic.TcCoe Idealize.SL.Sem

namespace Cert.Attn

/-- On words a named constant is the word it stands for. -/
local instance namedBits : Named Bits := ⟨fun _ _ {_} b => FloatOps.ofBits _ b⟩

/-- The idealized kernel's frame on words, as a statement. -/
def WordsFrame : Prop :=
  ∀ (m : (ℓ : Loc Cert.Kernel11Ideal.nD Cert.Kernel11Ideal.τ Cert.Kernel11Ideal.sig) → Buf (Elt Bits) ℓ) (g : Dev Cert.Kernel11Ideal.nD → PrngReg), True →
    θ_run (Cert.Kernel11Ideal.defs (F := Bits)) (onTc (τ := Cert.Kernel11Ideal.τ) (Cert.Kernel11Ideal.main (F := Bits))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

/-- The kernel's text is the idealized one's, with the mask's word for its name: the two frames are one statement. -/
theorem frame_eq : Cert.quiescent_Kernel11 (hKernel11 := Cert.Kernel11.Gen.facts) = WordsFrame := by
  sl_kernel_rfl

/-- The kernel's frame. -/
theorem frame_P : Cert.quiescent_Kernel11 (hKernel11 := Cert.Kernel11.Gen.facts) := by
  rw [frame_eq]
  exact fun m ρ _ => Cert.Kernel11Ideal.Hand.frame (F := Bits) m ρ

/-- The idealized kernel's frame. -/
theorem frame_PI : Cert.quiescent_Kernel11Ideal (hKernel11Ideal := Cert.Kernel11Ideal.Gen.facts) := fun m ρ _ =>
  Cert.Kernel11Ideal.Hand.frame (F := Ideal) m ρ

/-- The same under the value claim's precondition. -/
theorem frame_PI' [Cert.Pre_att1_finite.Facts] : Cert.quiescent_Kernel11Ideal_pre_att1_finite (hKernel11Ideal := Cert.Kernel11Ideal.Gen.facts) := fun m ρ _ =>
  Cert.Kernel11Ideal.Hand.frame (F := Ideal) m ρ

/-- The reference's frame. -/
theorem frame_RI : Cert.quiescent_Reference11Ideal (hReference11Ideal := Cert.Reference11Ideal.Gen.facts) := fun m ρ _ =>
  (θ_run Cert.Reference11Ideal.defs _ _).mono (fun r h => ⟨fun c => (h c).2.2.2, sem_eq_zero_of_no_sems (by decide) r.2⟩)
    (Cert.Reference11Ideal.Value.run (F := Ideal) m ρ)

/-- The same under the value claim's precondition. -/
theorem frame_RI' [Cert.Pre_att1_finite.Facts] : Cert.quiescent_Reference11Ideal_pre_att1_finite (hReference11Ideal := Cert.Reference11Ideal.Gen.facts) := fun m ρ _ =>
  frame_RI m ρ trivial

/-- The one name of the idealized kernel stands for −∞ where the kernel has its mask's word. -/
theorem preserves : Cert.preserves_Kernel11_Kernel11Ideal :=
  IdealRules.named_const.statement Cert.Kernel11Ideal.κ "mask" .f32 0xF149F2CA#32 ⊥ rfl

end Cert.Attn
-- ==== Proof.Attn.Dense.lean ====
/-
  The attention within a band of chunks and its gradient over the reals, dense: one function of the row and the column,
  and the sums over a band that the two programs form in their own orders.
-/
module

public import Mathlib.Analysis.SpecialFunctions.Exp
public import Mathlib.Analysis.SpecialFunctions.Log.Basic
public import Mathlib.Algebra.BigOperators.Intervals

@[expose] public section

noncomputable section

namespace Cert.Attn

open Finset

variable (y rb g : ℕ → ℕ → ℝ)

/-- Row `R` looks at column `C`: the column's chunk is the row's or one of the eight before it. -/
def ok (R C : ℕ) : Prop := C / 64 ≤ R / 64 ∧ R / 64 ≤ C / 64 + 8

instance (R C : ℕ) : Decidable (ok R C) := by unfold ok; infer_instance

/-- The score of row `R` against column `C` in head `h`: the scaled product and the bias of their distance. -/
def sc (h R C : ℕ) : ℝ :=
  (∑ d ∈ range 64, y R (64 * h + d) * y C (1024 + (64 * h + d))) * (1 / 8) + rb h (min (C + 256 - R) 319)

/-- The exponential of a score within the band, 0 outside. -/
def ex (h R C : ℕ) : ℝ := if ok R C then Real.exp (sc y rb h R C) else 0

/-- A row's sum of exponentials. -/
def Z (h R : ℕ) : ℝ := ∑ C ∈ range 4096, ex y rb h R C

/-- The attention's weights. -/
def pr (h R C : ℕ) : ℝ := ex y rb h R C / Z y rb h R

/-- The weights' cotangent. -/
def dp (h R C : ℕ) : ℝ := ∑ d ∈ range 64, g R (64 * h + d) * y C (2048 + (64 * h + d))

/-- A row's sum of weights times cotangents. -/
def dl (h R : ℕ) : ℝ := ∑ C ∈ range 4096, pr y rb h R C * dp y g h R C

/-- The scores' cotangent. -/
def ds (h R C : ℕ) : ℝ := pr y rb h R C * (dp y g h R C - dl y rb g h R)

/-- The gradients of the queries, the keys and the values. -/
def gq (R a : ℕ) : ℝ := (∑ C ∈ range 4096, ds y rb g (a / 64) R C * y C (1024 + a)) * (1 / 8)
def gk (C a : ℕ) : ℝ := (∑ R ∈ range 4096, ds y rb g (a / 64) R C * y R a) * (1 / 8)
def gv (C a : ℕ) : ℝ := ∑ R ∈ range 4096, pr y rb (a / 64) R C * g R a

variable {y rb g}

theorem pr_of_not_ok {h R C : ℕ} (H : ¬ ok R C) : pr y rb h R C = 0 := by
  unfold pr ex; rw [if_neg H, zero_div]

theorem ds_of_not_ok {h R C : ℕ} (H : ¬ ok R C) : ds y rb g h R C = 0 := by
  unfold ds; rw [pr_of_not_ok H, zero_mul]

theorem Z_pos {h R : ℕ} (hR : R < 4096) : 0 < Z y rb h R := by
  unfold Z
  refine sum_pos' (fun C _ => ?_) ⟨R, mem_range.mpr hR, ?_⟩
  · unfold ex; split <;> positivity
  · unfold ex; rw [if_pos ⟨le_rfl, Nat.le_add_right _ _⟩]; positivity

/-- A sum over the columns of a window, those of the band, is the sum over all columns. -/
theorem sum_window (F : ℕ → ℝ) (n off R : ℕ) (hn : ∀ C < 4096, ok R C → off ≤ C + 512 ∧ C + 512 < off + n)
    (hn' : ∀ j < n, 512 ≤ off + j → ok R (off + j - 512) → off + j - 512 < 4096) :
    (∑ j ∈ range n, if 512 ≤ off + j ∧ ok R (off + j - 512) then F (off + j - 512) else 0)
      = ∑ C ∈ range 4096, if ok R C then F C else 0 := by
  rw [← sum_filter, ← sum_filter]
  refine sum_nbij' (fun j => off + j - 512) (fun C => C + 512 - off) ?_ ?_ ?_ ?_ ?_
  · intro j hj
    simp only [mem_filter, mem_range] at hj ⊢
    exact ⟨hn' j hj.1 hj.2.1 hj.2.2, hj.2.2⟩
  · intro C hC
    simp only [mem_filter, mem_range] at hC ⊢
    have := hn C hC.1 hC.2
    refine ⟨by omega, by omega, ?_⟩
    rw [show off + (C + 512 - off) - 512 = C by omega]; exact hC.2
  · intro j hj
    simp only [mem_filter, mem_range] at hj ⊢
    omega
  · intro C hC
    simp only [mem_filter, mem_range] at hC ⊢
    have := hn C hC.1 hC.2
    omega
  · intro j _; rfl

/-- The reference's window: nine chunks ending with the row's own. -/
theorem sum_chunks (F : ℕ → ℝ) (n c : ℕ) (hn : n < 64) (hc : c < 64) :
    (∑ j ∈ range 576, if 512 ≤ 64 * n + j then F (64 * n + j - 512) else 0)
      = ∑ C ∈ range 4096, if ok (64 * n + c) C then F C else 0 := by
  rw [← sum_window F 576 (64 * n) (64 * n + c) (fun C hC h => by unfold ok at h; omega) (fun j hj h1 h2 => by omega)]
  refine sum_congr rfl fun j hj => ?_
  have hj := mem_range.mp hj
  refine if_congr ⟨fun h => ⟨h, ?_⟩, fun h => h.1⟩ rfl rfl
  unfold ok; omega

/-- The kernel's window: three blocks of 256 columns ending with the row's own. -/
theorem sum_blocks (F : ℕ → ℝ) (i q : ℕ) (hi : i < 16) (hq : q < 256) :
    (∑ k ∈ range 768, if 512 ≤ 256 * i + k ∧ ok (256 * i + q) (256 * i + k - 512) then F (256 * i + k - 512) else 0)
      = ∑ C ∈ range 4096, if ok (256 * i + q) C then F C else 0 :=
  sum_window F 768 (256 * i) (256 * i + q) (fun C hC h => by unfold ok at h; omega) (fun j hj h1 h2 => by unfold ok at h2; omega)

/-- A sum over `a · b` numbers, in `a` blocks of `b`. -/
theorem sum_mul (f : ℕ → ℝ) (a b : ℕ) : ∑ R ∈ range (a * b), f R = ∑ i ∈ range a, ∑ q ∈ range b, f (b * i + q) := by
  induction a with
  | zero => simp
  | succ a ih => rw [Nat.succ_mul, sum_range_add, ih, sum_range_succ, Nat.mul_comm a b]

/-- The rows that look at a column, chunk by chunk from the last. -/
theorem sum_rows_chunks (f : ℕ → ℝ) (C : ℕ) (hC : C < 4096) :
    (∑ r ∈ range 9, if C / 64 + 8 - r < 64 then ∑ c ∈ range 64, f (64 * (C / 64 + 8 - r) + c) else 0)
      = ∑ R ∈ range 4096, if ok R C then f R else 0 := by
  rw [show (4096 : ℕ) = 64 * 64 by norm_num, sum_mul,
    show (∑ n ∈ range 64, ∑ c ∈ range 64, if ok (64 * n + c) C then f (64 * n + c) else 0)
      = ∑ n ∈ range 64, if C / 64 ≤ n ∧ n ≤ C / 64 + 8 then ∑ c ∈ range 64, f (64 * n + c) else 0 from ?_,
    ← sum_filter, ← sum_filter]
  · refine sum_nbij' (fun r => C / 64 + 8 - r) (fun n => C / 64 + 8 - n) ?_ ?_ ?_ ?_ ?_
    · intro r hr; simp only [mem_filter, mem_range] at hr ⊢; omega
    · intro n hn; simp only [mem_filter, mem_range] at hn ⊢; omega
    · intro r hr; simp only [mem_filter, mem_range] at hr ⊢; omega
    · intro n hn; simp only [mem_filter, mem_range] at hn ⊢; omega
    · intro r _; rfl
  · refine sum_congr rfl fun n _ => ?_
    by_cases H : C / 64 ≤ n ∧ n ≤ C / 64 + 8
    · rw [if_pos H]
      exact sum_congr rfl fun c hc => if_pos (by have := mem_range.mp hc; unfold ok; omega)
    · rw [if_neg H]
      exact sum_eq_zero fun c hc => if_neg (by have := mem_range.mp hc; unfold ok; omega)

/-- The rows that look at a column, block by block, each block with the three blocks of columns it meets. -/
theorem sum_rows_blocks (f : ℕ → ℝ) (C : ℕ) :
    (∑ i ∈ range 16, ∑ r ∈ range 3, if C / 256 = i + r - 2 then
        ∑ q ∈ range 256, (if 2 ≤ i + r ∧ ok (256 * i + q) C then f (256 * i + q) else 0) else 0)
      = ∑ R ∈ range 4096, if ok R C then f R else 0 := by
  rw [show (4096 : ℕ) = 16 * 256 by norm_num, sum_mul]
  refine sum_congr rfl fun i _ => ?_
  by_cases H : C / 256 ≤ i ∧ i ≤ C / 256 + 2
  · rw [sum_eq_single (C / 256 + 2 - i), if_pos (by omega)]
    · exact sum_congr rfl fun q _ => if_congr ⟨fun h => h.2, fun h => ⟨by omega, h⟩⟩ rfl rfl
    · intro r hr hne
      have := mem_range.mp hr
      split
      · exact sum_eq_zero fun q _ => if_neg (by omega)
      · rfl
    · intro h; exact absurd (mem_range.mpr (by omega)) h
  · rw [sum_eq_zero, sum_eq_zero]
    · intro q hq
      have := mem_range.mp hq
      exact if_neg (by unfold ok; omega)
    · intro r hr
      have := mem_range.mp hr
      split
      · exact sum_eq_zero fun q hq => if_neg (by have := mem_range.mp hq; unfold ok; omega)
      · rfl

end Cert.Attn
-- ==== Proof.Attn.Block.lean ====
/-
  What the body of the attention's gradient computes from blocks of real numbers, one query block and one pair of heads.
-/
module

public import proofs.«01_k».proof.Proof.Common
public import proofs.«01_k».proof.Proof.Attn.Pure
public import proofs.«01_k».proof.Proof.Attn.Dense
public import Idealize.ShloMosaic.Lib.Pointwise

@[expose] public section

set_option maxRecDepth 16384

noncomputable section

open Idealize.ShloMosaic Idealize.ShloMosaic.TcCoe Idealize.SL.Sem

namespace Cert.Attn

open Cert.Kernel11Ideal Cert.Kernel11Ideal.Gen Cert.Kernel11Ideal.Hand
open Finset (range sum_range sum_congr)

/-- The row of the window's column `k` at query block `i`. -/
def kr (i k : ℕ) : ℕ := 256 * (i + k / 256 - 2) + k % 256

variable (y rb g : ℕ → ℕ → ℝ)

/-- The blocks of query block `i` and pair `p`, as the numbers of the whole arrays. -/
structure IsBlk (i p : ℕ) (b : Blk Ideal) : Prop where
  hi : i < 16
  hp : p < 8
  q : ∀ x, b.q x = ((y (256 * i + (x 0).val) (128 * p + (x 1).val) : ℝ) : EReal)
  k0 : ∀ x, b.k0 x = ((y (256 * (i - 2) + (x 0).val) (1024 + (128 * p + (x 1).val)) : ℝ) : EReal)
  k1 : ∀ x, b.k1 x = ((y (256 * (i - 1) + (x 0).val) (1024 + (128 * p + (x 1).val)) : ℝ) : EReal)
  k2 : ∀ x, b.k2 x = ((y (256 * i + (x 0).val) (1024 + (128 * p + (x 1).val)) : ℝ) : EReal)
  v0 : ∀ x, b.v0 x = ((y (256 * (i - 2) + (x 0).val) (2048 + (128 * p + (x 1).val)) : ℝ) : EReal)
  v1 : ∀ x, b.v1 x = ((y (256 * (i - 1) + (x 0).val) (2048 + (128 * p + (x 1).val)) : ℝ) : EReal)
  v2 : ∀ x, b.v2 x = ((y (256 * i + (x 0).val) (2048 + (128 * p + (x 1).val)) : ℝ) : EReal)
  dy : ∀ x, b.dy x = ((g (256 * i + (x 0).val) (128 * p + (x 1).val) : ℝ) : EReal)
  bias : ∀ x, b.bias x = if (x 1).val / 64 ≤ (x 2).val / 64 ∧ (x 2).val / 64 ≤ (x 1).val / 64 + 8
    then ((rb (2 * p + (x 0).val) (min ((x 2).val - 256 - (x 1).val) 319) : ℝ) : EReal) else ⊥
  lse : ∀ x, b.lse x = ((Real.log (Z y rb (2 * p + (x 0).val) (256 * i + (x 1).val)) : ℝ) : EReal)

/-- The eighth that scales the scores. -/
theorem eighth_f32 : (Ideal.ofBits .f32 1040187392#32 : EReal) = (((1 / 8 : ℝ)) : EReal) := by
  simp [Ideal.ofBits, Ideal.ieee]; rw [← EReal.coe_mul]; norm_num

/-- The mask's name means minus infinity. -/
theorem mask_eq : Named.named (F := Ideal) (φ := .f32) κ "mask" 4048155338#32 = (⊥ : EReal) := rfl

/-- The lanes of the first head. -/
theorem lane_lt (x : ℕ) (hx : x < 128) {α : Type} (a b : α) :
    Scalar.select (IntOp.cmpi CmpIPredicate.slt (BitVec.ofNat 32 x) 64#32) a b = if x < 64 then a else b := by
  have H : ∀ x : Fin 128, IntOp.cmpi CmpIPredicate.slt (BitVec.ofNat 32 x.val) 64#32 = BitVec.ofBool (decide (x.val < 64)) := by
    decide +kernel
  rw [H ⟨x, hx⟩]
  by_cases h : x < 64 <;> simp [Scalar.select, h]

/-- The lanes of the second head. -/
theorem lane_ge (x : ℕ) (hx : x < 128) {α : Type} (a b : α) :
    Scalar.select (IntOp.cmpi CmpIPredicate.sge (BitVec.ofNat 32 x) 64#32) a b = if x < 64 then b else a := by
  have H : ∀ x : Fin 128, IntOp.cmpi CmpIPredicate.sge (BitVec.ofNat 32 x.val) 64#32 = BitVec.ofBool (decide (¬ x.val < 64)) := by
    decide +kernel
  rw [H ⟨x, hx⟩]
  by_cases h : x < 64 <;> simp [Scalar.select, h]

/-- The columns before the sequence's start are masked. -/
theorem mask_cmp (i : ℕ) (hi : i < 16) (k : ℕ) (hk : k < 768) {α : Type} (a b : α) :
    Scalar.select (IntOp.cmpi CmpIPredicate.sge (BitVec.ofNat 32 k) (Scalar.muli (Scalar.subi (2#32) (BitVec.ofNat 32 i)) 256#32)) a b
      = if 512 ≤ 256 * i + k then a else b := by
  have H : ∀ i : Fin 16, ∀ k : Fin 768, (IntOp.cmpi CmpIPredicate.sge (BitVec.ofNat 32 k.val) (Scalar.muli (Scalar.subi (2#32) (BitVec.ofNat 32 i.val)) 256#32)) = BitVec.ofBool (decide (512 ≤ 256 * i.val + k.val)) := by
    decide +kernel
  rw [H ⟨i, hi⟩ ⟨k, hk⟩]
  by_cases h : 512 ≤ 256 * i + k <;> simp [Scalar.select, h]

/-- A sum over the lanes of the first head. -/
theorem lanesA (f : Fin 128 → EReal) (F : ℕ → ℝ) (hf : ∀ x : Fin 128, f x = ((F x.val : ℝ) : EReal)) :
    (∑ x : Fin 128, Scalar.select (IntOp.cmpi CmpIPredicate.slt (BitVec.ofNat 32 x.val) 64#32) (f x) 0)
      = ((∑ d ∈ range 64, F d : ℝ) : EReal) := by
  rw [sum_congr rfl fun x _ => (lane_lt x.val x.isLt (f x) 0).trans (by rw [hf x]), Common.coe_sum,
    ← sum_range (fun x => if x < 64 then ((F x : ℝ) : EReal) else 0), Finset.sum_ite, Finset.sum_const_zero, add_zero]
  refine sum_congr ?_ fun _ _ => rfl
  ext x; simp; omega

/-- A sum over the lanes of the second head. -/
theorem lanesB (f : Fin 128 → EReal) (F : ℕ → ℝ) (hf : ∀ x : Fin 128, f x = ((F x.val : ℝ) : EReal)) :
    (∑ x : Fin 128, Scalar.select (IntOp.cmpi CmpIPredicate.sge (BitVec.ofNat 32 x.val) 64#32) (f x) 0)
      = ((∑ d ∈ range 64, F (64 + d) : ℝ) : EReal) := by
  rw [sum_congr rfl fun x _ => (lane_ge x.val x.isLt (f x) 0).trans (by rw [hf x]), Common.coe_sum,
    ← sum_range (fun x => if x < 64 then 0 else ((F x : ℝ) : EReal)), show (128 : ℕ) = 64 + 64 by norm_num, Finset.sum_range_add,
    Finset.sum_eq_zero (fun x hx => if_pos (by have := Finset.mem_range.mp hx; omega)), zero_add]
  exact sum_congr rfl fun x _ => if_neg (by omega)

/-- The window's columns, block by block. -/
theorem kr_cases (i : ℕ) (f : ℕ → EReal) (k : ℕ) (hk : k < 768) (A : k < 256 → EReal) (B : ¬ k < 256 → k - 256 < 256 → EReal)
    (C : ¬ k < 256 → ¬ k - 256 < 256 → EReal) (hA : ∀ h, A h = f (256 * (i - 2) + k)) (hB : ∀ h h', B h h' = f (256 * (i - 1) + (k - 256)))
    (hC : ∀ h h', C h h' = f (256 * i + (k - 256 - 256))) :
    (if h : k < 256 then A h else if h' : k - 256 < 256 then B h h' else C h h') = f (kr i k) := by
  unfold kr
  split_ifs with h h'
  · rw [hA, Nat.div_eq_of_lt h, Nat.mod_eq_of_lt h]; rfl
  · rw [hB, show k / 256 = 1 by omega, show k % 256 = k - 256 by omega]; rfl
  · rw [hC, show k / 256 = 2 by omega, show k % 256 = k - 256 - 256 by omega]; rfl

variable {y rb g} {i p : ℕ} {b : Blk Ideal}

/-- A row times the window's rows, over the lanes of the first head. -/
theorem catA (i : ℕ) (u : Fin 128 → EReal) (a : ℕ → ℝ) (B : ℕ → ℕ → ℝ) (w0 w1 w2 : Vec Ideal S256x128 .bf16) (k : Fin 768)
    (hu : ∀ x, u x = ((a x.val : ℝ) : EReal)) (h0 : ∀ x, w0 x = ((B (256 * (i - 2) + (x 0).val) (x 1).val : ℝ) : EReal))
    (h1 : ∀ x, w1 x = ((B (256 * (i - 1) + (x 0).val) (x 1).val : ℝ) : EReal)) (h2 : ∀ x, w2 x = ((B (256 * i + (x 0).val) (x 1).val : ℝ) : EReal)) :
    (if h : k.val < 256 then ∑ x : Fin 128, Scalar.select (IntOp.cmpi CmpIPredicate.slt (BitVec.ofNat 32 x.val) 64#32) (u x * w0 (ix2 ⟨k.val, h⟩ x)) 0
      else if h' : k.val - 256 < 256 then
        ∑ x : Fin 128, Scalar.select (IntOp.cmpi CmpIPredicate.slt (BitVec.ofNat 32 x.val) 64#32) (u x * w1 (ix2 ⟨k.val - 256, h'⟩ x)) 0
      else ∑ x : Fin 128, Scalar.select (IntOp.cmpi CmpIPredicate.slt (BitVec.ofNat 32 x.val) 64#32)
        (u x * w2 (ix2 ⟨k.val - 256 - 256, by have := k.isLt; omega⟩ x)) 0)
      = ((∑ d ∈ range 64, a d * B (kr i k.val) d : ℝ) : EReal) := by
  refine kr_cases i (fun R => ((∑ d ∈ range 64, a d * B R d : ℝ) : EReal)) _ k.isLt _ _ _ (fun _ => ?_) (fun _ _ => ?_) (fun _ _ => ?_)
  · exact lanesA _ (fun x => a x * B (256 * (i - 2) + k.val) x) fun x => by rw [hu, h0, ← EReal.coe_mul]; rfl
  · exact lanesA _ (fun x => a x * B (256 * (i - 1) + (k.val - 256)) x) fun x => by rw [hu, h1, ← EReal.coe_mul]; rfl
  · exact lanesA _ (fun x => a x * B (256 * i + (k.val - 256 - 256)) x) fun x => by rw [hu, h2, ← EReal.coe_mul]; rfl

/-- A row times the window's rows, over the lanes of the second head. -/
theorem catB (i : ℕ) (u : Fin 128 → EReal) (a : ℕ → ℝ) (B : ℕ → ℕ → ℝ) (w0 w1 w2 : Vec Ideal S256x128 .bf16) (k : Fin 768)
    (hu : ∀ x, u x = ((a x.val : ℝ) : EReal)) (h0 : ∀ x, w0 x = ((B (256 * (i - 2) + (x 0).val) (x 1).val : ℝ) : EReal))
    (h1 : ∀ x, w1 x = ((B (256 * (i - 1) + (x 0).val) (x 1).val : ℝ) : EReal)) (h2 : ∀ x, w2 x = ((B (256 * i + (x 0).val) (x 1).val : ℝ) : EReal)) :
    (if h : k.val < 256 then ∑ x : Fin 128, Scalar.select (IntOp.cmpi CmpIPredicate.sge (BitVec.ofNat 32 x.val) 64#32) (u x * w0 (ix2 ⟨k.val, h⟩ x)) 0
      else if h' : k.val - 256 < 256 then
        ∑ x : Fin 128, Scalar.select (IntOp.cmpi CmpIPredicate.sge (BitVec.ofNat 32 x.val) 64#32) (u x * w1 (ix2 ⟨k.val - 256, h'⟩ x)) 0
      else ∑ x : Fin 128, Scalar.select (IntOp.cmpi CmpIPredicate.sge (BitVec.ofNat 32 x.val) 64#32)
        (u x * w2 (ix2 ⟨k.val - 256 - 256, by have := k.isLt; omega⟩ x)) 0)
      = ((∑ d ∈ range 64, a (64 + d) * B (kr i k.val) (64 + d) : ℝ) : EReal) := by
  refine kr_cases i (fun R => ((∑ d ∈ range 64, a (64 + d) * B R (64 + d) : ℝ) : EReal)) _ k.isLt _ _ _ (fun _ => ?_) (fun _ _ => ?_) (fun _ _ => ?_)
  · exact lanesB _ (fun x => a x * B (256 * (i - 2) + k.val) x) fun x => by rw [hu, h0, ← EReal.coe_mul]; rfl
  · exact lanesB _ (fun x => a x * B (256 * (i - 1) + (k.val - 256)) x) fun x => by rw [hu, h1, ← EReal.coe_mul]; rfl
  · exact lanesB _ (fun x => a x * B (256 * i + (k.val - 256 - 256)) x) fun x => by rw [hu, h2, ← EReal.coe_mul]; rfl

/-- The weight of the window's column `k`. -/
def W (h i q k : ℕ) : ℝ := if 512 ≤ 256 * i + k ∧ ok (256 * i + q) (256 * i + k - 512) then pr y rb h (256 * i + q) (256 * i + k - 512) else 0

theorem kr_eq {i k : ℕ} (h : 512 ≤ 256 * i + k) : kr i k = 256 * i + k - 512 := by unfold kr; omega

theorem exp_bot : Ideal.exp ⊥ = 0 := rfl

/-- A table of a pair of heads, at one of them. -/
theorem tab_at (x : Vec Ideal S2x256x768 .f32) (e : Fin 2) (inb) (q : Fin 256) (k : Fin 768) :
    VecWindow.window x ![e.val, 0, 0] ![1, 256, 768] inb (ix3 0 q k) = x (ix3 e q k) := by
  unfold VecWindow.window
  refine congrArg x (funext fun a => Fin.ext ?_)
  fin_cases a <;> simp [Rect.unit, LoadRect.idx, Rect.emb]

theorem lse_at (x : Vec Ideal S2x256x1 .f32) (e : Fin 2) (inb) (q : Fin 256) :
    VecWindow.window x ![e.val, 0, 0] ![1, 256, 1] inb (ix3 0 q 0) = x (ix3 e q 0) := by
  unfold VecWindow.window
  refine congrArg x (funext fun a => Fin.ext ?_)
  fin_cases a <;> simp [Rect.unit, LoadRect.idx, Rect.emb]

/-- The exponential of a score less the row's logarithm is the weight. -/
theorem weight_eq (h q k : ℕ) (hi : i < 16) (hq : q < 256) (hk : k < 768) :
    Ideal.exp ((if 512 ≤ 256 * i + k then
        ((∑ d ∈ range 64, y (256 * i + q) (64 * h + d) * y (kr i k) (1024 + (64 * h + d)) : ℝ) : EReal) * ((1 / 8 : ℝ) : EReal)
          + (if q / 64 ≤ k / 64 ∧ k / 64 ≤ q / 64 + 8 then ((rb h (min (k - 256 - q) 319) : ℝ) : EReal) else ⊥) else ⊥)
        - ((Real.log (Z y rb h (256 * i + q)) : ℝ) : EReal))
      = ((W (y := y) (rb := rb) h i q k : ℝ) : EReal) := by
  unfold W
  by_cases h1 : 512 ≤ 256 * i + k
  · by_cases h2 : q / 64 ≤ k / 64 ∧ k / 64 ≤ q / 64 + 8
    · have h3 : ok (256 * i + q) (256 * i + k - 512) := by unfold ok; omega
      rw [if_pos h1, if_pos h2, if_pos ⟨h1, h3⟩, ← EReal.coe_mul, ← EReal.coe_add, ← EReal.coe_sub, Ideal.exp_coe, Real.exp_sub,
        Real.exp_log (Z_pos (by omega)), pr, ex, if_pos h3, sc, kr_eq h1, show 256 * i + k - 512 + 256 - (256 * i + q) = k - 256 - q by omega]
    · have h3 : ¬ ok (256 * i + q) (256 * i + k - 512) := by unfold ok; omega
      rw [if_pos h1, if_neg h2, if_neg (fun h => h3 h.2), EReal.add_bot, EReal.bot_sub, exp_bot, EReal.coe_zero]
  · rw [if_neg h1, if_neg (fun h => h1 h.1), EReal.bot_sub, exp_bot, EReal.coe_zero]

theorem probA_eq (hb : IsBlk y rb g i p b) (q : Fin 256) (k : Fin 768) :
    probA (BitVec.ofNat 32 i) b (ix2 q k) = ((W (y := y) (rb := rb) (2 * p) i q.val k.val : ℝ) : EReal) := by
  pointwise [probA, k0_pay15, k0_pay12, k0_pay14, biasA, lseA, k0_pay13, k0_pay7, k0_pay8, k0_pay9, k0_pay10, k0_pay11]
  rw [mask_cmp i hb.hi k.val k.isLt, eighth_f32, mask_eq,
    catA i _ (fun x => y (256 * i + q.val) (128 * p + x)) (fun R x => y R (1024 + (128 * p + x))) b.k0 b.k1 b.k2 k (fun x => hb.q _) hb.k0 hb.k1 hb.k2]
  refine Eq.trans ?_ (weight_eq (2 * p) q.val k.val hb.hi q.isLt k.isLt)
  rw [show 64 * (2 * p) = 128 * p by omega]
  congr 2
  · refine if_congr Iff.rfl (congrArg _ ?_) rfl
    exact (tab_at b.bias 0 _ q k).trans (hb.bias _)
  · exact (lse_at b.lse 0 _ q).trans (hb.lse _)

theorem probB_eq (hb : IsBlk y rb g i p b) (q : Fin 256) (k : Fin 768) :
    probB (BitVec.ofNat 32 i) b (ix2 q k) = ((W (y := y) (rb := rb) (2 * p + 1) i q.val k.val : ℝ) : EReal) := by
  pointwise [probB, k0_pay32, biasB, lseB, k0_pay28, k0_pay29, k0_pay30, k0_pay31, k0_pay7, k0_pay8, k0_pay9, k0_pay10]
  rw [mask_cmp i hb.hi k.val k.isLt, eighth_f32, mask_eq,
    catB i _ (fun x => y (256 * i + q.val) (128 * p + x)) (fun R x => y R (1024 + (128 * p + x))) b.k0 b.k1 b.k2 k (fun x => hb.q _) hb.k0 hb.k1 hb.k2]
  refine Eq.trans ?_ (weight_eq (2 * p + 1) q.val k.val hb.hi q.isLt k.isLt)
  simp only [show ∀ d, 64 * (2 * p + 1) + d = 128 * p + (64 + d) by omega]
  congr 2
  · refine if_congr Iff.rfl (congrArg _ ?_) rfl
    exact (tab_at b.bias 1 _ q k).trans (hb.bias _)
  · exact (lse_at b.lse 1 _ q).trans (hb.lse _)

/-- The scores' cotangent at the window's column `k`. -/
def D (h i q k : ℕ) : ℝ := if 512 ≤ 256 * i + k ∧ ok (256 * i + q) (256 * i + k - 512) then ds y rb g h (256 * i + q) (256 * i + k - 512) else 0

/-- The weights times their cotangents sum to the row's sum. -/
theorem sum_W (h i q : ℕ) (hi : i < 16) (hq : q < 256) :
    ∑ k ∈ range 768, W (y := y) (rb := rb) h i q k * dp y g h (256 * i + q) (kr i k) = dl y rb g h (256 * i + q) := by
  unfold dl
  have e := sum_blocks (fun C => pr y rb h (256 * i + q) C * dp y g h (256 * i + q) C) i q hi hq
  refine Eq.trans (sum_congr rfl fun k _ => ?_) (e.trans (sum_congr rfl fun C _ => ?_))
  · unfold W
    split_ifs with hc
    · rw [kr_eq hc.1]
    · rw [zero_mul]
  · split_ifs with hc
    · rfl
    · rw [pr_of_not_ok hc, zero_mul]

theorem W_mul (h i q k : ℕ) : W (y := y) (rb := rb) h i q k * (dp y g h (256 * i + q) (kr i k) - dl y rb g h (256 * i + q)) = D (y := y) (rb := rb) (g := g) h i q k := by
  unfold W D
  split_ifs with hc
  · rw [kr_eq hc.1]; rfl
  · rw [zero_mul]

/-- A row less its weighted sum, times its weight. -/
theorem centred (h i : ℕ) (hi : i < 16) (q : Fin 256) (k : Fin 768) (P : Fin 768 → EReal) (V : Fin 768 → EReal)
    (hP : ∀ k, P k = ((W (y := y) (rb := rb) h i q.val k.val : ℝ) : EReal)) (hV : ∀ k, V k = ((dp y g h (256 * i + q.val) (kr i k.val) : ℝ) : EReal)) :
    P k * (V k - ∑ x, P x * V x) = ((D (y := y) (rb := rb) (g := g) h i q.val k.val : ℝ) : EReal) := by
  simp only [hP, hV, ← EReal.coe_mul, ← Common.coe_sum]
  rw [← EReal.coe_sub, ← EReal.coe_mul, ← sum_range (fun x => W (y := y) (rb := rb) h i q.val x * dp y g h (256 * i + q.val) (kr i x)),
    sum_W h i q.val hi q.isLt, W_mul]

theorem prodA_eq (hb : IsBlk y rb g i p b) (q : Fin 256) (k : Fin 768) :
    probA (BitVec.ofNat 32 i) b (ix2 q k) * restA (BitVec.ofNat 32 i) b (ix2 q k)
      = ((D (y := y) (rb := rb) (g := g) (2 * p) i q.val k.val : ℝ) : EReal) := by
  refine Eq.trans (congrArg _ ?_) (centred (2 * p) i hb.hi q k (fun k => probA (BitVec.ofNat 32 i) b (ix2 q k)) (fun k => ((dp y g (2 * p) (256 * i + q.val) (kr i k.val) : ℝ) : EReal)) (probA_eq hb q) (fun _ => rfl))
  pointwise [restA, k0_pay16, k0_pay11]
  have e : ∀ k : Fin 768, _ = ((dp y g (2 * p) (256 * i + q.val) (kr i k.val) : ℝ) : EReal) := fun k =>
    (catA i _ (fun x => g (256 * i + q.val) (128 * p + x)) (fun R x => y R (2048 + (128 * p + x))) b.v0 b.v1 b.v2 k (fun x => hb.dy (ix2 q x)) hb.v0 hb.v1 hb.v2).trans
      (by unfold dp; rw [show 64 * (2 * p) = 128 * p by omega])
  simp only [e]
  rfl

/-- The second head's cotangent of the scores, as the body computes it. -/
def prodB (n : BitVec 32) (b : Blk Ideal) : FVec Ideal S256x768 .f32 :=
  k0_pay37 b.dy k0_pay28 (probB n b) (k0_pay33 b.dy k0_pay28 b.v0) (k0_pay34 b.v1) k0_pay35 (k0_pay36 k0_pay28) b.v2

theorem prodB_eq (hb : IsBlk y rb g i p b) (q : Fin 256) (k : Fin 768) :
    prodB (BitVec.ofNat 32 i) b (ix2 q k) = ((D (y := y) (rb := rb) (g := g) (2 * p + 1) i q.val k.val : ℝ) : EReal) := by
  refine Eq.trans ?_ (centred (2 * p + 1) i hb.hi q k (fun k => probB (BitVec.ofNat 32 i) b (ix2 q k)) (fun k => ((dp y g (2 * p + 1) (256 * i + q.val) (kr i k.val) : ℝ) : EReal)) (probB_eq hb q) (fun _ => rfl))
  pointwise [prodB, k0_pay28, k0_pay33, k0_pay34, k0_pay35, k0_pay36, k0_pay37]
  have e : ∀ k : Fin 768, _ = ((dp y g (2 * p + 1) (256 * i + q.val) (kr i k.val) : ℝ) : EReal) := fun k =>
    (catB i _ (fun x => g (256 * i + q.val) (128 * p + x)) (fun R x => y R (2048 + (128 * p + x))) b.v0 b.v1 b.v2 k (fun x => hb.dy (ix2 q x)) hb.v0 hb.v1 hb.v2).trans
      (by unfold dp; simp only [show ∀ d, 64 * (2 * p + 1) + d = 128 * p + (64 + d) by omega])
  simp only [e]

/-- Three blocks of a row are the row. -/
theorem sum_three (f : ℕ → ℝ) :
    (∑ x : Fin 256, f x.val) + (∑ x : Fin 256, f (256 + x.val)) + (∑ x : Fin 256, f (512 + x.val)) = ∑ k ∈ range 768, f k := by
  rw [← sum_range f, ← sum_range (fun x => f (256 + x)), ← sum_range (fun x => f (512 + x)), show (768 : ℕ) = 256 + 256 + 256 by norm_num,
    Finset.sum_range_add, Finset.sum_range_add]

/-- The scores' cotangents against the window's keys. -/
theorem sum_D (h i q a : ℕ) (hi : i < 16) (hq : q < 256) :
    ∑ k ∈ range 768, D (y := y) (rb := rb) (g := g) h i q k * y (kr i k) a
      = ∑ C ∈ range 4096, ds y rb g h (256 * i + q) C * y C a := by
  refine Eq.trans (sum_congr rfl fun k _ => ?_) ((sum_blocks (fun C => ds y rb g h (256 * i + q) C * y C a) i q hi hq).trans
    (sum_congr rfl fun C _ => ?_))
  · unfold D
    split_ifs with hc
    · rw [kr_eq hc.1]
    · rw [zero_mul]
  · split_ifs with hc
    · rfl
    · rw [ds_of_not_ok hc, zero_mul]

/-- A row of cotangents against the window's three key blocks. -/
theorem row_eq (hb : IsBlk y rb g i p b) (h : ℕ) (x : Fin 256) (z : Fin 128) (P : Fin 768 → EReal)
    (hP : ∀ k, P k = ((D (y := y) (rb := rb) (g := g) h i x.val k.val : ℝ) : EReal)) :
    (∑ k : Fin 256, P ⟨k.val, by omega⟩ * b.k0 (ix2 k z)) + (∑ k : Fin 256, P ⟨256 + k.val, by omega⟩ * b.k1 (ix2 k z))
        + (∑ k : Fin 256, P ⟨512 + k.val, by omega⟩ * b.k2 (ix2 k z))
      = ((∑ C ∈ range 4096, ds y rb g h (256 * i + x.val) C * y C (1024 + (128 * p + z.val)) : ℝ) : EReal) := by
  rw [← sum_D h i x.val _ hb.hi x.isLt, ← sum_three]
  simp only [hP, hb.k0, hb.k1, hb.k2, ← EReal.coe_mul, ← EReal.coe_add, ← Common.coe_sum]
  have e0 : ∀ k : Fin 256, kr i k.val = 256 * (i - 2) + k.val := fun k => by unfold kr; omega
  have e1 : ∀ k : Fin 256, kr i (256 + k.val) = 256 * (i - 1) + k.val := fun k => by unfold kr; omega
  have e2 : ∀ k : Fin 256, kr i (512 + k.val) = 256 * i + k.val := fun k => by unfold kr; omega
  simp only [e0, e1, e2]
  rfl

/-- What the body leaves of the query's gradient is the gradient. -/
theorem dqOut_eq (hb : IsBlk y rb g i p b) (x : Fin 256) (z : Fin 128) :
    dqOut (BitVec.ofNat 32 i) b (ix2 x z) = ((gq y rb g (256 * i + x.val) (128 * p + z.val) : ℝ) : EReal) := by
  pointwise [dqOut, k0_pay20, k0_pay18, k0_pay49, k0_pay40, k0_pay38, k0_pay48, k0_pay8, k0_pay9, k0_pay10]
  rw [lane_lt z.val z.isLt, eighth_f32]
  unfold gq
  split_ifs with hz
  · refine (congrArg (· * _) (row_eq hb (2 * p) x z (fun k => probA (BitVec.ofNat 32 i) b (ix2 x k) * restA (BitVec.ofNat 32 i) b (ix2 x k)) (prodA_eq hb x))).trans ?_
    rw [← EReal.coe_mul, show (128 * p + z.val) / 64 = 2 * p by omega]
  · refine (congrArg (· * _) (row_eq hb (2 * p + 1) x z (fun k => prodB (BitVec.ofNat 32 i) b (ix2 x k)) (prodB_eq hb x))).trans ?_
    rw [← EReal.coe_mul, show (128 * p + z.val) / 64 = 2 * p + 1 by omega]

/-- What a point adds to a key's gradient (before its scale) and to a value's gradient, at row `x` of the band's block `r`. -/
def cK (p i r x z : ℕ) : ℝ := ∑ q ∈ range 256, D (y := y) (rb := rb) (g := g) ((128 * p + z) / 64) i q (256 * r + x) * y (256 * i + q) (128 * p + z)
def cV (p i r x z : ℕ) : ℝ := ∑ q ∈ range 256, W (y := y) (rb := rb) ((128 * p + z) / 64) i q (256 * r + x) * g (256 * i + q) (128 * p + z)

theorem col_eq (_x z : ℕ) (p i : ℕ) (f : ℕ → ℕ → ℝ) (u v : Fin 256 → EReal) (F : ℕ → ℝ) (hu : ∀ q, u q = ((F q.val : ℝ) : EReal)) (hv : ∀ q, v q = ((f (256 * i + q.val) (128 * p + z) : ℝ) : EReal)) :
    ∑ q, u q * v q = ((∑ q ∈ range 256, F q * f (256 * i + q) (128 * p + z) : ℝ) : EReal) := by
  simp only [hu, hv, ← EReal.coe_mul, ← Common.coe_sum]
  rw [← sum_range (fun q => F q * f (256 * i + q) (128 * p + z))]

/-- The keys' addend at the band's block 0. -/
theorem keys0 (hb : IsBlk y rb g i p b) (w : Vec Ideal S256x128 .f32) (x : Fin 256) (z : Fin 128) :
    k0_pay50 (k0_pay21 (k0_pay7 b.q) (probA (BitVec.ofNat 32 i) b) (restA (BitVec.ofNat 32 i) b))
      (k0_pay41 (k0_pay7 b.q) b.dy k0_pay28 (probB (BitVec.ofNat 32 i) b) (k0_pay33 b.dy k0_pay28 b.v0) (k0_pay34 b.v1) k0_pay35 (k0_pay36 k0_pay28) b.v2) w (ix2 x z)
      = w (ix2 x z) + ((cK (y := y) (rb := rb) (g := g) p i 0 x.val z.val : ℝ) : EReal) := by
  have hx := x.isLt
  pointwise [k0_pay50, k0_pay21, k0_pay41, k0_pay18, k0_pay38, k0_pay48, k0_pay7]
  rw [lane_lt z.val z.isLt]
  congr 1
  unfold cK
  split_ifs with hz
  · rw [show (128 * p + z.val) / 64 = 2 * p by omega]
    exact col_eq x.val z.val p i y (fun q => probA (BitVec.ofNat 32 i) b (ix2 q ⟨x.val, by omega⟩) * restA (BitVec.ofNat 32 i) b (ix2 q ⟨x.val, by omega⟩)) _
      (fun q => D (y := y) (rb := rb) (g := g) (2 * p) i q (256 * 0 + x.val)) (fun q => (prodA_eq hb q _).trans (by simp)) (fun q => hb.q _)
  · rw [show (128 * p + z.val) / 64 = 2 * p + 1 by omega]
    exact col_eq x.val z.val p i y (fun q => prodB (BitVec.ofNat 32 i) b (ix2 q ⟨x.val, by omega⟩)) _
      (fun q => D (y := y) (rb := rb) (g := g) (2 * p + 1) i q (256 * 0 + x.val)) (fun q => (prodB_eq hb q _).trans (by simp)) (fun q => hb.q _)

/-- The keys' addend at the band's block 1. -/
theorem keys1 (hb : IsBlk y rb g i p b) (w : Vec Ideal S256x128 .f32) (x : Fin 256) (z : Fin 128) :
    k0_pay52 (k0_pay22 (k0_pay7 b.q) (probA (BitVec.ofNat 32 i) b) (restA (BitVec.ofNat 32 i) b))
      (k0_pay42 (k0_pay7 b.q) b.dy k0_pay28 (probB (BitVec.ofNat 32 i) b) (k0_pay33 b.dy k0_pay28 b.v0) (k0_pay34 b.v1) k0_pay35 (k0_pay36 k0_pay28) b.v2) k0_pay48 w (ix2 x z)
      = w (ix2 x z) + ((cK (y := y) (rb := rb) (g := g) p i 1 x.val z.val : ℝ) : EReal) := by
  have hx := x.isLt
  pointwise [k0_pay52, k0_pay22, k0_pay42, k0_pay18, k0_pay38, k0_pay48, k0_pay7]
  rw [lane_lt z.val z.isLt]
  congr 1
  unfold cK
  split_ifs with hz
  · rw [show (128 * p + z.val) / 64 = 2 * p by omega]
    exact col_eq x.val z.val p i y (fun q => probA (BitVec.ofNat 32 i) b (ix2 q ⟨256 + x.val, by omega⟩) * restA (BitVec.ofNat 32 i) b (ix2 q ⟨256 + x.val, by omega⟩)) _
      (fun q => D (y := y) (rb := rb) (g := g) (2 * p) i q (256 * 1 + x.val)) (fun q => (prodA_eq hb q _).trans (by simp)) (fun q => hb.q _)
  · rw [show (128 * p + z.val) / 64 = 2 * p + 1 by omega]
    exact col_eq x.val z.val p i y (fun q => prodB (BitVec.ofNat 32 i) b (ix2 q ⟨256 + x.val, by omega⟩)) _
      (fun q => D (y := y) (rb := rb) (g := g) (2 * p + 1) i q (256 * 1 + x.val)) (fun q => (prodB_eq hb q _).trans (by simp)) (fun q => hb.q _)

/-- The keys' addend at the band's block 2. -/
theorem keys2 (hb : IsBlk y rb g i p b) (w : Vec Ideal S256x128 .f32) (x : Fin 256) (z : Fin 128) :
    k0_pay54 (k0_pay23 (k0_pay7 b.q) (probA (BitVec.ofNat 32 i) b) (restA (BitVec.ofNat 32 i) b))
      (k0_pay43 (k0_pay7 b.q) b.dy k0_pay28 (probB (BitVec.ofNat 32 i) b) (k0_pay33 b.dy k0_pay28 b.v0) (k0_pay34 b.v1) k0_pay35 (k0_pay36 k0_pay28) b.v2) k0_pay48 w (ix2 x z)
      = w (ix2 x z) + ((cK (y := y) (rb := rb) (g := g) p i 2 x.val z.val : ℝ) : EReal) := by
  have hx := x.isLt
  pointwise [k0_pay54, k0_pay23, k0_pay43, k0_pay18, k0_pay38, k0_pay48, k0_pay7]
  rw [lane_lt z.val z.isLt]
  congr 1
  unfold cK
  split_ifs with hz
  · rw [show (128 * p + z.val) / 64 = 2 * p by omega]
    exact col_eq x.val z.val p i y (fun q => probA (BitVec.ofNat 32 i) b (ix2 q ⟨512 + x.val, by omega⟩) * restA (BitVec.ofNat 32 i) b (ix2 q ⟨512 + x.val, by omega⟩)) _
      (fun q => D (y := y) (rb := rb) (g := g) (2 * p) i q (256 * 2 + x.val)) (fun q => (prodA_eq hb q _).trans (by simp)) (fun q => hb.q _)
  · rw [show (128 * p + z.val) / 64 = 2 * p + 1 by omega]
    exact col_eq x.val z.val p i y (fun q => prodB (BitVec.ofNat 32 i) b (ix2 q ⟨512 + x.val, by omega⟩)) _
      (fun q => D (y := y) (rb := rb) (g := g) (2 * p + 1) i q (256 * 2 + x.val)) (fun q => (prodB_eq hb q _).trans (by simp)) (fun q => hb.q _)

/-- The values' addend at the band's block 0. -/
theorem vals0 (hb : IsBlk y rb g i p b) (w : Vec Ideal S256x128 .f32) (x : Fin 256) (z : Fin 128) :
    k0_pay51 (k0_pay24 b.dy (probA (BitVec.ofNat 32 i) b)) (k0_pay44 b.dy (probB (BitVec.ofNat 32 i) b)) w (ix2 x z)
      = w (ix2 x z) + ((cV (y := y) (rb := rb) (g := g) p i 0 x.val z.val : ℝ) : EReal) := by
  have hx := x.isLt
  pointwise [k0_pay51, k0_pay24, k0_pay44, k0_pay19, k0_pay39, k0_pay48, k0_pay55]
  rw [lane_lt z.val z.isLt]
  congr 1
  unfold cV
  split_ifs with hz
  · rw [show (128 * p + z.val) / 64 = 2 * p by omega]
    exact col_eq x.val z.val p i g (fun q => probA (BitVec.ofNat 32 i) b (ix2 q ⟨x.val, by omega⟩)) _
      (fun q => W (y := y) (rb := rb) (2 * p) i q (256 * 0 + x.val)) (fun q => (probA_eq hb q _).trans (by simp)) (fun q => hb.dy _)
  · rw [show (128 * p + z.val) / 64 = 2 * p + 1 by omega]
    exact col_eq x.val z.val p i g (fun q => probB (BitVec.ofNat 32 i) b (ix2 q ⟨x.val, by omega⟩)) _
      (fun q => W (y := y) (rb := rb) (2 * p + 1) i q (256 * 0 + x.val)) (fun q => (probB_eq hb q _).trans (by simp)) (fun q => hb.dy _)

/-- The values' addend at the band's block 1. -/
theorem vals1 (hb : IsBlk y rb g i p b) (w : Vec Ideal S256x128 .f32) (x : Fin 256) (z : Fin 128) :
    k0_pay53 (k0_pay25 b.dy (probA (BitVec.ofNat 32 i) b)) (k0_pay45 b.dy (probB (BitVec.ofNat 32 i) b)) k0_pay48 w (ix2 x z)
      = w (ix2 x z) + ((cV (y := y) (rb := rb) (g := g) p i 1 x.val z.val : ℝ) : EReal) := by
  have hx := x.isLt
  pointwise [k0_pay53, k0_pay25, k0_pay45, k0_pay19, k0_pay39, k0_pay48, k0_pay55]
  rw [lane_lt z.val z.isLt]
  congr 1
  unfold cV
  split_ifs with hz
  · rw [show (128 * p + z.val) / 64 = 2 * p by omega]
    exact col_eq x.val z.val p i g (fun q => probA (BitVec.ofNat 32 i) b (ix2 q ⟨256 + x.val, by omega⟩)) _
      (fun q => W (y := y) (rb := rb) (2 * p) i q (256 * 1 + x.val)) (fun q => (probA_eq hb q _).trans (by simp)) (fun q => hb.dy _)
  · rw [show (128 * p + z.val) / 64 = 2 * p + 1 by omega]
    exact col_eq x.val z.val p i g (fun q => probB (BitVec.ofNat 32 i) b (ix2 q ⟨256 + x.val, by omega⟩)) _
      (fun q => W (y := y) (rb := rb) (2 * p + 1) i q (256 * 1 + x.val)) (fun q => (probB_eq hb q _).trans (by simp)) (fun q => hb.dy _)

/-- The values' addend at the band's block 2. -/
theorem vals2 (hb : IsBlk y rb g i p b) (w : Vec Ideal S256x128 .f32) (x : Fin 256) (z : Fin 128) :
    k0_pay1 (k0_pay26 b.dy (probA (BitVec.ofNat 32 i) b)) (k0_pay46 b.dy (probB (BitVec.ofNat 32 i) b)) w (k0_pay55 k0_pay48) (ix2 x z)
      = w (ix2 x z) + ((cV (y := y) (rb := rb) (g := g) p i 2 x.val z.val : ℝ) : EReal) := by
  have hx := x.isLt
  pointwise [k0_pay1, k0_pay26, k0_pay46, k0_pay19, k0_pay39, k0_pay48, k0_pay55]
  rw [lane_lt z.val z.isLt]
  congr 1
  unfold cV
  split_ifs with hz
  · rw [show (128 * p + z.val) / 64 = 2 * p by omega]
    exact col_eq x.val z.val p i g (fun q => probA (BitVec.ofNat 32 i) b (ix2 q ⟨512 + x.val, by omega⟩)) _
      (fun q => W (y := y) (rb := rb) (2 * p) i q (256 * 2 + x.val)) (fun q => (probA_eq hb q _).trans (by simp)) (fun q => hb.dy _)
  · rw [show (128 * p + z.val) / 64 = 2 * p + 1 by omega]
    exact col_eq x.val z.val p i g (fun q => probB (BitVec.ofNat 32 i) b (ix2 q ⟨512 + x.val, by omega⟩)) _
      (fun q => W (y := y) (rb := rb) (2 * p + 1) i q (256 * 2 + x.val)) (fun q => (probB_eq hb q _).trans (by simp)) (fun q => hb.dy _)

end Cert.Attn
-- ==== Proof.Attn.Accum.lean ====
/-
  The accumulators of the keys' and the values' gradients, point by point, over blocks of real numbers.
-/
module

public import proofs.«01_k».proof.Proof.Attn.Block
public import proofs.«01_k».proof.Proof.Attn.Frame

@[expose] public section

set_option maxRecDepth 16384

noncomputable section

open Idealize.ShloMosaic Idealize.ShloMosaic.TcCoe Idealize.SL.Sem

namespace Cert.Attn

open Cert.Kernel11Ideal Cert.Kernel11Ideal.Gen Cert.Kernel11Ideal.Hand
open Finset (range sum_range sum_congr)

/-- The band's block of an accumulator, at an index. -/
theorem rowWin_at (x : Vec Ideal S4096x128 .f32) (i : grid0.Coords) (r : Fin 3) (a : Fin 256) (z : Fin 128)
    (h : 256 * ((i 1).val + r.val - 2) + a.val < 4096) : rowWin x i r (ix2 a z) = x (ix2 ⟨256 * ((i 1).val + r.val - 2) + a.val, h⟩ z) := by
  unfold rowWin VecWindow.window
  refine congrArg x (funext fun k => Fin.ext ?_)
  fin_cases k
  · simp [Rect.unit, LoadRect.idx, Rect.emb, rowOff]
  · simp [Rect.unit, LoadRect.idx, Rect.emb]

/-- An accumulator whose band's block is replaced, at an index. -/
theorem rowPut_at (x : Vec Ideal S4096x128 .f32) (i : grid0.Coords) (r : Fin 3) (w : Vec Ideal S256x128 .f32) (c : Fin 4096) (z : Fin 128) :
    rowPut x i r w (ix2 c z) = if c.val / 256 = (i 1).val + r.val - 2 then w (ix2 ⟨c.val % 256, Nat.mod_lt _ (by norm_num)⟩ z) else x (ix2 c z) := by
  unfold rowPut VecWindow.put
  by_cases h : c.val / 256 = (i 1).val + r.val - 2
  · rw [if_pos h, dif_pos]
    · refine congrArg w (funext fun k => Fin.ext ?_)
      fin_cases k
      · simp [Rect.unitLocal, rowOff]; omega
      · simp [Rect.unitLocal]
    · intro a
      fin_cases a
      · simp [rowOff]; omega
      · simp
  · rw [if_neg h, dif_neg]
    intro H
    have := H 0
    simp [rowOff] at this
    omega

variable {y rb g : ℕ → ℕ → ℝ} {i p : ℕ} {b : Blk Ideal}

/-- One block added. -/
theorem add_at (x : Vec Ideal S4096x128 .f32) (i : grid0.Coords) (hi : (i 1).val < 16) (r : Fin 3) (w : Vec Ideal S256x128 .f32) (d : ℕ → ℕ → ℝ)
    (hw : ∀ a z, w (ix2 a z) = rowWin x i r (ix2 a z) + ((d a.val z.val : ℝ) : EReal)) (c : Fin 4096) (z : Fin 128) :
    rowPut x i r w (ix2 c z) = x (ix2 c z) + (((if c.val / 256 = (i 1).val + r.val - 2 then d (c.val % 256) z.val else 0) : ℝ) : EReal) := by
  rw [rowPut_at]
  have hr := r.isLt
  have hc := c.isLt
  split_ifs with h
  · rw [hw, rowWin_at x i r _ z (by show _ + c.val % 256 < _; omega)]
    congr 3
    exact Fin.ext (show 256 * ((i 1).val + r.val - 2) + c.val % 256 = c.val by omega)
  · rw [EReal.coe_zero, add_zero]

/-- What a point adds at row `c`. -/
def aK (p i c z : ℕ) : ℝ := ∑ r ∈ range 3, if c / 256 = i + r - 2 then cK (y := y) (rb := rb) (g := g) p i r (c % 256) z else 0
def aV (p i c z : ℕ) : ℝ := ∑ r ∈ range 3, if c / 256 = i + r - 2 then cV (y := y) (rb := rb) (g := g) p i r (c % 256) z else 0

theorem stepK_at (I : grid0.Coords) (hI : (I 1).val = i) (hb : IsBlk y rb g i p b) (x : Vec Ideal S4096x128 .f32) (c : Fin 4096) (z : Fin 128) :
    stepK I b x (ix2 c z) = x (ix2 c z) + ((aK (y := y) (rb := rb) (g := g) p i c.val z.val : ℝ) : EReal) := by
  subst hI
  unfold stepK stepK2 stepK1 stepK0 aK
  rw [add_at _ I hb.hi 2 _ (fun a z => cK (y := y) (rb := rb) (g := g) p (I 1).val 2 a z) (fun a z => keys2 hb _ a z),
    add_at _ I hb.hi 1 _ (fun a z => cK (y := y) (rb := rb) (g := g) p (I 1).val 1 a z) (fun a z => keys1 hb _ a z),
    add_at _ I hb.hi 0 _ (fun a z => cK (y := y) (rb := rb) (g := g) p (I 1).val 0 a z) (fun a z => keys0 hb _ a z)]
  rw [add_assoc, add_assoc, ← EReal.coe_add, ← EReal.coe_add]
  simp only [Finset.sum_range_succ, Finset.range_zero, Finset.sum_empty, zero_add, add_assoc]
  rfl

theorem stepV_at (I : grid0.Coords) (hI : (I 1).val = i) (hb : IsBlk y rb g i p b) (x : Vec Ideal S4096x128 .f32) (c : Fin 4096) (z : Fin 128) :
    stepV I b x (ix2 c z) = x (ix2 c z) + ((aV (y := y) (rb := rb) (g := g) p i c.val z.val : ℝ) : EReal) := by
  subst hI
  unfold stepV stepV2 stepV1 stepV0 aV
  rw [add_at _ I hb.hi 2 _ (fun a z => cV (y := y) (rb := rb) (g := g) p (I 1).val 2 a z) (fun a z => vals2 hb _ a z),
    add_at _ I hb.hi 1 _ (fun a z => cV (y := y) (rb := rb) (g := g) p (I 1).val 1 a z) (fun a z => vals1 hb _ a z),
    add_at _ I hb.hi 0 _ (fun a z => cV (y := y) (rb := rb) (g := g) p (I 1).val 0 a z) (fun a z => vals0 hb _ a z)]
  rw [add_assoc, add_assoc, ← EReal.coe_add, ← EReal.coe_add]
  simp only [Finset.sum_range_succ, Finset.range_zero, Finset.sum_empty, zero_add, add_assoc]
  rfl

/-- All points' addends at a row are the row's gradient. -/
theorem sum_aK (p C z : ℕ) : (∑ i ∈ range 16, aK (y := y) (rb := rb) (g := g) p i C z) * (1 / 8) = gk y rb g C (128 * p + z) := by
  unfold gk
  congr 1
  refine Eq.trans (sum_congr rfl fun i hi => sum_congr rfl fun r hr => ?_) ((sum_rows_blocks (fun R => ds y rb g ((128 * p + z) / 64) R C * y R (128 * p + z)) C).trans
    (sum_congr rfl fun R _ => ?_))
  · refine if_ctx_congr Iff.rfl (fun hc => sum_congr rfl fun q _ => ?_) fun _ => rfl
    unfold D
    by_cases h2 : 2 ≤ i + r
    · have e : 256 * i + (256 * r + C % 256) - 512 = C := by omega
      rw [e]
      by_cases hok : ok (256 * i + q) C
      · rw [if_pos ⟨by omega, hok⟩, if_pos ⟨h2, hok⟩]
      · rw [if_neg fun h => hok h.2, if_neg fun h => hok h.2, zero_mul]
    · rw [if_neg fun h => by omega, if_neg fun h => h2 h.1, zero_mul]
  · split_ifs with hc
    · rfl
    · rw [ds_of_not_ok hc, zero_mul]

theorem sum_aV (p C z : ℕ) : (∑ i ∈ range 16, aV (y := y) (rb := rb) (g := g) p i C z) = gv y rb g C (128 * p + z) := by
  unfold gv
  refine Eq.trans (sum_congr rfl fun i hi => sum_congr rfl fun r hr => ?_) ((sum_rows_blocks (fun R => pr y rb ((128 * p + z) / 64) R C * g R (128 * p + z)) C).trans
    (sum_congr rfl fun R _ => ?_))
  · refine if_ctx_congr Iff.rfl (fun hc => sum_congr rfl fun q _ => ?_) fun _ => rfl
    unfold W
    by_cases h2 : 2 ≤ i + r
    · have e : 256 * i + (256 * r + C % 256) - 512 = C := by omega
      rw [e]
      by_cases hok : ok (256 * i + q) C
      · rw [if_pos ⟨by omega, hok⟩, if_pos ⟨h2, hok⟩]
      · rw [if_neg fun h => hok h.2, if_neg fun h => hok h.2, zero_mul]
    · rw [if_neg fun h => by omega, if_neg fun h => h2 h.1, zero_mul]
  · split_ifs with hc
    · rfl
    · rw [pr_of_not_ok hc, zero_mul]

variable (m : (ℓ : Loc nD τ sig) → Buf (Elt Ideal) ℓ) (c : Dev nD)

/-- The grid: sixteen query blocks for each of eight pairs of heads. -/
theorem coords_1 : ∀ t : Fin cfg0.N, ((grid0.coords t) 1).val = t.val % 16 := (by decide +kernel : ∀ t : Fin grid0.N, _)

/-- The accumulators after a point. -/
theorem acc_eq (hB : ∀ t : Fin cfg0.N, IsBlk y rb g (t.val % 16) (t.val / 16) (blkAt m c t)) (n : ℕ) (hn : n < cfg0.N) (C : Fin 4096) (z : Fin 128) :
    (stAt m c n hn).dk (ix2 C z) = ((∑ i ∈ range (n % 16 + 1), aK (y := y) (rb := rb) (g := g) (n / 16) i C.val z.val : ℝ) : EReal)
    ∧ (stAt m c n hn).dv (ix2 C z) = ((∑ i ∈ range (n % 16 + 1), aV (y := y) (rb := rb) (g := g) (n / 16) i C.val z.val : ℝ) : EReal) := by
  induction n using Nat.strong_induction_on with
  | _ n ih =>
    by_cases h0 : n % 16 = 0
    · rw [stAt_open m c ⟨n, hn⟩ h0]
      unfold St.step St.zero
      dsimp only
      rw [stepK_at _ (coords_1 ⟨n, hn⟩) (hB ⟨n, hn⟩), stepV_at _ (coords_1 ⟨n, hn⟩) (hB ⟨n, hn⟩)]
      dsimp only
      rw [h0, zero_add, Finset.sum_range_one, Finset.sum_range_one]
      constructor
      · pointwise [k0_pay5]
      · pointwise [k0_pay6]
    · rw [stAt_next m c ⟨n, hn⟩ h0]
      unfold St.step
      dsimp only
      rw [stepK_at _ (coords_1 ⟨n, hn⟩) (hB ⟨n, hn⟩), stepV_at _ (coords_1 ⟨n, hn⟩) (hB ⟨n, hn⟩)]
      obtain ⟨ik, iv⟩ := ih (n - 1) (by omega) (Nat.lt_of_le_of_lt (Nat.sub_le _ _) hn)
      rw [ik, iv]
      dsimp only
      rw [show (n - 1) % 16 + 1 = n % 16 by omega, show (n - 1) / 16 = n / 16 by omega, Finset.sum_range_succ, Finset.sum_range_succ, EReal.coe_add, EReal.coe_add]
      exact ⟨rfl, rfl⟩

end Cert.Attn
-- ==== Proof.Attn.Final.lean ====
/-
  The three arrays the attention's gradient leaves, over blocks of real numbers.
-/
module

public import proofs.«01_k».proof.Proof.Attn.Accum

@[expose] public section

set_option maxRecDepth 16384

noncomputable section

open Idealize.ShloMosaic Idealize.ShloMosaic.TcCoe Idealize.SL.Sem
open Idealize.ShloMosaic.Pipeline (Dat Cfg Window)

namespace Cert.Attn

open Cert.Kernel11Ideal Cert.Kernel11Ideal.Gen Cert.Kernel11Ideal.Hand
open Finset (range sum_range sum_congr)

variable {y rb g : ℕ → ℕ → ℝ} (m : (ℓ : Loc nD τ sig) → Buf (Elt Ideal) ℓ) (c : Dev nD)

/-- Where the results' blocks lie. -/
theorem idx : ∀ t : Fin cfg0.N, win0_10.index t = ![t.val % 16, t.val / 16] ∧ win0_11.index t = ![0, t.val / 16] ∧ win0_12.index t = ![0, t.val / 16] :=
  (by decide +kernel : ∀ t : Fin grid0.N, _)

/-- The key and value gradients are written as a pair of heads closes. -/
theorem flush : ∀ t : Fin cfg0.N, ((cfg0.win 11).flush t = true → t.val % 16 = 15) ∧ ((cfg0.win 12).flush t = true → t.val % 16 = 15) :=
  (by decide +kernel : ∀ t : Fin grid0.N, _)

/-- The query's gradient. -/
theorem final_q (hB : ∀ t : Fin cfg0.N, IsBlk y rb g (t.val % 16) (t.val / 16) (blkAt m c t)) :
    (dats m 0 c).arrAt 10 cfg0.N = fun x => ((gq y rb g (x 0).val (x 1).val : ℝ) : EReal) := by
  refine (dats m 0 c).arrAt_eq_of_covers 10 _ (by decide +kernel) fun t _ x => ?_
  blk_simp
  rw [after_10]
  have ex : x = ix2 (⟨(x 0).val, (x 0).isLt⟩ : Fin 256) (⟨(x 1).val, (x 1).isLt⟩ : Fin 128) := eq_ix2 x
  rw [(idx t).1]
  refine Eq.trans (congrArg _ ex) ?_
  unfold pid
  rw [coords_1 t]
  refine (dqOut_eq (hB t) _ _).trans ?_
  have e0 : 256 * (t.val % 16) + (x 0).val = t.val % 16 * 256 + (x 0).val := by omega
  have e1 : 128 * (t.val / 16) + (x 1).val = t.val / 16 * 128 + (x 1).val := by omega
  exact congrArg Real.toEReal (congrArg₂ (gq y rb g) e0 e1)

/-- The keys' gradient. -/
theorem final_k (hB : ∀ t : Fin cfg0.N, IsBlk y rb g (t.val % 16) (t.val / 16) (blkAt m c t)) :
    (dats m 0 c).arrAt 11 cfg0.N = fun x => ((gk y rb g (x 0).val (x 1).val : ℝ) : EReal) := by
  refine (dats m 0 c).arrAt_eq_of_covers 11 _ (by decide +kernel) fun t hf x => ?_
  blk_simp
  rw [after_11, (idx t).2.1]
  have h15 := (flush t).1 hf
  have ex : x = ix2 (⟨(x 0).val, (x 0).isLt⟩ : Fin 4096) (⟨(x 1).val, (x 1).isLt⟩ : Fin 128) := eq_ix2 x
  pointwise [k0_pay2]
  refine Eq.trans (congrArg₂ (· * ·) ((congrArg _ ex).trans (acc_eq m c hB t.val t.isLt _ _).1) eighth_f32) ?_
  rw [h15, ← EReal.coe_mul, sum_aK]
  have e1 : 128 * (t.val / 16) + (x 1).val = t.val / 16 * 128 + (x 1).val := by omega
  exact congrArg Real.toEReal (congrArg₂ (gk y rb g) rfl e1)

/-- The values' gradient. -/
theorem final_v (hB : ∀ t : Fin cfg0.N, IsBlk y rb g (t.val % 16) (t.val / 16) (blkAt m c t)) :
    (dats m 0 c).arrAt 12 cfg0.N = fun x => ((gv y rb g (x 0).val (x 1).val : ℝ) : EReal) := by
  refine (dats m 0 c).arrAt_eq_of_covers 12 _ (by decide +kernel) fun t hf x => ?_
  blk_simp
  rw [after_12, (idx t).2.2]
  have h15 := (flush t).2 hf
  have ex : x = ix2 (⟨(x 0).val, (x 0).isLt⟩ : Fin 4096) (⟨(x 1).val, (x 1).isLt⟩ : Fin 128) := eq_ix2 x
  pointwise [k0_pay3]
  refine Eq.trans ((congrArg _ ex).trans (acc_eq m c hB t.val t.isLt _ _).2) ?_
  rw [h15, sum_aV]
  have e1 : 128 * (t.val / 16) + (x 1).val = t.val / 16 * 128 + (x 1).val := by omega
  exact congrArg Real.toEReal (congrArg₂ (gv y rb g) rfl e1)

end Cert.Attn
-- ==== Proof.Attn.Host.lean ====
/-
  The arrays the attention's gradient reads, as the lines before it leave them: the projections, the bias tables of the
  band, the rows' log-sums.
-/
module

public import proofs.«01_k».proof.Proof.Attn.Final
public import Idealize.ShloMosaic.Lib.Claim

@[expose] public section

set_option maxRecDepth 65536

noncomputable section

open Idealize.ShloMosaic Idealize.ShloMosaic.TcCoe Idealize.SL.Sem

namespace Cert.Attn

open Cert.Kernel11Ideal Cert.Kernel11Ideal.Gen Cert.Kernel11Ideal.Hand
open Finset (range sum_range sum_congr)

section lines

variable (y : FVec Ideal S4096x10256 .f32) (rb : FVec Ideal S16x320 .f32)

/-- The projections, laid out for the kernels. -/
def h4 : FVec Ideal S4096x10368 .f32 :=
  concatenate S4096x10368 1 [⟨S4096x6144, extractStridedSlice S4096x6144 ![0, 0] y slices_S4096x10256_S4096x6144_0_0⟩,
    ⟨S4096x4096, extractStridedSlice S4096x4096 ![0, 6160] y slices_S4096x10256_S4096x4096_0_6160⟩,
    ⟨S4096x16, extractStridedSlice S4096x16 ![0, 6144] y slices_S4096x10256_S4096x16_0_6144⟩,
    ⟨S4096x112, broadcastInDim S4096x112 ![] bcast_S_S4096x112 (constant S_ .f32 0x00000000#32)⟩] concatenates_S4096x6144_S4096x4096_S4096x16_S4096x112_S4096x10368_d1
def h5 : FVec Ideal S4096x10368 .bf16 := truncf .bf16 (h4 y) bitsLt_bf16_f32
/-- A row of the bias table, once around. -/
def h11 : FVec Ideal S16x1024 .f32 :=
  concatenate S16x1024 1 [⟨S16x256, broadcastInDim S16x256 ![0, 1] bcast_S16x1_S16x256_0_1 (extractStridedSlice S16x1 ![0, 0] rb slices_S16x320_S16x1_0_0)⟩,
    ⟨S16x320, rb⟩, ⟨S16x192, broadcastInDim S16x192 ![0, 1] bcast_S16x1_S16x192_0_1 (extractStridedSlice S16x1 ![0, 319] rb slices_S16x320_S16x1_0_319)⟩,
    ⟨S16x256, broadcastInDim S16x256 ![0, 1] bcast_S16x1_S16x256_0_1 (extractStridedSlice S16x1 ![0, 0] rb slices_S16x320_S16x1_0_0)⟩] concatenates_S16x256_S16x320_S16x192_S16x256_S16x1024_d1
def h12 : FVec Ideal S1x16x1x1024 .f32 := shapeCast S1x16x1x1024 (h11 rb) shapeCasts_S16x1024_S1x16x1x1024
def h13 : FVec Ideal S1x16x256x1024 .f32 := broadcastInDim S1x16x256x1024 ![0, 1, 2, 3] bcast_S1x16x1x1024_S1x16x256x1024_0_1_2_3 (h12 rb)
def h14 : FVec Ideal S16x262144 .f32 := shapeCast S16x262144 (h13 rb) shapeCasts_S1x16x256x1024_S16x262144
def h15 : FVec Ideal S16x261888 .f32 := extractStridedSlice S16x261888 ![0, 0] (h14 rb) slices_S16x262144_S16x261888_0_0
def h16 : FVec Ideal S16x256x1023 .f32 := shapeCast S16x256x1023 (h15 rb) shapeCasts_S16x261888_S16x256x1023
def h17 : FVec Ideal S16x256x768 .f32 := extractStridedSlice S16x256x768 ![0, 0, 0] (h16 rb) slices_S16x256x1023_S16x256x768_0_0_0
/-- The band. -/
def h20 : IVec S256 32 := Host.divsi (iotaInDim S256 32 0) (broadcastInDim S256 ![] bcast_S_S256 (constantI S_ 32 64#32))
def h21 : IVec S256x1 32 := broadcastInDim S256x1 ![0] bcast_S256_S256x1_0 h20
def h24 : IVec S768 32 := Host.divsi (iotaInDim S768 32 0) (broadcastInDim S768 ![] bcast_S_S768 (constantI S_ 32 64#32))
def h25 : IVec S1x768 32 := broadcastInDim S1x768 ![1] bcast_S768_S1x768_1 h24
def h28 : IVec S256x768 1 := cmpi .sge (broadcastInDim S256x768 ![0, 1] bcast_S1x768_S256x768_0_1 h25) (broadcastInDim S256x768 ![0, 1] bcast_S256x1_S256x768_0_1 h21)
def h30 : IVec S256x1 32 := addi h21 (broadcastInDim S256x1 ![] bcast_S_S256x1 (constantI S_ 32 8#32))
def h33 : IVec S256x768 1 := cmpi .sle (broadcastInDim S256x768 ![0, 1] bcast_S1x768_S256x768_0_1 h25) (broadcastInDim S256x768 ![0, 1] bcast_S256x1_S256x768_0_1 h30)
def h34 : IVec S256x768 1 := andi h28 h33
def h35 : IVec S1x256x768 1 := broadcastInDim S1x256x768 ![1, 2] bcast_S256x768_S1x256x768_1_2 h34
/-- The bias within the band. -/
def h36 : FVec Ideal S16x256x768 .f32 :=
  select (broadcastInDim S16x256x768 ![0, 1, 2] bcast_S1x256x768_S16x256x768_0_1_2 h35) (h17 rb)
    (broadcastInDim S16x256x768 ![] bcast_S_S16x256x768 (constant S_ .f32 0xFF800000#32))
/-- The queries, the keys and the band's key blocks. -/
def h38 (v5 : FVec Ideal S4096x10368 .bf16) : FVec Ideal S16x256x16x64 .bf16 := shapeCast S16x256x16x64 (extractStridedSlice S4096x1024 ![0, 0] v5 slices_S4096x10368_S4096x1024_0_0) shapeCasts_S4096x1024_S16x256x16x64
def h40 (v5 : FVec Ideal S4096x10368 .bf16) : FVec Ideal S16x256x16x64 .bf16 := shapeCast S16x256x16x64 (extractStridedSlice S4096x1024 ![0, 1024] v5 slices_S4096x10368_S4096x1024_0_1024) shapeCasts_S4096x1024_S16x256x16x64
def h41 (v5 : FVec Ideal S4096x10368 .bf16) : FVec Ideal S1x256x16x64 .bf16 := extractStridedSlice S1x256x16x64 ![0, 0, 0, 0] (h40 v5) slices_S16x256x16x64_S1x256x16x64_0_0_0_0
def h43 (v5 : FVec Ideal S4096x10368 .bf16) : FVec Ideal S16x256x16x64 .bf16 :=
  concatenate S16x256x16x64 0 [⟨S1x256x16x64, h41 v5⟩, ⟨S1x256x16x64, h41 v5⟩,
    ⟨S14x256x16x64, extractStridedSlice S14x256x16x64 ![0, 0, 0, 0] (h40 v5) slices_S16x256x16x64_S14x256x16x64_0_0_0_0⟩] concatenates_S1x256x16x64_S1x256x16x64_S14x256x16x64_S16x256x16x64_d0
def h46 (v5 : FVec Ideal S4096x10368 .bf16) : FVec Ideal S16x256x16x64 .bf16 :=
  concatenate S16x256x16x64 0 [⟨S1x256x16x64, h41 v5⟩,
    ⟨S15x256x16x64, extractStridedSlice S15x256x16x64 ![0, 0, 0, 0] (h40 v5) slices_S16x256x16x64_S15x256x16x64_0_0_0_0⟩] concatenates_S1x256x16x64_S15x256x16x64_S16x256x16x64_d0
/-- The scores within the band. -/
def h48 (v5 : FVec Ideal S4096x10368 .bf16) (k : FVec Ideal S16x256x16x64 .bf16) : FVec Ideal S16x16x256x256 .f32 := Host.dotGeneral dot_S16x256x16x64_S16x256x16x64_S16x16x256x256_3_3_1_1_02_02 none (h38 v5) k
def h51 (v5 : FVec Ideal S4096x10368 .bf16) : FVec Ideal S16x16x256x768 .f32 :=
  concatenate S16x16x256x768 3 [⟨S16x16x256x256, h48 v5 (h43 v5)⟩, ⟨S16x16x256x256, h48 v5 (h46 v5)⟩, ⟨S16x16x256x256, h48 v5 (h40 v5)⟩] concatenates_S16x16x256x256_S16x16x256x256_S16x16x256x256_S16x16x256x768_d3
def h53 (v5 : FVec Ideal S4096x10368 .bf16) : FVec Ideal S16x16x256x768 .f32 := mulf (h51 v5) (broadcastInDim S16x16x256x768 ![] bcast_S_S16x16x256x768 (constant S_ .f32 0x3E000000#32))
def h56 (v5 : FVec Ideal S4096x10368 .bf16) (v36 : FVec Ideal S16x256x768 .f32) : FVec Ideal S16x16x256x768 .f32 :=
  addf (h53 v5) (broadcastInDim S16x16x256x768 ![0, 1, 2, 3] bcast_S1x16x256x768_S16x16x256x768_0_1_2_3 (broadcastInDim S1x16x256x768 ![1, 2, 3] bcast_S16x256x768_S1x16x256x768_1_2_3 v36))
def h63 : IVec S16x16x256x768 1 :=
  cmpi .sge (iotaInDim S16x16x256x768 32 3) (muli (subi (broadcastInDim S16x16x256x768 ![] bcast_S_S16x16x256x768 (constantI S_ 32 2#32)) (iotaInDim S16x16x256x768 32 0))
    (broadcastInDim S16x16x256x768 ![] bcast_S_S16x16x256x768 (constantI S_ 32 256#32)))
def h64 (v5 : FVec Ideal S4096x10368 .bf16) (v36 : FVec Ideal S16x256x768 .f32) : FVec Ideal S16x16x256x768 .f32 := select h63 (h56 v5 v36) (broadcastInDim S16x16x256x768 ![] bcast_S_S16x16x256x768 (constant S_ .f32 0xFF800000#32))
/-- The rows' log-sums, of the scores. -/
def h65 (s : FVec Ideal S16x16x256x768 .f32) : FVec Ideal S16x16x256 .f32 := Host.reduce FloatOps.maximumf s (constant S_ .f32 0xFF800000#32) reducesTo_S16x16x256x768_S16x16x256_d3 h_S_
def h66 (s : FVec Ideal S16x16x256x768 .f32) : FVec Ideal S16x16x256x1 .f32 := broadcastInDim S16x16x256x1 ![0, 1, 2] bcast_S16x16x256_S16x16x256x1_0_1_2 (h65 s)
def h69 (s : FVec Ideal S16x16x256x768 .f32) : FVec Ideal S16x16x256x768 .f32 := Host.exp (subf s (broadcastInDim S16x16x256x768 ![0, 1, 2, 3] bcast_S16x16x256x1_S16x16x256x768_0_1_2_3 (h66 s)))
def h70 (s : FVec Ideal S16x16x256x768 .f32) : FVec Ideal S16x16x256 .f32 := Host.reduceAdd (h69 s) (constant S_ .f32 0x00000000#32) reducesTo_S16x16x256x768_S16x16x256_d3 h_S_
def h73 (s : FVec Ideal S16x16x256x768 .f32) : FVec Ideal S16x16x256x1 .f32 := addf (h66 s) (Host.log (broadcastInDim S16x16x256x1 ![0, 1, 2] bcast_S16x16x256_S16x16x256x1_0_1_2 (h70 s)))
def h75 (s : FVec Ideal S16x16x256x768 .f32) : FVec Ideal S16x4096x1 .f32 :=
  shapeCast S16x4096x1 (transpose S16x16x256x1 [1, 0, 2, 3] (h73 s) transposes_S16x16x256x1_S16x16x256x1_1_0_2_3) shapeCasts_S16x16x256x1_S16x4096x1

end lines

variable (m : (ℓ : Loc nD τ sig) → Buf (Elt Ideal) ℓ) (c : Dev nD)

theorem after_cat (l l' : List (HloOp τ sig (Elt Ideal))) (σ : Valuation τ sig (Elt Ideal)) : StableHlo.after (l ++ l') σ = StableHlo.after l' (StableHlo.after l σ) := by
  induction l generalizing σ with
  | nil => rfl
  | cons o l ih => exact ih _

section stretches

variable (σ : Valuation τ sig (Elt Ideal))

theorem st_v5 : (StableHlo.after hostOps0 σ (Proc.devRef .tc main_v5) : FVec Ideal S4096x10368 .bf16) = h5 (σ (Proc.devRef .tc main_arg0)) := (rfl)
theorem st_v35 : (StableHlo.after hostOps0 σ (Proc.devRef .tc main_v35) : IVec S1x256x768 1) = h35 := (rfl)
theorem st_v17 : (StableHlo.after hostOps0 σ (Proc.devRef .tc main_v17) : FVec Ideal S16x256x768 .f32) = h17 (σ (Proc.devRef .tc main_arg1)) := (rfl)
theorem st_cst2 : (StableHlo.after hostOps0 σ (Proc.devRef .tc main_cst_2) : FVec Ideal S_ .f32) = (constant S_ .f32 0xFF800000#32 : FVec Ideal S_ .f32) := (rfl)
theorem st1_v5 : (StableHlo.after hostOps0_1 σ (Proc.devRef .tc main_v5) : FVec Ideal S4096x10368 .bf16) = σ (Proc.devRef .tc main_v5) := (rfl)
theorem st1_v36 : (StableHlo.after hostOps0_1 σ (Proc.devRef .tc main_v36) : FVec Ideal S16x256x768 .f32)
    = select (broadcastInDim S16x256x768 ![0, 1, 2] bcast_S1x256x768_S16x256x768_0_1_2 (σ (Proc.devRef .tc main_v35) : IVec S1x256x768 1)) (σ (Proc.devRef .tc main_v17) : FVec Ideal S16x256x768 .f32)
        (broadcastInDim S16x256x768 ![] bcast_S_S16x256x768 (σ (Proc.devRef .tc main_cst_2) : FVec Ideal S_ .f32)) := (rfl)
theorem st2_v63 : (StableHlo.after hostOps0_2 σ (Proc.devRef .tc main_v63) : IVec S16x16x256x768 1) = h63 := (rfl)
theorem st2_v56 : (StableHlo.after hostOps0_2 σ (Proc.devRef .tc main_v56) : FVec Ideal S16x16x256x768 .f32)
    = h56 (σ (Proc.devRef .tc main_v5)) (σ (Proc.devRef .tc main_v36)) := (rfl)
theorem st2_cst6 : (StableHlo.after hostOps0_2 σ (Proc.devRef .tc main_cst_6) : FVec Ideal S_ .f32) = (constant S_ .f32 0xFF800000#32 : FVec Ideal S_ .f32) := (rfl)
theorem st3_v64 : (StableHlo.after hostOps0_3 σ (Proc.devRef .tc main_v64) : FVec Ideal S16x16x256x768 .f32)
    = select (σ (Proc.devRef .tc main_v63) : IVec S16x16x256x768 1) (σ (Proc.devRef .tc main_v56) : FVec Ideal S16x16x256x768 .f32)
        (broadcastInDim S16x16x256x768 ![] bcast_S_S16x16x256x768 (σ (Proc.devRef .tc main_cst_6) : FVec Ideal S_ .f32)) := (rfl)
theorem st4_v75 : (StableHlo.after hostOps0_4 σ (Proc.devRef .tc main_v75) : FVec Ideal S16x4096x1 .f32) = h75 (σ (Proc.devRef .tc main_v64)) := by
  unfold hostOps0_4
  entry_read
  unfold h75 h73 h70 h69 h66 h65
  rfl

theorem st2_v5 : (StableHlo.after hostOps0_2 σ (Proc.devRef .tc main_v5) : FVec Ideal S4096x10368 .bf16) = σ (Proc.devRef .tc main_v5) := (rfl)
theorem st3_v5 : (StableHlo.after hostOps0_3 σ (Proc.devRef .tc main_v5) : FVec Ideal S4096x10368 .bf16) = σ (Proc.devRef .tc main_v5) := (rfl)
theorem st4_v5 : (StableHlo.after hostOps0_4 σ (Proc.devRef .tc main_v5) : FVec Ideal S4096x10368 .bf16) = σ (Proc.devRef .tc main_v5) := (rfl)
theorem st2_v36 : (StableHlo.after hostOps0_2 σ (Proc.devRef .tc main_v36) : FVec Ideal S16x256x768 .f32) = σ (Proc.devRef .tc main_v36) := (rfl)
theorem st3_v36 : (StableHlo.after hostOps0_3 σ (Proc.devRef .tc main_v36) : FVec Ideal S16x256x768 .f32) = σ (Proc.devRef .tc main_v36) := (rfl)
theorem st4_v36 : (StableHlo.after hostOps0_4 σ (Proc.devRef .tc main_v36) : FVec Ideal S16x256x768 .f32) = σ (Proc.devRef .tc main_v36) := (rfl)

end stretches

theorem V_cut (r : Ref sig .tc) : V m c r = StableHlo.after hostOps0_4 (StableHlo.after hostOps0_3 (StableHlo.after hostOps0_2
    (StableHlo.after hostOps0_1 (StableHlo.after hostOps0 fun b => m (c, b))))) (Proc.devRef .tc r) := by
  unfold V
  rw [List.flatten_cons, List.flatten_cons, List.flatten_cons, List.flatten_cons, List.flatten_cons, List.flatten_nil, List.append_nil, after_cat, after_cat, after_cat, after_cat]

theorem V_v75 : (V m c main_v75 : FVec Ideal S16x4096x1 .f32) = h75 (h64 (h5 (m ((c : Thread nD τ).loc main_arg0))) (h36 (m ((c : Thread nD τ).loc main_arg1)))) := by
  refine (V_cut m c main_v75).trans ?_
  refine (st4_v75 _).trans (congrArg h75 ?_)
  refine (st3_v64 _).trans ?_
  rw [st2_v63, st2_v56, st2_cst6, st1_v5, st1_v36, st_v5, st_v35, st_v17, st_cst2]
  rfl

theorem V_v5 : (V m c main_v5 : FVec Ideal S4096x10368 .bf16) = h5 (m ((c : Thread nD τ).loc main_arg0)) := by
  refine (V_cut m c main_v5).trans ?_
  refine (st4_v5 _).trans ((st3_v5 _).trans ((st2_v5 _).trans ((st1_v5 _).trans (st_v5 _))))

theorem V_v36 : (V m c main_v36 : FVec Ideal S16x256x768 .f32) = h36 (m ((c : Thread nD τ).loc main_arg1)) := by
  refine (V_cut m c main_v36).trans ?_
  refine (st4_v36 _).trans ((st3_v36 _).trans ((st2_v36 _).trans ((st1_v36 _).trans ?_)))
  rw [st_v35, st_v17, st_cst2]
  rfl

end Cert.Attn
-- ==== Proof.Attn.HostVal.lean ====
/-
  The arrays the attention's gradient reads, as numbers: the bias within the band, the scores, the rows' log-sums.
-/
module

public import proofs.«01_k».proof.Proof.Attn.Host
public import Idealize.ShloMosaic.Lib.Pointwise

@[expose] public section

set_option maxRecDepth 16384

noncomputable section

open Idealize.ShloMosaic Idealize.ShloMosaic.TcCoe Idealize.SL.Sem

namespace Cert.Attn

open Cert.Kernel11Ideal Cert.Kernel11Ideal.Gen Cert.Kernel11Ideal.Hand
open Finset (range sum_range sum_congr)

/-! ## A masked row -/

section row

variable {n : ℕ} (p : Fin n → Prop) [DecidablePred p] (f : Fin n → ℝ)

/-- The maximum of a row with an unmasked place is a number. -/
theorem row_max (hp : ∃ k, p k) : ∃ μ : ℝ, Finset.fold max (⊥ : EReal) (fun k => if p k then ((f k : ℝ) : EReal) else ⊥) Finset.univ = (μ : EReal) := by
  obtain ⟨k, hk⟩ := hp
  have h1 : (⊥ : EReal) < Finset.fold max (⊥ : EReal) (fun k => if p k then ((f k : ℝ) : EReal) else ⊥) Finset.univ :=
    (Finset.lt_fold_max _).mpr (.inr ⟨k, Finset.mem_univ k, by rw [if_pos hk]; exact EReal.bot_lt_coe _⟩)
  have h2 : Finset.fold max (⊥ : EReal) (fun k => if p k then ((f k : ℝ) : EReal) else ⊥) Finset.univ < ⊤ :=
    (Finset.fold_max_lt _).mpr ⟨bot_lt_top, fun x _ => by split <;> simp [EReal.coe_lt_top]⟩
  exact ⟨_, (EReal.coe_toReal h2.ne h1.ne').symm⟩

/-- A masked term's exponential less the maximum. -/
theorem exp_term (μ : ℝ) (k : Fin n) : Ideal.exp ((if p k then ((f k : ℝ) : EReal) else ⊥) - (μ : EReal))
    = ((Real.exp (-μ) * (if p k then Real.exp (f k) else 0) : ℝ) : EReal) := by
  split
  · rw [← EReal.coe_sub, Ideal.exp_coe, sub_eq_add_neg, Real.exp_add, mul_comm]
  · rw [EReal.bot_sub, exp_bot]; simp

/-- The row's sum of the exponentials less the maximum. -/
theorem exp_sum (μ : ℝ) : (∑ k, Ideal.exp ((if p k then ((f k : ℝ) : EReal) else ⊥) - (μ : EReal)))
    = ((Real.exp (-μ) * ∑ k, (if p k then Real.exp (f k) else 0) : ℝ) : EReal) := by
  rw [Finset.mul_sum, Common.coe_sum]
  exact sum_congr rfl fun k _ => exp_term p f μ k

theorem row_pos (hp : ∃ k, p k) : 0 < ∑ k, (if p k then Real.exp (f k) else 0) := by
  obtain ⟨k, hk⟩ := hp
  refine Finset.sum_pos' (fun k _ => ?_) ⟨k, Finset.mem_univ k, ?_⟩
  · split <;> positivity
  · rw [if_pos hk]; positivity

/-- The row's log-sum. -/
theorem log_sum (hp : ∃ k, p k) (μ : ℝ) : (μ : EReal) + Ideal.log (∑ k, Ideal.exp ((if p k then ((f k : ℝ) : EReal) else ⊥) - (μ : EReal)))
    = ((Real.log (∑ k, (if p k then Real.exp (f k) else 0)) : ℝ) : EReal) := by
  have h := row_pos p f hp
  rw [exp_sum, Ideal.log_coe, if_neg (not_le.mpr (mul_pos (Real.exp_pos _) h)), ← EReal.coe_add, Real.log_mul (Real.exp_ne_zero _) h.ne', Real.log_exp]
  congr 1; ring

end row

/-! ## The host's lines -/

theorem minf_f32 : (Ideal.ofBits .f32 4286578688#32 : EReal) = ⊥ := by
  simp [Ideal.ofBits, Ideal.ieee]

section lines

variable {Y : FVec Ideal S4096x10256 .f32} {RB : FVec Ideal S16x320 .f32} {y rb : ℕ → ℕ → ℝ}

theorem h5_at (hy : ∀ x, Y x = ((y (x 0).val (x 1).val : ℝ) : EReal)) (R : Fin 4096) (a : Fin 10368) (ha : a.val < 6144) :
    h5 Y (ix2 R a) = ((y R.val a.val : ℝ) : EReal) := by
  pointwise [h5, h4]
  rw [dif_pos ha, hy]
  rfl

theorem h11_at (hr : ∀ x, RB x = ((rb (x 0).val (x 1).val : ℝ) : EReal)) (h : Fin 16) (s : Fin 1024) (hs : s.val < 768) :
    h11 RB (ix2 h s) = ((rb h.val (min (s.val - 256) 319) : ℝ) : EReal) := by
  pointwise [h11]
  simp only [hr]
  split
  · rename_i h1
    rw [Nat.sub_eq_zero_of_le h1.le]; rfl
  · split
    · rename_i h1 h2
      rw [min_eq_left (by omega)]; rfl
    · split
      · rename_i h1 h2 h3
        rw [min_eq_right (by omega)]; rfl
      · omega

theorem h11_top (hr : ∀ x, RB x = ((rb (x 0).val (x 1).val : ℝ) : EReal)) (h : Fin 16) (s : Fin 1024) (hs : 768 ≤ s.val) :
    h11 RB (ix2 h s) = ((rb h.val 0 : ℝ) : EReal) := by
  pointwise [h11]
  simp only [hr]
  rw [dif_neg (by omega), dif_neg (by omega), dif_neg (by omega)]
  rfl

theorem h15_at (h : Fin 16) (x : Fin 261888) : h15 RB (ix2 h x) = h11 RB (ix2 h ⟨x.val % 1024, by omega⟩) := by
  pointwise [h15, h14, h13, h12]

theorem h17_at (h : Fin 16) (q : Fin 256) (k : Fin 768) : h17 RB (ix3 h q k) = h15 RB (ix2 h ⟨q.val * 1023 + k.val, by omega⟩) := by
  pointwise [h17, h16]

theorem h17_band (hr : ∀ x, RB x = ((rb (x 0).val (x 1).val : ℝ) : EReal)) (h : Fin 16) (q : Fin 256) (k : Fin 768)
    (hb : q.val / 64 ≤ k.val / 64 ∧ k.val / 64 ≤ q.val / 64 + 8) :
    h17 RB (ix3 h q k) = ((rb h.val (min (k.val - 256 - q.val) 319) : ℝ) : EReal) := by
  rw [h17_at, h15_at]
  by_cases hk : q.val ≤ k.val
  · rw [h11_at hr _ _ (by simp only; omega)]
    congr 3; simp only; omega
  · rw [h11_top hr _ _ (by simp only; omega)]
    rw [show k.val - 256 - q.val = 0 by omega, Nat.zero_min]

theorem h36_read (h : Fin 16) (q : Fin 256) (k : Fin 768) :
    h36 RB (ix3 h q k) = if q.val / 64 ≤ k.val / 64 ∧ k.val / 64 ≤ q.val / 64 + 8 then h17 RB (ix3 h q k) else Ideal.ofBits .f32 4286578688#32 := by
  pointwise [h36, h35, h34, h33, h28, h25, h24, h20, h21, h30]
  have H1 : ∀ a : Fin 256, IntOp.divsi ArithUnit.host (BitVec.ofNat 32 a.val) 64#32 = BitVec.ofNat 32 (a.val / 64) := by decide +kernel
  have H2 : ∀ a : Fin 768, IntOp.divsi ArithUnit.host (BitVec.ofNat 32 a.val) 64#32 = BitVec.ofNat 32 (a.val / 64) := by decide +kernel
  have H3 : ∀ a : Fin 4, ∀ b : Fin 12, IntOp.andi (IntOp.cmpi .sge (BitVec.ofNat 32 b.val) (BitVec.ofNat 32 a.val)) (IntOp.cmpi .sle (BitVec.ofNat 32 b.val) (IntOp.addi (BitVec.ofNat 32 a.val) 8#32)) = BitVec.ofBool (decide (a.val ≤ b.val ∧ b.val ≤ a.val + 8)) := by decide +kernel
  rw [H1 q, H2 k, H3 ⟨q.val / 64, by omega⟩ ⟨k.val / 64, by omega⟩]
  by_cases hh : q.val / 64 ≤ k.val / 64 ∧ k.val / 64 ≤ q.val / 64 + 8 <;> simp [Scalar.select, hh]

/-- The bias within the band. -/
theorem h36_at (hr : ∀ x, RB x = ((rb (x 0).val (x 1).val : ℝ) : EReal)) (h : Fin 16) (q : Fin 256) (k : Fin 768) :
    h36 RB (ix3 h q k) = if q.val / 64 ≤ k.val / 64 ∧ k.val / 64 ≤ q.val / 64 + 8 then ((rb h.val (min (k.val - 256 - q.val) 319) : ℝ) : EReal) else ⊥ := by
  rw [h36_read, minf_f32]
  split
  · rename_i hb; exact h17_band hr h q k hb
  · rfl

section scores

variable (v : FVec Ideal S4096x10368 .bf16)

theorem h38_at (i : Fin 16) (q : Fin 256) (h : Fin 16) (d : Fin 64) :
    h38 v (ix4 i q h d) = v (ix2 ⟨256 * i.val + q.val, by omega⟩ ⟨64 * h.val + d.val, by omega⟩) := by
  pointwise [h38]
  simp only [Nat.mul_comm]

theorem h40_at (i : Fin 16) (q : Fin 256) (h : Fin 16) (d : Fin 64) :
    h40 v (ix4 i q h d) = v (ix2 ⟨256 * i.val + q.val, by omega⟩ ⟨1024 + (64 * h.val + d.val), by omega⟩) := by
  pointwise [h40]
  simp only [Nat.mul_comm]

theorem h43_at (i : Fin 16) (q : Fin 256) (h : Fin 16) (d : Fin 64) :
    h43 v (ix4 i q h d) = h40 v (ix4 ⟨i.val - 2, by omega⟩ q h d) := by
  pointwise [h43, h41]
  split
  · refine congrArg (fun a => h40 v (ix4 a q h d)) (Fin.ext ?_); simp only; omega
  · split <;> (refine congrArg (fun a => h40 v (ix4 a q h d)) (Fin.ext ?_); simp only; omega)

theorem h46_at (i : Fin 16) (q : Fin 256) (h : Fin 16) (d : Fin 64) :
    h46 v (ix4 i q h d) = h40 v (ix4 ⟨i.val - 1, by omega⟩ q h d) := by
  pointwise [h46, h41]
  split
  · refine congrArg (fun a => h40 v (ix4 a q h d)) (Fin.ext ?_); simp only; omega
  · rfl

theorem h48_at (k : FVec Ideal S16x256x16x64 .bf16) (i : Fin 16) (q : Fin 256) (h : Fin 16) (d : Fin 256) :
    h48 v k (ix4 i h q d) = ∑ x : Fin 64, h38 v (ix4 i q h x) * k (ix4 i d h x) := by
  pointwise [h48]

theorem h51_read (i : Fin 16) (q : Fin 256) (h : Fin 16) (k : Fin 768) :
    h51 v (ix4 i h q k) = if c1 : k.val < 256 then h48 v (h43 v) (ix4 i h q ⟨k.val, c1⟩) else
      if c2 : k.val - 256 < 256 then h48 v (h46 v) (ix4 i h q ⟨k.val - 256, c2⟩) else h48 v (h40 v) (ix4 i h q ⟨k.val - 256 - 256, by omega⟩) := by
  pointwise [h51]

theorem h64_read (b : FVec Ideal S16x256x768 .f32) (i : Fin 16) (q : Fin 256) (h : Fin 16) (k : Fin 768) :
    h64 v b (ix4 i h q k) = if 512 ≤ 256 * i.val + k.val then h51 v (ix4 i h q k) * Ideal.ofBits .f32 1040187392#32 + b (ix3 h q k) else Ideal.ofBits .f32 4286578688#32 := by
  pointwise [h64, h63, h56, h53]
  exact mask_cmp _ i.isLt _ k.isLt _ _

end scores

theorem dot_at (hy : ∀ x, Y x = ((y (x 0).val (x 1).val : ℝ) : EReal)) (i j : Fin 16) (q k : Fin 256) (h : Fin 16) :
    (∑ x : Fin 64, h38 (h5 Y) (ix4 i q h x) * h40 (h5 Y) (ix4 j k h x))
      = ((∑ d ∈ range 64, y (256 * i.val + q.val) (64 * h.val + d) * y (256 * j.val + k.val) (1024 + (64 * h.val + d)) : ℝ) : EReal) := by
  rw [sum_range (fun d => y (256 * i.val + q.val) (64 * h.val + d) * y (256 * j.val + k.val) (1024 + (64 * h.val + d))), Common.coe_sum]
  refine sum_congr rfl fun x _ => ?_
  rw [h38_at, h40_at, h5_at hy _ _ (by simp only; omega), h5_at hy _ _ (by simp only; omega), ← EReal.coe_mul]

/-- The products of the queries with the band's keys. -/
theorem h51_at (hy : ∀ x, Y x = ((y (x 0).val (x 1).val : ℝ) : EReal)) (i : Fin 16) (q : Fin 256) (h : Fin 16) (k : Fin 768) (hk : 512 ≤ 256 * i.val + k.val) :
    h51 (h5 Y) (ix4 i h q k)
      = ((∑ d ∈ range 64, y (256 * i.val + q.val) (64 * h.val + d) * y (256 * i.val + k.val - 512) (1024 + (64 * h.val + d)) : ℝ) : EReal) := by
  rw [h51_read]
  have e : ∀ a b : ℕ, a = b → ((∑ d ∈ range 64, y (256 * i.val + q.val) (64 * h.val + d) * y a (1024 + (64 * h.val + d)) : ℝ) : EReal)
      = ((∑ d ∈ range 64, y (256 * i.val + q.val) (64 * h.val + d) * y b (1024 + (64 * h.val + d)) : ℝ) : EReal) := fun a b h => by rw [h]
  split
  · rw [h48_at]; simp only [h43_at]
    rw [dot_at hy]; exact e _ _ (by simp only; omega)
  · split
    · rw [h48_at]; simp only [h46_at]
      rw [dot_at hy]; exact e _ _ (by simp only; omega)
    · rw [h48_at, dot_at hy]; exact e _ _ (by simp only; omega)

/-- The scores. -/
theorem h64_at (hy : ∀ x, Y x = ((y (x 0).val (x 1).val : ℝ) : EReal)) (hr : ∀ x, RB x = ((rb (x 0).val (x 1).val : ℝ) : EReal))
    (i : Fin 16) (q : Fin 256) (h : Fin 16) (k : Fin 768) :
    h64 (h5 Y) (h36 RB) (ix4 i h q k) = if 512 ≤ 256 * i.val + k.val ∧ ok (256 * i.val + q.val) (256 * i.val + k.val - 512)
      then ((sc y rb h.val (256 * i.val + q.val) (256 * i.val + k.val - 512) : ℝ) : EReal) else ⊥ := by
  rw [h64_read, minf_f32]
  by_cases hk : 512 ≤ 256 * i.val + k.val
  · rw [if_pos hk, h51_at hy _ _ _ _ hk, h36_at hr, eighth_f32]
    by_cases hb : q.val / 64 ≤ k.val / 64 ∧ k.val / 64 ≤ q.val / 64 + 8
    · rw [if_pos hb, if_pos ⟨hk, by unfold ok; omega⟩, ← EReal.coe_mul, ← EReal.coe_add]
      unfold sc
      rw [show 256 * i.val + k.val - 512 + 256 - (256 * i.val + q.val) = k.val - 256 - q.val by omega]
    · rw [if_neg hb, if_neg (fun h => hb (by have := h.2; unfold ok at this; omega)), ← EReal.coe_mul, EReal.add_bot]
  · rw [if_neg hk, if_neg fun h => hk h.1]

/-! ## The log-sums -/

section logs

variable (s : FVec Ideal S16x16x256x768 .f32)

theorem h65_at (i : Fin 16) (h : Fin 16) (q : Fin 256) : h65 s (ix3 i h q) = Finset.fold max (⊥ : EReal) (fun x => s (ix4 i h q x)) Finset.univ := by
  pointwise [h65]
  rw [minf_f32]

theorem h69_at (i : Fin 16) (h : Fin 16) (q : Fin 256) (k : Fin 768) : h69 s (ix4 i h q k) = Ideal.exp (s (ix4 i h q k) - h65 s (ix3 i h q)) := by
  pointwise [h69, h66]

theorem h70_at (i : Fin 16) (h : Fin 16) (q : Fin 256) : h70 s (ix3 i h q) = ∑ x, h69 s (ix4 i h q x) := by
  pointwise [h70]

theorem add_log_at (a b : FVec Ideal S16x16x256 .f32) (i : Fin 16) (h : Fin 16) (q : Fin 256) :
    (addf (broadcastInDim S16x16x256x1 ![0, 1, 2] bcast_S16x16x256_S16x16x256x1_0_1_2 a)
      (Host.log (broadcastInDim S16x16x256x1 ![0, 1, 2] bcast_S16x16x256_S16x16x256x1_0_1_2 b)) : FVec Ideal S16x16x256x1 .f32) (ix4 i h q 0)
      = a (ix3 i h q) + Ideal.log (b (ix3 i h q)) := by
  pointwise []

theorem h73_eq : h73 s = addf (broadcastInDim S16x16x256x1 ![0, 1, 2] bcast_S16x16x256_S16x16x256x1_0_1_2 (h65 s))
    (Host.log (broadcastInDim S16x16x256x1 ![0, 1, 2] bcast_S16x16x256_S16x16x256x1_0_1_2 (h70 s))) := by
  unfold h73 h66
  rfl

theorem rows_at (z : FVec Ideal S16x16x256x1 .f32) (h : Fin 16) (R : Fin 4096) :
    (shapeCast S16x4096x1 (transpose S16x16x256x1 [1, 0, 2, 3] z transposes_S16x16x256x1_S16x16x256x1_1_0_2_3) shapeCasts_S16x16x256x1_S16x4096x1 : FVec Ideal S16x4096x1 .f32) (ix3 h R 0)
      = z (ix4 ⟨R.val / 256, by omega⟩ h ⟨R.val % 256, by omega⟩ 0) := by
  pointwise []

end logs

/-- The rows' log-sums. -/
theorem h75_at (hy : ∀ x, Y x = ((y (x 0).val (x 1).val : ℝ) : EReal)) (hr : ∀ x, RB x = ((rb (x 0).val (x 1).val : ℝ) : EReal))
    (h : Fin 16) (R : Fin 4096) : h75 (h64 (h5 Y) (h36 RB)) (ix3 h R 0) = ((Real.log (Z y rb h.val R.val) : ℝ) : EReal) := by
  have e := h64_at hy hr
  generalize h64 (h5 Y) (h36 RB) = s at e ⊢
  unfold h75
  rw [rows_at, h73_eq, add_log_at, h70_at]
  simp only [h69_at]
  generalize hi : (⟨R.val / 256, by omega⟩ : Fin 16) = i
  generalize hq : (⟨R.val % 256, by omega⟩ : Fin 256) = q
  have hR : R.val = 256 * i.val + q.val := by rw [← hi, ← hq]; simp only; omega
  have e' := fun k => e i q h k
  have hp : ∃ k : Fin 768, 512 ≤ 256 * i.val + k.val ∧ ok (256 * i.val + q.val) (256 * i.val + k.val - 512) :=
    ⟨⟨512 + q.val, by omega⟩, by simp only; omega, by unfold ok; simp only; omega⟩
  obtain ⟨μ, hμ⟩ := row_max (fun k : Fin 768 => 512 ≤ 256 * i.val + k.val ∧ ok (256 * i.val + q.val) (256 * i.val + k.val - 512))
    (fun k => sc y rb h.val (256 * i.val + q.val) (256 * i.val + k.val - 512)) hp
  have h65 : h65 s (ix3 i h q) = (μ : EReal) := by rw [h65_at]; simp only [e']; exact hμ
  rw [h65]
  simp only [e']
  refine (log_sum (fun k : Fin 768 => 512 ≤ 256 * i.val + k.val ∧ ok (256 * i.val + q.val) (256 * i.val + k.val - 512))
    (fun k => sc y rb h.val (256 * i.val + q.val) (256 * i.val + k.val - 512)) hp μ).trans ?_
  refine congrArg (fun z : ℝ => ((Real.log z : ℝ) : EReal)) ?_
  rw [hR]
  unfold Z ex
  rw [← sum_blocks (fun C => Real.exp (sc y rb h.val (256 * i.val + q.val) C)) i.val q.val i.isLt q.isLt, sum_range]

end lines

end Cert.Attn
-- ==== Proof.Attn.Blocks.lean ====
/-
  The blocks the attention's gradient reads at a grid point, as the numbers of the whole arrays.
-/
module

public import proofs.«01_k».proof.Proof.Attn.HostVal

@[expose] public section

set_option maxRecDepth 16384

noncomputable section

open Idealize.ShloMosaic Idealize.ShloMosaic.TcCoe Idealize.SL.Sem

namespace Cert.Attn

open Cert.Kernel11Ideal Cert.Kernel11Ideal.Gen Cert.Kernel11Ideal.Hand

variable (m : (ℓ : Loc nD τ sig) → Buf (Elt Ideal) ℓ) (c : Dev nD)

/-- Where the input blocks lie. -/
theorem idx_in : ∀ t : Fin cfg0.N, win0_0.index t = ![t.val % 16, t.val / 16] ∧ win0_1.index t = ![t.val % 16 - 2, 8 + t.val / 16] ∧ win0_2.index t = ![t.val % 16 - 1, 8 + t.val / 16]
    ∧ win0_3.index t = ![t.val % 16, 8 + t.val / 16] ∧ win0_4.index t = ![t.val % 16 - 2, 16 + t.val / 16] ∧ win0_5.index t = ![t.val % 16 - 1, 16 + t.val / 16] ∧ win0_6.index t = ![t.val % 16, 16 + t.val / 16]
    ∧ win0_7.index t = ![t.val / 16, 0, 0] ∧ win0_8.index t = ![t.val / 16, t.val % 16, 0] ∧ win0_9.index t = ![t.val % 16, t.val / 16] :=
  (by decide +kernel : ∀ t : Fin grid0.N, _)

variable {m c} {y rb g : ℕ → ℕ → ℝ}

section reads

variable (hy : ∀ x, (m ((c : Thread nD τ).loc main_arg0) : FVec Ideal S4096x10256 .f32) x = ((y (x 0).val (x 1).val : ℝ) : EReal))
include hy

/-- A block of the projections. -/
theorem proj_at (a : Fin 4096) (b : Fin 10368) (hb : b.val < 6144) : (V m c main_v5 : FVec Ideal S4096x10368 .bf16) (ix2 a b) = ((y a.val b.val : ℝ) : EReal) := by
  rw [V_v5]; exact h5_at hy a b hb

theorem in_0 (t : Fin cfg0.N) (x : S256x128.Idx) : (iblk m c 0 t : Vec Ideal S256x128 .bf16) x = ((y (256 * (t.val % 16) + (x 0).val) (128 * (t.val / 16) + (x 1).val) : ℝ) : EReal) := by
  have ht : t.val < 128 := t.isLt
  have h0 : (x 0).val < 256 := (x 0).isLt
  have h1 : (x 1).val < 128 := (x 1).isLt
  refine Eq.trans (congrArg (V m c main_v5 : FVec Ideal S4096x10368 .bf16) (funext fun d => Fin.ext ?_))
    (proj_at hy ⟨256 * (t.val % 16) + (x 0).val, by omega⟩ ⟨128 * (t.val / 16) + (x 1).val, by omega⟩ (by simp only; omega))
  fin_cases d <;> blk_simp [(idx_in t).1] <;> simp [ix2] <;> omega

theorem in_1 (t : Fin cfg0.N) (x : S256x128.Idx) : (iblk m c 1 t : Vec Ideal S256x128 .bf16) x = ((y (256 * (t.val % 16 - 2) + (x 0).val) (1024 + (128 * (t.val / 16) + (x 1).val)) : ℝ) : EReal) := by
  have ht : t.val < 128 := t.isLt
  have h0 : (x 0).val < 256 := (x 0).isLt
  have h1 : (x 1).val < 128 := (x 1).isLt
  refine Eq.trans (congrArg (V m c main_v5 : FVec Ideal S4096x10368 .bf16) (funext fun d => Fin.ext ?_))
    (proj_at hy ⟨256 * (t.val % 16 - 2) + (x 0).val, by omega⟩ ⟨1024 + (128 * (t.val / 16) + (x 1).val), by omega⟩ (by simp only; omega))
  fin_cases d <;> blk_simp [(idx_in t).2.1] <;> simp [ix2] <;> omega

theorem in_2 (t : Fin cfg0.N) (x : S256x128.Idx) : (iblk m c 2 t : Vec Ideal S256x128 .bf16) x = ((y (256 * (t.val % 16 - 1) + (x 0).val) (1024 + (128 * (t.val / 16) + (x 1).val)) : ℝ) : EReal) := by
  have ht : t.val < 128 := t.isLt
  have h0 : (x 0).val < 256 := (x 0).isLt
  have h1 : (x 1).val < 128 := (x 1).isLt
  refine Eq.trans (congrArg (V m c main_v5 : FVec Ideal S4096x10368 .bf16) (funext fun d => Fin.ext ?_))
    (proj_at hy ⟨256 * (t.val % 16 - 1) + (x 0).val, by omega⟩ ⟨1024 + (128 * (t.val / 16) + (x 1).val), by omega⟩ (by simp only; omega))
  fin_cases d <;> blk_simp [(idx_in t).2.2.1] <;> simp [ix2] <;> omega

theorem in_3 (t : Fin cfg0.N) (x : S256x128.Idx) : (iblk m c 3 t : Vec Ideal S256x128 .bf16) x = ((y (256 * (t.val % 16) + (x 0).val) (1024 + (128 * (t.val / 16) + (x 1).val)) : ℝ) : EReal) := by
  have ht : t.val < 128 := t.isLt
  have h0 : (x 0).val < 256 := (x 0).isLt
  have h1 : (x 1).val < 128 := (x 1).isLt
  refine Eq.trans (congrArg (V m c main_v5 : FVec Ideal S4096x10368 .bf16) (funext fun d => Fin.ext ?_))
    (proj_at hy ⟨256 * (t.val % 16) + (x 0).val, by omega⟩ ⟨1024 + (128 * (t.val / 16) + (x 1).val), by omega⟩ (by simp only; omega))
  fin_cases d <;> blk_simp [(idx_in t).2.2.2.1] <;> simp [ix2] <;> omega

theorem in_4 (t : Fin cfg0.N) (x : S256x128.Idx) : (iblk m c 4 t : Vec Ideal S256x128 .bf16) x = ((y (256 * (t.val % 16 - 2) + (x 0).val) (2048 + (128 * (t.val / 16) + (x 1).val)) : ℝ) : EReal) := by
  have ht : t.val < 128 := t.isLt
  have h0 : (x 0).val < 256 := (x 0).isLt
  have h1 : (x 1).val < 128 := (x 1).isLt
  refine Eq.trans (congrArg (V m c main_v5 : FVec Ideal S4096x10368 .bf16) (funext fun d => Fin.ext ?_))
    (proj_at hy ⟨256 * (t.val % 16 - 2) + (x 0).val, by omega⟩ ⟨2048 + (128 * (t.val / 16) + (x 1).val), by omega⟩ (by simp only; omega))
  fin_cases d <;> blk_simp [(idx_in t).2.2.2.2.1] <;> simp [ix2] <;> omega

theorem in_5 (t : Fin cfg0.N) (x : S256x128.Idx) : (iblk m c 5 t : Vec Ideal S256x128 .bf16) x = ((y (256 * (t.val % 16 - 1) + (x 0).val) (2048 + (128 * (t.val / 16) + (x 1).val)) : ℝ) : EReal) := by
  have ht : t.val < 128 := t.isLt
  have h0 : (x 0).val < 256 := (x 0).isLt
  have h1 : (x 1).val < 128 := (x 1).isLt
  refine Eq.trans (congrArg (V m c main_v5 : FVec Ideal S4096x10368 .bf16) (funext fun d => Fin.ext ?_))
    (proj_at hy ⟨256 * (t.val % 16 - 1) + (x 0).val, by omega⟩ ⟨2048 + (128 * (t.val / 16) + (x 1).val), by omega⟩ (by simp only; omega))
  fin_cases d <;> blk_simp [(idx_in t).2.2.2.2.2.1] <;> simp [ix2] <;> omega

theorem in_6 (t : Fin cfg0.N) (x : S256x128.Idx) : (iblk m c 6 t : Vec Ideal S256x128 .bf16) x = ((y (256 * (t.val % 16) + (x 0).val) (2048 + (128 * (t.val / 16) + (x 1).val)) : ℝ) : EReal) := by
  have ht : t.val < 128 := t.isLt
  have h0 : (x 0).val < 256 := (x 0).isLt
  have h1 : (x 1).val < 128 := (x 1).isLt
  refine Eq.trans (congrArg (V m c main_v5 : FVec Ideal S4096x10368 .bf16) (funext fun d => Fin.ext ?_))
    (proj_at hy ⟨256 * (t.val % 16) + (x 0).val, by omega⟩ ⟨2048 + (128 * (t.val / 16) + (x 1).val), by omega⟩ (by simp only; omega))
  fin_cases d <;> blk_simp [(idx_in t).2.2.2.2.2.2.1] <;> simp [ix2] <;> omega

end reads

section more

variable (hy : ∀ x, (m ((c : Thread nD τ).loc main_arg0) : FVec Ideal S4096x10256 .f32) x = ((y (x 0).val (x 1).val : ℝ) : EReal))
variable (hr : ∀ x, (m ((c : Thread nD τ).loc main_arg1) : FVec Ideal S16x320 .f32) x = ((rb (x 0).val (x 1).val : ℝ) : EReal))
variable (hg : ∀ x, (m ((c : Thread nD τ).loc main_arg2) : FVec Ideal S4096x1024 .bf16) x = ((g (x 0).val (x 1).val : ℝ) : EReal))

include hr in
theorem bias_at (h : Fin 16) (q : Fin 256) (k : Fin 768) : (V m c main_v36 : FVec Ideal S16x256x768 .f32) (ix3 h q k)
    = if q.val / 64 ≤ k.val / 64 ∧ k.val / 64 ≤ q.val / 64 + 8 then ((rb h.val (min (k.val - 256 - q.val) 319) : ℝ) : EReal) else ⊥ := by
  rw [V_v36]; exact h36_at hr h q k

include hy hr in
theorem log_at (h : Fin 16) (R : Fin 4096) : (V m c main_v75 : FVec Ideal S16x4096x1 .f32) (ix3 h R 0) = ((Real.log (Z y rb h.val R.val) : ℝ) : EReal) := by
  rw [V_v75]; exact h75_at hy hr h R

include hg in
theorem cot_at (R : Fin 4096) (a : Fin 1024) : (V m c main_arg2 : FVec Ideal S4096x1024 .bf16) (ix2 R a) = ((g R.val a.val : ℝ) : EReal) := by
  rw [V_main_arg2]; exact hg _

include hr in
theorem in_7 (t : Fin cfg0.N) (x : S2x256x768.Idx) :
    (iblk m c 7 t : Vec Ideal S2x256x768 .f32) x = if (x 1).val / 64 ≤ (x 2).val / 64 ∧ (x 2).val / 64 ≤ (x 1).val / 64 + 8
      then ((rb (2 * (t.val / 16) + (x 0).val) (min ((x 2).val - 256 - (x 1).val) 319) : ℝ) : EReal) else ⊥ := by
  have ht : t.val < 128 := t.isLt
  have h0 : (x 0).val < 2 := (x 0).isLt
  refine Eq.trans (congrArg (V m c main_v36 : FVec Ideal S16x256x768 .f32) (funext fun d => Fin.ext ?_))
    (bias_at hr ⟨2 * (t.val / 16) + (x 0).val, by omega⟩ (x 1) (x 2))
  fin_cases d <;> blk_simp [(idx_in t).2.2.2.2.2.2.2.1] <;> simp [ix3] <;> omega

omit hy hr hg in
theorem read_8 (A : (r : Ref sig .tc) → Buf (Elt Ideal) ((c : Thread nD τ).loc r)) (t : Fin cfg0.N) (x : S2x256x1.Idx) :
    ((cfg0.win 8).blk t).view.read (Elt Ideal) (A (Pipeline.arrRef spec0 8)) x = A main_v75 ((win0_8.blk t).view.emb x) := rfl

omit hy hr hg in
theorem emb_8 (t : Fin cfg0.N) (x : S2x256x1.Idx) (h : Fin 16) (R : Fin 4096) (hh : h.val = 2 * (t.val / 16) + (x 0).val) (hR : R.val = 256 * (t.val % 16) + (x 1).val) :
    (win0_8.blk t).view.emb x = ix3 h R (0 : Fin 1) := by
  have h2 : (x 2).val < 1 := (x 2).isLt
  refine funext fun d => Fin.ext ?_
  fin_cases d <;> blk_simp [(idx_in t).2.2.2.2.2.2.2.2.1] <;> simp [ix3, hh, hR] <;> omega

omit hy hr hg in
theorem in_8_of (L : ℕ → ℕ → ℝ) (hL : ∀ (h : Fin 16) (R : Fin 4096), (V m c main_v75 : FVec Ideal S16x4096x1 .f32) (ix3 h R 0) = ((L h.val R.val : ℝ) : EReal))
    (t : Fin cfg0.N) (x : S2x256x1.Idx) :
    (iblk m c 8 t : Vec Ideal S2x256x1 .f32) x = ((L (2 * (t.val / 16) + (x 0).val) (256 * (t.val % 16) + (x 1).val) : ℝ) : EReal) := by
  have ht : t.val < 128 := t.isLt
  have h0 : (x 0).val < 2 := (x 0).isLt
  have h1 : (x 1).val < 256 := (x 1).isLt
  have h2 : (x 2).val < 1 := (x 2).isLt
  unfold iblk
  refine (read_8 (V m c) t x).trans ?_
  rw [emb_8 t x ⟨2 * (t.val / 16) + (x 0).val, by omega⟩ ⟨256 * (t.val % 16) + (x 1).val, by omega⟩ rfl rfl]
  exact hL _ _

include hy hr in
theorem in_8 (t : Fin cfg0.N) (x : S2x256x1.Idx) :
    (iblk m c 8 t : Vec Ideal S2x256x1 .f32) x = ((Real.log (Z y rb (2 * (t.val / 16) + (x 0).val) (256 * (t.val % 16) + (x 1).val)) : ℝ) : EReal) :=
  in_8_of (fun h R => Real.log (Z y rb h R)) (log_at hy hr) t x

include hg in
theorem in_9 (t : Fin cfg0.N) (x : S256x128.Idx) :
    (iblk m c 9 t : Vec Ideal S256x128 .bf16) x = ((g (256 * (t.val % 16) + (x 0).val) (128 * (t.val / 16) + (x 1).val) : ℝ) : EReal) := by
  have ht : t.val < 128 := t.isLt
  have h0 : (x 0).val < 256 := (x 0).isLt
  have h1 : (x 1).val < 128 := (x 1).isLt
  refine Eq.trans (congrArg (V m c main_arg2 : FVec Ideal S4096x1024 .bf16) (funext fun d => Fin.ext ?_))
    (cot_at hg ⟨256 * (t.val % 16) + (x 0).val, by omega⟩ ⟨128 * (t.val / 16) + (x 1).val, by omega⟩)
  fin_cases d <;> blk_simp [(idx_in t).2.2.2.2.2.2.2.2.2] <;> simp [ix2] <;> omega

include hy hr hg in
/-- At every grid point the blocks are the numbers of the whole arrays. -/
theorem blocks (t : Fin cfg0.N) : IsBlk y rb g (t.val % 16) (t.val / 16) (blkAt m c t) := by
  have ht : t.val < 128 := t.isLt
  have q := in_0 hy t
  have k0 := in_1 hy t
  have k1 := in_2 hy t
  have k2 := in_3 hy t
  have v0 := in_4 hy t
  have v1 := in_5 hy t
  have v2 := in_6 hy t
  have b := in_7 hr t
  have l := in_8 hy hr t
  have d := in_9 hg t
  have hi : t.val % 16 < 16 := Nat.mod_lt _ (by norm_num)
  have hp : t.val / 16 < 8 := by omega
  unfold blkAt
  generalize (iblk m c 0 t : Vec Ideal S256x128 .bf16) = b0 at q ⊢
  generalize (iblk m c 1 t : Vec Ideal S256x128 .bf16) = b1 at k0 ⊢
  generalize (iblk m c 2 t : Vec Ideal S256x128 .bf16) = b2 at k1 ⊢
  generalize (iblk m c 3 t : Vec Ideal S256x128 .bf16) = b3 at k2 ⊢
  generalize (iblk m c 4 t : Vec Ideal S256x128 .bf16) = b4 at v0 ⊢
  generalize (iblk m c 5 t : Vec Ideal S256x128 .bf16) = b5 at v1 ⊢
  generalize (iblk m c 6 t : Vec Ideal S256x128 .bf16) = b6 at v2 ⊢
  generalize (iblk m c 7 t : Vec Ideal S2x256x768 .f32) = b7 at b ⊢
  generalize (iblk m c 8 t : Vec Ideal S2x256x1 .f32) = b8 at l ⊢
  generalize (iblk m c 9 t : Vec Ideal S256x128 .bf16) = b9 at d ⊢
  exact ⟨hi, hp, q, k0, k1, k2, v0, v1, v2, d, b, l⟩

end more

end Cert.Attn
-- ==== Proof.Attn.RefA.lean ====
/-
  The attention's gradient as the reference computes it: its arrays, read at an index.
-/
module

public import proofs.«01_k».proof.Proof.Gen.Reference11Ideal.Read
public import proofs.«01_k».proof.Proof.Attn.HostVal

@[expose] public section

set_option maxRecDepth 16384

noncomputable section

open Idealize.ShloMosaic Idealize.ShloMosaic.TcCoe Idealize.SL.Sem

namespace Cert.Attn

open Cert.Reference11Ideal Cert.Reference11Ideal.Gen Cert.Reference11Ideal.Read
open Finset (range sum_range sum_congr)

variable (Y : FVec Ideal S4096x10256 .f32) (RB : FVec Ideal S16x320 .f32) (G : FVec Ideal S4096x1024 .bf16)

/-- The distance's place in the bias table. -/
theorem r34 (c : Fin 64) (j : Fin 576) : val_main_v34 (F := Ideal) (ix2 c j) = BitVec.ofNat 32 (min (j.val - 256 - c.val) 319) := by
  pointwise [val_main_v34, val_main_v33, val_main_v31, val_main_v32, val_main_v30, val_main_c_6, val_main_c_5, val_main_v29, val_main_v28, val_main_c_4, val_main_v27, val_main_call0_v4, val_main_call0_v3, val_main_call0_v2, val_main_call0_v1, val_main_call0_v0, val_main_c_2, val_main_c_3, val_main_v26, val_main_v25, val_main_v24, val_main_v23, val_main_v22, val_main_c, val_main_v21, val_main_v20, val_main_v19, val_main_v18]
  have e : IntOp.subi (IntOp.subi (BitVec.ofNat 32 j.val) 512#32) (BitVec.ofNat 32 c.val) = IntOp.subi (BitVec.ofNat 32 (j.val + 64 - c.val)) 576#32 := by
    unfold IntOp.subi
    apply BitVec.eq_of_toNat_eq
    simp only [BitVec.toNat_sub, BitVec.toNat_ofNat]
    omega
  rw [e]
  have H : ∀ s : Fin 640, Scalar.select
      (IntOp.cmpi CmpIPredicate.slt (IntOp.addi (IntOp.minsi 63#32 (IntOp.maxsi 4294967040#32 (IntOp.subi (BitVec.ofNat 32 s.val) 576#32))) 256#32) 0#32)
      (IntOp.addi (IntOp.addi (IntOp.minsi 63#32 (IntOp.maxsi 4294967040#32 (IntOp.subi (BitVec.ofNat 32 s.val) 576#32))) 256#32) 320#32)
      (IntOp.addi (IntOp.minsi 63#32 (IntOp.maxsi 4294967040#32 (IntOp.subi (BitVec.ofNat 32 s.val) 576#32))) 256#32) = BitVec.ofNat 32 (min (s.val - 320) 319) := by
    decide +kernel
  refine (H ⟨j.val + 64 - c.val, by omega⟩).trans ?_
  rw [show j.val + 64 - c.val - 320 = j.val - 256 - c.val by omega]

theorem r35 (c : Fin 64) (j : Fin 576) : val_main_v35 (F := Ideal) (ix3 c j 0) = val_main_v34 (F := Ideal) (ix2 c j) := by
  pointwise [val_main_v35]

/-- The gather of the table's columns, read at an index. -/
theorem gather_at (x : FVec Ideal S16x320 .f32) (idx : IVec S64x576x1 32) (h : Fin 16) (c : Fin 64) (j : Fin 576) :
    Host.gather gather_S16x320_S64x576x1_S16x64x576_0_1_n_n_1_2_161 x idx (ix3 h c j) = x (ix2 h ⟨min (idx (ix3 c j 0)).toInt.toNat 319, by omega⟩) := by
  unfold Host.gather
  refine congrArg x (funext fun a => Fin.ext ?_)
  show gather_S16x320_S64x576x1_S16x64x576_0_1_n_n_1_2_161.start (ix3 h c j) idx a + gather_S16x320_S64x576x1_S16x64x576_0_1_n_n_1_2_161.batchCoord (ix3 h c j) a
    + gather_S16x320_S64x576x1_S16x64x576_0_1_n_n_1_2_161.offCoord (ix3 h c j) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · unfold GatherDims.start GatherDims.offCoord
    rw [dif_neg (show ¬ (0 : Fin 2) ∈ gather_S16x320_S64x576x1_S16x64x576_0_1_n_n_1_2_161.startIndexMap from fun h => absurd (List.mem_singleton.mp h) (by decide)),
      dif_pos (show (0 : Fin 2) ∈ gather_S16x320_S64x576x1_S16x64x576_0_1_n_n_1_2_161.sKept from
        (GatherDims.mem_sKept _ _).mpr ⟨fun h => absurd (List.mem_singleton.mp h) (by decide), List.not_mem_nil⟩)]
    simp only [Nat.zero_add]
    rfl
  · rw [GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S16x320_S64x576x1_S16x64x576_0_1_n_n_1_2_161.startIndexMap from List.mem_singleton.mpr rfl)]
    have hsi : gather_S16x320_S64x576x1_S16x64x576_0_1_n_n_1_2_161.siIdx (ix3 h c j) ⟨List.idxOf (1 : Fin 2) gather_S16x320_S64x576x1_S16x64x576_0_1_n_n_1_2_161.startIndexMap,
        List.idxOf_lt_length_iff.2 (List.mem_singleton.mpr rfl)⟩ = ix3 c j 0 := by
      funext b; refine Fin.ext ?_
      match b with
      | ⟨0, _⟩ => rfl
      | ⟨1, _⟩ => rfl
      | ⟨2, _⟩ => rfl
    rw [hsi]
    rfl

theorem r36 (h : Fin 16) (c : Fin 64) (j : Fin 576) : val_main_v36 (F := Ideal) RB (ix3 h c j) = RB (ix2 h ⟨min (j.val - 256 - c.val) 319, by omega⟩) := by
  unfold val_main_v36
  rw [gather_at]
  refine congrArg (fun z => RB (ix2 h z)) (Fin.ext ?_)
  have H : ∀ s : Fin 320, (BitVec.ofNat 32 s.val).toInt.toNat = s.val := by decide +kernel
  show min (val_main_v35 (F := Ideal) (ix3 c j 0)).toInt.toNat 319 = _
  rw [r35, r34, H ⟨min (j.val - 256 - c.val) 319, by omega⟩]
  simp only
  omega

/-- The columns before the sequence's start are masked. -/
theorem r70_1 (n c : Fin 64) (h : Fin 16) (j : Fin 576) {α : Type} (a b : α) :
    Scalar.select (val_main_v70_1 (F := Ideal) (ix5 0 n h c j)) a b = if 512 ≤ 64 * n.val + j.val then a else b := by
  pointwise [val_main_v70_1, val_main_v69, val_main_v68, val_main_v67, val_main_c_10, val_main_v66, val_main_v65, val_main_v64, val_main_v63, val_main_v62, val_main_v61, val_main_v60, val_main_c_9, val_main_v42, val_main_v41, val_main_c_7, val_main_v40, val_main_v39]
  have e : IntOp.addi (IntOp.subi (IntOp.muli (BitVec.ofNat 32 n.val) 64#32) 512#32) (BitVec.ofNat 32 j.val) = IntOp.subi (BitVec.ofNat 32 (64 * n.val + j.val)) 512#32 := by
    unfold IntOp.subi IntOp.addi IntOp.muli
    apply BitVec.eq_of_toNat_eq
    simp only [BitVec.toNat_sub, BitVec.toNat_add, BitVec.toNat_mul, BitVec.toNat_ofNat]
    omega
  rw [e]
  have H : ∀ s : Fin 4608, IntOp.cmpi CmpIPredicate.sge (IntOp.subi (BitVec.ofNat 32 s.val) 512#32) 0#32 = BitVec.ofBool (decide (512 ≤ s.val)) := by decide +kernel
  rw [H ⟨64 * n.val + j.val, by omega⟩]
  by_cases h : 512 ≤ 64 * n.val + j.val <;> simp [Scalar.select, h]

theorem r38 (n c : Fin 64) (h : Fin 16) (d : Fin 64) : val_main_v38 (F := Ideal) Y (ix5 n 0 c h d) = Y (ix2 ⟨n.val * 64 + c.val, by omega⟩ ⟨h.val * 64 + d.val, by omega⟩) := by
  pointwise [val_main_v38, val_main_v37, val_main_v10, val_main_v0]

theorem r43 (b : Fin 72) (c : Fin 64) (h : Fin 16) (d : Fin 64) : val_main_v43 (F := Ideal) Y (ix5 0 b c h d)
    = if hb : b.val * 64 + c.val < 512 then 0 else Y (ix2 ⟨b.val * 64 + c.val - 512, by omega⟩ ⟨1024 + (h.val * 64 + d.val), by omega⟩) := by
  pointwise [val_main_v43, val_main_v14, val_main_v13, val_main_cst, val_main_v11, val_main_v1]

theorem r99 (b : Fin 72) (c : Fin 64) (h : Fin 16) (d : Fin 64) : val_main_v99 (F := Ideal) Y (ix5 0 b c h d)
    = if hb : b.val * 64 + c.val < 512 then 0 else Y (ix2 ⟨b.val * 64 + c.val - 512, by omega⟩ ⟨2048 + (h.val * 64 + d.val), by omega⟩) := by
  pointwise [val_main_v99, val_main_v16, val_main_v13, val_main_cst, val_main_v12, val_main_v2]

/-- Nine blocks of columns, one after the other. -/
theorem nine {α : Type} (f : Fin 72 → Fin 64 → α) (n : Fin 64) (j : Fin 576) :
    (if h1 : j.val < 64 then f ⟨n.val, by omega⟩ ⟨j.val, h1⟩
      else if h2 : j.val - 64 < 64 then f ⟨1 + n.val, by omega⟩ ⟨j.val - 64, h2⟩
      else if h3 : j.val - 64 - 64 < 64 then f ⟨2 + n.val, by omega⟩ ⟨j.val - 64 - 64, h3⟩
      else if h4 : j.val - 64 - 64 - 64 < 64 then f ⟨3 + n.val, by omega⟩ ⟨j.val - 64 - 64 - 64, h4⟩
      else if h5 : j.val - 64 - 64 - 64 - 64 < 64 then f ⟨4 + n.val, by omega⟩ ⟨j.val - 64 - 64 - 64 - 64, h5⟩
      else if h6 : j.val - 64 - 64 - 64 - 64 - 64 < 64 then f ⟨5 + n.val, by omega⟩ ⟨j.val - 64 - 64 - 64 - 64 - 64, h6⟩
      else if h7 : j.val - 64 - 64 - 64 - 64 - 64 - 64 < 64 then f ⟨6 + n.val, by omega⟩ ⟨j.val - 64 - 64 - 64 - 64 - 64 - 64, h7⟩
      else if h8 : j.val - 64 - 64 - 64 - 64 - 64 - 64 - 64 < 64 then f ⟨7 + n.val, by omega⟩ ⟨j.val - 64 - 64 - 64 - 64 - 64 - 64 - 64, h8⟩
      else f ⟨8 + n.val, by omega⟩ ⟨j.val - 64 - 64 - 64 - 64 - 64 - 64 - 64 - 64, by omega⟩)
      = f ⟨n.val + j.val / 64, by omega⟩ ⟨j.val % 64, by omega⟩ := by
  repeat' split
  all_goals exact congrArg₂ f (Fin.ext (by simp only; omega)) (Fin.ext (by simp only; omega))

/-- The band's keys. -/
theorem r53 (n : Fin 64) (j : Fin 576) (h : Fin 16) (d : Fin 64) : val_main_v53 (F := Ideal) Y (ix5 0 n j h d)
    = val_main_v43 (F := Ideal) Y (ix5 0 ⟨n.val + j.val / 64, by omega⟩ ⟨j.val % 64, by omega⟩ h d) := by
  pointwise [val_main_v53, val_main_v44, val_main_v45, val_main_v46, val_main_v47, val_main_v48, val_main_v49, val_main_v50, val_main_v51, val_main_v52]
  exact nine (fun b c => val_main_v43 (F := Ideal) Y (ix5 0 b c h d)) n j

/-- The band's values. -/
theorem r109 (n : Fin 64) (j : Fin 576) (h : Fin 16) (d : Fin 64) : val_main_v109 (F := Ideal) Y (ix5 0 n j h d)
    = val_main_v99 (F := Ideal) Y (ix5 0 ⟨n.val + j.val / 64, by omega⟩ ⟨j.val % 64, by omega⟩ h d) := by
  pointwise [val_main_v109, val_main_v100, val_main_v101, val_main_v102, val_main_v103, val_main_v104, val_main_v105, val_main_v106, val_main_v107, val_main_v108]
  exact nine (fun b c => val_main_v99 (F := Ideal) Y (ix5 0 b c h d)) n j

theorem r54 (n c : Fin 64) (h : Fin 16) (j : Fin 576) : val_main_v54 (F := Ideal) Y (ix5 0 n h c j)
    = ∑ x : Fin 64, val_main_v38 (F := Ideal) Y (ix5 n 0 c h x) * val_main_v53 (F := Ideal) Y (ix5 0 n j h x) := by
  pointwise [val_main_v54]

theorem r70 (n c : Fin 64) (h : Fin 16) (j : Fin 576) : val_main_v70_0 (F := Ideal) Y RB (ix5 0 n h c j)
    = Scalar.select (val_main_v70_1 (F := Ideal) (ix5 0 n h c j))
      (val_main_v54 (F := Ideal) Y (ix5 0 n h c j) * Ideal.ofBits .f32 1040187392#32 + val_main_v36 (F := Ideal) RB (ix3 h c j)) (Ideal.ofBits .f32 4286578688#32) := by
  pointwise [val_main_v70_0, val_main_call1_v2, val_main_call1_v0, val_main_cst_11, val_main_v59, val_main_v58, val_main_v57, val_main_v56, val_main_v55, val_main_cst_8]
  rfl

theorem max_at (s : FVec Ideal S1x64x16x64x576 .f32) (n c : Fin 64) (h : Fin 16) :
    (Host.reduce FloatOps.maximumf s (constant S_ .f32 0xFF800000#32 : FVec Ideal S_ .f32) reducesTo_S1x64x16x64x576_S1x64x16x64_d4 h_S_ : FVec Ideal S1x64x16x64 .f32) (ix4 0 n h c)
      = Finset.fold max (⊥ : EReal) (fun x => s (ix5 0 n h c x)) Finset.univ := by
  pointwise []
  rw [minf_f32]

theorem bot_max_at (a : FVec Ideal S1x64x16x64 .f32) (n c : Fin 64) (h : Fin 16) :
    (maximumf (broadcastInDim S1x64x16x64 ![] bcast_S_S1x64x16x64 (constant S_ .f32 0xFF800000#32 : FVec Ideal S_ .f32)) a : FVec Ideal S1x64x16x64 .f32) (ix4 0 n h c) = a (ix4 0 n h c) := by
  pointwise []
  rw [minf_f32]
  exact max_bot_left _

/-- The row's maximum. -/
theorem r78 (n c : Fin 64) (h : Fin 16) : val_main_v78 (F := Ideal) Y RB (ix4 0 n h c)
    = Finset.fold max (⊥ : EReal) (fun x => val_main_v70_0 (F := Ideal) Y RB (ix5 0 n h c x)) Finset.univ := by
  unfold val_main_v78 val_main_v77 val_main_cst_14
  rw [bot_max_at]
  unfold val_main_v71 val_main_cst_12
  exact max_at _ n c h

theorem r91 (n c : Fin 64) (h : Fin 16) (j : Fin 576) : val_main_v91 (F := Ideal) Y RB (ix5 0 n h c j)
    = Ideal.exp (val_main_v70_0 (F := Ideal) Y RB (ix5 0 n h c j) - val_main_v78 (F := Ideal) Y RB (ix4 0 n h c)) := by
  pointwise [val_main_v91, val_main_v90, val_main_v89, val_main_v88]

theorem r93 (n c : Fin 64) (h : Fin 16) : val_main_v93 (F := Ideal) Y RB (ix5 0 n h c 0) = ∑ x : Fin 576, val_main_v91 (F := Ideal) Y RB (ix5 0 n h c x) := by
  pointwise [val_main_v93, val_main_v92, val_main_cst_20]

theorem r95 (n c : Fin 64) (h : Fin 16) (j : Fin 576) : val_main_v95 (F := Ideal) Y RB (ix5 0 n h c j)
    = Ideal.div (val_main_v91 (F := Ideal) Y RB (ix5 0 n h c j)) (val_main_v93 (F := Ideal) Y RB (ix5 0 n h c 0)) := by
  pointwise [val_main_v95, val_main_v94]

theorem r117 (n c : Fin 64) (h : Fin 16) (d : Fin 64) : val_main_v117 (F := Ideal) G (ix5 0 n h d c) = G (ix2 ⟨n.val * 64 + c.val, by omega⟩ ⟨h.val * 64 + d.val, by omega⟩) := by
  pointwise [val_main_v117, val_main_v116, val_main_v115, val_main_v114]

theorem r118 (n c : Fin 64) (h : Fin 16) (j : Fin 576) : val_main_v118 (F := Ideal) Y G (ix5 0 n h c j)
    = ∑ x : Fin 64, val_main_v117 (F := Ideal) G (ix5 0 n h x c) * val_main_v109 (F := Ideal) Y (ix5 0 n j h x) := by
  pointwise [val_main_v118]

theorem r150 (n c : Fin 64) (h : Fin 16) (j : Fin 576) : val_main_v150 (F := Ideal) Y RB G (ix5 0 n h c j)
    = val_main_v118 (F := Ideal) Y G (ix5 0 n h c j) * Ideal.div 1 (val_main_v93 (F := Ideal) Y RB (ix5 0 n h c 0) * val_main_v93 (F := Ideal) Y RB (ix5 0 n h c 0))
      * val_main_v91 (F := Ideal) Y RB (ix5 0 n h c j) := by
  pointwise [val_main_v150, val_main_v149, val_main_v148, val_main_v98, val_main_v97, val_main_cst_21, val_main_v96]

theorem r153 (n c : Fin 64) (h : Fin 16) : val_main_v153 (F := Ideal) Y RB G (ix5 0 n h c 0) = -∑ x : Fin 576, val_main_v150 (F := Ideal) Y RB G (ix5 0 n h c x) := by
  pointwise [val_main_v153, val_main_v152, val_main_v151, val_main_cst_31]

/-- A sum over two axes of one element each. -/
theorem r156 (n c : Fin 64) (h : Fin 16) : val_main_v156 (F := Ideal) Y RB G (ix3 n h c) = val_main_v153 (F := Ideal) Y RB G (ix5 0 n h c 0) := by
  unfold val_main_v156
  generalize val_main_v153 (F := Ideal) Y RB G = x
  show Ideal.hostReduceAdd reducesTo_S1x64x16x64x1_S64x16x64_d0_4 x (Ideal.ofBits .f32 0x00000000#32) (ix3 n h c) = _
  unfold Ideal.hostReduceAdd
  have key : (Finset.univ.filter fun i => (reducesTo_S1x64x16x64x1_S64x16x64_d0_4).drop i = ix3 n h c) = {ix5 0 n h c 0} := by
    ext i
    simp only [Finset.mem_filter, Finset.mem_univ, true_and, Finset.mem_singleton]
    have d0 := Shape.ReducesTo.drop_apply_val_of_eq reducesTo_S1x64x16x64x1_S64x16x64_d0_4 i 0 1
    have d1 := Shape.ReducesTo.drop_apply_val_of_eq reducesTo_S1x64x16x64x1_S64x16x64_d0_4 i 1 2
    have d2 := Shape.ReducesTo.drop_apply_val_of_eq reducesTo_S1x64x16x64x1_S64x16x64_d0_4 i 2 3
    constructor
    · intro H
      funext a
      refine Fin.ext ?_
      rw [H] at d0 d1 d2
      have i0 : (i 0).val < 1 := (i 0).isLt
      have i4 : (i 4).val < 1 := (i 4).isLt
      fin_cases a
      · show (i 0).val = 0; omega
      · exact d0.symm
      · exact d1.symm
      · exact d2.symm
      · show (i 4).val = 0; omega
    · rintro rfl
      funext a
      refine Fin.ext ?_
      fin_cases a
      · exact d0
      · exact d1
      · exact d2
  rw [key, Finset.sum_singleton]
  simp [Ideal.ofBits, Ideal.ieee]

theorem r166 (n c : Fin 64) (h : Fin 16) (j : Fin 576) : val_main_v166 (F := Ideal) Y RB G (ix5 0 n h c j)
    = Scalar.select (val_main_v70_1 (F := Ideal) (ix5 0 n h c j))
      ((Ideal.div (val_main_v118 (F := Ideal) Y G (ix5 0 n h c j)) (val_main_v93 (F := Ideal) Y RB (ix5 0 n h c 0)) + val_main_v156 (F := Ideal) Y RB G (ix3 n h c))
        * val_main_v91 (F := Ideal) Y RB (ix5 0 n h c j) * Ideal.ofBits .f32 1040187392#32) 0 := by
  pointwise [val_main_v166, val_main_v165, val_main_cst_35, val_main_v161, val_main_call2_v0, val_main_call2_cst, val_main_v160, val_main_v159, val_main_v158, val_main_v157, val_main_v155, val_main_v154]

theorem r120 (n d : Fin 64) (h : Fin 16) (j : Fin 576) : val_main_v120 (F := Ideal) Y RB G (ix5 0 n j h d)
    = ∑ x : Fin 64, val_main_v117 (F := Ideal) G (ix5 0 n h d x) * val_main_v95 (F := Ideal) Y RB (ix5 0 n h x j) := by
  pointwise [val_main_v120, val_main_v119]

theorem r168 (n d : Fin 64) (h : Fin 16) (j : Fin 576) : val_main_v168 (F := Ideal) Y RB G (ix5 0 n j h d)
    = ∑ x : Fin 64, val_main_v166 (F := Ideal) Y RB G (ix5 0 n h x j) * val_main_v38 (F := Ideal) Y (ix5 n 0 x h d) := by
  pointwise [val_main_v168, val_main_v167]

theorem r209 (R : Fin 4096) (a : Fin 1024) : val_main_v209 (F := Ideal) Y RB G (ix2 R a)
    = ∑ x : Fin 576, val_main_v166 (F := Ideal) Y RB G (ix5 0 ⟨R.val / 64, by omega⟩ ⟨a.val / 64, by omega⟩ ⟨R.val % 64, by omega⟩ x)
      * val_main_v53 (F := Ideal) Y (ix5 0 ⟨R.val / 64, by omega⟩ x ⟨a.val / 64, by omega⟩ ⟨a.val % 64, by omega⟩) := by
  pointwise [val_main_v209, val_main_v208, val_main_v199, val_main_v198, val_main_v170, val_main_v169]

theorem r210 (R : Fin 4096) (a : Fin 1024) : val_main_v210 (F := Ideal) Y RB G (ix2 R a)
    = val_main_v196 (F := Ideal) Y RB G (ix5 0 ⟨(512 + R.val) / 64, by omega⟩ ⟨(512 + R.val) % 64, by omega⟩ ⟨a.val / 64, by omega⟩ ⟨a.val % 64, by omega⟩) := by
  pointwise [val_main_v210, val_main_v207, val_main_v205, val_main_v197]

theorem r211 (R : Fin 4096) (a : Fin 1024) : val_main_v211 (F := Ideal) Y RB G (ix2 R a)
    = val_main_v146 (F := Ideal) Y RB G (ix5 0 ⟨(512 + R.val) / 64, by omega⟩ ⟨(512 + R.val) % 64, by omega⟩ ⟨a.val / 64, by omega⟩ ⟨a.val % 64, by omega⟩) := by
  pointwise [val_main_v211, val_main_v206, val_main_v203, val_main_v147]

/-- The nine blocks a key's gradient is gathered from. -/
def gather9 (f : Fin 64 → Fin 576 → EReal) (b : Fin 72) (c : Fin 64) : EReal :=
  (if hb : 8 ≤ b.val ∧ b.val - 8 < 64 then f ⟨b.val - 8, by omega⟩ ⟨512 + c.val, by omega⟩ else 0)
        + (if hb : 7 ≤ b.val ∧ b.val - 7 < 64 then f ⟨b.val - 7, by omega⟩ ⟨448 + c.val, by omega⟩ else 0)
        + (if hb : 6 ≤ b.val ∧ b.val - 6 < 64 then f ⟨b.val - 6, by omega⟩ ⟨384 + c.val, by omega⟩ else 0)
        + (if hb : 5 ≤ b.val ∧ b.val - 5 < 64 then f ⟨b.val - 5, by omega⟩ ⟨320 + c.val, by omega⟩ else 0)
        + (if hb : 4 ≤ b.val ∧ b.val - 4 < 64 then f ⟨b.val - 4, by omega⟩ ⟨256 + c.val, by omega⟩ else 0)
        + (if hb : 3 ≤ b.val ∧ b.val - 3 < 64 then f ⟨b.val - 3, by omega⟩ ⟨192 + c.val, by omega⟩ else 0)
        + (if hb : 2 ≤ b.val ∧ b.val - 2 < 64 then f ⟨b.val - 2, by omega⟩ ⟨128 + c.val, by omega⟩ else 0)
        + (if hb : 1 ≤ b.val ∧ b.val - 1 < 64 then f ⟨b.val - 1, by omega⟩ ⟨64 + c.val, by omega⟩ else 0)
        + (if hb : b.val < 64 then f ⟨b.val, by omega⟩ ⟨c.val, by omega⟩ else 0)

theorem r146 (b : Fin 72) (c : Fin 64) (h : Fin 16) (d : Fin 64) : val_main_v146 (F := Ideal) Y RB G (ix5 0 b c h d)
    = gather9 (fun n j => val_main_v120 (F := Ideal) Y RB G (ix5 0 n j h d)) b c := by
  pointwise [val_main_v146, val_main_v121, val_main_v122, val_main_v123, val_main_v124, val_main_v125, val_main_v126, val_main_v127, val_main_v128, val_main_v129, val_main_v130, val_main_v131, val_main_v132, val_main_v133, val_main_v134, val_main_v135, val_main_v136, val_main_v137, val_main_v138, val_main_v139, val_main_v140, val_main_v141, val_main_v142, val_main_v143, val_main_v144, val_main_v145, val_main_cst_22, val_main_cst_23, val_main_cst_24, val_main_cst_25, val_main_cst_26, val_main_cst_27, val_main_cst_28, val_main_cst_29, val_main_cst_30]
  rfl

theorem r196 (b : Fin 72) (c : Fin 64) (h : Fin 16) (d : Fin 64) : val_main_v196 (F := Ideal) Y RB G (ix5 0 b c h d)
    = gather9 (fun n j => val_main_v168 (F := Ideal) Y RB G (ix5 0 n j h d)) b c := by
  pointwise [val_main_v196, val_main_v171, val_main_v172, val_main_v173, val_main_v174, val_main_v175, val_main_v176, val_main_v177, val_main_v178, val_main_v179, val_main_v180, val_main_v181, val_main_v182, val_main_v183, val_main_v184, val_main_v185, val_main_v186, val_main_v187, val_main_v188, val_main_v189, val_main_v190, val_main_v191, val_main_v192, val_main_v193, val_main_v194, val_main_v195, val_main_cst_36, val_main_cst_37, val_main_cst_38, val_main_cst_39, val_main_cst_40, val_main_cst_41, val_main_cst_42, val_main_cst_43, val_main_cst_44]
  rfl

end Cert.Attn
-- ==== Proof.Attn.RefB.lean ====
/-
  The attention's gradient as the reference computes it, over finite arrays: its values.
-/
module

public import proofs.«01_k».proof.Proof.Attn.RefA

@[expose] public section

set_option maxRecDepth 16384

noncomputable section

open Idealize.ShloMosaic Idealize.ShloMosaic.TcCoe Idealize.SL.Sem

namespace Cert.Attn

open Cert.Reference11Ideal Cert.Reference11Ideal.Gen Cert.Reference11Ideal.Read
open Finset (range sum_range sum_congr)

variable {Y : FVec Ideal S4096x10256 .f32} {RB : FVec Ideal S16x320 .f32} {G : FVec Ideal S4096x1024 .bf16}
variable {y rb g : ℕ → ℕ → ℝ}

/-- A column of the band lies in the sequence, and in reach of the chunk. -/
theorem ok_of (n c : Fin 64) (j : Fin 576) (hv : 512 ≤ 64 * n.val + j.val) : ok (64 * n.val + c.val) (64 * n.val + j.val - 512) := by
  unfold ok; omega

theorem coe_ite (p : Prop) [Decidable p] (a : ℝ) : (if p then (a : EReal) else 0) = ((if p then a else 0 : ℝ) : EReal) := by
  split <;> simp

theorem v38_eq (hy : ∀ x, Y x = ((y (x 0).val (x 1).val : ℝ) : EReal)) (n c : Fin 64) (h : Fin 16) (d : Fin 64) :
    val_main_v38 (F := Ideal) Y (ix5 n 0 c h d) = ((y (64 * n.val + c.val) (64 * h.val + d.val) : ℝ) : EReal) := by
  rw [r38, hy]
  show ((y (n.val * 64 + c.val) (h.val * 64 + d.val) : ℝ) : EReal) = _
  rw [mul_comm n.val, mul_comm h.val]

theorem v117_eq (hg : ∀ x, G x = ((g (x 0).val (x 1).val : ℝ) : EReal)) (n c : Fin 64) (h : Fin 16) (d : Fin 64) :
    val_main_v117 (F := Ideal) G (ix5 0 n h d c) = ((g (64 * n.val + c.val) (64 * h.val + d.val) : ℝ) : EReal) := by
  rw [r117, hg]
  show ((g (n.val * 64 + c.val) (h.val * 64 + d.val) : ℝ) : EReal) = _
  rw [mul_comm n.val, mul_comm h.val]

/-- The keys of the band, zero before the sequence's start. -/
theorem v53_eq (hy : ∀ x, Y x = ((y (x 0).val (x 1).val : ℝ) : EReal)) (n : Fin 64) (j : Fin 576) (h : Fin 16) (d : Fin 64) :
    val_main_v53 (F := Ideal) Y (ix5 0 n j h d)
      = ((if 512 ≤ 64 * n.val + j.val then y (64 * n.val + j.val - 512) (1024 + (64 * h.val + d.val)) else 0 : ℝ) : EReal) := by
  rw [r53, r43]
  by_cases hv : 512 ≤ 64 * n.val + j.val
  · rw [dif_neg (by simp only; omega), if_pos hv, hy]
    show ((y ((n.val + j.val / 64) * 64 + j.val % 64 - 512) (1024 + (h.val * 64 + d.val)) : ℝ) : EReal) = _
    rw [show (n.val + j.val / 64) * 64 + j.val % 64 - 512 = 64 * n.val + j.val - 512 by omega, mul_comm h.val]
  · rw [dif_pos (by simp only; omega), if_neg hv]; rfl

/-- The values of the band, zero before the sequence's start. -/
theorem v109_eq (hy : ∀ x, Y x = ((y (x 0).val (x 1).val : ℝ) : EReal)) (n : Fin 64) (j : Fin 576) (h : Fin 16) (d : Fin 64) :
    val_main_v109 (F := Ideal) Y (ix5 0 n j h d)
      = ((if 512 ≤ 64 * n.val + j.val then y (64 * n.val + j.val - 512) (2048 + (64 * h.val + d.val)) else 0 : ℝ) : EReal) := by
  rw [r109, r99]
  by_cases hv : 512 ≤ 64 * n.val + j.val
  · rw [dif_neg (by simp only; omega), if_pos hv, hy]
    show ((y ((n.val + j.val / 64) * 64 + j.val % 64 - 512) (2048 + (h.val * 64 + d.val)) : ℝ) : EReal) = _
    rw [show (n.val + j.val / 64) * 64 + j.val % 64 - 512 = 64 * n.val + j.val - 512 by omega, mul_comm h.val]
  · rw [dif_pos (by simp only; omega), if_neg hv]; rfl

/-- The scores of the band, masked before the sequence's start. -/
theorem v70_eq (hy : ∀ x, Y x = ((y (x 0).val (x 1).val : ℝ) : EReal)) (hr : ∀ x, RB x = ((rb (x 0).val (x 1).val : ℝ) : EReal))
    (n c : Fin 64) (h : Fin 16) (j : Fin 576) : val_main_v70_0 (F := Ideal) Y RB (ix5 0 n h c j)
      = if 512 ≤ 64 * n.val + j.val then ((sc y rb h.val (64 * n.val + c.val) (64 * n.val + j.val - 512) : ℝ) : EReal) else ⊥ := by
  rw [r70, r70_1, minf_f32]
  by_cases hv : 512 ≤ 64 * n.val + j.val
  · rw [if_pos hv, if_pos hv, r54, r36, hr, eighth_f32]
    simp only [v38_eq hy, v53_eq hy, if_pos hv, ← EReal.coe_mul, ← Common.coe_sum]
    show ((_ : ℝ) : EReal) + ((rb h.val (min (j.val - 256 - c.val) 319) : ℝ) : EReal) = _
    rw [← EReal.coe_add, show j.val - 256 - c.val = 64 * n.val + j.val - 512 + 256 - (64 * n.val + c.val) by omega,
      ← sum_range fun x => y (64 * n.val + c.val) (64 * h.val + x) * y (64 * n.val + j.val - 512) (1024 + (64 * h.val + x))]
    rfl
  · rw [if_neg hv, if_neg hv]

/-- A row's exponentials: those of the scores, all times one positive number. -/
theorem v91_eq (hy : ∀ x, Y x = ((y (x 0).val (x 1).val : ℝ) : EReal)) (hr : ∀ x, RB x = ((rb (x 0).val (x 1).val : ℝ) : EReal))
    (n c : Fin 64) (h : Fin 16) : ∃ l : ℝ, 0 < l ∧
      (∀ j, val_main_v91 (F := Ideal) Y RB (ix5 0 n h c j) = ((l * (if 512 ≤ 64 * n.val + j.val then ex y rb h.val (64 * n.val + c.val) (64 * n.val + j.val - 512) else 0) : ℝ) : EReal))
      ∧ val_main_v93 (F := Ideal) Y RB (ix5 0 n h c 0) = ((l * Z y rb h.val (64 * n.val + c.val) : ℝ) : EReal) := by
  obtain ⟨μ, hμ⟩ := row_max (fun j : Fin 576 => 512 ≤ 64 * n.val + j.val) (fun j => sc y rb h.val (64 * n.val + c.val) (64 * n.val + j.val - 512))
    ⟨⟨512, by omega⟩, by simp only; omega⟩
  have h78 : val_main_v78 (F := Ideal) Y RB (ix4 0 n h c) = (μ : EReal) := by
    rw [r78, ← hμ]
    exact congrArg (fun f => Finset.fold max (⊥ : EReal) f Finset.univ) (funext fun j => v70_eq hy hr n c h j)
  have h91 : ∀ j, val_main_v91 (F := Ideal) Y RB (ix5 0 n h c j) = ((Real.exp (-μ) * (if 512 ≤ 64 * n.val + j.val then ex y rb h.val (64 * n.val + c.val) (64 * n.val + j.val - 512) else 0) : ℝ) : EReal) := fun j => by
    rw [r91, v70_eq hy hr, h78]
    refine (exp_term (fun j : Fin 576 => 512 ≤ 64 * n.val + j.val) (fun j => sc y rb h.val (64 * n.val + c.val) (64 * n.val + j.val - 512)) μ j).trans ?_
    by_cases hv : 512 ≤ 64 * n.val + j.val
    · simp only [if_pos hv, ex, if_pos (ok_of n c j hv)]
    · simp only [if_neg hv]
  refine ⟨Real.exp (-μ), Real.exp_pos _, h91, ?_⟩
  rw [r93]
  simp only [h91]
  rw [← Common.coe_sum, ← Finset.mul_sum,
    ← sum_range fun x => if 512 ≤ 64 * n.val + x then ex y rb h.val (64 * n.val + c.val) (64 * n.val + x - 512) else 0,
    sum_chunks _ _ _ n.isLt c.isLt]
  refine congrArg (fun z : ℝ => ((Real.exp (-μ) * z : ℝ) : EReal)) (sum_congr rfl fun C _ => ?_)
  unfold ex
  split <;> rfl

/-- The weights of the band. -/
theorem v95_eq (hy : ∀ x, Y x = ((y (x 0).val (x 1).val : ℝ) : EReal)) (hr : ∀ x, RB x = ((rb (x 0).val (x 1).val : ℝ) : EReal))
    (n c : Fin 64) (h : Fin 16) (j : Fin 576) : val_main_v95 (F := Ideal) Y RB (ix5 0 n h c j)
      = ((if 512 ≤ 64 * n.val + j.val then pr y rb h.val (64 * n.val + c.val) (64 * n.val + j.val - 512) else 0 : ℝ) : EReal) := by
  obtain ⟨l, hl, h91, h93⟩ := v91_eq hy hr n c h
  have hZ := Z_pos (y := y) (rb := rb) (h := h.val) (R := 64 * n.val + c.val) (by omega)
  rw [r95, h91, h93, Ideal.div_coe (mul_pos hl hZ).ne', ← EReal.coe_mul]
  congr 1
  unfold pr
  split
  · field_simp
  · simp

/-- The weights' cotangent on the band. -/
theorem v118_eq (hy : ∀ x, Y x = ((y (x 0).val (x 1).val : ℝ) : EReal)) (hg : ∀ x, G x = ((g (x 0).val (x 1).val : ℝ) : EReal))
    (n c : Fin 64) (h : Fin 16) (j : Fin 576) : val_main_v118 (F := Ideal) Y G (ix5 0 n h c j)
      = ((if 512 ≤ 64 * n.val + j.val then dp y g h.val (64 * n.val + c.val) (64 * n.val + j.val - 512) else 0 : ℝ) : EReal) := by
  rw [r118]
  simp only [v117_eq hg, v109_eq hy]
  by_cases hv : 512 ≤ 64 * n.val + j.val
  · simp only [if_pos hv, ← EReal.coe_mul, ← Common.coe_sum]
    rw [← sum_range fun x => g (64 * n.val + c.val) (64 * h.val + x) * y (64 * n.val + j.val - 512) (2048 + (64 * h.val + x))]
    rfl
  · simp only [if_neg hv, ← EReal.coe_mul, mul_zero, ← Common.coe_sum, Finset.sum_const_zero]

/-- The scores' cotangent on the band, times the scale. -/
theorem v166_eq (hy : ∀ x, Y x = ((y (x 0).val (x 1).val : ℝ) : EReal)) (hr : ∀ x, RB x = ((rb (x 0).val (x 1).val : ℝ) : EReal))
    (hg : ∀ x, G x = ((g (x 0).val (x 1).val : ℝ) : EReal))
    (n c : Fin 64) (h : Fin 16) (j : Fin 576) : val_main_v166 (F := Ideal) Y RB G (ix5 0 n h c j)
      = ((if 512 ≤ 64 * n.val + j.val then ds y rb g h.val (64 * n.val + c.val) (64 * n.val + j.val - 512) * (1 / 8) else 0 : ℝ) : EReal) := by
  obtain ⟨l, hl, h91, h93⟩ := v91_eq hy hr n c h
  have hZ := Z_pos (y := y) (rb := rb) (h := h.val) (R := 64 * n.val + c.val) (by omega)
  have hlZ := (mul_pos hl hZ).ne'
  have h153 : val_main_v153 (F := Ideal) Y RB G (ix5 0 n h c 0) = ((-(dl y rb g h.val (64 * n.val + c.val) / (l * Z y rb h.val (64 * n.val + c.val))) : ℝ) : EReal) := by
    rw [r153, EReal.coe_neg]
    refine congrArg Neg.neg ?_
    have e : ∀ x : Fin 576, val_main_v150 (F := Ideal) Y RB G (ix5 0 n h c x)
        = (((if 512 ≤ 64 * n.val + x.val then pr y rb h.val (64 * n.val + c.val) (64 * n.val + x.val - 512) * dp y g h.val (64 * n.val + c.val) (64 * n.val + x.val - 512) else 0)
          * (1 / (l * Z y rb h.val (64 * n.val + c.val))) : ℝ) : EReal) := fun x => by
      rw [r150, v118_eq hy hg, h91, h93, ← EReal.coe_mul, ← EReal.coe_one, Ideal.div_coe (mul_ne_zero hlZ hlZ), ← EReal.coe_mul, ← EReal.coe_mul, ← EReal.coe_mul]
      congr 1
      unfold pr
      split
      · field_simp
      · simp
    simp only [e]
    rw [← Common.coe_sum, ← Finset.sum_mul,
      ← sum_range fun x => if 512 ≤ 64 * n.val + x then pr y rb h.val (64 * n.val + c.val) (64 * n.val + x - 512) * dp y g h.val (64 * n.val + c.val) (64 * n.val + x - 512) else 0,
      sum_chunks (fun C => pr y rb h.val (64 * n.val + c.val) C * dp y g h.val (64 * n.val + c.val) C) _ _ n.isLt c.isLt, div_eq_mul_one_div (dl y rb g h.val (64 * n.val + c.val))]
    refine congrArg (fun z : ℝ => ((z * (1 / (l * Z y rb h.val (64 * n.val + c.val))) : ℝ) : EReal)) (sum_congr rfl fun C _ => ?_)
    split
    · rfl
    · rename_i hn; rw [pr_of_not_ok hn, zero_mul]
  rw [r166, r70_1, r156, h153, v118_eq hy hg, h91, h93, eighth_f32, Ideal.div_coe hlZ]
  by_cases hv : 512 ≤ 64 * n.val + j.val
  · simp only [if_pos hv, ← EReal.coe_mul, ← EReal.coe_add]
    congr 1
    unfold ds pr
    field_simp
    ring
  · simp only [if_neg hv]; rfl

/-- The gradient of the queries. -/
theorem ref_q (hy : ∀ x, Y x = ((y (x 0).val (x 1).val : ℝ) : EReal)) (hr : ∀ x, RB x = ((rb (x 0).val (x 1).val : ℝ) : EReal))
    (hg : ∀ x, G x = ((g (x 0).val (x 1).val : ℝ) : EReal)) :
    val_main_v209 (F := Ideal) Y RB G = fun x => ((gq y rb g (x 0).val (x 1).val : ℝ) : EReal) := by
  funext x
  obtain ⟨R, a, rfl⟩ : ∃ (R : Fin 4096) (a : Fin 1024), x = ix2 R a := ⟨x 0, x 1, eq_ix2 x⟩
  show _ = ((gq y rb g R.val a.val : ℝ) : EReal)
  rw [r209]
  simp only [v166_eq hy hr hg, v53_eq hy, ← EReal.coe_mul, ← Common.coe_sum]
  congr 1
  unfold gq
  rw [Finset.sum_mul]
  have hR : 64 * (R.val / 64) + R.val % 64 = R.val := Nat.div_add_mod _ _
  have ha : 64 * (a.val / 64) + a.val % 64 = a.val := Nat.div_add_mod _ _
  simp only [hR, ha]
  have h := sum_chunks (fun C => ds y rb g (a.val / 64) R.val C * y C (1024 + a.val) * (1 / 8)) (R.val / 64) (R.val % 64) (by omega) (by omega)
  rw [hR, sum_range] at h
  refine Eq.trans (sum_congr rfl fun j _ => ?_) (h.trans (sum_congr rfl fun C _ => ?_))
  · split
    · ring
    · simp
  · split
    · rfl
    · rename_i hn; rw [ds_of_not_ok hn, zero_mul, zero_mul]

/-- Nine gathered blocks of real numbers. -/
theorem gather9_eq (f : Fin 64 → Fin 576 → EReal) (F : ℕ → ℝ) (b : Fin 72) (c : Fin 64) (hb : 8 ≤ b.val)
    (H : ∀ (n : Fin 64) (j : Fin 576), 64 * n.val + j.val = 64 * b.val + c.val → f n j = ((F n.val : ℝ) : EReal)) :
    gather9 f b c = ((∑ r ∈ range 9, (if b.val - r < 64 then F (b.val - r) else 0) : ℝ) : EReal) := by
  have e : ∀ (r : ℕ) (hr : r ≤ 8), (if hh : r ≤ b.val ∧ b.val - r < 64 then f ⟨b.val - r, hh.2⟩ ⟨64 * r + c.val, by omega⟩ else 0)
      = ((if b.val - r < 64 then F (b.val - r) else 0 : ℝ) : EReal) := fun r hr => by
    by_cases h : b.val - r < 64
    · rw [dif_pos ⟨by omega, h⟩, if_pos h]
      exact H _ _ (by simp only; omega)
    · rw [dif_neg (fun hh => h hh.2), if_neg h]; rfl
  have e0 : (if hh : b.val < 64 then f ⟨b.val, hh⟩ ⟨c.val, by omega⟩ else 0) = ((if b.val - 0 < 64 then F (b.val - 0) else 0 : ℝ) : EReal) := by
    simp only [Nat.sub_zero]
    by_cases h : b.val < 64
    · rw [dif_pos h, if_pos h]
      exact H _ _ rfl
    · rw [dif_neg h, if_neg h]; rfl
  simp only [Finset.sum_range_succ, Finset.sum_range_zero, zero_add, EReal.coe_add]
  rw [← e0, ← e 1 (by omega), ← e 2 (by omega), ← e 3 (by omega), ← e 4 (by omega), ← e 5 (by omega), ← e 6 (by omega), ← e 7 (by omega), ← e 8 (by omega)]
  unfold gather9
  ac_rfl

/-- The gradient of the keys. -/
theorem ref_k (hy : ∀ x, Y x = ((y (x 0).val (x 1).val : ℝ) : EReal)) (hr : ∀ x, RB x = ((rb (x 0).val (x 1).val : ℝ) : EReal))
    (hg : ∀ x, G x = ((g (x 0).val (x 1).val : ℝ) : EReal)) :
    val_main_v210 (F := Ideal) Y RB G = fun x => ((gk y rb g (x 0).val (x 1).val : ℝ) : EReal) := by
  funext x
  obtain ⟨C, a, rfl⟩ : ∃ (C : Fin 4096) (a : Fin 1024), x = ix2 C a := ⟨x 0, x 1, eq_ix2 x⟩
  show _ = ((gk y rb g C.val a.val : ℝ) : EReal)
  have ha : 64 * (a.val / 64) + a.val % 64 = a.val := Nat.div_add_mod _ _
  rw [r210, r196, gather9_eq _ (fun n => ∑ c ∈ range 64, ds y rb g (a.val / 64) (64 * n + c) C.val * y (64 * n + c) a.val * (1 / 8)) _ _ (by simp only; omega)]
  · congr 1
    simp only
    unfold gk
    rw [Finset.sum_mul, show (512 + C.val) / 64 = C.val / 64 + 8 by omega,
      sum_rows_chunks (fun R => ds y rb g (a.val / 64) R C.val * y R a.val * (1 / 8)) C.val C.isLt]
    refine sum_congr rfl fun R _ => ?_
    split
    · rfl
    · rename_i hn; rw [ds_of_not_ok hn, zero_mul, zero_mul]
  · intro n j hj
    simp only at hj
    rw [r168]
    simp only [v166_eq hy hr hg, v38_eq hy, ← EReal.coe_mul, ← Common.coe_sum, ha]
    rw [sum_range]
    refine congrArg _ (sum_congr rfl fun c _ => ?_)
    rw [if_pos (by omega), show 64 * n.val + j.val - 512 = C.val by omega]
    ring

/-- The gradient of the values. -/
theorem ref_v (hy : ∀ x, Y x = ((y (x 0).val (x 1).val : ℝ) : EReal)) (hr : ∀ x, RB x = ((rb (x 0).val (x 1).val : ℝ) : EReal))
    (hg : ∀ x, G x = ((g (x 0).val (x 1).val : ℝ) : EReal)) :
    val_main_v211 (F := Ideal) Y RB G = fun x => ((gv y rb g (x 0).val (x 1).val : ℝ) : EReal) := by
  funext x
  obtain ⟨C, a, rfl⟩ : ∃ (C : Fin 4096) (a : Fin 1024), x = ix2 C a := ⟨x 0, x 1, eq_ix2 x⟩
  show _ = ((gv y rb g C.val a.val : ℝ) : EReal)
  have ha : 64 * (a.val / 64) + a.val % 64 = a.val := Nat.div_add_mod _ _
  rw [r211, r146, gather9_eq _ (fun n => ∑ c ∈ range 64, pr y rb (a.val / 64) (64 * n + c) C.val * g (64 * n + c) a.val) _ _ (by simp only; omega)]
  · congr 1
    simp only
    unfold gv
    rw [show (512 + C.val) / 64 = C.val / 64 + 8 by omega,
      sum_rows_chunks (fun R => pr y rb (a.val / 64) R C.val * g R a.val) C.val C.isLt]
    refine sum_congr rfl fun R _ => ?_
    split
    · rfl
    · rename_i hn; rw [pr_of_not_ok hn, zero_mul]
  · intro n j hj
    simp only at hj
    rw [r120]
    simp only [v117_eq hg, v95_eq hy hr, ← EReal.coe_mul, ← Common.coe_sum, ha]
    rw [sum_range]
    refine congrArg _ (sum_congr rfl fun c _ => ?_)
    rw [if_pos (by omega), show 64 * n.val + j.val - 512 = C.val by omega]
    ring

end Cert.Attn
-- ==== Proof.Attn.Claim.lean ====
/-
  The attention's backward call and the gradient of the plain attention compute one function of finite arguments.
-/
module

public import proofs.«01_k».proof.Proof.Attn.Frames
public import proofs.«01_k».proof.Proof.Attn.Blocks
public import proofs.«01_k».proof.Proof.Attn.Final
public import proofs.«01_k».proof.Proof.Attn.RefB
public import proofs.«01_k».proof.Proof.Gen.Pre_att1_finite

@[expose] public section

set_option maxRecDepth 16384

noncomputable section

open Idealize.ShloMosaic Idealize.ShloMosaic.TcCoe Idealize.SL.Sem

namespace Cert.Attn

/-- Under the precondition the layer's input product, the bias table and the cotangent are arrays of real numbers. -/
theorem finite_args (a : FVec Ideal Cert.Pre_att1_finite.S4096x10256 .f32) (b : FVec Ideal Cert.Pre_att1_finite.S16x320 .f32)
    (d : FVec Ideal Cert.Pre_att1_finite.S4096x1024 .bf16) (h : Cert.Pre_att1_finite.fn (F := Ideal) a b d = fun _ => 1#1) :
    (∃ r : Cert.Pre_att1_finite.S4096x10256.Idx → ℝ, a = fun i => (r i : EReal)) ∧ (∃ r : Cert.Pre_att1_finite.S16x320.Idx → ℝ, b = fun i => (r i : EReal))
    ∧ (∃ r : Cert.Pre_att1_finite.S4096x1024.Idx → ℝ, d = fun i => (r i : EReal)) := by
  have h1 := congrFun h (fun a => a.elim0)
  obtain ⟨h1, hd⟩ := Common.andi_one _ _ _ h1
  obtain ⟨ha, hb⟩ := Common.andi_one _ _ _ h1
  exact ⟨Common.finite_of_reduce _ _ _ _ _ _ ha, Common.finite_of_reduce _ _ _ _ _ _ hb, Common.finite_of_reduce _ _ _ _ _ _ hd⟩

/-- A real matrix as a function of two numbers. -/
theorem as_nat {n k : ℕ} {φ : FTy} (a : FVec Ideal ⟨2, ![n, k]⟩ φ) (h : ∃ r : Shape.Idx ⟨2, ![n, k]⟩ → ℝ, a = fun i => (r i : EReal)) :
    ∃ f : ℕ → ℕ → ℝ, ∀ x, a x = ((f (x 0).val (x 1).val : ℝ) : EReal) := by
  obtain ⟨r, rfl⟩ := h
  refine ⟨fun i j => if h : i < n ∧ j < k then r (ix2 ⟨i, h.1⟩ ⟨j, h.2⟩) else 0, fun x => ?_⟩
  simp only
  rw [dif_pos ⟨(x 0).isLt, (x 1).isLt⟩]
  exact congrArg (fun z => ((r z : ℝ) : EReal)) (eq_ix2 x)

/-- The kernel's run: the three result arrays, and the arguments unchanged. -/
theorem kernel_run (m : (ℓ : Loc Cert.Kernel11Ideal.nD Cert.Kernel11Ideal.τ Cert.Kernel11Ideal.sig) → Buf (Elt Ideal) ℓ) (ρ : Dev Cert.Kernel11Ideal.nD → PrngReg) :
    θ_run (Cert.Kernel11Ideal.defs (F := Ideal)) (onTc (τ := Cert.Kernel11Ideal.τ) (Cert.Kernel11Ideal.main (F := Ideal))) ⟨m, fun _ => 0, ρ⟩ (fun r => ∀ c : Dev Cert.Kernel11Ideal.nD,
      r.2.mem ((c.tc : Thread Cert.Kernel11Ideal.nD Cert.Kernel11Ideal.τ).loc Cert.Kernel11Ideal.main_v76_0) = (Cert.Kernel11Ideal.Hand.dats m 0 c).arrAt 10 Cert.Kernel11Ideal.cfg0.N
      ∧ r.2.mem ((c.tc : Thread Cert.Kernel11Ideal.nD Cert.Kernel11Ideal.τ).loc Cert.Kernel11Ideal.main_v76_1) = (Cert.Kernel11Ideal.Hand.dats m 0 c).arrAt 11 Cert.Kernel11Ideal.cfg0.N
      ∧ r.2.mem ((c.tc : Thread Cert.Kernel11Ideal.nD Cert.Kernel11Ideal.τ).loc Cert.Kernel11Ideal.main_v76_2) = (Cert.Kernel11Ideal.Hand.dats m 0 c).arrAt 12 Cert.Kernel11Ideal.cfg0.N
      ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)) :=
  θ_run_mono (θ_run_and (Cert.Kernel11Ideal.Hand.run_main m ρ) (Cert.Kernel11Ideal.Hand.frame m ρ))
    (fun _ h c => ⟨(h.1 c).1 10, (h.1 c).1 11, (h.1 c).1 12, h.2.1 c⟩)

/-- The reference's run: its three result arrays as functions of its arguments, and the arguments unchanged. -/
theorem ref_run (m : (ℓ : Loc Cert.Reference11Ideal.nD Cert.Reference11Ideal.τ Cert.Reference11Ideal.sig) → Buf (Elt Ideal) ℓ) (ρ : Dev Cert.Reference11Ideal.nD → PrngReg) :
    θ_run (Cert.Reference11Ideal.defs (F := Ideal)) (onTc (τ := Cert.Reference11Ideal.τ) (Cert.Reference11Ideal.main (F := Ideal))) ⟨m, fun _ => 0, ρ⟩ (fun r => ∀ c : Dev Cert.Reference11Ideal.nD,
      r.2.mem ((c.tc : Thread Cert.Reference11Ideal.nD Cert.Reference11Ideal.τ).loc Cert.Reference11Ideal.main_v209)
          = Cert.Reference11Ideal.Read.val_main_v209 (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))
      ∧ r.2.mem ((c.tc : Thread Cert.Reference11Ideal.nD Cert.Reference11Ideal.τ).loc Cert.Reference11Ideal.main_v210)
          = Cert.Reference11Ideal.Read.val_main_v210 (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))
      ∧ r.2.mem ((c.tc : Thread Cert.Reference11Ideal.nD Cert.Reference11Ideal.τ).loc Cert.Reference11Ideal.main_v211)
          = Cert.Reference11Ideal.Read.val_main_v211 (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2))
      ∧ r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)) :=
  θ_run_mono (Cert.Reference11Ideal.Value.run (F := Ideal) m ρ)
    (fun _ h c => ⟨(h c).1.trans (Cert.Reference11Ideal.Read.val_main_v209_eq (F := Ideal) _), (h c).2.1.trans (Cert.Reference11Ideal.Read.val_main_v210_eq (F := Ideal) _),
      (h c).2.2.1.trans (Cert.Reference11Ideal.Read.val_main_v211_eq (F := Ideal) _), (h c).2.2.2⟩)

/-- The kernel and the reference compute one function of finite arguments. -/
theorem algebraic : Cert.algebraic_Kernel11Ideal_Reference11Ideal_pre_att1_finite (hKernel11Ideal := Cert.Kernel11Ideal.Gen.facts) (hReference11Ideal := Cert.Reference11Ideal.Gen.facts)
    (hPre_att1_finite := Cert.Pre_att1_finite.Gen.facts) := by
  intro m ρ m' ρ' hpre hagree
  refine ⟨fun c => (Cert.Kernel11Ideal.Hand.dats m 0 c).arrAt 10 Cert.Kernel11Ideal.cfg0.N, fun c => (Cert.Kernel11Ideal.Hand.dats m 0 c).arrAt 11 Cert.Kernel11Ideal.cfg0.N,
    fun c => (Cert.Kernel11Ideal.Hand.dats m 0 c).arrAt 12 Cert.Kernel11Ideal.cfg0.N, kernel_run m ρ, θ_run_mono (ref_run m' ρ') fun r h c => ?_⟩
  obtain ⟨ha, hb, hd⟩ := finite_args _ _ _ (hpre c)
  obtain ⟨y, hy⟩ := as_nat _ ha
  obtain ⟨rb, hr⟩ := as_nat _ hb
  obtain ⟨g, hg⟩ := as_nat _ hd
  have hy' : ∀ x, m' ((c.tc : Thread Cert.Reference11Ideal.nD Cert.Reference11Ideal.τ).loc Cert.Reference11Ideal.main_arg0) x = ((y (x 0).val (x 1).val : ℝ) : EReal) :=
    fun x => (congrFun (hagree c).1 x).trans (hy x)
  have hr' : ∀ x, m' ((c.tc : Thread Cert.Reference11Ideal.nD Cert.Reference11Ideal.τ).loc Cert.Reference11Ideal.main_arg1) x = ((rb (x 0).val (x 1).val : ℝ) : EReal) :=
    fun x => (congrFun (hagree c).2.1 x).trans (hr x)
  have hg' : ∀ x, m' ((c.tc : Thread Cert.Reference11Ideal.nD Cert.Reference11Ideal.τ).loc Cert.Reference11Ideal.main_arg2) x = ((g (x 0).val (x 1).val : ℝ) : EReal) :=
    fun x => (congrFun (hagree c).2.2 x).trans (hg x)
  have hB := blocks hy hr hg
  exact ⟨(h c).1.trans ((ref_q hy' hr' hg').trans (final_q m c hB).symm), (h c).2.1.trans ((ref_k hy' hr' hg').trans (final_k m c hB).symm),
    (h c).2.2.1.trans ((ref_v hy' hr' hg').trans (final_v m c hB).symm), (h c).2.2.2⟩

end Cert.Attn
-- ==== Proof.Attn.FwdBlock.lean ====
/-
  What the body of the attention computes from blocks of real numbers, one query block and one pair of heads.
-/
module

public import proofs.«01_k».proof.Proof.Attn.HostVal
public import proofs.«01_k».proof.Proof.Gen.Kernel12Ideal.Frame
public import Idealize.ShloMosaic.Lib.Pointwise

@[expose] public section

set_option maxRecDepth 16384

noncomputable section

open Idealize.ShloMosaic Idealize.ShloMosaic.TcCoe Idealize.SL.Sem

namespace Cert.AttnFwd

open Cert.Kernel12Ideal Cert.Kernel12Ideal.Gen
open Cert.Attn (ok sc ex Z pr kr kr_eq Z_pos)
open Finset (range sum_range sum_congr)

/-- The attention's output: the weights against the values. -/
def ov (y rb : ℕ → ℕ → ℝ) (R a : ℕ) : ℝ := ∑ C ∈ range 4096, pr y rb (a / 64) R C * y C (2048 + a)

variable (y rb : ℕ → ℕ → ℝ)

/-- The blocks of query block `i` and pair `p`, as the numbers of the whole arrays. -/
structure Ins (i p : ℕ) (x0 x1 x2 x3 x4 x5 x6 : Vec Ideal S256x128 .bf16) (x7 : Vec Ideal S2x256x768 .f32) : Prop where
  hi : i < 16
  hp : p < 8
  q : ∀ x, x0 x = ((y (256 * i + (x 0).val) (128 * p + (x 1).val) : ℝ) : EReal)
  k0 : ∀ x, x1 x = ((y (256 * (i - 2) + (x 0).val) (1024 + (128 * p + (x 1).val)) : ℝ) : EReal)
  k1 : ∀ x, x2 x = ((y (256 * (i - 1) + (x 0).val) (1024 + (128 * p + (x 1).val)) : ℝ) : EReal)
  k2 : ∀ x, x3 x = ((y (256 * i + (x 0).val) (1024 + (128 * p + (x 1).val)) : ℝ) : EReal)
  v0 : ∀ x, x4 x = ((y (256 * (i - 2) + (x 0).val) (2048 + (128 * p + (x 1).val)) : ℝ) : EReal)
  v1 : ∀ x, x5 x = ((y (256 * (i - 1) + (x 0).val) (2048 + (128 * p + (x 1).val)) : ℝ) : EReal)
  v2 : ∀ x, x6 x = ((y (256 * i + (x 0).val) (2048 + (128 * p + (x 1).val)) : ℝ) : EReal)
  bias : ∀ x, x7 x = if (x 1).val / 64 ≤ (x 2).val / 64 ∧ (x 2).val / 64 ≤ (x 1).val / 64 + 8
    then ((rb (2 * p + (x 0).val) (min ((x 2).val - 256 - (x 1).val) 319) : ℝ) : EReal) else ⊥

/-- The mask's name means minus infinity. -/
theorem mask_eq : Named.named (F := Ideal) (φ := .f32) κ "mask" 4048155338#32 = (⊥ : EReal) := rfl

variable {y rb} {i p : ℕ} {x0 x1 x2 x3 x4 x5 x6 : Vec Ideal S256x128 .bf16} {x7 : Vec Ideal S2x256x768 .f32}

/-! ## The scores -/

/-- The bias table of one head of the pair. -/
def tab (e : Fin 2) (x7 : Vec Ideal S2x256x768 .f32) : Vec Ideal S1x256x768 .f32 := fun x => x7 (ix3 e (x 1) (x 2))

/-- Whether a column of the window is in the sequence. -/
def inSeq (i : ℕ) : IVec S256x768 1 := cmpi .sge (iota .tc S256x768 32 [1] iota_S256x768_d1_w32) (broadcast S256x768 (Scalar.muli (Scalar.subi 2#32 (BitVec.ofNat 32 i)) 256#32))

/-- The masked scores of the pair's first head, and of its second. -/
def scA (i : ℕ) (x0 x1 x2 x3 : Vec Ideal S256x128 .bf16) (x7 : Vec Ideal S2x256x768 .f32) : FVec Ideal S256x768 .f32 :=
  k0_pay6 (k0_pay4 x0 x1 x2 x3 (tab 0 x7)) (inSeq i)
def scB (i : ℕ) (x0 x1 x2 x3 : Vec Ideal S256x128 .bf16) (x7 : Vec Ideal S2x256x768 .f32) : FVec Ideal S256x768 .f32 :=
  k0_pay15 (BitVec.ofNat 32 i) (k0_pay3 x0) k0_pay12 (k0_pay13 x1) k0_pay14 x2 x3 (tab 1 x7)

/-- The columns of the window a row sees. -/
abbrev sees (i q k : ℕ) : Prop := 512 ≤ 256 * i + k ∧ ok (256 * i + q) (256 * i + k - 512)

/-- A masked score. -/
theorem score_eq (h q k : ℕ) :
    (if 512 ≤ 256 * i + k then
        ((∑ d ∈ range 64, y (256 * i + q) (64 * h + d) * y (kr i k) (1024 + (64 * h + d)) : ℝ) : EReal) * ((1 / 8 : ℝ) : EReal)
          + (if q / 64 ≤ k / 64 ∧ k / 64 ≤ q / 64 + 8 then ((rb h (min (k - 256 - q) 319) : ℝ) : EReal) else ⊥) else ⊥)
      = if sees i q k then ((sc y rb h (256 * i + q) (256 * i + k - 512) : ℝ) : EReal) else ⊥ := by
  by_cases h1 : 512 ≤ 256 * i + k
  · by_cases h2 : q / 64 ≤ k / 64 ∧ k / 64 ≤ q / 64 + 8
    · have h3 : ok (256 * i + q) (256 * i + k - 512) := by unfold ok; omega
      rw [if_pos h1, if_pos h2, if_pos ⟨h1, h3⟩, ← EReal.coe_mul, ← EReal.coe_add, sc, kr_eq h1,
        show 256 * i + k - 512 + 256 - (256 * i + q) = k - 256 - q by omega]
    · have h3 : ¬ ok (256 * i + q) (256 * i + k - 512) := by unfold ok; omega
      rw [if_pos h1, if_neg h2, if_neg (fun h => h3 h.2), EReal.add_bot]
  · rw [if_neg h1, if_neg (fun h => h1 h.1)]

theorem scA_eq (hb : Ins y rb i p x0 x1 x2 x3 x4 x5 x6 x7) (q : Fin 256) (k : Fin 768) :
    scA i x0 x1 x2 x3 x7 (ix2 q k) = if sees i q.val k.val then ((sc y rb (2 * p) (256 * i + q.val) (256 * i + k.val - 512) : ℝ) : EReal) else ⊥ := by
  pointwise [scA, k0_pay6, k0_pay4, k0_pay3, inSeq, tab]
  rw [Attn.mask_cmp i hb.hi k.val k.isLt, Attn.eighth_f32, mask_eq]
  refine Eq.trans ?_ (score_eq (2 * p) q.val k.val)
  refine if_congr Iff.rfl (congrArg₂ (· + ·) (congrArg₂ (· * ·) ?_ rfl) ?_) rfl
  · refine (Attn.catA i _ (fun x => y (256 * i + q.val) (128 * p + x)) (fun R x => y R (1024 + (128 * p + x))) x1 x2 x3 k (fun x => hb.q (ix2 q x)) hb.k0 hb.k1 hb.k2).trans ?_
    rw [show 64 * (2 * p) = 128 * p by omega]
  · exact hb.bias _

theorem scB_eq (hb : Ins y rb i p x0 x1 x2 x3 x4 x5 x6 x7) (q : Fin 256) (k : Fin 768) :
    scB i x0 x1 x2 x3 x7 (ix2 q k) = if sees i q.val k.val then ((sc y rb (2 * p + 1) (256 * i + q.val) (256 * i + k.val - 512) : ℝ) : EReal) else ⊥ := by
  pointwise [scB, k0_pay15, k0_pay3, k0_pay12, k0_pay13, k0_pay14, tab]
  rw [Attn.mask_cmp i hb.hi k.val k.isLt, Attn.eighth_f32, mask_eq]
  refine Eq.trans ?_ (score_eq (2 * p + 1) q.val k.val)
  refine if_congr Iff.rfl (congrArg₂ (· + ·) (congrArg₂ (· * ·) ?_ rfl) ?_) rfl
  · refine (Attn.catB i _ (fun x => y (256 * i + q.val) (128 * p + x)) (fun R x => y R (1024 + (128 * p + x))) x1 x2 x3 k (fun x => hb.q (ix2 q x)) hb.k0 hb.k1 hb.k2).trans ?_
    simp only [show ∀ d, 64 * (2 * p + 1) + d = 128 * p + (64 + d) by omega]
  · exact hb.bias _

/-! ## A row of scores: its maximum, its exponentials, their sum -/

section rows

variable (s : FVec Ideal S256x768 .f32)

/-- The rows' maxima. -/
def mx : FVec Ideal S256x1 .f32 := shapeCast S256x1 (multiReduction .maximumf [1] S256 s 0xFF800000#32 reduces_S256x768_S256 (.inl rfl) rfl) shapeCasts_S256_S256x1
/-- The exponentials less the rows' maxima. -/
def es : FVec Ideal S256x768 .f32 := exp (subf s (broadcastTo S256x768 (mx s) broadcasts_S256x1_S256x768))
/-- Their sums. -/
def zs : FVec Ideal S256x1 .f32 := shapeCast S256x1 (multiReduction .add [1] S256 (es s) 0x00000000#32 reduces_S256x768_S256 (.inl rfl) rfl) shapeCasts_S256_S256x1
/-- The rows' log-sums. -/
def ls : FVec Ideal S1x256x1 .f32 := shapeCast S1x256x1 (addf (mx s) (log (zs s))) shapeCasts_S256x1_S1x256x1

theorem mx_at (q : Fin 256) : mx s (ix2 q 0) = Finset.fold max (⊥ : EReal) (fun k => s (ix2 q k)) Finset.univ := by
  pointwise [mx]
  rw [Attn.minf_f32]

theorem es_at (q : Fin 256) (k : Fin 768) : es s (ix2 q k) = Ideal.exp (s (ix2 q k) - mx s (ix2 q 0)) := by
  unfold es
  generalize mx s = u
  pointwise []

theorem zs_at (q : Fin 256) : zs s (ix2 q 0) = ∑ k, es s (ix2 q k) := by
  unfold zs
  generalize es s = u
  pointwise []

theorem ls_at (q : Fin 256) : ls s (ix3 0 q 0) = mx s (ix2 q 0) + Ideal.log (zs s (ix2 q 0)) := by
  unfold ls
  generalize mx s = u
  generalize zs s = v
  pointwise []

/-- The exponential of a seen score. -/
def E (y rb : ℕ → ℕ → ℝ) (h i q k : ℕ) : ℝ := if sees i q k then Real.exp (sc y rb h (256 * i + q) (256 * i + k - 512)) else 0

/-- The exponentials against numbers at the window's rows. -/
theorem sum_E (h i q : ℕ) (F : ℕ → ℝ) (hi : i < 16) (hq : q < 256) :
    ∑ k ∈ range 768, E y rb h i q k * F (kr i k) = ∑ C ∈ range 4096, ex y rb h (256 * i + q) C * F C := by
  refine Eq.trans (sum_congr rfl fun k _ => ?_) ((Attn.sum_blocks (fun C => Real.exp (sc y rb h (256 * i + q) C) * F C) i q hi hq).trans
    (sum_congr rfl fun C _ => ?_))
  · unfold E
    split_ifs with hc
    · rw [kr_eq hc.1]
    · rw [zero_mul]
  · unfold ex
    split_ifs
    · rfl
    · rw [zero_mul]

/-- A row of scores: the exponentials, their sum and its logarithm. -/
theorem row (h i : ℕ) (hi : i < 16) (q : Fin 256)
    (hs : ∀ k : Fin 768, s (ix2 q k) = if sees i q.val k.val then ((sc y rb h (256 * i + q.val) (256 * i + k.val - 512) : ℝ) : EReal) else ⊥) :
    ∃ μ : ℝ, (∀ k : Fin 768, es s (ix2 q k) = ((Real.exp (-μ) * E y rb h i q.val k.val : ℝ) : EReal))
      ∧ zs s (ix2 q 0) = ((Real.exp (-μ) * Z y rb h (256 * i + q.val) : ℝ) : EReal)
      ∧ ls s (ix3 0 q 0) = ((Real.log (Z y rb h (256 * i + q.val)) : ℝ) : EReal) := by
  have hp : ∃ k : Fin 768, sees i q.val k.val := ⟨⟨512 + q.val, by omega⟩, by simp only; omega, by unfold ok; simp only; omega⟩
  obtain ⟨μ, hμ⟩ := Attn.row_max (fun k : Fin 768 => sees i q.val k.val) (fun k => sc y rb h (256 * i + q.val) (256 * i + k.val - 512)) hp
  have hm : mx s (ix2 q 0) = (μ : EReal) := by rw [mx_at]; simp only [hs]; exact hμ
  have hZ : (∑ k : Fin 768, (if sees i q.val k.val then Real.exp (sc y rb h (256 * i + q.val) (256 * i + k.val - 512)) else 0)) = Z y rb h (256 * i + q.val) := by
    have := sum_E (y := y) (rb := rb) h i q.val (fun _ => 1) hi q.isLt
    simp only [mul_one] at this
    refine Eq.trans ?_ this
    rw [sum_range]
    rfl
  have he : ∀ k : Fin 768, es s (ix2 q k) = ((Real.exp (-μ) * E y rb h i q.val k.val : ℝ) : EReal) := fun k => by
    rw [es_at, hm, hs]
    exact Attn.exp_term (fun k : Fin 768 => sees i q.val k.val) (fun k => sc y rb h (256 * i + q.val) (256 * i + k.val - 512)) μ k
  have hz : zs s (ix2 q 0) = ((Real.exp (-μ) * Z y rb h (256 * i + q.val) : ℝ) : EReal) := by
    rw [zs_at, ← hZ, Finset.mul_sum, Common.coe_sum]
    exact sum_congr rfl fun k _ => he k
  refine ⟨μ, he, hz, ?_⟩
  have hZp := Z_pos (y := y) (rb := rb) (h := h) (R := 256 * i + q.val) (by omega)
  rw [ls_at, hm, hz, Ideal.log_coe, if_neg (not_le.mpr (mul_pos (Real.exp_pos _) hZp)), ← EReal.coe_add,
    Real.log_mul (Real.exp_pos _).ne' hZp.ne', Real.log_exp]
  refine congrArg Real.toEReal ?_
  ring

/-- The exponentials against the window's values, over their sum. -/
theorem quot (hb : Ins y rb i p x0 x1 x2 x3 x4 x5 x6 x7) (h : ℕ) (q : Fin 256) (z : Fin 128)
    (hs : ∀ k : Fin 768, s (ix2 q k) = if sees i q.val k.val then ((sc y rb h (256 * i + q.val) (256 * i + k.val - 512) : ℝ) : EReal) else ⊥) :
    Ideal.div ((∑ k : Fin 256, es s (ix2 q ⟨k.val, by omega⟩) * x4 (ix2 k z)) + (∑ k : Fin 256, es s (ix2 q ⟨256 + k.val, by omega⟩) * x5 (ix2 k z))
        + (∑ k : Fin 256, es s (ix2 q ⟨512 + k.val, by omega⟩) * x6 (ix2 k z))) (zs s (ix2 q 0))
      = ((∑ C ∈ range 4096, pr y rb h (256 * i + q.val) C * y C (2048 + (128 * p + z.val)) : ℝ) : EReal) := by
  obtain ⟨μ, he, hz, -⟩ := row s h i hb.hi q hs
  have hZ := Z_pos (y := y) (rb := rb) (h := h) (R := 256 * i + q.val) (by have := hb.hi; omega)
  have hμ := Real.exp_pos (-μ)
  rw [hz]
  simp only [he, hb.v0, hb.v1, hb.v2, ← EReal.coe_mul, ← EReal.coe_add, ← Common.coe_sum]
  rw [Ideal.div_coe (by positivity), ← EReal.coe_mul, mul_one_div]
  refine congrArg Real.toEReal ?_
  have e0 : ∀ k : Fin 256, kr i k.val = 256 * (i - 2) + k.val := fun k => by unfold kr; omega
  have e1 : ∀ k : Fin 256, kr i (256 + k.val) = 256 * (i - 1) + k.val := fun k => by unfold kr; omega
  have e2 : ∀ k : Fin 256, kr i (512 + k.val) = 256 * i + k.val := fun k => by unfold kr; omega
  have e := Attn.sum_three (fun k => Real.exp (-μ) * (E y rb h i q.val k * y (kr i k) (2048 + (128 * p + z.val))))
  simp only [e0, e1, e2] at e
  simp only [mul_assoc, ix2, Matrix.cons_val_zero, Matrix.cons_val_one] at e ⊢
  refine (congrArg (· / _) e).trans ?_
  rw [← Finset.mul_sum, sum_E h i q.val (fun C => y C (2048 + (128 * p + z.val))) hb.hi q.isLt]
  unfold pr
  rw [mul_div_mul_left _ _ hμ.ne', Finset.sum_div]
  exact sum_congr rfl fun C _ => by ring

end rows

end Cert.AttnFwd
-- ==== Proof.Attn.FwdRef.lean ====
/-
  The attention as the reference computes it: its output and its row log-sums, as numbers.
-/
module

public import proofs.«01_k».proof.Proof.Attn.RefB
public import proofs.«01_k».proof.Proof.Attn.FwdBlock
public import proofs.«01_k».proof.Proof.Gen.Reference12Ideal.Read

@[expose] public section

set_option maxRecDepth 16384

noncomputable section

open Idealize.ShloMosaic Idealize.ShloMosaic.TcCoe Idealize.SL.Sem

namespace Cert.AttnFwd

open Cert.Reference12Ideal Cert.Reference12Ideal.Gen Cert.Reference12Ideal.Read
open Cert.Attn (ok sc ex Z pr Z_pos)
open Finset (range sum_range sum_congr)

variable {Y : FVec Ideal S4096x10256 .f32} {RB : FVec Ideal S16x320 .f32} {y rb : ℕ → ℕ → ℝ}

/-- The scores, the weights and the band's values are those of the gradient's reference. -/
theorem same_scores : val_main_v68 (F := Ideal) Y RB = Cert.Reference11Ideal.Read.val_main_v70_0 (F := Ideal) Y RB := rfl
theorem same_weights : val_main_v144 (F := Ideal) Y RB = Cert.Reference11Ideal.Read.val_main_v95 (F := Ideal) Y RB := rfl
theorem same_values : val_main_v155 (F := Ideal) Y = Cert.Reference11Ideal.Read.val_main_v109 (F := Ideal) Y := rfl

theorem r160 (R : Fin 4096) (a : Fin 1024) : val_main_v160 (F := Ideal) Y RB (ix2 R a)
    = ∑ x : Fin 576, val_main_v155 (F := Ideal) Y (ix5 0 ⟨R.val / 64, by omega⟩ x ⟨a.val / 64, by omega⟩ ⟨a.val % 64, by omega⟩)
      * val_main_v144 (F := Ideal) Y RB (ix5 0 ⟨R.val / 64, by omega⟩ ⟨a.val / 64, by omega⟩ ⟨R.val % 64, by omega⟩ x) := by
  pointwise [val_main_v160, val_main_v159, val_main_v158, val_main_v157, val_main_v156]

theorem r163 (h : Fin 16) (R : Fin 4096) : val_main_v163 (F := Ideal) Y RB (ix3 h R 0)
    = val_main_v77 (F := Ideal) Y RB (ix5 0 ⟨R.val / 64, by omega⟩ h ⟨R.val % 64, by omega⟩ 0) := by
  pointwise [val_main_v163, val_main_v162, val_main_v161]

theorem r69 (n c : Fin 64) (h : Fin 16) : val_main_v69 (F := Ideal) Y RB (ix4 0 n h c)
    = Finset.fold max (⊥ : EReal) (fun x => val_main_v68 (F := Ideal) Y RB (ix5 0 n h c x)) Finset.univ :=
  Cert.Attn.max_at _ n c h

theorem r73 (n c : Fin 64) (h : Fin 16) (j : Fin 576) : val_main_v73 (F := Ideal) Y RB (ix5 0 n h c j)
    = Ideal.exp (val_main_v68 (F := Ideal) Y RB (ix5 0 n h c j) - val_main_v69 (F := Ideal) Y RB (ix4 0 n h c)) := by
  unfold val_main_v73 val_main_v72 val_main_v71 val_main_v70
  generalize val_main_v68 (F := Ideal) Y RB = s
  generalize val_main_v69 (F := Ideal) Y RB = u
  pointwise []

theorem add_log5 (a b : FVec Ideal S1x64x16x64 .f32) (n c : Fin 64) (h : Fin 16) :
    (addf (broadcastInDim S1x64x16x64x1 ![0, 1, 2, 3] bcast_S1x64x16x64_S1x64x16x64x1_0_1_2_3 a)
      (Host.log (broadcastInDim S1x64x16x64x1 ![0, 1, 2, 3] bcast_S1x64x16x64_S1x64x16x64x1_0_1_2_3 b)) : FVec Ideal S1x64x16x64x1 .f32) (ix5 0 n h c 0)
      = a (ix4 0 n h c) + Ideal.log (b (ix4 0 n h c)) := by
  pointwise []

theorem sum5 (s : FVec Ideal S1x64x16x64x576 .f32) (n c : Fin 64) (h : Fin 16) :
    (Host.reduceAdd s (constant S_ .f32 0x00000000#32 : FVec Ideal S_ .f32) reducesTo_S1x64x16x64x576_S1x64x16x64_d4 h_S_ : FVec Ideal S1x64x16x64 .f32) (ix4 0 n h c)
      = ∑ x : Fin 576, s (ix5 0 n h c x) := by
  pointwise []

theorem r77 (n c : Fin 64) (h : Fin 16) : val_main_v77 (F := Ideal) Y RB (ix5 0 n h c 0)
    = val_main_v69 (F := Ideal) Y RB (ix4 0 n h c) + Ideal.log (∑ x : Fin 576, val_main_v73 (F := Ideal) Y RB (ix5 0 n h c x)) := by
  refine (add_log5 (val_main_v69 (F := Ideal) Y RB) (val_main_v74 (F := Ideal) Y RB) n c h).trans ?_
  exact congrArg (fun z => val_main_v69 (F := Ideal) Y RB (ix4 0 n h c) + Ideal.log z) (sum5 (val_main_v73 (F := Ideal) Y RB) n c h)

/-- The reference's output. -/
theorem ref_o (hy : ∀ x, Y x = ((y (x 0).val (x 1).val : ℝ) : EReal)) (hr : ∀ x, RB x = ((rb (x 0).val (x 1).val : ℝ) : EReal)) :
    val_main_v160 (F := Ideal) Y RB = fun x => ((ov y rb (x 0).val (x 1).val : ℝ) : EReal) := by
  funext x
  obtain ⟨R, a, rfl⟩ : ∃ (R : Fin 4096) (a : Fin 1024), x = ix2 R a := ⟨x 0, x 1, eq_ix2 x⟩
  show _ = ((ov y rb R.val a.val : ℝ) : EReal)
  rw [r160, same_weights, same_values]
  have e := fun j => Cert.Attn.v95_eq hy hr ⟨R.val / 64, by omega⟩ ⟨R.val % 64, by omega⟩ ⟨a.val / 64, by omega⟩ j
  have e' := fun j => Cert.Attn.v109_eq hy ⟨R.val / 64, by omega⟩ j ⟨a.val / 64, by omega⟩ ⟨a.val % 64, by omega⟩
  have hR : 64 * (R.val / 64) + R.val % 64 = R.val := Nat.div_add_mod _ _
  have ha : 64 * (a.val / 64) + a.val % 64 = a.val := Nat.div_add_mod _ _
  simp only [hR, ha] at e e'
  refine (sum_congr rfl fun j _ => congrArg₂ (· * ·) (e' j) (e j)).trans ?_
  simp only [← EReal.coe_mul, ← Common.coe_sum]
  refine congrArg Real.toEReal ?_
  unfold ov
  have h := Cert.Attn.sum_chunks (fun C => pr y rb (a.val / 64) R.val C * y C (2048 + a.val)) (R.val / 64) (R.val % 64) (by omega) (by omega)
  rw [hR, sum_range] at h
  refine Eq.trans (sum_congr rfl fun j _ => ?_) (h.trans (sum_congr rfl fun C _ => ?_))
  · split
    · ring
    · simp
  · split
    · rfl
    · rename_i hn; rw [Cert.Attn.pr_of_not_ok hn, zero_mul]

/-- The reference's row log-sums. -/
theorem ref_l (hy : ∀ x, Y x = ((y (x 0).val (x 1).val : ℝ) : EReal)) (hr : ∀ x, RB x = ((rb (x 0).val (x 1).val : ℝ) : EReal)) :
    val_main_v163 (F := Ideal) Y RB = fun x => ((Real.log (Z y rb (x 0).val (x 1).val) : ℝ) : EReal) := by
  funext x
  obtain ⟨h, R, z, rfl⟩ : ∃ (h : Fin 16) (R : Fin 4096) (z : Fin 1), x = ix3 h R z := ⟨x 0, x 1, x 2, eq_ix3 x⟩
  obtain rfl : z = 0 := Subsingleton.elim _ _
  show _ = ((Real.log (Z y rb h.val R.val) : ℝ) : EReal)
  rw [r163, r77]
  simp only [r73]
  have e := fun j => Cert.Attn.v70_eq hy hr ⟨R.val / 64, by omega⟩ ⟨R.val % 64, by omega⟩ h j
  have hR : 64 * (R.val / 64) + R.val % 64 = R.val := Nat.div_add_mod _ _
  simp only [hR] at e
  rw [← same_scores] at e
  have hp : ∃ k : Fin 576, 512 ≤ 64 * (R.val / 64) + k.val := ⟨⟨512, by omega⟩, by simp only; omega⟩
  obtain ⟨μ, hμ⟩ := Cert.Attn.row_max (fun k : Fin 576 => 512 ≤ 64 * (R.val / 64) + k.val)
    (fun k => sc y rb h.val R.val (64 * (R.val / 64) + k.val - 512)) hp
  have h69 : val_main_v69 (F := Ideal) Y RB (ix4 0 ⟨R.val / 64, by omega⟩ h ⟨R.val % 64, by omega⟩) = (μ : EReal) := by rw [r69]; simp only [e]; exact hμ
  rw [h69]
  simp only [e]
  refine (Cert.Attn.log_sum (fun k : Fin 576 => 512 ≤ 64 * (R.val / 64) + k.val) (fun k => sc y rb h.val R.val (64 * (R.val / 64) + k.val - 512)) hp μ).trans ?_
  refine congrArg (fun z : ℝ => ((Real.log z : ℝ) : EReal)) ?_
  unfold Z ex
  have hs := Cert.Attn.sum_chunks (fun C => Real.exp (sc y rb h.val R.val C)) (R.val / 64) (R.val % 64) (by omega) (by omega)
  rw [hR, sum_range] at hs
  exact hs

end Cert.AttnFwd
-- ==== Proof.Attn.FwdIn.lean ====
/-
  The blocks the attention reads at a grid point, as numbers.
-/
module

public import proofs.«01_k».proof.Proof.Attn.FwdBlock
public import Idealize.ShloMosaic.Lib.Pipeline.ValueKit
public import Idealize.ShloMosaic.Lib.Claim

@[expose] public section

set_option maxRecDepth 65536

noncomputable section

open Idealize.ShloMosaic Idealize.ShloMosaic.TcCoe Idealize.SL.Sem
open Idealize.ShloMosaic.Pipeline (Dat Cfg Window)

namespace Cert.AttnFwd

open Cert.Kernel12Ideal Cert.Kernel12Ideal.Gen
open Cert.Attn (ok sc ex Z pr kr)
open Finset (range sum_range sum_congr)

variable (m : (ℓ : Loc nD τ sig) → Buf (Elt Ideal) ℓ) (c : Dev nD)

/-! ## The arrays the kernel reads -/

section stretches

variable (σ : Valuation τ sig (Elt Ideal))

theorem st_v5 : (StableHlo.after hostOps0 σ (Proc.devRef .tc main_v5) : FVec Ideal S4096x10368 .bf16) = Attn.h5 (σ (Proc.devRef .tc main_arg0)) := (rfl)
theorem st_v35 : (StableHlo.after hostOps0 σ (Proc.devRef .tc main_v35) : IVec S1x256x768 1) = Attn.h35 := (rfl)
theorem st_v17 : (StableHlo.after hostOps0 σ (Proc.devRef .tc main_v17) : FVec Ideal S16x256x768 .f32) = Attn.h17 (σ (Proc.devRef .tc main_arg1)) := (rfl)
theorem st_cst2 : (StableHlo.after hostOps0 σ (Proc.devRef .tc main_cst_2) : FVec Ideal S_ .f32) = (constant S_ .f32 0xFF800000#32 : FVec Ideal S_ .f32) := (rfl)
theorem st1_v5 : (StableHlo.after hostOps0_1 σ (Proc.devRef .tc main_v5) : FVec Ideal S4096x10368 .bf16) = σ (Proc.devRef .tc main_v5) := (rfl)
theorem st1_v36 : (StableHlo.after hostOps0_1 σ (Proc.devRef .tc main_v36) : FVec Ideal S16x256x768 .f32)
    = select (broadcastInDim S16x256x768 ![0, 1, 2] bcast_S1x256x768_S16x256x768_0_1_2 (σ (Proc.devRef .tc main_v35) : IVec S1x256x768 1)) (σ (Proc.devRef .tc main_v17) : FVec Ideal S16x256x768 .f32)
        (broadcastInDim S16x256x768 ![] bcast_S_S16x256x768 (σ (Proc.devRef .tc main_cst_2) : FVec Ideal S_ .f32)) := (rfl)

end stretches

theorem V_cut (r : Ref sig .tc) : V m c r = StableHlo.after hostOps0_1 (StableHlo.after hostOps0 fun b => m (c, b)) (Proc.devRef .tc r) := by
  unfold V
  have after_cat : ∀ (l l' : List (HloOp τ sig (Elt Ideal))) (σ : Valuation τ sig (Elt Ideal)), StableHlo.after (l ++ l') σ = StableHlo.after l' (StableHlo.after l σ) := by
    intro l l'
    induction l with
    | nil => intro σ; rfl
    | cons o l ih => intro σ; exact ih _
  rw [List.flatten_cons, List.flatten_cons, List.flatten_nil, List.append_nil, after_cat]

theorem V_v5 : (V m c main_v5 : FVec Ideal S4096x10368 .bf16) = Attn.h5 (m ((c : Thread nD τ).loc main_arg0)) := by
  refine (V_cut m c main_v5).trans ?_
  exact (st1_v5 _).trans (st_v5 _)

theorem V_v36 : (V m c main_v36 : FVec Ideal S16x256x768 .f32) = Attn.h36 (m ((c : Thread nD τ).loc main_arg1)) := by
  refine (V_cut m c main_v36).trans ?_
  refine (st1_v36 _).trans ?_
  rw [st_v35, st_v17, st_cst2]
  rfl

/-! ## The blocks at a grid point -/

/-- Where the blocks lie. -/
theorem idx_in : ∀ t : Fin cfg0.N, win0_0.index t = ![t.val % 16, t.val / 16] ∧ win0_1.index t = ![t.val % 16 - 2, 8 + t.val / 16] ∧ win0_2.index t = ![t.val % 16 - 1, 8 + t.val / 16]
    ∧ win0_3.index t = ![t.val % 16, 8 + t.val / 16] ∧ win0_4.index t = ![t.val % 16 - 2, 16 + t.val / 16] ∧ win0_5.index t = ![t.val % 16 - 1, 16 + t.val / 16] ∧ win0_6.index t = ![t.val % 16, 16 + t.val / 16]
    ∧ win0_7.index t = ![t.val / 16, 0, 0] ∧ win0_8.index t = ![t.val % 16, t.val / 16] ∧ win0_9.index t = ![t.val / 16, t.val % 16, 0] ∧ (grid0.coords t 1).val = t.val % 16 :=
  (by decide +kernel : ∀ t : Fin grid0.N, _)

variable {m c} {y rb : ℕ → ℕ → ℝ}

section reads

variable (hy : ∀ x, (m ((c : Thread nD τ).loc main_arg0) : FVec Ideal S4096x10256 .f32) x = ((y (x 0).val (x 1).val : ℝ) : EReal))
variable (hr : ∀ x, (m ((c : Thread nD τ).loc main_arg1) : FVec Ideal S16x320 .f32) x = ((rb (x 0).val (x 1).val : ℝ) : EReal))

include hy in
/-- A block of the projections, at rows from `256 a` and columns from `128 b`. -/
theorem proj_at (z : S4096x10368.Idx) (R C : ℕ) (hR : (z 0).val = R) (hC : (z 1).val = C) (hb : C < 6144) :
    (V m c main_v5 : FVec Ideal S4096x10368 .bf16) z = ((y R C : ℝ) : EReal) := by
  subst hR hC
  rw [V_v5]
  exact (congrArg _ (eq_ix2 z)).trans (Attn.h5_at hy (z 0) (z 1) hb)

include hr in
theorem in_7 (t : Fin cfg0.N) (x : S2x256x768.Idx) :
    (iblk m c 7 t : Vec Ideal S2x256x768 .f32) x = if (x 1).val / 64 ≤ (x 2).val / 64 ∧ (x 2).val / 64 ≤ (x 1).val / 64 + 8
      then ((rb (2 * (t.val / 16) + (x 0).val) (min ((x 2).val - 256 - (x 1).val) 319) : ℝ) : EReal) else ⊥ := by
  have ht : t.val < 128 := t.isLt
  have h0 : (x 0).val < 2 := (x 0).isLt
  have e := Attn.h36_at hr ⟨2 * (t.val / 16) + (x 0).val, by omega⟩ (x 1) (x 2)
  rw [← V_v36] at e
  refine Eq.trans (congrArg (V m c main_v36 : FVec Ideal S16x256x768 .f32) (funext fun d => Fin.ext ?_)) e
  fin_cases d <;> blk_simp [(idx_in t).2.2.2.2.2.2.2.1] <;> simp [ix3] <;> omega

section blocks

include hy

theorem in_0 (t : Fin cfg0.N) (x : S256x128.Idx) : (iblk m c 0 t : Vec Ideal S256x128 .bf16) x = ((y (256 * (t.val % 16) + (x 0).val) (128 * (t.val / 16) + (x 1).val) : ℝ) : EReal) := by
  have ht : t.val < 128 := t.isLt
  have h1 : (x 1).val < 128 := (x 1).isLt
  exact proj_at hy (((View.whole main_v5).slice (win0_0.rect t)).emb x) _ _ (by blk_simp [(idx_in t).1]; omega) (by blk_simp [(idx_in t).1]; omega) (by omega)
theorem in_1 (t : Fin cfg0.N) (x : S256x128.Idx) : (iblk m c 1 t : Vec Ideal S256x128 .bf16) x = ((y (256 * (t.val % 16 - 2) + (x 0).val) (1024 + (128 * (t.val / 16) + (x 1).val)) : ℝ) : EReal) := by
  have ht : t.val < 128 := t.isLt
  have h1 : (x 1).val < 128 := (x 1).isLt
  exact proj_at hy (((View.whole main_v5).slice (win0_1.rect t)).emb x) _ _ (by blk_simp [(idx_in t).2.1]; omega) (by blk_simp [(idx_in t).2.1]; omega) (by omega)
theorem in_2 (t : Fin cfg0.N) (x : S256x128.Idx) : (iblk m c 2 t : Vec Ideal S256x128 .bf16) x = ((y (256 * (t.val % 16 - 1) + (x 0).val) (1024 + (128 * (t.val / 16) + (x 1).val)) : ℝ) : EReal) := by
  have ht : t.val < 128 := t.isLt
  have h1 : (x 1).val < 128 := (x 1).isLt
  exact proj_at hy (((View.whole main_v5).slice (win0_2.rect t)).emb x) _ _ (by blk_simp [(idx_in t).2.2.1]; omega) (by blk_simp [(idx_in t).2.2.1]; omega) (by omega)
theorem in_3 (t : Fin cfg0.N) (x : S256x128.Idx) : (iblk m c 3 t : Vec Ideal S256x128 .bf16) x = ((y (256 * (t.val % 16) + (x 0).val) (1024 + (128 * (t.val / 16) + (x 1).val)) : ℝ) : EReal) := by
  have ht : t.val < 128 := t.isLt
  have h1 : (x 1).val < 128 := (x 1).isLt
  exact proj_at hy (((View.whole main_v5).slice (win0_3.rect t)).emb x) _ _ (by blk_simp [(idx_in t).2.2.2.1]; omega) (by blk_simp [(idx_in t).2.2.2.1]; omega) (by omega)
theorem in_4 (t : Fin cfg0.N) (x : S256x128.Idx) : (iblk m c 4 t : Vec Ideal S256x128 .bf16) x = ((y (256 * (t.val % 16 - 2) + (x 0).val) (2048 + (128 * (t.val / 16) + (x 1).val)) : ℝ) : EReal) := by
  have ht : t.val < 128 := t.isLt
  have h1 : (x 1).val < 128 := (x 1).isLt
  exact proj_at hy (((View.whole main_v5).slice (win0_4.rect t)).emb x) _ _ (by blk_simp [(idx_in t).2.2.2.2.1]; omega) (by blk_simp [(idx_in t).2.2.2.2.1]; omega) (by omega)
theorem in_5 (t : Fin cfg0.N) (x : S256x128.Idx) : (iblk m c 5 t : Vec Ideal S256x128 .bf16) x = ((y (256 * (t.val % 16 - 1) + (x 0).val) (2048 + (128 * (t.val / 16) + (x 1).val)) : ℝ) : EReal) := by
  have ht : t.val < 128 := t.isLt
  have h1 : (x 1).val < 128 := (x 1).isLt
  exact proj_at hy (((View.whole main_v5).slice (win0_5.rect t)).emb x) _ _ (by blk_simp [(idx_in t).2.2.2.2.2.1]; omega) (by blk_simp [(idx_in t).2.2.2.2.2.1]; omega) (by omega)
theorem in_6 (t : Fin cfg0.N) (x : S256x128.Idx) : (iblk m c 6 t : Vec Ideal S256x128 .bf16) x = ((y (256 * (t.val % 16) + (x 0).val) (2048 + (128 * (t.val / 16) + (x 1).val)) : ℝ) : EReal) := by
  have ht : t.val < 128 := t.isLt
  have h1 : (x 1).val < 128 := (x 1).isLt
  exact proj_at hy (((View.whole main_v5).slice (win0_6.rect t)).emb x) _ _ (by blk_simp [(idx_in t).2.2.2.2.2.2.1]; omega) (by blk_simp [(idx_in t).2.2.2.2.2.2.1]; omega) (by omega)

end blocks

include hy hr in
/-- At every grid point the blocks are the numbers of the whole arrays. -/
theorem ins (t : Fin cfg0.N) : Ins y rb (t.val % 16) (t.val / 16) (iblk m c 0 t) (iblk m c 1 t) (iblk m c 2 t) (iblk m c 3 t) (iblk m c 4 t) (iblk m c 5 t) (iblk m c 6 t) (iblk m c 7 t) :=
  have ht : t.val < 128 := t.isLt
  ⟨Nat.mod_lt _ (by norm_num), by omega, in_0 hy t, in_1 hy t, in_2 hy t, in_3 hy t, in_4 hy t, in_5 hy t, in_6 hy t, in_7 hr t⟩

end reads

end Cert.AttnFwd
-- ==== Proof.Attn.FwdFinal.lean ====
/-
  The two arrays the attention leaves: its output and its row log-sums, as numbers.
-/
module

public import proofs.«01_k».proof.Proof.Attn.FwdIn

@[expose] public section

set_option maxRecDepth 65536

noncomputable section

open Idealize.ShloMosaic Idealize.ShloMosaic.TcCoe Idealize.SL.Sem
open Idealize.ShloMosaic.Pipeline (Dat Cfg Window)

namespace Cert.AttnFwd

open Cert.Kernel12Ideal Cert.Kernel12Ideal.Gen
open Cert.Attn (Z pr)
open Finset (range)

/-! ## What the body stores, in terms of the two heads' scores -/

section body

variable (s : FVec Ideal S256x768 .f32) (x0 x1 x2 x3 x4 x5 x6 : Vec Ideal S256x128 .bf16) (x7 : Vec Ideal S2x256x768 .f32) (i : grid0.Coords)

theorem ld_whole (x : Vec Ideal S256x128 .bf16) : View.ld x r0_0 = x := by
  funext j
  refine congrArg x (funext fun d => Fin.ext ?_)
  fin_cases d <;> simp [Rect.unit]
theorem ld_tab0 : View.ld x7 r0_1 = tab 0 x7 := by
  funext j
  have h : (j 0).val < 1 := (j 0).isLt
  refine congrArg x7 (funext fun d => Fin.ext ?_)
  fin_cases d <;> simp [Rect.unit, ix3] <;> omega
theorem ld_tab1 : View.ld x7 r0_3 = tab 1 x7 := by
  funext j
  have h : (j 0).val < 1 := (j 0).isLt
  refine congrArg x7 (funext fun d => Fin.ext ?_)
  fin_cases d <;> simp [Rect.unit, ix3] <;> omega

/-- The exponentials against the window's values, over their sums. -/
def qt (x4 x5 x6 : Vec Ideal S256x128 .bf16) : FVec Ideal S256x128 .f32 :=
  divf (addf (addf (addf (broadcast S256x128 (Scalar.ofBits .f32 0x00000000#32))
    (matmul (F := Ideal) (φ₁ := .bf16) (φ₂ := .bf16) dot_S256x256_S256x128_S256x128_1_0_0_1_n_n none (extractStridedSlice S256x256 ![0, 0] (truncf .bf16 (es s) bitsLt_bf16_f32) slices_S256x768_o0_0_S256x256) (shapeCast S256x128 x4 shapeCasts_S256x128_S256x128) (constant S256x128 .f32 0x00000000#32)))
    (matmul (F := Ideal) (φ₁ := .bf16) (φ₂ := .bf16) dot_S256x256_S256x128_S256x128_1_0_0_1_n_n none (extractStridedSlice S256x256 ![0, 256] (truncf .bf16 (es s) bitsLt_bf16_f32) slices_S256x768_o0_256_S256x256) (shapeCast S256x128 x5 shapeCasts_S256x128_S256x128) (constant S256x128 .f32 0x00000000#32)))
    (matmul (F := Ideal) (φ₁ := .bf16) (φ₂ := .bf16) dot_S256x256_S256x128_S256x128_1_0_0_1_n_n none (extractStridedSlice S256x256 ![0, 512] (truncf .bf16 (es s) bitsLt_bf16_f32) slices_S256x768_o0_512_S256x256) (shapeCast S256x128 x6 shapeCasts_S256x128_S256x128) (constant S256x128 .f32 0x00000000#32)))
    (broadcastTo S256x128 (zs s) broadcasts_S256x1_S256x128)

theorem qt_at (q : Fin 256) (z : Fin 128) : qt s x4 x5 x6 (ix2 q z)
    = Ideal.div ((∑ k : Fin 256, es s (ix2 q ⟨k.val, by omega⟩) * x4 (ix2 k z)) + (∑ k : Fin 256, es s (ix2 q ⟨256 + k.val, by omega⟩) * x5 (ix2 k z))
        + (∑ k : Fin 256, es s (ix2 q ⟨512 + k.val, by omega⟩) * x6 (ix2 k z))) (zs s (ix2 q 0)) := by
  unfold qt
  generalize es s = e
  generalize zs s = u
  pointwise []

/-- The lanes of the pair's first head, then those of its second. -/
def lanes (a b : FVec Ideal S256x128 .f32) : FVec Ideal S256x128 .bf16 :=
  truncf .bf16 (select (broadcastTo S256x128 (shapeCast S1x128 (cmpi .slt (iota .tc S1x128 32 [1] iota_S1x128_d1_w32) (broadcast S1x128 64#32)) shapeCasts_S1x128_S1x128) broadcasts_S1x128_S256x128) a b) bitsLt_bf16_f32

theorem lanes_at (a b : FVec Ideal S256x128 .f32) (q : Fin 256) (z : Fin 128) : lanes a b (ix2 q z) = if z.val < 64 then a (ix2 q z) else b (ix2 q z) := by
  pointwise [lanes]
  exact Attn.lane_lt z.val z.isLt _ _

theorem headA : k0_pay10 (k0_pay22 i x0 x1 x2 x3 x4 x5 x6 x7) (k0_pay23 (F := Ideal) i x0 x1 x2 x3 x4 x5 x6 x7) x4 x5 x6 = qt (scA (i 1).val x0 x1 x2 x3 x7) x4 x5 x6 := by
  unfold k0_pay22 k0_pay23
  rw [ld_whole, ld_whole, ld_whole, ld_whole, ld_tab0]
  rfl

theorem sumB : k0_pay27 i x0 x1 x2 x3 x4 x5 x6 x7 = zs (scB (i 1).val x0 x1 x2 x3 x7) := by
  unfold k0_pay27 k0_pay21 k0_pay24 k0_pay25 k0_pay26
  rw [ld_whole, ld_whole, ld_whole, ld_whole, ld_tab1]
  rfl

theorem expB : k0_pay19 (BitVec.ofNat 32 (i 1).val) (k0_pay21 i x0 x1 x2 x3 x4 x5 x6 x7) (k0_pay24 (F := Ideal) i x0 x1 x2 x3 x4 x5 x6 x7) (k0_pay25 i x0 x1 x2 x3 x4 x5 x6 x7)
    (k0_pay26 i x0 x1 x2 x3 x4 x5 x6 x7) x2 x3 (tab 1 x7) = truncf .bf16 (es (scB (i 1).val x0 x1 x2 x3 x7)) bitsLt_bf16_f32 := by
  unfold k0_pay21 k0_pay24 k0_pay25 k0_pay26
  rw [ld_whole, ld_whole]
  rfl

/-- The output's block. -/
theorem out_eq : k0_pay2 (k0_pay10 (k0_pay22 i x0 x1 x2 x3 x4 x5 x6 x7) (k0_pay23 (F := Ideal) i x0 x1 x2 x3 x4 x5 x6 x7) x4 x5 x6)
    (k0_pay27 i x0 x1 x2 x3 x4 x5 x6 x7)
    (k0_pay19 (BitVec.ofNat 32 (i 1).val) (k0_pay21 i x0 x1 x2 x3 x4 x5 x6 x7) (k0_pay24 (F := Ideal) i x0 x1 x2 x3 x4 x5 x6 x7) (k0_pay25 i x0 x1 x2 x3 x4 x5 x6 x7)
      (k0_pay26 i x0 x1 x2 x3 x4 x5 x6 x7) x2 x3 (View.ld x7 r0_3))
    (k0_pay20 (BitVec.ofNat 32 (i 1).val) (k0_pay21 i x0 x1 x2 x3 x4 x5 x6 x7) (k0_pay24 (F := Ideal) i x0 x1 x2 x3 x4 x5 x6 x7) (k0_pay25 i x0 x1 x2 x3 x4 x5 x6 x7)
      (k0_pay26 i x0 x1 x2 x3 x4 x5 x6 x7) x2 x3 (View.ld x7 r0_3)) x4 x5 x6
    = lanes (qt (scA (i 1).val x0 x1 x2 x3 x7) x4 x5 x6) (qt (scB (i 1).val x0 x1 x2 x3 x7) x4 x5 x6) := by
  unfold k0_pay20
  rw [ld_tab1, headA, sumB, expB]
  rfl

/-- The log-sums of the first head, and of the second. -/
theorem logA : k0_pay11 (k0_pay22 i x0 x1 x2 x3 x4 x5 x6 x7) (k0_pay23 (F := Ideal) i x0 x1 x2 x3 x4 x5 x6 x7) = ls (scA (i 1).val x0 x1 x2 x3 x7) := by
  unfold k0_pay22 k0_pay23
  rw [ld_whole, ld_whole, ld_whole, ld_whole, ld_tab0]
  rfl
theorem logB : k0_pay1 (k0_pay16 (BitVec.ofNat 32 (i 1).val) (k0_pay21 i x0 x1 x2 x3 x4 x5 x6 x7) (k0_pay24 (F := Ideal) i x0 x1 x2 x3 x4 x5 x6 x7) (k0_pay25 i x0 x1 x2 x3 x4 x5 x6 x7)
      (k0_pay26 i x0 x1 x2 x3 x4 x5 x6 x7) (View.ld x2 r0_0) (View.ld x3 r0_0) (View.ld x7 r0_3)) (k0_pay27 i x0 x1 x2 x3 x4 x5 x6 x7)
    = ls (scB (i 1).val x0 x1 x2 x3 x7) := by
  rw [sumB]
  unfold k0_pay21 k0_pay24 k0_pay25 k0_pay26
  rw [ld_whole, ld_whole, ld_whole, ld_whole, ld_tab1]
  rfl

end body

section numbers

variable {y rb : ℕ → ℕ → ℝ} {i p : ℕ} {x0 x1 x2 x3 x4 x5 x6 : Vec Ideal S256x128 .bf16} {x7 : Vec Ideal S2x256x768 .f32}

/-- The output's block as numbers. -/
theorem out_at (hb : Ins y rb i p x0 x1 x2 x3 x4 x5 x6 x7) (q : Fin 256) (z : Fin 128) (R a : ℕ) (hR : R = 256 * i + q.val) (ha : a = 128 * p + z.val) :
    lanes (qt (scA i x0 x1 x2 x3 x7) x4 x5 x6) (qt (scB i x0 x1 x2 x3 x7) x4 x5 x6) (ix2 q z) = ((ov y rb R a : ℝ) : EReal) := by
  subst hR ha
  rw [lanes_at, qt_at, qt_at]
  unfold ov
  split_ifs with hz
  · rw [show (128 * p + z.val) / 64 = 2 * p by omega]
    exact quot _ hb (2 * p) q z fun k => scA_eq hb q k
  · rw [show (128 * p + z.val) / 64 = 2 * p + 1 by omega]
    exact quot _ hb (2 * p + 1) q z fun k => scB_eq hb q k

theorem col3 (x : S1x256x1.Idx) : x = ix3 (n0 := 1) (n1 := 256) (n2 := 1) 0 (x 1) 0 := by
  have h0 : (x 0).val < 1 := (x 0).isLt
  have h2 : (x 2).val < 1 := (x 2).isLt
  refine funext fun d => Fin.ext ?_
  fin_cases d <;> simp [ix3] <;> omega

/-- The log-sums as numbers. -/
theorem logA_at (hb : Ins y rb i p x0 x1 x2 x3 x4 x5 x6 x7) (x : S1x256x1.Idx) (h R : ℕ) (hh : h = 2 * p) (hR : R = 256 * i + (x 1).val) :
    ls (scA i x0 x1 x2 x3 x7) x = ((Real.log (Z y rb h R) : ℝ) : EReal) := by
  subst hR hh
  obtain ⟨μ, -, -, e⟩ := row (scA i x0 x1 x2 x3 x7) (2 * p) i hb.hi (x 1) fun k => scA_eq hb (x 1) k
  exact (congrArg (ls (scA i x0 x1 x2 x3 x7)) (col3 x)).trans e
theorem logB_at (hb : Ins y rb i p x0 x1 x2 x3 x4 x5 x6 x7) (x : S1x256x1.Idx) (h R : ℕ) (hh : h = 2 * p + 1) (hR : R = 256 * i + (x 1).val) :
    ls (scB i x0 x1 x2 x3 x7) x = ((Real.log (Z y rb h R) : ℝ) : EReal) := by
  subst hR hh
  obtain ⟨μ, -, -, e⟩ := row (scB i x0 x1 x2 x3 x7) (2 * p + 1) i hb.hi (x 1) fun k => scB_eq hb (x 1) k
  exact (congrArg (ls (scB i x0 x1 x2 x3 x7)) (col3 x)).trans e

end numbers

/-! ## The arrays -/

variable {m : (ℓ : Loc nD τ sig) → Buf (Elt Ideal) ℓ} {c : Dev nD} {y rb : ℕ → ℕ → ℝ}
variable (hy : ∀ x, (m ((c : Thread nD τ).loc main_arg0) : FVec Ideal S4096x10256 .f32) x = ((y (x 0).val (x 1).val : ℝ) : EReal))
variable (hr : ∀ x, (m ((c : Thread nD τ).loc main_arg1) : FVec Ideal S16x320 .f32) x = ((rb (x 0).val (x 1).val : ℝ) : EReal))

include hy hr

/-- The output. -/
theorem final_o : (dats m 0 c).arrAt 8 cfg0.N = fun x => ((ov y rb (x 0).val (x 1).val : ℝ) : EReal) := by
  refine (dats m 0 c).arrAt_eq_of_covers 8 _ (by decide +kernel) fun t _ x => ?_
  have hb := ins hy hr t
  obtain ⟨i8, -, it⟩ := (idx_in t).2.2.2.2.2.2.2.2
  blk_simp
  rw [after0_8]
  frame_out
  refine (congrFun (out_eq _ _ _ _ _ _ _ _ (grid0.coords t)) x).trans ?_
  rw [it]
  refine (congrArg _ (eq_ix2 x)).trans (out_at hb (x 0) (x 1) _ _ ?_ ?_) <;> blk_simp [i8] <;> omega

/-- The log-sums. -/
theorem final_l : (dats m 0 c).arrAt 9 cfg0.N = fun x => ((Real.log (Z y rb (x 0).val (x 1).val) : ℝ) : EReal) := by
  refine (dats m 0 c).arrAt_eq_of_covers 9 _ (by decide +kernel) fun t _ x => ?_
  have hb := ins hy hr t
  obtain ⟨i9, it⟩ := (idx_in t).2.2.2.2.2.2.2.2.2
  blk_simp
  rw [after0_9]
  canon_tiles w h
  · refine (congrFun (logB _ _ _ _ _ _ _ _ (grid0.coords t)) w).trans ?_
    rw [it]
    refine logB_at hb w _ _ ?_ ?_ <;> blk_simp [i9] <;> omega
  · refine (congrFun (logA _ _ _ _ _ _ _ _ (grid0.coords t)) w).trans ?_
    rw [it]
    refine logA_at hb w _ _ ?_ ?_ <;> blk_simp [i9] <;> omega

end Cert.AttnFwd
-- ==== Proof.Attn.FwdClaim.lean ====
/-
  The attention's forward call and the plain attention compute one function of finite arguments.
-/
module

public import proofs.«01_k».proof.Proof.Attn.Claim
public import proofs.«01_k».proof.Proof.Attn.FwdRef
public import proofs.«01_k».proof.Proof.Attn.FwdFinal
public import proofs.«01_k».proof.Proof.Gen.Kernel12.Frame
public import proofs.«01_k».proof.Proof.Gen.Kernel12Ideal.Value
public import proofs.«01_k».proof.Proof.Gen.Pre_afw_finite

@[expose] public section

set_option maxRecDepth 16384

noncomputable section

open Idealize.ShloMosaic Idealize.ShloMosaic.TcCoe Idealize.SL.Sem

namespace Cert.AttnFwd

/-- The kernel's frame. -/
theorem frame_P : Cert.quiescent_Kernel12 (hKernel12 := Cert.Kernel12.Gen.facts) := fun m ρ _ => Cert.Kernel12.Gen.frame m ρ

/-- The idealized kernel's frame. -/
theorem frame_PI : Cert.quiescent_Kernel12Ideal (hKernel12Ideal := Cert.Kernel12Ideal.Gen.facts) := fun m ρ _ => Cert.Kernel12Ideal.Gen.frame m ρ

/-- The same under the value claim's precondition. -/
theorem frame_PI' [Cert.Pre_afw_finite.Facts] : Cert.quiescent_Kernel12Ideal_pre_afw_finite (hKernel12Ideal := Cert.Kernel12Ideal.Gen.facts) := fun m ρ _ =>
  Cert.Kernel12Ideal.Gen.frame m ρ

/-- The reference's frame. -/
theorem frame_RI : Cert.quiescent_Reference12Ideal (hReference12Ideal := Cert.Reference12Ideal.Gen.facts) := fun m ρ _ =>
  (θ_run Cert.Reference12Ideal.defs _ _).mono (fun r h => ⟨fun c => (h c).2.2, sem_eq_zero_of_no_sems (by decide) r.2⟩)
    (Cert.Reference12Ideal.Value.run (F := Ideal) m ρ)

/-- The same under the value claim's precondition. -/
theorem frame_RI' [Cert.Pre_afw_finite.Facts] : Cert.quiescent_Reference12Ideal_pre_afw_finite (hReference12Ideal := Cert.Reference12Ideal.Gen.facts) := fun m ρ _ =>
  frame_RI m ρ trivial

/-- The one name of the idealized kernel stands for −∞ where the kernel has its mask's word. -/
theorem preserves : Cert.preserves_Kernel12_Kernel12Ideal :=
  IdealRules.named_const.statement Cert.Kernel12Ideal.κ "mask" .f32 0xF149F2CA#32 ⊥ rfl

/-- Under the precondition the layer's input product and the bias table are arrays of real numbers. -/
theorem finite_args (a : FVec Ideal Cert.Pre_afw_finite.S4096x10256 .f32) (b : FVec Ideal Cert.Pre_afw_finite.S16x320 .f32)
    (h : Cert.Pre_afw_finite.fn (F := Ideal) a b = fun _ => 1#1) :
    (∃ r : Cert.Pre_afw_finite.S4096x10256.Idx → ℝ, a = fun i => (r i : EReal)) ∧ (∃ r : Cert.Pre_afw_finite.S16x320.Idx → ℝ, b = fun i => (r i : EReal)) := by
  obtain ⟨ha, hb⟩ := Common.andi_one _ _ _ (congrFun h (fun a => a.elim0))
  exact ⟨Common.finite_of_reduce _ _ _ _ _ _ ha, Common.finite_of_reduce _ _ _ _ _ _ hb⟩

/-- The reference's run: its two result arrays as functions of its arguments, and the arguments unchanged. -/
theorem ref_run (m : (ℓ : Loc Cert.Reference12Ideal.nD Cert.Reference12Ideal.τ Cert.Reference12Ideal.sig) → Buf (Elt Ideal) ℓ) (ρ : Dev Cert.Reference12Ideal.nD → PrngReg) :
    θ_run (Cert.Reference12Ideal.defs (F := Ideal)) (onTc (τ := Cert.Reference12Ideal.τ) (Cert.Reference12Ideal.main (F := Ideal))) ⟨m, fun _ => 0, ρ⟩ (fun r => ∀ c : Dev Cert.Reference12Ideal.nD,
      r.2.mem ((c.tc : Thread Cert.Reference12Ideal.nD Cert.Reference12Ideal.τ).loc Cert.Reference12Ideal.main_v160)
          = Cert.Reference12Ideal.Read.val_main_v160 (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))
      ∧ r.2.mem ((c.tc : Thread Cert.Reference12Ideal.nD Cert.Reference12Ideal.τ).loc Cert.Reference12Ideal.main_v163)
          = Cert.Reference12Ideal.Read.val_main_v163 (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1))
      ∧ r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)) :=
  θ_run_mono (Cert.Reference12Ideal.Value.run (F := Ideal) m ρ)
    (fun _ h c => ⟨(h c).1.trans (Cert.Reference12Ideal.Read.val_main_v160_eq (F := Ideal) _), (h c).2.1.trans (Cert.Reference12Ideal.Read.val_main_v163_eq (F := Ideal) _), (h c).2.2⟩)

/-- The kernel and the reference compute one function of finite arguments. -/
theorem algebraic : Cert.algebraic_Kernel12Ideal_Reference12Ideal_pre_afw_finite (hKernel12Ideal := Cert.Kernel12Ideal.Gen.facts) (hReference12Ideal := Cert.Reference12Ideal.Gen.facts)
    (hPre_afw_finite := Cert.Pre_afw_finite.Gen.facts) := by
  intro m ρ m' ρ' hpre hagree
  refine ⟨fun c => (Cert.Kernel12Ideal.Gen.dats m 0 c).arrAt 8 Cert.Kernel12Ideal.cfg0.N, fun c => (Cert.Kernel12Ideal.Gen.dats m 0 c).arrAt 9 Cert.Kernel12Ideal.cfg0.N,
    Cert.Kernel12Ideal.Value.run_blocks m ρ, θ_run_mono (ref_run m' ρ') fun r h c => ?_⟩
  obtain ⟨ha, hb⟩ := finite_args _ _ (hpre c)
  obtain ⟨y, hy⟩ := Attn.as_nat _ ha
  obtain ⟨rb, hr⟩ := Attn.as_nat _ hb
  have hy' : ∀ x, m' ((c.tc : Thread Cert.Reference12Ideal.nD Cert.Reference12Ideal.τ).loc Cert.Reference12Ideal.main_arg0) x = ((y (x 0).val (x 1).val : ℝ) : EReal) :=
    fun x => (congrFun (hagree c).1 x).trans (hy x)
  have hr' : ∀ x, m' ((c.tc : Thread Cert.Reference12Ideal.nD Cert.Reference12Ideal.τ).loc Cert.Reference12Ideal.main_arg1) x = ((rb (x 0).val (x 1).val : ℝ) : EReal) :=
    fun x => (congrFun (hagree c).2 x).trans (hr x)
  exact ⟨(h c).1.trans ((ref_o hy' hr').trans (final_o hy hr).symm), (h c).2.1.trans ((ref_l hy' hr').trans (final_l hy hr).symm), (h c).2.2⟩

end Cert.AttnFwd
-- ==== Proof.Logistic.lean ====
/-
  The logistic function at an extended real number: the kernels write it with the hyperbolic tangent, the references
  as `1 / (1 + exp (-x))`.
-/
module

public import proofs.«01_k».proof.Proof.Common

@[expose] public section

noncomputable section

namespace Cert.Common

open Idealize.ShloMosaic

/-- The logistic function as the kernels write it. -/
def sgk (x : EReal) : EReal :=
  Ideal.ofBits .f32 0x3F000000#32 * Ideal.tanh (Ideal.ofBits .f32 0x3F000000#32 * x) + Ideal.ofBits .f32 0x3F000000#32

/-- The two spellings agree at every extended real number. -/
theorem sgk_div (x : EReal) : Ideal.div 1 (1 + Ideal.exp (-x)) = sgk x := by
  unfold sgk
  rw [half_f32]
  induction x with
  | bot =>
    rw [EReal.coe_mul_bot_of_pos (by norm_num), Ideal.tanh_bot, EReal.neg_bot, Ideal.exp_top]
    simp only [← EReal.coe_one, EReal.coe_add_top, ← EReal.coe_neg, ← EReal.coe_mul, ← EReal.coe_add]
    norm_num [Ideal.div]
  | top =>
    rw [EReal.coe_mul_top_of_pos (by norm_num), Ideal.tanh_top, EReal.neg_top, Ideal.exp_bot, add_zero, ← EReal.coe_one,
      Ideal.div_coe one_ne_zero]
    simp only [← EReal.coe_mul, ← EReal.coe_add]
    norm_num
  | coe r => rw [div_sig, ← EReal.coe_mul, Ideal.tanh_coe, ← EReal.coe_mul, ← EReal.coe_add, tanh_sig]

end Cert.Common

end
-- ==== Proof.Merge.lean ====
/-
  The gradient of the gated sum `σ(ga)·pa + σ(gb)·pb` through the mixing projection (`merge_bwd`): the four result arrays
  of the kernel as functions of the arguments, and the reference's.
-/
module

public import proofs.«01_k».proof.Defs
public import proofs.«01_k».proof.Proof.Logistic
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Merge

open Cert.Kernel3Ideal Cert.Kernel3Ideal.Gen

/-- The product `dm · wᵀ` at an index. -/
def dmg (w : FVec Ideal S2048x2048 .f32) (dm : FVec Ideal S4096x2048 .bf16) (i : S4096x2048.Idx) : EReal :=
  ∑ k : Fin 2048, dm (ix2 (i 0) k) * w (ix2 (i 1) k)

/-- The gate whose columns begin at `o` in the projections. -/
def gate (o : ℕ) (ho : o + 2048 ≤ 10256) (y : FVec Ideal S4096x10256 .f32) (i : S4096x2048.Idx) : EReal :=
  Common.sgk (y (ix2 (i 0) ⟨o + (i 1).val, by have h : (i 1).val < 2048 := (i 1).isLt; omega⟩))

/-- The gradient of a branch. -/
def GP (o : ℕ) (ho : o + 2048 ≤ 10256) (y : FVec Ideal S4096x10256 .f32) (w : FVec Ideal S2048x2048 .f32)
    (dm : FVec Ideal S4096x2048 .bf16) : FVec Ideal S4096x2048 .bf16 := fun i => dmg w dm i * gate o ho y i

/-- The gradient of a gate's argument. -/
def GG (o : ℕ) (ho : o + 2048 ≤ 10256) (y : FVec Ideal S4096x10256 .f32) (p : FVec Ideal S4096x2048 .bf16) (w : FVec Ideal S2048x2048 .f32)
    (dm : FVec Ideal S4096x2048 .bf16) : FVec Ideal S4096x2048 .bf16 := fun i => dmg w dm i * p i * gate o ho y i * (1 - gate o ho y i)

section pays

variable (b0 b1 : Vec Ideal S512x2048 .bf16) (b2 b4 : Vec Ideal S512x512 .bf16) (x : S512x512.Idx)

/-- The product of two blocks. -/
def dot (b0 b1 : Vec Ideal S512x2048 .bf16) (x : S512x512.Idx) : EReal := ∑ k : Fin 2048, b0 (ix2 (x 0) k) * b1 (ix2 (x 1) k)

theorem pay3_at : k0_pay3 b0 b1 x = dot b0 b1 x := by
  rw [eq_ix2 x]; pointwise [k0_pay3, dot]
theorem pay4_at : k0_pay4 b2 x = Common.sgk (b2 x) := by
  rw [eq_ix2 x]; pointwise [k0_pay4, Common.sgk]
theorem pay5_at : k0_pay5 b2 x = Common.sgk (b2 x) := pay4_at b2 x
theorem pay6_at : k0_pay6 b0 b1 b2 x = dot b0 b1 x * Common.sgk (b2 x) := by
  rw [← pay3_at, ← pay4_at]; rfl
theorem pay7_at : k0_pay7 b0 b1 b2 x = dot b0 b1 x * Common.sgk (b2 x) := pay6_at b0 b1 b2 x
theorem pay1_at : k0_pay1 (k0_pay4 b2) (k0_pay8 b0 b1 b2 b4) (Scalar.ofBits .f32 0x3F800000#32) x
    = dot b0 b1 x * b4 x * Common.sgk (b2 x) * (1 - Common.sgk (b2 x)) := by
  rw [← pay3_at, ← pay4_at]
  unfold k0_pay1 k0_pay8
  generalize k0_pay3 b0 b1 = u
  generalize k0_pay4 b2 = v
  rw [eq_ix2 x]; pointwise []
theorem pay2_at : k0_pay2 (k0_pay3 b0 b1) (k0_pay5 b2) b4 x
    = dot b0 b1 x * b4 x * Common.sgk (b2 x) * (1 - Common.sgk (b2 x)) := by
  rw [← pay3_at, ← pay5_at]
  unfold k0_pay2
  generalize k0_pay3 b0 b1 = u
  generalize k0_pay5 b2 = v
  rw [eq_ix2 x]; pointwise []

end pays

variable (m : (ℓ : Loc nD τ sig) → Buf (Elt Ideal) ℓ) (c : Dev nD)

/-- The kernel's layout of the projections. -/
def cols (y : FVec Ideal S4096x10256 .f32) : FVec Ideal S4096x10368 .bf16 :=
  truncf .bf16 (concatenate S4096x10368 1 [⟨S4096x6144, extractStridedSlice S4096x6144 ![0, 0] y slices_S4096x10256_S4096x6144_0_0⟩,
    ⟨S4096x4096, extractStridedSlice S4096x4096 ![0, 6160] y slices_S4096x10256_S4096x4096_0_6160⟩,
    ⟨S4096x16, extractStridedSlice S4096x16 ![0, 6144] y slices_S4096x10256_S4096x16_0_6144⟩,
    ⟨S4096x112, broadcastInDim S4096x112 ![] bcast_S_S4096x112 (constant S_ .f32 0x00000000#32)⟩]
    concatenates_S4096x6144_S4096x4096_S4096x16_S4096x112_S4096x10368_d1) bitsLt_bf16_f32

/-- The columns of the gates lie sixteen further left there. -/
theorem cols_at (y : FVec Ideal S4096x10256 .f32) (R : Fin 4096) (a : Fin 10368) (h1 : 6144 ≤ a.val) (h2 : a.val < 10240) :
    cols y (ix2 R a) = y (ix2 R ⟨a.val + 16, by omega⟩) := by
  pointwise [cols]
  rw [dif_neg (by omega), dif_pos (by omega)]
  exact congrArg y (congrArg (ix2 R) (Fin.ext (by simp; omega)))

theorem V_v5 : (V m c main_v5 : FVec Ideal S4096x10368 .bf16) = cols (m ((c : Thread nD τ).loc main_arg0)) := (rfl)

/-- Where each window's block of a point lies. -/
theorem idx : ∀ t : Fin cfg0.N, win0_0.index t = ![t.val % 8, 0] ∧ win0_1.index t = ![t.val / 8, 0]
    ∧ win0_2.index t = ![t.val % 8, 12 + t.val / 8] ∧ win0_3.index t = ![t.val % 8, 16 + t.val / 8]
    ∧ win0_4.index t = ![t.val % 8, t.val / 8] ∧ win0_5.index t = ![t.val % 8, t.val / 8]
    ∧ win0_6.index t = ![t.val % 8, t.val / 8] ∧ win0_7.index t = ![t.val % 8, t.val / 8]
    ∧ win0_8.index t = ![t.val % 8, t.val / 8] ∧ win0_9.index t = ![t.val % 8, t.val / 8] :=
  (by decide +kernel : ∀ t : Fin grid0.N, _)

/-- The product of a point's blocks is the whole product's block. -/
theorem dot_blk (t : Fin cfg0.N) (x : S512x512.Idx) (i : S4096x2048.Idx) (h0 : (i 0).val = t.val % 8 * 512 + (x 0).val)
    (h1 : (i 1).val = t.val / 8 * 512 + (x 1).val) :
    dot (iblk m c 0 t) (iblk m c 1 t) x = dmg (m ((c : Thread nD τ).loc main_arg3)) (m ((c : Thread nD τ).loc main_arg4)) i := by
  unfold dot dmg
  refine Finset.sum_congr rfl fun k _ => congrArg₂ (· * ·) ?_ ?_
  · refine congrArg (m ((c : Thread nD τ).loc main_arg4) : FVec Ideal S4096x2048 .bf16) (funext fun d => Fin.ext ?_)
    fin_cases d <;> blk_simp [idx t] <;> simp [ix2] <;> omega
  · refine congrArg (m ((c : Thread nD τ).loc main_arg3) : FVec Ideal S2048x2048 .f32) (funext fun d => Fin.ext ?_)
    fin_cases d <;> blk_simp [idx t] <;> simp [ix2] <;> omega

/-- The gates' blocks of a point. -/
theorem blk_2 (t : Fin cfg0.N) (x : S512x512.Idx) (i : S4096x2048.Idx) (h0 : (i 0).val = t.val % 8 * 512 + (x 0).val)
    (h1 : (i 1).val = t.val / 8 * 512 + (x 1).val) :
    Common.sgk (X0_2 m c t x) = gate 6160 (by norm_num) (m ((c : Thread nD τ).loc main_arg0)) i := by
  have hi : (i 1).val < 2048 := (i 1).isLt
  refine congrArg Common.sgk (Eq.trans ?_ ((congrFun (V_v5 m c) (ix2 (i 0) ⟨6144 + (i 1).val, by omega⟩)).trans ((cols_at _ _ _ (by simp) (by simp; omega)).trans ?_)))
  · unfold X0_2 Pipeline.Window.fill
    rw [dif_pos (moved0_2 t x)]
    refine congrArg (V m c main_v5 : FVec Ideal S4096x10368 .bf16) (funext fun d => Fin.ext ?_)
    fin_cases d <;> blk_simp [idx t] <;> simp [ix2] <;> omega
  · exact congrArg _ (congrArg (ix2 (i 0)) (Fin.ext (by simp; omega)))
theorem blk_3 (t : Fin cfg0.N) (x : S512x512.Idx) (i : S4096x2048.Idx) (h0 : (i 0).val = t.val % 8 * 512 + (x 0).val)
    (h1 : (i 1).val = t.val / 8 * 512 + (x 1).val) :
    Common.sgk (X0_3 m c t x) = gate 8208 (by norm_num) (m ((c : Thread nD τ).loc main_arg0)) i := by
  have hi : (i 1).val < 2048 := (i 1).isLt
  refine congrArg Common.sgk (Eq.trans ?_ ((congrFun (V_v5 m c) (ix2 (i 0) ⟨8192 + (i 1).val, by omega⟩)).trans ((cols_at _ _ _ (by simp; omega) (by simp; omega)).trans ?_)))
  · unfold X0_3 Pipeline.Window.fill
    rw [dif_pos (moved0_3 t x)]
    refine congrArg (V m c main_v5 : FVec Ideal S4096x10368 .bf16) (funext fun d => Fin.ext ?_)
    fin_cases d <;> blk_simp [idx t] <;> simp [ix2] <;> omega
  · exact congrArg _ (congrArg (ix2 (i 0)) (Fin.ext (by simp; omega)))

/-- The branches' blocks of a point. -/
theorem blk_4 (t : Fin cfg0.N) (x : S512x512.Idx) (i : S4096x2048.Idx) (h0 : (i 0).val = t.val % 8 * 512 + (x 0).val)
    (h1 : (i 1).val = t.val / 8 * 512 + (x 1).val) :
    (iblk m c 4 t : Vec Ideal S512x512 .bf16) x = (m ((c : Thread nD τ).loc main_arg1) : FVec Ideal S4096x2048 .bf16) i := by
  refine congrArg (m ((c : Thread nD τ).loc main_arg1) : FVec Ideal S4096x2048 .bf16) (funext fun d => Fin.ext ?_)
  fin_cases d <;> blk_simp [idx t] <;> simp <;> omega
theorem blk_5 (t : Fin cfg0.N) (x : S512x512.Idx) (i : S4096x2048.Idx) (h0 : (i 0).val = t.val % 8 * 512 + (x 0).val)
    (h1 : (i 1).val = t.val / 8 * 512 + (x 1).val) :
    (iblk m c 5 t : Vec Ideal S512x512 .bf16) x = (m ((c : Thread nD τ).loc main_arg2) : FVec Ideal S4096x2048 .bf16) i := by
  refine congrArg (m ((c : Thread nD τ).loc main_arg2) : FVec Ideal S4096x2048 .bf16) (funext fun d => Fin.ext ?_)
  fin_cases d <;> blk_simp [idx t] <;> simp <;> omega

/-- A block of the first result. -/
theorem key_6 (t : Fin cfg0.N) (x : S512x512.Idx) (i : S4096x2048.Idx) : (i 0).val = t.val % 8 * 512 + (x 0).val →
    (i 1).val = t.val / 8 * 512 + (x 1).val → k0_pay6 (iblk m c 0 t) (iblk m c 1 t) (X0_2 m c t) x = GP 6160 (by norm_num) (m ((c : Thread nD τ).loc main_arg0)) (m ((c : Thread nD τ).loc main_arg3)) (m ((c : Thread nD τ).loc main_arg4)) i   := by
  intro h0 h1
  refine (pay6_at _ _ _ _).trans ?_
  rw [dot_blk m c t x i h0 h1, blk_2 m c t x i h0 h1]
  rfl

/-- The kernel's result arrays after the run: the gradients of the two branches, then of the two gates. -/
theorem final_6 : (dats m 0 c).arrAt 6 cfg0.N = GP 6160 (by norm_num) (m ((c : Thread nD τ).loc main_arg0))
    (m ((c : Thread nD τ).loc main_arg3)) (m ((c : Thread nD τ).loc main_arg4)) := by
  refine (dats m 0 c).arrAt_eq_of_covers 6 _ (by decide +kernel) fun t _ y => ?_
  blk_simp
  rw [after0_6]
  unfold outsAt0
  frame_out
  refine key_6 m c t y _ ?_ ?_ <;> blk_simp [idx t]
theorem final_7 : (dats m 0 c).arrAt 7 cfg0.N = GP 8208 (by norm_num) (m ((c : Thread nD τ).loc main_arg0))
    (m ((c : Thread nD τ).loc main_arg3)) (m ((c : Thread nD τ).loc main_arg4)) := by
  have key : ∀ (t : Fin cfg0.N) (x : S512x512.Idx) (i : S4096x2048.Idx), (i 0).val = t.val % 8 * 512 + (x 0).val →
      (i 1).val = t.val / 8 * 512 + (x 1).val → k0_pay7 (iblk m c 0 t) (iblk m c 1 t) (X0_3 m c t) x = GP 8208 (by norm_num) (m ((c : Thread nD τ).loc main_arg0)) (m ((c : Thread nD τ).loc main_arg3)) (m ((c : Thread nD τ).loc main_arg4)) i := by
    intro t x i h0 h1
    refine (pay7_at _ _ _ _).trans ?_
    rw [dot_blk m c t x i h0 h1, blk_3 m c t x i h0 h1]
    rfl
  refine (dats m 0 c).arrAt_eq_of_covers 7 _ (by decide +kernel) fun t _ y => ?_
  blk_simp
  rw [after0_7]
  unfold outsAt0
  frame_out
  exact key t y _ (by blk_simp [idx t]) (by blk_simp [idx t])
theorem final_8 : (dats m 0 c).arrAt 8 cfg0.N = GG 6160 (by norm_num) (m ((c : Thread nD τ).loc main_arg0)) (m ((c : Thread nD τ).loc main_arg1))
    (m ((c : Thread nD τ).loc main_arg3)) (m ((c : Thread nD τ).loc main_arg4)) := by
  have key : ∀ (t : Fin cfg0.N) (x : S512x512.Idx) (i : S4096x2048.Idx), (i 0).val = t.val % 8 * 512 + (x 0).val →
      (i 1).val = t.val / 8 * 512 + (x 1).val → k0_pay1 (k0_pay4 (X0_2 m c t)) (k0_pay8 (iblk m c 0 t) (iblk m c 1 t) (X0_2 m c t) (iblk m c 4 t)) (Scalar.ofBits .f32 0x3F800000#32) x = GG 6160 (by norm_num) (m ((c : Thread nD τ).loc main_arg0)) (m ((c : Thread nD τ).loc main_arg1)) (m ((c : Thread nD τ).loc main_arg3)) (m ((c : Thread nD τ).loc main_arg4)) i := by
    intro t x i h0 h1
    refine (pay1_at _ _ _ _ _).trans ?_
    rw [dot_blk m c t x i h0 h1, blk_2 m c t x i h0 h1, blk_4 m c t x i h0 h1]
    rfl
  refine (dats m 0 c).arrAt_eq_of_covers 8 _ (by decide +kernel) fun t _ y => ?_
  blk_simp
  rw [after0_8]
  unfold outsAt0
  frame_out
  exact key t y _ (by blk_simp [idx t]) (by blk_simp [idx t])
theorem final_9 : (dats m 0 c).arrAt 9 cfg0.N = GG 8208 (by norm_num) (m ((c : Thread nD τ).loc main_arg0)) (m ((c : Thread nD τ).loc main_arg2))
    (m ((c : Thread nD τ).loc main_arg3)) (m ((c : Thread nD τ).loc main_arg4)) := by
  have key : ∀ (t : Fin cfg0.N) (x : S512x512.Idx) (i : S4096x2048.Idx), (i 0).val = t.val % 8 * 512 + (x 0).val →
      (i 1).val = t.val / 8 * 512 + (x 1).val → k0_pay2 (k0_pay3 (iblk m c 0 t) (iblk m c 1 t)) (k0_pay5 (X0_3 m c t)) (iblk m c 5 t) x = GG 8208 (by norm_num) (m ((c : Thread nD τ).loc main_arg0)) (m ((c : Thread nD τ).loc main_arg2)) (m ((c : Thread nD τ).loc main_arg3)) (m ((c : Thread nD τ).loc main_arg4)) i := by
    intro t x i h0 h1
    refine (pay2_at _ _ _ _ _).trans ?_
    rw [dot_blk m c t x i h0 h1, blk_3 m c t x i h0 h1, blk_5 m c t x i h0 h1]
    rfl
  refine (dats m 0 c).arrAt_eq_of_covers 9 _ (by decide +kernel) fun t _ y => ?_
  blk_simp
  rw [after0_9]
  unfold outsAt0
  frame_out
  exact key t y _ (by blk_simp [idx t]) (by blk_simp [idx t])
end Cert.Merge

namespace Cert.Merge

open Cert.Reference3Ideal Cert.Reference3Ideal.Gen Cert.Reference3Ideal.Read

variable (y : FVec Ideal S4096x10256 .f32) (pa pb : FVec Ideal S4096x2048 .bf16) (w : FVec Ideal S2048x2048 .f32) (dm : FVec Ideal S4096x2048 .bf16)

theorem r35 (r : Fin 4096) (q : Fin 2048) : val_main_v35 (F := Ideal) w dm (ix2 r q) = dmg w dm (ix2 r q) := by
  pointwise [val_main_v35, val_main_v34, dmg]
theorem r17 (r : Fin 4096) (q : Fin 2048) : val_main_v17 (F := Ideal) y (ix2 r q) = gate 6160 (by norm_num) y (ix2 r q) := by
  pointwise [val_main_v17, val_main_v16, val_main_cst_0, val_main_v15, val_main_v14, val_main_cst, val_main_v13, val_main_v12, val_main_v8]
  rw [Common.sgk_div]
  rfl
theorem r27 (r : Fin 4096) (q : Fin 2048) : val_main_v27 (F := Ideal) y (ix2 r q) = gate 8208 (by norm_num) y (ix2 r q) := by
  pointwise [val_main_v27, val_main_v26, val_main_cst_3, val_main_v25, val_main_v24, val_main_cst_2, val_main_v23, val_main_v22, val_main_v9]
  rw [Common.sgk_div]
  rfl

/-- The reference's arrays are the kernel's. -/
theorem ref_42 : val_main_v42 (F := Ideal) y w dm = GP 6160 (by norm_num) y w dm := by
  funext j
  rw [eq_ix2 j]
  refine Eq.trans ?_ ((mul_comm _ _).trans (congrArg₂ (· * ·) (r35 w dm (j 0) (j 1)) (r17 y (j 0) (j 1))))
  rfl
theorem ref_43 : val_main_v43 (F := Ideal) y w dm = GP 8208 (by norm_num) y w dm := by
  funext j
  rw [eq_ix2 j]
  refine Eq.trans ?_ ((mul_comm _ _).trans (congrArg₂ (· * ·) (r35 w dm (j 0) (j 1)) (r27 y (j 0) (j 1))))
  rfl
theorem ref_44 : val_main_v44 (F := Ideal) y pa w dm = GG 6160 (by norm_num) y pa w dm := by
  funext j
  obtain ⟨r, q, rfl⟩ : ∃ (r : Fin 4096) (q : Fin 2048), j = ix2 r q := ⟨j 0, j 1, eq_ix2 j⟩
  unfold GG
  rw [mul_assoc, ← r35, ← r17]
  unfold val_main_v44 val_main_v41 val_main_v40 val_main_v20 val_main_v19 val_main_v18 val_main_cst_1 val_main_v10
  generalize val_main_v35 (F := Ideal) w dm = u
  generalize val_main_v17 (F := Ideal) y = v
  pointwise []
theorem ref_45 : val_main_v45 (F := Ideal) y pb w dm = GG 8208 (by norm_num) y pb w dm := by
  funext j
  obtain ⟨r, q, rfl⟩ : ∃ (r : Fin 4096) (q : Fin 2048), j = ix2 r q := ⟨j 0, j 1, eq_ix2 j⟩
  unfold GG
  rw [mul_assoc, ← r35, ← r27]
  unfold val_main_v45 val_main_v38 val_main_v37 val_main_v30 val_main_v29 val_main_v28 val_main_cst_4 val_main_v11
  generalize val_main_v35 (F := Ideal) w dm = u
  generalize val_main_v27 (F := Ideal) y = v
  pointwise []

end Cert.Merge

namespace Cert.Merge

/-- The kernel's frames and the reference's. -/
theorem frame_P : Cert.quiescent_Kernel3 := fun m ρ _ => Cert.Kernel3.Gen.frame m ρ
theorem frame_PI : Cert.quiescent_Kernel3Ideal := fun m ρ _ => Cert.Kernel3Ideal.Gen.frame m ρ
theorem frame_RI : Cert.quiescent_Reference3Ideal := fun m ρ _ =>
  (θ_run Cert.Reference3Ideal.defs _ _).mono
    (fun r h => ⟨fun c => (h c).2.2.2.2, sem_eq_zero_of_no_sems (by decide) r.2⟩)
    (Cert.Reference3Ideal.Value.run (F := Ideal) m ρ)

/-- The kernel and the reference compute the same four functions of the arguments. -/
theorem algebraic : Cert.algebraic_Kernel3Ideal_Reference3Ideal := by
  pair_intro
  · run_from Cert.Kernel3Ideal.Gen.run_main m g
  · run_from Cert.Reference3Ideal.Value.run m' g'
    · exact (Cert.Reference3Ideal.Read.val_main_v42_eq (F := Ideal) _ _ _).symm.trans ((ref_42 _ _ _).trans (final_6 m c).symm)
    · exact (Cert.Reference3Ideal.Read.val_main_v43_eq (F := Ideal) _ _ _).symm.trans ((ref_43 _ _ _).trans (final_7 m c).symm)
    · exact (Cert.Reference3Ideal.Read.val_main_v44_eq (F := Ideal) _ _ _ _).symm.trans ((ref_44 _ _ _ _).trans (final_8 m c).symm)
    · exact (Cert.Reference3Ideal.Read.val_main_v45_eq (F := Ideal) _ _ _ _).symm.trans ((ref_45 _ _ _ _).trans (final_9 m c).symm)

end Cert.Merge

end
-- ==== Proof.Gate.lean ====
/-
  The gradients of the low-rank gate: of its low-rank input, of its second matrix and of its bias.
-/
module

public import proofs.«01_k».proof.Defs
public import Idealize.ShloMosaic.Lib.Routing.OpsSet
public import Idealize.ShloMosaic.Lib.Routing.OpsOne
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Merge
public import Idealize.ShloMosaic.Lib.Quiescent
public import Idealize.ShloMosaic.Lib.Pipeline.ValueKit
public import Idealize.ShloMosaic.Lib.Pointwise
public import Idealize.ShloMosaic.Lib.Claim

@[expose] public section

set_option maxRecDepth 65536

noncomputable section

open Idealize.ShloMosaic Idealize.ShloMosaic.TcCoe Idealize.SL.Sem

namespace Cert.Gate

open Cert.Kernel2Ideal Cert.Kernel2Ideal.Gen
open Idealize.ShloMosaic.Routing

/-- An update of the weights' rows lands on the row and column of its own. -/
theorem lands (idx : IVec S1 32) (h : ∀ x, idx x = 0#32) (a : Fin 16) (b : Fin 512) (r : Fin 128) (e : Fin 512) :
    scatter_S128x512_S1_S16x512_01_n_0_0.resultIdx? (ix2 a b) idx = some (ix2 r e) ↔ a.val = r.val ∧ b.val = e.val := by
  have w0 : scatter_S128x512_S1_S16x512_01_n_0_0.window (ix2 a b) 0 = a.val := rfl
  have w1 : scatter_S128x512_S1_S16x512_01_n_0_0.window (ix2 a b) 1 = b.val := rfl
  have s1 : scatter_S128x512_S1_S16x512_01_n_0_0.start (ix2 a b) idx 1 = 0 := rfl
  have s0 : scatter_S128x512_S1_S16x512_01_n_0_0.start (ix2 a b) idx 0 = 0 := by
    show (idx _).toInt = 0
    rw [h]; rfl
  have e : (ix2 r e : S128x512.Idx) = ValueIdx.ix2 r e := funext fun d => by fin_cases d <;> rfl
  rw [e, resultIdx?_ix2, w0, w1, s0, s1]
  omega

/-- The weights' rows, and rows of zeros below. -/
theorem pad_at (z : FVec Ideal S128x512 .bf16) (hz : ∀ x, z x = 0) (idx : IVec S1 32) (h : ∀ x, idx x = 0#32) (w : FVec Ideal S16x512 .bf16) (r : Fin 128) (e : Fin 512) :
    Host.scatter scatter_S128x512_S1_S16x512_01_n_0_0 (fun _ b => b) z idx w (ix2 r e) = if hr : r.val < 16 then w (ix2 ⟨r.val, hr⟩ e) else 0 := by
  split_ifs with hr
  · refine scatter_set_hit _ z idx w _ _ (fun k hk => ?_) (ix2 ⟨r.val, hr⟩ e) ((lands idx h _ _ _ _).2 ⟨rfl, rfl⟩)
    rw [eq_ix2 k] at hk ⊢
    obtain ⟨h0, h1⟩ := (lands idx h _ _ _ _).1 hk
    exact congrArg w (congrArg₂ ix2 (Fin.ext h0) (Fin.ext h1))
  · refine (scatter_set_miss _ z idx w _ fun k hk => ?_).trans (hz _)
    rw [eq_ix2 k] at hk
    obtain ⟨h0, -⟩ := (lands idx h _ _ _ _).1 hk
    have : (k 0).val < 16 := (k 0).isLt
    omega

/-- The columns behind the layout's last branch: the gate's low-rank columns, then zeros. -/
theorem cols_lr (y : FVec Ideal S4096x10256 .f32) (R : Fin 4096) (z : Fin 128) :
    Merge.cols y (ix2 R ⟨10240 + z.val, by omega⟩) = if hz : z.val < 16 then y (ix2 R ⟨6144 + z.val, by omega⟩) else 0 := by
  split_ifs with hz
  · pointwise [Merge.cols]
    rw [dif_neg (by omega), dif_neg (by omega), dif_pos (by omega)]
    exact congrArg y (congrArg (ix2 R) (Fin.ext (by simp; omega)))
  · pointwise [Merge.cols]
    rw [dif_neg (by omega), dif_neg (by omega), dif_neg (by omega)]

/-- The low-rank columns, and zeros behind them. -/
def lr (y : FVec Ideal S4096x10256 .f32) (R : Fin 4096) (z : Fin 128) : EReal := if hz : z.val < 16 then y (ix2 R ⟨6144 + z.val, by omega⟩) else 0
/-- The weights' rows, and zeros below. -/
def wp (w : FVec Ideal S16x512 .f32) (z : Fin 128) (e : Fin 512) : EReal := if hz : z.val < 16 then w (ix2 ⟨z.val, hz⟩ e) else 0

/-- The gradient of the low-rank columns. -/
def G3 (w : FVec Ideal S16x512 .f32) (g : FVec Ideal S4096x512 .f32) : FVec Ideal S4096x128 .bf16 := fun i => ∑ k : Fin 512, g (ix2 (i 0) k) * wp w (i 1) k
/-- The gradient of the weights. -/
def G4 (y : FVec Ideal S4096x10256 .f32) (g : FVec Ideal S4096x512 .f32) : FVec Ideal S128x512 .f32 := fun i => ∑ R : Fin 4096, lr y R (i 0) * g (ix2 R (i 1))
/-- The gradient of the bias. -/
def G5 (g : FVec Ideal S4096x512 .f32) : FVec Ideal S1x512 .f32 := fun i => ∑ R : Fin 4096, g (ix2 R (i 1))

section pays

variable (p : Vec Ideal S512x128 .bf16) (g : Vec Ideal S512x512 .f32) (w : Vec Ideal S128x512 .bf16) (a : Vec Ideal S128x512 .f32) (b : Vec Ideal S1x512 .f32)

theorem pay4_at (x : S512x128.Idx) : k0_pay4 g w x = ∑ k : Fin 512, g (ix2 (x 0) k) * w (ix2 (x 1) k) := by
  rw [eq_ix2 x]; pointwise [k0_pay4, k0_pay3]
/-- The blocks' product over their rows. -/
def share4 (x : S128x512.Idx) : EReal := ∑ k : Fin 512, p (ix2 k (x 0)) * g (ix2 k (x 1))
/-- The block's sum over its rows. -/
def share5 (x : S1x512.Idx) : EReal := ∑ k : Fin 512, g (ix2 k (x 1))
theorem pay5_at (x : S128x512.Idx) : k0_pay5 g a p x = a x + share4 p g x := by
  rw [eq_ix2 x]; pointwise [k0_pay5, k0_pay3, share4]
theorem pay6_at (x : S1x512.Idx) : k0_pay6 g b x = b x + share5 g x := by
  rw [eq_ix2 x]; pointwise [k0_pay6, share5]
theorem pay1_at (x : S128x512.Idx) : k0_pay1 (F := Ideal) x = 0 := by
  rw [eq_ix2 x]; pointwise [k0_pay1]
theorem pay2_at (x : S1x512.Idx) : k0_pay2 (F := Ideal) x = 0 := by
  rw [eq_ix2 x]; pointwise [k0_pay2]

end pays

variable (m : (ℓ : Loc nD τ sig) → Buf (Elt Ideal) ℓ) (c : Dev nD)

theorem V_v5 : (V m c main_v5 : FVec Ideal S4096x10368 .bf16) = Merge.cols (m ((c : Thread nD τ).loc main_arg0)) := (rfl)
attribute [local irreducible] Host.scatter in
theorem V_v9 : (V m c main_v9 : FVec Ideal S128x512 .bf16)
    = Host.scatter scatter_S128x512_S1_S16x512_01_n_0_0 (fun _ b => b) (broadcastInDim S128x512 ![] bcast_S_S128x512 (constant (F := Ideal) S_ .bf16 0x0000#16) : FVec Ideal S128x512 .bf16)
      (broadcastInDim S1 ![] bcast_S_S1 (constantI S_ 32 0#32)) (truncf .bf16 (m ((c : Thread nD τ).loc main_arg1) : FVec Ideal S16x512 .f32) bitsLt_bf16_f32 : FVec Ideal S16x512 .bf16) := (rfl)

/-- Where each window's block of a point lies. -/
theorem idx : ∀ t : Fin cfg0.N, win0_0.index t = ![t.val, 80] ∧ win0_1.index t = ![t.val, 0] ∧ win0_2.index t = ![0, 0]
    ∧ win0_3.index t = ![t.val, 0] ∧ win0_4.index t = ![0, 0] ∧ win0_5.index t = ![0, 0] :=
  (by decide +kernel : ∀ t : Fin grid0.N, _)

theorem blk_0 (t : Fin cfg0.N) (k : Fin 512) (z : Fin 128) (R : Fin 4096) (hR : R.val = t.val * 512 + k.val) :
    (iblk m c 0 t : Vec Ideal S512x128 .bf16) (ix2 k z) = lr (m ((c : Thread nD τ).loc main_arg0)) R z := by
  refine Eq.trans ?_ ((congrFun (V_v5 m c) (ix2 R ⟨10240 + z.val, by omega⟩)).trans (cols_lr _ _ _))
  refine congrArg (V m c main_v5 : FVec Ideal S4096x10368 .bf16) (funext fun d => Fin.ext ?_)
  fin_cases d <;> blk_simp [idx t] <;> simp [ix2] <;> omega
theorem blk_1 (t : Fin cfg0.N) (k e : Fin 512) (R : Fin 4096) (hR : R.val = t.val * 512 + k.val) :
    (iblk m c 1 t : Vec Ideal S512x512 .f32) (ix2 k e) = (m ((c : Thread nD τ).loc main_arg2) : FVec Ideal S4096x512 .f32) (ix2 R e) := by
  refine congrArg (m ((c : Thread nD τ).loc main_arg2) : FVec Ideal S4096x512 .f32) (funext fun d => Fin.ext ?_)
  fin_cases d <;> blk_simp [idx t] <;> simp [ix2] <;> omega
theorem blk_2 (t : Fin cfg0.N) (z : Fin 128) (e : Fin 512) :
    (iblk m c 2 t : Vec Ideal S128x512 .bf16) (ix2 z e) = wp (m ((c : Thread nD τ).loc main_arg1)) z e := by
  refine Eq.trans ?_ ((congrFun (V_v9 m c) (ix2 z e)).trans ((pad_at _ (fun x => ?_) _ (fun x => ?_) _ _ _).trans ?_))
  · refine congrArg (V m c main_v9 : FVec Ideal S128x512 .bf16) (funext fun d => Fin.ext ?_)
    fin_cases d <;> blk_simp [idx t] <;> simp [ix2]
  · rw [eq_ix2 x]; pointwise []
  · rfl
  · rfl

/-- A point's share of the weights' gradient, and of the bias'. -/
def term4 (t : Fin cfg0.N) (y : S128x512.Idx) : EReal := share4 (iblk m c 0 t) (iblk m c 1 t) y
def term5 (t : Fin cfg0.N) (y : S1x512.Idx) : EReal := share5 (iblk m c 1 t) y

/-- The gradient of the low-rank columns. -/
theorem final_3 : (dats m 0 c).arrAt 3 cfg0.N = G3 (m ((c : Thread nD τ).loc main_arg1)) (m ((c : Thread nD τ).loc main_arg2)) := by
  refine (dats m 0 c).arrAt_eq_of_covers 3 _ (by decide +kernel) fun t _ x => ?_
  have key : ∀ (i : S4096x128.Idx), (i 0).val = t.val * 512 + (x 0).val → (i 1).val = (x 1).val →
      k0_pay4 (iblk m c 1 t) (iblk m c 2 t) x = G3 (m ((c : Thread nD τ).loc main_arg1)) (m ((c : Thread nD τ).loc main_arg2)) i := fun i h0 h1 => by
    refine (pay4_at _ _ x).trans (Finset.sum_congr rfl fun k _ => congrArg₂ (· * ·) (blk_1 m c t _ _ (i 0) h0) ((blk_2 m c t _ _).trans ?_))
    exact congrArg (fun z => wp (m ((c : Thread nD τ).loc main_arg1)) z k) (Fin.ext h1.symm)
  blk_simp
  rw [after0_3]
  by_cases h0 : t.val % 8 = 0
  · rw [outsAt0_A m c t h0]
    frame_out
    exact key _ (by blk_simp [idx t]) (by blk_simp [idx t])
  · rw [outsAt0_B m c t h0]
    frame_out
    exact key _ (by blk_simp [idx t]) (by blk_simp [idx t])

/-- The gradient of the weights. -/
theorem final_4 : (dats m 0 c).arrAt 4 cfg0.N = G4 (m ((c : Thread nD τ).loc main_arg0)) (m ((c : Thread nD τ).loc main_arg2)) := by
  refine (dats m 0 c).arrAt_eq_of_covers 4 _ (by decide +kernel) fun t hf x => ?_
  have ht : t.val < 8 := t.isLt
  blk_simp
  rw [after0_4, Pipeline.eq_sum_fin_of_reset_step_apply_of_flush (fun n h => (outsAt0 m c n h).2.1) 8 (fun _ => 0)
      (term4 m c)
      (fun t h j => by rw [outsAt0_A m c t h]; frame_out; rw [pay5_at, pay1_at]; rfl)
      (fun t h j => by rw [outsAt0_B m c t h]; frame_out; rw [pay5_at]; rfl) t ((flush0_4 t).mp hf) _, zero_add]
  refine Fin.sum_mul_add_congr fun s k hl => congrArg₂ (· * ·) ((blk_0 m c _ _ _ ⟨_, hl⟩ ?_).trans ?_) ((blk_1 m c _ _ _ ⟨_, hl⟩ ?_).trans ?_)
  · simp; omega
  · exact congrArg (lr (m ((c : Thread nD τ).loc main_arg0)) _) (Fin.ext (by blk_simp [idx t]))
  · simp; omega
  · exact congrArg (m ((c : Thread nD τ).loc main_arg2) : FVec Ideal S4096x512 .f32) (congrArg (ix2 _) (Fin.ext (by blk_simp [idx t])))

/-- The gradient of the bias. -/
theorem final_5 : (dats m 0 c).arrAt 5 cfg0.N = G5 (m ((c : Thread nD τ).loc main_arg2)) := by
  refine (dats m 0 c).arrAt_eq_of_covers 5 _ (by decide +kernel) fun t hf x => ?_
  have ht : t.val < 8 := t.isLt
  blk_simp
  rw [after0_5, Pipeline.eq_sum_fin_of_reset_step_apply_of_flush (fun n h => (outsAt0 m c n h).2.2) 8 (fun _ => 0)
      (term5 m c)
      (fun t h j => by rw [outsAt0_A m c t h]; frame_out; rw [pay6_at, pay2_at]; rfl)
      (fun t h j => by rw [outsAt0_B m c t h]; frame_out; rw [pay6_at]; rfl) t ((flush0_5 t).mp hf) _, zero_add]
  refine Fin.sum_mul_add_congr fun s k hl => (blk_1 m c _ _ _ ⟨_, hl⟩ ?_).trans ?_
  · simp; omega
  · exact congrArg (m ((c : Thread nD τ).loc main_arg2) : FVec Ideal S4096x512 .f32) (congrArg (ix2 _) (Fin.ext (by blk_simp [idx t])))

end Cert.Gate

namespace Cert.Gate

open Cert.Reference2Ideal Cert.Reference2Ideal.Gen Cert.Reference2Ideal.Read

/-- The integer zero a reference pads with, as a number. -/
theorem sit0 : (FloatOps.sitofp (F := Ideal) FTy.f32 (0#32) : Ideal FTy.f32) = (0 : EReal) := by
  show (((0#32 : BitVec 32).toInt : ℝ) : EReal) = 0
  simp

/-- The reference's low-rank gradient is the kernel's. -/
theorem ref_21 (w : FVec Ideal S16x512 .f32) (g : FVec Ideal S4096x512 .f32) : val_main_v21 (F := Ideal) w g = G3 w g := by
  funext j
  obtain ⟨r, z, rfl⟩ : ∃ (r : Fin 4096) (z : Fin 128), j = ix2 r z := ⟨j 0, j 1, eq_ix2 j⟩
  pointwise [val_main_v21, val_main_v20, val_main_v19, val_main_v14, val_main_call0_v0, val_main_c, G3, wp]
  by_cases hz : z.val < 16
  · simp only [dif_pos hz]
  · simp only [dif_neg hz]
    exact sit0.trans (Finset.sum_eq_zero fun x _ => mul_zero _).symm

/-- The reference's weight gradient is the kernel's. -/
theorem ref_22 (y : FVec Ideal S4096x10256 .f32) (g : FVec Ideal S4096x512 .f32) : val_main_v22 (F := Ideal) y g = G4 y g := by
  funext j
  obtain ⟨r, z, rfl⟩ : ∃ (r : Fin 128) (z : Fin 512), j = ix2 r z := ⟨j 0, j 1, eq_ix2 j⟩
  pointwise [val_main_v22, val_main_v18, val_main_v17, val_main_v7, val_main_v14, val_main_call1_v0, val_main_c_1, G4, lr]
  by_cases hz : r.val < 16
  · simp only [dif_pos hz]
    exact Finset.sum_congr rfl fun x _ => mul_comm _ _
  · simp only [dif_neg hz]
    exact sit0.trans (Finset.sum_eq_zero fun x _ => zero_mul _).symm

/-- The reference's bias gradient is the kernel's. -/
theorem ref_16 (g : FVec Ideal S4096x512 .f32) : val_main_v16 (F := Ideal) g = G5 g := by
  funext j
  obtain ⟨r, z, rfl⟩ : ∃ (r : Fin 1) (z : Fin 512), j = ix2 r z := ⟨j 0, j 1, eq_ix2 j⟩
  pointwise [val_main_v16, val_main_v15, val_main_cst_0, G5]

/-- The kernel's frame. -/
theorem frame_P : Cert.quiescent_Kernel2 (hKernel2 := Cert.Kernel2.Gen.facts) := fun m ρ _ => Cert.Kernel2.Gen.frame m ρ

/-- The idealized kernel's frame. -/
theorem frame_PI : Cert.quiescent_Kernel2Ideal (hKernel2Ideal := Cert.Kernel2Ideal.Gen.facts) := fun m ρ _ => Cert.Kernel2Ideal.Gen.frame m ρ

/-- The reference's frame. -/
theorem frame_RI : Cert.quiescent_Reference2Ideal (hReference2Ideal := Cert.Reference2Ideal.Gen.facts) := fun m ρ _ =>
  (θ_run Cert.Reference2Ideal.defs _ _).mono (fun r h => ⟨fun c => (h c).2.2.2, sem_eq_zero_of_no_sems (by decide) r.2⟩)
    (Cert.Reference2Ideal.Value.run (F := Ideal) m ρ)

/-- The kernel and the reference compute the same three functions of the arguments. -/
theorem algebraic : Cert.algebraic_Kernel2Ideal_Reference2Ideal (hKernel2Ideal := Cert.Kernel2Ideal.Gen.facts) (hReference2Ideal := Cert.Reference2Ideal.Gen.facts) := by
  intro m ρ m' ρ' _ hagree
  refine ⟨fun c => (Cert.Kernel2Ideal.Gen.dats m 0 c).arrAt 3 Cert.Kernel2Ideal.cfg0.N, fun c => (Cert.Kernel2Ideal.Gen.dats m 0 c).arrAt 4 Cert.Kernel2Ideal.cfg0.N,
    fun c => (Cert.Kernel2Ideal.Gen.dats m 0 c).arrAt 5 Cert.Kernel2Ideal.cfg0.N,
    Cert.Kernel2Ideal.Value.run_blocks m ρ, θ_run_mono (Cert.Reference2Ideal.Value.run (F := Ideal) m' ρ') fun r h c => ?_⟩
  obtain ⟨h0, h1, h2⟩ := hagree c
  exact ⟨(h c).1.trans ((Cert.Reference2Ideal.Read.val_main_v21_eq (F := Ideal) _ _).trans ((ref_21 _ _).trans ((congrArg₂ G3 h1 h2).trans (final_3 m c).symm))),
    (h c).2.1.trans ((Cert.Reference2Ideal.Read.val_main_v22_eq (F := Ideal) _ _).trans ((ref_22 _ _).trans ((congrArg₂ G4 h0 h2).trans (final_4 m c).symm))),
    (h c).2.2.1.trans ((Cert.Reference2Ideal.Read.val_main_v16_eq (F := Ideal) _).trans ((ref_16 _).trans ((congrArg G5 h2).trans (final_5 m c).symm))),
    (h c).2.2.2⟩

end Cert.Gate

end
-- ==== Proof.Norm.lean ====
/-
  The gradient of a row's normalisation, as a function of the row: the kernels' spelling on extended reals, its value
  where the row is real, and the reference's spelling of the same gradient.
-/
module

public import proofs.«01_k».proof.Proof.Common

@[expose] public section

noncomputable section

open Idealize.ShloMosaic

namespace Cert.Norm

/-- The constants of the norms, as words. -/
theorem n_f32 : Ideal.ofBits .f32 0x45000000#32 = ((2048 : ℝ) : EReal) := by
  simp [Ideal.ofBits, Ideal.ieee]; rw [← EReal.coe_mul]; norm_num
theorem two_f32 : Ideal.ofBits .f32 0x40000000#32 = ((2 : ℝ) : EReal) := by
  simp [Ideal.ofBits, Ideal.ieee]; rw [← EReal.coe_mul]; norm_num
theorem nhalf_f32 : Ideal.ofBits .f32 0xBF000000#32 = ((-(1 / 2) : ℝ) : EReal) := by
  simp [Ideal.ofBits, Ideal.ieee]; rw [← EReal.coe_mul]; norm_num
/-- The norm's small constant. -/
def eps : ℝ := 10995116 / 1099511627776
theorem eps_f32 : Ideal.ofBits .f32 0x3727C5AC#32 = (eps : EReal) := by
  simp [Ideal.ofBits, Ideal.ieee, eps]; rw [← EReal.coe_mul]; norm_num
/-- The residual's factor. -/
def alpha : ℝ := 9975792 / 8388608
theorem alpha_f32 : Ideal.ofBits .f32 0x3F9837F0#32 = (alpha : EReal) := by
  simp [Ideal.ofBits, Ideal.ieee, alpha]; rw [← EReal.coe_mul]; norm_num
theorem eps_pos : 0 < eps := by unfold eps; norm_num

/-- Dividing by a row's length. -/
theorem div_n (x : ℝ) : Ideal.div (x : EReal) (Ideal.ofBits .f32 0x45000000#32) = ((x / 2048 : ℝ) : EReal) := by
  rw [n_f32, Ideal.div_coe (by norm_num), ← EReal.coe_mul]; congr 1; ring

/-- A row's centred entries, the reciprocal of its spread, its normalised entries, and the gradient of the row. -/
def cen (z : Fin 2048 → EReal) (k : Fin 2048) : EReal := z k - Ideal.div (∑ j, z j) (Ideal.ofBits .f32 0x45000000#32)
def rst (z : Fin 2048 → EReal) : EReal :=
  Ideal.rsqrt (Ideal.div (∑ j, cen z j * cen z j) (Ideal.ofBits .f32 0x45000000#32) + Ideal.ofBits .f32 0x3727C5AC#32)
def hat (z : Fin 2048 → EReal) (k : Fin 2048) : EReal := cen z k * rst z
def grad (z x : Fin 2048 → EReal) (k : Fin 2048) : EReal :=
  rst z * (x k - Ideal.div (∑ j, x j) (Ideal.ofBits .f32 0x45000000#32)
    - hat z k * Ideal.div (∑ j, x j * hat z j) (Ideal.ofBits .f32 0x45000000#32))

/-- The same of a row of real numbers. -/
def cenR (z : Fin 2048 → ℝ) (k : Fin 2048) : ℝ := z k - (∑ j, z j) / 2048
def varR (z : Fin 2048 → ℝ) : ℝ := (∑ j, cenR z j * cenR z j) / 2048 + eps
def rstR (z : Fin 2048 → ℝ) : ℝ := (Real.sqrt (varR z))⁻¹
def gradR (z x : Fin 2048 → ℝ) (k : Fin 2048) : ℝ :=
  rstR z * (x k - (∑ j, x j) / 2048 - cenR z k * rstR z * ((∑ j, x j * (cenR z j * rstR z)) / 2048))

theorem varR_pos (z : Fin 2048 → ℝ) : 0 < varR z :=
  add_pos_of_nonneg_of_pos (div_nonneg (Finset.sum_nonneg fun _ _ => mul_self_nonneg _) (by norm_num)) eps_pos

theorem cen_coe (z : Fin 2048 → ℝ) (k : Fin 2048) : cen (fun j => (z j : EReal)) k = (cenR z k : EReal) := by
  simp only [cen, ← Common.coe_sum, div_n, ← EReal.coe_sub, cenR]
theorem rsqrt_var (z : Fin 2048 → ℝ) : Ideal.rsqrt (varR z : EReal) = (rstR z : EReal) := by
  rw [Ideal.rsqrt_coe, if_neg (not_lt.mpr (varR_pos z).le), if_neg (varR_pos z).ne']; rfl
theorem rst_coe (z : Fin 2048 → ℝ) : rst (fun j => (z j : EReal)) = (rstR z : EReal) := by
  simp only [rst, cen_coe, ← EReal.coe_mul, ← Common.coe_sum, div_n, eps_f32, ← EReal.coe_add]
  exact rsqrt_var z
theorem hat_coe (z : Fin 2048 → ℝ) (k : Fin 2048) : hat (fun j => (z j : EReal)) k = ((cenR z k * rstR z : ℝ) : EReal) := by
  simp only [hat, cen_coe, rst_coe, ← EReal.coe_mul]
theorem grad_coe (z x : Fin 2048 → ℝ) (k : Fin 2048) :
    grad (fun j => (z j : EReal)) (fun j => (x j : EReal)) k = (gradR z x k : EReal) := by
  simp only [grad, hat_coe, rst_coe, ← EReal.coe_mul, ← Common.coe_sum, div_n, ← EReal.coe_sub, gradR]

/-- Dividing the reciprocal of the spread by its square. -/
theorem div_var (z : Fin 2048 → ℝ) : Ideal.div (rstR z : EReal) (varR z : EReal) = ((rstR z / varR z : ℝ) : EReal) := by
  rw [Ideal.div_coe (varR_pos z).ne', ← EReal.coe_mul]; congr 1; ring

theorem sum_cen (z : Fin 2048 → ℝ) : ∑ k, cenR z k = 0 := by
  simp only [cenR, Finset.sum_sub_distrib, Finset.sum_const, Finset.card_univ, Fintype.card_fin, nsmul_eq_mul]
  push_cast; ring

/-- The reference's share of the gradient that comes through the spread. -/
def midR (z x : Fin 2048 → ℝ) : ℝ := (∑ j, cenR z j * x j) * (-(1 / 2) * (rstR z / varR z)) / 2048

/-- The reference's gradient of a row is the kernels'. -/
theorem ref_grad (z x : Fin 2048 → ℝ) (k : Fin 2048) :
    x k * rstR z + midR z x * (2 * cenR z k) + ((∑ j, -(x j * rstR z)) + ∑ j, -(midR z x * (2 * cenR z j))) / 2048
      = gradR z x k := by
  have hs : rstR z / varR z = rstR z * rstR z * rstR z := by
    unfold rstR
    rw [← Real.sqrt_inv]
    have h2 : Real.sqrt (varR z)⁻¹ * Real.sqrt (varR z)⁻¹ = (varR z)⁻¹ := Real.mul_self_sqrt (inv_nonneg.mpr (varR_pos z).le)
    rw [h2, div_eq_mul_inv, mul_comm]
  have h1 : ∑ j, -(x j * rstR z) = -((∑ j, x j) * rstR z) := by rw [Finset.sum_neg_distrib, Finset.sum_mul]
  have h2 : ∑ j, -(midR z x * (2 * cenR z j)) = 0 := by
    rw [Finset.sum_neg_distrib, ← Finset.mul_sum, ← Finset.mul_sum, sum_cen]; ring
  have h3 : ∑ j, x j * (cenR z j * rstR z) = (∑ j, cenR z j * x j) * rstR z := by
    rw [Finset.sum_mul]; exact Finset.sum_congr rfl fun j _ => by ring
  rw [h1, h2, gradR, h3, midR, hs]
  ring

end Cert.Norm

end
-- ==== Proof.Ln.lean ====
/-
  The gradient of the residual's norm in the mixing block (`ln_bwd`): the kernel's five result arrays as functions of the
  arguments, and the reference's where the arguments are finite.
-/
module

public import proofs.«01_k».proof.Defs
public import proofs.«01_k».proof.Proof.Norm
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Pre_ln_finite
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Ln

open Cert.Kernel4Ideal Cert.Kernel4Ideal.Gen

/-- The residual's row. -/
def zrow (h f : FVec Ideal S4096x2048 .f32) (g : FVec Ideal S1x2048 .f32) (r : Fin 4096) (k : Fin 2048) : EReal :=
  Ideal.ofBits .f32 0x3F9837F0#32 * h (ix2 r k) + 1 * g (ix2 0 k) * f (ix2 r k)
/-- The gradient of the residual. -/
def G5 (h f : FVec Ideal S4096x2048 .f32) (g lg : FVec Ideal S1x2048 .f32) (dh : FVec Ideal S4096x2048 .f32) : FVec Ideal S4096x2048 .f32 :=
  fun i => Norm.grad (zrow h f g (i 0)) (fun k => dh (ix2 (i 0) k) * lg (ix2 0 k)) (i 1)
/-- The gradient of the branch. -/
def G6 (h f : FVec Ideal S4096x2048 .f32) (g lg : FVec Ideal S1x2048 .f32) (dh : FVec Ideal S4096x2048 .f32) : FVec Ideal S4096x2048 .bf16 :=
  fun i => 1 * g (ix2 0 (i 1)) * G5 h f g lg dh i
/-- The gradients of the norm's scale and shift, and of the branch's factor. -/
def G7 (h f : FVec Ideal S4096x2048 .f32) (g : FVec Ideal S1x2048 .f32) (dh : FVec Ideal S4096x2048 .f32) : FVec Ideal S1x2048 .f32 :=
  fun i => ∑ r : Fin 4096, dh (ix2 r (i 1)) * Norm.hat (zrow h f g r) (i 1)
def G8 (dh : FVec Ideal S4096x2048 .f32) : FVec Ideal S1x2048 .f32 := fun i => ∑ r : Fin 4096, dh (ix2 r (i 1))
def G9 (h f : FVec Ideal S4096x2048 .f32) (g lg : FVec Ideal S1x2048 .f32) (dh : FVec Ideal S4096x2048 .f32) : FVec Ideal S1x2048 .f32 :=
  fun i => ∑ r : Fin 4096, 1 * f (ix2 r (i 1)) * G5 h f g lg dh (ix2 r (i 1))

section pays

variable (b0 b1 : Vec Ideal S256x2048 .f32) (b2 : Vec Ideal S256x2048 .bf16) (b3 b4 a : Vec Ideal S1x2048 .f32) (u v : FVec Ideal S256x2048 .f32)

theorem pay4_at (r : Fin 256) (k : Fin 2048) : k0_pay4 b1 (ix2 r k) = Norm.cen (fun j => b1 (ix2 r j)) k := by
  pointwise [k0_pay4, Norm.cen]
theorem pay5_at (r : Fin 256) : k0_pay5 b1 (ix2 r 0) = Norm.rst (fun j => b1 (ix2 r j)) := by
  pointwise [k0_pay5, Norm.rst, pay4_at]
theorem pay6_at (r : Fin 256) (k : Fin 2048) : k0_pay6 b1 (ix2 r k) = Norm.hat (fun j => b1 (ix2 r j)) k := by
  pointwise [k0_pay6, Norm.hat, pay4_at, pay5_at]
/-- A block's gradient of the residual. -/
def gradb (r : Fin 256) (k : Fin 2048) : EReal := Norm.grad (fun j => b1 (ix2 r j)) (fun j => b0 (ix2 r j) * b3 (ix2 0 j)) k
theorem pay7_at (r : Fin 256) (k : Fin 2048) : k0_pay7 b0 b1 b3 (ix2 r k) = gradb b0 b1 b3 r k := by
  pointwise [k0_pay7, gradb, Norm.grad, pay6_at, pay5_at]
theorem pay8_at (r : Fin 256) (k : Fin 2048) : k0_pay8 u b4 (ix2 r k) = 1 * b4 (ix2 0 k) * u (ix2 r k) := by
  pointwise [k0_pay8]
/-- The block's sums over its rows. -/
def share7 (k : Fin 2048) : EReal := ∑ r : Fin 256, b0 (ix2 r k) * Norm.hat (fun j => b1 (ix2 r j)) k
def share8 (k : Fin 2048) : EReal := ∑ r : Fin 256, b0 (ix2 r k)
def share9 (k : Fin 2048) : EReal := ∑ r : Fin 256, 1 * b2 (ix2 r k) * gradb b0 b1 b3 r k
theorem pay9_at (k : Fin 2048) : k0_pay9 b0 (k0_pay6 b1) a (ix2 0 k) = a (ix2 0 k) + share7 b0 b1 k := by
  pointwise [k0_pay9, share7, pay6_at]
theorem pay10_at (k : Fin 2048) : k0_pay10 b0 a (ix2 0 k) = a (ix2 0 k) + share8 b0 k := by
  pointwise [k0_pay10, share8]
theorem pay11_at (k : Fin 2048) : k0_pay11 (k0_pay7 b0 b1 b3) a b2 (ix2 0 k) = a (ix2 0 k) + share9 b0 b1 b2 b3 k := by
  pointwise [k0_pay11, share9, pay7_at]
theorem pay1_at (x : S1x2048.Idx) : k0_pay1 (F := Ideal) x = 0 := by
  rw [eq_ix2 x]; pointwise [k0_pay1]
theorem pay2_at (x : S1x2048.Idx) : k0_pay2 (F := Ideal) x = 0 := by
  rw [eq_ix2 x]; pointwise [k0_pay2]
theorem pay3_at (x : S1x2048.Idx) : k0_pay3 (F := Ideal) x = 0 := by
  rw [eq_ix2 x]; pointwise [k0_pay3]

end pays

variable (m : (ℓ : Loc nD τ sig) → Buf (Elt Ideal) ℓ) (c : Dev nD)

/-- The kernel's residual, computed before the call. -/
def zsum (h f : FVec Ideal S4096x2048 .f32) (g : FVec Ideal S1x2048 .f32) : FVec Ideal S4096x2048 .f32 :=
  addf (mulf (broadcastInDim S4096x2048 ![] bcast_S_S4096x2048 (constant S_ .f32 0x3F9837F0#32)) h)
    (mulf (broadcastInDim S4096x2048 ![0, 1] bcast_S1x2048_S4096x2048_0_1 (mulf (broadcastInDim S1x2048 ![] bcast_S_S1x2048 (constant S_ .f32 0x3F800000#32)) g)) f)
theorem zsum_at (h f : FVec Ideal S4096x2048 .f32) (g : FVec Ideal S1x2048 .f32) (r : Fin 4096) (k : Fin 2048) :
    zsum h f g (ix2 r k) = zrow h f g r k := by
  pointwise [zsum, zrow]
theorem V_v6 : (V m c main_v6 : FVec Ideal S4096x2048 .f32)
    = zsum (m ((c : Thread nD τ).loc main_arg0)) (m ((c : Thread nD τ).loc main_arg1)) (m ((c : Thread nD τ).loc main_arg2)) := (rfl)
theorem V_v7 : (V m c main_v7 : FVec Ideal S4096x2048 .bf16)
    = (truncf .bf16 (m ((c : Thread nD τ).loc main_arg1) : FVec Ideal S4096x2048 .f32) bitsLt_bf16_f32 : FVec Ideal S4096x2048 .bf16) := (rfl)

/-- Where each window's block of a point lies. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![t.val, 0] ∧ win0_6.index t = ![t.val, 0]
    ∧ win0_7.index t = ![0, 0] ∧ win0_8.index t = ![0, 0] ∧ win0_9.index t = ![0, 0] :=
  (by decide +kernel : ∀ t : Fin grid0.N, _)

theorem blk_0 (t : Fin cfg0.N) (r : Fin 256) (k : Fin 2048) (R : Fin 4096) (hR : R.val = t.val * 256 + r.val) :
    (iblk m c 0 t : Vec Ideal S256x2048 .f32) (ix2 r k) = (m ((c : Thread nD τ).loc main_arg5) : FVec Ideal S4096x2048 .f32) (ix2 R k) := by
  refine congrArg (m ((c : Thread nD τ).loc main_arg5) : FVec Ideal S4096x2048 .f32) (funext fun d => Fin.ext ?_)
  fin_cases d <;> blk_simp [idx t] <;> simp [ix2] <;> omega
theorem blk_1 (t : Fin cfg0.N) (r : Fin 256) (k : Fin 2048) (R : Fin 4096) (hR : R.val = t.val * 256 + r.val) :
    (iblk m c 1 t : Vec Ideal S256x2048 .f32) (ix2 r k)
      = zrow (m ((c : Thread nD τ).loc main_arg0)) (m ((c : Thread nD τ).loc main_arg1)) (m ((c : Thread nD τ).loc main_arg2)) R k := by
  refine Eq.trans ?_ ((congrFun (V_v6 m c) (ix2 R k)).trans (zsum_at _ _ _ _ _))
  refine congrArg (V m c main_v6 : FVec Ideal S4096x2048 .f32) (funext fun d => Fin.ext ?_)
  fin_cases d <;> blk_simp [idx t] <;> simp [ix2] <;> omega
theorem blk_2 (t : Fin cfg0.N) (r : Fin 256) (k : Fin 2048) (R : Fin 4096) (hR : R.val = t.val * 256 + r.val) :
    (iblk m c 2 t : Vec Ideal S256x2048 .bf16) (ix2 r k) = (m ((c : Thread nD τ).loc main_arg1) : FVec Ideal S4096x2048 .f32) (ix2 R k) := by
  refine Eq.trans ?_ (congrFun (V_v7 m c) (ix2 R k))
  refine congrArg (V m c main_v7 : FVec Ideal S4096x2048 .bf16) (funext fun d => Fin.ext ?_)
  fin_cases d <;> blk_simp [idx t] <;> simp [ix2] <;> omega
theorem blk_3 (t : Fin cfg0.N) (k : Fin 2048) :
    (iblk m c 3 t : Vec Ideal S1x2048 .f32) (ix2 0 k) = (m ((c : Thread nD τ).loc main_arg3) : FVec Ideal S1x2048 .f32) (ix2 0 k) := by
  refine congrArg (m ((c : Thread nD τ).loc main_arg3) : FVec Ideal S1x2048 .f32) (funext fun d => Fin.ext ?_)
  fin_cases d <;> blk_simp [idx t] <;> simp [ix2]
theorem blk_4 (t : Fin cfg0.N) (k : Fin 2048) :
    (iblk m c 4 t : Vec Ideal S1x2048 .f32) (ix2 0 k) = (m ((c : Thread nD τ).loc main_arg2) : FVec Ideal S1x2048 .f32) (ix2 0 k) := by
  refine congrArg (m ((c : Thread nD τ).loc main_arg2) : FVec Ideal S1x2048 .f32) (funext fun d => Fin.ext ?_)
  fin_cases d <;> blk_simp [idx t] <;> simp [ix2]

/-- A block's gradient of the residual is the whole gradient's block. -/
theorem grad_blk (t : Fin cfg0.N) (r : Fin 256) (k : Fin 2048) (R : Fin 4096) (hR : R.val = t.val * 256 + r.val) :
    gradb (iblk m c 0 t) (iblk m c 1 t) (iblk m c 3 t) r k
      = G5 (m ((c : Thread nD τ).loc main_arg0)) (m ((c : Thread nD τ).loc main_arg1)) (m ((c : Thread nD τ).loc main_arg2))
          (m ((c : Thread nD τ).loc main_arg3)) (m ((c : Thread nD τ).loc main_arg5)) (ix2 R k) := by
  exact congrArg₂ (fun z x => Norm.grad z x k) (funext fun j => blk_1 m c t r j R hR)
    (funext fun j => congrArg₂ (· * ·) (blk_0 m c t r j R hR) (blk_3 m c t j))

/-- A point's shares of the three sums. -/
def term7 (t : Fin cfg0.N) (y : S1x2048.Idx) : EReal := share7 (iblk m c 0 t) (iblk m c 1 t) (y 1)
def term8 (t : Fin cfg0.N) (y : S1x2048.Idx) : EReal := share8 (iblk m c 0 t) (y 1)
def term9 (t : Fin cfg0.N) (y : S1x2048.Idx) : EReal := share9 (iblk m c 0 t) (iblk m c 1 t) (iblk m c 2 t) (iblk m c 3 t) (y 1)

/-- The gradient of the residual. -/
theorem final_5 : (dats m 0 c).arrAt 5 cfg0.N = G5 (m ((c : Thread nD τ).loc main_arg0)) (m ((c : Thread nD τ).loc main_arg1))
    (m ((c : Thread nD τ).loc main_arg2)) (m ((c : Thread nD τ).loc main_arg3)) (m ((c : Thread nD τ).loc main_arg5)) := by
  refine (dats m 0 c).arrAt_eq_of_covers 5 _ (by decide +kernel) fun t _ x => ?_
  have key : ∀ (i : S4096x2048.Idx), (i 0).val = t.val * 256 + (x 0).val → (i 1).val = (x 1).val →
      k0_pay7 (iblk m c 0 t) (iblk m c 1 t) (iblk m c 3 t) x = G5 (m ((c : Thread nD τ).loc main_arg0)) (m ((c : Thread nD τ).loc main_arg1))
        (m ((c : Thread nD τ).loc main_arg2)) (m ((c : Thread nD τ).loc main_arg3)) (m ((c : Thread nD τ).loc main_arg5)) i := fun i h0 h1 => by
    rw [eq_ix2 x, eq_ix2 i, show i 1 = x 1 from Fin.ext h1]
    exact (pay7_at _ _ _ _ _).trans (grad_blk m c t _ _ _ h0)
  blk_simp
  rw [after0_5]
  by_cases h0 : t.val % 16 = 0
  · rw [outsAt0_A m c t h0]
    frame_out
    exact key _ (by blk_simp [idx t]) (by blk_simp [idx t])
  · rw [outsAt0_B m c t h0]
    frame_out
    exact key _ (by blk_simp [idx t]) (by blk_simp [idx t])

/-- The gradient of the branch. -/
theorem final_6 : (dats m 0 c).arrAt 6 cfg0.N = G6 (m ((c : Thread nD τ).loc main_arg0)) (m ((c : Thread nD τ).loc main_arg1))
    (m ((c : Thread nD τ).loc main_arg2)) (m ((c : Thread nD τ).loc main_arg3)) (m ((c : Thread nD τ).loc main_arg5)) := by
  refine (dats m 0 c).arrAt_eq_of_covers 6 _ (by decide +kernel) fun t _ x => ?_
  have key : ∀ (i : S4096x2048.Idx), (i 0).val = t.val * 256 + (x 0).val → (i 1).val = (x 1).val →
      k0_pay8 (k0_pay7 (iblk m c 0 t) (iblk m c 1 t) (iblk m c 3 t)) (iblk m c 4 t) x = G6 (m ((c : Thread nD τ).loc main_arg0)) (m ((c : Thread nD τ).loc main_arg1))
        (m ((c : Thread nD τ).loc main_arg2)) (m ((c : Thread nD τ).loc main_arg3)) (m ((c : Thread nD τ).loc main_arg5)) i := fun i h0 h1 => by
    rw [eq_ix2 x, eq_ix2 i, show i 1 = x 1 from Fin.ext h1]
    exact (pay8_at _ _ _ _).trans (congrArg₂ (fun a b : EReal => 1 * a * b) (blk_4 m c t _) ((pay7_at _ _ _ _ _).trans (grad_blk m c t _ _ _ h0)))
  blk_simp
  rw [after0_6]
  by_cases h0 : t.val % 16 = 0
  · rw [outsAt0_A m c t h0]
    frame_out
    exact key _ (by blk_simp [idx t]) (by blk_simp [idx t])
  · rw [outsAt0_B m c t h0]
    frame_out
    exact key _ (by blk_simp [idx t]) (by blk_simp [idx t])

/-- The gradient of the norm's scale. -/
theorem final_7 : (dats m 0 c).arrAt 7 cfg0.N = G7 (m ((c : Thread nD τ).loc main_arg0)) (m ((c : Thread nD τ).loc main_arg1))
    (m ((c : Thread nD τ).loc main_arg2)) (m ((c : Thread nD τ).loc main_arg5)) := by
  refine (dats m 0 c).arrAt_eq_of_covers 7 _ (by decide +kernel) fun t hf x => ?_
  have ht : t.val < 16 := t.isLt
  blk_simp
  rw [after0_7, Pipeline.eq_sum_fin_of_reset_step_apply_of_flush (fun n h => (outsAt0 m c n h).2.2.1) 16 (fun _ => 0)
      (term7 m c)
      (fun t h j => by rw [outsAt0_A m c t h]; frame_out; obtain ⟨k, rfl⟩ : ∃ k : Fin 2048, j = ix2 0 k := ⟨j 1, (eq_ix2 j).trans (congrArg (ix2 · (j 1)) (Subsingleton.elim _ _))⟩; rw [pay9_at, pay1_at]; rfl)
      (fun t h j => by rw [outsAt0_B m c t h]; frame_out; obtain ⟨k, rfl⟩ : ∃ k : Fin 2048, j = ix2 0 k := ⟨j 1, (eq_ix2 j).trans (congrArg (ix2 · (j 1)) (Subsingleton.elim _ _))⟩; rw [pay9_at]; rfl) t ((flush0_7 t).mp hf) _, zero_add]
  refine Fin.sum_mul_add_congr fun s k hl => congrArg₂ (· * ·) ((blk_0 m c _ _ _ ⟨_, hl⟩ ?_).trans ?_) ?_
  · simp; omega
  · exact congrArg (m ((c : Thread nD τ).loc main_arg5) : FVec Ideal S4096x2048 .f32) (congrArg (ix2 _) (Fin.ext (by blk_simp [idx t])))
  · exact congrArg₂ Norm.hat (funext fun j => blk_1 m c _ _ _ ⟨_, hl⟩ (by simp; omega)) (Fin.ext (by blk_simp [idx t]))

/-- The gradient of the norm's shift. -/
theorem final_8 : (dats m 0 c).arrAt 8 cfg0.N = G8 (m ((c : Thread nD τ).loc main_arg5)) := by
  refine (dats m 0 c).arrAt_eq_of_covers 8 _ (by decide +kernel) fun t hf x => ?_
  have ht : t.val < 16 := t.isLt
  blk_simp
  rw [after0_8, Pipeline.eq_sum_fin_of_reset_step_apply_of_flush (fun n h => (outsAt0 m c n h).2.2.2.1) 16 (fun _ => 0)
      (term8 m c)
      (fun t h j => by rw [outsAt0_A m c t h]; frame_out; obtain ⟨k, rfl⟩ : ∃ k : Fin 2048, j = ix2 0 k := ⟨j 1, (eq_ix2 j).trans (congrArg (ix2 · (j 1)) (Subsingleton.elim _ _))⟩; rw [pay10_at, pay2_at]; rfl)
      (fun t h j => by rw [outsAt0_B m c t h]; frame_out; obtain ⟨k, rfl⟩ : ∃ k : Fin 2048, j = ix2 0 k := ⟨j 1, (eq_ix2 j).trans (congrArg (ix2 · (j 1)) (Subsingleton.elim _ _))⟩; rw [pay10_at]; rfl) t ((flush0_8 t).mp hf) _, zero_add]
  refine Fin.sum_mul_add_congr fun s k hl => (blk_0 m c _ _ _ ⟨_, hl⟩ ?_).trans ?_
  · simp; omega
  · exact congrArg (m ((c : Thread nD τ).loc main_arg5) : FVec Ideal S4096x2048 .f32) (congrArg (ix2 _) (Fin.ext (by blk_simp [idx t])))

/-- The gradient of the branch's factor. -/
theorem final_9 : (dats m 0 c).arrAt 9 cfg0.N = G9 (m ((c : Thread nD τ).loc main_arg0)) (m ((c : Thread nD τ).loc main_arg1))
    (m ((c : Thread nD τ).loc main_arg2)) (m ((c : Thread nD τ).loc main_arg3)) (m ((c : Thread nD τ).loc main_arg5)) := by
  refine (dats m 0 c).arrAt_eq_of_covers 9 _ (by decide +kernel) fun t hf x => ?_
  have ht : t.val < 16 := t.isLt
  blk_simp
  rw [after0_9, Pipeline.eq_sum_fin_of_reset_step_apply_of_flush (fun n h => (outsAt0 m c n h).2.2.2.2) 16 (fun _ => 0)
      (term9 m c)
      (fun t h j => by rw [outsAt0_A m c t h]; frame_out; obtain ⟨k, rfl⟩ : ∃ k : Fin 2048, j = ix2 0 k := ⟨j 1, (eq_ix2 j).trans (congrArg (ix2 · (j 1)) (Subsingleton.elim _ _))⟩; rw [pay11_at, pay3_at]; rfl)
      (fun t h j => by rw [outsAt0_B m c t h]; frame_out; obtain ⟨k, rfl⟩ : ∃ k : Fin 2048, j = ix2 0 k := ⟨j 1, (eq_ix2 j).trans (congrArg (ix2 · (j 1)) (Subsingleton.elim _ _))⟩; rw [pay11_at]; rfl) t ((flush0_9 t).mp hf) _, zero_add]
  refine Fin.sum_mul_add_congr fun s k hl => congrArg₂ (fun a b : EReal => 1 * a * b) ((blk_2 m c _ _ _ ⟨_, hl⟩ ?_).trans ?_) ((grad_blk m c _ _ _ ⟨_, hl⟩ ?_).trans ?_)
  · simp; omega
  · exact congrArg (m ((c : Thread nD τ).loc main_arg1) : FVec Ideal S4096x2048 .f32) (congrArg (ix2 _) (Fin.ext (by blk_simp [idx t])))
  · simp; omega
  · exact congrArg (G5 _ _ _ _ _) (congrArg (ix2 _) (Fin.ext (by blk_simp [idx t])))

end Cert.Ln

namespace Cert.Ln

open Cert.Reference4Ideal Cert.Reference4Ideal.Gen Cert.Reference4Ideal.Read

/-- The residual's row, real. -/
def zR (h f : S4096x2048.Idx → ℝ) (g : S1x2048.Idx → ℝ) (r : Fin 4096) (k : Fin 2048) : ℝ :=
  Norm.alpha * h (ix2 r k) + g (ix2 0 k) * f (ix2 r k)

theorem zrow_coe (h f : S4096x2048.Idx → ℝ) (g : S1x2048.Idx → ℝ) (r : Fin 4096) :
    zrow (fun i => (h i : EReal)) (fun i => (f i : EReal)) (fun i => (g i : EReal)) r = fun k => (zR h f g r k : EReal) := by
  funext k
  simp only [zrow, Norm.alpha_f32, one_mul, ← EReal.coe_mul, ← EReal.coe_add, zR]

theorem at_4 (h f : S4096x2048.Idx → ℝ) (g : S1x2048.Idx → ℝ) (r : Fin 4096) (k : Fin 2048) : val_main_v4 (F := Ideal) (fun i => (h i : EReal)) (fun i => (f i : EReal)) (fun i => (g i : EReal)) (ix2 r k) = (zR h f g r k : EReal) := by
  pointwise [val_main_v4, val_main_v1, val_main_v0, val_main_cst, val_main_v3, val_main_v2]
  simp only [Norm.alpha_f32, zR, ← EReal.coe_mul, ← EReal.coe_add, ← EReal.coe_sub, ← EReal.coe_neg, ← Common.coe_sum, Norm.div_n]

theorem at_8 (h f : S4096x2048.Idx → ℝ) (g : S1x2048.Idx → ℝ) (r : Fin 4096) : val_main_v8 (F := Ideal) (fun i => (h i : EReal)) (fun i => (f i : EReal)) (fun i => (g i : EReal)) (ix2 r 0) = (((∑ j, zR h f g r j) / 2048 : ℝ) : EReal) := by
  pointwise [val_main_v8, val_main_v6, val_main_v5, val_main_cst_0, val_main_v7, val_main_cst_1, at_4]
  simp only [← EReal.coe_mul, ← EReal.coe_add, ← EReal.coe_sub, ← EReal.coe_neg, ← Common.coe_sum, Norm.div_n]

theorem at_10 (h f : S4096x2048.Idx → ℝ) (g : S1x2048.Idx → ℝ) (r : Fin 4096) (k : Fin 2048) : val_main_v10 (F := Ideal) (fun i => (h i : EReal)) (fun i => (f i : EReal)) (fun i => (g i : EReal)) (ix2 r k) = (Norm.cenR (zR h f g r) k : EReal) := by
  pointwise [val_main_v10, val_main_v9, at_4, at_8]
  simp only [Norm.cenR, ← EReal.coe_mul, ← EReal.coe_add, ← EReal.coe_sub, ← EReal.coe_neg, ← Common.coe_sum, Norm.div_n]

theorem at_19 (h f : S4096x2048.Idx → ℝ) (g : S1x2048.Idx → ℝ) (r : Fin 4096) (k : Fin 2048) : val_main_v19 (F := Ideal) (fun i => (h i : EReal)) (fun i => (f i : EReal)) (fun i => (g i : EReal)) (ix2 r k) = (Norm.cenR (zR h f g r) k : EReal) := by
  pointwise [val_main_v19, val_main_v18, at_4, at_8]
  simp only [Norm.cenR, ← EReal.coe_mul, ← EReal.coe_add, ← EReal.coe_sub, ← EReal.coe_neg, ← Common.coe_sum, Norm.div_n]

theorem at_21 (h f : S4096x2048.Idx → ℝ) (g : S1x2048.Idx → ℝ) (r : Fin 4096) : val_main_v21 (F := Ideal) (fun i => (h i : EReal)) (fun i => (f i : EReal)) (fun i => (g i : EReal)) (ix2 r 0) = (Norm.varR (zR h f g r) : EReal) := by
  pointwise [val_main_v21, val_main_v17, val_main_v15, val_main_v14, val_main_cst_3, val_main_v11, val_main_v16, val_main_cst_4, val_main_v20, val_main_cst_5, at_10]
  simp only [Norm.eps_f32, Norm.varR, ← EReal.coe_mul, ← EReal.coe_add, ← EReal.coe_sub, ← EReal.coe_neg, ← Common.coe_sum, Norm.div_n]

theorem at_22 (h f : S4096x2048.Idx → ℝ) (g : S1x2048.Idx → ℝ) (r : Fin 4096) : val_main_v22 (F := Ideal) (fun i => (h i : EReal)) (fun i => (f i : EReal)) (fun i => (g i : EReal)) (ix2 r 0) = (Norm.rstR (zR h f g r) : EReal) := by
  pointwise [val_main_v22, at_21]
  simp only [Norm.rsqrt_var, ← EReal.coe_mul, ← EReal.coe_add, ← EReal.coe_sub, ← EReal.coe_neg, ← Common.coe_sum, Norm.div_n]

theorem at_39 (dh : S4096x2048.Idx → ℝ) (lg : S1x2048.Idx → ℝ) (r : Fin 4096) (k : Fin 2048) : val_main_v39 (F := Ideal) (fun i => (lg i : EReal)) (fun i => (dh i : EReal)) (ix2 r k) = (((dh (ix2 r k) * lg (ix2 0 k) : ℝ)) : EReal) := by
  pointwise [val_main_v39, val_main_v32, val_main_v38]
  simp only [← EReal.coe_mul, ← EReal.coe_add, ← EReal.coe_sub, ← EReal.coe_neg, ← Common.coe_sum, Norm.div_n]

theorem at_44 (h f dh : S4096x2048.Idx → ℝ) (g lg : S1x2048.Idx → ℝ) (r : Fin 4096) (k : Fin 2048) : val_main_v44 (F := Ideal) (fun i => (h i : EReal)) (fun i => (f i : EReal)) (fun i => (g i : EReal)) (fun i => (lg i : EReal)) (fun i => (dh i : EReal)) (ix2 r k) = (((dh (ix2 r k) * lg (ix2 0 k) * Norm.rstR (zR h f g r) : ℝ)) : EReal) := by
  pointwise [val_main_v44, val_main_v43, at_39, at_22]
  simp only [← EReal.coe_mul, ← EReal.coe_add, ← EReal.coe_sub, ← EReal.coe_neg, ← Common.coe_sum, Norm.div_n]

theorem at_45 (h f dh : S4096x2048.Idx → ℝ) (g lg : S1x2048.Idx → ℝ) (r : Fin 4096) : val_main_v45 (F := Ideal) (fun i => (h i : EReal)) (fun i => (f i : EReal)) (fun i => (g i : EReal)) (fun i => (lg i : EReal)) (fun i => (dh i : EReal)) (ix2 r 0) = (((∑ j, Norm.cenR (zR h f g r) j * (dh (ix2 r j) * lg (ix2 0 j))) * (-(1/2) * (Norm.rstR (zR h f g r) / Norm.varR (zR h f g r))) : ℝ) : EReal) := by
  pointwise [val_main_v45, val_main_v42, val_main_v41, val_main_cst_9, val_main_v40, val_main_v25, val_main_v24, val_main_cst_6, val_main_v23, at_39, at_19, at_22, at_21]
  simp only [Norm.nhalf_f32, Norm.div_var, ← EReal.coe_mul, ← EReal.coe_add, ← EReal.coe_sub, ← EReal.coe_neg, ← Common.coe_sum, Norm.div_n]

theorem at_53 (h f dh : S4096x2048.Idx → ℝ) (g lg : S1x2048.Idx → ℝ) (r : Fin 4096) (k : Fin 2048) : val_main_v53 (F := Ideal) (fun i => (h i : EReal)) (fun i => (f i : EReal)) (fun i => (g i : EReal)) (fun i => (lg i : EReal)) (fun i => (dh i : EReal)) (ix2 r k) = (((Norm.midR (zR h f g r) (fun j => dh (ix2 r j) * lg (ix2 0 j)) * (2 * Norm.cenR (zR h f g r) k) : ℝ)) : EReal) := by
  pointwise [val_main_v53, val_main_v52, val_main_v51, val_main_cst_12, val_main_v50, val_main_v49, val_main_cst_11, val_main_v13, val_main_v12, val_main_cst_2, at_45, at_10]
  simp only [Norm.two_f32, Norm.midR, Finset.univ_unique, Finset.sum_singleton, Fin.default_eq_zero, at_45, ← EReal.coe_mul, ← EReal.coe_add, ← EReal.coe_sub, ← EReal.coe_neg, ← Common.coe_sum, Norm.div_n]

theorem at_63 (h f dh : S4096x2048.Idx → ℝ) (g lg : S1x2048.Idx → ℝ) (r : Fin 4096) (k : Fin 2048) : val_main_v63 (F := Ideal) (fun i => (h i : EReal)) (fun i => (f i : EReal)) (fun i => (g i : EReal)) (fun i => (lg i : EReal)) (fun i => (dh i : EReal)) (ix2 r k) = (Norm.gradR (zR h f g r) (fun j => dh (ix2 r j) * lg (ix2 0 j)) k : EReal) := by
  pointwise [val_main_v63, val_main_v57, val_main_v62, val_main_v61, val_main_cst_15, val_main_v60, val_main_v59, val_main_cst_14, val_main_v58, val_main_v48, val_main_v47, val_main_cst_10, val_main_v46, val_main_v56, val_main_v55, val_main_cst_13, val_main_v54, at_44, at_53]
  simp only [Finset.univ_unique, Finset.sum_singleton, Fin.default_eq_zero, ← EReal.coe_mul, ← EReal.coe_add, ← EReal.coe_sub, ← EReal.coe_neg, ← Common.coe_sum, Norm.div_n]
  exact congrArg _ (Norm.ref_grad (zR h f g r) (fun j => dh (ix2 r j) * lg (ix2 0 j)) k)

section results

variable {h f dh : FVec Ideal S4096x2048 .f32} {g lg : FVec Ideal S1x2048 .f32}
  (hh : ∃ r : S4096x2048.Idx → ℝ, h = fun i => (r i : EReal)) (hf : ∃ r : S4096x2048.Idx → ℝ, f = fun i => (r i : EReal))
  (hg : ∃ r : S1x2048.Idx → ℝ, g = fun i => (r i : EReal)) (hl : ∃ r : S1x2048.Idx → ℝ, lg = fun i => (r i : EReal))
  (hd : ∃ r : S4096x2048.Idx → ℝ, dh = fun i => (r i : EReal))

include hh hf hg in
/-- The reference's centred entries times the reciprocal of the spread are the kernel's normalised entries. -/
theorem hat_eq (r : Fin 4096) (k : Fin 2048) :
    val_main_v19 (F := Ideal) h f g (ix2 r k) * val_main_v22 (F := Ideal) h f g (ix2 r 0) = Norm.hat (zrow h f g r) k := by
  obtain ⟨h, rfl⟩ := hh
  obtain ⟨f, rfl⟩ := hf
  obtain ⟨g, rfl⟩ := hg
  rw [zrow_coe, Norm.hat_coe, at_19, at_22, ← EReal.coe_mul]

include hh hf hg hl hd in
/-- The reference's gradient of the residual is the kernel's. -/
theorem ref_63 : val_main_v63 (F := Ideal) h f g lg dh = G5 h f g lg dh := by
  obtain ⟨h, rfl⟩ := hh
  obtain ⟨f, rfl⟩ := hf
  obtain ⟨g, rfl⟩ := hg
  obtain ⟨lg, rfl⟩ := hl
  obtain ⟨dh, rfl⟩ := hd
  funext j
  obtain ⟨r, k, rfl⟩ : ∃ (r : Fin 4096) (k : Fin 2048), j = ix2 r k := ⟨j 0, j 1, eq_ix2 j⟩
  rw [at_63]
  refine (Norm.grad_coe _ _ _).symm.trans ?_
  exact congrArg₂ (fun z x => Norm.grad z x k) (zrow_coe h f g r).symm (funext fun j => EReal.coe_mul _ _)

include hh hf hg hl hd in
/-- The reference's gradient of the branch is the kernel's. -/
theorem ref_76 : val_main_v76 (F := Ideal) h f g lg dh = G6 h f g lg dh := by
  funext j
  obtain ⟨r, k, rfl⟩ : ∃ (r : Fin 4096) (k : Fin 2048), j = ix2 r k := ⟨j 0, j 1, eq_ix2 j⟩
  pointwise [val_main_v76, val_main_v70, val_main_v69, G6, ref_63 hh hf hg hl hd]

include hh hf hg in
/-- The reference's gradient of the norm's scale is the kernel's. -/
theorem ref_37 : val_main_v37 (F := Ideal) h f g dh = G7 h f g dh := by
  funext j
  obtain ⟨u, k, rfl⟩ : ∃ (u : Fin 1) (k : Fin 2048), j = ix2 u k := ⟨j 0, j 1, eq_ix2 j⟩
  pointwise [val_main_v37, val_main_v36, val_main_cst_8, val_main_v35, val_main_v27, val_main_v26, val_main_v32, G7]
  simp only [hat_eq hh hf hg]
  exact Finset.sum_congr rfl fun x _ => mul_comm _ _

/-- The reference's gradient of the norm's shift is the kernel's. -/
theorem ref_34 : val_main_v34 (F := Ideal) dh = G8 dh := by
  funext j
  obtain ⟨u, k, rfl⟩ : ∃ (u : Fin 1) (k : Fin 2048), j = ix2 u k := ⟨j 0, j 1, eq_ix2 j⟩
  pointwise [val_main_v34, val_main_v33, val_main_cst_7, G8]

include hh hf hg hl hd in
/-- The reference's gradient of the branch's factor is the kernel's. -/
theorem ref_73 : val_main_v73 (F := Ideal) h f g lg dh = G9 h f g lg dh := by
  funext j
  obtain ⟨u, k, rfl⟩ : ∃ (u : Fin 1) (k : Fin 2048), j = ix2 u k := ⟨j 0, j 1, eq_ix2 j⟩
  pointwise [val_main_v73, val_main_v72, val_main_cst_17, val_main_v71, G9, ref_63 hh hf hg hl hd]
  exact Finset.sum_congr rfl fun x _ => mul_comm _ _

end results

/-- What the precondition says of the arguments. -/
theorem finite_args (h f : FVec Ideal S4096x2048 .f32) (g lg lb : FVec Ideal S1x2048 .f32) (dh : FVec Ideal S4096x2048 .f32)
    (hp : Cert.Pre_ln_finite.fn (F := Ideal) h f g lg lb dh = fun _ => 1#1) :
    (∃ r : S4096x2048.Idx → ℝ, h = fun i => (r i : EReal)) ∧ (∃ r : S4096x2048.Idx → ℝ, f = fun i => (r i : EReal))
    ∧ (∃ r : S1x2048.Idx → ℝ, g = fun i => (r i : EReal)) ∧ (∃ r : S1x2048.Idx → ℝ, lg = fun i => (r i : EReal))
    ∧ (∃ r : S4096x2048.Idx → ℝ, dh = fun i => (r i : EReal)) := by
  have h1 := congrFun hp (fun a => a.elim0)
  obtain ⟨h1, hd⟩ := Common.andi_one _ _ _ h1
  obtain ⟨h1, hl⟩ := Common.andi_one _ _ _ h1
  obtain ⟨h1, hg⟩ := Common.andi_one _ _ _ h1
  obtain ⟨hh, hf⟩ := Common.andi_one _ _ _ h1
  exact ⟨Common.finite_of_reduce _ _ _ _ _ _ hh, Common.finite_of_reduce _ _ _ _ _ _ hf, Common.finite_of_reduce _ _ _ _ _ _ hg,
    Common.finite_of_reduce _ _ _ _ _ _ hl, Common.finite_of_reduce _ _ _ _ _ _ hd⟩

/-- The kernel's frame. -/
theorem frame_P : Cert.quiescent_Kernel4 (hKernel4 := Cert.Kernel4.Gen.facts) := fun m ρ _ => Cert.Kernel4.Gen.frame m ρ

/-- The idealized kernel's frame. -/
theorem frame_PI : Cert.quiescent_Kernel4Ideal (hKernel4Ideal := Cert.Kernel4Ideal.Gen.facts) := fun m ρ _ => Cert.Kernel4Ideal.Gen.frame m ρ

/-- The same under the value claim's precondition. -/
theorem frame_PI' [Cert.Pre_ln_finite.Facts] : Cert.quiescent_Kernel4Ideal_pre_ln_finite (hKernel4Ideal := Cert.Kernel4Ideal.Gen.facts) := fun m ρ _ =>
  Cert.Kernel4Ideal.Gen.frame m ρ

/-- The reference's frame. -/
theorem frame_RI : Cert.quiescent_Reference4Ideal (hReference4Ideal := Cert.Reference4Ideal.Gen.facts) := fun m ρ _ =>
  (θ_run Cert.Reference4Ideal.defs _ _).mono (fun r h => ⟨fun c => (h c).2.2.2.2.2, sem_eq_zero_of_no_sems (by decide) r.2⟩)
    (Cert.Reference4Ideal.Value.run (F := Ideal) m ρ)

/-- The same under the value claim's precondition. -/
theorem frame_RI' [Cert.Pre_ln_finite.Facts] : Cert.quiescent_Reference4Ideal_pre_ln_finite (hReference4Ideal := Cert.Reference4Ideal.Gen.facts) := fun m ρ _ =>
  frame_RI m ρ trivial

/-- The kernel and the reference compute the same five functions of finite arguments. -/
theorem algebraic : Cert.algebraic_Kernel4Ideal_Reference4Ideal_pre_ln_finite (hKernel4Ideal := Cert.Kernel4Ideal.Gen.facts) (hReference4Ideal := Cert.Reference4Ideal.Gen.facts)
    (hPre_ln_finite := Cert.Pre_ln_finite.Gen.facts) := by
  intro m ρ m' ρ' hpre hagree
  refine ⟨fun c => (Cert.Kernel4Ideal.Gen.dats m 0 c).arrAt 5 Cert.Kernel4Ideal.cfg0.N, fun c => (Cert.Kernel4Ideal.Gen.dats m 0 c).arrAt 6 Cert.Kernel4Ideal.cfg0.N,
    fun c => (Cert.Kernel4Ideal.Gen.dats m 0 c).arrAt 7 Cert.Kernel4Ideal.cfg0.N, fun c => (Cert.Kernel4Ideal.Gen.dats m 0 c).arrAt 8 Cert.Kernel4Ideal.cfg0.N,
    fun c => (Cert.Kernel4Ideal.Gen.dats m 0 c).arrAt 9 Cert.Kernel4Ideal.cfg0.N,
    Cert.Kernel4Ideal.Value.run_blocks m ρ, θ_run_mono (Cert.Reference4Ideal.Value.run (F := Ideal) m' ρ') fun r h c => ?_⟩
  obtain ⟨hh, hf, hg, hl, hd⟩ := finite_args _ _ _ _ _ _ (hpre c)
  obtain ⟨h0, h1, h2, h3, h4, h5⟩ := hagree c
  refine ⟨(h c).1.trans ((Cert.Reference4Ideal.Read.val_main_v63_eq (F := Ideal) _ _).trans ?_),
    (h c).2.1.trans ((Cert.Reference4Ideal.Read.val_main_v76_eq (F := Ideal) _ _).trans ?_),
    (h c).2.2.1.trans ((Cert.Reference4Ideal.Read.val_main_v37_eq (F := Ideal) _ _ _ _).trans ?_),
    (h c).2.2.2.1.trans ((Cert.Reference4Ideal.Read.val_main_v34_eq (F := Ideal) _).trans ?_),
    (h c).2.2.2.2.1.trans ((Cert.Reference4Ideal.Read.val_main_v73_eq (F := Ideal) _ _).trans ?_), (h c).2.2.2.2.2⟩
  · rw [h0, h1, h2, h3, h5]; exact (ref_63 hh hf hg hl hd).trans (final_5 m c).symm
  · rw [h0, h1, h2, h3, h5]; exact (ref_76 hh hf hg hl hd).trans (final_6 m c).symm
  · rw [h0, h1, h2, h5]; exact (ref_37 hh hf hg).trans (final_7 m c).symm
  · rw [h5]; exact ref_34.trans (final_8 m c).symm
  · rw [h0, h1, h2, h3, h5]; exact (ref_73 hh hf hg hl hd).trans (final_9 m c).symm

end Cert.Ln

end
-- ==== Proof.LnHead.lean ====
/-
  The gradient of the last norm under the loss (`ln_bwd` with a target): the kernel's six result arrays as functions of the
  arguments, and the reference's where the arguments are finite.
-/
module

public import proofs.«01_k».proof.Defs
public import proofs.«01_k».proof.Proof.Norm
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Pre_lnhead_finite
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.LnHead

open Cert.Reference5Ideal Cert.Reference5Ideal.Gen Cert.Reference5Ideal.Read

/-- The residual's row. -/
def zrow (h f : FVec Ideal S4096x2048 .f32) (g : FVec Ideal S1x2048 .f32) (r : Fin 4096) (k : Fin 2048) : EReal :=
  Ideal.ofBits .f32 0x3F9837F0#32 * h (ix2 r k) + Ideal.ofBits .f32 0x3F000000#32 * g (ix2 0 k) * f (ix2 r k)
/-- The norm's row, and its distance to the target's. -/
def yrow (h f : FVec Ideal S4096x2048 .f32) (g lg lb : FVec Ideal S1x2048 .f32) (r : Fin 4096) (k : Fin 2048) : EReal :=
  Norm.hat (zrow h f g r) k * lg (ix2 0 k) + lb (ix2 0 k)
def err (h f : FVec Ideal S4096x2048 .f32) (g lg lb : FVec Ideal S1x2048 .f32) (tg : FVec Ideal S4096x2048 .f32) (r : Fin 4096) (k : Fin 2048) : EReal :=
  yrow h f g lg lb r k - tg (ix2 r k)
/-- The gradient of the norm's row. -/
def dy (h f : FVec Ideal S4096x2048 .f32) (g lg lb : FVec Ideal S1x2048 .f32) (tg : FVec Ideal S4096x2048 .f32) (r : Fin 4096) (k : Fin 2048) : EReal :=
  Ideal.div (err h f g lg lb tg r k) (Ideal.ofBits .f32 0x45000000#32)
/-- The gradient of the residual. -/
def G6 (h f : FVec Ideal S4096x2048 .f32) (g lg lb : FVec Ideal S1x2048 .f32) (tg : FVec Ideal S4096x2048 .f32) : FVec Ideal S4096x2048 .f32 :=
  fun i => Norm.grad (zrow h f g (i 0)) (fun k => dy h f g lg lb tg (i 0) k * lg (ix2 0 k)) (i 1)
/-- The gradient of the branch. -/
def G7 (h f : FVec Ideal S4096x2048 .f32) (g lg lb : FVec Ideal S1x2048 .f32) (tg : FVec Ideal S4096x2048 .f32) : FVec Ideal S4096x2048 .bf16 :=
  fun i => Ideal.ofBits .f32 0x3F000000#32 * g (ix2 0 (i 1)) * G6 h f g lg lb tg i
/-- The gradients of the norm's scale and shift, and of the branch's factor. -/
def G8 (h f : FVec Ideal S4096x2048 .f32) (g lg lb : FVec Ideal S1x2048 .f32) (tg : FVec Ideal S4096x2048 .f32) : FVec Ideal S1x2048 .f32 :=
  fun i => ∑ r : Fin 4096, dy h f g lg lb tg r (i 1) * Norm.hat (zrow h f g r) (i 1)
def G9 (h f : FVec Ideal S4096x2048 .f32) (g lg lb : FVec Ideal S1x2048 .f32) (tg : FVec Ideal S4096x2048 .f32) : FVec Ideal S1x2048 .f32 :=
  fun i => ∑ r : Fin 4096, dy h f g lg lb tg r (i 1)
def G10 (h f : FVec Ideal S4096x2048 .f32) (g lg lb : FVec Ideal S1x2048 .f32) (tg : FVec Ideal S4096x2048 .f32) : FVec Ideal S1x2048 .f32 :=
  fun i => ∑ r : Fin 4096, Ideal.ofBits .f32 0x3F000000#32 * f (ix2 r (i 1)) * G6 h f g lg lb tg (ix2 r (i 1))
/-- The loss. -/
def G11 (h f : FVec Ideal S4096x2048 .f32) (g lg lb : FVec Ideal S1x2048 .f32) (tg : FVec Ideal S4096x2048 .f32) : FVec Ideal S1x128 .f32 :=
  fun _ => ∑ r : Fin 4096, Ideal.ofBits .f32 0x3F000000#32
    * Ideal.div (∑ k, err h f g lg lb tg r k * err h f g lg lb tg r k) (Ideal.ofBits .f32 0x45000000#32)

theorem v6_at (h f : FVec Ideal S4096x2048 .f32) (g : FVec Ideal S1x2048 .f32) (r : Fin 4096) (k : Fin 2048) :
    val_main_v6 (F := Ideal) h f g (ix2 r k) = zrow h f g r k := by
  pointwise [val_main_v6, val_main_v5, val_main_v4, val_main_v3, val_main_v2, val_main_cst_0, val_main_v1, val_main_v0, val_main_cst, zrow]
theorem v12_at (h f : FVec Ideal S4096x2048 .f32) (g : FVec Ideal S1x2048 .f32) (r : Fin 4096) (k : Fin 2048) :
    val_main_v12 (F := Ideal) h f g (ix2 r k) = Norm.cen (zrow h f g r) k := by
  pointwise [val_main_v12, val_main_v11, val_main_v10, val_main_v8, val_main_v7, val_main_cst_1, val_main_v9, val_main_cst_2, v6_at, Norm.cen]
theorem v21_at (h f : FVec Ideal S4096x2048 .f32) (g : FVec Ideal S1x2048 .f32) (r : Fin 4096) (k : Fin 2048) :
    val_main_v21 (F := Ideal) h f g (ix2 r k) = Norm.cen (zrow h f g r) k := by
  pointwise [val_main_v21, val_main_v20, val_main_v10, val_main_v8, val_main_v7, val_main_cst_1, val_main_v9, val_main_cst_2, v6_at, Norm.cen]
theorem v24_at (h f : FVec Ideal S4096x2048 .f32) (g : FVec Ideal S1x2048 .f32) (r : Fin 4096) :
    val_main_v24 (F := Ideal) h f g (ix2 r 0) = Norm.rst (zrow h f g r) := by
  pointwise [val_main_v24, val_main_v23, val_main_v19, val_main_v17, val_main_v16, val_main_cst_4, val_main_v13, val_main_v18, val_main_cst_5,
    val_main_v22, val_main_cst_6, v12_at, Norm.rst]
theorem v29_at (h f : FVec Ideal S4096x2048 .f32) (g : FVec Ideal S1x2048 .f32) (r : Fin 4096) (k : Fin 2048) :
    val_main_v29 (F := Ideal) h f g (ix2 r k) = Norm.hat (zrow h f g r) k := by
  pointwise [val_main_v29, val_main_v28, v21_at, v24_at, Norm.hat]
/-- The norm of the residual, as both programs' hosts compute it. -/
theorem v33_at (h f : FVec Ideal S4096x2048 .f32) (g lg lb : FVec Ideal S1x2048 .f32) (r : Fin 4096) (k : Fin 2048) :
    val_main_v33 (F := Ideal) h f g lg lb (ix2 r k) = yrow h f g lg lb r k := by
  pointwise [val_main_v33, val_main_v31, val_main_v30, val_main_v32, v29_at, yrow]
theorem v34_at (h f : FVec Ideal S4096x2048 .f32) (g lg lb : FVec Ideal S1x2048 .f32) (tg : FVec Ideal S4096x2048 .f32) (r : Fin 4096) (k : Fin 2048) :
    val_main_v34 (F := Ideal) h f g lg lb tg (ix2 r k) = err h f g lg lb tg r k := by
  pointwise [val_main_v34, v33_at, err]

/-- One half distributes over a sum. -/
theorem half_sum {n : ℕ} (u : Fin n → EReal) :
    Ideal.ofBits .f32 0x3F000000#32 * ∑ k, u k = ∑ k, Ideal.ofBits .f32 0x3F000000#32 * u k := by
  have hd : ∀ x y : EReal, Ideal.ofBits .f32 0x3F000000#32 * (x + y) = Ideal.ofBits .f32 0x3F000000#32 * x + Ideal.ofBits .f32 0x3F000000#32 * y := fun x y => by
    rw [Common.half_f32]
    exact EReal.left_distrib_of_nonneg_of_ne_top (by exact_mod_cast (by norm_num : (0 : ℝ) ≤ 1 / 2)) (EReal.coe_ne_top _) x y
  classical
  induction (Finset.univ : Finset (Fin n)) using Finset.induction_on with
  | empty => simp
  | insert a s ha ih => rw [Finset.sum_insert ha, Finset.sum_insert ha, hd, ih]

end Cert.LnHead

namespace Cert.LnHead

open Cert.Kernel5Ideal Cert.Kernel5Ideal.Gen

section pays

variable (b0 b1 b2 : Vec Ideal S256x2048 .f32) (b3 : Vec Ideal S256x2048 .bf16) (b4 b5 a : Vec Ideal S1x2048 .f32) (l : Vec Ideal S1x128 .f32)
  (u v : FVec Ideal S256x2048 .f32)

/-- A block's distance to the target, and the gradient of the norm's row. -/
def errb (r : Fin 256) (k : Fin 2048) : EReal := b0 (ix2 r k) - b1 (ix2 r k)
def dyb (r : Fin 256) (k : Fin 2048) : EReal := Ideal.div (errb b0 b1 r k) (Ideal.ofBits .f32 0x45000000#32)
theorem pay7_at (r : Fin 256) (k : Fin 2048) : k0_pay7 b0 b1 (ix2 r k) = errb b0 b1 r k := by
  pointwise [k0_pay7, errb]
theorem pay9_at (r : Fin 256) (k : Fin 2048) : k0_pay9 b0 b1 (ix2 r k) = dyb b0 b1 r k := by
  pointwise [k0_pay9, pay7_at, dyb]
theorem pay10_at (r : Fin 256) (k : Fin 2048) : k0_pay10 b2 (ix2 r k) = Norm.cen (fun j => b2 (ix2 r j)) k := by
  pointwise [k0_pay10, Norm.cen]
theorem pay13_at (r : Fin 256) : k0_pay13 (k0_pay11 b2) (k0_pay12 (F := Ideal)) (ix2 r 0) = Norm.rst (fun j => b2 (ix2 r j)) := by
  pointwise [k0_pay13, k0_pay11, k0_pay12, Norm.rst, pay10_at]
theorem pay14_at (r : Fin 256) (k : Fin 2048) :
    k0_pay14 (k0_pay10 b2) (k0_pay11 b2) (k0_pay12 (F := Ideal)) (ix2 r k) = Norm.hat (fun j => b2 (ix2 r j)) k := by
  pointwise [k0_pay14, Norm.hat, pay10_at, pay13_at]
/-- A block's gradient of the residual. -/
def gradb (r : Fin 256) (k : Fin 2048) : EReal := Norm.grad (fun j => b2 (ix2 r j)) (fun j => dyb b0 b1 r j * b4 (ix2 0 j)) k
theorem pay15_at (r : Fin 256) (k : Fin 2048) :
    k0_pay15 (k0_pay9 b0 b1) (k0_pay10 b2) (k0_pay11 b2) (k0_pay12 (F := Ideal)) b4 (ix2 r k) = gradb b0 b1 b2 b4 r k := by
  pointwise [k0_pay15, gradb, Norm.grad, pay14_at, pay13_at, pay9_at]
theorem pay16_at (r : Fin 256) (k : Fin 2048) :
    k0_pay16 (k0_pay9 b0 b1) (k0_pay10 b2) (k0_pay11 b2) (k0_pay12 (F := Ideal)) b4 b5 (ix2 r k)
      = Ideal.ofBits .f32 0x3F000000#32 * b5 (ix2 0 k) * gradb b0 b1 b2 b4 r k := by
  pointwise [k0_pay16, pay15_at]
/-- The block's sums over its rows. -/
def share8 (k : Fin 2048) : EReal := ∑ r : Fin 256, dyb b0 b1 r k * Norm.hat (fun j => b2 (ix2 r j)) k
def share9 (k : Fin 2048) : EReal := ∑ r : Fin 256, dyb b0 b1 r k
def share10 (k : Fin 2048) : EReal := ∑ r : Fin 256, Ideal.ofBits .f32 0x3F000000#32 * b3 (ix2 r k) * gradb b0 b1 b2 b4 r k
def share11 : EReal := ∑ r : Fin 256, Ideal.ofBits .f32 0x3F000000#32
  * Ideal.div (∑ k, errb b0 b1 r k * errb b0 b1 r k) (Ideal.ofBits .f32 0x45000000#32)
theorem pay17_at (k : Fin 2048) :
    k0_pay17 (k0_pay9 b0 b1) (k0_pay10 b2) (k0_pay11 b2) (k0_pay12 (F := Ideal)) a (ix2 0 k) = a (ix2 0 k) + share8 b0 b1 b2 k := by
  pointwise [k0_pay17, share8, pay14_at, pay9_at]
theorem pay1_at (k : Fin 2048) : k0_pay1 (k0_pay9 b0 b1) a (ix2 0 k) = a (ix2 0 k) + share9 b0 b1 k := by
  pointwise [k0_pay1, share9, pay9_at]
theorem pay2_at (k : Fin 2048) :
    k0_pay2 (k0_pay15 (k0_pay9 b0 b1) (k0_pay10 b2) (k0_pay11 b2) (k0_pay12 (F := Ideal)) b4) a b3 (ix2 0 k)
      = a (ix2 0 k) + share10 b0 b1 b2 b3 b4 k := by
  pointwise [k0_pay2, share10, pay15_at]
theorem pay8_at (k : Fin 128) : k0_pay8 b0 b1 l (ix2 0 k) = l (ix2 0 k) + share11 b0 b1 := by
  unfold share11
  rw [← half_sum]
  pointwise [k0_pay8, pay7_at]
  simp only [Finset.univ_unique, Finset.sum_singleton]
theorem pay3_at (x : S1x2048.Idx) : k0_pay3 (F := Ideal) x = 0 := by
  rw [eq_ix2 x]; pointwise [k0_pay3]
theorem pay4_at (x : S1x2048.Idx) : k0_pay4 (F := Ideal) x = 0 := by
  rw [eq_ix2 x]; pointwise [k0_pay4]
theorem pay5_at (x : S1x2048.Idx) : k0_pay5 (F := Ideal) x = 0 := by
  rw [eq_ix2 x]; pointwise [k0_pay5]
theorem pay6_at (x : S1x128.Idx) : k0_pay6 (F := Ideal) x = 0 := by
  rw [eq_ix2 x]; pointwise [k0_pay6]

end pays

variable (m : (ℓ : Loc nD τ sig) → Buf (Elt Ideal) ℓ) (c : Dev nD)

theorem V_v6 : (V m c main_v6 : FVec Ideal S4096x2048 .f32)
    = Cert.Reference5Ideal.Read.val_main_v6 (F := Ideal) (m ((c : Thread nD τ).loc main_arg0)) (m ((c : Thread nD τ).loc main_arg1)) (m ((c : Thread nD τ).loc main_arg2)) := (rfl)
theorem V_v26 : (V m c main_v26 : FVec Ideal S4096x2048 .f32)
    = Cert.Reference5Ideal.Read.val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := (rfl)
theorem V_v27 : (V m c main_v27 : FVec Ideal S4096x2048 .bf16)
    = (truncf .bf16 (m ((c : Thread nD τ).loc main_arg1) : FVec Ideal S4096x2048 .f32) bitsLt_bf16_f32 : FVec Ideal S4096x2048 .bf16) := (rfl)

/-- Where each window's block of a point lies. -/
theorem idx : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0]
    ∧ win0_8.index t = ![0, 0] ∧ win0_9.index t = ![0, 0] ∧ win0_10.index t = ![0, 0] ∧ win0_11.index t = ![0, 0] :=
  (by decide +kernel : ∀ t : Fin grid0.N, _)

theorem blk_0 (t : Fin cfg0.N) (r : Fin 256) (k : Fin 2048) (R : Fin 4096) (hR : R.val = t.val * 256 + r.val) :
    (iblk m c 0 t : Vec Ideal S256x2048 .f32) (ix2 r k) = yrow (m ((c : Thread nD τ).loc main_arg0)) (m ((c : Thread nD τ).loc main_arg1)) (m ((c : Thread nD τ).loc main_arg2)) (m ((c : Thread nD τ).loc main_arg3)) (m ((c : Thread nD τ).loc main_arg4)) R k := by
  refine Eq.trans ?_ ((congrFun (V_v26 m c) (ix2 R k)).trans (v33_at _ _ _ _ _ _ _))
  refine congrArg (V m c main_v26 : FVec Ideal S4096x2048 .f32) (funext fun d => Fin.ext ?_)
  fin_cases d <;> blk_simp [idx t] <;> simp [ix2] <;> omega
theorem blk_1 (t : Fin cfg0.N) (r : Fin 256) (k : Fin 2048) (R : Fin 4096) (hR : R.val = t.val * 256 + r.val) :
    (iblk m c 1 t : Vec Ideal S256x2048 .f32) (ix2 r k) = (m ((c : Thread nD τ).loc main_arg5) : FVec Ideal S4096x2048 .f32) (ix2 R k) := by
  refine congrArg (m ((c : Thread nD τ).loc main_arg5) : FVec Ideal S4096x2048 .f32) (funext fun d => Fin.ext ?_)
  fin_cases d <;> blk_simp [idx t] <;> simp [ix2] <;> omega
theorem blk_2 (t : Fin cfg0.N) (r : Fin 256) (k : Fin 2048) (R : Fin 4096) (hR : R.val = t.val * 256 + r.val) :
    (iblk m c 2 t : Vec Ideal S256x2048 .f32) (ix2 r k) = zrow (m ((c : Thread nD τ).loc main_arg0)) (m ((c : Thread nD τ).loc main_arg1)) (m ((c : Thread nD τ).loc main_arg2)) R k := by
  refine Eq.trans ?_ ((congrFun (V_v6 m c) (ix2 R k)).trans (v6_at _ _ _ _ _))
  refine congrArg (V m c main_v6 : FVec Ideal S4096x2048 .f32) (funext fun d => Fin.ext ?_)
  fin_cases d <;> blk_simp [idx t] <;> simp [ix2] <;> omega
theorem blk_3 (t : Fin cfg0.N) (r : Fin 256) (k : Fin 2048) (R : Fin 4096) (hR : R.val = t.val * 256 + r.val) :
    (iblk m c 3 t : Vec Ideal S256x2048 .bf16) (ix2 r k) = (m ((c : Thread nD τ).loc main_arg1) : FVec Ideal S4096x2048 .f32) (ix2 R k) := by
  refine Eq.trans ?_ (congrFun (V_v27 m c) (ix2 R k))
  refine congrArg (V m c main_v27 : FVec Ideal S4096x2048 .bf16) (funext fun d => Fin.ext ?_)
  fin_cases d <;> blk_simp [idx t] <;> simp [ix2] <;> omega
theorem blk_4 (t : Fin cfg0.N) (k : Fin 2048) :
    (iblk m c 4 t : Vec Ideal S1x2048 .f32) (ix2 0 k) = (m ((c : Thread nD τ).loc main_arg3) : FVec Ideal S1x2048 .f32) (ix2 0 k) := by
  refine congrArg (m ((c : Thread nD τ).loc main_arg3) : FVec Ideal S1x2048 .f32) (funext fun d => Fin.ext ?_)
  fin_cases d <;> blk_simp [idx t] <;> simp [ix2]
theorem blk_5 (t : Fin cfg0.N) (k : Fin 2048) :
    (iblk m c 5 t : Vec Ideal S1x2048 .f32) (ix2 0 k) = (m ((c : Thread nD τ).loc main_arg2) : FVec Ideal S1x2048 .f32) (ix2 0 k) := by
  refine congrArg (m ((c : Thread nD τ).loc main_arg2) : FVec Ideal S1x2048 .f32) (funext fun d => Fin.ext ?_)
  fin_cases d <;> blk_simp [idx t] <;> simp [ix2]

/-- A block's distance to the target, its gradient of the norm's row and of the residual are the whole arrays' blocks. -/
theorem err_blk (t : Fin cfg0.N) (r : Fin 256) (k : Fin 2048) (R : Fin 4096) (hR : R.val = t.val * 256 + r.val) :
    errb (iblk m c 0 t) (iblk m c 1 t) r k = err (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R k :=
  congrArg₂ (fun a b : EReal => a - b) (blk_0 m c t r k R hR) (blk_1 m c t r k R hR)
theorem dy_blk (t : Fin cfg0.N) (r : Fin 256) (k : Fin 2048) (R : Fin 4096) (hR : R.val = t.val * 256 + r.val) :
    dyb (iblk m c 0 t) (iblk m c 1 t) r k = dy (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R k :=
  congrArg (fun x => Ideal.div x (Ideal.ofBits .f32 0x45000000#32)) (err_blk m c t r k R hR)
theorem grad_blk (t : Fin cfg0.N) (r : Fin 256) (k : Fin 2048) (R : Fin 4096) (hR : R.val = t.val * 256 + r.val) :
    gradb (iblk m c 0 t) (iblk m c 1 t) (iblk m c 2 t) (iblk m c 4 t) r k = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R k) := by
  exact congrArg₂ (fun z x => Norm.grad z x k) (funext fun j => blk_2 m c t r j R hR)
    (funext fun j => congrArg₂ (· * ·) (dy_blk m c t r j R hR) (blk_4 m c t j))
theorem hat_blk (t : Fin cfg0.N) (r : Fin 256) (k k' : Fin 2048) (R : Fin 4096) (hR : R.val = t.val * 256 + r.val) (hk : k = k') :
    Norm.hat (fun j => (iblk m c 2 t : Vec Ideal S256x2048 .f32) (ix2 r j)) k = Norm.hat (zrow (m ((c : Thread nD τ).loc main_arg0)) (m ((c : Thread nD τ).loc main_arg1)) (m ((c : Thread nD τ).loc main_arg2)) R) k' :=
  congrArg₂ Norm.hat (funext fun j => blk_2 m c t r j R hR) hk

/-- A point's shares of the four sums. -/
def term8 (t : Fin cfg0.N) (y : S1x2048.Idx) : EReal := share8 (iblk m c 0 t) (iblk m c 1 t) (iblk m c 2 t) (y 1)
def term9 (t : Fin cfg0.N) (y : S1x2048.Idx) : EReal := share9 (iblk m c 0 t) (iblk m c 1 t) (y 1)
def term10 (t : Fin cfg0.N) (y : S1x2048.Idx) : EReal := share10 (iblk m c 0 t) (iblk m c 1 t) (iblk m c 2 t) (iblk m c 3 t) (iblk m c 4 t) (y 1)
def term11 (t : Fin cfg0.N) (_ : S1x128.Idx) : EReal := share11 (iblk m c 0 t) (iblk m c 1 t)

theorem row_0 (j : S1x2048.Idx) : ∃ k : Fin 2048, j = ix2 0 k := ⟨j 1, (eq_ix2 j).trans (congrArg (ix2 · (j 1)) (Subsingleton.elim _ _))⟩
theorem lane_0 (j : S1x128.Idx) : ∃ k : Fin 128, j = ix2 0 k := ⟨j 1, (eq_ix2 j).trans (congrArg (ix2 · (j 1)) (Subsingleton.elim _ _))⟩

/-- The gradient of the residual. -/
theorem final_6 : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ x => ?_
  have key : ∀ (i : S4096x2048.Idx), (i 0).val = t.val * 256 + (x 0).val → (i 1).val = (x 1).val →
      k0_pay15 (k0_pay9 (iblk m c 0 t) (iblk m c 1 t)) (k0_pay10 (iblk m c 2 t)) (k0_pay11 (iblk m c 2 t)) (k0_pay12 (F := Ideal)) (iblk m c 4 t) x = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := fun i h0 h1 => by
    rw [eq_ix2 x, eq_ix2 i, show i 1 = x 1 from Fin.ext h1]
    exact (pay15_at _ _ _ _ _ _).trans (grad_blk m c t _ _ _ h0)
  blk_simp
  rw [after0_6]
  by_cases h0 : t.val % 16 = 0
  · rw [outsAt0_A m c t h0]
    frame_out
    exact key _ (by blk_simp [idx t]) (by blk_simp [idx t])
  · rw [outsAt0_B m c t h0]
    frame_out
    exact key _ (by blk_simp [idx t]) (by blk_simp [idx t])

/-- The gradient of the branch. -/
theorem final_7 : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t _ x => ?_
  have key : ∀ (i : S4096x2048.Idx), (i 0).val = t.val * 256 + (x 0).val → (i 1).val = (x 1).val →
      k0_pay16 (k0_pay9 (iblk m c 0 t) (iblk m c 1 t)) (k0_pay10 (iblk m c 2 t)) (k0_pay11 (iblk m c 2 t)) (k0_pay12 (F := Ideal)) (iblk m c 4 t) (iblk m c 5 t) x = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := fun i h0 h1 => by
    rw [eq_ix2 x, eq_ix2 i, show i 1 = x 1 from Fin.ext h1]
    exact (pay16_at _ _ _ _ _ _ _).trans (congrArg₂ (fun a b : EReal => Ideal.ofBits .f32 0x3F000000#32 * a * b) (blk_5 m c t _) (grad_blk m c t _ _ _ h0))
  blk_simp
  rw [after0_7]
  by_cases h0 : t.val % 16 = 0
  · rw [outsAt0_A m c t h0]
    frame_out
    exact key _ (by blk_simp [idx t]) (by blk_simp [idx t])
  · rw [outsAt0_B m c t h0]
    frame_out
    exact key _ (by blk_simp [idx t]) (by blk_simp [idx t])

/-- The gradient of the norm's scale. -/
theorem final_8 : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf x => ?_
  have ht : t.val < 16 := t.isLt
  blk_simp
  rw [after0_8, Pipeline.eq_sum_fin_of_reset_step_apply_of_flush (fun n h => (outsAt0 m c n h).2.2.1) 16 (fun _ => 0)
      (term8 m c)
      (fun t h j => by rw [outsAt0_A m c t h]; frame_out; obtain ⟨k, rfl⟩ := row_0 j; rw [pay17_at, pay3_at]; rfl)
      (fun t h j => by rw [outsAt0_B m c t h]; frame_out; obtain ⟨k, rfl⟩ := row_0 j; rw [pay17_at]; rfl) t ((flush0_8 t).mp hf) _, zero_add]
  refine Fin.sum_mul_add_congr fun s k hl => congrArg₂ (· * ·) ((dy_blk m c _ _ _ ⟨_, hl⟩ ?_).trans ?_) (hat_blk m c _ _ _ _ ⟨_, hl⟩ ?_ ?_)
  · simp; omega
  · exact congrArg (dy _ _ _ _ _ _ _) (Fin.ext (by blk_simp [idx t]))
  · simp; omega
  · exact Fin.ext (by blk_simp [idx t])

/-- The gradient of the norm's shift. -/
theorem final_9 : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 9 _ (by decide +kernel) fun t hf x => ?_
  have ht : t.val < 16 := t.isLt
  blk_simp
  rw [after0_9, Pipeline.eq_sum_fin_of_reset_step_apply_of_flush (fun n h => (outsAt0 m c n h).2.2.2.1) 16 (fun _ => 0)
      (term9 m c)
      (fun t h j => by rw [outsAt0_A m c t h]; frame_out; obtain ⟨k, rfl⟩ := row_0 j; rw [pay1_at, pay4_at]; rfl)
      (fun t h j => by rw [outsAt0_B m c t h]; frame_out; obtain ⟨k, rfl⟩ := row_0 j; rw [pay1_at]; rfl) t ((flush0_9 t).mp hf) _, zero_add]
  refine Fin.sum_mul_add_congr fun s k hl => (dy_blk m c _ _ _ ⟨_, hl⟩ ?_).trans ?_
  · simp; omega
  · exact congrArg (dy _ _ _ _ _ _ _) (Fin.ext (by blk_simp [idx t]))

/-- The gradient of the branch's factor. -/
theorem final_10 : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf x => ?_
  have ht : t.val < 16 := t.isLt
  blk_simp
  rw [after0_10, Pipeline.eq_sum_fin_of_reset_step_apply_of_flush (fun n h => (outsAt0 m c n h).2.2.2.2.1) 16 (fun _ => 0)
      (term10 m c)
      (fun t h j => by rw [outsAt0_A m c t h]; frame_out; obtain ⟨k, rfl⟩ := row_0 j; rw [pay2_at, pay5_at]; rfl)
      (fun t h j => by rw [outsAt0_B m c t h]; frame_out; obtain ⟨k, rfl⟩ := row_0 j; rw [pay2_at]; rfl) t ((flush0_10 t).mp hf) _, zero_add]
  refine Fin.sum_mul_add_congr fun s k hl => congrArg₂ (fun a b : EReal => Ideal.ofBits .f32 0x3F000000#32 * a * b) ((blk_3 m c _ _ _ ⟨_, hl⟩ ?_).trans ?_) ((grad_blk m c _ _ _ ⟨_, hl⟩ ?_).trans ?_)
  · simp; omega
  · exact congrArg (m ((c : Thread nD τ).loc main_arg1) : FVec Ideal S4096x2048 .f32) (congrArg (ix2 _) (Fin.ext (by blk_simp [idx t])))
  · simp; omega
  · exact congrArg (G6 _ _ _ _ _ _) (congrArg (ix2 _) (Fin.ext (by blk_simp [idx t])))

/-- The loss. -/
theorem final_11 : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 11 _ (by decide +kernel) fun t hf x => ?_
  have ht : t.val < 16 := t.isLt
  blk_simp
  rw [after0_11, Pipeline.eq_sum_fin_of_reset_step_apply_of_flush (fun n h => (outsAt0 m c n h).2.2.2.2.2) 16 (fun _ => 0)
      (term11 m c)
      (fun t h j => by rw [outsAt0_A m c t h]; frame_out; obtain ⟨k, rfl⟩ := lane_0 j; rw [pay8_at, pay6_at]; rfl)
      (fun t h j => by rw [outsAt0_B m c t h]; frame_out; obtain ⟨k, rfl⟩ := lane_0 j; rw [pay8_at]; rfl) t ((flush0_11 t).mp hf) _, zero_add]
  refine Fin.sum_mul_add_congr fun s k hl => congrArg (fun a : EReal => Ideal.ofBits .f32 0x3F000000#32 * Ideal.div a (Ideal.ofBits .f32 0x45000000#32)) ?_
  exact Finset.sum_congr rfl fun j _ => congrArg₂ (fun a b : EReal => a * b) (err_blk m c _ _ _ ⟨_, hl⟩ (by simp; omega)) (err_blk m c _ _ _ ⟨_, hl⟩ (by simp; omega))

end Cert.LnHead

namespace Cert.LnHead

open Cert.Reference5Ideal Cert.Reference5Ideal.Gen Cert.Reference5Ideal.Read

/-- The residual's row, real. -/
def zR (h f : S4096x2048.Idx → ℝ) (g : S1x2048.Idx → ℝ) (r : Fin 4096) (k : Fin 2048) : ℝ :=
  Norm.alpha * h (ix2 r k) + 1 / 2 * g (ix2 0 k) * f (ix2 r k)
/-- The gradient of the norm's row, real. -/
def dyR (h f : S4096x2048.Idx → ℝ) (g lg lb : S1x2048.Idx → ℝ) (tg : S4096x2048.Idx → ℝ) (r : Fin 4096) (k : Fin 2048) : ℝ :=
  (Norm.cenR (zR h f g r) k * Norm.rstR (zR h f g r) * lg (ix2 0 k) + lb (ix2 0 k) - tg (ix2 r k)) / 2048

theorem zrow_coe (h f : S4096x2048.Idx → ℝ) (g : S1x2048.Idx → ℝ) (r : Fin 4096) :
    zrow (fun i => (h i : EReal)) (fun i => (f i : EReal)) (fun i => (g i : EReal)) r = fun k => (zR h f g r k : EReal) := by
  funext k
  simp only [zrow, Norm.alpha_f32, Common.half_f32, ← EReal.coe_mul, ← EReal.coe_add, zR]

theorem err_coe (h f : S4096x2048.Idx → ℝ) (g lg lb : S1x2048.Idx → ℝ) (tg : S4096x2048.Idx → ℝ) (r : Fin 4096) (k : Fin 2048) :
    err (fun i => (h i : EReal)) (fun i => (f i : EReal)) (fun i => (g i : EReal)) (fun i => (lg i : EReal)) (fun i => (lb i : EReal)) (fun i => (tg i : EReal)) r k = ((dyR h f g lg lb tg r k * 2048 : ℝ) : EReal) := by
  simp only [err, yrow, zrow_coe, Norm.hat_coe, ← EReal.coe_mul, ← EReal.coe_add, ← EReal.coe_sub]
  exact congrArg _ (by rw [dyR, div_mul_cancel₀ _ (by norm_num : (2048 : ℝ) ≠ 0)])
theorem dy_coe (h f : S4096x2048.Idx → ℝ) (g lg lb : S1x2048.Idx → ℝ) (tg : S4096x2048.Idx → ℝ) (r : Fin 4096) (k : Fin 2048) :
    dy (fun i => (h i : EReal)) (fun i => (f i : EReal)) (fun i => (g i : EReal)) (fun i => (lg i : EReal)) (fun i => (lb i : EReal)) (fun i => (tg i : EReal)) r k = (dyR h f g lg lb tg r k : EReal) := by
  rw [dy, err_coe, Norm.div_n, mul_div_cancel_right₀ _ (by norm_num : (2048 : ℝ) ≠ 0)]

theorem at_12 (h f : S4096x2048.Idx → ℝ) (g : S1x2048.Idx → ℝ) (r : Fin 4096) (k : Fin 2048) : val_main_v12 (F := Ideal) (fun i => (h i : EReal)) (fun i => (f i : EReal)) (fun i => (g i : EReal)) (ix2 r k) = (Norm.cenR (zR h f g r) k : EReal) := by
  rw [v12_at, zrow_coe, Norm.cen_coe]
theorem at_21 (h f : S4096x2048.Idx → ℝ) (g : S1x2048.Idx → ℝ) (r : Fin 4096) (k : Fin 2048) : val_main_v21 (F := Ideal) (fun i => (h i : EReal)) (fun i => (f i : EReal)) (fun i => (g i : EReal)) (ix2 r k) = (Norm.cenR (zR h f g r) k : EReal) := by
  rw [v21_at, zrow_coe, Norm.cen_coe]
theorem at_24 (h f : S4096x2048.Idx → ℝ) (g : S1x2048.Idx → ℝ) (r : Fin 4096) : val_main_v24 (F := Ideal) (fun i => (h i : EReal)) (fun i => (f i : EReal)) (fun i => (g i : EReal)) (ix2 r 0) = (Norm.rstR (zR h f g r) : EReal) := by
  rw [v24_at, zrow_coe, Norm.rst_coe]

theorem at_23 (h f : S4096x2048.Idx → ℝ) (g : S1x2048.Idx → ℝ) (r : Fin 4096) : val_main_v23 (F := Ideal) (fun i => (h i : EReal)) (fun i => (f i : EReal)) (fun i => (g i : EReal)) (ix2 r 0) = (Norm.varR (zR h f g r) : EReal) := by
  pointwise [val_main_v23, val_main_v19, val_main_v17, val_main_v16, val_main_cst_4, val_main_v13, val_main_v18, val_main_cst_5, val_main_v22, val_main_cst_6, at_12]
  simp only [Norm.eps_f32, Norm.varR, ← EReal.coe_mul, ← EReal.coe_add, ← EReal.coe_sub, ← EReal.coe_neg, ← Common.coe_sum, Norm.div_n]

theorem at_48 (h f : S4096x2048.Idx → ℝ) (g lg lb : S1x2048.Idx → ℝ) (tg : S4096x2048.Idx → ℝ) (r : Fin 4096) (k : Fin 2048) : val_main_v48 (F := Ideal) (fun i => (h i : EReal)) (fun i => (f i : EReal)) (fun i => (g i : EReal)) (fun i => (lg i : EReal)) (fun i => (lb i : EReal)) (fun i => (tg i : EReal)) (ix2 r k) = (dyR h f g lg lb tg r k : EReal) := by
  pointwise [val_main_v48, val_main_v47, val_main_v46, val_main_v44, val_main_v43, val_main_cst_13, val_main_cst_14, val_main_v45, val_main_cst_15, val_main_v37, val_main_v36, val_main_cst_8, v34_at, err_coe]
  simp only [mul_one, Common.half_f32, Norm.two_f32, ← EReal.coe_mul, ← EReal.coe_add, ← EReal.coe_sub, ← EReal.coe_neg, ← Common.coe_sum, Norm.div_n]
  exact congrArg _ (by ring)

theorem at_55 (h f : S4096x2048.Idx → ℝ) (g lg lb : S1x2048.Idx → ℝ) (tg : S4096x2048.Idx → ℝ) (r : Fin 4096) (k : Fin 2048) : val_main_v55 (F := Ideal) (fun i => (h i : EReal)) (fun i => (f i : EReal)) (fun i => (g i : EReal)) (fun i => (lg i : EReal)) (fun i => (lb i : EReal)) (fun i => (tg i : EReal)) (ix2 r k) = (((dyR h f g lg lb tg r k * lg (ix2 0 k) : ℝ)) : EReal) := by
  pointwise [val_main_v55, val_main_v54, at_48]
  simp only [← EReal.coe_mul, ← EReal.coe_add, ← EReal.coe_sub, ← EReal.coe_neg, ← Common.coe_sum, Norm.div_n]

theorem at_60 (h f : S4096x2048.Idx → ℝ) (g lg lb : S1x2048.Idx → ℝ) (tg : S4096x2048.Idx → ℝ) (r : Fin 4096) (k : Fin 2048) : val_main_v60 (F := Ideal) (fun i => (h i : EReal)) (fun i => (f i : EReal)) (fun i => (g i : EReal)) (fun i => (lg i : EReal)) (fun i => (lb i : EReal)) (fun i => (tg i : EReal)) (ix2 r k) = (((dyR h f g lg lb tg r k * lg (ix2 0 k) * Norm.rstR (zR h f g r) : ℝ)) : EReal) := by
  pointwise [val_main_v60, val_main_v59, at_55, at_24]
  simp only [← EReal.coe_mul, ← EReal.coe_add, ← EReal.coe_sub, ← EReal.coe_neg, ← Common.coe_sum, Norm.div_n]

theorem at_61 (h f : S4096x2048.Idx → ℝ) (g lg lb : S1x2048.Idx → ℝ) (tg : S4096x2048.Idx → ℝ) (r : Fin 4096) : val_main_v61 (F := Ideal) (fun i => (h i : EReal)) (fun i => (f i : EReal)) (fun i => (g i : EReal)) (fun i => (lg i : EReal)) (fun i => (lb i : EReal)) (fun i => (tg i : EReal)) (ix2 r 0) = (((∑ j, Norm.cenR (zR h f g r) j * (dyR h f g lg lb tg r j * lg (ix2 0 j))) * (-(1/2) * (Norm.rstR (zR h f g r) / Norm.varR (zR h f g r))) : ℝ) : EReal) := by
  pointwise [val_main_v61, val_main_v58, val_main_v57, val_main_cst_18, val_main_v56, val_main_v27, val_main_v26, val_main_cst_7, val_main_v25, at_55, at_21, at_24, at_23]
  simp only [Norm.nhalf_f32, Norm.div_var, ← EReal.coe_mul, ← EReal.coe_add, ← EReal.coe_sub, ← EReal.coe_neg, ← Common.coe_sum, Norm.div_n]

theorem at_69 (h f : S4096x2048.Idx → ℝ) (g lg lb : S1x2048.Idx → ℝ) (tg : S4096x2048.Idx → ℝ) (r : Fin 4096) (k : Fin 2048) : val_main_v69 (F := Ideal) (fun i => (h i : EReal)) (fun i => (f i : EReal)) (fun i => (g i : EReal)) (fun i => (lg i : EReal)) (fun i => (lb i : EReal)) (fun i => (tg i : EReal)) (ix2 r k) = (((Norm.midR (zR h f g r) (fun j => dyR h f g lg lb tg r j * lg (ix2 0 j)) * (2 * Norm.cenR (zR h f g r) k) : ℝ)) : EReal) := by
  pointwise [val_main_v69, val_main_v68, val_main_v67, val_main_cst_21, val_main_v66, val_main_v65, val_main_cst_20, val_main_v15, val_main_v14, val_main_cst_3, at_61, at_12]
  simp only [Norm.two_f32, Norm.midR, Finset.univ_unique, Finset.sum_singleton, Fin.default_eq_zero, at_61, ← EReal.coe_mul, ← EReal.coe_add, ← EReal.coe_sub, ← EReal.coe_neg, ← Common.coe_sum, Norm.div_n]

theorem at_79 (h f : S4096x2048.Idx → ℝ) (g lg lb : S1x2048.Idx → ℝ) (tg : S4096x2048.Idx → ℝ) (r : Fin 4096) (k : Fin 2048) : val_main_v79 (F := Ideal) (fun i => (h i : EReal)) (fun i => (f i : EReal)) (fun i => (g i : EReal)) (fun i => (lg i : EReal)) (fun i => (lb i : EReal)) (fun i => (tg i : EReal)) (ix2 r k) = (Norm.gradR (zR h f g r) (fun j => dyR h f g lg lb tg r j * lg (ix2 0 j)) k : EReal) := by
  pointwise [val_main_v79, val_main_v73, val_main_v78, val_main_v77, val_main_cst_24, val_main_v76, val_main_v75, val_main_cst_23, val_main_v74, val_main_v64, val_main_v63, val_main_cst_19, val_main_v62, val_main_v72, val_main_v71, val_main_cst_22, val_main_v70, at_60, at_69]
  simp only [Finset.univ_unique, Finset.sum_singleton, Fin.default_eq_zero, ← EReal.coe_mul, ← EReal.coe_add, ← EReal.coe_sub, ← EReal.coe_neg, ← Common.coe_sum, Norm.div_n]
  exact congrArg _ (Norm.ref_grad (zR h f g r) (fun j => dyR h f g lg lb tg r j * lg (ix2 0 j)) k)

section results

variable {h f : FVec Ideal S4096x2048 .f32} {g lg lb : FVec Ideal S1x2048 .f32} {tg : FVec Ideal S4096x2048 .f32}
  (hh : ∃ r : S4096x2048.Idx → ℝ, h = fun i => (r i : EReal)) (hf : ∃ r : S4096x2048.Idx → ℝ, f = fun i => (r i : EReal))
  (hg : ∃ r : S1x2048.Idx → ℝ, g = fun i => (r i : EReal)) (hl : ∃ r : S1x2048.Idx → ℝ, lg = fun i => (r i : EReal))
  (hb : ∃ r : S1x2048.Idx → ℝ, lb = fun i => (r i : EReal)) (ht : ∃ r : S4096x2048.Idx → ℝ, tg = fun i => (r i : EReal))

include hh hf hg hl hb ht in
/-- The reference's gradient of the norm's row is the kernel's. -/
theorem dy_eq (r : Fin 4096) (k : Fin 2048) : val_main_v48 (F := Ideal) h f g lg lb tg (ix2 r k) = dy h f g lg lb tg r k := by
  obtain ⟨h, rfl⟩ := hh
  obtain ⟨f, rfl⟩ := hf
  obtain ⟨g, rfl⟩ := hg
  obtain ⟨lg, rfl⟩ := hl
  obtain ⟨lb, rfl⟩ := hb
  obtain ⟨tg, rfl⟩ := ht
  rw [at_48, dy_coe]

include hh hf hg hl hb ht in
/-- The reference's gradient of the residual is the kernel's. -/
theorem ref_79 : val_main_v79 (F := Ideal) h f g lg lb tg = G6 h f g lg lb tg := by
  obtain ⟨h, rfl⟩ := hh
  obtain ⟨f, rfl⟩ := hf
  obtain ⟨g, rfl⟩ := hg
  obtain ⟨lg, rfl⟩ := hl
  obtain ⟨lb, rfl⟩ := hb
  obtain ⟨tg, rfl⟩ := ht
  funext j
  obtain ⟨r, k, rfl⟩ : ∃ (r : Fin 4096) (k : Fin 2048), j = ix2 r k := ⟨j 0, j 1, eq_ix2 j⟩
  rw [at_79]
  refine (Norm.grad_coe _ _ _).symm.trans ?_
  exact congrArg₂ (fun z x => Norm.grad z x k) (zrow_coe h f g r).symm (funext fun j => (EReal.coe_mul _ _).trans (congrArg (fun a : EReal => a * (lg (ix2 0 j) : EReal)) (dy_coe h f g lg lb tg r j).symm))

include hh hf hg hl hb ht in
/-- The reference's gradient of the branch is the kernel's. -/
theorem ref_96 : val_main_v96 (F := Ideal) h f g lg lb tg = G7 h f g lg lb tg := by
  funext j
  obtain ⟨r, k, rfl⟩ : ∃ (r : Fin 4096) (k : Fin 2048), j = ix2 r k := ⟨j 0, j 1, eq_ix2 j⟩
  pointwise [val_main_v96, val_main_v88, val_main_v87, val_main_v83, val_main_v82, val_main_cst_26, G7, ref_79 hh hf hg hl hb ht]

include hh hf hg hl hb ht in
/-- The reference's gradient of the norm's scale is the kernel's. -/
theorem ref_53 : val_main_v53 (F := Ideal) h f g lg lb tg = G8 h f g lg lb tg := by
  funext j
  obtain ⟨u, k, rfl⟩ : ∃ (u : Fin 1) (k : Fin 2048), j = ix2 u k := ⟨j 0, j 1, eq_ix2 j⟩
  pointwise [val_main_v53, val_main_v52, val_main_cst_17, val_main_v51, G8, v29_at, dy_eq hh hf hg hl hb ht]
  exact Finset.sum_congr rfl fun x _ => mul_comm _ _

include hh hf hg hl hb ht in
/-- The reference's gradient of the norm's shift is the kernel's. -/
theorem ref_50 : val_main_v50 (F := Ideal) h f g lg lb tg = G9 h f g lg lb tg := by
  funext j
  obtain ⟨u, k, rfl⟩ : ∃ (u : Fin 1) (k : Fin 2048), j = ix2 u k := ⟨j 0, j 1, eq_ix2 j⟩
  pointwise [val_main_v50, val_main_v49, val_main_cst_16, G9, dy_eq hh hf hg hl hb ht]

include hh hf hg hl hb ht in
/-- The reference's gradient of the branch's factor is the kernel's. -/
theorem ref_93 : val_main_v93 (F := Ideal) h f g lg lb tg = G10 h f g lg lb tg := by
  funext j
  obtain ⟨u, k, rfl⟩ : ∃ (u : Fin 1) (k : Fin 2048), j = ix2 u k := ⟨j 0, j 1, eq_ix2 j⟩
  pointwise [val_main_v93, val_main_v92, val_main_cst_28, val_main_v91, val_main_v90, val_main_cst_27, val_main_v89, G10, ref_79 hh hf hg hl hb ht]
  rw [half_sum]
  exact Finset.sum_congr rfl fun x _ => (congrArg _ (mul_comm _ _)).trans (mul_assoc _ _ _).symm

/-- The reference's loss is the kernel's. -/
theorem ref_97 : val_main_v97 (F := Ideal) h f g lg lb tg = G11 h f g lg lb tg := by
  funext j
  obtain ⟨u, k, rfl⟩ : ∃ (u : Fin 1) (k : Fin 128), j = ix2 u k := ⟨j 0, j 1, eq_ix2 j⟩
  rw [G11, ← half_sum]
  pointwise [val_main_v97, val_main_v42, val_main_cst_12, val_main_v41, val_main_cst_11, val_main_v40, val_main_v38, val_main_cst_9, val_main_v35,
    val_main_v39, val_main_cst_10, v34_at]

end results

/-- What the precondition says of the arguments. -/
theorem finite_args (h f : FVec Ideal S4096x2048 .f32) (g lg lb : FVec Ideal S1x2048 .f32) (tg : FVec Ideal S4096x2048 .f32)
    (hp : Cert.Pre_lnhead_finite.fn (F := Ideal) h f g lg lb tg = fun _ => 1#1) :
    (∃ r : S4096x2048.Idx → ℝ, h = fun i => (r i : EReal)) ∧ (∃ r : S4096x2048.Idx → ℝ, f = fun i => (r i : EReal)) ∧ (∃ r : S1x2048.Idx → ℝ, g = fun i => (r i : EReal)) ∧ (∃ r : S1x2048.Idx → ℝ, lg = fun i => (r i : EReal)) ∧ (∃ r : S1x2048.Idx → ℝ, lb = fun i => (r i : EReal)) ∧ (∃ r : S4096x2048.Idx → ℝ, tg = fun i => (r i : EReal)) := by
  have h1 := congrFun hp (fun a => a.elim0)
  obtain ⟨h1, ht⟩ := Common.andi_one _ _ _ h1
  obtain ⟨h1, hb⟩ := Common.andi_one _ _ _ h1
  obtain ⟨h1, hl⟩ := Common.andi_one _ _ _ h1
  obtain ⟨h1, hg⟩ := Common.andi_one _ _ _ h1
  obtain ⟨hh, hf⟩ := Common.andi_one _ _ _ h1
  exact ⟨Common.finite_of_reduce _ _ _ _ _ _ hh, Common.finite_of_reduce _ _ _ _ _ _ hf, Common.finite_of_reduce _ _ _ _ _ _ hg, Common.finite_of_reduce _ _ _ _ _ _ hl, Common.finite_of_reduce _ _ _ _ _ _ hb, Common.finite_of_reduce _ _ _ _ _ _ ht⟩

/-- The kernel's frame. -/
theorem frame_P : Cert.quiescent_Kernel5 (hKernel5 := Cert.Kernel5.Gen.facts) := fun m ρ _ => Cert.Kernel5.Gen.frame m ρ

/-- The idealized kernel's frame. -/
theorem frame_PI : Cert.quiescent_Kernel5Ideal (hKernel5Ideal := Cert.Kernel5Ideal.Gen.facts) := fun m ρ _ => Cert.Kernel5Ideal.Gen.frame m ρ

/-- The same under the value claim's precondition. -/
theorem frame_PI' [Cert.Pre_lnhead_finite.Facts] : Cert.quiescent_Kernel5Ideal_pre_lnhead_finite (hKernel5Ideal := Cert.Kernel5Ideal.Gen.facts) := fun m ρ _ =>
  Cert.Kernel5Ideal.Gen.frame m ρ

/-- The reference's frame. -/
theorem frame_RI : Cert.quiescent_Reference5Ideal (hReference5Ideal := Cert.Reference5Ideal.Gen.facts) := fun m ρ _ =>
  (θ_run Cert.Reference5Ideal.defs _ _).mono (fun r h => ⟨fun c => (h c).2.2.2.2.2.2, sem_eq_zero_of_no_sems (by decide) r.2⟩)
    (Cert.Reference5Ideal.Value.run (F := Ideal) m ρ)

/-- The same under the value claim's precondition. -/
theorem frame_RI' [Cert.Pre_lnhead_finite.Facts] : Cert.quiescent_Reference5Ideal_pre_lnhead_finite (hReference5Ideal := Cert.Reference5Ideal.Gen.facts) :=
  fun m ρ _ => frame_RI m ρ trivial

set_option maxHeartbeats 1600000 in
/-- The two programs' results agree. -/
theorem algebraic : Cert.algebraic_Kernel5Ideal_Reference5Ideal_pre_lnhead_finite (hKernel5Ideal := Cert.Kernel5Ideal.Gen.facts) (hReference5Ideal := Cert.Reference5Ideal.Gen.facts)
    (hPre_lnhead_finite := Cert.Pre_lnhead_finite.Gen.facts) := by
  intro m ρ m' ρ' hpre hagree
  refine ⟨fun c => (Cert.Kernel5Ideal.Gen.dats m 0 c).arrAt 6 Cert.Kernel5Ideal.cfg0.N, fun c => (Cert.Kernel5Ideal.Gen.dats m 0 c).arrAt 7 Cert.Kernel5Ideal.cfg0.N, fun c => (Cert.Kernel5Ideal.Gen.dats m 0 c).arrAt 8 Cert.Kernel5Ideal.cfg0.N, fun c => (Cert.Kernel5Ideal.Gen.dats m 0 c).arrAt 9 Cert.Kernel5Ideal.cfg0.N, fun c => (Cert.Kernel5Ideal.Gen.dats m 0 c).arrAt 10 Cert.Kernel5Ideal.cfg0.N, fun c => (Cert.Kernel5Ideal.Gen.dats m 0 c).arrAt 11 Cert.Kernel5Ideal.cfg0.N,
    Cert.Kernel5Ideal.Value.run_blocks m ρ, θ_run_mono (Cert.Reference5Ideal.Value.run (F := Ideal) m' ρ') fun r h c => ?_⟩
  obtain ⟨hh, hf, hg, hl, hb, ht⟩ := finite_args _ _ _ _ _ _ (hpre c)
  obtain ⟨h0, h1, h2, h3, h4, h5⟩ := hagree c
  refine ⟨(h c).1.trans ((Cert.Reference5Ideal.Read.val_main_v79_eq (F := Ideal) _ _).trans ?_),
    (h c).2.1.trans ((Cert.Reference5Ideal.Read.val_main_v96_eq (F := Ideal) _ _).trans ?_),
    (h c).2.2.1.trans ((Cert.Reference5Ideal.Read.val_main_v53_eq (F := Ideal) _ _).trans ?_),
    (h c).2.2.2.1.trans ((Cert.Reference5Ideal.Read.val_main_v50_eq (F := Ideal) _ _).trans ?_),
    (h c).2.2.2.2.1.trans ((Cert.Reference5Ideal.Read.val_main_v93_eq (F := Ideal) _ _).trans ?_),
    (h c).2.2.2.2.2.1.trans ((Cert.Reference5Ideal.Read.val_main_v97_eq (F := Ideal) _ _).trans ?_),
    (h c).2.2.2.2.2.2⟩
  · rw [h0, h1, h2, h3, h4, h5]; exact (ref_79 hh hf hg hl hb ht).trans (final_6 m c).symm
  · rw [h0, h1, h2, h3, h4, h5]; exact (ref_96 hh hf hg hl hb ht).trans (final_7 m c).symm
  · rw [h0, h1, h2, h3, h4, h5]; exact (ref_53 hh hf hg hl hb ht).trans (final_8 m c).symm
  · rw [h0, h1, h2, h3, h4, h5]; exact (ref_50 hh hf hg hl hb ht).trans (final_9 m c).symm
  · rw [h0, h1, h2, h3, h4, h5]; exact (ref_93 hh hf hg hl hb ht).trans (final_10 m c).symm
  · rw [h0, h1, h2, h3, h4, h5]; exact (ref_97).trans (final_11 m c).symm

end Cert.LnHead

end
-- ==== Proof.Ada.lean ====
/-
  The weight gradient of the modulations' projection (`adaln_wgrad`): the product of the conditioning's gated values with
  the gradient of the modulations, over the rows of a batch.
-/
module

public import proofs.«01_k».proof.Defs
public import proofs.«01_k».proof.Proof.Logistic
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Reference9Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Ada

open Cert.Kernel9Ideal Cert.Kernel9Ideal.Gen

variable (m : (ℓ : Loc nD τ sig) → Buf (Elt Ideal) ℓ)

/-- The gradient as one function of the arguments. -/
def G (x : FVec Ideal S8x2048 .f32) (g : FVec Ideal S8x2304 .f32) : FVec Ideal S2048x2304 .f32 := fun i =>
  ∑ k : Fin 8, x (ix2 k (i 0)) * Common.sgk (x (ix2 k (i 0))) * g (ix2 k (i 1))

/-- Where each window's block of a point lies. -/
theorem idx : ∀ t : Fin cfg0.N, win0_0.index t = ![0, 0] ∧ win0_1.index t = ![0, t.val] ∧ win0_2.index t = ![0, t.val] :=
  (by decide +kernel : ∀ t : Fin grid0.N, _)

/-- The kernel's result array after the run. -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, G, Common.sgk]
  blk_point [iblk, V, idx t]

end Cert.Ada

namespace Cert.Ada

open Cert.Reference9Ideal Cert.Reference9Ideal.Gen Cert.Reference9Ideal.Read

/-- The reference's array is the kernel's. -/
theorem ref_eq (x : FVec Ideal S8x2048 .f32) (g : FVec Ideal S8x2304 .f32) : val_main_v4 (F := Ideal) x g = G x g := by
  funext j
  obtain ⟨r, q, rfl⟩ : ∃ (r : Fin 2048) (q : Fin 2304), j = ix2 r q := ⟨j 0, j 1, eq_ix2 j⟩
  pointwise [val_main_v4, val_main_v3, val_main_v1, val_main_call0_v5, val_main_call0_v4, val_main_call0_cst_0,
    val_main_call0_v3, val_main_call0_v2, val_main_call0_cst, val_main_call0_v1, val_main_call0_v0, G]
  simp only [Common.sgk_div]
  exact Finset.sum_congr rfl fun k _ => mul_comm _ _

end Cert.Ada

namespace Cert.Ada

/-- The kernel's frames and the reference's. -/
theorem frame_P : Cert.quiescent_Kernel9 := fun m ρ _ => Cert.Kernel9.Gen.frame m ρ
theorem frame_PI : Cert.quiescent_Kernel9Ideal := fun m ρ _ => Cert.Kernel9Ideal.Gen.frame m ρ
theorem frame_RI : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run (F := Ideal) m ρ)

/-- The kernel and the reference compute one function of the arguments. -/
theorem algebraic : Cert.algebraic_Kernel9Ideal_Reference9Ideal := by
  pair_intro
  · run_from Cert.Kernel9Ideal.Gen.run_main m g
  · run_from Cert.Reference9Ideal.Value.run m' g'
    exact (Cert.Reference9Ideal.Read.val_main_v4_eq (F := Ideal) _ _).symm.trans ((ref_eq _ _).trans (final m c).symm)

end Cert.Ada

end
-- ==== Proof.AdaCols.lean ====
/-
  The modulations of the layers (`adaln_cols`): the conditioning's gated values times a device's columns of the weights,
  plus the bias.
-/
module

public import proofs.«01_k».proof.Defs
public import proofs.«01_k».proof.Proof.Logistic
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Reference13Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.AdaCols

open Cert.Kernel13Ideal Cert.Kernel13Ideal.Gen

variable (m : (ℓ : Loc nD τ sig) → Buf (Elt Ideal) ℓ)

/-- The modulations as one function of the arguments. -/
def G (x : FVec Ideal S8x2048 .f32) (w : FVec Ideal S2048x2304 .f32) (b : FVec Ideal S1x2304 .f32) : FVec Ideal S8x2304 .f32 := fun i =>
  (∑ k : Fin 2048, x (ix2 (i 0) k) * Common.sgk (x (ix2 (i 0) k)) * w (ix2 k (i 1))) + b (ix2 0 (i 1))

/-- Where each window's block of a point lies. -/
theorem idx : ∀ t : Fin cfg0.N, win0_0.index t = ![0, 0] ∧ win0_1.index t = ![0, t.val] ∧ win0_2.index t = ![0, t.val]
    ∧ win0_3.index t = ![0, t.val] :=
  (by decide +kernel : ∀ t : Fin grid0.N, _)

/-- The kernel's result array after the run. -/
theorem final (c : Dev nD) : (dats m 0 c).arrAt 3 cfg0.N
    = G (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  frame_out
  pointwise [k0_pay1, G, Common.sgk]
  blk_point [iblk, V, idx t]

end Cert.AdaCols

namespace Cert.AdaCols

open Cert.Reference13Ideal Cert.Reference13Ideal.Gen Cert.Reference13Ideal.Read

/-- The reference's array is the kernel's. -/
theorem ref_eq (x : FVec Ideal S8x2048 .f32) (w : FVec Ideal S2048x2304 .f32) (b : FVec Ideal S1x2304 .f32) :
    val_main_v3 (F := Ideal) x w b = G x w b := by
  funext j
  obtain ⟨r, q, rfl⟩ : ∃ (r : Fin 8) (q : Fin 2304), j = ix2 r q := ⟨j 0, j 1, eq_ix2 j⟩
  pointwise [val_main_v3, val_main_v2, val_main_v1, val_main_v0, val_main_call0_v5, val_main_call0_v4, val_main_call0_cst_0,
    val_main_call0_v3, val_main_call0_v2, val_main_call0_cst, val_main_call0_v1, val_main_call0_v0, G]
  simp only [Common.sgk_div]

end Cert.AdaCols

namespace Cert.AdaCols

/-- The kernel's frames and the reference's. -/
theorem frame_P : Cert.quiescent_Kernel13 := fun m ρ _ => Cert.Kernel13.Gen.frame m ρ
theorem frame_PI : Cert.quiescent_Kernel13Ideal := fun m ρ _ => Cert.Kernel13Ideal.Gen.frame m ρ
theorem frame_RI : Cert.quiescent_Reference13Ideal := fun m ρ _ =>
  (θ_run Cert.Reference13Ideal.defs _ _).mono
    (fun r h => ⟨fun c => (h c).2, sem_eq_zero_of_no_sems (by decide) r.2⟩)
    (Cert.Reference13Ideal.Value.run (F := Ideal) m ρ)

set_option maxHeartbeats 1600000 in
/-- The kernel and the reference compute one function of the arguments. -/
theorem algebraic : Cert.algebraic_Kernel13Ideal_Reference13Ideal := by
  intro m ρ m' ρ' _ hagree
  refine ⟨fun c => (Cert.Kernel13Ideal.Gen.dats m 0 c).arrAt 3 Cert.Kernel13Ideal.cfg0.N, Cert.Kernel13Ideal.Value.run_blocks m ρ, θ_run_mono (Cert.Reference13Ideal.Value.run (F := Ideal) m' ρ') fun r h c => ?_⟩
  obtain ⟨h0, h1, h2⟩ := hagree c
  refine ⟨(h c).1.trans ((Cert.Reference13Ideal.Read.val_main_v3_eq (F := Ideal) _ _ _).trans ?_), (h c).2⟩
  · rw [h0, h1, h2]; exact (ref_eq _ _ _).trans (final m c).symm

end Cert.AdaCols

end
-- ==== Proof.FfnIn.lean ====
/-
  The first product of the feed-forward part (`ffn_in`): the modulated rows times the two halves of the weights, and the gated
  product of the halves.
-/
module

public import proofs.«01_k».proof.Defs
public import proofs.«01_k».proof.Proof.Logistic
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Reference14Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.FfnIn

open Cert.Kernel14Ideal Cert.Kernel14Ideal.Gen

/-- The product of the modulated rows with the weights, at a row and a column. -/
def prod (h : FVec Ideal S4096x2048 .f32) (sh sc : FVec Ideal S1x2048 .f32) (w : FVec Ideal S2048x11264 .f32) (r : Fin 4096)
    (j : Fin 11264) : EReal :=
  ∑ k : Fin 2048, (h (ix2 r k) * (1 + sc (ix2 0 k)) + sh (ix2 0 k)) * w (ix2 k j)

/-- The two halves of the product, and the gated product of them. -/
def GA (h : FVec Ideal S4096x2048 .f32) (sh sc : FVec Ideal S1x2048 .f32) (w : FVec Ideal S2048x11264 .f32) : FVec Ideal S4096x5632 .bf16 :=
  fun i => prod h sh sc w (i 0) ⟨(i 1).val, by have h : (i 1).val < 5632 := (i 1).isLt; omega⟩
def GB (h : FVec Ideal S4096x2048 .f32) (sh sc : FVec Ideal S1x2048 .f32) (w : FVec Ideal S2048x11264 .f32) : FVec Ideal S4096x5632 .bf16 :=
  fun i => prod h sh sc w (i 0) ⟨5632 + (i 1).val, by have h : (i 1).val < 5632 := (i 1).isLt; omega⟩
def GS (h : FVec Ideal S4096x2048 .f32) (sh sc : FVec Ideal S1x2048 .f32) (w : FVec Ideal S2048x11264 .f32) : FVec Ideal S4096x5632 .bf16 :=
  fun i => GA h sh sc w i * Common.sgk (GA h sh sc w i) * GB h sh sc w i

section pays

variable (b0 : Vec Ideal S512x2048 .f32) (b1 b2 : Vec Ideal S1x2048 .f32) (b3 b4 : Vec Ideal S1x2048x1408 .bf16) (x : S512x1408.Idx)

/-- The product of two blocks. -/
def dot (b0 : Vec Ideal S512x2048 .f32) (b1 b2 : Vec Ideal S1x2048 .f32) (b3 : Vec Ideal S1x2048x1408 .bf16) (x : S512x1408.Idx) : EReal :=
  ∑ k : Fin 2048, (b0 (ix2 (x 0) k) * (1 + b2 (ix2 0 k)) + b1 (ix2 0 k)) * b3 (ix3 0 k (x 1))

theorem pay2_at : k0_pay2 b0 b1 b2 b3 x = dot b0 b1 b2 b3 x := by
  rw [eq_ix2 x]; pointwise [k0_pay2, k0_pay1, dot]
theorem pay3_at : k0_pay3 b0 b1 b2 b3 x = dot b0 b1 b2 b3 x := pay2_at b0 b1 b2 b3 x
theorem pay4_at : k0_pay4 b0 b1 b2 b3 x = dot b0 b1 b2 b3 x := by rw [← pay2_at]; rfl
theorem pay5_at : k0_pay5 b0 b1 b2 b3 x = dot b0 b1 b2 b3 x := pay4_at b0 b1 b2 b3 x
theorem pay6_at : k0_pay6 b0 b1 b2 b3 b4 x = dot b0 b1 b2 b3 x * Common.sgk (dot b0 b1 b2 b3 x) * dot b0 b1 b2 b4 x := by
  rw [← pay2_at, ← pay3_at]
  unfold k0_pay6
  generalize k0_pay2 b0 b1 b2 b3 = u
  generalize k0_pay3 b0 b1 b2 b4 = v
  rw [eq_ix2 x]; pointwise [Common.sgk]

end pays

variable (m : (ℓ : Loc nD τ sig) → Buf (Elt Ideal) ℓ) (c : Dev nD)

/-- The kernel's layout of the weights: blocks of columns. -/
def lay (w : FVec Ideal S2048x11264 .f32) : FVec Ideal S8x2048x1408 .bf16 :=
  transpose S8x2048x1408 [1, 0, 2] (shapeCast S2048x8x1408 (truncf .bf16 w bitsLt_bf16_f32) shapeCasts_S2048x11264_S2048x8x1408)
    transposes_S2048x8x1408_S8x2048x1408_1_0_2
theorem lay_at (w : FVec Ideal S2048x11264 .f32) (b : Fin 8) (k : Fin 2048) (j : Fin 1408) :
    lay w (ix3 b k j) = w (ix2 k ⟨b.val * 1408 + j.val, by omega⟩) := by
  pointwise [lay]
theorem V_v2 : (V m c main_v2 : FVec Ideal S8x2048x1408 .bf16) = lay (m ((c : Thread nD τ).loc main_arg3)) := (rfl)

/-- Where each window's block of a point lies. -/
theorem idx : ∀ t : Fin cfg0.N, win0_0.index t = ![t.val % 8, 0] ∧ win0_1.index t = ![0, 0] ∧ win0_2.index t = ![0, 0]
    ∧ win0_3.index t = ![t.val / 8, 0, 0] ∧ win0_4.index t = ![t.val / 8 + 4, 0, 0] ∧ win0_5.index t = ![t.val % 8, t.val / 8]
    ∧ win0_6.index t = ![t.val % 8, t.val / 8] ∧ win0_7.index t = ![t.val % 8, t.val / 8] :=
  (by decide +kernel : ∀ t : Fin grid0.N, _)

/-- The product of a point's blocks is the whole product's block, for either half. -/
theorem dot_a (t : Fin cfg0.N) (x : S512x1408.Idx) (i : S4096x5632.Idx) (h0 : (i 0).val = t.val % 8 * 512 + (x 0).val)
    (h1 : (i 1).val = t.val / 8 * 1408 + (x 1).val) :
    dot (iblk m c 0 t) (iblk m c 1 t) (iblk m c 2 t) (iblk m c 3 t) x = GA (m ((c : Thread nD τ).loc main_arg0)) (m ((c : Thread nD τ).loc main_arg1)) (m ((c : Thread nD τ).loc main_arg2)) (m ((c : Thread nD τ).loc main_arg3)) i := by
  have hi : (i 1).val < 5632 := (i 1).isLt
  unfold dot GA prod
  refine Finset.sum_congr rfl fun k _ => congrArg₂ (· * ·) (congrArg₂ (· + ·) (congrArg₂ (· * ·) ?_ (congrArg (1 + ·) ?_)) ?_) ?_
  · refine congrArg (m ((c : Thread nD τ).loc main_arg0) : FVec Ideal S4096x2048 .f32) (funext fun d => Fin.ext ?_)
    fin_cases d <;> blk_simp [idx t] <;> simp [ix2] <;> omega
  · refine congrArg (m ((c : Thread nD τ).loc main_arg2) : FVec Ideal S1x2048 .f32) (funext fun d => Fin.ext ?_)
    fin_cases d <;> blk_simp [idx t] <;> simp [ix2]
  · refine congrArg (m ((c : Thread nD τ).loc main_arg1) : FVec Ideal S1x2048 .f32) (funext fun d => Fin.ext ?_)
    fin_cases d <;> blk_simp [idx t] <;> simp [ix2]
  · refine Eq.trans ?_ ((congrFun (V_v2 m c) (ix3 (⟨t.val / 8 + 0, by have := t.isLt; omega⟩ : Fin 8) k (x 1))).trans ((lay_at _ _ _ _).trans ?_))
    · refine congrArg (V m c main_v2 : FVec Ideal S8x2048x1408 .bf16) (funext fun d => Fin.ext ?_)
      fin_cases d <;> blk_simp [idx t] <;> simp [ix3] <;> omega
    · exact congrArg _ (congrArg (ix2 k) (Fin.ext (by simp; omega)))
theorem dot_b (t : Fin cfg0.N) (x : S512x1408.Idx) (i : S4096x5632.Idx) (h0 : (i 0).val = t.val % 8 * 512 + (x 0).val)
    (h1 : (i 1).val = t.val / 8 * 1408 + (x 1).val) :
    dot (iblk m c 0 t) (iblk m c 1 t) (iblk m c 2 t) (iblk m c 4 t) x = GB (m ((c : Thread nD τ).loc main_arg0)) (m ((c : Thread nD τ).loc main_arg1)) (m ((c : Thread nD τ).loc main_arg2)) (m ((c : Thread nD τ).loc main_arg3)) i := by
  have hi : (i 1).val < 5632 := (i 1).isLt
  unfold dot GB prod
  refine Finset.sum_congr rfl fun k _ => congrArg₂ (· * ·) (congrArg₂ (· + ·) (congrArg₂ (· * ·) ?_ (congrArg (1 + ·) ?_)) ?_) ?_
  · refine congrArg (m ((c : Thread nD τ).loc main_arg0) : FVec Ideal S4096x2048 .f32) (funext fun d => Fin.ext ?_)
    fin_cases d <;> blk_simp [idx t] <;> simp [ix2] <;> omega
  · refine congrArg (m ((c : Thread nD τ).loc main_arg2) : FVec Ideal S1x2048 .f32) (funext fun d => Fin.ext ?_)
    fin_cases d <;> blk_simp [idx t] <;> simp [ix2]
  · refine congrArg (m ((c : Thread nD τ).loc main_arg1) : FVec Ideal S1x2048 .f32) (funext fun d => Fin.ext ?_)
    fin_cases d <;> blk_simp [idx t] <;> simp [ix2]
  · refine Eq.trans ?_ ((congrFun (V_v2 m c) (ix3 (⟨t.val / 8 + 4, by have := t.isLt; omega⟩ : Fin 8) k (x 1))).trans ((lay_at _ _ _ _).trans ?_))
    · refine congrArg (V m c main_v2 : FVec Ideal S8x2048x1408 .bf16) (funext fun d => Fin.ext ?_)
      fin_cases d <;> blk_simp [idx t] <;> simp [ix3] <;> omega
    · exact congrArg _ (congrArg (ix2 k) (Fin.ext (by simp; omega)))

/-- The kernel's result arrays after the run: the halves, then the gated product. -/
theorem final_5 : (dats m 0 c).arrAt 5 cfg0.N = GA (m ((c : Thread nD τ).loc main_arg0)) (m ((c : Thread nD τ).loc main_arg1)) (m ((c : Thread nD τ).loc main_arg2)) (m ((c : Thread nD τ).loc main_arg3)) := by
  have key : ∀ (t : Fin cfg0.N) (x : S512x1408.Idx) (i : S4096x5632.Idx), (i 0).val = t.val % 8 * 512 + (x 0).val →
      (i 1).val = t.val / 8 * 1408 + (x 1).val → k0_pay4 (iblk m c 0 t) (iblk m c 1 t) (iblk m c 2 t) (iblk m c 3 t) x = GA (m ((c : Thread nD τ).loc main_arg0)) (m ((c : Thread nD τ).loc main_arg1)) (m ((c : Thread nD τ).loc main_arg2)) (m ((c : Thread nD τ).loc main_arg3)) i := by
    intro t x i h0 h1
    refine (pay4_at _ _ _ _ _ ).trans ?_
    rw [dot_a m c t x i h0 h1]
  refine (dats m 0 c).arrAt_eq_of_covers 5 _ (by decide +kernel) fun t _ y => ?_
  blk_simp
  rw [after0_5]
  frame_out
  exact key t y _ (by blk_simp [idx t]) (by blk_simp [idx t])
theorem final_6 : (dats m 0 c).arrAt 6 cfg0.N = GB (m ((c : Thread nD τ).loc main_arg0)) (m ((c : Thread nD τ).loc main_arg1)) (m ((c : Thread nD τ).loc main_arg2)) (m ((c : Thread nD τ).loc main_arg3)) := by
  have key : ∀ (t : Fin cfg0.N) (x : S512x1408.Idx) (i : S4096x5632.Idx), (i 0).val = t.val % 8 * 512 + (x 0).val →
      (i 1).val = t.val / 8 * 1408 + (x 1).val → k0_pay5 (iblk m c 0 t) (iblk m c 1 t) (iblk m c 2 t) (iblk m c 4 t) x = GB (m ((c : Thread nD τ).loc main_arg0)) (m ((c : Thread nD τ).loc main_arg1)) (m ((c : Thread nD τ).loc main_arg2)) (m ((c : Thread nD τ).loc main_arg3)) i := by
    intro t x i h0 h1
    refine (pay5_at _ _ _ _ _ ).trans ?_
    rw [dot_b m c t x i h0 h1]
  refine (dats m 0 c).arrAt_eq_of_covers 6 _ (by decide +kernel) fun t _ y => ?_
  blk_simp
  rw [after0_6]
  frame_out
  exact key t y _ (by blk_simp [idx t]) (by blk_simp [idx t])
theorem final_7 : (dats m 0 c).arrAt 7 cfg0.N = GS (m ((c : Thread nD τ).loc main_arg0)) (m ((c : Thread nD τ).loc main_arg1)) (m ((c : Thread nD τ).loc main_arg2)) (m ((c : Thread nD τ).loc main_arg3)) := by
  have key : ∀ (t : Fin cfg0.N) (x : S512x1408.Idx) (i : S4096x5632.Idx), (i 0).val = t.val % 8 * 512 + (x 0).val →
      (i 1).val = t.val / 8 * 1408 + (x 1).val → k0_pay6 (iblk m c 0 t) (iblk m c 1 t) (iblk m c 2 t) (iblk m c 3 t) (iblk m c 4 t) x = GS (m ((c : Thread nD τ).loc main_arg0)) (m ((c : Thread nD τ).loc main_arg1)) (m ((c : Thread nD τ).loc main_arg2)) (m ((c : Thread nD τ).loc main_arg3)) i := by
    intro t x i h0 h1
    refine (pay6_at _ _ _ _ _ _ ).trans ?_
    rw [dot_a m c t x i h0 h1, dot_b m c t x i h0 h1]
    rfl
  refine (dats m 0 c).arrAt_eq_of_covers 7 _ (by decide +kernel) fun t _ y => ?_
  blk_simp
  rw [after0_7]
  frame_out
  exact key t y _ (by blk_simp [idx t]) (by blk_simp [idx t])

end Cert.FfnIn

namespace Cert.FfnIn

open Cert.Reference14Ideal Cert.Reference14Ideal.Gen Cert.Reference14Ideal.Read

variable (h : FVec Ideal S4096x2048 .f32) (sh sc : FVec Ideal S1x2048 .f32) (w : FVec Ideal S2048x11264 .f32)

theorem r6 (r : Fin 4096) (q : Fin 11264) : val_main_v6 (F := Ideal) h sh sc w (ix2 r q) = prod h sh sc w r q := by
  pointwise [val_main_v6, val_main_v5, val_main_v4, val_main_v3, val_main_v2, val_main_v1, val_main_v0, val_main_cst, prod]
theorem r7 (r : Fin 4096) (q : Fin 5632) : val_main_v7 (F := Ideal) h sh sc w (ix2 r q) = GA h sh sc w (ix2 r q) := by
  unfold val_main_v7
  have e := r6 h sh sc w r ⟨q.val, by omega⟩
  revert e
  generalize val_main_v6 (F := Ideal) h sh sc w = u
  intro e
  pointwise [GA]
  exact e
theorem r8 (r : Fin 4096) (q : Fin 5632) : val_main_v8 (F := Ideal) h sh sc w (ix2 r q) = GB h sh sc w (ix2 r q) := by
  unfold val_main_v8
  have e := r6 h sh sc w r ⟨5632 + q.val, by omega⟩
  revert e
  generalize val_main_v6 (F := Ideal) h sh sc w = u
  intro e
  pointwise [GB]
  exact e

/-- The reference's arrays are the kernel's. -/
theorem ref_9 : val_main_v9 (F := Ideal) h sh sc w = GA h sh sc w := by
  funext j
  obtain ⟨r, q, rfl⟩ : ∃ (r : Fin 4096) (q : Fin 5632), j = ix2 r q := ⟨j 0, j 1, eq_ix2 j⟩
  rw [← r7]
  rfl
theorem ref_10 : val_main_v10 (F := Ideal) h sh sc w = GB h sh sc w := by
  funext j
  obtain ⟨r, q, rfl⟩ : ∃ (r : Fin 4096) (q : Fin 5632), j = ix2 r q := ⟨j 0, j 1, eq_ix2 j⟩
  rw [← r8]
  rfl
theorem ref_13 : val_main_v13 (F := Ideal) h sh sc w = GS h sh sc w := by
  funext j
  obtain ⟨r, q, rfl⟩ : ∃ (r : Fin 4096) (q : Fin 5632), j = ix2 r q := ⟨j 0, j 1, eq_ix2 j⟩
  unfold GS
  rw [← r7, ← r8]
  unfold val_main_v13 val_main_v12 val_main_v11 val_main_call0_v5 val_main_call0_v4 val_main_call0_cst_0 val_main_call0_v3 val_main_call0_v2
    val_main_call0_cst val_main_call0_v1 val_main_call0_v0
  generalize val_main_v7 (F := Ideal) h sh sc w = u
  generalize val_main_v8 (F := Ideal) h sh sc w = v
  pointwise []
  rw [Common.sgk_div]

end Cert.FfnIn

namespace Cert.FfnIn

/-- The kernel's frames and the reference's. -/
theorem frame_P : Cert.quiescent_Kernel14 := fun m ρ _ => Cert.Kernel14.Gen.frame m ρ
theorem frame_PI : Cert.quiescent_Kernel14Ideal := fun m ρ _ => Cert.Kernel14Ideal.Gen.frame m ρ
theorem frame_RI : Cert.quiescent_Reference14Ideal := fun m ρ _ =>
  (θ_run Cert.Reference14Ideal.defs _ _).mono
    (fun r h => ⟨fun c => (h c).2.2.2, sem_eq_zero_of_no_sems (by decide) r.2⟩)
    (Cert.Reference14Ideal.Value.run (F := Ideal) m ρ)

set_option maxHeartbeats 1600000 in
/-- The kernel and the reference compute the same three functions of the arguments. -/
theorem algebraic : Cert.algebraic_Kernel14Ideal_Reference14Ideal := by
  intro m ρ m' ρ' _ hagree
  refine ⟨fun c => (Cert.Kernel14Ideal.Gen.dats m 0 c).arrAt 5 Cert.Kernel14Ideal.cfg0.N, fun c => (Cert.Kernel14Ideal.Gen.dats m 0 c).arrAt 6 Cert.Kernel14Ideal.cfg0.N, fun c => (Cert.Kernel14Ideal.Gen.dats m 0 c).arrAt 7 Cert.Kernel14Ideal.cfg0.N, Cert.Kernel14Ideal.Value.run_blocks m ρ, θ_run_mono (Cert.Reference14Ideal.Value.run (F := Ideal) m' ρ') fun r h c => ?_⟩
  obtain ⟨h0, h1, h2, h3⟩ := hagree c
  refine ⟨(h c).1.trans ((Cert.Reference14Ideal.Read.val_main_v9_eq (F := Ideal) _ _ _ _).trans ?_), (h c).2.1.trans ((Cert.Reference14Ideal.Read.val_main_v10_eq (F := Ideal) _ _ _ _).trans ?_), (h c).2.2.1.trans ((Cert.Reference14Ideal.Read.val_main_v13_eq (F := Ideal) _ _ _ _).trans ?_), (h c).2.2.2⟩
  · rw [h0, h1, h2, h3]; exact (ref_9 _ _ _ _).trans (final_5 m c).symm
  · rw [h0, h1, h2, h3]; exact (ref_10 _ _ _ _).trans (final_6 m c).symm
  · rw [h0, h1, h2, h3]; exact (ref_13 _ _ _ _).trans (final_7 m c).symm

end Cert.FfnIn

end
-- ==== Proof.MixIn.lean ====
/-
  The first product of the mixing part (`mod_matmul`): the modulated rows times the weights, the columns in the order the
  kernels read them.
-/
module

public import proofs.«01_k».proof.Defs
public import proofs.«01_k».proof.Proof.Logistic
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Reference15Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixIn

open Cert.Kernel15Ideal Cert.Kernel15Ideal.Gen

/-- The product of the modulated rows with the weights, at a row and a column. -/
def prod (h : FVec Ideal S4096x2048 .f32) (sh sc : FVec Ideal S1x2048 .f32) (w : FVec Ideal S2048x10256 .f32) (r : Fin 4096)
    (j : Fin 10256) : EReal :=
  ∑ k : Fin 2048, (h (ix2 r k) * (1 + sc (ix2 0 k)) + sh (ix2 0 k)) * w (ix2 k j)

/-- The product's columns in the kernels' order: the gates before the decays, and zeros last. -/
def G (h : FVec Ideal S4096x2048 .f32) (sh sc : FVec Ideal S1x2048 .f32) (w : FVec Ideal S2048x10256 .f32) : FVec Ideal S4096x10368 .bf16 := fun i =>
  if h1 : (i 1).val < 6144 then prod h sh sc w (i 0) ⟨(i 1).val, by omega⟩
  else if h2 : (i 1).val < 10240 then prod h sh sc w (i 0) ⟨(i 1).val + 16, by omega⟩
  else if h3 : (i 1).val < 10256 then prod h sh sc w (i 0) ⟨(i 1).val - 4096, by omega⟩
  else 0

theorem G_1 (h : FVec Ideal S4096x2048 .f32) (sh sc : FVec Ideal S1x2048 .f32) (w : FVec Ideal S2048x10256 .f32) (r : Fin 4096) (q : Fin 10368)
    (h1 : q.val < 6144) : G h sh sc w (ix2 r q) = prod h sh sc w r ⟨q.val, by omega⟩ := dif_pos h1
theorem G_2 (h : FVec Ideal S4096x2048 .f32) (sh sc : FVec Ideal S1x2048 .f32) (w : FVec Ideal S2048x10256 .f32) (r : Fin 4096) (q : Fin 10368)
    (h1 : ¬ q.val < 6144) (h2 : q.val < 10240) : G h sh sc w (ix2 r q) = prod h sh sc w r ⟨q.val + 16, by omega⟩ := (dif_neg h1).trans (dif_pos h2)
theorem G_3 (h : FVec Ideal S4096x2048 .f32) (sh sc : FVec Ideal S1x2048 .f32) (w : FVec Ideal S2048x10256 .f32) (r : Fin 4096) (q : Fin 10368)
    (h2 : ¬ q.val < 10240) (h3 : q.val < 10256) : G h sh sc w (ix2 r q) = prod h sh sc w r ⟨q.val - 4096, by omega⟩ :=
  (dif_neg (show ¬ q.val < 6144 by omega)).trans ((dif_neg h2).trans (dif_pos h3))
theorem G_4 (h : FVec Ideal S4096x2048 .f32) (sh sc : FVec Ideal S1x2048 .f32) (w : FVec Ideal S2048x10256 .f32) (r : Fin 4096) (q : Fin 10368)
    (h3 : ¬ q.val < 10256) : G h sh sc w (ix2 r q) = 0 :=
  (dif_neg (show ¬ q.val < 6144 by omega)).trans ((dif_neg (show ¬ q.val < 10240 by omega)).trans (dif_neg h3))

/-- The product of the modulated rows with rows of weights. -/
def prodr (h : FVec Ideal S4096x2048 .f32) (sh sc : FVec Ideal S1x2048 .f32) (w : FVec Ideal S10368x2048 .bf16) (r : Fin 4096)
    (j : Fin 10368) : EReal :=
  ∑ k : Fin 2048, (h (ix2 r k) * (1 + sc (ix2 0 k)) + sh (ix2 0 k)) * w (ix2 j k)

/-- The product of two blocks. -/
def dot (b0 : Vec Ideal S512x2048 .f32) (b1 b2 : Vec Ideal S1x2048 .f32) (b3 : Vec Ideal S1152x2048 .bf16) (x : S512x1152.Idx) : EReal :=
  ∑ k : Fin 2048, (b0 (ix2 (x 0) k) * (1 + b2 (ix2 0 k)) + b1 (ix2 0 k)) * b3 (ix2 (x 1) k)

theorem pay1_at (b0 : Vec Ideal S512x2048 .f32) (b1 b2 : Vec Ideal S1x2048 .f32) (b3 : Vec Ideal S1152x2048 .bf16) (x : S512x1152.Idx) :
    k0_pay1 b0 b1 b2 b3 x = dot b0 b1 b2 b3 x := by
  rw [eq_ix2 x]; pointwise [k0_pay1, dot]

variable (m : (ℓ : Loc nD τ sig) → Buf (Elt Ideal) ℓ) (c : Dev nD)

/-- The weights' columns as rows. -/
def rows (w : FVec Ideal S2048x10256 .f32) : FVec Ideal S10256x2048 .bf16 :=
  shapeCast S10256x2048 (shapeCast S8x1282x2048 (transpose S10256x2048 [1, 0] (truncf .bf16 w bitsLt_bf16_f32) transposes_S2048x10256_S10256x2048_1_0)
    shapeCasts_S10256x2048_S8x1282x2048) shapeCasts_S8x1282x2048_S10256x2048
theorem rows_at (w : FVec Ideal S2048x10256 .f32) (a : Fin 10256) (k : Fin 2048) : rows w (ix2 a k) = w (ix2 k a) := by
  unfold rows
  rw [shapeCast_shapeCast]
  pointwise []

/-- The kernel's layout of the weights. -/
def lay (w : FVec Ideal S2048x10256 .f32) : FVec Ideal S10368x2048 .bf16 :=
  concatenate S10368x2048 0 [⟨S6144x2048, extractStridedSlice S6144x2048 ![0, 0] (rows w) slices_S10256x2048_S6144x2048_0_0⟩,
    ⟨S4096x2048, extractStridedSlice S4096x2048 ![6160, 0] (rows w) slices_S10256x2048_S4096x2048_6160_0⟩,
    ⟨S16x2048, extractStridedSlice S16x2048 ![6144, 0] (rows w) slices_S10256x2048_S16x2048_6144_0⟩,
    ⟨S112x2048, broadcastInDim S112x2048 ![] bcast_S_S112x2048 (constant S_ .bf16 0x0000#16)⟩]
    concatenates_S6144x2048_S4096x2048_S16x2048_S112x2048_S10368x2048_d0
theorem V_v8 : (V m c main_v8 : FVec Ideal S10368x2048 .bf16) = lay (m ((c : Thread nD τ).loc main_arg3)) := (rfl)

theorem lay_1 (w : FVec Ideal S2048x10256 .f32) (a : Fin 10368) (k : Fin 2048) (h1 : a.val < 6144) :
    lay w (ix2 a k) = w (ix2 k ⟨a.val, by omega⟩) := by
  refine Eq.trans ?_ (rows_at w ⟨a.val, by omega⟩ k)
  unfold lay
  generalize rows w = u
  pointwise []
  rw [dif_pos h1]
theorem lay_2 (w : FVec Ideal S2048x10256 .f32) (a : Fin 10368) (k : Fin 2048) (h1 : ¬ a.val < 6144) (h2 : a.val < 10240) :
    lay w (ix2 a k) = w (ix2 k ⟨a.val + 16, by omega⟩) := by
  refine Eq.trans ?_ (rows_at w ⟨a.val + 16, by omega⟩ k)
  unfold lay
  generalize rows w = u
  pointwise []
  rw [dif_neg h1, dif_pos (by omega)]
  exact congrArg u (congrArg (ix2 · k) (Fin.ext (by simp; omega)))
theorem lay_3 (w : FVec Ideal S2048x10256 .f32) (a : Fin 10368) (k : Fin 2048) (h2 : ¬ a.val < 10240) (h3 : a.val < 10256) :
    lay w (ix2 a k) = w (ix2 k ⟨a.val - 4096, by omega⟩) := by
  refine Eq.trans ?_ (rows_at w ⟨a.val - 4096, by omega⟩ k)
  unfold lay
  generalize rows w = u
  pointwise []
  rw [dif_neg (by omega), dif_neg (by omega), dif_pos (by omega)]
  exact congrArg u (congrArg (ix2 · k) (Fin.ext (by simp; omega)))
theorem lay_4 (w : FVec Ideal S2048x10256 .f32) (a : Fin 10368) (k : Fin 2048) (h3 : ¬ a.val < 10256) : lay w (ix2 a k) = 0 := by
  unfold lay
  generalize rows w = u
  pointwise []
  rw [dif_neg (by omega), dif_neg (by omega), dif_neg (by omega)]

/-- Where each window's block of a point lies. -/
theorem idx : ∀ t : Fin cfg0.N, win0_0.index t = ![t.val % 8, 0] ∧ win0_1.index t = ![0, 0] ∧ win0_2.index t = ![0, 0]
    ∧ win0_3.index t = ![t.val / 8, 0] ∧ win0_4.index t = ![t.val % 8, t.val / 8] :=
  (by decide +kernel : ∀ t : Fin grid0.N, _)

/-- The product of a point's blocks is the whole product's block. -/
theorem dot_blk (t : Fin cfg0.N) (x : S512x1152.Idx) (i : S4096x10368.Idx) (h0 : (i 0).val = t.val % 8 * 512 + (x 0).val)
    (h1 : (i 1).val = t.val / 8 * 1152 + (x 1).val) :
    dot (iblk m c 0 t) (iblk m c 1 t) (iblk m c 2 t) (iblk m c 3 t) x = G (m ((c : Thread nD τ).loc main_arg0)) (m ((c : Thread nD τ).loc main_arg1)) (m ((c : Thread nD τ).loc main_arg2)) (m ((c : Thread nD τ).loc main_arg3)) i := by
  have e : dot (iblk m c 0 t) (iblk m c 1 t) (iblk m c 2 t) (iblk m c 3 t) x =
      prodr (m ((c : Thread nD τ).loc main_arg0)) (m ((c : Thread nD τ).loc main_arg1)) (m ((c : Thread nD τ).loc main_arg2)) (lay (m ((c : Thread nD τ).loc main_arg3))) (i 0) (i 1) := by
    unfold dot prodr
    refine Finset.sum_congr rfl fun k _ => congrArg₂ (· * ·) (congrArg₂ (· + ·) (congrArg₂ (· * ·) ?_ (congrArg (fun z : EReal => 1 + z) ?_)) ?_) ?_
    · refine congrArg (m ((c : Thread nD τ).loc main_arg0) : FVec Ideal S4096x2048 .f32) (funext fun d => Fin.ext ?_)
      fin_cases d <;> blk_simp [idx t] <;> simp [ix2] <;> omega
    · refine congrArg (m ((c : Thread nD τ).loc main_arg2) : FVec Ideal S1x2048 .f32) (funext fun d => Fin.ext ?_)
      fin_cases d <;> blk_simp [idx t] <;> simp [ix2]
    · refine congrArg (m ((c : Thread nD τ).loc main_arg1) : FVec Ideal S1x2048 .f32) (funext fun d => Fin.ext ?_)
      fin_cases d <;> blk_simp [idx t] <;> simp [ix2]
    · refine Eq.trans ?_ (congrFun (V_v8 m c) (ix2 (i 1) k))
      refine congrArg (V m c main_v8 : FVec Ideal S10368x2048 .bf16) (funext fun d => Fin.ext ?_)
      fin_cases d <;> blk_simp [idx t] <;> simp [ix2] <;> omega
  rw [e]
  unfold G prodr
  by_cases h1 : (i 1).val < 6144
  · rw [dif_pos h1]
    exact Finset.sum_congr rfl fun k _ => congrArg (_ * ·) (lay_1 _ _ _ h1)
  rw [dif_neg h1]
  by_cases h2 : (i 1).val < 10240
  · rw [dif_pos h2]
    exact Finset.sum_congr rfl fun k _ => congrArg (_ * ·) (lay_2 _ _ _ h1 h2)
  rw [dif_neg h2]
  by_cases h3 : (i 1).val < 10256
  · rw [dif_pos h3]
    exact Finset.sum_congr rfl fun k _ => congrArg (_ * ·) (lay_3 _ _ _ h2 h3)
  rw [dif_neg h3]
  exact Finset.sum_eq_zero fun k _ => (congrArg (_ * ·) (lay_4 _ _ _ h3)).trans (mul_zero _)

/-- The kernel's result array after the run. -/
theorem final : (dats m 0 c).arrAt 4 cfg0.N = G (m ((c : Thread nD τ).loc main_arg0)) (m ((c : Thread nD τ).loc main_arg1)) (m ((c : Thread nD τ).loc main_arg2)) (m ((c : Thread nD τ).loc main_arg3)) := by
  have key : ∀ (t : Fin cfg0.N) (x : S512x1152.Idx) (i : S4096x10368.Idx), (i 0).val = t.val % 8 * 512 + (x 0).val →
      (i 1).val = t.val / 8 * 1152 + (x 1).val →
      k0_pay1 (iblk m c 0 t) (iblk m c 1 t) (iblk m c 2 t) (iblk m c 3 t) x = G (m ((c : Thread nD τ).loc main_arg0)) (m ((c : Thread nD τ).loc main_arg1)) (m ((c : Thread nD τ).loc main_arg2)) (m ((c : Thread nD τ).loc main_arg3)) i := fun t x i h0 h1 =>
    (pay1_at _ _ _ _ _).trans (dot_blk m c t x i h0 h1)
  refine (dats m 0 c).arrAt_eq_of_covers 4 _ (by decide +kernel) fun t _ y => ?_
  blk_simp
  rw [after0_4]
  frame_out
  exact key t y _ (by blk_simp [idx t]) (by blk_simp [idx t])

end Cert.MixIn

namespace Cert.MixIn

open Cert.Reference15Ideal Cert.Reference15Ideal.Gen Cert.Reference15Ideal.Read

variable (h : FVec Ideal S4096x2048 .f32) (sh sc : FVec Ideal S1x2048 .f32) (w : FVec Ideal S2048x10256 .f32)

/-- Where the axis coordinate lies past the first piece, the rest is read; where it lies in it, the piece is. -/
theorem cat_ge {α : Type} {t s : Shape} {a : Fin t.rank} {j : t.Idx} (x : s.Idx → α) (q : (s : Shape) × (s.Idx → α))
    (xs : List ((s : Shape) × (s.Idx → α))) (hs : ∀ s' ∈ (⟨s, x⟩ :: q :: xs : List ((s : Shape) × (s.Idx → α))).map (·.1), s'.FitsOff t a)
    {c c' : ℕ} (hc : c < (axisSizes t a (⟨s, x⟩ :: q :: xs)).sum) (n : ℕ) (hn : s.size (a.cast (hs s List.mem_cons_self).rank_eq.symm) = n)
    (h : ¬ c < n) (e : c' = c - n) :
    concatenateAt t a j (⟨s, x⟩ :: q :: xs) hs c hc = concatenateAt t a j (q :: xs) (fun s' h => hs s' (List.mem_cons_of_mem _ h)) c'
      (by subst e hn; rw [axisSizes_cons t a ⟨s, x⟩ (q :: xs) (hs s List.mem_cons_self), List.sum_cons] at hc
          exact Nat.sub_lt_left_of_lt_add (Nat.le_of_not_lt h) hc) := by
  subst e hn
  exact (concatenateAt_cons _ _ _ _ _ _ _ _).trans (dif_neg h)
theorem cat_lt {α : Type} {t s : Shape} {a : Fin t.rank} {j : t.Idx} (x : s.Idx → α) (q : (s : Shape) × (s.Idx → α))
    (xs : List ((s : Shape) × (s.Idx → α))) (hs : ∀ s' ∈ (⟨s, x⟩ :: q :: xs : List ((s : Shape) × (s.Idx → α))).map (·.1), s'.FitsOff t a)
    {c : ℕ} (hc : c < (axisSizes t a (⟨s, x⟩ :: q :: xs)).sum) (n : ℕ) (hn : s.size (a.cast (hs s List.mem_cons_self).rank_eq.symm) = n) (h : c < n) :
    concatenateAt t a j (⟨s, x⟩ :: q :: xs) hs c hc
      = x (Shape.Idx.norm fun b => ⟨if b.val = a.val then c else (j (b.cast (hs s List.mem_cons_self).rank_eq)).val,
          concatAt_fst_lt (hs s List.mem_cons_self) j c (hn.symm ▸ h) b⟩) := by
  subst hn
  exact (concatenateAt_cons _ _ _ _ _ _ _ _).trans (dif_pos h)

theorem r6 (r : Fin 4096) (q : Fin 10256) : val_main_v6 (F := Ideal) h sh sc w (ix2 r q) = prod h sh sc w r q := by
  pointwise [val_main_v6, val_main_v5, val_main_v4, val_main_v3, val_main_v2, val_main_v1, val_main_v0, val_main_cst, prod]

set_option maxHeartbeats 1600000 in
/-- The reference's columns in the kernels' order. -/
theorem r18 (r : Fin 4096) (q : Fin 10368) : val_main_v18 (F := Ideal) h sh sc w (ix2 r q) = G h sh sc w (ix2 r q) := by
  have e := r6 h sh sc w r
  unfold val_main_v18 val_main_v17 val_main_cst_0 val_main_v16 val_main_v15 val_main_v14 val_main_v13 val_main_v12 val_main_v11
    val_main_v10 val_main_v9 val_main_v8 val_main_v7
  revert e
  generalize val_main_v6 (F := Ideal) h sh sc w = u
  intro e
  rw [concatenate_cons_apply]
  by_cases c0 : q.val < 1024
  · refine (cat_lt _ _ _ _ _ 1024 rfl c0).trans ((Eq.trans ?_ (e ⟨q.val, by omega⟩)).trans (G_1 h sh sc w r q (by omega)).symm)
    pointwise [] <;> exact congrArg u (congrArg (ix2 r) (Fin.ext (by simp; omega)))
  refine (cat_ge _ _ _ _ _ 1024 rfl c0 (show q.val - 1024 = q.val - 1024 by omega)).trans ?_
  by_cases c1 : q.val - 1024 < 1024
  · refine (cat_lt _ _ _ _ _ 1024 rfl c1).trans ((Eq.trans ?_ (e ⟨q.val, by omega⟩)).trans (G_1 h sh sc w r q (by omega)).symm)
    pointwise [] <;> exact congrArg u (congrArg (ix2 r) (Fin.ext (by simp; omega)))
  refine (cat_ge _ _ _ _ _ 1024 rfl c1 (show q.val - 2048 = q.val - 1024 - 1024 by omega)).trans ?_
  by_cases c2 : q.val - 2048 < 1024
  · refine (cat_lt _ _ _ _ _ 1024 rfl c2).trans ((Eq.trans ?_ (e ⟨q.val, by omega⟩)).trans (G_1 h sh sc w r q (by omega)).symm)
    pointwise [] <;> exact congrArg u (congrArg (ix2 r) (Fin.ext (by simp; omega)))
  refine (cat_ge _ _ _ _ _ 1024 rfl c2 (show q.val - 3072 = q.val - 2048 - 1024 by omega)).trans ?_
  by_cases c3 : q.val - 3072 < 512
  · refine (cat_lt _ _ _ _ _ 512 rfl c3).trans ((Eq.trans ?_ (e ⟨q.val, by omega⟩)).trans (G_1 h sh sc w r q (by omega)).symm)
    pointwise [] <;> exact congrArg u (congrArg (ix2 r) (Fin.ext (by simp; omega)))
  refine (cat_ge _ _ _ _ _ 512 rfl c3 (show q.val - 3584 = q.val - 3072 - 512 by omega)).trans ?_
  by_cases c4 : q.val - 3584 < 512
  · refine (cat_lt _ _ _ _ _ 512 rfl c4).trans ((Eq.trans ?_ (e ⟨q.val, by omega⟩)).trans (G_1 h sh sc w r q (by omega)).symm)
    pointwise [] <;> exact congrArg u (congrArg (ix2 r) (Fin.ext (by simp; omega)))
  refine (cat_ge _ _ _ _ _ 512 rfl c4 (show q.val - 4096 = q.val - 3584 - 512 by omega)).trans ?_
  by_cases c5 : q.val - 4096 < 1024
  · refine (cat_lt _ _ _ _ _ 1024 rfl c5).trans ((Eq.trans ?_ (e ⟨q.val, by omega⟩)).trans (G_1 h sh sc w r q (by omega)).symm)
    pointwise [] <;> exact congrArg u (congrArg (ix2 r) (Fin.ext (by simp; omega)))
  refine (cat_ge _ _ _ _ _ 1024 rfl c5 (show q.val - 5120 = q.val - 4096 - 1024 by omega)).trans ?_
  by_cases c6 : q.val - 5120 < 1024
  · refine (cat_lt _ _ _ _ _ 1024 rfl c6).trans ((Eq.trans ?_ (e ⟨q.val, by omega⟩)).trans (G_1 h sh sc w r q (by omega)).symm)
    pointwise [] <;> exact congrArg u (congrArg (ix2 r) (Fin.ext (by simp; omega)))
  refine (cat_ge _ _ _ _ _ 1024 rfl c6 (show q.val - 6144 = q.val - 5120 - 1024 by omega)).trans ?_
  by_cases c7 : q.val - 6144 < 2048
  · refine (cat_lt _ _ _ _ _ 2048 rfl c7).trans ((Eq.trans ?_ (e ⟨q.val + 16, by omega⟩)).trans (G_2 h sh sc w r q (by omega) (by omega)).symm)
    pointwise [] <;> exact congrArg u (congrArg (ix2 r) (Fin.ext (by simp; omega)))
  refine (cat_ge _ _ _ _ _ 2048 rfl c7 (show q.val - 8192 = q.val - 6144 - 2048 by omega)).trans ?_
  by_cases c8 : q.val - 8192 < 2048
  · refine (cat_lt _ _ _ _ _ 2048 rfl c8).trans ((Eq.trans ?_ (e ⟨q.val + 16, by omega⟩)).trans (G_2 h sh sc w r q (by omega) (by omega)).symm)
    pointwise [] <;> exact congrArg u (congrArg (ix2 r) (Fin.ext (by simp; omega)))
  refine (cat_ge _ _ _ _ _ 2048 rfl c8 (show q.val - 10240 = q.val - 8192 - 2048 by omega)).trans ?_
  by_cases c9 : q.val - 10240 < 16
  · refine (cat_lt _ _ _ _ _ 16 rfl c9).trans ((Eq.trans ?_ (e ⟨q.val - 4096, by omega⟩)).trans (G_3 h sh sc w r q (by omega) (by omega)).symm)
    pointwise [] <;> exact congrArg u (congrArg (ix2 r) (Fin.ext (by simp; omega)))
  refine (cat_ge _ _ _ _ _ 16 rfl c9 (show q.val - 10256 = q.val - 10240 - 16 by omega)).trans ?_
  refine (concatenateAt_singleton _ _ _ _ _ _).trans (Eq.trans ?_ (G_4 h sh sc w r q (by omega)).symm)
  pointwise []

/-- The reference's array is the kernel's. -/
theorem ref_eq : val_main_v19 (F := Ideal) h sh sc w = G h sh sc w := by
  funext j
  obtain ⟨r, q, rfl⟩ : ∃ (r : Fin 4096) (q : Fin 10368), j = ix2 r q := ⟨j 0, j 1, eq_ix2 j⟩
  exact r18 h sh sc w r q

end Cert.MixIn

namespace Cert.MixIn

/-- The kernel's frames and the reference's. -/
theorem frame_P : Cert.quiescent_Kernel15 := fun m ρ _ => Cert.Kernel15.Gen.frame m ρ
theorem frame_PI : Cert.quiescent_Kernel15Ideal := fun m ρ _ => Cert.Kernel15Ideal.Gen.frame m ρ
theorem frame_RI : Cert.quiescent_Reference15Ideal := fun m ρ _ =>
  (θ_run Cert.Reference15Ideal.defs _ _).mono
    (fun r h => ⟨fun c => (h c).2, sem_eq_zero_of_no_sems (by decide) r.2⟩)
    (Cert.Reference15Ideal.Value.run (F := Ideal) m ρ)

set_option maxHeartbeats 1600000 in
/-- The kernel and the reference compute one function of the arguments. -/
theorem algebraic : Cert.algebraic_Kernel15Ideal_Reference15Ideal := by
  intro m ρ m' ρ' _ hagree
  refine ⟨fun c => (Cert.Kernel15Ideal.Gen.dats m 0 c).arrAt 4 Cert.Kernel15Ideal.cfg0.N, Cert.Kernel15Ideal.Value.run_blocks m ρ, θ_run_mono (Cert.Reference15Ideal.Value.run (F := Ideal) m' ρ') fun r h c => ?_⟩
  obtain ⟨h0, h1, h2, h3⟩ := hagree c
  refine ⟨(h c).1.trans ((Cert.Reference15Ideal.Read.val_main_v19_eq (F := Ideal) m' c).trans ?_), (h c).2⟩
  · rw [h0, h1, h2, h3]; exact (ref_eq _ _ _ _).trans (final m c).symm

end Cert.MixIn

end
-- ==== Proof.OutLn.lean ====
/-
  The last product of a layer's part and the norm after it (`out_ln`): the product, its gated sum with the residual, and the
  sum's normalised rows.
-/
module

public import proofs.«01_k».proof.Defs
public import proofs.«01_k».proof.Proof.Logistic
public import proofs.«01_k».proof.Proof.Norm
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Reference16Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.OutLn

open Cert.Kernel16Ideal Cert.Kernel16Ideal.Gen

/-- The product at a row and a column. -/
def prod (s : FVec Ideal S4096x5632 .bf16) (w : FVec Ideal S5632x2048 .f32) (r : Fin 4096) (k : Fin 2048) : EReal :=
  ∑ j : Fin 5632, s (ix2 r j) * w (ix2 j k)

/-- The sum's row. -/
def zrow (s : FVec Ideal S4096x5632 .bf16) (w : FVec Ideal S5632x2048 .f32) (h : FVec Ideal S4096x2048 .f32) (g : FVec Ideal S1x2048 .f32)
    (r : Fin 4096) (k : Fin 2048) : EReal :=
  Ideal.ofBits .f32 0x3F9837F0#32 * h (ix2 r k) + Ideal.ofBits .f32 0x3F000000#32 * g (ix2 0 k) * prod s w r k

/-- The product, the sum and its normalised rows as arrays. -/
def GF (s : FVec Ideal S4096x5632 .bf16) (w : FVec Ideal S5632x2048 .f32) : FVec Ideal S4096x2048 .bf16 := fun i => prod s w (i 0) (i 1)
def GZ (s : FVec Ideal S4096x5632 .bf16) (w : FVec Ideal S5632x2048 .f32) (h : FVec Ideal S4096x2048 .f32) (g : FVec Ideal S1x2048 .f32) :
    FVec Ideal S4096x2048 .f32 := fun i => zrow s w h g (i 0) (i 1)
def GH (s : FVec Ideal S4096x5632 .bf16) (w : FVec Ideal S5632x2048 .f32) (h : FVec Ideal S4096x2048 .f32) (g lg lb : FVec Ideal S1x2048 .f32) :
    FVec Ideal S4096x2048 .f32 := fun i => Norm.hat (zrow s w h g (i 0)) (i 1) * lg (ix2 0 (i 1)) + lb (ix2 0 (i 1))

section pays

variable (b0 : Vec Ideal S256x5632 .bf16) (b1 : Vec Ideal S5632x2048 .bf16) (b2 : Vec Ideal S256x2048 .f32) (b3 b4 b5 : Vec Ideal S1x2048 .f32)
  (r : Fin 256) (k : Fin 2048)

/-- The product of two blocks. -/
def dot (b0 : Vec Ideal S256x5632 .bf16) (b1 : Vec Ideal S5632x2048 .bf16) (r : Fin 256) (k : Fin 2048) : EReal :=
  ∑ j : Fin 5632, b0 (ix2 r j) * b1 (ix2 j k)

theorem pay2_at : k0_pay2 b0 b1 (ix2 r k) = dot b0 b1 r k := by
  pointwise [k0_pay2, dot]
theorem pay4_at : k0_pay4 b0 b1 (ix2 r k) = dot b0 b1 r k := by
  rw [← pay2_at]; rfl
theorem pay3_at : k0_pay3 b0 b1 b2 b3 (ix2 r k) = Ideal.ofBits .f32 0x3F9837F0#32 * b2 (ix2 r k)
    + Ideal.ofBits .f32 0x3F000000#32 * b3 (ix2 0 k) * dot b0 b1 r k := by
  rw [← pay2_at]
  unfold k0_pay3
  generalize k0_pay2 b0 b1 = u
  pointwise []
theorem pay1_at : k0_pay1 (k0_pay5 b0 b1 b2 b3 b4) b5 (ix2 r k)
    = Norm.hat (fun j => k0_pay3 b0 b1 b2 b3 (ix2 r j)) k * b4 (ix2 0 k) + b5 (ix2 0 k) := by
  unfold k0_pay1 k0_pay5
  generalize k0_pay3 b0 b1 b2 b3 = u
  pointwise [Norm.hat, Norm.cen, Norm.rst]

end pays

variable (m : (ℓ : Loc nD τ sig) → Buf (Elt Ideal) ℓ) (c : Dev nD)

/-- Where each window's block of a point lies. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] :=
  (by decide +kernel : ∀ t : Fin grid0.N, _)

/-- The weights the kernel is given. -/
def lay (w : FVec Ideal S5632x2048 .f32) : FVec Ideal S5632x2048 .bf16 := truncf .bf16 w bitsLt_bf16_f32
theorem V_w : (V m c main_v0 : FVec Ideal S5632x2048 .bf16) = lay (m ((c : Thread nD τ).loc main_arg1)) := (rfl)

/-- The product of a point's blocks is the whole product's block. -/
theorem dot_blk (t : Fin cfg0.N) (r : Fin 256) (k : Fin 2048) (R : Fin 4096) (hR : R.val = t.val * 256 + r.val) :
    dot (iblk m c 0 t) (iblk m c 1 t) r k
      = prod (m ((c : Thread nD τ).loc main_arg0)) (m ((c : Thread nD τ).loc main_arg1)) R k := by
  refine Finset.sum_congr rfl fun j _ => congrArg₂ (· * ·) ?_ ?_
  · refine congrArg (m ((c : Thread nD τ).loc main_arg0) : FVec Ideal S4096x5632 .bf16) (funext fun d => Fin.ext ?_)
    fin_cases d <;> blk_simp [idx t] <;> simp [ix2] <;> omega
  · refine Eq.trans ?_ ((congrFun (V_w m c) (ix2 j k)).trans rfl)
    refine congrArg (V m c (main_v0) : FVec Ideal S5632x2048 .bf16) (funext fun d => Fin.ext ?_)
    fin_cases d <;> blk_simp [idx t] <;> simp [ix2]

/-- And so for the sum. -/
theorem z_blk (t : Fin cfg0.N) (r : Fin 256) (k : Fin 2048) (R : Fin 4096) (hR : R.val = t.val * 256 + r.val) :
    k0_pay3 (iblk m c 0 t) (iblk m c 1 t) (iblk m c 2 t) (iblk m c 3 t) (ix2 r k) = zrow (m ((c : Thread nD τ).loc main_arg0)) (m ((c : Thread nD τ).loc main_arg1)) (m ((c : Thread nD τ).loc main_arg2)) (m ((c : Thread nD τ).loc main_arg3)) R k := by
  refine (pay3_at _ _ _ _ _ _).trans ?_
  rw [dot_blk m c t r k R hR]
  refine congrArg₂ (· + ·) (congrArg (_ * ·) ?_) (congrArg (_ * · * _) ?_)
  · refine congrArg (m ((c : Thread nD τ).loc main_arg2) : FVec Ideal S4096x2048 .f32) (funext fun d => Fin.ext ?_)
    fin_cases d <;> blk_simp [idx t] <;> simp [ix2] <;> omega
  · refine congrArg (m ((c : Thread nD τ).loc main_arg3) : FVec Ideal S1x2048 .f32) (funext fun d => Fin.ext ?_)
    fin_cases d <;> blk_simp [idx t] <;> simp [ix2]

/-- The kernel's result arrays after the run. -/
theorem final_6 : (dats m 0 c).arrAt 6 cfg0.N = GF (m ((c : Thread nD τ).loc main_arg0)) (m ((c : Thread nD τ).loc main_arg1)) := by
  have key : ∀ (t : Fin cfg0.N) (r : Fin 256) (k : Fin 2048) (R : Fin 4096), R.val = t.val * 256 + r.val →
      k0_pay4 (iblk m c 0 t) (iblk m c 1 t) (ix2 r k)
        = GF (m ((c : Thread nD τ).loc main_arg0)) (m ((c : Thread nD τ).loc main_arg1)) (ix2 R k) := by
    intro t r k R hR
    refine (pay4_at _ _ _ _).trans ?_
    rw [dot_blk m c t r k R hR]; rfl
  refine (dats m 0 c).arrAt_eq_of_covers 6 _ (by decide +kernel) fun t _ y => ?_
  blk_simp
  rw [after0_6]
  frame_out
  obtain ⟨r, k, rfl⟩ : ∃ (r : Fin 256) (k : Fin 2048), y = ix2 r k := ⟨y 0, y 1, eq_ix2 y⟩
  have ht : t.val < 16 := t.isLt
  refine (key t r k ⟨t.val * 256 + r.val, by omega⟩ rfl).trans (congrArg (GF (m ((c : Thread nD τ).loc main_arg0)) (m ((c : Thread nD τ).loc main_arg1))) (funext fun d => Fin.ext ?_))
  fin_cases d <;> blk_simp [idx t] <;> simp [ix2]
theorem final_7 : (dats m 0 c).arrAt 7 cfg0.N = GZ (m ((c : Thread nD τ).loc main_arg0)) (m ((c : Thread nD τ).loc main_arg1)) (m ((c : Thread nD τ).loc main_arg2)) (m ((c : Thread nD τ).loc main_arg3)) := by
  have key : ∀ (t : Fin cfg0.N) (r : Fin 256) (k : Fin 2048) (R : Fin 4096), R.val = t.val * 256 + r.val →
      k0_pay3 (iblk m c 0 t) (iblk m c 1 t) (iblk m c 2 t) (iblk m c 3 t) (ix2 r k)
        = GZ (m ((c : Thread nD τ).loc main_arg0)) (m ((c : Thread nD τ).loc main_arg1)) (m ((c : Thread nD τ).loc main_arg2)) (m ((c : Thread nD τ).loc main_arg3)) (ix2 R k) := by
    intro t r k R hR
    rw [z_blk m c t r k R hR]; rfl
  refine (dats m 0 c).arrAt_eq_of_covers 7 _ (by decide +kernel) fun t _ y => ?_
  blk_simp
  rw [after0_7]
  frame_out
  obtain ⟨r, k, rfl⟩ : ∃ (r : Fin 256) (k : Fin 2048), y = ix2 r k := ⟨y 0, y 1, eq_ix2 y⟩
  have ht : t.val < 16 := t.isLt
  refine (key t r k ⟨t.val * 256 + r.val, by omega⟩ rfl).trans (congrArg (GZ (m ((c : Thread nD τ).loc main_arg0)) (m ((c : Thread nD τ).loc main_arg1)) (m ((c : Thread nD τ).loc main_arg2)) (m ((c : Thread nD τ).loc main_arg3))) (funext fun d => Fin.ext ?_))
  fin_cases d <;> blk_simp [idx t] <;> simp [ix2]
theorem final_8 : (dats m 0 c).arrAt 8 cfg0.N = GH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have key : ∀ (t : Fin cfg0.N) (r : Fin 256) (k : Fin 2048) (R : Fin 4096), R.val = t.val * 256 + r.val →
      k0_pay1 (k0_pay5 (iblk m c 0 t) (iblk m c 1 t) (iblk m c 2 t) (iblk m c 3 t) (iblk m c 4 t)) (iblk m c 5 t) (ix2 r k)
        = GH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R k) := by
    intro t r k R hR
    refine (pay1_at _ _ _ _ _ _ _ _).trans ?_
    unfold GH
    refine congrArg₂ (· + ·) (congrArg₂ (· * ·) (congrArg₂ Norm.hat (funext fun j => z_blk m c t r j R hR) rfl) ?_) ?_
    · refine congrArg (m ((c : Thread nD τ).loc main_arg4) : FVec Ideal S1x2048 .f32) (funext fun d => Fin.ext ?_)
      fin_cases d <;> blk_simp [idx t] <;> simp [ix2]
    · refine congrArg (m ((c : Thread nD τ).loc main_arg5) : FVec Ideal S1x2048 .f32) (funext fun d => Fin.ext ?_)
      fin_cases d <;> blk_simp [idx t] <;> simp [ix2]
  refine (dats m 0 c).arrAt_eq_of_covers 8 _ (by decide +kernel) fun t _ y => ?_
  blk_simp
  rw [after0_8]
  frame_out
  obtain ⟨r, k, rfl⟩ : ∃ (r : Fin 256) (k : Fin 2048), y = ix2 r k := ⟨y 0, y 1, eq_ix2 y⟩
  have ht : t.val < 16 := t.isLt
  refine (key t r k ⟨t.val * 256 + r.val, by omega⟩ rfl).trans (congrArg (GH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (funext fun d => Fin.ext ?_))
  fin_cases d <;> blk_simp [idx t] <;> simp [ix2]

end Cert.OutLn

namespace Cert.OutLn

open Cert.Reference16Ideal Cert.Reference16Ideal.Gen Cert.Reference16Ideal.Read

variable (s : FVec Ideal S4096x5632 .bf16) (w : FVec Ideal S5632x2048 .f32) (h : FVec Ideal S4096x2048 .f32) (g lg lb : FVec Ideal S1x2048 .f32)

theorem r1 (r : Fin 4096) (k : Fin 2048) : val_main_v1 (F := Ideal) s w (ix2 r k) = prod s w r k := by
  pointwise [val_main_v1, val_main_v0, prod]
theorem r8 (r : Fin 4096) (k : Fin 2048) : val_main_v8 (F := Ideal) s w h g (ix2 r k) = zrow s w h g r k := by
  unfold zrow
  rw [← r1]
  unfold val_main_v8 val_main_v7 val_main_v6 val_main_v5 val_main_v4 val_main_cst_0 val_main_v3 val_main_v2 val_main_cst
  generalize val_main_v1 (F := Ideal) s w = u
  pointwise []

/-- The reference's arrays are the kernel's. -/
theorem ref_9 : val_main_v9 (F := Ideal) s w = GF s w := by
  funext j
  rw [eq_ix2 j]
  exact r1 s w (j 0) (j 1)
theorem ref_8 : val_main_v8 (F := Ideal) s w h g = GZ s w h g := by
  funext j
  rw [eq_ix2 j]
  exact r8 s w h g (j 0) (j 1)
theorem ref_31 : val_main_v31 (F := Ideal) s w h g lg lb = GH s w h g lg lb := by
  funext j
  obtain ⟨r, k, rfl⟩ : ∃ (r : Fin 4096) (k : Fin 2048), j = ix2 r k := ⟨j 0, j 1, eq_ix2 j⟩
  unfold GH
  have e : zrow s w h g r = fun k => val_main_v8 (F := Ideal) s w h g (ix2 r k) := funext fun k => (r8 s w h g r k).symm
  refine Eq.trans ?_ (congrArg (fun z => Norm.hat z k * lg (ix2 0 k) + lb (ix2 0 k)) e.symm)
  unfold val_main_v31 val_main_v30 val_main_v29 val_main_v28 val_main_v27 val_main_v26 val_main_v25 val_main_v24 val_main_v23 val_main_cst_5
    val_main_v22 val_main_v21 val_main_v20 val_main_v19 val_main_cst_4 val_main_v18 val_main_v17 val_main_cst_3 val_main_v16 val_main_v15
    val_main_v14 val_main_v13 val_main_v12 val_main_cst_2 val_main_v11 val_main_v10 val_main_cst_1
  generalize val_main_v8 (F := Ideal) s w h g = u
  pointwise [Norm.hat, Norm.cen, Norm.rst]

end Cert.OutLn

namespace Cert.OutLn

/-- The kernel's frames and the reference's. -/
theorem frame_P : Cert.quiescent_Kernel16 := fun m ρ _ => Cert.Kernel16.Gen.frame m ρ
theorem frame_PI : Cert.quiescent_Kernel16Ideal := fun m ρ _ => Cert.Kernel16Ideal.Gen.frame m ρ
theorem frame_RI : Cert.quiescent_Reference16Ideal := fun m ρ _ =>
  (θ_run Cert.Reference16Ideal.defs _ _).mono
    (fun r h => ⟨fun c => (h c).2.2.2, sem_eq_zero_of_no_sems (by decide) r.2⟩)
    (Cert.Reference16Ideal.Value.run (F := Ideal) m ρ)

set_option maxHeartbeats 1600000 in
/-- The kernel and the reference compute the same three functions of the arguments. -/
theorem algebraic : Cert.algebraic_Kernel16Ideal_Reference16Ideal := by
  intro m ρ m' ρ' _ hagree
  refine ⟨fun c => (Cert.Kernel16Ideal.Gen.dats m 0 c).arrAt 6 Cert.Kernel16Ideal.cfg0.N, fun c => (Cert.Kernel16Ideal.Gen.dats m 0 c).arrAt 7 Cert.Kernel16Ideal.cfg0.N, fun c => (Cert.Kernel16Ideal.Gen.dats m 0 c).arrAt 8 Cert.Kernel16Ideal.cfg0.N, Cert.Kernel16Ideal.Value.run_blocks m ρ, θ_run_mono (Cert.Reference16Ideal.Value.run (F := Ideal) m' ρ') fun r h c => ?_⟩
  obtain ⟨h0, h1, h2, h3, h4, h5⟩ := hagree c
  refine ⟨(h c).1.trans ((Cert.Reference16Ideal.Read.val_main_v9_eq (F := Ideal) _ _).trans ?_), (h c).2.1.trans ((Cert.Reference16Ideal.Read.val_main_v8_eq (F := Ideal) _ _ _ _).trans ?_), (h c).2.2.1.trans ((Cert.Reference16Ideal.Read.val_main_v31_eq (F := Ideal) m' c).trans ?_), (h c).2.2.2⟩
  · rw [h0, h1]; exact (ref_9 _ _).trans (final_6 m c).symm
  · rw [h0, h1, h2, h3]; exact (ref_8 _ _ _ _).trans (final_7 m c).symm
  · rw [h0, h1, h2, h3, h4, h5]; exact (ref_31 _ _ _ _ _ _).trans (final_8 m c).symm

end Cert.OutLn

end
-- ==== Proof.ProjMerge.lean ====
/-
  The two branches' projections and their gated sum `σ(ga)·pa + σ(gb)·pb` (`proj_merge`): the two products and the sum.
-/
module

public import proofs.«01_k».proof.Defs
public import proofs.«01_k».proof.Proof.Logistic
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Reference17Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ProjMerge

open Cert.Kernel17Ideal Cert.Kernel17Ideal.Gen

/-- A branch's projection at an index. -/
def prod (y : FVec Ideal S4096x1024 .bf16) (w : FVec Ideal S1024x2048 .f32) (i : S4096x2048.Idx) : EReal :=
  ∑ k : Fin 1024, y (ix2 (i 0) k) * w (ix2 k (i 1))

/-- The gate whose columns begin at `o` in the projections. -/
def gate (o : ℕ) (ho : o + 2048 ≤ 10256) (y : FVec Ideal S4096x10256 .f32) (i : S4096x2048.Idx) : EReal :=
  Common.sgk (y (ix2 (i 0) ⟨o + (i 1).val, by have h : (i 1).val < 2048 := (i 1).isLt; omega⟩))

/-- A projection and the gated sum as arrays. -/
def GP (y : FVec Ideal S4096x1024 .bf16) (w : FVec Ideal S1024x2048 .f32) : FVec Ideal S4096x2048 .bf16 := fun i => prod y w i
def GM (ya yb : FVec Ideal S4096x1024 .bf16) (wa wb : FVec Ideal S1024x2048 .f32) (y : FVec Ideal S4096x10256 .f32) :
    FVec Ideal S4096x2048 .bf16 := fun i =>
  gate 6160 (by norm_num) y i * prod ya wa i + gate 8208 (by norm_num) y i * prod yb wb i

section pays

variable (b0 b1 : Vec Ideal S1024x1024 .bf16) (b2 b3 : Vec Ideal S1x1024x256 .bf16) (b4 b5 : Vec Ideal S1024x256 .bf16) (x : S1024x256.Idx)

/-- The product of two blocks. -/
def dot (b0 : Vec Ideal S1024x1024 .bf16) (b2 : Vec Ideal S1x1024x256 .bf16) (x : S1024x256.Idx) : EReal :=
  ∑ k : Fin 1024, b0 (ix2 (x 0) k) * b2 (ix3 0 k (x 1))

theorem pay2_at : k0_pay2 b0 b2 x = dot b0 b2 x := by
  rw [eq_ix2 x]; pointwise [k0_pay2, dot]
theorem pay3_at : k0_pay3 b0 b2 x = dot b0 b2 x := pay2_at b0 b2 x
theorem pay4_at : k0_pay4 b0 b2 x = dot b0 b2 x := by rw [← pay2_at]; rfl
theorem pay5_at : k0_pay5 b0 b2 x = dot b0 b2 x := pay4_at b0 b2 x
theorem pay1_at : k0_pay1 (k0_pay3 b1 b3) (k0_pay6 b0 b2 b4) (k0_pay7 b5) x
    = Common.sgk (b4 x) * dot b0 b2 x + Common.sgk (b5 x) * dot b1 b3 x := by
  rw [← pay2_at, ← pay3_at]
  unfold k0_pay1 k0_pay6 k0_pay7
  generalize k0_pay3 b1 b3 = u
  generalize k0_pay2 b0 b2 = v
  rw [eq_ix2 x]; pointwise [Common.sgk]

end pays

variable (m : (ℓ : Loc nD τ sig) → Buf (Elt Ideal) ℓ) (c : Dev nD)

/-- The kernel's layout of a branch's weights: blocks of columns. -/
def lay (w : FVec Ideal S1024x2048 .f32) : FVec Ideal S8x1024x256 .bf16 :=
  transpose S8x1024x256 [1, 0, 2] (shapeCast S1024x8x256 (truncf .bf16 w bitsLt_bf16_f32) shapeCasts_S1024x2048_S1024x8x256)
    transposes_S1024x8x256_S8x1024x256_1_0_2
theorem lay_at (w : FVec Ideal S1024x2048 .f32) (b : Fin 8) (k : Fin 1024) (j : Fin 256) :
    lay w (ix3 b k j) = w (ix2 k ⟨b.val * 256 + j.val, by omega⟩) := by
  pointwise [lay]

/-- The kernel's layout of the projections. -/
def cols (y : FVec Ideal S4096x10256 .f32) : FVec Ideal S4096x10368 .bf16 :=
  truncf .bf16 (concatenate S4096x10368 1 [⟨S4096x6144, extractStridedSlice S4096x6144 ![0, 0] y slices_S4096x10256_S4096x6144_0_0⟩,
    ⟨S4096x4096, extractStridedSlice S4096x4096 ![0, 6160] y slices_S4096x10256_S4096x4096_0_6160⟩,
    ⟨S4096x16, extractStridedSlice S4096x16 ![0, 6144] y slices_S4096x10256_S4096x16_0_6144⟩,
    ⟨S4096x112, broadcastInDim S4096x112 ![] bcast_S_S4096x112 (constant S_ .f32 0x00000000#32)⟩]
    concatenates_S4096x6144_S4096x4096_S4096x16_S4096x112_S4096x10368_d1) bitsLt_bf16_f32

/-- The columns of the gates lie sixteen further left there. -/
theorem cols_at (y : FVec Ideal S4096x10256 .f32) (R : Fin 4096) (a : Fin 10368) (h1 : 6144 ≤ a.val) (h2 : a.val < 10240) :
    cols y (ix2 R a) = y (ix2 R ⟨a.val + 16, by omega⟩) := by
  pointwise [cols]
  rw [dif_neg (by omega), dif_pos (by omega)]
  exact congrArg y (congrArg (ix2 R) (Fin.ext (by simp; omega)))

theorem V_v5 : (V m c main_v5 : FVec Ideal S4096x10368 .bf16) = cols (m ((c : Thread nD τ).loc main_arg4)) := (rfl)
theorem V_v8 : (V m c main_v8 : FVec Ideal S8x1024x256 .bf16) = lay (m ((c : Thread nD τ).loc main_arg2)) := (rfl)
theorem V_v11 : (V m c main_v11 : FVec Ideal S8x1024x256 .bf16) = lay (m ((c : Thread nD τ).loc main_arg3)) := (rfl)

/-- Where each window's block of a point lies. -/
theorem idx : ∀ t : Fin cfg0.N, win0_0.index t = ![t.val % 4, 0] ∧ win0_1.index t = ![t.val % 4, 0]
    ∧ win0_2.index t = ![t.val / 4, 0, 0] ∧ win0_3.index t = ![t.val / 4, 0, 0]
    ∧ win0_4.index t = ![t.val % 4, 24 + t.val / 4] ∧ win0_5.index t = ![t.val % 4, 32 + t.val / 4]
    ∧ win0_6.index t = ![t.val % 4, t.val / 4] ∧ win0_7.index t = ![t.val % 4, t.val / 4] ∧ win0_8.index t = ![t.val % 4, t.val / 4] :=
  (by decide +kernel : ∀ t : Fin grid0.N, _)

/-- The product of a point's blocks is the whole product's block, for either branch. -/
theorem dot_a (t : Fin cfg0.N) (x : S1024x256.Idx) (i : S4096x2048.Idx) (h0 : (i 0).val = t.val % 4 * 1024 + (x 0).val)
    (h1 : (i 1).val = t.val / 4 * 256 + (x 1).val) :
    dot (iblk m c 0 t) (iblk m c 2 t) x = prod (m ((c : Thread nD τ).loc main_arg0)) (m ((c : Thread nD τ).loc main_arg2)) i := by
  unfold dot prod
  refine Finset.sum_congr rfl fun k _ => congrArg₂ (· * ·) ?_ ?_
  · refine congrArg (m ((c : Thread nD τ).loc main_arg0) : FVec Ideal S4096x1024 .bf16) (funext fun d => Fin.ext ?_)
    fin_cases d <;> blk_simp [idx t] <;> simp [ix2] <;> omega
  · have ht : t.val < 32 := t.isLt
    refine Eq.trans ?_ ((congrFun (V_v8 m c) (ix3 (⟨t.val / 4, by omega⟩ : Fin 8) k (x 1))).trans ((lay_at _ _ _ _).trans ?_))
    · refine congrArg (V m c main_v8 : FVec Ideal S8x1024x256 .bf16) (funext fun d => Fin.ext ?_)
      fin_cases d <;> blk_simp [idx t] <;> simp [ix3]
    · exact congrArg (m ((c : Thread nD τ).loc main_arg2) : FVec Ideal S1024x2048 .f32) (congrArg (ix2 k) (Fin.ext (by simp; omega)))
theorem dot_b (t : Fin cfg0.N) (x : S1024x256.Idx) (i : S4096x2048.Idx) (h0 : (i 0).val = t.val % 4 * 1024 + (x 0).val)
    (h1 : (i 1).val = t.val / 4 * 256 + (x 1).val) :
    dot (iblk m c 1 t) (iblk m c 3 t) x = prod (m ((c : Thread nD τ).loc main_arg1)) (m ((c : Thread nD τ).loc main_arg3)) i := by
  unfold dot prod
  refine Finset.sum_congr rfl fun k _ => congrArg₂ (· * ·) ?_ ?_
  · refine congrArg (m ((c : Thread nD τ).loc main_arg1) : FVec Ideal S4096x1024 .bf16) (funext fun d => Fin.ext ?_)
    fin_cases d <;> blk_simp [idx t] <;> simp [ix2] <;> omega
  · have ht : t.val < 32 := t.isLt
    refine Eq.trans ?_ ((congrFun (V_v11 m c) (ix3 (⟨t.val / 4, by omega⟩ : Fin 8) k (x 1))).trans ((lay_at _ _ _ _).trans ?_))
    · refine congrArg (V m c main_v11 : FVec Ideal S8x1024x256 .bf16) (funext fun d => Fin.ext ?_)
      fin_cases d <;> blk_simp [idx t] <;> simp [ix3]
    · exact congrArg (m ((c : Thread nD τ).loc main_arg3) : FVec Ideal S1024x2048 .f32) (congrArg (ix2 k) (Fin.ext (by simp; omega)))

/-- The gates' blocks of a point. -/
theorem gate_4 (t : Fin cfg0.N) (x : S1024x256.Idx) (i : S4096x2048.Idx) (h0 : (i 0).val = t.val % 4 * 1024 + (x 0).val)
    (h1 : (i 1).val = t.val / 4 * 256 + (x 1).val) :
    Common.sgk (X0_4 m c t x) = gate 6160 (by norm_num) (m ((c : Thread nD τ).loc main_arg4)) i := by
  have hi : (i 1).val < 2048 := (i 1).isLt
  refine congrArg Common.sgk (Eq.trans ?_ ((congrFun (V_v5 m c) (ix2 (i 0) ⟨6144 + (i 1).val, by omega⟩)).trans ((cols_at _ _ _ (by simp <;> omega) (by simp; omega)).trans ?_)))
  · unfold X0_4 Pipeline.Window.fill
    rw [dif_pos (moved0_4 t x)]
    refine congrArg (V m c main_v5 : FVec Ideal S4096x10368 .bf16) (funext fun d => Fin.ext ?_)
    fin_cases d <;> blk_simp [idx t] <;> simp [ix2] <;> omega
  · exact congrArg _ (congrArg (ix2 (i 0)) (Fin.ext (by simp; omega)))
theorem gate_5 (t : Fin cfg0.N) (x : S1024x256.Idx) (i : S4096x2048.Idx) (h0 : (i 0).val = t.val % 4 * 1024 + (x 0).val)
    (h1 : (i 1).val = t.val / 4 * 256 + (x 1).val) :
    Common.sgk (X0_5 m c t x) = gate 8208 (by norm_num) (m ((c : Thread nD τ).loc main_arg4)) i := by
  have hi : (i 1).val < 2048 := (i 1).isLt
  refine congrArg Common.sgk (Eq.trans ?_ ((congrFun (V_v5 m c) (ix2 (i 0) ⟨8192 + (i 1).val, by omega⟩)).trans ((cols_at _ _ _ (by simp <;> omega) (by simp; omega)).trans ?_)))
  · unfold X0_5 Pipeline.Window.fill
    rw [dif_pos (moved0_5 t x)]
    refine congrArg (V m c main_v5 : FVec Ideal S4096x10368 .bf16) (funext fun d => Fin.ext ?_)
    fin_cases d <;> blk_simp [idx t] <;> simp [ix2] <;> omega
  · exact congrArg _ (congrArg (ix2 (i 0)) (Fin.ext (by simp; omega)))

/-- The kernel's result arrays after the run: the two projections, then the gated sum. -/
theorem final_6 : (dats m 0 c).arrAt 6 cfg0.N = GP (m ((c : Thread nD τ).loc main_arg0)) (m ((c : Thread nD τ).loc main_arg2)) := by
  have key : ∀ (t : Fin cfg0.N) (x : S1024x256.Idx) (i : S4096x2048.Idx), (i 0).val = t.val % 4 * 1024 + (x 0).val →
      (i 1).val = t.val / 4 * 256 + (x 1).val →
      k0_pay4 (iblk m c 0 t) (iblk m c 2 t) x
        = GP (m ((c : Thread nD τ).loc main_arg0)) (m ((c : Thread nD τ).loc main_arg2)) i := by
    intro t x i h0 h1
    refine (pay4_at _ _ _).trans ?_
    rw [dot_a m c t x i h0 h1]
    rfl
  refine (dats m 0 c).arrAt_eq_of_covers 6 _ (by decide +kernel) fun t _ y => ?_
  blk_simp
  rw [after0_6]
  unfold outsAt0
  frame_out
  exact key t y _ (by blk_simp [idx t]) (by blk_simp [idx t])
theorem final_7 : (dats m 0 c).arrAt 7 cfg0.N = GP (m ((c : Thread nD τ).loc main_arg1)) (m ((c : Thread nD τ).loc main_arg3)) := by
  have key : ∀ (t : Fin cfg0.N) (x : S1024x256.Idx) (i : S4096x2048.Idx), (i 0).val = t.val % 4 * 1024 + (x 0).val →
      (i 1).val = t.val / 4 * 256 + (x 1).val →
      k0_pay5 (iblk m c 1 t) (iblk m c 3 t) x
        = GP (m ((c : Thread nD τ).loc main_arg1)) (m ((c : Thread nD τ).loc main_arg3)) i := by
    intro t x i h0 h1
    refine (pay5_at _ _ _).trans ?_
    rw [dot_b m c t x i h0 h1]
    rfl
  refine (dats m 0 c).arrAt_eq_of_covers 7 _ (by decide +kernel) fun t _ y => ?_
  blk_simp
  rw [after0_7]
  unfold outsAt0
  frame_out
  exact key t y _ (by blk_simp [idx t]) (by blk_simp [idx t])
theorem final_8 : (dats m 0 c).arrAt 8 cfg0.N = GM (m ((c : Thread nD τ).loc main_arg0)) (m ((c : Thread nD τ).loc main_arg1)) (m ((c : Thread nD τ).loc main_arg2)) (m ((c : Thread nD τ).loc main_arg3)) (m ((c : Thread nD τ).loc main_arg4)) := by
  have key : ∀ (t : Fin cfg0.N) (x : S1024x256.Idx) (i : S4096x2048.Idx), (i 0).val = t.val % 4 * 1024 + (x 0).val →
      (i 1).val = t.val / 4 * 256 + (x 1).val →
      k0_pay1 (k0_pay3 (iblk m c 1 t) (iblk m c 3 t)) (k0_pay6 (iblk m c 0 t) (iblk m c 2 t) (X0_4 m c t)) (k0_pay7 (X0_5 m c t)) x
        = GM (m ((c : Thread nD τ).loc main_arg0)) (m ((c : Thread nD τ).loc main_arg1)) (m ((c : Thread nD τ).loc main_arg2)) (m ((c : Thread nD τ).loc main_arg3)) (m ((c : Thread nD τ).loc main_arg4)) i := by
    intro t x i h0 h1
    refine (pay1_at _ _ _ _ _ _ _).trans ?_
    rw [dot_a m c t x i h0 h1, dot_b m c t x i h0 h1, gate_4 m c t x i h0 h1, gate_5 m c t x i h0 h1]
    rfl
  refine (dats m 0 c).arrAt_eq_of_covers 8 _ (by decide +kernel) fun t _ y => ?_
  blk_simp
  rw [after0_8]
  unfold outsAt0
  frame_out
  exact key t y _ (by blk_simp [idx t]) (by blk_simp [idx t])

end Cert.ProjMerge

namespace Cert.ProjMerge

open Cert.Reference17Ideal Cert.Reference17Ideal.Gen Cert.Reference17Ideal.Read

variable (ya yb : FVec Ideal S4096x1024 .bf16) (wa wb : FVec Ideal S1024x2048 .f32) (y : FVec Ideal S4096x10256 .f32)

theorem r11 (r : Fin 4096) (q : Fin 2048) : val_main_v11 (F := Ideal) ya wa (ix2 r q) = prod ya wa (ix2 r q) := by
  pointwise [val_main_v11, val_main_v10, prod]
theorem r13 (r : Fin 4096) (q : Fin 2048) : val_main_v13 (F := Ideal) yb wb (ix2 r q) = prod yb wb (ix2 r q) := by
  pointwise [val_main_v13, val_main_v12, prod]
theorem r19 (r : Fin 4096) (q : Fin 2048) : val_main_v19 (F := Ideal) y (ix2 r q) = gate 6160 (by norm_num) y (ix2 r q) := by
  pointwise [val_main_v19, val_main_v18, val_main_cst_0, val_main_v17, val_main_v16, val_main_cst, val_main_v15, val_main_v14, val_main_v8]
  rw [Common.sgk_div]
  rfl
theorem r26 (r : Fin 4096) (q : Fin 2048) : val_main_v26 (F := Ideal) y (ix2 r q) = gate 8208 (by norm_num) y (ix2 r q) := by
  pointwise [val_main_v26, val_main_v25, val_main_cst_2, val_main_v24, val_main_v23, val_main_cst_1, val_main_v22, val_main_v21, val_main_v9]
  rw [Common.sgk_div]
  rfl

/-- The reference's arrays are the kernel's. -/
theorem ref_29 : val_main_v29 (F := Ideal) ya wa = GP ya wa := by
  funext j
  rw [eq_ix2 j]
  exact r11 ya wa (j 0) (j 1)
theorem ref_30 : val_main_v30 (F := Ideal) yb wb = GP yb wb := by
  funext j
  rw [eq_ix2 j]
  exact r13 yb wb (j 0) (j 1)
theorem ref_31 : val_main_v31 (F := Ideal) ya yb wa wb y = GM ya yb wa wb y := by
  funext j
  rw [eq_ix2 j]
  exact congrArg₂ (· + ·) (congrArg₂ (· * ·) (r19 y (j 0) (j 1)) (r11 ya wa (j 0) (j 1)))
    (congrArg₂ (· * ·) (r26 y (j 0) (j 1)) (r13 yb wb (j 0) (j 1)))

end Cert.ProjMerge

namespace Cert.ProjMerge

/-- The kernel's frames and the reference's. -/
theorem frame_P : Cert.quiescent_Kernel17 := fun m ρ _ => Cert.Kernel17.Gen.frame m ρ
theorem frame_PI : Cert.quiescent_Kernel17Ideal := fun m ρ _ => Cert.Kernel17Ideal.Gen.frame m ρ
theorem frame_RI : Cert.quiescent_Reference17Ideal := fun m ρ _ =>
  (θ_run Cert.Reference17Ideal.defs _ _).mono
    (fun r h => ⟨fun c => (h c).2.2.2, sem_eq_zero_of_no_sems (by decide) r.2⟩)
    (Cert.Reference17Ideal.Value.run (F := Ideal) m ρ)

set_option maxHeartbeats 1600000 in
/-- The kernel and the reference compute the same three functions of the arguments. -/
theorem algebraic : Cert.algebraic_Kernel17Ideal_Reference17Ideal := by
  intro m ρ m' ρ' _ hagree
  refine ⟨fun c => (Cert.Kernel17Ideal.Gen.dats m 0 c).arrAt 6 Cert.Kernel17Ideal.cfg0.N, fun c => (Cert.Kernel17Ideal.Gen.dats m 0 c).arrAt 7 Cert.Kernel17Ideal.cfg0.N, fun c => (Cert.Kernel17Ideal.Gen.dats m 0 c).arrAt 8 Cert.Kernel17Ideal.cfg0.N, Cert.Kernel17Ideal.Value.run_blocks m ρ, θ_run_mono (Cert.Reference17Ideal.Value.run (F := Ideal) m' ρ') fun r h c => ?_⟩
  obtain ⟨h0, h1, h2, h3, h4⟩ := hagree c
  refine ⟨(h c).1.trans ((Cert.Reference17Ideal.Read.val_main_v29_eq (F := Ideal) _ _).trans ?_), (h c).2.1.trans ((Cert.Reference17Ideal.Read.val_main_v30_eq (F := Ideal) _ _).trans ?_), (h c).2.2.1.trans ((Cert.Reference17Ideal.Read.val_main_v31_eq (F := Ideal) _ _ _ _ _).trans ?_), (h c).2.2.2⟩
  · rw [h0, h2]; exact (ref_29 _ _).trans (final_6 m c).symm
  · rw [h1, h3]; exact (ref_30 _ _).trans (final_7 m c).symm
  · rw [h0, h1, h2, h3, h4]; exact (ref_31 _ _ _ _ _).trans (final_8 m c).symm

end Cert.ProjMerge

end
-- ==== Proof.BlockGrad.lean ====
/-
  The gradient of a branch through its projection (`block_input_grad`): the product of the rows with the transposed weights,
  summed over eight blocks of columns.
-/
module

public import proofs.«01_k».proof.Defs
public import proofs.«01_k».proof.Proof.Logistic
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Reference18Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.BlockGrad

open Cert.Kernel18Ideal Cert.Kernel18Ideal.Gen

/-- The product as one function of the arguments. -/
def G (w : FVec Ideal S1024x2048 .f32) (dy : FVec Ideal S4096x2048 .bf16) : FVec Ideal S4096x1024 .bf16 := fun i =>
  ∑ k : Fin 2048, dy (ix2 (i 0) k) * w (ix2 (i 1) k)

section pays

variable (b0 : Vec Ideal S512x2048 .bf16) (b1 : Vec Ideal S8x1024x256 .bf16) (r : Fin 512) (q : Fin 1024)

/-- The product's part over one block of columns. -/
def part (b0 : Vec Ideal S512x2048 .bf16) (b1 : Vec Ideal S8x1024x256 .bf16) (r : Fin 512) (q : Fin 1024) (s : Fin 8) : EReal :=
  ∑ k : Fin 256, b0 (ix2 r ⟨s.val * 256 + k.val, by omega⟩) * b1 (ix3 s q k)

theorem part_0 : (∑ k : Fin 256, View.ld b0 r0_0 (ix2 r k) * View.ld b1 r0_1 (ix3 0 q k)) = part b0 b1 r q 0 := by
  refine Finset.sum_congr rfl fun k _ => congrArg₂ (· * ·) (congrArg b0 (funext fun d => Fin.ext ?_)) (congrArg b1 (funext fun d => Fin.ext ?_))
  · fin_cases d <;> simp [ix2]
  · fin_cases d <;> simp [ix3]
theorem part_1 : (∑ k : Fin 256, View.ld b0 r0_2 (ix2 r k) * View.ld b1 r0_3 (ix3 0 q k)) = part b0 b1 r q 1 := by
  refine Finset.sum_congr rfl fun k _ => congrArg₂ (· * ·) (congrArg b0 (funext fun d => Fin.ext ?_)) (congrArg b1 (funext fun d => Fin.ext ?_))
  · fin_cases d <;> simp [ix2]
  · fin_cases d <;> simp [ix3]
theorem part_2 : (∑ k : Fin 256, View.ld b0 r0_4 (ix2 r k) * View.ld b1 r0_5 (ix3 0 q k)) = part b0 b1 r q 2 := by
  refine Finset.sum_congr rfl fun k _ => congrArg₂ (· * ·) (congrArg b0 (funext fun d => Fin.ext ?_)) (congrArg b1 (funext fun d => Fin.ext ?_))
  · fin_cases d <;> simp [ix2]
  · fin_cases d <;> simp [ix3]
theorem part_3 : (∑ k : Fin 256, View.ld b0 r0_6 (ix2 r k) * View.ld b1 r0_7 (ix3 0 q k)) = part b0 b1 r q 3 := by
  refine Finset.sum_congr rfl fun k _ => congrArg₂ (· * ·) (congrArg b0 (funext fun d => Fin.ext ?_)) (congrArg b1 (funext fun d => Fin.ext ?_))
  · fin_cases d <;> simp [ix2]
  · fin_cases d <;> simp [ix3]
theorem part_4 : (∑ k : Fin 256, View.ld b0 r0_8 (ix2 r k) * View.ld b1 r0_9 (ix3 0 q k)) = part b0 b1 r q 4 := by
  refine Finset.sum_congr rfl fun k _ => congrArg₂ (· * ·) (congrArg b0 (funext fun d => Fin.ext ?_)) (congrArg b1 (funext fun d => Fin.ext ?_))
  · fin_cases d <;> simp [ix2]
  · fin_cases d <;> simp [ix3]
theorem part_5 : (∑ k : Fin 256, View.ld b0 r0_10 (ix2 r k) * View.ld b1 r0_11 (ix3 0 q k)) = part b0 b1 r q 5 := by
  refine Finset.sum_congr rfl fun k _ => congrArg₂ (· * ·) (congrArg b0 (funext fun d => Fin.ext ?_)) (congrArg b1 (funext fun d => Fin.ext ?_))
  · fin_cases d <;> simp [ix2]
  · fin_cases d <;> simp [ix3]
theorem part_6 : (∑ k : Fin 256, View.ld b0 r0_12 (ix2 r k) * View.ld b1 r0_13 (ix3 0 q k)) = part b0 b1 r q 6 := by
  refine Finset.sum_congr rfl fun k _ => congrArg₂ (· * ·) (congrArg b0 (funext fun d => Fin.ext ?_)) (congrArg b1 (funext fun d => Fin.ext ?_))
  · fin_cases d <;> simp [ix2]
  · fin_cases d <;> simp [ix3]
theorem part_7 : (∑ k : Fin 256, View.ld b0 r0_14 (ix2 r k) * View.ld b1 r0_15 (ix3 0 q k)) = part b0 b1 r q 7 := by
  refine Finset.sum_congr rfl fun k _ => congrArg₂ (· * ·) (congrArg b0 (funext fun d => Fin.ext ?_)) (congrArg b1 (funext fun d => Fin.ext ?_))
  · fin_cases d <;> simp [ix2]
  · fin_cases d <;> simp [ix3]

theorem pay_at : k0_pay1 (k0_pay2 (View.ld b0 r0_0) (View.ld b1 r0_1) (View.ld b0 r0_2) (View.ld b1 r0_3) (View.ld b0 r0_4) (View.ld b1 r0_5) (View.ld b0 r0_6) (View.ld b1 r0_7) (View.ld b0 r0_8) (View.ld b1 r0_9)) (View.ld b0 r0_10) (View.ld b1 r0_11) (View.ld b0 r0_12) (View.ld b1 r0_13) (View.ld b0 r0_14) (View.ld b1 r0_15) (ix2 r q)
    = ∑ s : Fin 8, part b0 b1 r q s := by
  rw [Fin.sum_univ_eight, ← part_0, ← part_1, ← part_2, ← part_3, ← part_4, ← part_5, ← part_6, ← part_7]
  pointwise [k0_pay1, k0_pay2]

end pays

variable (m : (ℓ : Loc nD τ sig) → Buf (Elt Ideal) ℓ) (c : Dev nD)

/-- The kernel's layout of the weights: blocks of columns. -/
def lay (w : FVec Ideal S1024x2048 .f32) : FVec Ideal S8x1024x256 .bf16 :=
  transpose S8x1024x256 [1, 0, 2] (shapeCast S1024x8x256 (truncf .bf16 w bitsLt_bf16_f32) shapeCasts_S1024x2048_S1024x8x256)
    transposes_S1024x8x256_S8x1024x256_1_0_2
theorem lay_at (w : FVec Ideal S1024x2048 .f32) (b : Fin 8) (k : Fin 1024) (j : Fin 256) :
    lay w (ix3 b k j) = w (ix2 k ⟨b.val * 256 + j.val, by omega⟩) := by
  pointwise [lay]
theorem V_v2 : (V m c main_v2 : FVec Ideal S8x1024x256 .bf16) = lay (m ((c : Thread nD τ).loc main_arg0)) := (rfl)

/-- Where each window's block of a point lies. -/
theorem idx : ∀ t : Fin cfg0.N, win0_0.index t = ![t.val, 0] ∧ win0_1.index t = ![0, 0, 0] ∧ win0_2.index t = ![t.val, 0] :=
  (by decide +kernel : ∀ t : Fin grid0.N, _)

/-- The kernel's result array after the run. -/
theorem final : (dats m 0 c).arrAt 2 cfg0.N = G (m ((c : Thread nD τ).loc main_arg0)) (m ((c : Thread nD τ).loc main_arg1)) := by
  have key : ∀ (t : Fin cfg0.N) (x : S512x1024.Idx) (i : S4096x1024.Idx), (i 0).val = t.val * 512 + (x 0).val →
      (i 1).val = (x 1).val → (∑ s : Fin 8, part (iblk m c 0 t) (iblk m c 1 t) (x 0) (x 1) s) = G (m ((c : Thread nD τ).loc main_arg0)) (m ((c : Thread nD τ).loc main_arg1)) i := by
    intro t x i h0 h1
    unfold part G
    refine Fin.sum_mul_add_congr fun s k hl => congrArg₂ (· * ·) ?_ ?_
    · refine congrArg (m ((c : Thread nD τ).loc main_arg1) : FVec Ideal S4096x2048 .bf16) (funext fun d => Fin.ext ?_)
      fin_cases d <;> blk_simp [idx t] <;> simp [ix2] <;> omega
    · refine Eq.trans ?_ ((congrFun (V_v2 m c) (ix3 s (x 1) k)).trans ((lay_at _ _ _ _).trans ?_))
      · refine congrArg (V m c main_v2 : FVec Ideal S8x1024x256 .bf16) (funext fun d => Fin.ext ?_)
        fin_cases d <;> blk_simp [idx t] <;> simp [ix3]
      · exact congrArg (m ((c : Thread nD τ).loc main_arg0) : FVec Ideal S1024x2048 .f32) (congrArg (ix2 · _) (Fin.ext h1.symm))
  refine (dats m 0 c).arrAt_eq_of_covers 2 _ (by decide +kernel) fun t _ y => ?_
  blk_simp
  rw [after0_2]
  frame_out
  rw [eq_ix2 y]
  refine (pay_at _ _ _ _).trans ?_
  exact key t y _ (by blk_simp [idx t]) (by blk_simp [idx t])

end Cert.BlockGrad

namespace Cert.BlockGrad

open Cert.Reference18Ideal Cert.Reference18Ideal.Gen Cert.Reference18Ideal.Read

/-- The reference's array is the kernel's. -/
theorem ref_eq (w : FVec Ideal S1024x2048 .f32) (dy : FVec Ideal S4096x2048 .bf16) : val_main_v4 (F := Ideal) w dy = G w dy := by
  funext j
  obtain ⟨r, q, rfl⟩ : ∃ (r : Fin 4096) (q : Fin 1024), j = ix2 r q := ⟨j 0, j 1, eq_ix2 j⟩
  pointwise [val_main_v4, val_main_v3, val_main_v2, G]

end Cert.BlockGrad

namespace Cert.BlockGrad

/-- The kernel's frames and the reference's. -/
theorem frame_P : Cert.quiescent_Kernel18 := fun m ρ _ => Cert.Kernel18.Gen.frame m ρ
theorem frame_PI : Cert.quiescent_Kernel18Ideal := fun m ρ _ => Cert.Kernel18Ideal.Gen.frame m ρ
theorem frame_RI : Cert.quiescent_Reference18Ideal := fun m ρ _ =>
  (θ_run Cert.Reference18Ideal.defs _ _).mono
    (fun r h => ⟨fun c => (h c).2, sem_eq_zero_of_no_sems (by decide) r.2⟩)
    (Cert.Reference18Ideal.Value.run (F := Ideal) m ρ)

set_option maxHeartbeats 1600000 in
/-- The kernel and the reference compute one function of the arguments. -/
theorem algebraic : Cert.algebraic_Kernel18Ideal_Reference18Ideal := by
  intro m ρ m' ρ' _ hagree
  refine ⟨fun c => (Cert.Kernel18Ideal.Gen.dats m 0 c).arrAt 2 Cert.Kernel18Ideal.cfg0.N, Cert.Kernel18Ideal.Value.run_blocks m ρ, θ_run_mono (Cert.Reference18Ideal.Value.run (F := Ideal) m' ρ') fun r h c => ?_⟩
  obtain ⟨h0, h1⟩ := hagree c
  refine ⟨(h c).1.trans ((Cert.Reference18Ideal.Read.val_main_v4_eq (F := Ideal) _ _).trans ?_), (h c).2⟩
  · rw [h0, h1]; exact (ref_eq _ _).trans (final m c).symm

end Cert.BlockGrad

end
-- ==== Proof.Adam.lean ====
/-
  The optimiser's update of one weight from the gradient's parts (`adamw_sum`), of one part: the gradient, the weight's change
  and the two moments.
-/
module

public import proofs.«01_k».proof.Defs
public import proofs.«01_k».proof.Proof.Logistic
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Reference19Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Adam

open Cert.Kernel19Ideal Cert.Kernel19Ideal.Gen

variable (m : (ℓ : Loc nD τ sig) → Buf (Elt Ideal) ℓ) (c : Dev nD)

/-- The first moment after the step. -/
def GM (g m : FVec Ideal S2048x2304 .f32) : FVec Ideal S2048x2304 .f32 := fun i =>
  Ideal.ofBits .f32 0x3F666666#32 * m i + Ideal.ofBits .f32 0x3DCCCCCD#32 * g i

/-- The second moment after the step. -/
def GV (g v : FVec Ideal S2048x2304 .f32) : FVec Ideal S2048x2304 .f32 := fun i =>
  Ideal.ofBits .f32 0x3F7FBE77#32 * v i + Ideal.ofBits .f32 0x3A83126F#32 * (g i * g i)

/-- The weight's change. -/
def GD (g w m v : FVec Ideal S2048x2304 .f32) : FVec Ideal S2048x2304 .f32 := fun i =>
  Ideal.ofBits .f32 0xBA83126F#32 * (Ideal.div (Ideal.div (GM g m i) (Ideal.ofBits .f32 0x3F26BD02#32))
    (Ideal.sqrt (Ideal.div (GV g v i) (Ideal.ofBits .f32 0x3C231ACC#32)) + Ideal.ofBits .f32 0x322BCC77#32)
    + Ideal.ofBits .f32 0x3C23D70A#32 * w i)

/-- Where each window's block of a point lies. -/
theorem idx : ∀ t : Fin cfg0.N, win0_0.index t = ![0, t.val, 0] ∧ win0_1.index t = ![t.val, 0] ∧ win0_2.index t = ![t.val, 0]
    ∧ win0_3.index t = ![t.val, 0] ∧ win0_4.index t = ![t.val, 0] ∧ win0_5.index t = ![t.val, 0] ∧ win0_6.index t = ![t.val, 0]
    ∧ win0_7.index t = ![t.val, 0] :=
  (by decide +kernel : ∀ t : Fin grid0.N, _)

/-- The kernel's result arrays after the run: the gradient, the change, the moments. -/
theorem final_4 : (dats m 0 c).arrAt 4 cfg0.N = m ((c : Thread nD τ).loc main_arg0) := by
  refine (dats m 0 c).arrAt_eq_of_covers 4 _ (by decide +kernel) fun t _ y => ?_
  blk_simp
  rw [after0_4]
  frame_out
  pointwise [k0_pay1]
  blk_point [iblk, V, idx t]
theorem final_5 : (dats m 0 c).arrAt 5 cfg0.N = GD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  frame_out
  pointwise [k0_pay4, k0_pay3, k0_pay2, k0_pay1, GD, GM, GV]
  blk_point [iblk, V, idx t]
theorem final_6 : (dats m 0 c).arrAt 6 cfg0.N = GM (m ((c : Thread nD τ).loc main_arg0)) (m ((c : Thread nD τ).loc main_arg2)) := by
  refine (dats m 0 c).arrAt_eq_of_covers 6 _ (by decide +kernel) fun t _ y => ?_
  blk_simp
  rw [after0_6]
  frame_out
  pointwise [k0_pay2, k0_pay1, GM]
  blk_point [iblk, V, idx t]
theorem final_7 : (dats m 0 c).arrAt 7 cfg0.N = GV (m ((c : Thread nD τ).loc main_arg0)) (m ((c : Thread nD τ).loc main_arg3)) := by
  refine (dats m 0 c).arrAt_eq_of_covers 7 _ (by decide +kernel) fun t _ y => ?_
  blk_simp
  rw [after0_7]
  frame_out
  pointwise [k0_pay3, k0_pay1, GV]
  blk_point [iblk, V, idx t]

end Cert.Adam

namespace Cert.Adam

open Cert.Reference19Ideal Cert.Reference19Ideal.Gen Cert.Reference19Ideal.Read

variable (g w m v : FVec Ideal S2048x2304 .f32)

/-- The reference's arrays are the kernel's. -/
theorem ref_v4 : val_main_v4 (F := Ideal) g m = GM g m := by
  funext j
  rw [eq_ix2 j]
  pointwise [val_main_v4, val_main_v3, val_main_v2, val_main_v1, val_main_v0, val_main_cst, val_main_cst_0, GM]
theorem ref_v10 : val_main_v10 (F := Ideal) g v = GV g v := by
  funext j
  rw [eq_ix2 j]
  pointwise [val_main_v10, val_main_v9, val_main_v8, val_main_v7, val_main_v6, val_main_v5, val_main_cst_1, val_main_cst_2, GV]
theorem ref_v23 : val_main_v23 (F := Ideal) g w m v = GD g w m v := by
  funext j
  rw [eq_ix2 j]
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7, GD, GM, GV]

end Cert.Adam

namespace Cert.Adam

/-- The kernel's frames and the reference's. -/
theorem frame_P : Cert.quiescent_Kernel19 := fun m ρ _ => Cert.Kernel19.Gen.frame m ρ
theorem frame_PI : Cert.quiescent_Kernel19Ideal := fun m ρ _ => Cert.Kernel19Ideal.Gen.frame m ρ
theorem frame_RI : Cert.quiescent_Reference19Ideal := fun m ρ _ =>
  (θ_run Cert.Reference19Ideal.defs _ _).mono
    (fun r h => ⟨fun c => (h c).2.2.2.2, sem_eq_zero_of_no_sems (by decide) r.2⟩)
    (Cert.Reference19Ideal.Value.run (F := Ideal) m ρ)

set_option maxHeartbeats 1600000 in
/-- The kernel and the reference compute the same four functions of the arguments. -/
theorem algebraic : Cert.algebraic_Kernel19Ideal_Reference19Ideal := by
  intro m ρ m' ρ' _ hagree
  refine ⟨fun c => (Cert.Kernel19Ideal.Gen.dats m 0 c).arrAt 4 Cert.Kernel19Ideal.cfg0.N, fun c => (Cert.Kernel19Ideal.Gen.dats m 0 c).arrAt 5 Cert.Kernel19Ideal.cfg0.N, fun c => (Cert.Kernel19Ideal.Gen.dats m 0 c).arrAt 6 Cert.Kernel19Ideal.cfg0.N, fun c => (Cert.Kernel19Ideal.Gen.dats m 0 c).arrAt 7 Cert.Kernel19Ideal.cfg0.N, Cert.Kernel19Ideal.Value.run_blocks m ρ, θ_run_mono (Cert.Reference19Ideal.Value.run (F := Ideal) m' ρ') fun r h c => ?_⟩
  obtain ⟨h0, h1, h2, h3⟩ := hagree c
  refine ⟨(h c).1.trans ?_, (h c).2.1.trans ((Cert.Reference19Ideal.Read.val_main_v23_eq (F := Ideal) _ _ _ _).trans ?_), (h c).2.2.1.trans ((Cert.Reference19Ideal.Read.val_main_v4_eq (F := Ideal) _ _).trans ?_), (h c).2.2.2.1.trans ((Cert.Reference19Ideal.Read.val_main_v10_eq (F := Ideal) _ _).trans ?_), (h c).2.2.2.2⟩
  · rw [h0]; exact (final_4 m c).symm
  · rw [h0, h1, h2, h3]; exact (ref_v23 _ _ _ _).trans (final_5 m c).symm
  · rw [h0, h2]; exact (ref_v4 _ _).trans (final_6 m c).symm
  · rw [h0, h3]; exact (ref_v10 _ _).trans (final_7 m c).symm

end Cert.Adam

end
-- ==== Proof.ModGrad.lean ====
/-
  The gradient of the feed-forward's first weights (`matmul_tn` with a modulation): the product over the rows of the modulated
  input and the two halves' gradients, in blocks of columns.
-/
module

public import proofs.«01_k».proof.Defs
public import proofs.«01_k».proof.Proof.Logistic
public import proofs.«01_k».proof.Proof.Gen.Kernel20.Frame
public import proofs.«01_k».proof.Proof.Gen.Kernel20Ideal.Value
public import proofs.«01_k».proof.Proof.Gen.Reference20Ideal.Run
public import proofs.«01_k».proof.Proof.Gen.Reference20Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ModGrad

open Cert.Kernel20Ideal Cert.Kernel20Ideal.Gen

/-- The two halves' gradients, side by side. -/
def dz (a b : FVec Ideal S4096x5632 .bf16) (r : Fin 4096) (q : Fin 11264) : EReal :=
  if h : q.val < 5632 then a (ix2 r ⟨q.val, h⟩) else b (ix2 r ⟨q.val - 5632, by omega⟩)
/-- The product over the rows. -/
def G (h : FVec Ideal S4096x2048 .f32) (sh sc : FVec Ideal S1x2048 .f32) (a b : FVec Ideal S4096x5632 .bf16) : FVec Ideal S8x2048x1408 .bf16 := fun i =>
  ∑ r : Fin 4096, (h (ix2 r (i 1)) * (1 + sc (ix2 0 (i 1))) + sh (ix2 0 (i 1)))
    * dz a b r ⟨(i 0).val * 1408 + (i 2).val, by have h0 : (i 0).val < 8 := (i 0).isLt; have h2 : (i 2).val < 1408 := (i 2).isLt; omega⟩

/-- The product of two blocks over their rows. -/
def dot (b0 : Vec Ideal S1024x2048 .f32) (b1 b2 : Vec Ideal S1x2048 .f32) (b3 : Vec Ideal S1x1024x1408 .bf16) (x : S2048x1408.Idx) : EReal :=
  ∑ r : Fin 1024, (b0 (ix2 r (x 0)) * (1 + b2 (ix2 0 (x 0))) + b1 (ix2 0 (x 0))) * b3 (ix3 0 r (x 1))

theorem pay1_at (x : S2048x1408.Idx) : k0_pay1 (F := Ideal) x = 0 := by
  rw [eq_ix2 x]; pointwise [k0_pay1]
theorem pay2_at (b0 : Vec Ideal S1024x2048 .f32) (b1 b2 : Vec Ideal S1x2048 .f32) (b3 : Vec Ideal S1x1024x1408 .bf16) (a : Vec Ideal S2048x1408 .f32)
    (x : S2048x1408.Idx) : k0_pay2 b0 b3 b1 b2 a x = a x + dot b0 b1 b2 b3 x := by
  rw [eq_ix2 x]; pointwise [k0_pay2, dot]
theorem pay3_at (a : Vec Ideal S2048x1408 .f32) (x : S1x2048x1408.Idx) : k0_pay3 a x = a (ix2 (x 1) (x 2)) := by
  rw [eq_ix3 x]; pointwise [k0_pay3]

variable (m : (ℓ : Loc nD τ sig) → Buf (Elt Ideal) ℓ) (c : Dev nD)

/-- The kernel's layout of the two halves' gradients. -/
def lay (a b : FVec Ideal S4096x5632 .bf16) : FVec Ideal S2x4096x5632 .bf16 :=
  concatenate S2x4096x5632 0 [⟨S1x4096x5632, broadcastInDim S1x4096x5632 ![1, 2] bcast_S4096x5632_S1x4096x5632_1_2 a⟩,
    ⟨S1x4096x5632, broadcastInDim S1x4096x5632 ![1, 2] bcast_S4096x5632_S1x4096x5632_1_2 b⟩] concatenates_S1x4096x5632_S1x4096x5632_S2x4096x5632_d0
theorem V_v2 : (V m c main_v2 : FVec Ideal S2x4096x5632 .bf16) = lay (m ((c : Thread nD τ).loc main_arg3)) (m ((c : Thread nD τ).loc main_arg4)) := (rfl)
theorem lay_at (a b : FVec Ideal S4096x5632 .bf16) (s : Fin 2) (r : Fin 4096) (q : Fin 5632) :
    lay a b (ix3 s r q) = dz a b r ⟨s.val * 5632 + q.val, by omega⟩ := by
  unfold lay dz
  match s with
  | ⟨0, _⟩ => pointwise []
  | ⟨1, _⟩ => pointwise []

/-- Where each window's block of a point lies. -/
theorem idx : ∀ t : Fin cfg0.N, win0_0.index t = ![t.val % 4, 0] ∧ win0_1.index t = ![0, 0] ∧ win0_2.index t = ![0, 0]
    ∧ win0_3.index t = ![t.val / 16, t.val % 4, t.val / 4 % 4] ∧ win0_4.index t = ![t.val / 4, 0, 0] :=
  (by decide +kernel : ∀ t : Fin grid0.N, _)

theorem blk_0 (t : Fin cfg0.N) (r : Fin 1024) (k K : Fin 2048) (R : Fin 4096) (hR : R.val = t.val % 4 * 1024 + r.val) (hk : k.val = K.val) :
    (iblk m c 0 t : Vec Ideal S1024x2048 .f32) (ix2 r k) = ((m ((c : Thread nD τ).loc main_arg0)) : FVec Ideal S4096x2048 .f32) (ix2 R K) := by
  refine congrArg (m ((c : Thread nD τ).loc main_arg0) : FVec Ideal S4096x2048 .f32) (funext fun d => Fin.ext ?_)
  fin_cases d <;> blk_simp [idx t] <;> simp [ix2] <;> omega
theorem blk_1 (t : Fin cfg0.N) (k K : Fin 2048) (hk : k.val = K.val) :
    (iblk m c 1 t : Vec Ideal S1x2048 .f32) (ix2 0 k) = ((m ((c : Thread nD τ).loc main_arg1)) : FVec Ideal S1x2048 .f32) (ix2 0 K) := by
  refine congrArg (m ((c : Thread nD τ).loc main_arg1) : FVec Ideal S1x2048 .f32) (funext fun d => Fin.ext ?_)
  fin_cases d <;> blk_simp [idx t] <;> simp [ix2] <;> omega
theorem blk_2 (t : Fin cfg0.N) (k K : Fin 2048) (hk : k.val = K.val) :
    (iblk m c 2 t : Vec Ideal S1x2048 .f32) (ix2 0 k) = ((m ((c : Thread nD τ).loc main_arg2)) : FVec Ideal S1x2048 .f32) (ix2 0 K) := by
  refine congrArg (m ((c : Thread nD τ).loc main_arg2) : FVec Ideal S1x2048 .f32) (funext fun d => Fin.ext ?_)
  fin_cases d <;> blk_simp [idx t] <;> simp [ix2] <;> omega
theorem blk_3 (t : Fin cfg0.N) (r : Fin 1024) (l : Fin 1408) (R : Fin 4096) (Q : Fin 11264) (hR : R.val = t.val % 4 * 1024 + r.val)
    (hQ : Q.val = t.val / 4 * 1408 + l.val) :
    (iblk m c 3 t : Vec Ideal S1x1024x1408 .bf16) (ix3 0 r l) = dz (m ((c : Thread nD τ).loc main_arg3)) (m ((c : Thread nD τ).loc main_arg4)) R Q := by
  have ht : t.val < 32 := t.isLt
  refine Eq.trans ?_ (((congrFun (V_v2 m c) (ix3 ⟨t.val / 16, by omega⟩ R ⟨t.val / 4 % 4 * 1408 + l.val, by omega⟩)).trans
    (lay_at _ _ _ _ _)).trans (congrArg (dz _ _ R) (Fin.ext (by simp; omega))))
  refine congrArg (V m c main_v2 : FVec Ideal S2x4096x5632 .bf16) (funext fun d => Fin.ext ?_)
  fin_cases d <;> blk_simp [idx t] <;> simp [ix3] <;> omega

/-- A point's share of the sum. -/
def term (t : Fin cfg0.N) (y : S2048x1408.Idx) : EReal := dot (iblk m c 0 t) (iblk m c 1 t) (iblk m c 2 t) (iblk m c 3 t) y

/-- The last point of a run writes its accumulator. -/
theorem last (t : Fin cfg0.N) (h3 : t.val % 4 = 3) (x : S1x2048x1408.Idx) :
    (outsAt0 m c t.val t.isLt).1 x = (outsAt0 m c t.val t.isLt).2 (ix2 (x 1) (x 2)) := by
  rw [outsAt0_C m c t (by omega) h3]
  frame_out
  exact pay3_at _ _

/-- The kernel's result array after the run. -/
theorem final : (dats m 0 c).arrAt 4 cfg0.N = G (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 4 _ (by decide +kernel) fun t hf x => ?_
  have ht : t.val < 32 := t.isLt
  have h3 := (flush0_4 t).mp hf
  blk_simp
  rw [after0_4, last m c t h3, Pipeline.eq_sum_fin_of_reset_step_apply_of_flush (fun n h => (outsAt0 m c n h).2) 4 (fun _ => 0)
      (term m c)
      (fun t h j => by rw [outsAt0_A m c t h (by omega)]; frame_out; rw [pay2_at, pay1_at]; rfl)
      (fun t h j => by
        by_cases h1 : t.val % 4 = 3
        · rw [outsAt0_C m c t h h1]; frame_out; rw [pay2_at]; exact congrArg (· + _) (congrFun (Memref.IsWhole.read_unread _ _) j)
        · rw [outsAt0_B m c t h h1]; frame_out; rw [pay2_at]; exact congrArg (· + _) (congrFun (Memref.IsWhole.read_unread _ _) j)) t h3 _, zero_add]
  refine Fin.sum_mul_add_congr fun s k hl => congrArg₂ (fun p q : EReal => p * q) (congrArg₂ (fun p q : EReal => p + q) (congrArg₂ (fun p q : EReal => p * (1 + q))
    (blk_0 m c _ _ _ _ ⟨_, hl⟩ ?_ ?_) (blk_2 m c _ _ _ ?_)) (blk_1 m c _ _ _ ?_)) (blk_3 m c _ _ _ ⟨_, hl⟩ _ ?_ ?_)
  · simp; omega
  · blk_simp [idx t]
  · blk_simp [idx t]
  · blk_simp [idx t]
  · simp; omega
  · blk_simp [idx t]; simp [ix2]; omega

end Cert.ModGrad

namespace Cert.ModGrad

open Cert.Reference20Ideal Cert.Reference20Ideal.Gen Cert.Reference20Ideal.Read

variable (h : FVec Ideal S4096x2048 .f32) (sh sc : FVec Ideal S1x2048 .f32) (a b : FVec Ideal S4096x5632 .bf16)

theorem r6 (r : Fin 4096) (k : Fin 2048) :
    val_main_v6 (F := Ideal) h sh sc (ix2 r k) = h (ix2 r k) * (1 + sc (ix2 0 k)) + sh (ix2 0 k) := by
  pointwise [val_main_v6, val_main_v5, val_main_v4, val_main_v3, val_main_v2, val_main_v1, val_main_cst_0]
theorem r12 (r : Fin 4096) (q : Fin 11264) : val_main_v12 (F := Ideal) a b (ix2 r q) = dz a b r q := by
  pointwise [val_main_v12, val_main_v11, val_main_v10, dz]
theorem r13 (q : Fin 11264) (k : Fin 2048) : val_main_v13 (F := Ideal) h sh sc a b (ix2 q k)
    = ∑ r : Fin 4096, (h (ix2 r k) * (1 + sc (ix2 0 k)) + sh (ix2 0 k)) * dz a b r q := by
  have e : val_main_v13 (F := Ideal) h sh sc a b (ix2 q k)
      = ∑ r : Fin 4096, dz a b r q * (h (ix2 r k) * (1 + sc (ix2 0 k)) + sh (ix2 0 k)) := by
    pointwise [val_main_v13, r12, r6]
  rw [e]
  exact Finset.sum_congr rfl fun k _ => mul_comm _ _

/-- The reference's array is the kernel's. -/
theorem ref_eq : val_main_v17 (F := Ideal) h sh sc a b = G h sh sc a b := by
  funext j
  obtain ⟨p, k, l, rfl⟩ : ∃ (p : Fin 8) (k : Fin 2048) (l : Fin 1408), j = ix3 p k l := ⟨j 0, j 1, j 2, eq_ix3 j⟩
  refine Eq.trans ?_ (r13 h sh sc a b ⟨p.val * 1408 + l.val, by omega⟩ k)
  unfold val_main_v17 val_main_v16 val_main_v15 val_main_v14
  generalize val_main_v13 (F := Ideal) h sh sc a b = u
  pointwise []

end Cert.ModGrad

namespace Cert.ModGrad

/-- The kernel's frames and the reference's. -/
theorem frame_P : Cert.quiescent_Kernel20 := fun m ρ _ => Cert.Kernel20.Gen.frame m ρ
theorem frame_PI : Cert.quiescent_Kernel20Ideal := fun m ρ _ => Cert.Kernel20Ideal.Gen.frame m ρ
theorem frame_RI : Cert.quiescent_Reference20Ideal := fun m ρ _ =>
  (θ_run Cert.Reference20Ideal.defs _ _).mono
    (fun r h => ⟨fun c => (h c).2, sem_eq_zero_of_no_sems (by decide) r.2⟩)
    (Cert.Reference20Ideal.Value.run (F := Ideal) m ρ)

set_option maxHeartbeats 1600000 in
/-- The kernel and the reference compute one function of the arguments. -/
theorem algebraic : Cert.algebraic_Kernel20Ideal_Reference20Ideal := by
  intro m ρ m' ρ' _ hagree
  refine ⟨fun c => (Cert.Kernel20Ideal.Gen.dats m 0 c).arrAt 4 Cert.Kernel20Ideal.cfg0.N, Cert.Kernel20Ideal.Value.run_blocks m ρ, θ_run_mono (Cert.Reference20Ideal.Value.run (F := Ideal) m' ρ') fun r h c => ?_⟩
  obtain ⟨h0, h1, h2, h3, h4⟩ := hagree c
  refine ⟨(h c).1.trans ((Cert.Reference20Ideal.Read.val_main_v17_eq (F := Ideal) _ _ _ _ _).trans ?_), (h c).2⟩
  · rw [h0, h1, h2, h3, h4]; exact (ref_eq _ _ _ _ _).trans (final m c).symm

end Cert.ModGrad

end
-- ==== Proof.MatTn.lean ====
/-
  The gradient of the feed-forward's second weights (`matmul_tn`): the product over the rows of two arrays.
-/
module

public import proofs.«01_k».proof.Defs
public import proofs.«01_k».proof.Proof.Logistic
public import proofs.«01_k».proof.Proof.Gen.Kernel21.Frame
public import proofs.«01_k».proof.Proof.Gen.Kernel21Ideal.Value
public import proofs.«01_k».proof.Proof.Gen.Reference21Ideal.Run
public import proofs.«01_k».proof.Proof.Gen.Reference21Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MatTn

open Cert.Kernel21Ideal Cert.Kernel21Ideal.Gen

/-- The product over the rows. -/
def G (a : FVec Ideal S4096x5632 .bf16) (b : FVec Ideal S4096x2048 .bf16) : FVec Ideal S5632x2048 .bf16 := fun i =>
  ∑ r : Fin 4096, a (ix2 r (i 0)) * b (ix2 r (i 1))

/-- The product of two blocks over their rows. -/
def dot (b0 : Vec Ideal S1024x1408 .bf16) (b1 : Vec Ideal S1024x2048 .bf16) (x : S1408x2048.Idx) : EReal :=
  ∑ r : Fin 1024, b0 (ix2 r (x 0)) * b1 (ix2 r (x 1))

theorem pay1_at (x : S1408x2048.Idx) : k0_pay1 (F := Ideal) x = 0 := by
  rw [eq_ix2 x]; pointwise [k0_pay1]
theorem pay2_at (b0 : Vec Ideal S1024x1408 .bf16) (b1 : Vec Ideal S1024x2048 .bf16) (a : Vec Ideal S1408x2048 .f32) (x : S1408x2048.Idx) :
    k0_pay2 b0 b1 a x = a x + dot b0 b1 x := by
  rw [eq_ix2 x]; pointwise [k0_pay2, dot]
theorem pay3_at (a : Vec Ideal S1408x2048 .f32) (x : S1408x2048.Idx) : k0_pay3 a x = a x := by
  rw [eq_ix2 x]; pointwise [k0_pay3]

variable (m : (ℓ : Loc nD τ sig) → Buf (Elt Ideal) ℓ) (c : Dev nD)

/-- Where each window's block of a point lies. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem blk_0 (t : Fin cfg0.N) (r : Fin 1024) (l : Fin 1408) (R : Fin 4096) (L : Fin 5632) (hR : R.val = t.val % 4 * 1024 + r.val)
    (hL : L.val = t.val / 4 * 1408 + l.val) :
    (iblk m c 0 t : Vec Ideal S1024x1408 .bf16) (ix2 r l) = ((m ((c : Thread nD τ).loc main_arg0)) : FVec Ideal S4096x5632 .bf16) (ix2 R L) := by
  refine congrArg (m ((c : Thread nD τ).loc main_arg0) : FVec Ideal S4096x5632 .bf16) (funext fun d => Fin.ext ?_)
  fin_cases d <;> blk_simp [idx t] <;> simp [ix2] <;> omega
theorem blk_1 (t : Fin cfg0.N) (r : Fin 1024) (k : Fin 2048) (R : Fin 4096) (hR : R.val = t.val % 4 * 1024 + r.val) :
    (iblk m c 1 t : Vec Ideal S1024x2048 .bf16) (ix2 r k) = ((m ((c : Thread nD τ).loc main_arg1)) : FVec Ideal S4096x2048 .bf16) (ix2 R k) := by
  refine congrArg (m ((c : Thread nD τ).loc main_arg1) : FVec Ideal S4096x2048 .bf16) (funext fun d => Fin.ext ?_)
  fin_cases d <;> blk_simp [idx t] <;> simp [ix2] <;> omega

/-- A point's share of the sum. -/
def term (t : Fin cfg0.N) (y : S1408x2048.Idx) : EReal := dot (iblk m c 0 t) (iblk m c 1 t) y

/-- The last point of a run writes its accumulator. -/
theorem last (t : Fin cfg0.N) (h3 : t.val % 4 = 3) (x : S1408x2048.Idx) :
    (outsAt0 m c t.val t.isLt).1 x = (outsAt0 m c t.val t.isLt).2 x := by
  rw [outsAt0_C m c t (by omega) h3]
  frame_out
  exact pay3_at _ _

/-- The kernel's result array after the run. -/
theorem final : (dats m 0 c).arrAt 2 cfg0.N = G (m ((c : Thread nD τ).loc main_arg0)) (m ((c : Thread nD τ).loc main_arg1)) := by
  refine (dats m 0 c).arrAt_eq_of_covers 2 _ (by decide +kernel) fun t hf x => ?_
  have ht : t.val < 16 := t.isLt
  have h3 := (flush0_2 t).mp hf
  blk_simp
  rw [after0_2, last m c t h3, Pipeline.eq_sum_fin_of_reset_step_apply_of_flush (fun n h => (outsAt0 m c n h).2) 4 (fun _ => 0)
      (term m c)
      (fun t h j => by rw [outsAt0_A m c t h (by omega)]; frame_out; rw [pay2_at, pay1_at]; rfl)
      (fun t h j => by
        by_cases h1 : t.val % 4 = 3
        · rw [outsAt0_C m c t h h1]; frame_out; rw [pay2_at]; exact congrArg (· + _) (congrFun (Memref.IsWhole.read_unread _ _) j)
        · rw [outsAt0_B m c t h h1]; frame_out; rw [pay2_at]; exact congrArg (· + _) (congrFun (Memref.IsWhole.read_unread _ _) j)) t h3 _, zero_add]
  refine Fin.sum_mul_add_congr fun s k hl => congrArg₂ (· * ·) (blk_0 m c _ _ _ ⟨_, hl⟩ _ ?_ ?_) ((blk_1 m c _ _ _ ⟨_, hl⟩ ?_).trans ?_)
  · simp; omega
  · blk_simp [idx t]; simp; omega
  · simp; omega
  · exact congrArg (m ((c : Thread nD τ).loc main_arg1) : FVec Ideal S4096x2048 .bf16) (congrArg (ix2 _) (Fin.ext (by blk_simp [idx t])))

end Cert.MatTn

namespace Cert.MatTn

open Cert.Reference21Ideal Cert.Reference21Ideal.Gen Cert.Reference21Ideal.Read

variable (a : FVec Ideal S4096x5632 .bf16) (b : FVec Ideal S4096x2048 .bf16)

/-- The reference's array is the kernel's. -/
theorem ref_eq : val_main_v6 (F := Ideal) a b = G a b := by
  funext j
  obtain ⟨r, q, rfl⟩ : ∃ (r : Fin 5632) (q : Fin 2048), j = ix2 r q := ⟨j 0, j 1, eq_ix2 j⟩
  have e : val_main_v6 (F := Ideal) a b (ix2 r q) = ∑ k : Fin 4096, b (ix2 k q) * a (ix2 k r) := by
    pointwise [val_main_v6, val_main_v5, val_main_v4, val_main_v3, val_main_v1]
  rw [e]
  exact Finset.sum_congr rfl fun k _ => mul_comm _ _

end Cert.MatTn

namespace Cert.MatTn

/-- The kernel's frames and the reference's. -/
theorem frame_P : Cert.quiescent_Kernel21 := fun m ρ _ => Cert.Kernel21.Gen.frame m ρ
theorem frame_PI : Cert.quiescent_Kernel21Ideal := fun m ρ _ => Cert.Kernel21Ideal.Gen.frame m ρ
theorem frame_RI : Cert.quiescent_Reference21Ideal := fun m ρ _ =>
  (θ_run Cert.Reference21Ideal.defs _ _).mono
    (fun r h => ⟨fun c => (h c).2, sem_eq_zero_of_no_sems (by decide) r.2⟩)
    (Cert.Reference21Ideal.Value.run (F := Ideal) m ρ)

set_option maxHeartbeats 1600000 in
/-- The kernel and the reference compute one function of the arguments. -/
theorem algebraic : Cert.algebraic_Kernel21Ideal_Reference21Ideal := by
  intro m ρ m' ρ' _ hagree
  refine ⟨fun c => (Cert.Kernel21Ideal.Gen.dats m 0 c).arrAt 2 Cert.Kernel21Ideal.cfg0.N, Cert.Kernel21Ideal.Value.run_blocks m ρ, θ_run_mono (Cert.Reference21Ideal.Value.run (F := Ideal) m' ρ') fun r h c => ?_⟩
  obtain ⟨h0, h1⟩ := hagree c
  refine ⟨(h c).1.trans ((Cert.Reference21Ideal.Read.val_main_v6_eq (F := Ideal) _ _).trans ?_), (h c).2⟩
  · rw [h0, h1]; exact (ref_eq _ _).trans (final m c).symm

end Cert.MatTn

end
-- ==== Proof.InputGrad.lean ====
/-
  The gradient of the feed-forward part's input (the second half of `ffn_backward_input`): the product of the two halves'
  gradients with the weights, the residual's gradient through the modulation, and the gradients of the modulation.
-/
module

public import proofs.«01_k».proof.Defs
public import proofs.«01_k».proof.Proof.Logistic
public import proofs.«01_k».proof.Proof.Gen.Kernel22.Frame
public import proofs.«01_k».proof.Proof.Gen.Kernel22Ideal.Value
public import proofs.«01_k».proof.Proof.Gen.Reference22Ideal.Run
public import proofs.«01_k».proof.Proof.Gen.Reference22Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.InputGrad

open Cert.Kernel22Ideal Cert.Kernel22Ideal.Gen

/-- The product of the first half's gradient with its weights, at a row and a column. -/
def prod (w : FVec Ideal S2048x11264 .f32) (a : FVec Ideal S4096x5632 .bf16) (r : Fin 4096) (k : Fin 2048) : EReal :=
  ∑ q : Fin 5632, a (ix2 r q) * w (ix2 k ⟨q.val, by omega⟩)
/-- The product of the two halves' gradients with the weights, at a row and a column. -/
def du (w : FVec Ideal S2048x11264 .f32) (a b : FVec Ideal S4096x5632 .bf16) (r : Fin 4096) (k : Fin 2048) : EReal :=
  prod w a r k + ∑ q : Fin 5632, b (ix2 r q) * w (ix2 k ⟨5632 + q.val, by omega⟩)
/-- The input's gradient, and the gradients of the modulation's scale and shift. -/
def G6 (h : FVec Ideal S4096x2048 .f32) (sc : FVec Ideal S1x2048 .f32) (w : FVec Ideal S2048x11264 .f32) (a b : FVec Ideal S4096x5632 .bf16) (z : FVec Ideal S4096x2048 .f32) : FVec Ideal S4096x2048 .f32 :=
  fun i => Ideal.ofBits .f32 0x3F9837F0#32 * z i + du w a b (i 0) (i 1) * (1 + sc (ix2 0 (i 1)))
def G7 (h : FVec Ideal S4096x2048 .f32) (sc : FVec Ideal S1x2048 .f32) (w : FVec Ideal S2048x11264 .f32) (a b : FVec Ideal S4096x5632 .bf16) (z : FVec Ideal S4096x2048 .f32) : FVec Ideal S1x2048 .f32 :=
  fun i => ∑ r : Fin 4096, du w a b r (i 1) * h (ix2 r (i 1))
def G8 (h : FVec Ideal S4096x2048 .f32) (sc : FVec Ideal S1x2048 .f32) (w : FVec Ideal S2048x11264 .f32) (a b : FVec Ideal S4096x5632 .bf16) (z : FVec Ideal S4096x2048 .f32) : FVec Ideal S1x2048 .f32 :=
  fun i => ∑ r : Fin 4096, du w a b r (i 1)

/-- A block's product: the part of the first half, and the second half's in four parts. -/
def part (b0 : Vec Ideal S1x256x5632 .bf16) (b1 : Vec Ideal S4x2048x1408 .bf16) (s : Fin 4) (r : Fin 256) (k : Fin 2048) : EReal :=
  ∑ l : Fin 1408, b0 (ix3 0 r ⟨s.val * 1408 + l.val, by omega⟩) * b1 (ix3 s k l)
def dub (b0 : Vec Ideal S1x256x5632 .bf16) (b1 : Vec Ideal S4x2048x1408 .bf16) (b2 : Vec Ideal S256x2048 .f32) (r : Fin 256) (k : Fin 2048) : EReal :=
  b2 (ix2 r k) + (part b0 b1 0 r k + part b0 b1 1 r k + part b0 b1 2 r k + part b0 b1 3 r k)

section pays

variable (p0 p1 p2 p3 : Vec Ideal S1x256x1408 .bf16) (q0 q1 q2 q3 : Vec Ideal S1x2048x1408 .bf16) (b2 b3 b4 : Vec Ideal S256x2048 .f32)
  (b5 a : Vec Ideal S1x2048 .f32)

/-- The product of the loaded pieces. -/
def dp (r : Fin 256) (k : Fin 2048) : EReal :=
  b2 (ix2 r k) + (∑ l : Fin 1408, p0 (ix3 0 r l) * q0 (ix3 0 k l) + ∑ l : Fin 1408, p1 (ix3 0 r l) * q1 (ix3 0 k l)
    + ∑ l : Fin 1408, p2 (ix3 0 r l) * q2 (ix3 0 k l) + ∑ l : Fin 1408, p3 (ix3 0 r l) * q3 (ix3 0 k l))
theorem pay1_at (r : Fin 256) (k : Fin 2048) :
    k0_pay1 (k0_pay7 b2) (k0_pay8 p0 q0 p1 q1 p2 q2) (k0_pay9 p3) q3 (ix2 r k) = dp p0 p1 p2 p3 q0 q1 q2 q3 b2 r k := by
  pointwise [k0_pay1, k0_pay7, k0_pay8, k0_pay9, dp]
theorem pay2_at (r : Fin 256) (k : Fin 2048) :
    k0_pay2 (k0_pay7 b2) (k0_pay8 p0 q0 p1 q1 p2 q2) (k0_pay9 p3) q3 b3 b5 (ix2 r k)
      = Ideal.ofBits .f32 0x3F9837F0#32 * b3 (ix2 r k) + dp p0 p1 p2 p3 q0 q1 q2 q3 b2 r k * (1 + b5 (ix2 0 k)) := by
  pointwise [k0_pay2, pay1_at]
theorem pay3_at (k : Fin 2048) :
    k0_pay3 (k0_pay7 b2) (k0_pay8 p0 q0 p1 q1 p2 q2) (k0_pay9 p3) q3 a b4 (ix2 0 k)
      = a (ix2 0 k) + ∑ r : Fin 256, dp p0 p1 p2 p3 q0 q1 q2 q3 b2 r k * b4 (ix2 r k) := by
  pointwise [k0_pay3, pay1_at]
theorem pay4_at (k : Fin 2048) :
    k0_pay4 (k0_pay7 b2) (k0_pay8 p0 q0 p1 q1 p2 q2) (k0_pay9 p3) q3 a (ix2 0 k)
      = a (ix2 0 k) + ∑ r : Fin 256, dp p0 p1 p2 p3 q0 q1 q2 q3 b2 r k := by
  pointwise [k0_pay4, pay1_at]
theorem pay5_at (x : S1x2048.Idx) : k0_pay5 (F := Ideal) x = 0 := by
  rw [eq_ix2 x]; pointwise [k0_pay5]
theorem pay6_at (x : S1x2048.Idx) : k0_pay6 (F := Ideal) x = 0 := by
  rw [eq_ix2 x]; pointwise [k0_pay6]

end pays

section loads

variable (b0 : Vec Ideal S1x256x5632 .bf16) (b1 : Vec Ideal S4x2048x1408 .bf16) (b2 : Vec Ideal S256x2048 .f32)

theorem part_0 (r : Fin 256) (k : Fin 2048) :
    (∑ l : Fin 1408, View.ld b0 (Rect.unit ![0, 0, 0] ![1, 256, 1408] inb_S1x256x5632_S1x256x1408_0_0_0) (ix3 0 r l) * View.ld b1 (Rect.unit ![0, 0, 0] ![1, 2048, 1408] inb_S4x2048x1408_S1x2048x1408_0_0_0) (ix3 0 k l)) = part b0 b1 0 r k := by
  refine Finset.sum_congr rfl fun l _ => congrArg₂ (· * ·) (congrArg b0 (funext fun d => Fin.ext ?_)) (congrArg b1 (funext fun d => Fin.ext ?_))
  · fin_cases d <;> simp [ix3]
  · fin_cases d <;> simp [ix3]
theorem part_1 (r : Fin 256) (k : Fin 2048) :
    (∑ l : Fin 1408, View.ld b0 (Rect.unit ![0, 0, 1408] ![1, 256, 1408] inb_S1x256x5632_S1x256x1408_0_0_1408) (ix3 0 r l) * View.ld b1 (Rect.unit ![1, 0, 0] ![1, 2048, 1408] inb_S4x2048x1408_S1x2048x1408_1_0_0) (ix3 0 k l)) = part b0 b1 1 r k := by
  refine Finset.sum_congr rfl fun l _ => congrArg₂ (· * ·) (congrArg b0 (funext fun d => Fin.ext ?_)) (congrArg b1 (funext fun d => Fin.ext ?_))
  · fin_cases d <;> simp [ix3]
  · fin_cases d <;> simp [ix3]
theorem part_2 (r : Fin 256) (k : Fin 2048) :
    (∑ l : Fin 1408, View.ld b0 (Rect.unit ![0, 0, 2816] ![1, 256, 1408] inb_S1x256x5632_S1x256x1408_0_0_2816) (ix3 0 r l) * View.ld b1 (Rect.unit ![2, 0, 0] ![1, 2048, 1408] inb_S4x2048x1408_S1x2048x1408_2_0_0) (ix3 0 k l)) = part b0 b1 2 r k := by
  refine Finset.sum_congr rfl fun l _ => congrArg₂ (· * ·) (congrArg b0 (funext fun d => Fin.ext ?_)) (congrArg b1 (funext fun d => Fin.ext ?_))
  · fin_cases d <;> simp [ix3]
  · fin_cases d <;> simp [ix3]
theorem part_3 (r : Fin 256) (k : Fin 2048) :
    (∑ l : Fin 1408, View.ld b0 (Rect.unit ![0, 0, 4224] ![1, 256, 1408] inb_S1x256x5632_S1x256x1408_0_0_4224) (ix3 0 r l) * View.ld b1 (Rect.unit ![3, 0, 0] ![1, 2048, 1408] inb_S4x2048x1408_S1x2048x1408_3_0_0) (ix3 0 k l)) = part b0 b1 3 r k := by
  refine Finset.sum_congr rfl fun l _ => congrArg₂ (· * ·) (congrArg b0 (funext fun d => Fin.ext ?_)) (congrArg b1 (funext fun d => Fin.ext ?_))
  · fin_cases d <;> simp [ix3]
  · fin_cases d <;> simp [ix3]
/-- The loaded pieces' product is the block's. -/
theorem dp_eq (r : Fin 256) (k : Fin 2048) :
    dp (View.ld b0 (Rect.unit ![0, 0, 0] ![1, 256, 1408] inb_S1x256x5632_S1x256x1408_0_0_0)) (View.ld b0 (Rect.unit ![0, 0, 1408] ![1, 256, 1408] inb_S1x256x5632_S1x256x1408_0_0_1408)) (View.ld b0 (Rect.unit ![0, 0, 2816] ![1, 256, 1408] inb_S1x256x5632_S1x256x1408_0_0_2816)) (View.ld b0 (Rect.unit ![0, 0, 4224] ![1, 256, 1408] inb_S1x256x5632_S1x256x1408_0_0_4224)) (View.ld b1 (Rect.unit ![0, 0, 0] ![1, 2048, 1408] inb_S4x2048x1408_S1x2048x1408_0_0_0)) (View.ld b1 (Rect.unit ![1, 0, 0] ![1, 2048, 1408] inb_S4x2048x1408_S1x2048x1408_1_0_0)) (View.ld b1 (Rect.unit ![2, 0, 0] ![1, 2048, 1408] inb_S4x2048x1408_S1x2048x1408_2_0_0)) (View.ld b1 (Rect.unit ![3, 0, 0] ![1, 2048, 1408] inb_S4x2048x1408_S1x2048x1408_3_0_0)) b2 r k = dub b0 b1 b2 r k :=
  congrArg (fun p : EReal => b2 (ix2 r k) + p) (congrArg₂ (fun p q : EReal => p + q) (congrArg₂ (fun p q : EReal => p + q)
    (congrArg₂ (fun p q : EReal => p + q) (part_0 b0 b1 r k) (part_1 b0 b1 r k)) (part_2 b0 b1 r k)) (part_3 b0 b1 r k))

variable (b3 b4 : Vec Ideal S256x2048 .f32) (b5 a : Vec Ideal S1x2048 .f32)

theorem out2_at (r : Fin 256) (k : Fin 2048) :
    k0_pay2 (k0_pay7 b2) (k0_pay8 (View.ld b0 (Rect.unit ![0, 0, 0] ![1, 256, 1408] inb_S1x256x5632_S1x256x1408_0_0_0)) (View.ld b1 (Rect.unit ![0, 0, 0] ![1, 2048, 1408] inb_S4x2048x1408_S1x2048x1408_0_0_0)) (View.ld b0 (Rect.unit ![0, 0, 1408] ![1, 256, 1408] inb_S1x256x5632_S1x256x1408_0_0_1408)) (View.ld b1 (Rect.unit ![1, 0, 0] ![1, 2048, 1408] inb_S4x2048x1408_S1x2048x1408_1_0_0)) (View.ld b0 (Rect.unit ![0, 0, 2816] ![1, 256, 1408] inb_S1x256x5632_S1x256x1408_0_0_2816)) (View.ld b1 (Rect.unit ![2, 0, 0] ![1, 2048, 1408] inb_S4x2048x1408_S1x2048x1408_2_0_0))) (k0_pay9 (View.ld b0 (Rect.unit ![0, 0, 4224] ![1, 256, 1408] inb_S1x256x5632_S1x256x1408_0_0_4224))) (View.ld b1 (Rect.unit ![3, 0, 0] ![1, 2048, 1408] inb_S4x2048x1408_S1x2048x1408_3_0_0)) b3 b5 (ix2 r k)
      = Ideal.ofBits .f32 0x3F9837F0#32 * b3 (ix2 r k) + dub b0 b1 b2 r k * (1 + b5 (ix2 0 k)) := by
  rw [pay2_at, dp_eq]
theorem out3_at (k : Fin 2048) :
    k0_pay3 (k0_pay7 b2) (k0_pay8 (View.ld b0 (Rect.unit ![0, 0, 0] ![1, 256, 1408] inb_S1x256x5632_S1x256x1408_0_0_0)) (View.ld b1 (Rect.unit ![0, 0, 0] ![1, 2048, 1408] inb_S4x2048x1408_S1x2048x1408_0_0_0)) (View.ld b0 (Rect.unit ![0, 0, 1408] ![1, 256, 1408] inb_S1x256x5632_S1x256x1408_0_0_1408)) (View.ld b1 (Rect.unit ![1, 0, 0] ![1, 2048, 1408] inb_S4x2048x1408_S1x2048x1408_1_0_0)) (View.ld b0 (Rect.unit ![0, 0, 2816] ![1, 256, 1408] inb_S1x256x5632_S1x256x1408_0_0_2816)) (View.ld b1 (Rect.unit ![2, 0, 0] ![1, 2048, 1408] inb_S4x2048x1408_S1x2048x1408_2_0_0))) (k0_pay9 (View.ld b0 (Rect.unit ![0, 0, 4224] ![1, 256, 1408] inb_S1x256x5632_S1x256x1408_0_0_4224))) (View.ld b1 (Rect.unit ![3, 0, 0] ![1, 2048, 1408] inb_S4x2048x1408_S1x2048x1408_3_0_0)) a b4 (ix2 0 k) = a (ix2 0 k) + ∑ r : Fin 256, dub b0 b1 b2 r k * b4 (ix2 r k) := by
  rw [pay3_at]; exact congrArg (fun p : EReal => a (ix2 0 k) + p) (Finset.sum_congr rfl fun r _ => congrArg (· * b4 (ix2 r k)) (dp_eq b0 b1 b2 r k))
theorem out4_at (k : Fin 2048) :
    k0_pay4 (k0_pay7 b2) (k0_pay8 (View.ld b0 (Rect.unit ![0, 0, 0] ![1, 256, 1408] inb_S1x256x5632_S1x256x1408_0_0_0)) (View.ld b1 (Rect.unit ![0, 0, 0] ![1, 2048, 1408] inb_S4x2048x1408_S1x2048x1408_0_0_0)) (View.ld b0 (Rect.unit ![0, 0, 1408] ![1, 256, 1408] inb_S1x256x5632_S1x256x1408_0_0_1408)) (View.ld b1 (Rect.unit ![1, 0, 0] ![1, 2048, 1408] inb_S4x2048x1408_S1x2048x1408_1_0_0)) (View.ld b0 (Rect.unit ![0, 0, 2816] ![1, 256, 1408] inb_S1x256x5632_S1x256x1408_0_0_2816)) (View.ld b1 (Rect.unit ![2, 0, 0] ![1, 2048, 1408] inb_S4x2048x1408_S1x2048x1408_2_0_0))) (k0_pay9 (View.ld b0 (Rect.unit ![0, 0, 4224] ![1, 256, 1408] inb_S1x256x5632_S1x256x1408_0_0_4224))) (View.ld b1 (Rect.unit ![3, 0, 0] ![1, 2048, 1408] inb_S4x2048x1408_S1x2048x1408_3_0_0)) a (ix2 0 k) = a (ix2 0 k) + ∑ r : Fin 256, dub b0 b1 b2 r k := by
  rw [pay4_at]; exact congrArg (fun p : EReal => a (ix2 0 k) + p) (Finset.sum_congr rfl fun r _ => dp_eq b0 b1 b2 r k)

end loads

variable (m : (ℓ : Loc nD τ sig) → Buf (Elt Ideal) ℓ) (c : Dev nD)

/-- The kernel's layouts: the weights in blocks of columns, the two halves stacked, and the first half's product. -/
def layw (w : FVec Ideal S2048x11264 .f32) : FVec Ideal S8x2048x1408 .bf16 :=
  transpose S8x2048x1408 [1, 0, 2] (shapeCast S2048x8x1408 (truncf .bf16 w bitsLt_bf16_f32) shapeCasts_S2048x11264_S2048x8x1408)
    transposes_S2048x8x1408_S8x2048x1408_1_0_2
def layz (a b : FVec Ideal S4096x5632 .bf16) : FVec Ideal S2x4096x5632 .bf16 :=
  concatenate S2x4096x5632 0 [⟨S1x4096x5632, broadcastInDim S1x4096x5632 ![1, 2] bcast_S4096x5632_S1x4096x5632_1_2 a⟩,
    ⟨S1x4096x5632, broadcastInDim S1x4096x5632 ![1, 2] bcast_S4096x5632_S1x4096x5632_1_2 b⟩] concatenates_S1x4096x5632_S1x4096x5632_S2x4096x5632_d0
def first (w : FVec Ideal S2048x11264 .f32) (a : FVec Ideal S4096x5632 .bf16) : FVec Ideal S4096x2048 .f32 :=
  Host.dotGeneral dot_S4096x5632_S2048x5632_S4096x2048_1_1_0_0_n_n none a
    (truncf .bf16 (extractStridedSlice S2048x5632 ![0, 0] w slices_S2048x11264_S2048x5632_0_0) bitsLt_bf16_f32)
theorem V_v2 : (V m c main_v2 : FVec Ideal S8x2048x1408 .bf16) = layw (m ((c : Thread nD τ).loc main_arg2)) := (rfl)
theorem V_v8 : (V m c main_v8 : FVec Ideal S2x4096x5632 .bf16) = layz (m ((c : Thread nD τ).loc main_arg3)) (m ((c : Thread nD τ).loc main_arg4)) := (rfl)
theorem V_v5 : (V m c main_v5 : FVec Ideal S4096x2048 .f32) = first (m ((c : Thread nD τ).loc main_arg2)) (m ((c : Thread nD τ).loc main_arg3)) := (rfl)
theorem layw_at (w : FVec Ideal S2048x11264 .f32) (p : Fin 8) (k : Fin 2048) (l : Fin 1408) :
    layw w (ix3 p k l) = w (ix2 k ⟨p.val * 1408 + l.val, by omega⟩) := by
  pointwise [layw]
theorem layz_at (a b : FVec Ideal S4096x5632 .bf16) (r : Fin 4096) (q : Fin 5632) : layz a b (ix3 1 r q) = b (ix2 r q) := by
  pointwise [layz]
theorem first_at (w : FVec Ideal S2048x11264 .f32) (a : FVec Ideal S4096x5632 .bf16) (r : Fin 4096) (k : Fin 2048) :
    first w a (ix2 r k) = prod w a r k := by
  pointwise [first, prod]

/-- Where each window's block of a point lies. -/
theorem idx : ∀ t : Fin cfg0.N, win0_0.index t = ![1, t.val, 0] ∧ win0_1.index t = ![1, 0, 0] ∧ win0_2.index t = ![t.val, 0] ∧ win0_3.index t = ![t.val, 0]
    ∧ win0_4.index t = ![t.val, 0] ∧ win0_5.index t = ![0, 0] ∧ win0_6.index t = ![t.val, 0] ∧ win0_7.index t = ![0, 0] ∧ win0_8.index t = ![0, 0] :=
  (by decide +kernel : ∀ t : Fin grid0.N, _)

theorem blk_0 (t : Fin cfg0.N) (r : Fin 256) (q : Fin 5632) (R : Fin 4096) (hR : R.val = t.val * 256 + r.val) :
    (iblk m c 0 t : Vec Ideal S1x256x5632 .bf16) (ix3 0 r q) = ((m ((c : Thread nD τ).loc main_arg4)) : FVec Ideal S4096x5632 .bf16) (ix2 R q) := by
  refine Eq.trans ?_ ((congrFun (V_v8 m c) (ix3 1 R q)).trans (layz_at _ _ _ _))
  refine congrArg (V m c main_v8 : FVec Ideal S2x4096x5632 .bf16) (funext fun d => Fin.ext ?_)
  fin_cases d <;> blk_simp [idx t] <;> simp [ix3] <;> omega
theorem blk_1 (t : Fin cfg0.N) (s : Fin 4) (k : Fin 2048) (l : Fin 1408) :
    (iblk m c 1 t : Vec Ideal S4x2048x1408 .bf16) (ix3 s k l) = ((m ((c : Thread nD τ).loc main_arg2)) : FVec Ideal S2048x11264 .f32) (ix2 k ⟨5632 + (s.val * 1408 + l.val), by omega⟩) := by
  refine Eq.trans ?_ (((congrFun (V_v2 m c) (ix3 ⟨s.val + 4, by omega⟩ k l)).trans (layw_at _ _ _ _)).trans
    (congrArg (m ((c : Thread nD τ).loc main_arg2) : FVec Ideal S2048x11264 .f32) (congrArg (ix2 k) (Fin.ext (by simp; omega)))))
  refine congrArg (V m c main_v2 : FVec Ideal S8x2048x1408 .bf16) (funext fun d => Fin.ext ?_)
  fin_cases d <;> blk_simp [idx t] <;> simp [ix3] <;> omega
theorem blk_2 (t : Fin cfg0.N) (r : Fin 256) (k : Fin 2048) (R : Fin 4096) (hR : R.val = t.val * 256 + r.val) :
    (iblk m c 2 t : Vec Ideal S256x2048 .f32) (ix2 r k) = prod (m ((c : Thread nD τ).loc main_arg2)) (m ((c : Thread nD τ).loc main_arg3)) R k := by
  refine Eq.trans ?_ ((congrFun (V_v5 m c) (ix2 R k)).trans (first_at _ _ _ _))
  refine congrArg (V m c main_v5 : FVec Ideal S4096x2048 .f32) (funext fun d => Fin.ext ?_)
  fin_cases d <;> blk_simp [idx t] <;> simp [ix2] <;> omega
theorem blk_3 (t : Fin cfg0.N) (r : Fin 256) (k : Fin 2048) (R : Fin 4096) (hR : R.val = t.val * 256 + r.val) :
    (iblk m c 3 t : Vec Ideal S256x2048 .f32) (ix2 r k) = ((m ((c : Thread nD τ).loc main_arg5)) : FVec Ideal S4096x2048 .f32) (ix2 R k) := by
  refine congrArg (m ((c : Thread nD τ).loc main_arg5) : FVec Ideal S4096x2048 .f32) (funext fun d => Fin.ext ?_)
  fin_cases d <;> blk_simp [idx t] <;> simp [ix2] <;> omega
theorem blk_4 (t : Fin cfg0.N) (r : Fin 256) (k : Fin 2048) (R : Fin 4096) (hR : R.val = t.val * 256 + r.val) :
    (iblk m c 4 t : Vec Ideal S256x2048 .f32) (ix2 r k) = ((m ((c : Thread nD τ).loc main_arg0)) : FVec Ideal S4096x2048 .f32) (ix2 R k) := by
  refine congrArg (m ((c : Thread nD τ).loc main_arg0) : FVec Ideal S4096x2048 .f32) (funext fun d => Fin.ext ?_)
  fin_cases d <;> blk_simp [idx t] <;> simp [ix2] <;> omega
theorem blk_5 (t : Fin cfg0.N) (k : Fin 2048) :
    (iblk m c 5 t : Vec Ideal S1x2048 .f32) (ix2 0 k) = ((m ((c : Thread nD τ).loc main_arg1)) : FVec Ideal S1x2048 .f32) (ix2 0 k) := by
  refine congrArg (m ((c : Thread nD τ).loc main_arg1) : FVec Ideal S1x2048 .f32) (funext fun d => Fin.ext ?_)
  fin_cases d <;> blk_simp [idx t] <;> simp [ix2]

/-- A block's product is the whole product's block. -/
theorem dub_blk (t : Fin cfg0.N) (r : Fin 256) (k : Fin 2048) (R : Fin 4096) (hR : R.val = t.val * 256 + r.val) :
    dub (iblk m c 0 t) (iblk m c 1 t) (iblk m c 2 t) r k = du (m ((c : Thread nD τ).loc main_arg2)) (m ((c : Thread nD τ).loc main_arg3)) (m ((c : Thread nD τ).loc main_arg4)) R k := by
  unfold dub du
  refine congrArg₂ (fun p q : EReal => p + q) (blk_2 m c t r k R hR) ?_
  rw [← Fin.sum_univ_four (fun s => part (iblk m c 0 t) (iblk m c 1 t) s r k)]
  exact Fin.sum_mul_add_congr fun s l hl => congrArg₂ (fun p q : EReal => p * q) (blk_0 m c t r _ R hR) (blk_1 m c t s k l)

/-- The input's gradient. -/
theorem final_6 : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t _ x => ?_
  have key : ∀ (i : S4096x2048.Idx), (i 0).val = t.val * 256 + (x 0).val → (i 1).val = (x 1).val →
      k0_pay2 (k0_pay7 (iblk m c 2 t)) (k0_pay8 (View.ld (iblk m c 0 t) (Rect.unit ![0, 0, 0] ![1, 256, 1408] inb_S1x256x5632_S1x256x1408_0_0_0)) (View.ld (iblk m c 1 t) (Rect.unit ![0, 0, 0] ![1, 2048, 1408] inb_S4x2048x1408_S1x2048x1408_0_0_0)) (View.ld (iblk m c 0 t) (Rect.unit ![0, 0, 1408] ![1, 256, 1408] inb_S1x256x5632_S1x256x1408_0_0_1408)) (View.ld (iblk m c 1 t) (Rect.unit ![1, 0, 0] ![1, 2048, 1408] inb_S4x2048x1408_S1x2048x1408_1_0_0)) (View.ld (iblk m c 0 t) (Rect.unit ![0, 0, 2816] ![1, 256, 1408] inb_S1x256x5632_S1x256x1408_0_0_2816)) (View.ld (iblk m c 1 t) (Rect.unit ![2, 0, 0] ![1, 2048, 1408] inb_S4x2048x1408_S1x2048x1408_2_0_0))) (k0_pay9 (View.ld (iblk m c 0 t) (Rect.unit ![0, 0, 4224] ![1, 256, 1408] inb_S1x256x5632_S1x256x1408_0_0_4224))) (View.ld (iblk m c 1 t) (Rect.unit ![3, 0, 0] ![1, 2048, 1408] inb_S4x2048x1408_S1x2048x1408_3_0_0)) (iblk m c 3 t) (iblk m c 5 t) x = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) i := fun i h0 h1 => by
    rw [eq_ix2 x, eq_ix2 i, show i 1 = x 1 from Fin.ext h1]
    exact (out2_at _ _ _ _ _ _ _).trans (congrArg₂ (fun p q : EReal => p + q) (congrArg (fun p : EReal => Ideal.ofBits .f32 0x3F9837F0#32 * p) (blk_3 m c t _ _ _ h0))
      (congrArg₂ (fun p q : EReal => p * (1 + q)) (dub_blk m c t _ _ _ h0) (blk_5 m c t _)))
  blk_simp
  rw [after0_6]
  by_cases h0 : t.val % 16 = 0
  · rw [outsAt0_A m c t h0]
    frame_out
    exact key _ (by blk_simp [idx t]) (by blk_simp [idx t])
  · rw [outsAt0_B m c t h0]
    frame_out
    exact key _ (by blk_simp [idx t]) (by blk_simp [idx t])

theorem row_0 (j : S1x2048.Idx) : ∃ k : Fin 2048, j = ix2 0 k :=
  ⟨j 1, (eq_ix2 j).trans (congrArg (ix2 · (j 1)) (Subsingleton.elim _ _))⟩

/-- What a point adds to the gradients of the modulation. -/
def term7 (t : Fin cfg0.N) (x : S1x2048.Idx) : EReal :=
  ∑ r : Fin 256, dub (iblk m c 0 t) (iblk m c 1 t) (iblk m c 2 t) r (x 1) * (iblk m c 4 t : Vec Ideal S256x2048 .f32) (ix2 r (x 1))
def term8 (t : Fin cfg0.N) (x : S1x2048.Idx) : EReal :=
  ∑ r : Fin 256, dub (iblk m c 0 t) (iblk m c 1 t) (iblk m c 2 t) r (x 1)

/-- The gradient of the modulation's scale. -/
theorem final_7 : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf x => ?_
  have ht : t.val < 16 := t.isLt
  blk_simp
  rw [after0_7, Pipeline.eq_sum_fin_of_reset_step_apply_of_flush (fun n h => (outsAt0 m c n h).2.1) 16 (fun _ => 0)
      (term7 m c)
      (fun t h j => by rw [outsAt0_A m c t h]; frame_out; obtain ⟨k, rfl⟩ := row_0 j; rw [out3_at, pay5_at]; rfl)
      (fun t h j => by rw [outsAt0_B m c t h]; frame_out; obtain ⟨k, rfl⟩ := row_0 j; rw [out3_at]; rfl) t ((flush0_7 t).mp hf) _, zero_add]
  refine Fin.sum_mul_add_congr fun s k hl => congrArg₂ (fun p q : EReal => p * q) ((dub_blk m c _ _ _ ⟨_, hl⟩ ?_).trans ?_) ((blk_4 m c _ _ _ ⟨_, hl⟩ ?_).trans ?_)
  · simp; omega
  · exact congrArg (du _ _ _ _) (Fin.ext (by blk_simp [idx t]))
  · simp; omega
  · exact congrArg (m ((c : Thread nD τ).loc main_arg0) : FVec Ideal S4096x2048 .f32) (congrArg (ix2 _) (Fin.ext (by blk_simp [idx t])))

/-- The gradient of the modulation's shift. -/
theorem final_8 : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t hf x => ?_
  have ht : t.val < 16 := t.isLt
  blk_simp
  rw [after0_8, Pipeline.eq_sum_fin_of_reset_step_apply_of_flush (fun n h => (outsAt0 m c n h).2.2) 16 (fun _ => 0)
      (term8 m c)
      (fun t h j => by rw [outsAt0_A m c t h]; frame_out; obtain ⟨k, rfl⟩ := row_0 j; rw [out4_at, pay6_at]; rfl)
      (fun t h j => by rw [outsAt0_B m c t h]; frame_out; obtain ⟨k, rfl⟩ := row_0 j; rw [out4_at]; rfl) t ((flush0_8 t).mp hf) _, zero_add]
  refine Fin.sum_mul_add_congr fun s k hl => (dub_blk m c _ _ _ ⟨_, hl⟩ ?_).trans ?_
  · simp; omega
  · exact congrArg (du _ _ _ _) (Fin.ext (by blk_simp [idx t]))

end Cert.InputGrad

namespace Cert.InputGrad

open Cert.Reference22Ideal Cert.Reference22Ideal.Gen Cert.Reference22Ideal.Read

variable (h : FVec Ideal S4096x2048 .f32) (sc : FVec Ideal S1x2048 .f32) (w : FVec Ideal S2048x11264 .f32) (a b : FVec Ideal S4096x5632 .bf16) (z : FVec Ideal S4096x2048 .f32)

theorem r17 (r : Fin 4096) (k : Fin 2048) : val_main_v17 (F := Ideal) w a b (ix2 r k) = du w a b r k := by
  pointwise [val_main_v17, val_main_v16, val_main_v13, val_main_v12, du, prod]

/-- The reference's arrays are the kernel's. -/
theorem ref_6 : val_main_v25 (F := Ideal) sc w a b z = G6 h sc w a b z := by
  funext j
  obtain ⟨r, k, rfl⟩ : ∃ (r : Fin 4096) (k : Fin 2048), j = ix2 r k := ⟨j 0, j 1, eq_ix2 j⟩
  pointwise [val_main_v25, val_main_v24, val_main_v23, val_main_v2, val_main_v1, val_main_cst_0, val_main_v15, val_main_v14, val_main_cst_2, r17, G6]
theorem ref_7 : val_main_v22 (F := Ideal) h w a b = G7 h sc w a b z := by
  funext j
  obtain ⟨k, rfl⟩ : ∃ k : Fin 2048, j = ix2 0 k := ⟨j 1, (eq_ix2 j).trans (congrArg (ix2 · (j 1)) (Subsingleton.elim _ _))⟩
  have e : val_main_v22 (F := Ideal) h w a b (ix2 0 k) = ∑ r : Fin 4096, h (ix2 r k) * du w a b r k := by
    pointwise [val_main_v22, val_main_v21, val_main_cst_4, val_main_v20, r17]
  rw [e]
  exact Finset.sum_congr rfl fun r _ => mul_comm _ _
theorem ref_8 : val_main_v19 (F := Ideal) w a b = G8 h sc w a b z := by
  funext j
  obtain ⟨k, rfl⟩ : ∃ k : Fin 2048, j = ix2 0 k := ⟨j 1, (eq_ix2 j).trans (congrArg (ix2 · (j 1)) (Subsingleton.elim _ _))⟩
  pointwise [val_main_v19, val_main_v18, val_main_cst_3, r17, G8]

end Cert.InputGrad

namespace Cert.InputGrad

/-- The kernel's frames and the reference's. -/
theorem frame_P : Cert.quiescent_Kernel22 := fun m ρ _ => Cert.Kernel22.Gen.frame m ρ
theorem frame_PI : Cert.quiescent_Kernel22Ideal := fun m ρ _ => Cert.Kernel22Ideal.Gen.frame m ρ
theorem frame_RI : Cert.quiescent_Reference22Ideal := fun m ρ _ =>
  (θ_run Cert.Reference22Ideal.defs _ _).mono
    (fun r h => ⟨fun c => (h c).2.2.2, sem_eq_zero_of_no_sems (by decide) r.2⟩)
    (Cert.Reference22Ideal.Value.run (F := Ideal) m ρ)

set_option maxHeartbeats 1600000 in
/-- The kernel and the reference compute one function of the arguments. -/
theorem algebraic : Cert.algebraic_Kernel22Ideal_Reference22Ideal := by
  intro m ρ m' ρ' _ hagree
  refine ⟨fun c => (Cert.Kernel22Ideal.Gen.dats m 0 c).arrAt 6 Cert.Kernel22Ideal.cfg0.N, fun c => (Cert.Kernel22Ideal.Gen.dats m 0 c).arrAt 7 Cert.Kernel22Ideal.cfg0.N, fun c => (Cert.Kernel22Ideal.Gen.dats m 0 c).arrAt 8 Cert.Kernel22Ideal.cfg0.N, Cert.Kernel22Ideal.Value.run_blocks m ρ, θ_run_mono (Cert.Reference22Ideal.Value.run (F := Ideal) m' ρ') fun r h c => ?_⟩
  obtain ⟨h0, h1, h2, h3, h4, h5⟩ := hagree c
  refine ⟨(h c).1.trans ((Cert.Reference22Ideal.Read.val_main_v25_eq (F := Ideal) _ _ _ _ _).trans ?_), (h c).2.1.trans ((Cert.Reference22Ideal.Read.val_main_v22_eq (F := Ideal) _ _ _ _).trans ?_), (h c).2.2.1.trans ((Cert.Reference22Ideal.Read.val_main_v19_eq (F := Ideal) _ _ _).trans ?_), (h c).2.2.2⟩
  · rw [h1, h2, h3, h4, h5]; exact (ref_6 _ _ _ _ _ _).trans (final_6 m c).symm
  · rw [h0, h2, h3, h4]; exact (ref_7 _ _ _ _ _ _).trans (final_7 m c).symm
  · rw [h2, h3, h4]; exact (ref_8 _ _ _ _ _ _).trans (final_8 m c).symm

end Cert.InputGrad

end
-- ==== Proof.MixGrad.lean ====
/-
  The gradient of the mixing part's input (the last call of `row_input_grad`): the product of the columns' gradient with the
  weights, the residual's gradient through the modulation, and the gradients of the modulation.
-/
module

public import proofs.«01_k».proof.Defs
public import proofs.«01_k».proof.Proof.Logistic
public import proofs.«01_k».proof.Proof.Gen.Kernel25.Frame
public import proofs.«01_k».proof.Proof.Gen.Kernel25Ideal.Value
public import proofs.«01_k».proof.Proof.Gen.Reference25Ideal.Run
public import proofs.«01_k».proof.Proof.Gen.Reference25Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixGrad

open Cert.Kernel25Ideal Cert.Kernel25Ideal.Gen

/-- The product of the columns' gradient with the weights, at a row and a column. -/
def du (w : FVec Ideal S2048x10256 .f32) (dp : FVec Ideal S4096x10256 .f32) (r : Fin 4096) (k : Fin 2048) : EReal :=
  ∑ q : Fin 10256, dp (ix2 r q) * w (ix2 k q)
/-- The input's gradient, and the gradients of the modulation's scale and shift. -/
def G6 (h : FVec Ideal S4096x2048 .f32) (sc : FVec Ideal S1x2048 .f32) (w : FVec Ideal S2048x10256 .f32) (dp : FVec Ideal S4096x10256 .f32) (z : FVec Ideal S4096x2048 .f32) : FVec Ideal S4096x2048 .f32 :=
  fun i => Ideal.ofBits .f32 0x3F9837F0#32 * z i + du w dp (i 0) (i 1) * (1 + sc (ix2 0 (i 1)))
def G7 (h : FVec Ideal S4096x2048 .f32) (sc : FVec Ideal S1x2048 .f32) (w : FVec Ideal S2048x10256 .f32) (dp : FVec Ideal S4096x10256 .f32) (z : FVec Ideal S4096x2048 .f32) : FVec Ideal S1x2048 .f32 :=
  fun i => ∑ r : Fin 4096, du w dp r (i 1) * h (ix2 r (i 1))
def G8 (h : FVec Ideal S4096x2048 .f32) (sc : FVec Ideal S1x2048 .f32) (w : FVec Ideal S2048x10256 .f32) (dp : FVec Ideal S4096x10256 .f32) (z : FVec Ideal S4096x2048 .f32) : FVec Ideal S1x2048 .f32 :=
  fun i => ∑ r : Fin 4096, du w dp r (i 1)

/-- A block's product: the last third, and the rest. -/
def dub (b0 : Vec Ideal S256x3456 .bf16) (b1 : Vec Ideal S3456x2048 .bf16) (b2 : Vec Ideal S256x2048 .f32) (r : Fin 256) (k : Fin 2048) : EReal :=
  ∑ l : Fin 3456, b0 (ix2 r l) * b1 (ix2 l k) + b2 (ix2 r k)

section pays

variable (b0 : Vec Ideal S256x3456 .bf16) (b1 : Vec Ideal S3456x2048 .bf16) (b2 b3 b4 : Vec Ideal S256x2048 .f32) (b5 a : Vec Ideal S1x2048 .f32)

theorem pay2_at (r : Fin 256) (k : Fin 2048) : k0_pay2 b0 b1 b2 (ix2 r k) = dub b0 b1 b2 r k := by
  pointwise [k0_pay2, dub]
theorem pay5_at (r : Fin 256) (k : Fin 2048) :
    k0_pay5 b0 b1 b2 b3 b5 (ix2 r k) = Ideal.ofBits .f32 0x3F9837F0#32 * b3 (ix2 r k) + dub b0 b1 b2 r k * (1 + b5 (ix2 0 k)) := by
  pointwise [k0_pay5, pay2_at]
theorem pay6_at (k : Fin 2048) :
    k0_pay6 b0 b1 b2 a b4 (ix2 0 k) = a (ix2 0 k) + ∑ r : Fin 256, dub b0 b1 b2 r k * b4 (ix2 r k) := by
  pointwise [k0_pay6, pay2_at]
theorem pay1_at (k : Fin 2048) :
    k0_pay1 (k0_pay2 b0 b1 b2) a (ix2 0 k) = a (ix2 0 k) + ∑ r : Fin 256, dub b0 b1 b2 r k := by
  pointwise [k0_pay1, pay2_at]
theorem pay3_at (x : S1x2048.Idx) : k0_pay3 (F := Ideal) x = 0 := by
  rw [eq_ix2 x]; pointwise [k0_pay3]
theorem pay4_at (x : S1x2048.Idx) : k0_pay4 (F := Ideal) x = 0 := by
  rw [eq_ix2 x]; pointwise [k0_pay4]

end pays

variable (m : (ℓ : Loc nD τ sig) → Buf (Elt Ideal) ℓ) (c : Dev nD)

/-- The weights' columns as rows. -/
def rows (w : FVec Ideal S2048x10256 .f32) : FVec Ideal S10256x2048 .bf16 :=
  shapeCast S10256x2048 (shapeCast S8x1282x2048 (transpose S10256x2048 [1, 0] (truncf .bf16 w bitsLt_bf16_f32) transposes_S2048x10256_S10256x2048_1_0)
    shapeCasts_S10256x2048_S8x1282x2048) shapeCasts_S8x1282x2048_S10256x2048
theorem rows_at (w : FVec Ideal S2048x10256 .f32) (a : Fin 10256) (k : Fin 2048) : rows w (ix2 a k) = w (ix2 k a) := by
  unfold rows
  rw [shapeCast_shapeCast]
  pointwise []

/-- The kernel's layouts of the weights and of the columns' gradient: the gates before the decays, and zeros last. -/
def layw (w : FVec Ideal S2048x10256 .f32) : FVec Ideal S10368x2048 .bf16 :=
  concatenate S10368x2048 0 [⟨S6144x2048, extractStridedSlice S6144x2048 ![0, 0] (rows w) slices_S10256x2048_S6144x2048_0_0⟩,
    ⟨S4096x2048, extractStridedSlice S4096x2048 ![6160, 0] (rows w) slices_S10256x2048_S4096x2048_6160_0⟩,
    ⟨S16x2048, extractStridedSlice S16x2048 ![6144, 0] (rows w) slices_S10256x2048_S16x2048_6144_0⟩,
    ⟨S112x2048, broadcastInDim S112x2048 ![] bcast_S_S112x2048 (constant S_ .bf16 0x0000#16)⟩]
    concatenates_S6144x2048_S4096x2048_S16x2048_S112x2048_S10368x2048_d0
def layd (u : FVec Ideal S4096x10256 .f32) : FVec Ideal S4096x10368 .bf16 :=
  truncf .bf16 (concatenate S4096x10368 1 [⟨S4096x6144, extractStridedSlice S4096x6144 ![0, 0] u slices_S4096x10256_S4096x6144_0_0⟩,
    ⟨S4096x4096, extractStridedSlice S4096x4096 ![0, 6160] u slices_S4096x10256_S4096x4096_0_6160⟩,
    ⟨S4096x16, extractStridedSlice S4096x16 ![0, 6144] u slices_S4096x10256_S4096x16_0_6144⟩,
    ⟨S4096x112, broadcastInDim S4096x112 ![] bcast_S_S4096x112 (constant S_ .f32 0x00000000#32)⟩]
    concatenates_S4096x6144_S4096x4096_S4096x16_S4096x112_S4096x10368_d1) bitsLt_bf16_f32
/-- The product of the first two thirds. -/
def first (w : FVec Ideal S10368x2048 .bf16) (u : FVec Ideal S4096x10368 .bf16) : FVec Ideal S4096x2048 .f32 :=
  Host.dotGeneral dot_S4096x6912_S6912x2048_S4096x2048_1_0_0_1_n_n none (extractStridedSlice S4096x6912 ![0, 0] u slices_S4096x10368_S4096x6912_0_0)
    (extractStridedSlice S6912x2048 ![0, 0] w slices_S10368x2048_S6912x2048_0_0)
theorem V_v8 : (V m c main_v8 : FVec Ideal S10368x2048 .bf16) = layw (m ((c : Thread nD τ).loc main_arg2)) := (rfl)
theorem V_v14 : (V m c main_v14 : FVec Ideal S4096x10368 .bf16) = layd (m ((c : Thread nD τ).loc main_arg3)) := (rfl)
theorem V_v17 : (V m c main_v17 : FVec Ideal S4096x2048 .f32) = first (layw (m ((c : Thread nD τ).loc main_arg2))) (layd (m ((c : Thread nD τ).loc main_arg3))) := (rfl)
/-- The part of the product in some columns of the kernel's layout. -/
def piece (w : FVec Ideal S10368x2048 .bf16) (u : FVec Ideal S4096x10368 .bf16) (r : Fin 4096) (k : Fin 2048) (q : Fin 10368) : EReal :=
  u (ix2 r q) * w (ix2 q k)
theorem first_at (w : FVec Ideal S10368x2048 .bf16) (u : FVec Ideal S4096x10368 .bf16) (r : Fin 4096) (k : Fin 2048) :
    first w u (ix2 r k) = ∑ q : Fin 6912, piece w u r k ⟨q.val, by omega⟩ := by
  pointwise [first, piece]

theorem layw_1 (w : FVec Ideal S2048x10256 .f32) (q : Fin 6144) (k : Fin 2048) :
    layw w (ix2 ⟨q.val, by omega⟩ k) = w (ix2 k ⟨q.val, by omega⟩) := by
  refine Eq.trans ?_ (rows_at w ⟨q.val, by omega⟩ k)
  unfold layw
  generalize rows w = u
  pointwise []
theorem layw_2 (w : FVec Ideal S2048x10256 .f32) (q : Fin 4096) (k : Fin 2048) :
    layw w (ix2 ⟨6144 + q.val, by omega⟩ k) = w (ix2 k ⟨6160 + q.val, by omega⟩) := by
  refine Eq.trans ?_ (rows_at w ⟨6160 + q.val, by omega⟩ k)
  unfold layw
  generalize rows w = u
  pointwise []
theorem layw_3 (w : FVec Ideal S2048x10256 .f32) (q : Fin 16) (k : Fin 2048) :
    layw w (ix2 ⟨10240 + q.val, by omega⟩ k) = w (ix2 k ⟨6144 + q.val, by omega⟩) := by
  refine Eq.trans ?_ (rows_at w ⟨6144 + q.val, by omega⟩ k)
  unfold layw
  generalize rows w = u
  pointwise []
  rw [dif_neg (by simp; omega), dif_neg (by simp; omega), dif_pos (by omega)]
  exact congrArg u (congrArg (ix2 · k) (Fin.ext (by simp; omega)))
theorem layw_4 (w : FVec Ideal S2048x10256 .f32) (q : Fin 112) (k : Fin 2048) : layw w (ix2 ⟨10256 + q.val, by omega⟩ k) = 0 := by
  unfold layw
  generalize rows w = u
  pointwise []
  rw [dif_neg (by simp; omega), dif_neg (by simp; omega), dif_neg (by simp; omega)]
theorem layd_1 (u : FVec Ideal S4096x10256 .f32) (q : Fin 6144) (r : Fin 4096) :
    layd u (ix2 r ⟨q.val, by omega⟩) = u (ix2 r ⟨q.val, by omega⟩) := by
  unfold layd
  pointwise []
theorem layd_2 (u : FVec Ideal S4096x10256 .f32) (q : Fin 4096) (r : Fin 4096) :
    layd u (ix2 r ⟨6144 + q.val, by omega⟩) = u (ix2 r ⟨6160 + q.val, by omega⟩) := by
  unfold layd
  pointwise []
theorem layd_3 (u : FVec Ideal S4096x10256 .f32) (q : Fin 16) (r : Fin 4096) :
    layd u (ix2 r ⟨10240 + q.val, by omega⟩) = u (ix2 r ⟨6144 + q.val, by omega⟩) := by
  unfold layd
  pointwise []
  rw [dif_neg (by simp; omega), dif_neg (by simp; omega), dif_pos (by omega)]
  exact congrArg u (congrArg (ix2 r) (Fin.ext (by simp; omega)))

/-- A sum over the columns in the kernel's order is the sum in the problem's. -/
theorem sum_cols (f : Fin 10368 → EReal) (g : Fin 10256 → EReal) (h1 : ∀ q : Fin 6144, f ⟨q.val, by omega⟩ = g ⟨q.val, by omega⟩)
    (h2 : ∀ q : Fin 4096, f ⟨6144 + q.val, by omega⟩ = g ⟨6160 + q.val, by omega⟩)
    (h3 : ∀ q : Fin 16, f ⟨10240 + q.val, by omega⟩ = g ⟨6144 + q.val, by omega⟩)
    (h4 : ∀ q : Fin 112, f ⟨10256 + q.val, by omega⟩ = 0) : ∑ q, f q = ∑ q, g q := by
  have e1 : ∑ q, f q = ((∑ q : Fin 6144, f ⟨q.val, by omega⟩ + ∑ q : Fin 4096, f ⟨6144 + q.val, by omega⟩)
      + ∑ q : Fin 16, f ⟨10240 + q.val, by omega⟩) + ∑ q : Fin 112, f ⟨10256 + q.val, by omega⟩ :=
    (Fin.sum_univ_add (a := 10256) (b := 112) f).trans (congrArg (fun p : EReal => p + _)
      ((Fin.sum_univ_add (a := 10240) (b := 16) fun i => f (Fin.castAdd 112 i)).trans (congrArg (fun p : EReal => p + _)
        (Fin.sum_univ_add (a := 6144) (b := 4096) fun i => f (Fin.castAdd 112 (Fin.castAdd 16 i))))))
  have e2 : ∑ q, g q = (∑ q : Fin 6144, g ⟨q.val, by omega⟩ + ∑ q : Fin 16, g ⟨6144 + q.val, by omega⟩)
      + ∑ q : Fin 4096, g ⟨6160 + q.val, by omega⟩ :=
    (Fin.sum_univ_add (a := 6160) (b := 4096) g).trans (congrArg (fun p : EReal => p + _)
      (Fin.sum_univ_add (a := 6144) (b := 16) fun i => g (Fin.castAdd 4096 i)))
  rw [e1, e2, Finset.sum_congr rfl fun q _ => h1 q, Finset.sum_congr rfl fun q _ => h2 q, Finset.sum_congr rfl fun q _ => h3 q,
    Finset.sum_eq_zero fun q _ => h4 q, add_zero, add_right_comm]
/-- The product in the kernel's layout is the problem's. -/
theorem piece_du (w : FVec Ideal S2048x10256 .f32) (u : FVec Ideal S4096x10256 .f32) (r : Fin 4096) (k : Fin 2048) :
    ∑ q, piece (layw w) (layd u) r k q = du w u r k :=
  sum_cols _ _ (fun q => congrArg₂ (fun p q : EReal => p * q) (layd_1 u q r) (layw_1 w q k))
    (fun q => congrArg₂ (fun p q : EReal => p * q) (layd_2 u q r) (layw_2 w q k))
    (fun q => congrArg₂ (fun p q : EReal => p * q) (layd_3 u q r) (layw_3 w q k))
    (fun q => (congrArg (fun p : EReal => _ * p) (layw_4 w q k)).trans (mul_zero _))

/-- Where each window's block of a point lies. -/
theorem idx : ∀ t : Fin cfg0.N, win0_0.index t = ![t.val, 2] ∧ win0_1.index t = ![2, 0] ∧ win0_2.index t = ![t.val, 0] ∧ win0_3.index t = ![t.val, 0]
    ∧ win0_4.index t = ![t.val, 0] ∧ win0_5.index t = ![0, 0] ∧ win0_6.index t = ![t.val, 0] ∧ win0_7.index t = ![0, 0] ∧ win0_8.index t = ![0, 0] :=
  (by decide +kernel : ∀ t : Fin grid0.N, _)

theorem blk_0 (t : Fin cfg0.N) (r : Fin 256) (l : Fin 3456) (R : Fin 4096) (hR : R.val = t.val * 256 + r.val) :
    (iblk m c 0 t : Vec Ideal S256x3456 .bf16) (ix2 r l) = layd (m ((c : Thread nD τ).loc main_arg3)) (ix2 R ⟨6912 + l.val, by omega⟩) := by
  refine Eq.trans ?_ (congrFun (V_v14 m c) (ix2 R ⟨6912 + l.val, by omega⟩))
  refine congrArg (V m c main_v14 : FVec Ideal S4096x10368 .bf16) (funext fun d => Fin.ext ?_)
  fin_cases d <;> blk_simp [idx t] <;> simp [ix2] <;> omega
theorem blk_1 (t : Fin cfg0.N) (l : Fin 3456) (k : Fin 2048) :
    (iblk m c 1 t : Vec Ideal S3456x2048 .bf16) (ix2 l k) = layw (m ((c : Thread nD τ).loc main_arg2)) (ix2 ⟨6912 + l.val, by omega⟩ k) := by
  refine Eq.trans ?_ (congrFun (V_v8 m c) (ix2 ⟨6912 + l.val, by omega⟩ k))
  refine congrArg (V m c main_v8 : FVec Ideal S10368x2048 .bf16) (funext fun d => Fin.ext ?_)
  fin_cases d <;> blk_simp [idx t] <;> simp [ix2] <;> omega
theorem blk_2 (t : Fin cfg0.N) (r : Fin 256) (k : Fin 2048) (R : Fin 4096) (hR : R.val = t.val * 256 + r.val) :
    (iblk m c 2 t : Vec Ideal S256x2048 .f32) (ix2 r k) = ∑ q : Fin 6912, piece (layw (m ((c : Thread nD τ).loc main_arg2))) (layd (m ((c : Thread nD τ).loc main_arg3))) R k ⟨q.val, by omega⟩ := by
  refine Eq.trans ?_ ((congrFun (V_v17 m c) (ix2 R k)).trans (first_at _ _ _ _))
  refine congrArg (V m c main_v17 : FVec Ideal S4096x2048 .f32) (funext fun d => Fin.ext ?_)
  fin_cases d <;> blk_simp [idx t] <;> simp [ix2] <;> omega
theorem blk_3 (t : Fin cfg0.N) (r : Fin 256) (k : Fin 2048) (R : Fin 4096) (hR : R.val = t.val * 256 + r.val) :
    (iblk m c 3 t : Vec Ideal S256x2048 .f32) (ix2 r k) = ((m ((c : Thread nD τ).loc main_arg4)) : FVec Ideal S4096x2048 .f32) (ix2 R k) := by
  refine congrArg (m ((c : Thread nD τ).loc main_arg4) : FVec Ideal S4096x2048 .f32) (funext fun d => Fin.ext ?_)
  fin_cases d <;> blk_simp [idx t] <;> simp [ix2] <;> omega
theorem blk_4 (t : Fin cfg0.N) (r : Fin 256) (k : Fin 2048) (R : Fin 4096) (hR : R.val = t.val * 256 + r.val) :
    (iblk m c 4 t : Vec Ideal S256x2048 .f32) (ix2 r k) = ((m ((c : Thread nD τ).loc main_arg0)) : FVec Ideal S4096x2048 .f32) (ix2 R k) := by
  refine congrArg (m ((c : Thread nD τ).loc main_arg0) : FVec Ideal S4096x2048 .f32) (funext fun d => Fin.ext ?_)
  fin_cases d <;> blk_simp [idx t] <;> simp [ix2] <;> omega
theorem blk_5 (t : Fin cfg0.N) (k : Fin 2048) :
    (iblk m c 5 t : Vec Ideal S1x2048 .f32) (ix2 0 k) = ((m ((c : Thread nD τ).loc main_arg1)) : FVec Ideal S1x2048 .f32) (ix2 0 k) := by
  refine congrArg (m ((c : Thread nD τ).loc main_arg1) : FVec Ideal S1x2048 .f32) (funext fun d => Fin.ext ?_)
  fin_cases d <;> blk_simp [idx t] <;> simp [ix2]

/-- A block's product is the whole product's block. -/
theorem dub_blk (t : Fin cfg0.N) (r : Fin 256) (k : Fin 2048) (R : Fin 4096) (hR : R.val = t.val * 256 + r.val) :
    dub (iblk m c 0 t) (iblk m c 1 t) (iblk m c 2 t) r k = du (m ((c : Thread nD τ).loc main_arg2)) (m ((c : Thread nD τ).loc main_arg3)) R k := by
  refine Eq.trans ?_ (piece_du _ _ R k)
  refine Eq.trans ?_ (Fin.sum_univ_add (a := 6912) (b := 3456) (piece (layw (m ((c : Thread nD τ).loc main_arg2))) (layd (m ((c : Thread nD τ).loc main_arg3))) R k)).symm
  refine Eq.trans ?_ (add_comm _ _)
  exact congrArg₂ (fun p q : EReal => p + q) (Finset.sum_congr rfl fun l _ =>
    congrArg₂ (fun p q : EReal => p * q) (blk_0 m c t r l R hR) (blk_1 m c t l k)) (blk_2 m c t r k R hR)

/-- The input's gradient. -/
theorem final_6 : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ x => ?_
  have key : ∀ (i : S4096x2048.Idx), (i 0).val = t.val * 256 + (x 0).val → (i 1).val = (x 1).val →
      k0_pay5 (iblk m c 0 t) (iblk m c 1 t) (iblk m c 2 t) (iblk m c 3 t) (iblk m c 5 t) x = G6 (m ((c : Thread nD τ).loc main_arg0)) (m ((c : Thread nD τ).loc main_arg1)) (m ((c : Thread nD τ).loc main_arg2)) (m ((c : Thread nD τ).loc main_arg3)) (m ((c : Thread nD τ).loc main_arg4)) i := fun i h0 h1 => by
    rw [eq_ix2 x, eq_ix2 i, show i 1 = x 1 from Fin.ext h1]
    exact (pay5_at _ _ _ _ _ _ _).trans (congrArg₂ (fun p q : EReal => p + q) (congrArg (fun p : EReal => Ideal.ofBits .f32 0x3F9837F0#32 * p) (blk_3 m c t _ _ _ h0))
      (congrArg₂ (fun p q : EReal => p * (1 + q)) (dub_blk m c t _ _ _ h0) (blk_5 m c t _)))
  blk_simp
  rw [after0_6]
  by_cases h0 : t.val % 16 = 0
  · rw [outsAt0_A m c t h0]
    frame_out
    exact key _ (by blk_simp [idx t]) (by blk_simp [idx t])
  · rw [outsAt0_B m c t h0]
    frame_out
    exact key _ (by blk_simp [idx t]) (by blk_simp [idx t])

theorem row_0 (j : S1x2048.Idx) : ∃ k : Fin 2048, j = ix2 0 k :=
  ⟨j 1, (eq_ix2 j).trans (congrArg (ix2 · (j 1)) (Subsingleton.elim _ _))⟩

/-- What a point adds to the gradients of the modulation. -/
def term7 (t : Fin cfg0.N) (x : S1x2048.Idx) : EReal :=
  ∑ r : Fin 256, dub (iblk m c 0 t) (iblk m c 1 t) (iblk m c 2 t) r (x 1) * (iblk m c 4 t : Vec Ideal S256x2048 .f32) (ix2 r (x 1))
def term8 (t : Fin cfg0.N) (x : S1x2048.Idx) : EReal :=
  ∑ r : Fin 256, dub (iblk m c 0 t) (iblk m c 1 t) (iblk m c 2 t) r (x 1)

/-- The gradient of the modulation's scale. -/
theorem final_7 : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf x => ?_
  have ht : t.val < 16 := t.isLt
  blk_simp
  rw [after0_7, Pipeline.eq_sum_fin_of_reset_step_apply_of_flush (fun n h => (outsAt0 m c n h).2.1) 16 (fun _ => 0)
      (term7 m c)
      (fun t h j => by rw [outsAt0_A m c t h]; frame_out; obtain ⟨k, rfl⟩ := row_0 j; rw [pay6_at, pay3_at]; rfl)
      (fun t h j => by rw [outsAt0_B m c t h]; frame_out; obtain ⟨k, rfl⟩ := row_0 j; rw [pay6_at]; rfl) t ((flush0_7 t).mp hf) _, zero_add]
  refine Fin.sum_mul_add_congr fun s k hl => congrArg₂ (fun p q : EReal => p * q) ((dub_blk m c _ _ _ ⟨_, hl⟩ ?_).trans ?_) ((blk_4 m c _ _ _ ⟨_, hl⟩ ?_).trans ?_)
  · simp; omega
  · exact congrArg (du _ _ _) (Fin.ext (by blk_simp [idx t]))
  · simp; omega
  · exact congrArg (m ((c : Thread nD τ).loc main_arg0) : FVec Ideal S4096x2048 .f32) (congrArg (ix2 _) (Fin.ext (by blk_simp [idx t])))

/-- The gradient of the modulation's shift. -/
theorem final_8 : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf x => ?_
  have ht : t.val < 16 := t.isLt
  blk_simp
  rw [after0_8, Pipeline.eq_sum_fin_of_reset_step_apply_of_flush (fun n h => (outsAt0 m c n h).2.2) 16 (fun _ => 0)
      (term8 m c)
      (fun t h j => by rw [outsAt0_A m c t h]; frame_out; obtain ⟨k, rfl⟩ := row_0 j; rw [pay1_at, pay4_at]; rfl)
      (fun t h j => by rw [outsAt0_B m c t h]; frame_out; obtain ⟨k, rfl⟩ := row_0 j; rw [pay1_at]; rfl) t ((flush0_8 t).mp hf) _, zero_add]
  refine Fin.sum_mul_add_congr fun s k hl => (dub_blk m c _ _ _ ⟨_, hl⟩ ?_).trans ?_
  · simp; omega
  · exact congrArg (du _ _ _) (Fin.ext (by blk_simp [idx t]))

end Cert.MixGrad

namespace Cert.MixGrad

open Cert.Reference25Ideal Cert.Reference25Ideal.Gen Cert.Reference25Ideal.Read

variable (h : FVec Ideal S4096x2048 .f32) (sc : FVec Ideal S1x2048 .f32) (w : FVec Ideal S2048x10256 .f32) (dp : FVec Ideal S4096x10256 .f32) (z : FVec Ideal S4096x2048 .f32)

theorem r10 (r : Fin 4096) (k : Fin 2048) : val_main_v10 (F := Ideal) w dp (ix2 r k) = du w dp r k := by
  pointwise [val_main_v10, du]

/-- The reference's arrays are the kernel's. -/
theorem ref_6 : val_main_v20 (F := Ideal) sc w dp z = G6 h sc w dp z := by
  funext j
  obtain ⟨r, k, rfl⟩ : ∃ (r : Fin 4096) (k : Fin 2048), j = ix2 r k := ⟨j 0, j 1, eq_ix2 j⟩
  pointwise [val_main_v20, val_main_v19, val_main_v18, val_main_v2, val_main_v1, val_main_cst_0, val_main_v12, val_main_v11, val_main_cst_2, r10, G6]
theorem ref_7 : val_main_v17 (F := Ideal) h w dp = G7 h sc w dp z := by
  funext j
  obtain ⟨k, rfl⟩ : ∃ k : Fin 2048, j = ix2 0 k := ⟨j 1, (eq_ix2 j).trans (congrArg (ix2 · (j 1)) (Subsingleton.elim _ _))⟩
  have e : val_main_v17 (F := Ideal) h w dp (ix2 0 k) = ∑ r : Fin 4096, h (ix2 r k) * du w dp r k := by
    pointwise [val_main_v17, val_main_v16, val_main_cst_4, val_main_v15, r10]
  rw [e]
  exact Finset.sum_congr rfl fun r _ => mul_comm _ _
theorem ref_8 : val_main_v14 (F := Ideal) w dp = G8 h sc w dp z := by
  funext j
  obtain ⟨k, rfl⟩ : ∃ k : Fin 2048, j = ix2 0 k := ⟨j 1, (eq_ix2 j).trans (congrArg (ix2 · (j 1)) (Subsingleton.elim _ _))⟩
  pointwise [val_main_v14, val_main_v13, val_main_cst_3, r10, G8]

end Cert.MixGrad

namespace Cert.MixGrad

/-- The kernel's frames and the reference's. -/
theorem frame_P : Cert.quiescent_Kernel25 := fun m ρ _ => Cert.Kernel25.Gen.frame m ρ
theorem frame_PI : Cert.quiescent_Kernel25Ideal := fun m ρ _ => Cert.Kernel25Ideal.Gen.frame m ρ
theorem frame_RI : Cert.quiescent_Reference25Ideal := fun m ρ _ =>
  (θ_run Cert.Reference25Ideal.defs _ _).mono
    (fun r h => ⟨fun c => (h c).2.2.2, sem_eq_zero_of_no_sems (by decide) r.2⟩)
    (Cert.Reference25Ideal.Value.run (F := Ideal) m ρ)

set_option maxHeartbeats 1600000 in
/-- The kernel and the reference compute one function of the arguments. -/
theorem algebraic : Cert.algebraic_Kernel25Ideal_Reference25Ideal := by
  intro m ρ m' ρ' _ hagree
  refine ⟨fun c => (Cert.Kernel25Ideal.Gen.dats m 0 c).arrAt 6 Cert.Kernel25Ideal.cfg0.N, fun c => (Cert.Kernel25Ideal.Gen.dats m 0 c).arrAt 7 Cert.Kernel25Ideal.cfg0.N, fun c => (Cert.Kernel25Ideal.Gen.dats m 0 c).arrAt 8 Cert.Kernel25Ideal.cfg0.N, Cert.Kernel25Ideal.Value.run_blocks m ρ, θ_run_mono (Cert.Reference25Ideal.Value.run (F := Ideal) m' ρ') fun r h c => ?_⟩
  obtain ⟨h0, h1, h2, h3, h4⟩ := hagree c
  refine ⟨(h c).1.trans ((Cert.Reference25Ideal.Read.val_main_v20_eq (F := Ideal) _ _ _ _).trans ?_), (h c).2.1.trans ((Cert.Reference25Ideal.Read.val_main_v17_eq (F := Ideal) _ _ _).trans ?_), (h c).2.2.1.trans ((Cert.Reference25Ideal.Read.val_main_v14_eq (F := Ideal) _ _).trans ?_), (h c).2.2.2⟩
  · rw [h1, h2, h3, h4]; exact (ref_6 _ _ _ _ _).trans (final_6 m c).symm
  · rw [h0, h2, h3]; exact (ref_7 _ _ _ _ _).trans (final_7 m c).symm
  · rw [h2, h3]; exact (ref_8 _ _ _ _ _).trans (final_8 m c).symm

end Cert.MixGrad

end
-- ==== Proof.MixGradA.lean ====
/-
  The gradient of the mixing part's input, the first of three calls of `row_input_grad`: the product of the first third of
  the columns' gradient with its weights.
-/
module

public import proofs.«01_k».proof.Defs
public import proofs.«01_k».proof.Proof.Logistic
public import proofs.«01_k».proof.Proof.Gen.Kernel26.Frame
public import proofs.«01_k».proof.Proof.Gen.Kernel26Ideal.Value
public import proofs.«01_k».proof.Proof.Gen.Reference26Ideal.Run
public import proofs.«01_k».proof.Proof.Gen.Reference26Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixGradA

open Cert.Kernel26Ideal Cert.Kernel26Ideal.Gen

/-- The product of the first third's gradient with its weights. -/
def G (w : FVec Ideal S2048x10256 .f32) (dp : FVec Ideal S4096x10256 .f32) : FVec Ideal S4096x2048 .f32 :=
  fun i => ∑ l : Fin 3456, dp (ix2 (i 0) ⟨l.val, by omega⟩) * w (ix2 (i 1) ⟨l.val, by omega⟩)

theorem pay1_at (b0 : Vec Ideal S256x3456 .bf16) (b1 : Vec Ideal S3456x2048 .bf16) (r : Fin 256) (k : Fin 2048) :
    k0_pay1 b0 b1 (ix2 r k) = ∑ l : Fin 3456, b0 (ix2 r l) * b1 (ix2 l k) := by
  pointwise [k0_pay1]

variable (m : (ℓ : Loc nD τ sig) → Buf (Elt Ideal) ℓ) (c : Dev nD)

/-- The weights' columns as rows. -/
def rows (w : FVec Ideal S2048x10256 .f32) : FVec Ideal S10256x2048 .bf16 :=
  shapeCast S10256x2048 (shapeCast S8x1282x2048 (transpose S10256x2048 [1, 0] (truncf .bf16 w bitsLt_bf16_f32) transposes_S2048x10256_S10256x2048_1_0)
    shapeCasts_S10256x2048_S8x1282x2048) shapeCasts_S8x1282x2048_S10256x2048
theorem rows_at (w : FVec Ideal S2048x10256 .f32) (a : Fin 10256) (k : Fin 2048) : rows w (ix2 a k) = w (ix2 k a) := by
  unfold rows
  rw [shapeCast_shapeCast]
  pointwise []

/-- The kernel's layouts of the weights and of the columns' gradient: the gates before the decays, and zeros last. -/
def layw (w : FVec Ideal S2048x10256 .f32) : FVec Ideal S10368x2048 .bf16 :=
  concatenate S10368x2048 0 [⟨S6144x2048, extractStridedSlice S6144x2048 ![0, 0] (rows w) slices_S10256x2048_S6144x2048_0_0⟩,
    ⟨S4096x2048, extractStridedSlice S4096x2048 ![6160, 0] (rows w) slices_S10256x2048_S4096x2048_6160_0⟩,
    ⟨S16x2048, extractStridedSlice S16x2048 ![6144, 0] (rows w) slices_S10256x2048_S16x2048_6144_0⟩,
    ⟨S112x2048, broadcastInDim S112x2048 ![] bcast_S_S112x2048 (constant S_ .bf16 0x0000#16)⟩]
    concatenates_S6144x2048_S4096x2048_S16x2048_S112x2048_S10368x2048_d0
def layd (u : FVec Ideal S4096x10256 .f32) : FVec Ideal S4096x10368 .bf16 :=
  truncf .bf16 (concatenate S4096x10368 1 [⟨S4096x6144, extractStridedSlice S4096x6144 ![0, 0] u slices_S4096x10256_S4096x6144_0_0⟩,
    ⟨S4096x4096, extractStridedSlice S4096x4096 ![0, 6160] u slices_S4096x10256_S4096x4096_0_6160⟩,
    ⟨S4096x16, extractStridedSlice S4096x16 ![0, 6144] u slices_S4096x10256_S4096x16_0_6144⟩,
    ⟨S4096x112, broadcastInDim S4096x112 ![] bcast_S_S4096x112 (constant S_ .f32 0x00000000#32)⟩]
    concatenates_S4096x6144_S4096x4096_S4096x16_S4096x112_S4096x10368_d1) bitsLt_bf16_f32
theorem V_v8 : (V m c main_v8 : FVec Ideal S10368x2048 .bf16) = layw (m ((c : Thread nD τ).loc main_arg0)) := (rfl)
theorem V_v14 : (V m c main_v14 : FVec Ideal S4096x10368 .bf16) = layd (m ((c : Thread nD τ).loc main_arg1)) := (rfl)

theorem layw_1 (w : FVec Ideal S2048x10256 .f32) (q : Fin 6144) (k : Fin 2048) :
    layw w (ix2 ⟨q.val, by omega⟩ k) = w (ix2 k ⟨q.val, by omega⟩) := by
  refine Eq.trans ?_ (rows_at w ⟨q.val, by omega⟩ k)
  unfold layw
  generalize rows w = u
  pointwise []
theorem layd_1 (u : FVec Ideal S4096x10256 .f32) (q : Fin 6144) (r : Fin 4096) :
    layd u (ix2 r ⟨q.val, by omega⟩) = u (ix2 r ⟨q.val, by omega⟩) := by
  unfold layd
  pointwise []

/-- Where each window's block of a point lies. -/
theorem idx : ∀ t : Fin cfg0.N, win0_0.index t = ![t.val, 0] ∧ win0_1.index t = ![0, 0] ∧ win0_2.index t = ![t.val, 0] :=
  (by decide +kernel : ∀ t : Fin grid0.N, _)

theorem blk_0 (t : Fin cfg0.N) (r : Fin 256) (l : Fin 3456) (R : Fin 4096) (hR : R.val = t.val * 256 + r.val) :
    (iblk m c 0 t : Vec Ideal S256x3456 .bf16) (ix2 r l) = layd (m ((c : Thread nD τ).loc main_arg1)) (ix2 R ⟨l.val, by omega⟩) := by
  refine Eq.trans ?_ (congrFun (V_v14 m c) (ix2 R ⟨l.val, by omega⟩))
  refine congrArg (V m c main_v14 : FVec Ideal S4096x10368 .bf16) (funext fun d => Fin.ext ?_)
  fin_cases d <;> blk_simp [idx t] <;> simp [ix2] <;> omega
theorem blk_1 (t : Fin cfg0.N) (l : Fin 3456) (k : Fin 2048) :
    (iblk m c 1 t : Vec Ideal S3456x2048 .bf16) (ix2 l k) = layw (m ((c : Thread nD τ).loc main_arg0)) (ix2 ⟨l.val, by omega⟩ k) := by
  refine Eq.trans ?_ (congrFun (V_v8 m c) (ix2 ⟨l.val, by omega⟩ k))
  refine congrArg (V m c main_v8 : FVec Ideal S10368x2048 .bf16) (funext fun d => Fin.ext ?_)
  fin_cases d <;> blk_simp [idx t] <;> simp [ix2] <;> omega

/-- The kernel's result. -/
theorem final_2 : (dats m 0 c).arrAt 2 cfg0.N = G (m ((c : Thread nD τ).loc main_arg0)) (m ((c : Thread nD τ).loc main_arg1)) := by
  refine (dats m 0 c).arrAt_eq_of_covers 2 _ (by decide +kernel) fun t _ x => ?_
  have key : ∀ (i : S4096x2048.Idx), (i 0).val = t.val * 256 + (x 0).val → (i 1).val = (x 1).val →
      k0_pay1 (iblk m c 0 t) (iblk m c 1 t) x = G (m ((c : Thread nD τ).loc main_arg0)) (m ((c : Thread nD τ).loc main_arg1)) i := fun i h0 h1 => by
    rw [eq_ix2 x, eq_ix2 i, show i 1 = x 1 from Fin.ext h1]
    exact (pay1_at _ _ _ _).trans (Finset.sum_congr rfl fun l _ => congrArg₂ (fun p q : EReal => p * q)
      ((blk_0 m c t _ l _ h0).trans (layd_1 _ ⟨l.val, by omega⟩ _)) ((blk_1 m c t l _).trans (layw_1 _ ⟨l.val, by omega⟩ _)))
  blk_simp
  rw [after0_2]
  frame_out
  exact key _ (by blk_simp [idx t]) (by blk_simp [idx t])

end Cert.MixGradA

namespace Cert.MixGradA

open Cert.Reference26Ideal Cert.Reference26Ideal.Gen Cert.Reference26Ideal.Read

/-- The reference's array is the kernel's. -/
theorem ref_v4 (w : FVec Ideal S2048x10256 .f32) (dp : FVec Ideal S4096x10256 .f32) : val_main_v4 (F := Ideal) w dp = G w dp := by
  funext j
  rw [eq_ix2 j]
  pointwise [val_main_v4, val_main_v3, val_main_v1, G]

end Cert.MixGradA

namespace Cert.MixGradA

/-- The kernel's frames and the reference's. -/
theorem frame_P : Cert.quiescent_Kernel26 := fun m ρ _ => Cert.Kernel26.Gen.frame m ρ
theorem frame_PI : Cert.quiescent_Kernel26Ideal := fun m ρ _ => Cert.Kernel26Ideal.Gen.frame m ρ
theorem frame_RI : Cert.quiescent_Reference26Ideal := fun m ρ _ =>
  (θ_run Cert.Reference26Ideal.defs _ _).mono
    (fun r h => ⟨fun c => (h c).2, sem_eq_zero_of_no_sems (by decide) r.2⟩)
    (Cert.Reference26Ideal.Value.run (F := Ideal) m ρ)

set_option maxHeartbeats 1600000 in
/-- The kernel and the reference compute one function of the arguments. -/
theorem algebraic : Cert.algebraic_Kernel26Ideal_Reference26Ideal := by
  intro m ρ m' ρ' _ hagree
  refine ⟨fun c => (Cert.Kernel26Ideal.Gen.dats m 0 c).arrAt 2 Cert.Kernel26Ideal.cfg0.N, Cert.Kernel26Ideal.Value.run_blocks m ρ, θ_run_mono (Cert.Reference26Ideal.Value.run (F := Ideal) m' ρ') fun r h c => ?_⟩
  obtain ⟨h0, h1⟩ := hagree c
  refine ⟨(h c).1.trans ((Cert.Reference26Ideal.Read.val_main_v4_eq (F := Ideal) _ _).trans ?_), (h c).2⟩
  · rw [h0, h1]; exact (ref_v4 _ _).trans (final_2 m c).symm

end Cert.MixGradA

end
-- ==== Proof.MixGradB.lean ====
/-
  The gradient of the mixing part's input, the second of three calls of `row_input_grad`: the first call's product and the
  product of the second third of the columns' gradient, in the kernel's order, with its weights.
-/
module

public import proofs.«01_k».proof.Defs
public import proofs.«01_k».proof.Proof.Logistic
public import proofs.«01_k».proof.Proof.Gen.Kernel27.Frame
public import proofs.«01_k».proof.Proof.Gen.Kernel27Ideal.Value
public import proofs.«01_k».proof.Proof.Gen.Reference27Ideal.Run
public import proofs.«01_k».proof.Proof.Gen.Reference27Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixGradB

open Cert.Kernel27Ideal Cert.Kernel27Ideal.Gen

/-- The part before, and the product of the second third's gradient with its weights, in two pieces. -/
def G (w : FVec Ideal S2048x10256 .f32) (dp : FVec Ideal S4096x10256 .f32) (u : FVec Ideal S4096x2048 .f32) : FVec Ideal S4096x2048 .f32 :=
  fun i => u i + (∑ l : Fin 2688, dp (ix2 (i 0) ⟨3456 + l.val, by omega⟩) * w (ix2 (i 1) ⟨3456 + l.val, by omega⟩)
    + ∑ l : Fin 768, dp (ix2 (i 0) ⟨6160 + l.val, by omega⟩) * w (ix2 (i 1) ⟨6160 + l.val, by omega⟩))

theorem pay1_at (b0 : Vec Ideal S256x3456 .bf16) (b1 : Vec Ideal S3456x2048 .bf16) (b2 : Vec Ideal S256x2048 .f32) (r : Fin 256) (k : Fin 2048) :
    k0_pay1 b0 b1 b2 (ix2 r k) = ∑ l : Fin 3456, b0 (ix2 r l) * b1 (ix2 l k) + b2 (ix2 r k) := by
  pointwise [k0_pay1]

variable (m : (ℓ : Loc nD τ sig) → Buf (Elt Ideal) ℓ) (c : Dev nD)

/-- The weights' columns as rows. -/
def rows (w : FVec Ideal S2048x10256 .f32) : FVec Ideal S10256x2048 .bf16 :=
  shapeCast S10256x2048 (shapeCast S8x1282x2048 (transpose S10256x2048 [1, 0] (truncf .bf16 w bitsLt_bf16_f32) transposes_S2048x10256_S10256x2048_1_0)
    shapeCasts_S10256x2048_S8x1282x2048) shapeCasts_S8x1282x2048_S10256x2048
theorem rows_at (w : FVec Ideal S2048x10256 .f32) (a : Fin 10256) (k : Fin 2048) : rows w (ix2 a k) = w (ix2 k a) := by
  unfold rows
  rw [shapeCast_shapeCast]
  pointwise []

/-- The kernel's layouts of the weights and of the columns' gradient: the gates before the decays, and zeros last. -/
def layw (w : FVec Ideal S2048x10256 .f32) : FVec Ideal S10368x2048 .bf16 :=
  concatenate S10368x2048 0 [⟨S6144x2048, extractStridedSlice S6144x2048 ![0, 0] (rows w) slices_S10256x2048_S6144x2048_0_0⟩,
    ⟨S4096x2048, extractStridedSlice S4096x2048 ![6160, 0] (rows w) slices_S10256x2048_S4096x2048_6160_0⟩,
    ⟨S16x2048, extractStridedSlice S16x2048 ![6144, 0] (rows w) slices_S10256x2048_S16x2048_6144_0⟩,
    ⟨S112x2048, broadcastInDim S112x2048 ![] bcast_S_S112x2048 (constant S_ .bf16 0x0000#16)⟩]
    concatenates_S6144x2048_S4096x2048_S16x2048_S112x2048_S10368x2048_d0
def layd (u : FVec Ideal S4096x10256 .f32) : FVec Ideal S4096x10368 .bf16 :=
  truncf .bf16 (concatenate S4096x10368 1 [⟨S4096x6144, extractStridedSlice S4096x6144 ![0, 0] u slices_S4096x10256_S4096x6144_0_0⟩,
    ⟨S4096x4096, extractStridedSlice S4096x4096 ![0, 6160] u slices_S4096x10256_S4096x4096_0_6160⟩,
    ⟨S4096x16, extractStridedSlice S4096x16 ![0, 6144] u slices_S4096x10256_S4096x16_0_6144⟩,
    ⟨S4096x112, broadcastInDim S4096x112 ![] bcast_S_S4096x112 (constant S_ .f32 0x00000000#32)⟩]
    concatenates_S4096x6144_S4096x4096_S4096x16_S4096x112_S4096x10368_d1) bitsLt_bf16_f32
theorem V_v8 : (V m c main_v8 : FVec Ideal S10368x2048 .bf16) = layw (m ((c : Thread nD τ).loc main_arg0)) := (rfl)
theorem V_v14 : (V m c main_v14 : FVec Ideal S4096x10368 .bf16) = layd (m ((c : Thread nD τ).loc main_arg1)) := (rfl)

theorem layw_1 (w : FVec Ideal S2048x10256 .f32) (q : Fin 6144) (k : Fin 2048) :
    layw w (ix2 ⟨q.val, by omega⟩ k) = w (ix2 k ⟨q.val, by omega⟩) := by
  refine Eq.trans ?_ (rows_at w ⟨q.val, by omega⟩ k)
  unfold layw
  generalize rows w = u
  pointwise []
theorem layw_2 (w : FVec Ideal S2048x10256 .f32) (q : Fin 4096) (k : Fin 2048) :
    layw w (ix2 ⟨6144 + q.val, by omega⟩ k) = w (ix2 k ⟨6160 + q.val, by omega⟩) := by
  refine Eq.trans ?_ (rows_at w ⟨6160 + q.val, by omega⟩ k)
  unfold layw
  generalize rows w = u
  pointwise []
theorem layd_1 (u : FVec Ideal S4096x10256 .f32) (q : Fin 6144) (r : Fin 4096) :
    layd u (ix2 r ⟨q.val, by omega⟩) = u (ix2 r ⟨q.val, by omega⟩) := by
  unfold layd
  pointwise []
theorem layd_2 (u : FVec Ideal S4096x10256 .f32) (q : Fin 4096) (r : Fin 4096) :
    layd u (ix2 r ⟨6144 + q.val, by omega⟩) = u (ix2 r ⟨6160 + q.val, by omega⟩) := by
  unfold layd
  pointwise []

/-- Where each window's block of a point lies. -/
theorem idx : ∀ t : Fin cfg0.N, win0_0.index t = ![t.val, 1] ∧ win0_1.index t = ![1, 0] ∧ win0_2.index t = ![t.val, 0] ∧ win0_3.index t = ![t.val, 0] :=
  (by decide +kernel : ∀ t : Fin grid0.N, _)

theorem blk_0 (t : Fin cfg0.N) (r : Fin 256) (l : Fin 3456) (R : Fin 4096) (hR : R.val = t.val * 256 + r.val) :
    (iblk m c 0 t : Vec Ideal S256x3456 .bf16) (ix2 r l) = layd (m ((c : Thread nD τ).loc main_arg1)) (ix2 R ⟨3456 + l.val, by omega⟩) := by
  refine Eq.trans ?_ (congrFun (V_v14 m c) (ix2 R ⟨3456 + l.val, by omega⟩))
  refine congrArg (V m c main_v14 : FVec Ideal S4096x10368 .bf16) (funext fun d => Fin.ext ?_)
  fin_cases d <;> blk_simp [idx t] <;> simp [ix2] <;> omega
theorem blk_1 (t : Fin cfg0.N) (l : Fin 3456) (k : Fin 2048) :
    (iblk m c 1 t : Vec Ideal S3456x2048 .bf16) (ix2 l k) = layw (m ((c : Thread nD τ).loc main_arg0)) (ix2 ⟨3456 + l.val, by omega⟩ k) := by
  refine Eq.trans ?_ (congrFun (V_v8 m c) (ix2 ⟨3456 + l.val, by omega⟩ k))
  refine congrArg (V m c main_v8 : FVec Ideal S10368x2048 .bf16) (funext fun d => Fin.ext ?_)
  fin_cases d <;> blk_simp [idx t] <;> simp [ix2] <;> omega
theorem blk_2 (t : Fin cfg0.N) (r : Fin 256) (k : Fin 2048) (R : Fin 4096) (hR : R.val = t.val * 256 + r.val) :
    (iblk m c 2 t : Vec Ideal S256x2048 .f32) (ix2 r k) = ((m ((c : Thread nD τ).loc main_arg2)) : FVec Ideal S4096x2048 .f32) (ix2 R k) := by
  refine congrArg (m ((c : Thread nD τ).loc main_arg2) : FVec Ideal S4096x2048 .f32) (funext fun d => Fin.ext ?_)
  fin_cases d <;> blk_simp [idx t] <;> simp [ix2] <;> omega

/-- The second third in two pieces: up to the decays' columns, and after them. -/
theorem third (w : FVec Ideal S2048x10256 .f32) (dp : FVec Ideal S4096x10256 .f32) (r : Fin 4096) (k : Fin 2048) :
    (∑ l : Fin 3456, layd dp (ix2 r ⟨3456 + l.val, by omega⟩) * layw w (ix2 ⟨3456 + l.val, by omega⟩ k) : EReal)
      = ∑ l : Fin 2688, dp (ix2 r ⟨3456 + l.val, by omega⟩) * w (ix2 k ⟨3456 + l.val, by omega⟩)
        + ∑ l : Fin 768, dp (ix2 r ⟨6160 + l.val, by omega⟩) * w (ix2 k ⟨6160 + l.val, by omega⟩) := by
  refine (Fin.sum_univ_add (a := 2688) (b := 768) fun l : Fin 3456 =>
    (layd dp (ix2 r ⟨3456 + l.val, by omega⟩) * layw w (ix2 ⟨3456 + l.val, by omega⟩ k) : EReal)).trans ?_
  refine congrArg₂ (fun p q : EReal => p + q) (Finset.sum_congr rfl fun l _ => ?_) (Finset.sum_congr rfl fun l _ => ?_)
  · exact congrArg₂ (fun p q : EReal => p * q) (layd_1 dp ⟨3456 + l.val, by omega⟩ r) (layw_1 w ⟨3456 + l.val, by omega⟩ k)
  · have e : ∀ h : 3456 + (2688 + l.val) < 10368, (⟨3456 + (2688 + l.val), h⟩ : Fin 10368) = ⟨6144 + l.val, by omega⟩ := fun h => Fin.ext (by simp; omega)
    refine congrArg₂ (fun p q : EReal => p * q) ?_ ?_
    · exact (congrArg (fun q => layd dp (ix2 r q)) (e (by omega))).trans (layd_2 dp ⟨l.val, by omega⟩ r)
    · exact (congrArg (fun q => layw w (ix2 q k)) (e (by omega))).trans (layw_2 w ⟨l.val, by omega⟩ k)

/-- The kernel's result. -/
theorem final_3 : (dats m 0 c).arrAt 3 cfg0.N = G (m ((c : Thread nD τ).loc main_arg0)) (m ((c : Thread nD τ).loc main_arg1)) (m ((c : Thread nD τ).loc main_arg2)) := by
  refine (dats m 0 c).arrAt_eq_of_covers 3 _ (by decide +kernel) fun t _ x => ?_
  have key : ∀ (i : S4096x2048.Idx), (i 0).val = t.val * 256 + (x 0).val → (i 1).val = (x 1).val →
      k0_pay1 (iblk m c 0 t) (iblk m c 1 t) (iblk m c 2 t) x = G (m ((c : Thread nD τ).loc main_arg0)) (m ((c : Thread nD τ).loc main_arg1)) (m ((c : Thread nD τ).loc main_arg2)) i := fun i h0 h1 => by
    rw [eq_ix2 x, eq_ix2 i, show i 1 = x 1 from Fin.ext h1]
    exact ((pay1_at _ _ _ _ _).trans (add_comm _ _)).trans (congrArg₂ (fun p q : EReal => p + q) (blk_2 m c t _ _ _ h0)
      ((Finset.sum_congr rfl fun l _ => congrArg₂ (fun p q : EReal => p * q) (blk_0 m c t _ l _ h0) (blk_1 m c t l _)).trans (third _ _ _ _)))
  blk_simp
  rw [after0_3]
  frame_out
  exact key _ (by blk_simp [idx t]) (by blk_simp [idx t])

end Cert.MixGradB

namespace Cert.MixGradB

open Cert.Reference27Ideal Cert.Reference27Ideal.Gen Cert.Reference27Ideal.Read

/-- The reference's array is the kernel's. -/
theorem ref_v11 (w : FVec Ideal S2048x10256 .f32) (dp : FVec Ideal S4096x10256 .f32) (u : FVec Ideal S4096x2048 .f32) : val_main_v11 (F := Ideal) w dp u = G w dp u := by
  funext j
  rw [eq_ix2 j]
  pointwise [val_main_v11, val_main_v10, val_main_v9, val_main_v8, val_main_v6, val_main_v4, val_main_v3, val_main_v1, G]

end Cert.MixGradB

namespace Cert.MixGradB

/-- The kernel's frames and the reference's. -/
theorem frame_P : Cert.quiescent_Kernel27 := fun m ρ _ => Cert.Kernel27.Gen.frame m ρ
theorem frame_PI : Cert.quiescent_Kernel27Ideal := fun m ρ _ => Cert.Kernel27Ideal.Gen.frame m ρ
theorem frame_RI : Cert.quiescent_Reference27Ideal := fun m ρ _ =>
  (θ_run Cert.Reference27Ideal.defs _ _).mono
    (fun r h => ⟨fun c => (h c).2, sem_eq_zero_of_no_sems (by decide) r.2⟩)
    (Cert.Reference27Ideal.Value.run (F := Ideal) m ρ)

set_option maxHeartbeats 1600000 in
/-- The kernel and the reference compute one function of the arguments. -/
theorem algebraic : Cert.algebraic_Kernel27Ideal_Reference27Ideal := by
  intro m ρ m' ρ' _ hagree
  refine ⟨fun c => (Cert.Kernel27Ideal.Gen.dats m 0 c).arrAt 3 Cert.Kernel27Ideal.cfg0.N, Cert.Kernel27Ideal.Value.run_blocks m ρ, θ_run_mono (Cert.Reference27Ideal.Value.run (F := Ideal) m' ρ') fun r h c => ?_⟩
  obtain ⟨h0, h1, h2⟩ := hagree c
  refine ⟨(h c).1.trans ((Cert.Reference27Ideal.Read.val_main_v11_eq (F := Ideal) _ _ _).trans ?_), (h c).2⟩
  · rw [h0, h1, h2]; exact (ref_v11 _ _ _).trans (final_3 m c).symm

end Cert.MixGradB

end
-- ==== Proof.HalfGrad.lean ====
/-
  The gradient of the feed-forward part's input (the first half of `ffn_backward_input`): the product of the first half's
  gradient with its weights.
-/
module

public import proofs.«01_k».proof.Defs
public import proofs.«01_k».proof.Proof.Logistic
public import proofs.«01_k».proof.Proof.Gen.Kernel28.Frame
public import proofs.«01_k».proof.Proof.Gen.Kernel28Ideal.Value
public import proofs.«01_k».proof.Proof.Gen.Reference28Ideal.Run
public import proofs.«01_k».proof.Proof.Gen.Reference28Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.HalfGrad

open Cert.Kernel28Ideal Cert.Kernel28Ideal.Gen

/-- The product of the first half's gradient with its weights. -/
def G (w : FVec Ideal S2048x11264 .f32) (a : FVec Ideal S2x4096x5632 .bf16) : FVec Ideal S4096x2048 .f32 :=
  fun i => ∑ q : Fin 5632, a (ix3 0 (i 0) q) * w (ix2 (i 1) ⟨q.val, by omega⟩)

/-- A block's product, in four parts. -/
def part (b0 : Vec Ideal S1x256x5632 .bf16) (b1 : Vec Ideal S4x2048x1408 .bf16) (s : Fin 4) (r : Fin 256) (k : Fin 2048) : EReal :=
  ∑ l : Fin 1408, b0 (ix3 0 r ⟨s.val * 1408 + l.val, by omega⟩) * b1 (ix3 s k l)

/-- The product of the loaded pieces. -/
theorem pay1_at (p0 p1 p2 p3 : Vec Ideal S1x256x1408 .bf16) (q0 q1 q2 q3 : Vec Ideal S1x2048x1408 .bf16) (r : Fin 256) (k : Fin 2048) :
    k0_pay1 p0 q0 p1 q1 p2 q2 p3 q3 (ix2 r k)
      = ∑ l : Fin 1408, p0 (ix3 0 r l) * q0 (ix3 0 k l) + ∑ l : Fin 1408, p1 (ix3 0 r l) * q1 (ix3 0 k l)
        + ∑ l : Fin 1408, p2 (ix3 0 r l) * q2 (ix3 0 k l) + ∑ l : Fin 1408, p3 (ix3 0 r l) * q3 (ix3 0 k l) := by
  pointwise [k0_pay1]

section loads

variable (b0 : Vec Ideal S1x256x5632 .bf16) (b1 : Vec Ideal S4x2048x1408 .bf16)

theorem part_0 (r : Fin 256) (k : Fin 2048) :
    (∑ l : Fin 1408, View.ld b0 (Rect.unit ![0, 0, 0] ![1, 256, 1408] inb_S1x256x5632_S1x256x1408_0_0_0) (ix3 0 r l) * View.ld b1 (Rect.unit ![0, 0, 0] ![1, 2048, 1408] inb_S4x2048x1408_S1x2048x1408_0_0_0) (ix3 0 k l)) = part b0 b1 0 r k := by
  refine Finset.sum_congr rfl fun l _ => congrArg₂ (· * ·) (congrArg b0 (funext fun d => Fin.ext ?_)) (congrArg b1 (funext fun d => Fin.ext ?_))
  · fin_cases d <;> simp [ix3]
  · fin_cases d <;> simp [ix3]
theorem part_1 (r : Fin 256) (k : Fin 2048) :
    (∑ l : Fin 1408, View.ld b0 (Rect.unit ![0, 0, 1408] ![1, 256, 1408] inb_S1x256x5632_S1x256x1408_0_0_1408) (ix3 0 r l) * View.ld b1 (Rect.unit ![1, 0, 0] ![1, 2048, 1408] inb_S4x2048x1408_S1x2048x1408_1_0_0) (ix3 0 k l)) = part b0 b1 1 r k := by
  refine Finset.sum_congr rfl fun l _ => congrArg₂ (· * ·) (congrArg b0 (funext fun d => Fin.ext ?_)) (congrArg b1 (funext fun d => Fin.ext ?_))
  · fin_cases d <;> simp [ix3]
  · fin_cases d <;> simp [ix3]
theorem part_2 (r : Fin 256) (k : Fin 2048) :
    (∑ l : Fin 1408, View.ld b0 (Rect.unit ![0, 0, 2816] ![1, 256, 1408] inb_S1x256x5632_S1x256x1408_0_0_2816) (ix3 0 r l) * View.ld b1 (Rect.unit ![2, 0, 0] ![1, 2048, 1408] inb_S4x2048x1408_S1x2048x1408_2_0_0) (ix3 0 k l)) = part b0 b1 2 r k := by
  refine Finset.sum_congr rfl fun l _ => congrArg₂ (· * ·) (congrArg b0 (funext fun d => Fin.ext ?_)) (congrArg b1 (funext fun d => Fin.ext ?_))
  · fin_cases d <;> simp [ix3]
  · fin_cases d <;> simp [ix3]
theorem part_3 (r : Fin 256) (k : Fin 2048) :
    (∑ l : Fin 1408, View.ld b0 (Rect.unit ![0, 0, 4224] ![1, 256, 1408] inb_S1x256x5632_S1x256x1408_0_0_4224) (ix3 0 r l) * View.ld b1 (Rect.unit ![3, 0, 0] ![1, 2048, 1408] inb_S4x2048x1408_S1x2048x1408_3_0_0) (ix3 0 k l)) = part b0 b1 3 r k := by
  refine Finset.sum_congr rfl fun l _ => congrArg₂ (· * ·) (congrArg b0 (funext fun d => Fin.ext ?_)) (congrArg b1 (funext fun d => Fin.ext ?_))
  · fin_cases d <;> simp [ix3]
  · fin_cases d <;> simp [ix3]
/-- The loaded pieces' product is the block's. -/
theorem out1_at (r : Fin 256) (k : Fin 2048) :
    k0_pay1 (View.ld b0 (Rect.unit ![0, 0, 0] ![1, 256, 1408] inb_S1x256x5632_S1x256x1408_0_0_0)) (View.ld b1 (Rect.unit ![0, 0, 0] ![1, 2048, 1408] inb_S4x2048x1408_S1x2048x1408_0_0_0)) (View.ld b0 (Rect.unit ![0, 0, 1408] ![1, 256, 1408] inb_S1x256x5632_S1x256x1408_0_0_1408)) (View.ld b1 (Rect.unit ![1, 0, 0] ![1, 2048, 1408] inb_S4x2048x1408_S1x2048x1408_1_0_0)) (View.ld b0 (Rect.unit ![0, 0, 2816] ![1, 256, 1408] inb_S1x256x5632_S1x256x1408_0_0_2816)) (View.ld b1 (Rect.unit ![2, 0, 0] ![1, 2048, 1408] inb_S4x2048x1408_S1x2048x1408_2_0_0)) (View.ld b0 (Rect.unit ![0, 0, 4224] ![1, 256, 1408] inb_S1x256x5632_S1x256x1408_0_0_4224)) (View.ld b1 (Rect.unit ![3, 0, 0] ![1, 2048, 1408] inb_S4x2048x1408_S1x2048x1408_3_0_0)) (ix2 r k) = part b0 b1 0 r k + part b0 b1 1 r k + part b0 b1 2 r k + part b0 b1 3 r k :=
  (pay1_at _ _ _ _ _ _ _ _ r k).trans (congrArg₂ (fun p q : EReal => p + q) (congrArg₂ (fun p q : EReal => p + q)
    (congrArg₂ (fun p q : EReal => p + q) (part_0 b0 b1 r k) (part_1 b0 b1 r k)) (part_2 b0 b1 r k)) (part_3 b0 b1 r k))

end loads

variable (m : (ℓ : Loc nD τ sig) → Buf (Elt Ideal) ℓ) (c : Dev nD)

/-- The kernel's layout of the weights: blocks of columns. -/
def layw (w : FVec Ideal S2048x11264 .f32) : FVec Ideal S8x2048x1408 .bf16 :=
  transpose S8x2048x1408 [1, 0, 2] (shapeCast S2048x8x1408 (truncf .bf16 w bitsLt_bf16_f32) shapeCasts_S2048x11264_S2048x8x1408)
    transposes_S2048x8x1408_S8x2048x1408_1_0_2
theorem V_v2 : (V m c main_v2 : FVec Ideal S8x2048x1408 .bf16) = layw (m ((c : Thread nD τ).loc main_arg0)) := (rfl)
theorem layw_at (w : FVec Ideal S2048x11264 .f32) (p : Fin 8) (k : Fin 2048) (l : Fin 1408) :
    layw w (ix3 p k l) = w (ix2 k ⟨p.val * 1408 + l.val, by omega⟩) := by
  pointwise [layw]

/-- Where each window's block of a point lies. -/
theorem idx : ∀ t : Fin cfg0.N, win0_0.index t = ![0, t.val, 0] ∧ win0_1.index t = ![0, 0, 0] ∧ win0_2.index t = ![t.val, 0] :=
  (by decide +kernel : ∀ t : Fin grid0.N, _)

theorem blk_0 (t : Fin cfg0.N) (r : Fin 256) (q : Fin 5632) (R : Fin 4096) (hR : R.val = t.val * 256 + r.val) :
    (iblk m c 0 t : Vec Ideal S1x256x5632 .bf16) (ix3 0 r q) = ((m ((c : Thread nD τ).loc main_arg1)) : FVec Ideal S2x4096x5632 .bf16) (ix3 0 R q) := by
  refine congrArg (m ((c : Thread nD τ).loc main_arg1) : FVec Ideal S2x4096x5632 .bf16) (funext fun d => Fin.ext ?_)
  fin_cases d <;> blk_simp [idx t] <;> simp [ix3] <;> omega
theorem blk_1 (t : Fin cfg0.N) (s : Fin 4) (k : Fin 2048) (l : Fin 1408) :
    (iblk m c 1 t : Vec Ideal S4x2048x1408 .bf16) (ix3 s k l) = ((m ((c : Thread nD τ).loc main_arg0)) : FVec Ideal S2048x11264 .f32) (ix2 k ⟨s.val * 1408 + l.val, by omega⟩) := by
  refine Eq.trans ?_ ((congrFun (V_v2 m c) (ix3 ⟨s.val, by omega⟩ k l)).trans (layw_at _ _ _ _))
  refine congrArg (V m c main_v2 : FVec Ideal S8x2048x1408 .bf16) (funext fun d => Fin.ext ?_)
  fin_cases d <;> blk_simp [idx t] <;> simp [ix3]

/-- A block's product is the whole product's block. -/
theorem sum_blk (t : Fin cfg0.N) (r : Fin 256) (k : Fin 2048) (R : Fin 4096) (hR : R.val = t.val * 256 + r.val) :
    part (iblk m c 0 t) (iblk m c 1 t) 0 r k + part (iblk m c 0 t) (iblk m c 1 t) 1 r k + part (iblk m c 0 t) (iblk m c 1 t) 2 r k
      + part (iblk m c 0 t) (iblk m c 1 t) 3 r k = G (m ((c : Thread nD τ).loc main_arg0)) (m ((c : Thread nD τ).loc main_arg1)) (ix2 R k) := by
  refine (Fin.sum_univ_four (fun s => part (iblk m c 0 t) (iblk m c 1 t) s r k)).symm.trans ?_
  exact Fin.sum_mul_add_congr fun s l hl => congrArg₂ (fun p q : EReal => p * q) (blk_0 m c t r _ R hR) (blk_1 m c t s k l)

/-- The kernel's result. -/
theorem final_2 : (dats m 0 c).arrAt 2 cfg0.N = G (m ((c : Thread nD τ).loc main_arg0)) (m ((c : Thread nD τ).loc main_arg1)) := by
  refine (dats m 0 c).arrAt_eq_of_covers 2 _ (by decide +kernel) fun t _ x => ?_
  have key : ∀ (i : S4096x2048.Idx), (i 0).val = t.val * 256 + (x 0).val → (i 1).val = (x 1).val →
      part (iblk m c 0 t) (iblk m c 1 t) 0 (x 0) (x 1) + part (iblk m c 0 t) (iblk m c 1 t) 1 (x 0) (x 1) + part (iblk m c 0 t) (iblk m c 1 t) 2 (x 0) (x 1)
        + part (iblk m c 0 t) (iblk m c 1 t) 3 (x 0) (x 1) = G (m ((c : Thread nD τ).loc main_arg0)) (m ((c : Thread nD τ).loc main_arg1)) i := fun i h0 h1 => by
    rw [eq_ix2 i, show i 1 = x 1 from Fin.ext h1]
    exact sum_blk m c t _ _ _ h0
  blk_simp
  rw [after0_2]
  frame_out
  exact ((congrArg _ (eq_ix2 x)).trans (out1_at _ _ _ _)).trans (key _ (by blk_simp [idx t]) (by blk_simp [idx t]))

end Cert.HalfGrad

namespace Cert.HalfGrad

open Cert.Reference28Ideal Cert.Reference28Ideal.Gen Cert.Reference28Ideal.Read

/-- The reference's array is the kernel's. -/
theorem ref_v6 (w : FVec Ideal S2048x11264 .f32) (a : FVec Ideal S2x4096x5632 .bf16) : val_main_v6 (F := Ideal) w a = G w a := by
  funext j
  rw [eq_ix2 j]
  pointwise [val_main_v6, val_main_v5, val_main_v4, val_main_v3, val_main_v1, G]

end Cert.HalfGrad

namespace Cert.HalfGrad

/-- The kernel's frames and the reference's. -/
theorem frame_P : Cert.quiescent_Kernel28 := fun m ρ _ => Cert.Kernel28.Gen.frame m ρ
theorem frame_PI : Cert.quiescent_Kernel28Ideal := fun m ρ _ => Cert.Kernel28Ideal.Gen.frame m ρ
theorem frame_RI : Cert.quiescent_Reference28Ideal := fun m ρ _ =>
  (θ_run Cert.Reference28Ideal.defs _ _).mono
    (fun r h => ⟨fun c => (h c).2, sem_eq_zero_of_no_sems (by decide) r.2⟩)
    (Cert.Reference28Ideal.Value.run (F := Ideal) m ρ)

set_option maxHeartbeats 1600000 in
/-- The kernel and the reference compute one function of the arguments. -/
theorem algebraic : Cert.algebraic_Kernel28Ideal_Reference28Ideal := by
  intro m ρ m' ρ' _ hagree
  refine ⟨fun c => (Cert.Kernel28Ideal.Gen.dats m 0 c).arrAt 2 Cert.Kernel28Ideal.cfg0.N, Cert.Kernel28Ideal.Value.run_blocks m ρ, θ_run_mono (Cert.Reference28Ideal.Value.run (F := Ideal) m' ρ') fun r h c => ?_⟩
  obtain ⟨h0, h1⟩ := hagree c
  refine ⟨(h c).1.trans ((Cert.Reference28Ideal.Read.val_main_v6_eq (F := Ideal) _ _).trans ?_), (h c).2⟩
  · rw [h0, h1]; exact (ref_v6 _ _).trans (final_2 m c).symm

end Cert.HalfGrad

end
-- ==== Proof.MixOutGrad.lean ====
/-
  The gradient of the mixing part's output weights (`matmul_tn`): the product over the rows of two arrays.
-/
module

public import proofs.«01_k».proof.Defs
public import proofs.«01_k».proof.Proof.Logistic
public import proofs.«01_k».proof.Proof.Gen.Kernel29.Frame
public import proofs.«01_k».proof.Proof.Gen.Kernel29Ideal.Value
public import proofs.«01_k».proof.Proof.Gen.Reference29Ideal.Run
public import proofs.«01_k».proof.Proof.Gen.Reference29Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixOutGrad

open Cert.Kernel29Ideal Cert.Kernel29Ideal.Gen

/-- The product over the rows. -/
def G (a : FVec Ideal S4096x2048 .bf16) (b : FVec Ideal S4096x2048 .bf16) : FVec Ideal S2048x2048 .bf16 := fun i =>
  ∑ r : Fin 4096, a (ix2 r (i 0)) * b (ix2 r (i 1))

/-- The product of two blocks over their rows. -/
def dot (b0 : Vec Ideal S1024x512 .bf16) (b1 : Vec Ideal S1024x2048 .bf16) (x : S512x2048.Idx) : EReal :=
  ∑ r : Fin 1024, b0 (ix2 r (x 0)) * b1 (ix2 r (x 1))

theorem pay1_at (x : S512x2048.Idx) : k0_pay1 (F := Ideal) x = 0 := by
  rw [eq_ix2 x]; pointwise [k0_pay1]
theorem pay2_at (b0 : Vec Ideal S1024x512 .bf16) (b1 : Vec Ideal S1024x2048 .bf16) (a : Vec Ideal S512x2048 .f32) (x : S512x2048.Idx) :
    k0_pay2 b0 b1 a x = a x + dot b0 b1 x := by
  rw [eq_ix2 x]; pointwise [k0_pay2, dot]
theorem pay3_at (a : Vec Ideal S512x2048 .f32) (x : S512x2048.Idx) : k0_pay3 a x = a x := by
  rw [eq_ix2 x]; pointwise [k0_pay3]

variable (m : (ℓ : Loc nD τ sig) → Buf (Elt Ideal) ℓ) (c : Dev nD)

/-- Where each window's block of a point lies. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, _)

theorem blk_0 (t : Fin cfg0.N) (r : Fin 1024) (l : Fin 512) (R : Fin 4096) (L : Fin 2048) (hR : R.val = t.val % 4 * 1024 + r.val)
    (hL : L.val = t.val / 4 * 512 + l.val) :
    (iblk m c 0 t : Vec Ideal S1024x512 .bf16) (ix2 r l) = ((m ((c : Thread nD τ).loc main_arg0)) : FVec Ideal S4096x2048 .bf16) (ix2 R L) := by
  refine congrArg (m ((c : Thread nD τ).loc main_arg0) : FVec Ideal S4096x2048 .bf16) (funext fun d => Fin.ext ?_)
  fin_cases d <;> blk_simp [idx t] <;> simp [ix2] <;> omega
theorem blk_1 (t : Fin cfg0.N) (r : Fin 1024) (k : Fin 2048) (R : Fin 4096) (hR : R.val = t.val % 4 * 1024 + r.val) :
    (iblk m c 1 t : Vec Ideal S1024x2048 .bf16) (ix2 r k) = ((m ((c : Thread nD τ).loc main_arg1)) : FVec Ideal S4096x2048 .bf16) (ix2 R k) := by
  refine congrArg (m ((c : Thread nD τ).loc main_arg1) : FVec Ideal S4096x2048 .bf16) (funext fun d => Fin.ext ?_)
  fin_cases d <;> blk_simp [idx t] <;> simp [ix2] <;> omega

/-- A point's share of the sum. -/
def term (t : Fin cfg0.N) (y : S512x2048.Idx) : EReal := dot (iblk m c 0 t) (iblk m c 1 t) y

/-- The last point of a run writes its accumulator. -/
theorem last (t : Fin cfg0.N) (h3 : t.val % 4 = 3) (x : S512x2048.Idx) :
    (outsAt0 m c t.val t.isLt).1 x = (outsAt0 m c t.val t.isLt).2 x := by
  rw [outsAt0_C m c t (by omega) h3]
  frame_out
  exact pay3_at _ _

/-- The kernel's result array after the run. -/
theorem final : (dats m 0 c).arrAt 2 cfg0.N = G (m ((c : Thread nD τ).loc main_arg0)) (m ((c : Thread nD τ).loc main_arg1)) := by
  refine (dats m 0 c).arrAt_eq_of_covers 2 _ (by decide +kernel) fun t hf x => ?_
  have ht : t.val < 16 := t.isLt
  have h3 := (flush0_2 t).mp hf
  blk_simp
  rw [after0_2, last m c t h3, Pipeline.eq_sum_fin_of_reset_step_apply_of_flush (fun n h => (outsAt0 m c n h).2) 4 (fun _ => 0)
      (term m c)
      (fun t h j => by rw [outsAt0_A m c t h (by omega)]; frame_out; rw [pay2_at, pay1_at]; rfl)
      (fun t h j => by
        by_cases h1 : t.val % 4 = 3
        · rw [outsAt0_C m c t h h1]; frame_out; rw [pay2_at]; exact congrArg (· + _) (congrFun (Memref.IsWhole.read_unread _ _) j)
        · rw [outsAt0_B m c t h h1]; frame_out; rw [pay2_at]; exact congrArg (· + _) (congrFun (Memref.IsWhole.read_unread _ _) j)) t h3 _, zero_add]
  refine Fin.sum_mul_add_congr fun s k hl => congrArg₂ (· * ·) (blk_0 m c _ _ _ ⟨_, hl⟩ _ ?_ ?_) ((blk_1 m c _ _ _ ⟨_, hl⟩ ?_).trans ?_)
  · simp; omega
  · blk_simp [idx t]; simp; omega
  · simp; omega
  · exact congrArg (m ((c : Thread nD τ).loc main_arg1) : FVec Ideal S4096x2048 .bf16) (congrArg (ix2 _) (Fin.ext (by blk_simp [idx t])))

end Cert.MixOutGrad

namespace Cert.MixOutGrad

open Cert.Reference29Ideal Cert.Reference29Ideal.Gen Cert.Reference29Ideal.Read

variable (a : FVec Ideal S4096x2048 .bf16) (b : FVec Ideal S4096x2048 .bf16)

/-- The reference's array is the kernel's. -/
theorem ref_eq : val_main_v6 (F := Ideal) a b = G a b := by
  funext j
  obtain ⟨r, q, rfl⟩ : ∃ (r : Fin 2048) (q : Fin 2048), j = ix2 r q := ⟨j 0, j 1, eq_ix2 j⟩
  have e : val_main_v6 (F := Ideal) a b (ix2 r q) = ∑ k : Fin 4096, b (ix2 k q) * a (ix2 k r) := by
    pointwise [val_main_v6, val_main_v5, val_main_v4, val_main_v3, val_main_v1]
  rw [e]
  exact Finset.sum_congr rfl fun k _ => mul_comm _ _

end Cert.MixOutGrad

namespace Cert.MixOutGrad

/-- The kernel's frames and the reference's. -/
theorem frame_P : Cert.quiescent_Kernel29 := fun m ρ _ => Cert.Kernel29.Gen.frame m ρ
theorem frame_PI : Cert.quiescent_Kernel29Ideal := fun m ρ _ => Cert.Kernel29Ideal.Gen.frame m ρ
theorem frame_RI : Cert.quiescent_Reference29Ideal := fun m ρ _ =>
  (θ_run Cert.Reference29Ideal.defs _ _).mono
    (fun r h => ⟨fun c => (h c).2, sem_eq_zero_of_no_sems (by decide) r.2⟩)
    (Cert.Reference29Ideal.Value.run (F := Ideal) m ρ)

set_option maxHeartbeats 1600000 in
/-- The kernel and the reference compute one function of the arguments. -/
theorem algebraic : Cert.algebraic_Kernel29Ideal_Reference29Ideal := by
  intro m ρ m' ρ' _ hagree
  refine ⟨fun c => (Cert.Kernel29Ideal.Gen.dats m 0 c).arrAt 2 Cert.Kernel29Ideal.cfg0.N, Cert.Kernel29Ideal.Value.run_blocks m ρ, θ_run_mono (Cert.Reference29Ideal.Value.run (F := Ideal) m' ρ') fun r h c => ?_⟩
  obtain ⟨h0, h1⟩ := hagree c
  refine ⟨(h c).1.trans ((Cert.Reference29Ideal.Read.val_main_v6_eq (F := Ideal) _ _).trans ?_), (h c).2⟩
  · rw [h0, h1]; exact (ref_eq _ _).trans (final m c).symm

end Cert.MixOutGrad

end
-- ==== Proof.ProjGrad.lean ====
/-
  The gradient of a branch's projection (`matmul_tn`): the product over the rows of two arrays, in blocks of columns.
-/
module

public import proofs.«01_k».proof.Defs
public import proofs.«01_k».proof.Proof.Logistic
public import proofs.«01_k».proof.Proof.Gen.Kernel30.Frame
public import proofs.«01_k».proof.Proof.Gen.Kernel30Ideal.Value
public import proofs.«01_k».proof.Proof.Gen.Reference30Ideal.Run
public import proofs.«01_k».proof.Proof.Gen.Reference30Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.ProjGrad

open Cert.Kernel30Ideal Cert.Kernel30Ideal.Gen

/-- The product over the rows, in blocks of columns. -/
def G (a : FVec Ideal S4096x1024 .bf16) (b : FVec Ideal S4096x2048 .bf16) : FVec Ideal S8x1024x256 .bf16 := fun i =>
  ∑ r : Fin 4096, a (ix2 r (i 1))
    * b (ix2 r ⟨(i 0).val * 256 + (i 2).val, by have h0 : (i 0).val < 8 := (i 0).isLt; have h2 : (i 2).val < 256 := (i 2).isLt; omega⟩)

/-- The product of two blocks over their rows. -/
def dot (b0 : Vec Ideal S1024x1024 .bf16) (b1 : Vec Ideal S1024x256 .bf16) (x : S1024x256.Idx) : EReal :=
  ∑ r : Fin 1024, b0 (ix2 r (x 0)) * b1 (ix2 r (x 1))

theorem pay1_at (x : S1024x256.Idx) : k0_pay1 (F := Ideal) x = 0 := by
  rw [eq_ix2 x]; pointwise [k0_pay1]
theorem pay2_at (b0 : Vec Ideal S1024x1024 .bf16) (b1 : Vec Ideal S1024x256 .bf16) (a : Vec Ideal S1024x256 .f32) (x : S1024x256.Idx) :
    k0_pay2 b0 b1 a x = a x + dot b0 b1 x := by
  rw [eq_ix2 x]; pointwise [k0_pay2, dot]
theorem pay3_at (a : Vec Ideal S1024x256 .f32) (x : S1x1024x256.Idx) : k0_pay3 a x = a (ix2 (x 1) (x 2)) := by
  rw [eq_ix3 x]; pointwise [k0_pay3]

variable (m : (ℓ : Loc nD τ sig) → Buf (Elt Ideal) ℓ) (c : Dev nD)

/-- Where each window's block of a point lies. -/
theorem idx : ∀ t : Fin cfg0.N, win0_0.index t = ![t.val % 4, 0] ∧ win0_1.index t = ![t.val % 4, t.val / 4] ∧ win0_2.index t = ![t.val / 4, 0, 0] :=
  (by decide +kernel : ∀ t : Fin grid0.N, _)

theorem blk_0 (t : Fin cfg0.N) (r : Fin 1024) (k K : Fin 1024) (R : Fin 4096) (hR : R.val = t.val % 4 * 1024 + r.val) (hk : k.val = K.val) :
    (iblk m c 0 t : Vec Ideal S1024x1024 .bf16) (ix2 r k) = ((m ((c : Thread nD τ).loc main_arg0)) : FVec Ideal S4096x1024 .bf16) (ix2 R K) := by
  refine congrArg (m ((c : Thread nD τ).loc main_arg0) : FVec Ideal S4096x1024 .bf16) (funext fun d => Fin.ext ?_)
  fin_cases d <;> blk_simp [idx t] <;> simp [ix2] <;> omega
theorem blk_1 (t : Fin cfg0.N) (r : Fin 1024) (l : Fin 256) (R : Fin 4096) (L : Fin 2048) (hR : R.val = t.val % 4 * 1024 + r.val)
    (hL : L.val = t.val / 4 * 256 + l.val) :
    (iblk m c 1 t : Vec Ideal S1024x256 .bf16) (ix2 r l) = ((m ((c : Thread nD τ).loc main_arg1)) : FVec Ideal S4096x2048 .bf16) (ix2 R L) := by
  refine congrArg (m ((c : Thread nD τ).loc main_arg1) : FVec Ideal S4096x2048 .bf16) (funext fun d => Fin.ext ?_)
  fin_cases d <;> blk_simp [idx t] <;> simp [ix2] <;> omega

/-- A point's share of the sum. -/
def term (t : Fin cfg0.N) (y : S1024x256.Idx) : EReal := dot (iblk m c 0 t) (iblk m c 1 t) y

/-- The last point of a run writes its accumulator. -/
theorem last (t : Fin cfg0.N) (h3 : t.val % 4 = 3) (x : S1x1024x256.Idx) :
    (outsAt0 m c t.val t.isLt).1 x = (outsAt0 m c t.val t.isLt).2 (ix2 (x 1) (x 2)) := by
  rw [outsAt0_C m c t (by omega) h3]
  frame_out
  exact pay3_at _ _

/-- The kernel's result array after the run. -/
theorem final : (dats m 0 c).arrAt 2 cfg0.N = G (m ((c : Thread nD τ).loc main_arg0)) (m ((c : Thread nD τ).loc main_arg1)) := by
  refine (dats m 0 c).arrAt_eq_of_covers 2 _ (by decide +kernel) fun t hf x => ?_
  have ht : t.val < 32 := t.isLt
  have h3 := (flush0_2 t).mp hf
  blk_simp
  rw [after0_2, last m c t h3, Pipeline.eq_sum_fin_of_reset_step_apply_of_flush (fun n h => (outsAt0 m c n h).2) 4 (fun _ => 0)
      (term m c)
      (fun t h j => by rw [outsAt0_A m c t h (by omega)]; frame_out; rw [pay2_at, pay1_at]; rfl)
      (fun t h j => by
        by_cases h1 : t.val % 4 = 3
        · rw [outsAt0_C m c t h h1]; frame_out; rw [pay2_at]; exact congrArg (· + _) (congrFun (Memref.IsWhole.read_unread _ _) j)
        · rw [outsAt0_B m c t h h1]; frame_out; rw [pay2_at]; exact congrArg (· + _) (congrFun (Memref.IsWhole.read_unread _ _) j)) t h3 _, zero_add]
  refine Fin.sum_mul_add_congr fun s k hl => congrArg₂ (fun p q : EReal => p * q) (blk_0 m c _ _ _ _ ⟨_, hl⟩ ?_ ?_) (blk_1 m c _ _ _ ⟨_, hl⟩ _ ?_ ?_)
  · simp; omega
  · blk_simp [idx t]
  · simp; omega
  · blk_simp [idx t]; simp [ix2]; omega

end Cert.ProjGrad

namespace Cert.ProjGrad

open Cert.Reference30Ideal Cert.Reference30Ideal.Gen Cert.Reference30Ideal.Read

variable (a : FVec Ideal S4096x1024 .bf16) (b : FVec Ideal S4096x2048 .bf16)

theorem r6 (k : Fin 1024) (q : Fin 2048) : val_main_v6 (F := Ideal) a b (ix2 k q) = ∑ r : Fin 4096, a (ix2 r k) * b (ix2 r q) := by
  have e : val_main_v6 (F := Ideal) a b (ix2 k q) = ∑ r : Fin 4096, b (ix2 r q) * a (ix2 r k) := by
    pointwise [val_main_v6, val_main_v5, val_main_v4, val_main_v3, val_main_v1]
  rw [e]
  exact Finset.sum_congr rfl fun k _ => mul_comm _ _

/-- The reference's array is the kernel's. -/
theorem ref_eq : val_main_v8 (F := Ideal) a b = G a b := by
  funext j
  obtain ⟨p, k, l, rfl⟩ : ∃ (p : Fin 8) (k : Fin 1024) (l : Fin 256), j = ix3 p k l := ⟨j 0, j 1, j 2, eq_ix3 j⟩
  refine Eq.trans ?_ (r6 a b k ⟨p.val * 256 + l.val, by omega⟩)
  unfold val_main_v8 val_main_v7
  generalize val_main_v6 (F := Ideal) a b = u
  pointwise []

end Cert.ProjGrad

namespace Cert.ProjGrad

/-- The kernel's frames and the reference's. -/
theorem frame_P : Cert.quiescent_Kernel30 := fun m ρ _ => Cert.Kernel30.Gen.frame m ρ
theorem frame_PI : Cert.quiescent_Kernel30Ideal := fun m ρ _ => Cert.Kernel30Ideal.Gen.frame m ρ
theorem frame_RI : Cert.quiescent_Reference30Ideal := fun m ρ _ =>
  (θ_run Cert.Reference30Ideal.defs _ _).mono
    (fun r h => ⟨fun c => (h c).2, sem_eq_zero_of_no_sems (by decide) r.2⟩)
    (Cert.Reference30Ideal.Value.run (F := Ideal) m ρ)

set_option maxHeartbeats 1600000 in
/-- The kernel and the reference compute one function of the arguments. -/
theorem algebraic : Cert.algebraic_Kernel30Ideal_Reference30Ideal := by
  intro m ρ m' ρ' _ hagree
  refine ⟨fun c => (Cert.Kernel30Ideal.Gen.dats m 0 c).arrAt 2 Cert.Kernel30Ideal.cfg0.N, Cert.Kernel30Ideal.Value.run_blocks m ρ, θ_run_mono (Cert.Reference30Ideal.Value.run (F := Ideal) m' ρ') fun r h c => ?_⟩
  obtain ⟨h0, h1⟩ := hagree c
  refine ⟨(h c).1.trans ((Cert.Reference30Ideal.Read.val_main_v8_eq (F := Ideal) _ _).trans ?_), (h c).2⟩
  · rw [h0, h1]; exact (ref_eq _ _).trans (final m c).symm

end Cert.ProjGrad

end
-- ==== Proof.MixOut.lean ====
/-
  The mixing part's last product and the norm after it (`out_ln`): the product, its gated sum with the residual, and the
  sum's normalised rows.
-/
module

public import proofs.«01_k».proof.Defs
public import proofs.«01_k».proof.Proof.Logistic
public import proofs.«01_k».proof.Proof.Norm
public import proofs.«01_k».proof.Proof.Gen.Kernel31.Frame
public import proofs.«01_k».proof.Proof.Gen.Kernel31Ideal.Value
public import proofs.«01_k».proof.Proof.Gen.Reference31Ideal.Run
public import proofs.«01_k».proof.Proof.Gen.Reference31Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixOut

open Cert.Kernel31Ideal Cert.Kernel31Ideal.Gen

/-- The product at a row and a column. -/
def prod (s : FVec Ideal S4096x2048 .bf16) (w : FVec Ideal S2048x2048 .f32) (r : Fin 4096) (k : Fin 2048) : EReal :=
  ∑ j : Fin 2048, s (ix2 r j) * w (ix2 j k)

/-- The sum's row. -/
def zrow (s : FVec Ideal S4096x2048 .bf16) (w : FVec Ideal S2048x2048 .f32) (h : FVec Ideal S4096x2048 .f32) (g : FVec Ideal S1x2048 .f32)
    (r : Fin 4096) (k : Fin 2048) : EReal :=
  Ideal.ofBits .f32 0x3F9837F0#32 * h (ix2 r k) + g (ix2 0 k) * prod s w r k

/-- The product, the sum and its normalised rows as arrays. -/
def GF (s : FVec Ideal S4096x2048 .bf16) (w : FVec Ideal S2048x2048 .f32) : FVec Ideal S4096x2048 .bf16 := fun i => prod s w (i 0) (i 1)
def GZ (s : FVec Ideal S4096x2048 .bf16) (w : FVec Ideal S2048x2048 .f32) (h : FVec Ideal S4096x2048 .f32) (g : FVec Ideal S1x2048 .f32) :
    FVec Ideal S4096x2048 .f32 := fun i => zrow s w h g (i 0) (i 1)
def GH (s : FVec Ideal S4096x2048 .bf16) (w : FVec Ideal S2048x2048 .f32) (h : FVec Ideal S4096x2048 .f32) (g lg lb : FVec Ideal S1x2048 .f32) :
    FVec Ideal S4096x2048 .f32 := fun i => Norm.hat (zrow s w h g (i 0)) (i 1) * lg (ix2 0 (i 1)) + lb (ix2 0 (i 1))

section pays

variable (b0 : Vec Ideal S256x2048 .bf16) (b1 : Vec Ideal S2048x2048 .bf16) (b2 : Vec Ideal S256x2048 .f32) (b3 b4 b5 : Vec Ideal S1x2048 .f32)
  (r : Fin 256) (k : Fin 2048)

/-- The product of two blocks. -/
def dot (b0 : Vec Ideal S256x2048 .bf16) (b1 : Vec Ideal S2048x2048 .bf16) (r : Fin 256) (k : Fin 2048) : EReal :=
  ∑ j : Fin 2048, b0 (ix2 r j) * b1 (ix2 j k)

theorem pay2_at : k0_pay2 b0 b1 (ix2 r k) = dot b0 b1 r k := by
  pointwise [k0_pay2, dot]
theorem pay4_at : k0_pay4 b0 b1 (ix2 r k) = dot b0 b1 r k := by
  rw [← pay2_at]; rfl
theorem pay3_at : k0_pay3 b0 b1 b2 b3 (ix2 r k) = Ideal.ofBits .f32 0x3F9837F0#32 * b2 (ix2 r k)
    + b3 (ix2 0 k) * dot b0 b1 r k := by
  rw [← pay2_at]
  unfold k0_pay3
  generalize k0_pay2 b0 b1 = u
  pointwise []
theorem pay1_at : k0_pay1 (k0_pay5 b0 b1 b2 b3 b4) b5 (ix2 r k)
    = Norm.hat (fun j => k0_pay3 b0 b1 b2 b3 (ix2 r j)) k * b4 (ix2 0 k) + b5 (ix2 0 k) := by
  unfold k0_pay1 k0_pay5
  generalize k0_pay3 b0 b1 b2 b3 = u
  pointwise [Norm.hat, Norm.cen, Norm.rst]

end pays

variable (m : (ℓ : Loc nD τ sig) → Buf (Elt Ideal) ℓ) (c : Dev nD)

/-- Where each window's block of a point lies. -/
theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] :=
  (by decide +kernel : ∀ t : Fin grid0.N, _)

/-- The weights the kernel is given. -/
def lay (w : FVec Ideal S2048x2048 .f32) : FVec Ideal S2048x2048 .bf16 := truncf .bf16 w bitsLt_bf16_f32
theorem V_w : (V m c main_v0 : FVec Ideal S2048x2048 .bf16) = lay (m ((c : Thread nD τ).loc main_arg1)) := (rfl)

/-- The product of a point's blocks is the whole product's block. -/
theorem dot_blk (t : Fin cfg0.N) (r : Fin 256) (k : Fin 2048) (R : Fin 4096) (hR : R.val = t.val * 256 + r.val) :
    dot (iblk m c 0 t) (iblk m c 1 t) r k
      = prod (m ((c : Thread nD τ).loc main_arg0)) (m ((c : Thread nD τ).loc main_arg1)) R k := by
  refine Finset.sum_congr rfl fun j _ => congrArg₂ (· * ·) ?_ ?_
  · refine congrArg (m ((c : Thread nD τ).loc main_arg0) : FVec Ideal S4096x2048 .bf16) (funext fun d => Fin.ext ?_)
    fin_cases d <;> blk_simp [idx t] <;> simp [ix2] <;> omega
  · refine Eq.trans ?_ ((congrFun (V_w m c) (ix2 j k)).trans rfl)
    refine congrArg (V m c (main_v0) : FVec Ideal S2048x2048 .bf16) (funext fun d => Fin.ext ?_)
    fin_cases d <;> blk_simp [idx t] <;> simp [ix2]

/-- And so for the sum. -/
theorem z_blk (t : Fin cfg0.N) (r : Fin 256) (k : Fin 2048) (R : Fin 4096) (hR : R.val = t.val * 256 + r.val) :
    k0_pay3 (iblk m c 0 t) (iblk m c 1 t) (iblk m c 2 t) (iblk m c 3 t) (ix2 r k) = zrow (m ((c : Thread nD τ).loc main_arg0)) (m ((c : Thread nD τ).loc main_arg1)) (m ((c : Thread nD τ).loc main_arg2)) (m ((c : Thread nD τ).loc main_arg3)) R k := by
  refine (pay3_at _ _ _ _ _ _).trans ?_
  rw [dot_blk m c t r k R hR]
  refine congrArg₂ (· + ·) (congrArg (_ * ·) ?_) (congrArg (· * _) ?_)
  · refine congrArg (m ((c : Thread nD τ).loc main_arg2) : FVec Ideal S4096x2048 .f32) (funext fun d => Fin.ext ?_)
    fin_cases d <;> blk_simp [idx t] <;> simp [ix2] <;> omega
  · refine congrArg (m ((c : Thread nD τ).loc main_arg3) : FVec Ideal S1x2048 .f32) (funext fun d => Fin.ext ?_)
    fin_cases d <;> blk_simp [idx t] <;> simp [ix2]

/-- The kernel's result arrays after the run. -/
theorem final_6 : (dats m 0 c).arrAt 6 cfg0.N = GF (m ((c : Thread nD τ).loc main_arg0)) (m ((c : Thread nD τ).loc main_arg1)) := by
  have key : ∀ (t : Fin cfg0.N) (r : Fin 256) (k : Fin 2048) (R : Fin 4096), R.val = t.val * 256 + r.val →
      k0_pay4 (iblk m c 0 t) (iblk m c 1 t) (ix2 r k)
        = GF (m ((c : Thread nD τ).loc main_arg0)) (m ((c : Thread nD τ).loc main_arg1)) (ix2 R k) := by
    intro t r k R hR
    refine (pay4_at _ _ _ _).trans ?_
    rw [dot_blk m c t r k R hR]; rfl
  refine (dats m 0 c).arrAt_eq_of_covers 6 _ (by decide +kernel) fun t _ y => ?_
  blk_simp
  rw [after0_6]
  frame_out
  obtain ⟨r, k, rfl⟩ : ∃ (r : Fin 256) (k : Fin 2048), y = ix2 r k := ⟨y 0, y 1, eq_ix2 y⟩
  have ht : t.val < 16 := t.isLt
  refine (key t r k ⟨t.val * 256 + r.val, by omega⟩ rfl).trans (congrArg (GF (m ((c : Thread nD τ).loc main_arg0)) (m ((c : Thread nD τ).loc main_arg1))) (funext fun d => Fin.ext ?_))
  fin_cases d <;> blk_simp [idx t] <;> simp [ix2]
theorem final_7 : (dats m 0 c).arrAt 7 cfg0.N = GZ (m ((c : Thread nD τ).loc main_arg0)) (m ((c : Thread nD τ).loc main_arg1)) (m ((c : Thread nD τ).loc main_arg2)) (m ((c : Thread nD τ).loc main_arg3)) := by
  have key : ∀ (t : Fin cfg0.N) (r : Fin 256) (k : Fin 2048) (R : Fin 4096), R.val = t.val * 256 + r.val →
      k0_pay3 (iblk m c 0 t) (iblk m c 1 t) (iblk m c 2 t) (iblk m c 3 t) (ix2 r k)
        = GZ (m ((c : Thread nD τ).loc main_arg0)) (m ((c : Thread nD τ).loc main_arg1)) (m ((c : Thread nD τ).loc main_arg2)) (m ((c : Thread nD τ).loc main_arg3)) (ix2 R k) := by
    intro t r k R hR
    rw [z_blk m c t r k R hR]; rfl
  refine (dats m 0 c).arrAt_eq_of_covers 7 _ (by decide +kernel) fun t _ y => ?_
  blk_simp
  rw [after0_7]
  frame_out
  obtain ⟨r, k, rfl⟩ : ∃ (r : Fin 256) (k : Fin 2048), y = ix2 r k := ⟨y 0, y 1, eq_ix2 y⟩
  have ht : t.val < 16 := t.isLt
  refine (key t r k ⟨t.val * 256 + r.val, by omega⟩ rfl).trans (congrArg (GZ (m ((c : Thread nD τ).loc main_arg0)) (m ((c : Thread nD τ).loc main_arg1)) (m ((c : Thread nD τ).loc main_arg2)) (m ((c : Thread nD τ).loc main_arg3))) (funext fun d => Fin.ext ?_))
  fin_cases d <;> blk_simp [idx t] <;> simp [ix2]
theorem final_8 : (dats m 0 c).arrAt 8 cfg0.N = GH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  have key : ∀ (t : Fin cfg0.N) (r : Fin 256) (k : Fin 2048) (R : Fin 4096), R.val = t.val * 256 + r.val →
      k0_pay1 (k0_pay5 (iblk m c 0 t) (iblk m c 1 t) (iblk m c 2 t) (iblk m c 3 t) (iblk m c 4 t)) (iblk m c 5 t) (ix2 r k)
        = GH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (ix2 R k) := by
    intro t r k R hR
    refine (pay1_at _ _ _ _ _ _ _ _).trans ?_
    unfold GH
    refine congrArg₂ (· + ·) (congrArg₂ (· * ·) (congrArg₂ Norm.hat (funext fun j => z_blk m c t r j R hR) rfl) ?_) ?_
    · refine congrArg (m ((c : Thread nD τ).loc main_arg4) : FVec Ideal S1x2048 .f32) (funext fun d => Fin.ext ?_)
      fin_cases d <;> blk_simp [idx t] <;> simp [ix2]
    · refine congrArg (m ((c : Thread nD τ).loc main_arg5) : FVec Ideal S1x2048 .f32) (funext fun d => Fin.ext ?_)
      fin_cases d <;> blk_simp [idx t] <;> simp [ix2]
  refine (dats m 0 c).arrAt_eq_of_covers 8 _ (by decide +kernel) fun t _ y => ?_
  blk_simp
  rw [after0_8]
  frame_out
  obtain ⟨r, k, rfl⟩ : ∃ (r : Fin 256) (k : Fin 2048), y = ix2 r k := ⟨y 0, y 1, eq_ix2 y⟩
  have ht : t.val < 16 := t.isLt
  refine (key t r k ⟨t.val * 256 + r.val, by omega⟩ rfl).trans (congrArg (GH (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (funext fun d => Fin.ext ?_))
  fin_cases d <;> blk_simp [idx t] <;> simp [ix2]

end Cert.MixOut

namespace Cert.MixOut

open Cert.Reference31Ideal Cert.Reference31Ideal.Gen Cert.Reference31Ideal.Read

variable (s : FVec Ideal S4096x2048 .bf16) (w : FVec Ideal S2048x2048 .f32) (h : FVec Ideal S4096x2048 .f32) (g lg lb : FVec Ideal S1x2048 .f32)

theorem r1 (r : Fin 4096) (k : Fin 2048) : val_main_v1 (F := Ideal) s w (ix2 r k) = prod s w r k := by
  pointwise [val_main_v1, val_main_v0, prod]
theorem r6 (r : Fin 4096) (k : Fin 2048) : val_main_v6 (F := Ideal) s w h g (ix2 r k) = zrow s w h g r k := by
  unfold zrow
  rw [← r1]
  unfold val_main_v6 val_main_v5 val_main_v4 val_main_v3 val_main_v2 val_main_cst
  generalize val_main_v1 (F := Ideal) s w = u
  pointwise []

/-- The reference's arrays are the kernel's. -/
theorem ref_7 : val_main_v7 (F := Ideal) s w = GF s w := by
  funext j
  rw [eq_ix2 j]
  exact r1 s w (j 0) (j 1)
theorem ref_6 : val_main_v6 (F := Ideal) s w h g = GZ s w h g := by
  funext j
  rw [eq_ix2 j]
  exact r6 s w h g (j 0) (j 1)
theorem ref_29 : val_main_v29 (F := Ideal) s w h g lg lb = GH s w h g lg lb := by
  funext j
  obtain ⟨r, k, rfl⟩ : ∃ (r : Fin 4096) (k : Fin 2048), j = ix2 r k := ⟨j 0, j 1, eq_ix2 j⟩
  unfold GH
  have e : zrow s w h g r = fun k => val_main_v6 (F := Ideal) s w h g (ix2 r k) := funext fun k => (r6 s w h g r k).symm
  refine Eq.trans ?_ (congrArg (fun z => Norm.hat z k * lg (ix2 0 k) + lb (ix2 0 k)) e.symm)
  unfold val_main_v29 val_main_v28 val_main_v27 val_main_v26 val_main_v25 val_main_v24 val_main_v23 val_main_v22 val_main_v21 val_main_cst_4
    val_main_v20 val_main_v19 val_main_v18 val_main_v17 val_main_cst_3 val_main_v16 val_main_v15 val_main_cst_2 val_main_v14 val_main_v13
    val_main_v12 val_main_v11 val_main_v10 val_main_cst_1 val_main_v9 val_main_v8 val_main_cst_0
  generalize val_main_v6 (F := Ideal) s w h g = u
  pointwise [Norm.hat, Norm.cen, Norm.rst]

end Cert.MixOut

namespace Cert.MixOut

/-- The kernel's frames and the reference's. -/
theorem frame_P : Cert.quiescent_Kernel31 := fun m ρ _ => Cert.Kernel31.Gen.frame m ρ
theorem frame_PI : Cert.quiescent_Kernel31Ideal := fun m ρ _ => Cert.Kernel31Ideal.Gen.frame m ρ
theorem frame_RI : Cert.quiescent_Reference31Ideal := fun m ρ _ =>
  (θ_run Cert.Reference31Ideal.defs _ _).mono
    (fun r h => ⟨fun c => (h c).2.2.2, sem_eq_zero_of_no_sems (by decide) r.2⟩)
    (Cert.Reference31Ideal.Value.run (F := Ideal) m ρ)

set_option maxHeartbeats 1600000 in
/-- The kernel and the reference compute the same three functions of the arguments. -/
theorem algebraic : Cert.algebraic_Kernel31Ideal_Reference31Ideal := by
  intro m ρ m' ρ' _ hagree
  refine ⟨fun c => (Cert.Kernel31Ideal.Gen.dats m 0 c).arrAt 6 Cert.Kernel31Ideal.cfg0.N, fun c => (Cert.Kernel31Ideal.Gen.dats m 0 c).arrAt 7 Cert.Kernel31Ideal.cfg0.N, fun c => (Cert.Kernel31Ideal.Gen.dats m 0 c).arrAt 8 Cert.Kernel31Ideal.cfg0.N, Cert.Kernel31Ideal.Value.run_blocks m ρ, θ_run_mono (Cert.Reference31Ideal.Value.run (F := Ideal) m' ρ') fun r h c => ?_⟩
  obtain ⟨h0, h1, h2, h3, h4, h5⟩ := hagree c
  refine ⟨(h c).1.trans ((Cert.Reference31Ideal.Read.val_main_v7_eq (F := Ideal) _ _).trans ?_), (h c).2.1.trans ((Cert.Reference31Ideal.Read.val_main_v6_eq (F := Ideal) _ _ _ _).trans ?_), (h c).2.2.1.trans ((Cert.Reference31Ideal.Read.val_main_v29_eq (F := Ideal) m' c).trans ?_), (h c).2.2.2⟩
  · rw [h0, h1]; exact (ref_7 _ _).trans (final_6 m c).symm
  · rw [h0, h1, h2, h3]; exact (ref_6 _ _ _ _).trans (final_7 m c).symm
  · rw [h0, h1, h2, h3, h4, h5]; exact (ref_29 _ _ _ _ _ _).trans (final_8 m c).symm

end Cert.MixOut

end
-- ==== Proof.MixInGrad.lean ====
/-
  The gradient of the mixing part's first weights (`matmul_tn` with a modulation): the product over the rows of the columns'
  gradient, in the kernels' order, and the modulated input.
-/
module

public import proofs.«01_k».proof.Defs
public import proofs.«01_k».proof.Proof.Logistic
public import proofs.«01_k».proof.Proof.Gen.Kernel32.Frame
public import proofs.«01_k».proof.Proof.Gen.Kernel32Ideal.Value
public import proofs.«01_k».proof.Proof.Gen.Reference32Ideal.Run
public import proofs.«01_k».proof.Proof.Gen.Reference32Ideal.Read
public import Idealize.ShloMosaic.Lib.Quiescent
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.MixInGrad

open Cert.Kernel32Ideal Cert.Kernel32Ideal.Gen

/-- The columns' gradient in the kernels' order: the gates before the decays, and zeros last. -/
def col (u : FVec Ideal S4096x10256 .f32) (r : Fin 4096) (q : Fin 10368) : EReal :=
  if h1 : q.val < 6144 then u (ix2 r ⟨q.val, by omega⟩)
  else if h2 : q.val < 10240 then u (ix2 r ⟨q.val + 16, by omega⟩)
  else if h3 : q.val < 10256 then u (ix2 r ⟨q.val - 4096, by omega⟩)
  else 0
/-- The product over the rows. -/
def G (h : FVec Ideal S4096x2048 .f32) (sh sc : FVec Ideal S1x2048 .f32) (u : FVec Ideal S4096x10256 .f32) : FVec Ideal S10368x2048 .bf16 := fun i =>
  ∑ r : Fin 4096, col u r (i 0) * (h (ix2 r (i 1)) * (1 + sc (ix2 0 (i 1))) + sh (ix2 0 (i 1)))

/-- The product of two blocks over their rows. -/
def dot (b0 : Vec Ideal S1024x1152 .bf16) (b1 b2 : Vec Ideal S1x2048 .f32) (b3 : Vec Ideal S1024x2048 .f32) (x : S1152x2048.Idx) : EReal :=
  ∑ r : Fin 1024, b0 (ix2 r (x 0)) * (b3 (ix2 r (x 1)) * (1 + b2 (ix2 0 (x 1))) + b1 (ix2 0 (x 1)))

theorem pay1_at (x : S1152x2048.Idx) : k0_pay1 (F := Ideal) x = 0 := by
  rw [eq_ix2 x]; pointwise [k0_pay1]
theorem pay2_at (b0 : Vec Ideal S1024x1152 .bf16) (b1 b2 : Vec Ideal S1x2048 .f32) (b3 : Vec Ideal S1024x2048 .f32) (a : Vec Ideal S1152x2048 .f32)
    (x : S1152x2048.Idx) : k0_pay2 b0 b3 b1 b2 a x = a x + dot b0 b1 b2 b3 x := by
  rw [eq_ix2 x]; pointwise [k0_pay2, dot]
theorem pay3_at (a : Vec Ideal S1152x2048 .f32) (x : S1152x2048.Idx) : k0_pay3 a x = a x := by
  rw [eq_ix2 x]; pointwise [k0_pay3]

variable (m : (ℓ : Loc nD τ sig) → Buf (Elt Ideal) ℓ) (c : Dev nD)

/-- The kernel's layout of the columns' gradient. -/
def layd (u : FVec Ideal S4096x10256 .f32) : FVec Ideal S4096x10368 .bf16 :=
  truncf .bf16 (concatenate S4096x10368 1 [⟨S4096x6144, extractStridedSlice S4096x6144 ![0, 0] u slices_S4096x10256_S4096x6144_0_0⟩,
    ⟨S4096x4096, extractStridedSlice S4096x4096 ![0, 6160] u slices_S4096x10256_S4096x4096_0_6160⟩,
    ⟨S4096x16, extractStridedSlice S4096x16 ![0, 6144] u slices_S4096x10256_S4096x16_0_6144⟩,
    ⟨S4096x112, broadcastInDim S4096x112 ![] bcast_S_S4096x112 (constant S_ .f32 0x00000000#32)⟩]
    concatenates_S4096x6144_S4096x4096_S4096x16_S4096x112_S4096x10368_d1) bitsLt_bf16_f32
theorem V_v5 : (V m c main_v5 : FVec Ideal S4096x10368 .bf16) = layd (m ((c : Thread nD τ).loc main_arg3)) := (rfl)
theorem layd_at (u : FVec Ideal S4096x10256 .f32) (r : Fin 4096) (q : Fin 10368) : layd u (ix2 r q) = col u r q := by
  unfold layd col
  by_cases h1 : q.val < 6144
  · rw [dif_pos h1]
    pointwise []
    rw [dif_pos h1]
  · by_cases h2 : q.val < 10240
    · rw [dif_neg h1, dif_pos h2]
      pointwise []
      rw [dif_neg h1, dif_pos (by omega)]
      exact congrArg u (congrArg (ix2 r) (Fin.ext (by simp; omega)))
    · by_cases h3 : q.val < 10256
      · rw [dif_neg h1, dif_neg h2, dif_pos h3]
        pointwise []
        rw [dif_neg (by omega), dif_neg (by omega), dif_pos (by omega)]
        exact congrArg u (congrArg (ix2 r) (Fin.ext (by simp; omega)))
      · rw [dif_neg h1, dif_neg h2, dif_neg h3]
        pointwise []
        rw [dif_neg (by omega), dif_neg (by omega), dif_neg (by omega)]

/-- Where each window's block of a point lies. -/
theorem idx : ∀ t : Fin cfg0.N, win0_0.index t = ![t.val % 4, t.val / 4] ∧ win0_1.index t = ![0, 0] ∧ win0_2.index t = ![0, 0]
    ∧ win0_3.index t = ![t.val % 4, 0] ∧ win0_4.index t = ![t.val / 4, 0] :=
  (by decide +kernel : ∀ t : Fin grid0.N, _)

theorem blk_0 (t : Fin cfg0.N) (r : Fin 1024) (l : Fin 1152) (R : Fin 4096) (Q : Fin 10368) (hR : R.val = t.val % 4 * 1024 + r.val)
    (hQ : Q.val = t.val / 4 * 1152 + l.val) :
    (iblk m c 0 t : Vec Ideal S1024x1152 .bf16) (ix2 r l) = col (m ((c : Thread nD τ).loc main_arg3)) R Q := by
  refine Eq.trans ?_ ((congrFun (V_v5 m c) (ix2 R Q)).trans (layd_at _ _ _))
  refine congrArg (V m c main_v5 : FVec Ideal S4096x10368 .bf16) (funext fun d => Fin.ext ?_)
  fin_cases d <;> blk_simp [idx t] <;> simp [ix2] <;> omega
theorem blk_1 (t : Fin cfg0.N) (k K : Fin 2048) (hk : k.val = K.val) :
    (iblk m c 1 t : Vec Ideal S1x2048 .f32) (ix2 0 k) = ((m ((c : Thread nD τ).loc main_arg1)) : FVec Ideal S1x2048 .f32) (ix2 0 K) := by
  refine congrArg (m ((c : Thread nD τ).loc main_arg1) : FVec Ideal S1x2048 .f32) (funext fun d => Fin.ext ?_)
  fin_cases d <;> blk_simp [idx t] <;> simp [ix2] <;> omega
theorem blk_2 (t : Fin cfg0.N) (k K : Fin 2048) (hk : k.val = K.val) :
    (iblk m c 2 t : Vec Ideal S1x2048 .f32) (ix2 0 k) = ((m ((c : Thread nD τ).loc main_arg2)) : FVec Ideal S1x2048 .f32) (ix2 0 K) := by
  refine congrArg (m ((c : Thread nD τ).loc main_arg2) : FVec Ideal S1x2048 .f32) (funext fun d => Fin.ext ?_)
  fin_cases d <;> blk_simp [idx t] <;> simp [ix2] <;> omega
theorem blk_3 (t : Fin cfg0.N) (r : Fin 1024) (k K : Fin 2048) (R : Fin 4096) (hR : R.val = t.val % 4 * 1024 + r.val) (hk : k.val = K.val) :
    (iblk m c 3 t : Vec Ideal S1024x2048 .f32) (ix2 r k) = ((m ((c : Thread nD τ).loc main_arg0)) : FVec Ideal S4096x2048 .f32) (ix2 R K) := by
  refine congrArg (m ((c : Thread nD τ).loc main_arg0) : FVec Ideal S4096x2048 .f32) (funext fun d => Fin.ext ?_)
  fin_cases d <;> blk_simp [idx t] <;> simp [ix2] <;> omega

/-- A point's share of the sum. -/
def term (t : Fin cfg0.N) (y : S1152x2048.Idx) : EReal := dot (iblk m c 0 t) (iblk m c 1 t) (iblk m c 2 t) (iblk m c 3 t) y

/-- The last point of a run writes its accumulator. -/
theorem last (t : Fin cfg0.N) (h3 : t.val % 4 = 3) (x : S1152x2048.Idx) :
    (outsAt0 m c t.val t.isLt).1 x = (outsAt0 m c t.val t.isLt).2 x := by
  rw [outsAt0_C m c t (by omega) h3]
  frame_out
  exact pay3_at _ _

/-- The kernel's result array after the run. -/
theorem final : (dats m 0 c).arrAt 4 cfg0.N = G (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf x => ?_
  have ht : t.val < 36 := t.isLt
  have h3 := (flush0_4 t).mp hf
  blk_simp
  rw [after0_4, last m c t h3, Pipeline.eq_sum_fin_of_reset_step_apply_of_flush (fun n h => (outsAt0 m c n h).2) 4 (fun _ => 0)
      (term m c)
      (fun t h j => by rw [outsAt0_A m c t h (by omega)]; frame_out; rw [pay2_at, pay1_at]; rfl)
      (fun t h j => by
        by_cases h1 : t.val % 4 = 3
        · rw [outsAt0_C m c t h h1]; frame_out; rw [pay2_at]; exact congrArg (· + _) (congrFun (Memref.IsWhole.read_unread _ _) j)
        · rw [outsAt0_B m c t h h1]; frame_out; rw [pay2_at]; exact congrArg (· + _) (congrFun (Memref.IsWhole.read_unread _ _) j)) t h3 _, zero_add]
  refine Fin.sum_mul_add_congr fun s k hl => congrArg₂ (fun p q : EReal => p * q) (blk_0 m c _ _ _ ⟨_, hl⟩ _ ?_ ?_)
    (congrArg₂ (fun p q : EReal => p + q) (congrArg₂ (fun p q : EReal => p * (1 + q)) (blk_3 m c _ _ _ _ ⟨_, hl⟩ ?_ ?_) (blk_2 m c _ _ _ ?_)) (blk_1 m c _ _ _ ?_))
  · simp; omega
  · blk_simp [idx t]; simp [ix2]; omega
  · simp; omega
  · blk_simp [idx t]
  · blk_simp [idx t]
  · blk_simp [idx t]

end Cert.MixInGrad

namespace Cert.MixInGrad

open Cert.Reference32Ideal Cert.Reference32Ideal.Gen Cert.Reference32Ideal.Read

variable (h : FVec Ideal S4096x2048 .f32) (sh sc : FVec Ideal S1x2048 .f32) (u : FVec Ideal S4096x10256 .f32)

/-- The modulated input. -/
theorem r6 (r : Fin 4096) (k : Fin 2048) :
    val_main_v6 (F := Ideal) h sh sc (ix2 r k) = h (ix2 r k) * (1 + sc (ix2 0 k)) + sh (ix2 0 k) := by
  pointwise [val_main_v6, val_main_v5, val_main_v4, val_main_v3, val_main_v2, val_main_v1, val_main_cst_0]
theorem r11 (q : Fin 10256) (k : Fin 2048) : val_main_v11 (F := Ideal) h sh sc u (ix2 q k)
    = ∑ r : Fin 4096, u (ix2 r q) * (h (ix2 r k) * (1 + sc (ix2 0 k)) + sh (ix2 0 k)) := by
  pointwise [val_main_v11, val_main_v10, val_main_v9, val_main_v8, r6]

/-- The reference's array is the kernel's. -/
theorem ref_eq : val_main_v16 (F := Ideal) h sh sc u = G h sh sc u := by
  funext j
  obtain ⟨q, k, rfl⟩ : ∃ (q : Fin 10368) (k : Fin 2048), j = ix2 q k := ⟨j 0, j 1, eq_ix2 j⟩
  have e : ∀ {x : EReal} (p : Fin 10256), (x = val_main_v11 (F := Ideal) h sh sc u (ix2 p k)) → (∀ r, col u r q = u (ix2 r p)) → x = G h sh sc u (ix2 q k) :=
    fun p hx hc => (hx.trans (r11 h sh sc u p k)).trans (Finset.sum_congr rfl fun r _ => congrArg (fun z : EReal => z * _) (hc r).symm)
  by_cases h1 : q.val < 6144
  · refine e ⟨q.val, by omega⟩ ?_ fun r => dif_pos h1
    unfold val_main_v16 val_main_v15 val_main_v14 val_main_v13 val_main_v12
    generalize val_main_v11 (F := Ideal) h sh sc u = y
    pointwise []
    rw [dif_pos h1]
  · by_cases h2 : q.val < 10240
    · refine e ⟨q.val + 16, by omega⟩ ?_ fun r => (dif_neg h1).trans (dif_pos h2)
      unfold val_main_v16 val_main_v15 val_main_v14 val_main_v13 val_main_v12
      generalize val_main_v11 (F := Ideal) h sh sc u = y
      pointwise []
      rw [dif_neg h1, dif_pos (by omega)]
      exact congrArg y (congrArg (ix2 · k) (Fin.ext (by simp; omega)))
    · by_cases h3 : q.val < 10256
      · refine e ⟨q.val - 4096, by omega⟩ ?_ fun r => (dif_neg h1).trans ((dif_neg h2).trans (dif_pos h3))
        unfold val_main_v16 val_main_v15 val_main_v14 val_main_v13 val_main_v12
        generalize val_main_v11 (F := Ideal) h sh sc u = y
        pointwise []
        rw [dif_neg (by omega), dif_neg (by omega), dif_pos (by omega)]
        exact congrArg y (congrArg (ix2 · k) (Fin.ext (by simp; omega)))
      · refine Eq.trans (b := (0 : EReal)) ?_ (Finset.sum_eq_zero fun r _ =>
          (congrArg (fun z : EReal => z * _) ((dif_neg h1).trans ((dif_neg h2).trans (dif_neg h3)))).trans (zero_mul _)).symm
        unfold val_main_v16 val_main_v15 val_main_cst_1 val_main_v14 val_main_v13 val_main_v12
        generalize val_main_v11 (F := Ideal) h sh sc u = y
        pointwise []
        rw [dif_neg (by omega), dif_neg (by omega), dif_neg (by omega)]

end Cert.MixInGrad

namespace Cert.MixInGrad

/-- The kernel's frames and the reference's. -/
theorem frame_P : Cert.quiescent_Kernel32 := fun m ρ _ => Cert.Kernel32.Gen.frame m ρ
theorem frame_PI : Cert.quiescent_Kernel32Ideal := fun m ρ _ => Cert.Kernel32Ideal.Gen.frame m ρ
theorem frame_RI : Cert.quiescent_Reference32Ideal := fun m ρ _ =>
  (θ_run Cert.Reference32Ideal.defs _ _).mono
    (fun r h => ⟨fun c => (h c).2, sem_eq_zero_of_no_sems (by decide) r.2⟩)
    (Cert.Reference32Ideal.Value.run (F := Ideal) m ρ)

set_option maxHeartbeats 1600000 in
/-- The kernel and the reference compute one function of the arguments. -/
theorem algebraic : Cert.algebraic_Kernel32Ideal_Reference32Ideal := by
  intro m ρ m' ρ' _ hagree
  refine ⟨fun c => (Cert.Kernel32Ideal.Gen.dats m 0 c).arrAt 4 Cert.Kernel32Ideal.cfg0.N, Cert.Kernel32Ideal.Value.run_blocks m ρ, θ_run_mono (Cert.Reference32Ideal.Value.run (F := Ideal) m' ρ') fun r h c => ?_⟩
  obtain ⟨h0, h1, h2, h3⟩ := hagree c
  refine ⟨(h c).1.trans ((Cert.Reference32Ideal.Read.val_main_v16_eq (F := Ideal) _ _ _ _).trans ?_), (h c).2⟩
  · rw [h0, h1, h2, h3]; exact (ref_eq _ _ _ _).trans (final m c).symm

end Cert.MixInGrad

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Reference27Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Reference28Ideal.Read
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Reference29Ideal.Read
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Reference30Ideal.Read
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Reference31Ideal.Read
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Gen.Reference32Ideal.Read
public import proofs.«01_k».proof.Proof.Gen.Pre_act_finite
public import proofs.«01_k».proof.Proof.Gen.Pre_att1_finite
public import proofs.«01_k».proof.Proof.Gen.Pre_afw_finite
public import proofs.«01_k».proof.Proof.Gen.Pre_ln_finite
public import proofs.«01_k».proof.Proof.Gen.Pre_lnhead_finite
public import proofs.«01_k».proof.Proof.Act
public import proofs.«01_k».proof.Proof.Attn.Claim
public import proofs.«01_k».proof.Proof.Attn.FwdClaim
public import proofs.«01_k».proof.Proof.Gate
public import proofs.«01_k».proof.Proof.Merge
public import proofs.«01_k».proof.Proof.Ln
public import proofs.«01_k».proof.Proof.LnHead
public import proofs.«01_k».proof.Proof.Ada
public import proofs.«01_k».proof.Proof.AdaCols
public import proofs.«01_k».proof.Proof.FfnIn
public import proofs.«01_k».proof.Proof.MixIn
public import proofs.«01_k».proof.Proof.OutLn
public import proofs.«01_k».proof.Proof.ProjMerge
public import proofs.«01_k».proof.Proof.BlockGrad
public import proofs.«01_k».proof.Proof.Adam
public import proofs.«01_k».proof.Proof.ModGrad
public import proofs.«01_k».proof.Proof.MatTn
public import proofs.«01_k».proof.Proof.InputGrad
public import proofs.«01_k».proof.Proof.MixGrad
public import proofs.«01_k».proof.Proof.MixGradA
public import proofs.«01_k».proof.Proof.MixGradB
public import proofs.«01_k».proof.Proof.HalfGrad
public import proofs.«01_k».proof.Proof.MixOutGrad
public import proofs.«01_k».proof.Proof.ProjGrad
public import proofs.«01_k».proof.Proof.MixOut
public import proofs.«01_k».proof.Proof.MixInGrad
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel9.Gen.facts, Cert.Kernel9Ideal.Gen.facts, Cert.Reference9Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Pre_act_finite.Gen.facts, Cert.Pre_att1_finite.Gen.facts, Cert.Pre_afw_finite.Gen.facts, Cert.Pre_ln_finite.Gen.facts, Cert.Pre_lnhead_finite.Gen.facts,
  Act.frame_P, Act.frame_PI, Act.frame_PI', Act.frame_RI, Act.frame_RI',
  Attn.frame_P, Attn.frame_PI, Attn.frame_PI', Attn.frame_RI, Attn.frame_RI',
  AttnFwd.frame_P, AttnFwd.frame_PI, AttnFwd.frame_PI', AttnFwd.frame_RI, AttnFwd.frame_RI',
  Gate.frame_P, Gate.frame_PI, Gate.frame_RI,
  Merge.frame_P, Merge.frame_PI, Merge.frame_RI,
  Ln.frame_P, Ln.frame_PI, Ln.frame_PI', Ln.frame_RI, Ln.frame_RI',
  LnHead.frame_P, LnHead.frame_PI, LnHead.frame_PI', LnHead.frame_RI, LnHead.frame_RI',
  Ada.frame_P, Ada.frame_PI, Ada.frame_RI,
  AdaCols.frame_P, AdaCols.frame_PI, AdaCols.frame_RI,
  FfnIn.frame_P, FfnIn.frame_PI, FfnIn.frame_RI,
  MixIn.frame_P, MixIn.frame_PI, MixIn.frame_RI,
  OutLn.frame_P, OutLn.frame_PI, OutLn.frame_RI,
  ProjMerge.frame_P, ProjMerge.frame_PI, ProjMerge.frame_RI,
  BlockGrad.frame_P, BlockGrad.frame_PI, BlockGrad.frame_RI,
  Adam.frame_P, Adam.frame_PI, Adam.frame_RI,
  ModGrad.frame_P, ModGrad.frame_PI, ModGrad.frame_RI,
  MatTn.frame_P, MatTn.frame_PI, MatTn.frame_RI,
  InputGrad.frame_P, InputGrad.frame_PI, InputGrad.frame_RI,
  MixGrad.frame_P, MixGrad.frame_PI, MixGrad.frame_RI,
  MixGradA.frame_P, MixGradA.frame_PI, MixGradA.frame_RI,
  MixGradB.frame_P, MixGradB.frame_PI, MixGradB.frame_RI,
  HalfGrad.frame_P, HalfGrad.frame_PI, HalfGrad.frame_RI,
  MixOutGrad.frame_P, MixOutGrad.frame_PI, MixOutGrad.frame_RI,
  ProjGrad.frame_P, ProjGrad.frame_PI, ProjGrad.frame_RI,
  MixOut.frame_P, MixOut.frame_PI, MixOut.frame_RI,
  MixInGrad.frame_P, MixInGrad.frame_PI, MixInGrad.frame_RI,
  trivial, Act.algebraic,
  Attn.preserves, Attn.algebraic,
  AttnFwd.preserves, AttnFwd.algebraic,
  trivial, Gate.algebraic,
  trivial, Merge.algebraic,
  trivial, Ln.algebraic,
  trivial, LnHead.algebraic,
  trivial, Ada.algebraic,
  trivial, AdaCols.algebraic,
  trivial, FfnIn.algebraic,
  trivial, MixIn.algebraic,
  trivial, OutLn.algebraic,
  trivial, ProjMerge.algebraic,
  trivial, BlockGrad.algebraic,
  trivial, Adam.algebraic,
  trivial, ModGrad.algebraic,
  trivial, MatTn.algebraic,
  trivial, InputGrad.algebraic,
  trivial, MixGrad.algebraic,
  trivial, MixGradA.algebraic,
  trivial, MixGradB.algebraic,
  trivial, HalfGrad.algebraic,
  trivial, MixOutGrad.algebraic,
  trivial, ProjGrad.algebraic,
  trivial, MixOut.algebraic,
  trivial, MixInGrad.algebraic⟩

end Cert.Proof

end
